-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_gains [hPre_finite_gains : Cert.Pre_finite_gains.Facts] (m : (ℓ : Loc Cert.CrossIdeal.nD Cert.CrossIdeal.τ Cert.CrossIdeal.sig) → Buf (Elt Ideal) ℓ) : Prop :=
  ∀ c : Dev Cert.CrossIdeal.nD,
    (Cert.Pre_finite_gains.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_gains [hPre_finite_gains : Cert.Pre_finite_gains.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_gains.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_QkvBwdRefIdeal (m : (ℓ : Loc Cert.QkvBwdRefIdeal.nD Cert.QkvBwdRefIdeal.τ Cert.QkvBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7)
      ∧ r.2.mem ((c.tc : Thread Cert.Cross.nD Cert.Cross.τ).loc Cert.Cross.main_arg8) = m ((c.tc : Thread Cert.Cross.nD Cert.Cross.τ).loc Cert.Cross.main_arg8)
      ∧ r.2.mem ((c.tc : Thread Cert.Cross.nD Cert.Cross.τ).loc Cert.Cross.main_arg9) = m ((c.tc : Thread Cert.Cross.nD Cert.Cross.τ).loc Cert.Cross.main_arg9))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ r.2.sem = fun _ => 0)

def quiescent_CrossIdeal_pre_finite_gains [hCrossIdeal : Cert.CrossIdeal.Facts] [hPre_finite_gains : Cert.Pre_finite_gains.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_gains m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9))
      ∧ r.2.sem = fun _ => 0)

def quiescent_CrossRefIdeal_pre_finite_gains [hCrossRefIdeal : Cert.CrossRefIdeal.Facts] [hPre_finite_gains : Cert.Pre_finite_gains.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_gains m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2)
      ∧ r.2.mem ((c.tc : Thread Cert.QkvBwd.nD Cert.QkvBwd.τ).loc Cert.QkvBwd.main_arg3) = m ((c.tc : Thread Cert.QkvBwd.nD Cert.QkvBwd.τ).loc Cert.QkvBwd.main_arg3)
      ∧ r.2.mem ((c.tc : Thread Cert.QkvBwd.nD Cert.QkvBwd.τ).loc Cert.QkvBwd.main_arg4) = m ((c.tc : Thread Cert.QkvBwd.nD Cert.QkvBwd.τ).loc Cert.QkvBwd.main_arg4)
      ∧ r.2.mem ((c.tc : Thread Cert.QkvBwd.nD Cert.QkvBwd.τ).loc Cert.QkvBwd.main_arg5) = m ((c.tc : Thread Cert.QkvBwd.nD Cert.QkvBwd.τ).loc Cert.QkvBwd.main_arg5)
      ∧ r.2.mem ((c.tc : Thread Cert.QkvBwd.nD Cert.QkvBwd.τ).loc Cert.QkvBwd.main_arg6) = m ((c.tc : Thread Cert.QkvBwd.nD Cert.QkvBwd.τ).loc Cert.QkvBwd.main_arg6)
      ∧ r.2.mem ((c.tc : Thread Cert.QkvBwd.nD Cert.QkvBwd.τ).loc Cert.QkvBwd.main_arg7) = m ((c.tc : Thread Cert.QkvBwd.nD Cert.QkvBwd.τ).loc Cert.QkvBwd.main_arg7)
      ∧ r.2.mem ((c.tc : Thread Cert.QkvBwd.nD Cert.QkvBwd.τ).loc Cert.QkvBwd.main_arg8) = m ((c.tc : Thread Cert.QkvBwd.nD Cert.QkvBwd.τ).loc Cert.QkvBwd.main_arg8)
      ∧ r.2.mem ((c.tc : Thread Cert.QkvBwd.nD Cert.QkvBwd.τ).loc Cert.QkvBwd.main_arg9) = m ((c.tc : Thread Cert.QkvBwd.nD Cert.QkvBwd.τ).loc Cert.QkvBwd.main_arg9)
      ∧ r.2.mem ((c.tc : Thread Cert.QkvBwd.nD Cert.QkvBwd.τ).loc Cert.QkvBwd.main_arg10) = m ((c.tc : Thread Cert.QkvBwd.nD Cert.QkvBwd.τ).loc Cert.QkvBwd.main_arg10)
      ∧ r.2.mem ((c.tc : Thread Cert.QkvBwd.nD Cert.QkvBwd.τ).loc Cert.QkvBwd.main_arg11) = m ((c.tc : Thread Cert.QkvBwd.nD Cert.QkvBwd.τ).loc Cert.QkvBwd.main_arg11)
      ∧ r.2.mem ((c.tc : Thread Cert.QkvBwd.nD Cert.QkvBwd.τ).loc Cert.QkvBwd.main_arg12) = m ((c.tc : Thread Cert.QkvBwd.nD Cert.QkvBwd.τ).loc Cert.QkvBwd.main_arg12)
      ∧ r.2.mem ((c.tc : Thread Cert.QkvBwd.nD Cert.QkvBwd.τ).loc Cert.QkvBwd.main_arg13) = m ((c.tc : Thread Cert.QkvBwd.nD Cert.QkvBwd.τ).loc Cert.QkvBwd.main_arg13))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
      ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
      ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
      ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
      ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9)
      ∧ r.2.mem ((c.tc : Thread Cert.QkvBwdIdeal.nD Cert.QkvBwdIdeal.τ).loc Cert.QkvBwdIdeal.main_arg10) = m ((c.tc : Thread Cert.QkvBwdIdeal.nD Cert.QkvBwdIdeal.τ).loc Cert.QkvBwdIdeal.main_arg10)
      ∧ r.2.mem ((c.tc : Thread Cert.QkvBwdIdeal.nD Cert.QkvBwdIdeal.τ).loc Cert.QkvBwdIdeal.main_arg11) = m ((c.tc : Thread Cert.QkvBwdIdeal.nD Cert.QkvBwdIdeal.τ).loc Cert.QkvBwdIdeal.main_arg11)
      ∧ r.2.mem ((c.tc : Thread Cert.QkvBwdIdeal.nD Cert.QkvBwdIdeal.τ).loc Cert.QkvBwdIdeal.main_arg12) = m ((c.tc : Thread Cert.QkvBwdIdeal.nD Cert.QkvBwdIdeal.τ).loc Cert.QkvBwdIdeal.main_arg12)
      ∧ r.2.mem ((c.tc : Thread Cert.QkvBwdIdeal.nD Cert.QkvBwdIdeal.τ).loc Cert.QkvBwdIdeal.main_arg13) = m ((c.tc : Thread Cert.QkvBwdIdeal.nD Cert.QkvBwdIdeal.τ).loc Cert.QkvBwdIdeal.main_arg13))
      ∧ r.2.sem = fun _ => 0)

def quiescent_QkvBwdRefIdeal [hQkvBwdRefIdeal : Cert.QkvBwdRefIdeal.Facts] : Prop :=
  ∀ (m : (ℓ : Loc Cert.QkvBwdRefIdeal.nD Cert.QkvBwdRefIdeal.τ Cert.QkvBwdRefIdeal.sig) → Buf (Elt Ideal) ℓ) (g : Dev Cert.QkvBwdRefIdeal.nD → PrngReg), Pre_QkvBwdRefIdeal m →
    θ_run (Cert.QkvBwdRefIdeal.defs (F := Ideal)) (onTc (τ := Cert.QkvBwdRefIdeal.τ) (Cert.QkvBwdRefIdeal.main (F := Ideal))) ⟨m, fun _ => 0, g⟩ (fun r => (∀ c : Dev Cert.QkvBwdRefIdeal.nD,
      r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
      ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
      ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2)
      ∧ r.2.mem ((c.tc : Thread Cert.QkvBwdRefIdeal.nD Cert.QkvBwdRefIdeal.τ).loc Cert.QkvBwdRefIdeal.main_arg3) = m ((c.tc : Thread Cert.QkvBwdRefIdeal.nD Cert.QkvBwdRefIdeal.τ).loc Cert.QkvBwdRefIdeal.main_arg3)
      ∧ r.2.mem ((c.tc : Thread Cert.QkvBwdRefIdeal.nD Cert.QkvBwdRefIdeal.τ).loc Cert.QkvBwdRefIdeal.main_arg4) = m ((c.tc : Thread Cert.QkvBwdRefIdeal.nD Cert.QkvBwdRefIdeal.τ).loc Cert.QkvBwdRefIdeal.main_arg4)
      ∧ r.2.mem ((c.tc : Thread Cert.QkvBwdRefIdeal.nD Cert.QkvBwdRefIdeal.τ).loc Cert.QkvBwdRefIdeal.main_arg5) = m ((c.tc : Thread Cert.QkvBwdRefIdeal.nD Cert.QkvBwdRefIdeal.τ).loc Cert.QkvBwdRefIdeal.main_arg5)
      ∧ r.2.mem ((c.tc : Thread Cert.QkvBwdRefIdeal.nD Cert.QkvBwdRefIdeal.τ).loc Cert.QkvBwdRefIdeal.main_arg6) = m ((c.tc : Thread Cert.QkvBwdRefIdeal.nD Cert.QkvBwdRefIdeal.τ).loc Cert.QkvBwdRefIdeal.main_arg6)
      ∧ r.2.mem ((c.tc : Thread Cert.QkvBwdRefIdeal.nD Cert.QkvBwdRefIdeal.τ).loc Cert.QkvBwdRefIdeal.main_arg7) = m ((c.tc : Thread Cert.QkvBwdRefIdeal.nD Cert.QkvBwdRefIdeal.τ).loc Cert.QkvBwdRefIdeal.main_arg7)
      ∧ r.2.mem ((c.tc : Thread Cert.QkvBwdRefIdeal.nD Cert.QkvBwdRefIdeal.τ).loc Cert.QkvBwdRefIdeal.main_arg8) = m ((c.tc : Thread Cert.QkvBwdRefIdeal.nD Cert.QkvBwdRefIdeal.τ).loc Cert.QkvBwdRefIdeal.main_arg8)
      ∧ r.2.mem ((c.tc : Thread Cert.QkvBwdRefIdeal.nD Cert.QkvBwdRefIdeal.τ).loc Cert.QkvBwdRefIdeal.main_arg9) = m ((c.tc : Thread Cert.QkvBwdRefIdeal.nD Cert.QkvBwdRefIdeal.τ).loc Cert.QkvBwdRefIdeal.main_arg9)
      ∧ r.2.mem ((c.tc : Thread Cert.QkvBwdRefIdeal.nD Cert.QkvBwdRefIdeal.τ).loc Cert.QkvBwdRefIdeal.main_arg10) = m ((c.tc : Thread Cert.QkvBwdRefIdeal.nD Cert.QkvBwdRefIdeal.τ).loc Cert.QkvBwdRefIdeal.main_arg10)
      ∧ r.2.mem ((c.tc : Thread Cert.QkvBwdRefIdeal.nD Cert.QkvBwdRefIdeal.τ).loc Cert.QkvBwdRefIdeal.main_arg11) = m ((c.tc : Thread Cert.QkvBwdRefIdeal.nD Cert.QkvBwdRefIdeal.τ).loc Cert.QkvBwdRefIdeal.main_arg11)
      ∧ r.2.mem ((c.tc : Thread Cert.QkvBwdRefIdeal.nD Cert.QkvBwdRefIdeal.τ).loc Cert.QkvBwdRefIdeal.main_arg12) = m ((c.tc : Thread Cert.QkvBwdRefIdeal.nD Cert.QkvBwdRefIdeal.τ).loc Cert.QkvBwdRefIdeal.main_arg12)
      ∧ r.2.mem ((c.tc : Thread Cert.QkvBwdRefIdeal.nD Cert.QkvBwdRefIdeal.τ).loc Cert.QkvBwdRefIdeal.main_arg13) = m ((c.tc : Thread Cert.QkvBwdRefIdeal.nD Cert.QkvBwdRefIdeal.τ).loc Cert.QkvBwdRefIdeal.main_arg13))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Attn_AttnIdeal : Prop :=
  True

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v4_0)) (v2 : (c : Dev Cert.InProjIdeal.nD) → Buf (Elt Ideal) ((c.tc : Thread Cert.InProjIdeal.nD Cert.InProjIdeal.τ).loc Cert.InProjIdeal.main_v4_1)) (v3 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v4_0) = v1 c
          ∧ r.2.mem ((c.tc : Thread Cert.InProjIdeal.nD Cert.InProjIdeal.τ).loc Cert.InProjIdeal.main_v4_1) = v2 c
          ∧ r.2.mem ((c.tc : Thread Cert.InProjIdeal.nD Cert.InProjIdeal.τ).loc Cert.InProjIdeal.main_v7) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v39) = v1 c
          ∧ r.2.mem ((c.tc : Thread Cert.InProjRefIdeal.nD Cert.InProjRefIdeal.τ).loc Cert.InProjRefIdeal.main_v22) = v2 c
          ∧ r.2.mem ((c.tc : Thread Cert.InProjRefIdeal.nD Cert.InProjRefIdeal.τ).loc Cert.InProjRefIdeal.main_v18) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_Cross_CrossIdeal : Prop :=
  True

def algebraic_CrossIdeal_CrossRefIdeal_pre_finite_gains [hCrossIdeal : Cert.CrossIdeal.Facts] [hCrossRefIdeal : Cert.CrossRefIdeal.Facts] [hPre_finite_gains : Cert.Pre_finite_gains.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_gains m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)
      ∧ m' ((c.tc : Thread Cert.CrossRefIdeal.nD Cert.CrossRefIdeal.τ).loc Cert.CrossRefIdeal.main_arg8) = m ((c.tc : Thread Cert.CrossIdeal.nD Cert.CrossIdeal.τ).loc Cert.CrossIdeal.main_arg8)
      ∧ m' ((c.tc : Thread Cert.CrossRefIdeal.nD Cert.CrossRefIdeal.τ).loc Cert.CrossRefIdeal.main_arg9) = m ((c.tc : Thread Cert.CrossIdeal.nD Cert.CrossIdeal.τ).loc Cert.CrossIdeal.main_arg9)) →
    ∃ (v0 : (c : Dev Cert.CrossIdeal.nD) → Buf (Elt Ideal) ((c.tc : Thread Cert.CrossIdeal.nD Cert.CrossIdeal.τ).loc Cert.CrossIdeal.main_v8_3)) (v1 : (c : Dev Cert.CrossIdeal.nD) → Buf (Elt Ideal) ((c.tc : Thread Cert.CrossIdeal.nD Cert.CrossIdeal.τ).loc Cert.CrossIdeal.main_v10_4)) (v2 : (c : Dev Cert.CrossIdeal.nD) → Buf (Elt Ideal) ((c.tc : Thread Cert.CrossIdeal.nD Cert.CrossIdeal.τ).loc Cert.CrossIdeal.main_v10_5)) (v3 : (c : Dev Cert.CrossIdeal.nD) → Buf (Elt Ideal) ((c.tc : Thread Cert.CrossIdeal.nD Cert.CrossIdeal.τ).loc Cert.CrossIdeal.main_v13_1)) (v4 : (c : Dev Cert.CrossIdeal.nD) → Buf (Elt Ideal) ((c.tc : Thread Cert.CrossIdeal.nD Cert.CrossIdeal.τ).loc Cert.CrossIdeal.main_v15)) (v5 : (c : Dev Cert.CrossIdeal.nD) → Buf (Elt Ideal) ((c.tc : Thread Cert.CrossIdeal.nD Cert.CrossIdeal.τ).loc Cert.CrossIdeal.main_v16)) (v6 : (c : Dev Cert.CrossIdeal.nD) → Buf (Elt Ideal) ((c.tc : Thread Cert.CrossIdeal.nD Cert.CrossIdeal.τ).loc Cert.CrossIdeal.main_v10_3)) (v7 : (c : Dev Cert.CrossIdeal.nD) → Buf (Elt Ideal) ((c.tc : Thread Cert.CrossIdeal.nD Cert.CrossIdeal.τ).loc Cert.CrossIdeal.main_v11_1)) (v8 : (c : Dev Cert.CrossIdeal.nD) → Buf (Elt Ideal) ((c.tc : Thread Cert.CrossIdeal.nD Cert.CrossIdeal.τ).loc Cert.CrossIdeal.main_v18)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v8_3) = v0 c
          ∧ r.2.mem ((c.tc : Thread Cert.CrossIdeal.nD Cert.CrossIdeal.τ).loc Cert.CrossIdeal.main_v10_4) = v1 c
          ∧ r.2.mem ((c.tc : Thread Cert.CrossIdeal.nD Cert.CrossIdeal.τ).loc Cert.CrossIdeal.main_v10_5) = v2 c
          ∧ r.2.mem ((c.tc : Thread Cert.CrossIdeal.nD Cert.CrossIdeal.τ).loc Cert.CrossIdeal.main_v13_1) = v3 c
          ∧ r.2.mem ((c.tc : Thread Cert.CrossIdeal.nD Cert.CrossIdeal.τ).loc Cert.CrossIdeal.main_v15) = v4 c
          ∧ r.2.mem ((c.tc : Thread Cert.CrossIdeal.nD Cert.CrossIdeal.τ).loc Cert.CrossIdeal.main_v16) = v5 c
          ∧ r.2.mem ((c.tc : Thread Cert.CrossIdeal.nD Cert.CrossIdeal.τ).loc Cert.CrossIdeal.main_v10_3) = v6 c
          ∧ r.2.mem ((c.tc : Thread Cert.CrossIdeal.nD Cert.CrossIdeal.τ).loc Cert.CrossIdeal.main_v11_1) = v7 c
          ∧ r.2.mem ((c.tc : Thread Cert.CrossIdeal.nD Cert.CrossIdeal.τ).loc Cert.CrossIdeal.main_v18) = v8 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
          ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
          ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v107) = v0 c
          ∧ r.2.mem ((c.tc : Thread Cert.CrossRefIdeal.nD Cert.CrossRefIdeal.τ).loc Cert.CrossRefIdeal.main_v231) = v1 c
          ∧ r.2.mem ((c.tc : Thread Cert.CrossRefIdeal.nD Cert.CrossRefIdeal.τ).loc Cert.CrossRefIdeal.main_v214) = v2 c
          ∧ r.2.mem ((c.tc : Thread Cert.CrossRefIdeal.nD Cert.CrossRefIdeal.τ).loc Cert.CrossRefIdeal.main_v194) = v3 c
          ∧ r.2.mem ((c.tc : Thread Cert.CrossRefIdeal.nD Cert.CrossRefIdeal.τ).loc Cert.CrossRefIdeal.main_v189) = v4 c
          ∧ r.2.mem ((c.tc : Thread Cert.CrossRefIdeal.nD Cert.CrossRefIdeal.τ).loc Cert.CrossRefIdeal.main_v185) = v5 c
          ∧ r.2.mem ((c.tc : Thread Cert.CrossRefIdeal.nD Cert.CrossRefIdeal.τ).loc Cert.CrossRefIdeal.main_v165) = v6 c
          ∧ r.2.mem ((c.tc : Thread Cert.CrossRefIdeal.nD Cert.CrossRefIdeal.τ).loc Cert.CrossRefIdeal.main_v141) = v7 c
          ∧ r.2.mem ((c.tc : Thread Cert.CrossRefIdeal.nD Cert.CrossRefIdeal.τ).loc Cert.CrossRefIdeal.main_v111) = v8 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7)
          ∧ r.2.mem ((c.tc : Thread Cert.CrossRefIdeal.nD Cert.CrossRefIdeal.τ).loc Cert.CrossRefIdeal.main_arg8) = m' ((c.tc : Thread Cert.CrossRefIdeal.nD Cert.CrossRefIdeal.τ).loc Cert.CrossRefIdeal.main_arg8)
          ∧ r.2.mem ((c.tc : Thread Cert.CrossRefIdeal.nD Cert.CrossRefIdeal.τ).loc Cert.CrossRefIdeal.main_arg9) = m' ((c.tc : Thread Cert.CrossRefIdeal.nD Cert.CrossRefIdeal.τ).loc Cert.CrossRefIdeal.main_arg9))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v13_0)) (v1 : (c : Dev Cert.OutProjIdeal.nD) → Buf (Elt Ideal) ((c.tc : Thread Cert.OutProjIdeal.nD Cert.OutProjIdeal.τ).loc Cert.OutProjIdeal.main_v13_3)) (v2 : (c : Dev Cert.OutProjIdeal.nD) → Buf (Elt Ideal) ((c.tc : Thread Cert.OutProjIdeal.nD Cert.OutProjIdeal.τ).loc Cert.OutProjIdeal.main_v13_4)) (v3 : (c : Dev Cert.OutProjIdeal.nD) → Buf (Elt Ideal) ((c.tc : Thread Cert.OutProjIdeal.nD Cert.OutProjIdeal.τ).loc Cert.OutProjIdeal.main_v14)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v13_0) = v0 c
          ∧ r.2.mem ((c.tc : Thread Cert.OutProjIdeal.nD Cert.OutProjIdeal.τ).loc Cert.OutProjIdeal.main_v13_3) = v1 c
          ∧ r.2.mem ((c.tc : Thread Cert.OutProjIdeal.nD Cert.OutProjIdeal.τ).loc Cert.OutProjIdeal.main_v13_4) = v2 c
          ∧ r.2.mem ((c.tc : Thread Cert.OutProjIdeal.nD Cert.OutProjIdeal.τ).loc Cert.OutProjIdeal.main_v14) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v13) = v0 c
          ∧ r.2.mem ((c.tc : Thread Cert.OutProjRefIdeal.nD Cert.OutProjRefIdeal.τ).loc Cert.OutProjRefIdeal.main_v25) = v1 c
          ∧ r.2.mem ((c.tc : Thread Cert.OutProjRefIdeal.nD Cert.OutProjRefIdeal.τ).loc Cert.OutProjRefIdeal.main_v17) = v2 c
          ∧ r.2.mem ((c.tc : Thread Cert.OutProjRefIdeal.nD Cert.OutProjRefIdeal.τ).loc Cert.OutProjRefIdeal.main_v11) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_QkvBwd_QkvBwdIdeal : Prop :=
  True

def algebraic_QkvBwdIdeal_QkvBwdRefIdeal [hQkvBwdIdeal : Cert.QkvBwdIdeal.Facts] [hQkvBwdRefIdeal : Cert.QkvBwdRefIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg)
    (m' : (ℓ : Loc Cert.QkvBwdRefIdeal.nD Cert.QkvBwdRefIdeal.τ Cert.QkvBwdRefIdeal.sig) → Buf (Elt Ideal) ℓ) (g' : Dev Cert.QkvBwdRefIdeal.nD → PrngReg), Pre_QkvBwdIdeal m →
    (∀ c : Dev Cert.QkvBwdIdeal.nD,
      m' ((c.tc : Thread Cert.QkvBwdRefIdeal.nD Cert.QkvBwdRefIdeal.τ).loc Cert.QkvBwdRefIdeal.main_arg0) = m ((c.tc : Thread Cert.QkvBwdIdeal.nD Cert.QkvBwdIdeal.τ).loc Cert.QkvBwdIdeal.main_arg0)
      ∧ m' ((c.tc : Thread Cert.QkvBwdRefIdeal.nD Cert.QkvBwdRefIdeal.τ).loc Cert.QkvBwdRefIdeal.main_arg1) = m ((c.tc : Thread Cert.QkvBwdIdeal.nD Cert.QkvBwdIdeal.τ).loc Cert.QkvBwdIdeal.main_arg1)
      ∧ m' ((c.tc : Thread Cert.QkvBwdRefIdeal.nD Cert.QkvBwdRefIdeal.τ).loc Cert.QkvBwdRefIdeal.main_arg2) = m ((c.tc : Thread Cert.QkvBwdIdeal.nD Cert.QkvBwdIdeal.τ).loc Cert.QkvBwdIdeal.main_arg2)
      ∧ m' ((c.tc : Thread Cert.QkvBwdRefIdeal.nD Cert.QkvBwdRefIdeal.τ).loc Cert.QkvBwdRefIdeal.main_arg3) = m ((c.tc : Thread Cert.QkvBwdIdeal.nD Cert.QkvBwdIdeal.τ).loc Cert.QkvBwdIdeal.main_arg3)
      ∧ m' ((c.tc : Thread Cert.QkvBwdRefIdeal.nD Cert.QkvBwdRefIdeal.τ).loc Cert.QkvBwdRefIdeal.main_arg4) = m ((c.tc : Thread Cert.QkvBwdIdeal.nD Cert.QkvBwdIdeal.τ).loc Cert.QkvBwdIdeal.main_arg4)
      ∧ m' ((c.tc : Thread Cert.QkvBwdRefIdeal.nD Cert.QkvBwdRefIdeal.τ).loc Cert.QkvBwdRefIdeal.main_arg5) = m ((c.tc : Thread Cert.QkvBwdIdeal.nD Cert.QkvBwdIdeal.τ).loc Cert.QkvBwdIdeal.main_arg5)
      ∧ m' ((c.tc : Thread Cert.QkvBwdRefIdeal.nD Cert.QkvBwdRefIdeal.τ).loc Cert.QkvBwdRefIdeal.main_arg6) = m ((c.tc : Thread Cert.QkvBwdIdeal.nD Cert.QkvBwdIdeal.τ).loc Cert.QkvBwdIdeal.main_arg6)
      ∧ m' ((c.tc : Thread Cert.QkvBwdRefIdeal.nD Cert.QkvBwdRefIdeal.τ).loc Cert.QkvBwdRefIdeal.main_arg7) = m ((c.tc : Thread Cert.QkvBwdIdeal.nD Cert.QkvBwdIdeal.τ).loc Cert.QkvBwdIdeal.main_arg7)
      ∧ m' ((c.tc : Thread Cert.QkvBwdRefIdeal.nD Cert.QkvBwdRefIdeal.τ).loc Cert.QkvBwdRefIdeal.main_arg8) = m ((c.tc : Thread Cert.QkvBwdIdeal.nD Cert.QkvBwdIdeal.τ).loc Cert.QkvBwdIdeal.main_arg8)
      ∧ m' ((c.tc : Thread Cert.QkvBwdRefIdeal.nD Cert.QkvBwdRefIdeal.τ).loc Cert.QkvBwdRefIdeal.main_arg9) = m ((c.tc : Thread Cert.QkvBwdIdeal.nD Cert.QkvBwdIdeal.τ).loc Cert.QkvBwdIdeal.main_arg9)
      ∧ m' ((c.tc : Thread Cert.QkvBwdRefIdeal.nD Cert.QkvBwdRefIdeal.τ).loc Cert.QkvBwdRefIdeal.main_arg10) = m ((c.tc : Thread Cert.QkvBwdIdeal.nD Cert.QkvBwdIdeal.τ).loc Cert.QkvBwdIdeal.main_arg10)
      ∧ m' ((c.tc : Thread Cert.QkvBwdRefIdeal.nD Cert.QkvBwdRefIdeal.τ).loc Cert.QkvBwdRefIdeal.main_arg11) = m ((c.tc : Thread Cert.QkvBwdIdeal.nD Cert.QkvBwdIdeal.τ).loc Cert.QkvBwdIdeal.main_arg11)
      ∧ m' ((c.tc : Thread Cert.QkvBwdRefIdeal.nD Cert.QkvBwdRefIdeal.τ).loc Cert.QkvBwdRefIdeal.main_arg12) = m ((c.tc : Thread Cert.QkvBwdIdeal.nD Cert.QkvBwdIdeal.τ).loc Cert.QkvBwdIdeal.main_arg12)
      ∧ m' ((c.tc : Thread Cert.QkvBwdRefIdeal.nD Cert.QkvBwdRefIdeal.τ).loc Cert.QkvBwdRefIdeal.main_arg13) = m ((c.tc : Thread Cert.QkvBwdIdeal.nD Cert.QkvBwdIdeal.τ).loc Cert.QkvBwdIdeal.main_arg13)) →
    ∃ (v0 : (c : Dev Cert.QkvBwdIdeal.nD) → Buf (Elt Ideal) ((c.tc : Thread Cert.QkvBwdIdeal.nD Cert.QkvBwdIdeal.τ).loc Cert.QkvBwdIdeal.main_v23_0)) (v1 : (c : Dev Cert.QkvBwdIdeal.nD) → Buf (Elt Ideal) ((c.tc : Thread Cert.QkvBwdIdeal.nD Cert.QkvBwdIdeal.τ).loc Cert.QkvBwdIdeal.main_v23_1)) (v2 : (c : Dev Cert.QkvBwdIdeal.nD) → Buf (Elt Ideal) ((c.tc : Thread Cert.QkvBwdIdeal.nD Cert.QkvBwdIdeal.τ).loc Cert.QkvBwdIdeal.main_v23_2)),
      θ_run (Cert.QkvBwdIdeal.defs (F := Ideal)) (onTc (τ := Cert.QkvBwdIdeal.τ) (Cert.QkvBwdIdeal.main (F := Ideal))) ⟨m, fun _ => 0, g⟩ (fun r => ∀ c : Dev Cert.QkvBwdIdeal.nD,
          r.2.mem ((c.tc : Thread Cert.QkvBwdIdeal.nD Cert.QkvBwdIdeal.τ).loc Cert.QkvBwdIdeal.main_v23_0) = v0 c
          ∧ r.2.mem ((c.tc : Thread Cert.QkvBwdIdeal.nD Cert.QkvBwdIdeal.τ).loc Cert.QkvBwdIdeal.main_v23_1) = v1 c
          ∧ r.2.mem ((c.tc : Thread Cert.QkvBwdIdeal.nD Cert.QkvBwdIdeal.τ).loc Cert.QkvBwdIdeal.main_v23_2) = v2 c
          ∧ r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
          ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
          ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
          ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
          ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
          ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
          ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
          ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
          ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
          ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9)
          ∧ r.2.mem ((c.tc : Thread Cert.QkvBwdIdeal.nD Cert.QkvBwdIdeal.τ).loc Cert.QkvBwdIdeal.main_arg10) = m ((c.tc : Thread Cert.QkvBwdIdeal.nD Cert.QkvBwdIdeal.τ).loc Cert.QkvBwdIdeal.main_arg10)
          ∧ r.2.mem ((c.tc : Thread Cert.QkvBwdIdeal.nD Cert.QkvBwdIdeal.τ).loc Cert.QkvBwdIdeal.main_arg11) = m ((c.tc : Thread Cert.QkvBwdIdeal.nD Cert.QkvBwdIdeal.τ).loc Cert.QkvBwdIdeal.main_arg11)
          ∧ r.2.mem ((c.tc : Thread Cert.QkvBwdIdeal.nD Cert.QkvBwdIdeal.τ).loc Cert.QkvBwdIdeal.main_arg12) = m ((c.tc : Thread Cert.QkvBwdIdeal.nD Cert.QkvBwdIdeal.τ).loc Cert.QkvBwdIdeal.main_arg12)
          ∧ r.2.mem ((c.tc : Thread Cert.QkvBwdIdeal.nD Cert.QkvBwdIdeal.τ).loc Cert.QkvBwdIdeal.main_arg13) = m ((c.tc : Thread Cert.QkvBwdIdeal.nD Cert.QkvBwdIdeal.τ).loc Cert.QkvBwdIdeal.main_arg13))
      ∧ θ_run (Cert.QkvBwdRefIdeal.defs (F := Ideal)) (onTc (τ := Cert.QkvBwdRefIdeal.τ) (Cert.QkvBwdRefIdeal.main (F := Ideal))) ⟨m', fun _ => 0, g'⟩ (fun r => ∀ c : Dev Cert.QkvBwdRefIdeal.nD,
          r.2.mem ((c.tc : Thread Cert.QkvBwdRefIdeal.nD Cert.QkvBwdRefIdeal.τ).loc Cert.QkvBwdRefIdeal.main_v204) = v0 c
          ∧ r.2.mem ((c.tc : Thread Cert.QkvBwdRefIdeal.nD Cert.QkvBwdRefIdeal.τ).loc Cert.QkvBwdRefIdeal.main_v184) = v1 c
          ∧ r.2.mem ((c.tc : Thread Cert.QkvBwdRefIdeal.nD Cert.QkvBwdRefIdeal.τ).loc Cert.QkvBwdRefIdeal.main_v139) = v2 c
          ∧ r.2.mem ((c.tc : Thread Cert.QkvBwdRefIdeal.nD Cert.QkvBwdRefIdeal.τ).loc Cert.QkvBwdRefIdeal.main_arg0) = m' ((c.tc : Thread Cert.QkvBwdRefIdeal.nD Cert.QkvBwdRefIdeal.τ).loc Cert.QkvBwdRefIdeal.main_arg0)
          ∧ r.2.mem ((c.tc : Thread Cert.QkvBwdRefIdeal.nD Cert.QkvBwdRefIdeal.τ).loc Cert.QkvBwdRefIdeal.main_arg1) = m' ((c.tc : Thread Cert.QkvBwdRefIdeal.nD Cert.QkvBwdRefIdeal.τ).loc Cert.QkvBwdRefIdeal.main_arg1)
          ∧ r.2.mem ((c.tc : Thread Cert.QkvBwdRefIdeal.nD Cert.QkvBwdRefIdeal.τ).loc Cert.QkvBwdRefIdeal.main_arg2) = m' ((c.tc : Thread Cert.QkvBwdRefIdeal.nD Cert.QkvBwdRefIdeal.τ).loc Cert.QkvBwdRefIdeal.main_arg2)
          ∧ r.2.mem ((c.tc : Thread Cert.QkvBwdRefIdeal.nD Cert.QkvBwdRefIdeal.τ).loc Cert.QkvBwdRefIdeal.main_arg3) = m' ((c.tc : Thread Cert.QkvBwdRefIdeal.nD Cert.QkvBwdRefIdeal.τ).loc Cert.QkvBwdRefIdeal.main_arg3)
          ∧ r.2.mem ((c.tc : Thread Cert.QkvBwdRefIdeal.nD Cert.QkvBwdRefIdeal.τ).loc Cert.QkvBwdRefIdeal.main_arg4) = m' ((c.tc : Thread Cert.QkvBwdRefIdeal.nD Cert.QkvBwdRefIdeal.τ).loc Cert.QkvBwdRefIdeal.main_arg4)
          ∧ r.2.mem ((c.tc : Thread Cert.QkvBwdRefIdeal.nD Cert.QkvBwdRefIdeal.τ).loc Cert.QkvBwdRefIdeal.main_arg5) = m' ((c.tc : Thread Cert.QkvBwdRefIdeal.nD Cert.QkvBwdRefIdeal.τ).loc Cert.QkvBwdRefIdeal.main_arg5)
          ∧ r.2.mem ((c.tc : Thread Cert.QkvBwdRefIdeal.nD Cert.QkvBwdRefIdeal.τ).loc Cert.QkvBwdRefIdeal.main_arg6) = m' ((c.tc : Thread Cert.QkvBwdRefIdeal.nD Cert.QkvBwdRefIdeal.τ).loc Cert.QkvBwdRefIdeal.main_arg6)
          ∧ r.2.mem ((c.tc : Thread Cert.QkvBwdRefIdeal.nD Cert.QkvBwdRefIdeal.τ).loc Cert.QkvBwdRefIdeal.main_arg7) = m' ((c.tc : Thread Cert.QkvBwdRefIdeal.nD Cert.QkvBwdRefIdeal.τ).loc Cert.QkvBwdRefIdeal.main_arg7)
          ∧ r.2.mem ((c.tc : Thread Cert.QkvBwdRefIdeal.nD Cert.QkvBwdRefIdeal.τ).loc Cert.QkvBwdRefIdeal.main_arg8) = m' ((c.tc : Thread Cert.QkvBwdRefIdeal.nD Cert.QkvBwdRefIdeal.τ).loc Cert.QkvBwdRefIdeal.main_arg8)
          ∧ r.2.mem ((c.tc : Thread Cert.QkvBwdRefIdeal.nD Cert.QkvBwdRefIdeal.τ).loc Cert.QkvBwdRefIdeal.main_arg9) = m' ((c.tc : Thread Cert.QkvBwdRefIdeal.nD Cert.QkvBwdRefIdeal.τ).loc Cert.QkvBwdRefIdeal.main_arg9)
          ∧ r.2.mem ((c.tc : Thread Cert.QkvBwdRefIdeal.nD Cert.QkvBwdRefIdeal.τ).loc Cert.QkvBwdRefIdeal.main_arg10) = m' ((c.tc : Thread Cert.QkvBwdRefIdeal.nD Cert.QkvBwdRefIdeal.τ).loc Cert.QkvBwdRefIdeal.main_arg10)
          ∧ r.2.mem ((c.tc : Thread Cert.QkvBwdRefIdeal.nD Cert.QkvBwdRefIdeal.τ).loc Cert.QkvBwdRefIdeal.main_arg11) = m' ((c.tc : Thread Cert.QkvBwdRefIdeal.nD Cert.QkvBwdRefIdeal.τ).loc Cert.QkvBwdRefIdeal.main_arg11)
          ∧ r.2.mem ((c.tc : Thread Cert.QkvBwdRefIdeal.nD Cert.QkvBwdRefIdeal.τ).loc Cert.QkvBwdRefIdeal.main_arg12) = m' ((c.tc : Thread Cert.QkvBwdRefIdeal.nD Cert.QkvBwdRefIdeal.τ).loc Cert.QkvBwdRefIdeal.main_arg12)
          ∧ r.2.mem ((c.tc : Thread Cert.QkvBwdRefIdeal.nD Cert.QkvBwdRefIdeal.τ).loc Cert.QkvBwdRefIdeal.main_arg13) = m' ((c.tc : Thread Cert.QkvBwdRefIdeal.nD Cert.QkvBwdRefIdeal.τ).loc Cert.QkvBwdRefIdeal.main_arg13))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hInProj : Cert.InProj.Facts) (hInProjIdeal : Cert.InProjIdeal.Facts) (hInProjRefIdeal : Cert.InProjRefIdeal.Facts) (hCross : Cert.Cross.Facts) (hCrossIdeal : Cert.CrossIdeal.Facts) (hCrossRefIdeal : Cert.CrossRefIdeal.Facts) (hOutProj : Cert.OutProj.Facts) (hOutProjIdeal : Cert.OutProjIdeal.Facts) (hOutProjRefIdeal : Cert.OutProjRefIdeal.Facts) (hQkvBwd : Cert.QkvBwd.Facts) (hQkvBwdIdeal : Cert.QkvBwdIdeal.Facts) (hQkvBwdRefIdeal : Cert.QkvBwdRefIdeal.Facts) (hPre_finite_inputs : Cert.Pre_finite_inputs.Facts) (hPre_finite_gains : Cert.Pre_finite_gains.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Attn (hAttn := hAttn)
    ∧ quiescent_AttnIdeal (hAttnIdeal := hAttnIdeal)
    ∧ quiescent_InProj (hInProj := hInProj)
    ∧ quiescent_InProjIdeal (hInProjIdeal := hInProjIdeal)
    ∧ quiescent_InProjRefIdeal (hInProjRefIdeal := hInProjRefIdeal)
    ∧ quiescent_Cross (hCross := hCross)
    ∧ quiescent_CrossIdeal (hCrossIdeal := hCrossIdeal)
    ∧ quiescent_CrossIdeal_pre_finite_gains (hCrossIdeal := hCrossIdeal) (hPre_finite_gains := hPre_finite_gains)
    ∧ quiescent_CrossRefIdeal (hCrossRefIdeal := hCrossRefIdeal)
    ∧ quiescent_CrossRefIdeal_pre_finite_gains (hCrossRefIdeal := hCrossRefIdeal) (hPre_finite_gains := hPre_finite_gains)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QkvBwd (hQkvBwd := hQkvBwd)
    ∧ quiescent_QkvBwdIdeal (hQkvBwdIdeal := hQkvBwdIdeal)
    ∧ quiescent_QkvBwdRefIdeal (hQkvBwdRefIdeal := hQkvBwdRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Attn_AttnIdeal
    ∧ preserves_InProj_InProjIdeal
    ∧ algebraic_InProjIdeal_InProjRefIdeal (hInProjIdeal := hInProjIdeal) (hInProjRefIdeal := hInProjRefIdeal)
    ∧ preserves_Cross_CrossIdeal
    ∧ algebraic_CrossIdeal_CrossRefIdeal_pre_finite_gains (hCrossIdeal := hCrossIdeal) (hCrossRefIdeal := hCrossRefIdeal) (hPre_finite_gains := hPre_finite_gains)
    ∧ preserves_OutProj_OutProjIdeal
    ∧ algebraic_OutProjIdeal_OutProjRefIdeal (hOutProjIdeal := hOutProjIdeal) (hOutProjRefIdeal := hOutProjRefIdeal)
    ∧ preserves_QkvBwd_QkvBwdIdeal
    ∧ algebraic_QkvBwdIdeal_QkvBwdRefIdeal (hQkvBwdIdeal := hQkvBwdIdeal) (hQkvBwdRefIdeal := hQkvBwdRefIdeal)
-- ==== Pre_finite_gains.lean ====
abbrev S8192x1024 : Shape := ⟨2, ![8192, 1024]⟩
abbrev S256x1024 : Shape := ⟨2, ![256, 1024]⟩
abbrev S1x1024 : Shape := ⟨2, ![1, 1024]⟩
abbrev S1024x512 : Shape := ⟨2, ![1024, 512]⟩
abbrev S1024x1024 : Shape := ⟨2, ![1024, 1024]⟩
abbrev S1x128 : Shape := ⟨2, ![1, 128]⟩
abbrev S512x1024 : Shape := ⟨2, ![512, 1024]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel

variable [Facts]

def fn {F : FTy → Type} [FloatOps F] (main_arg0 : FVec F S8192x1024 .f32) (main_arg1 : FVec F S256x1024 .f32) (main_arg2 : FVec F S1x1024 .f32) (main_arg3 : FVec F S1x1024 .f32) (main_arg4 : FVec F S1024x512 .f32) (main_arg5 : FVec F S1024x1024 .f32) (main_arg6 : FVec F S1x128 .f32) (main_arg7 : FVec F S1x128 .f32) (main_arg8 : FVec F S512x1024 .f32) (main_arg9 : FVec F S8192x1024 .f32) : IVec S_ 1 :=
  let main_v0 : FVec F S1x128 .f32 := Host.absf main_arg6
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S1x128 .f32 := Host.absf main_arg7
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  main_v8
-- ==== Pre_finite_inputs.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x5632 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x2816x1024 : Shape := ⟨3, ![1, 2816, 1024]⟩
abbrev S8192x2816 : Shape := ⟨2, ![8192, 2816]⟩
abbrev S2x8192x2816 : Shape := ⟨3, ![2, 8192, 2816]⟩
abbrev S256x1024 : Shape := ⟨2, ![256, 1024]⟩
abbrev S256x2816 : Shape := ⟨2, ![256, 2816]⟩
abbrev S2x256x2816 : Shape := ⟨3, ![2, 256, 2816]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩
abbrev S1x1024x128 : Shape := ⟨3, ![1, 1024, 128]⟩
abbrev S1024x128 : Shape := ⟨2, ![1024, 128]⟩
abbrev S256x128 : Shape := ⟨2, ![256, 128]⟩
abbrev S1x256x128 : Shape := ⟨3, ![1, 256, 128]⟩
abbrev S1024 : Shape := ⟨1, ![1024]⟩
abbrev S_ : Shape := ⟨0, ![]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩
abbrev S256x1408 : Shape := ⟨2, ![256, 1408]⟩
abbrev S1x256x1408 : Shape := ⟨3, ![1, 256, 1408]⟩
abbrev S1x1024x1408 : Shape := ⟨3, ![1, 1024, 1408]⟩

abbrev nBuf : Space → Nat
  | .hbm => 29
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S1x2816x1024, .bf16⟩
  | .hbm, ⟨10, _⟩ => ⟨S8192x2816, .bf16⟩
  | .hbm, ⟨11, _⟩ => ⟨S2x8192x2816, .bf16⟩
  | .hbm, ⟨12, _⟩ => ⟨S8192x1024, .bf16⟩
  | .hbm, ⟨13, _⟩ => ⟨S8192x1024, .f32⟩
  | .hbm, ⟨14, _⟩ => ⟨S1x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x2816x1024, .f32⟩
  | .hbm, ⟨22, _⟩ => ⟨S2x8192x2816, .bf16⟩
  | .hbm, ⟨23, _⟩ => ⟨S8192x1024, .f32⟩
  | .hbm, ⟨24, _⟩ => ⟨S1x1024, .f32⟩
  | .hbm, ⟨25, _⟩ => ⟨S4x1024x1408, .f32⟩
  | .hbm, ⟨26, _⟩ => ⟨S1024x4x1408, .f32⟩
  | .hbm, ⟨27, _⟩ => ⟨S1024x5632, .f32⟩
  | .hbm, ⟨28, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S4x1024x1408, .bf16⟩
  | .local _ .vmem, ⟨3, _⟩ => ⟨S1x1024, .f32⟩
  | .local _ .vmem, ⟨4, _⟩ => ⟨S1x2816x1024, .bf16⟩
  | .local _ .vmem, ⟨5, _⟩ => ⟨S256x1024, .f32⟩
  | .local _ .vmem, ⟨6, _⟩ => ⟨S256x1024, .f32⟩
  | .local _ .vmem, ⟨7, _⟩ => ⟨S256x2816, .bf16⟩
  | .local _ .vmem, ⟨8, _⟩ => ⟨S256x2816, .bf16⟩
  | .local _ .vmem, ⟨9, _⟩ => ⟨S2x256x2816, .bf16⟩
  | .local _ .vmem, ⟨10, _⟩ => ⟨S2x256x2816, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1024x1408, .bf16⟩
  | .local _ .vmem, ⟨17, _⟩ => ⟨S1024x1408, .bf16⟩
  | .local _ .vmem, ⟨18, _⟩ => ⟨S1024x1024, .f32⟩
  | .local _ .vmem, ⟨19, _⟩ => ⟨S1024x1024, .f32⟩
  | .local _ .vmem, ⟨20, _⟩ => ⟨S1x1408x1024, .f32⟩
  | .local _ .vmem, ⟨21, _⟩ => ⟨S1x1408x1024, .f32⟩
  | .local _ .vmem, ⟨22, _⟩ => ⟨S256x1024, .f32⟩
  | .local _ .vmem, ⟨23, _⟩ => ⟨S256x1024, .f32⟩
  | .local _ .vmem, ⟨24, _⟩ => ⟨S1x2816x1024, .bf16⟩
  | .local _ .vmem, ⟨25, _⟩ => ⟨S2x256x2816, .bf16⟩
  | .local _ .vmem, ⟨26, _⟩ => ⟨S2x256x2816, .bf16⟩
  | .local _ .vmem, ⟨27, _⟩ => ⟨S4x1024x1408, .bf16⟩
  | .local _ .vmem, ⟨28, _⟩ => ⟨S256x1024, .f32⟩
  | .local _ .vmem, ⟨29, _⟩ => ⟨S256x1024, .f32⟩
  | .local _ .vmem, ⟨30, _⟩ => ⟨S1x1024, .f32⟩
  | .local _ .vmem, ⟨31, _⟩ => ⟨S2x256x2816, .bf16⟩
  | .local _ .vmem, ⟨32, _⟩ => ⟨S2x256x2816, .bf16⟩
  | .local _ .vmem, ⟨33, _⟩ => ⟨S256x1024, .f32⟩
  | .local _ .vmem, ⟨34, _⟩ => ⟨S256x1024, .f32⟩
  | .local _ .vmem, ⟨35, _⟩ => ⟨S1x1024, .f32⟩
  | .local _ .vmem, ⟨36, _⟩ => ⟨S1024x1024, .bf16⟩
  | .local _ .vmem, ⟨37, _⟩ => ⟨S1024x1024, .bf16⟩
  | .local _ .vmem, ⟨38, _⟩ => ⟨S1x1024x1408, .bf16⟩
  | .local _ .vmem, ⟨39, _⟩ => ⟨S1x1024x1408, .bf16⟩
  | .local _ .vmem, ⟨40, _⟩ => ⟨S1x1024x1408, .f32⟩
  | .local _ .vmem, ⟨41, _⟩ => ⟨S1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem7_1 : DmaSem sig := 34
abbrev cc2_sem8_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨3, ![2, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1024x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x1408x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2x256x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4x1024x1408 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2x256x2816 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨3, ![1, 4, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, false, true]

abbrev stage3_1 : Fin 2 → Memref sig .tc .vmem S1x1024x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024x2816 : Shape := ⟨2, ![1024, 2816]⟩
abbrev S5632x1024 : Shape := ⟨2, ![5632, 1024]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S1024x2816, .f32⟩
  | .hbm, ⟨67, _⟩ => ⟨S2816x1024, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x5632, .f32⟩
  | .hbm, ⟨76, _⟩ => ⟨S5632x1024, .f32⟩
  | .hbm, ⟨77, _⟩ => ⟨S1024x5632, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_cst_8 : Ref sig .tc := ⟨.hbm, 57, rfl⟩
abbrev main_cst_9 : Ref sig .tc := ⟨.hbm, 58, rfl⟩
abbrev main_v31 : Ref sig .tc := ⟨.hbm, 59, rfl⟩
abbrev main_v32 : Ref sig .tc := ⟨.hbm, 60, rfl⟩
abbrev main_cst_10 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩

abbrev nD : Nat := 1
abbrev τ : Topo := Topo.v7x

variable {F : FTy → Type} [FloatOps F]
-- ==== Attn.lean ====
abbrev S8192x1536 : Shape := ⟨2, ![8192, 1536]⟩
abbrev S8192x512 : Shape := ⟨2, ![8192, 512]⟩
abbrev S8192x3072 : Shape := ⟨2, ![8192, 3072]⟩
abbrev S2048x128 : Shape := ⟨2, ![2048, 128]⟩
abbrev S128x128 : Shape := ⟨2, ![128, 128]⟩
abbrev S2x2048x128 : Shape := ⟨3, ![2, 2048, 128]⟩
abbrev S128x256 : Shape := ⟨2, ![128, 256]⟩
abbrev S256x128 : Shape := ⟨2, ![256, 128]⟩
abbrev S128x1 : Shape := ⟨2, ![128, 1]⟩
abbrev S1x2048x128 : Shape := ⟨3, ![1, 2048, 128]⟩
abbrev S1x128x128 : Shape := ⟨3, ![1, 128, 128]⟩

abbrev nBuf : Space → Nat
  | .hbm => 8
  | .vmem => 22
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x3072, .f32⟩
  | .hbm, ⟨3, _⟩ => ⟨S8192x512, .f32⟩
  | .hbm, ⟨4, _⟩ => ⟨S8192x512, .f32⟩
  | .hbm, ⟨5, _⟩ => ⟨S8192x512, .bf16⟩
  | .hbm, ⟨6, _⟩ => ⟨S8192x512, .bf16⟩
  | .hbm, ⟨7, _⟩ => ⟨S8192x512, .bf16⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S128x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2x2048x128, .f32⟩
  | .local _ .vmem, ⟨21, _⟩ => ⟨S2x2048x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 5], ![false, false]⟩

def k0_cond1 (i : grid0.Coords) : BitVec 1 :=
  let arg1 : BitVec 32 := BitVec.ofNat 32 (i 1).val
  let c4_i32 : BitVec 32 := 4#32
  let v10 : BitVec 1 := Scalar.cmpi .slt arg1 c4_i32
  let v11 : BitVec 32 := Scalar.extui v10
  let c0_i32_3 : BitVec 32 := 0#32
  let v12 : BitVec 1 := Scalar.cmpi .ne v11 c0_i32_3
  v12

def k0_cond2 (i : grid0.Coords) : BitVec 1 :=
  let arg1 : BitVec 32 := BitVec.ofNat 32 (i 1).val
  let c0_i32_31 : BitVec 32 := 0#32
  let v75 : BitVec 1 := Scalar.cmpi .sgt arg1 c0_i32_31
  let v76 : BitVec 32 := Scalar.extui v75
  let c0_i32_32 : BitVec 32 := 0#32
  let v77 : BitVec 1 := Scalar.cmpi .ne v76 c0_i32_32
  v77

def k0_off1 (i : grid0.Coords) : Fin 3 → Nat :=
  let c1_i32_9 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v37 : BitVec 32 := Scalar.subi c1_i32_9 v9
  let c0_i32_416 : BitVec 32 := 0#32
  let c0_i32_417 : BitVec 32 := 0#32
  ![v37.toNat, 0, 0]
def k0_off2 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_50 : BitVec 32 := 0#32
  let c0_i32_51 : BitVec 32 := 0#32
  ![v9.toNat, 0, 0]
def k0_cond3 (i : grid0.Coords) : BitVec 1 :=
  let arg1 : BitVec 32 := BitVec.ofNat 32 (i 1).val
  let c0_i32_4 : BitVec 32 := 0#32
  let v13 : BitVec 1 := Scalar.cmpi .sgt arg1 c0_i32_4
  let v14 : BitVec 32 := Scalar.extui v13
  let c0_i32_5 : BitVec 32 := 0#32
  let v15 : BitVec 1 := Scalar.cmpi .ne v14 c0_i32_5
  v15

def k0_off3 (i : grid0.Coords) : Fin 3 → Nat :=
  let c1_i32_6 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v16 : BitVec 32 := Scalar.subi c1_i32_6 v9
  let v17 : Index := Scalar.indexCast v16
  let c0 : Index := 0#32
  let c0_7 : Index := 0#32
  ![v17.toNat, 0, 0]
def k0_off4 (i : grid0.Coords) : Fin 3 → Nat :=
  let c1_i32_15 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v33 : Index := Scalar.indexCast v32
  let c128 : Index := 128#32
  let c0_16 : Index := 0#32
  ![v33.toNat, 128, 0]
def k0_off5 (i : grid0.Coords) : Fin 3 → Nat :=
  let c1_i32_24 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : BitVec 32 := Scalar.subi c1_i32_24 v9
  let v49 : Index := Scalar.indexCast v48
  let c256 : Index := 256#32
  let c0_25 : Index := 0#32
  ![v49.toNat, 256, 0]
def k0_off6 (i : grid0.Coords) : Fin 3 → Nat :=
  let c1_i32_33 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : BitVec 32 := Scalar.subi c1_i32_33 v9
  let v65 : Index := Scalar.indexCast v64
  let c384 : Index := 384#32
  let c0_34 : Index := 0#32
  ![v65.toNat, 384, 0]
def k0_off7 (i : grid0.Coords) : Fin 3 → Nat :=
  let c1_i32_42 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v80 : BitVec 32 := Scalar.subi c1_i32_42 v9
  let v81 : Index := Scalar.indexCast v80
  let c512 : Index := 512#32
  let c0_43 : Index := 0#32
  ![v81.toNat, 512, 0]
def k0_off8 (i : grid0.Coords) : Fin 3 → Nat :=
  let c1_i32_51 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v96 : BitVec 32 := Scalar.subi c1_i32_51 v9
  let v97 : Index := Scalar.indexCast v96
  let c640 : Index := 640#32
  let c0_52 : Index := 0#32
  ![v97.toNat, 640, 0]
def k0_off9 (i : grid0.Coords) : Fin 3 → Nat :=
  let c1_i32_60 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v112 : BitVec 32 := Scalar.subi c1_i32_60 v9
  let v113 : Index := Scalar.indexCast v112
  let c768 : Index := 768#32
  let c0_61 : Index := 0#32
  ![v113.toNat, 768, 0]
def k0_off10 (i : grid0.Coords) : Fin 3 → Nat :=
  let c1_i32_69 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v128 : BitVec 32 := Scalar.subi c1_i32_69 v9
  let v129 : Index := Scalar.indexCast v128
  let c896 : Index := 896#32
  let c0_70 : Index := 0#32
  ![v129.toNat, 896, 0]
def k0_off11 (i : grid0.Coords) : Fin 3 → Nat :=
  let c1_i32_78 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v144 : BitVec 32 := Scalar.subi c1_i32_78 v9
  let v145 : Index := Scalar.indexCast v144
  let c1024 : Index := 1024#32
  let c0_79 : Index := 0#32
  ![v145.toNat, 1024, 0]
def k0_off12 (i : grid0.Coords) : Fin 3 → Nat :=
  let c1_i32_87 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v160 : BitVec 32 := Scalar.subi c1_i32_87 v9
  let v161 : Index := Scalar.indexCast v160
  let c1152 : Index := 1152#32
  let c0_88 : Index := 0#32
  ![v161.toNat, 1152, 0]
def k0_off13 (i : grid0.Coords) : Fin 3 → Nat :=
  let c1_i32_96 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v176 : BitVec 32 := Scalar.subi c1_i32_96 v9
  let v177 : Index := Scalar.indexCast v176
  let c1280 : Index := 1280#32
  let c0_97 : Index := 0#32
  ![v177.toNat, 1280, 0]
def k0_off14 (i : grid0.Coords) : Fin 3 → Nat :=
  let c1_i32_105 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v192 : BitVec 32 := Scalar.subi c1_i32_105 v9
  let v193 : Index := Scalar.indexCast v192
  let c1408 : Index := 1408#32
  let c0_106 : Index := 0#32
  ![v193.toNat, 1408, 0]
def k0_off15 (i : grid0.Coords) : Fin 3 → Nat :=
  let c1_i32_114 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v208 : BitVec 32 := Scalar.subi c1_i32_114 v9
  let v209 : Index := Scalar.indexCast v208
  let c1536 : Index := 1536#32
  let c0_115 : Index := 0#32
  ![v209.toNat, 1536, 0]
def k0_off16 (i : grid0.Coords) : Fin 3 → Nat :=
  let c1_i32_123 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v224 : BitVec 32 := Scalar.subi c1_i32_123 v9
  let v225 : Index := Scalar.indexCast v224
  let c1664 : Index := 1664#32
  let c0_124 : Index := 0#32
  ![v225.toNat, 1664, 0]
def k0_off17 (i : grid0.Coords) : Fin 3 → Nat :=
  let c1_i32_132 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v240 : BitVec 32 := Scalar.subi c1_i32_132 v9
  let v241 : Index := Scalar.indexCast v240
  let c1792 : Index := 1792#32
  let c0_133 : Index := 0#32
  ![v241.toNat, 1792, 0]
def k0_off18 (i : grid0.Coords) : Fin 3 → Nat :=
  let c1_i32_141 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v256 : BitVec 32 := Scalar.subi c1_i32_141 v9
  let v257 : Index := Scalar.indexCast v256
  let c1920 : Index := 1920#32
  let c0_142 : Index := 0#32
  ![v257.toNat, 1920, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c16_i32_0 : BitVec 32 := 16#32
  let v4 : BitVec 32 := Scalar.addi c16_i32_0 arg0
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c16_i32 : BitVec 32 := 16#32
  let v1 : BitVec 32 := Scalar.addi c16_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProj.lean ====
abbrev S8192x1024 : Shape := ⟨2, ![8192, 1024]⟩
abbrev S1x1024 : Shape := ⟨2, ![1, 1024]⟩
abbrev S1024x3072 : Shape := ⟨2, ![1024, 3072]⟩
abbrev S8192x128 : Shape := ⟨2, ![8192, 128]⟩
abbrev S1x128 : Shape := ⟨2, ![1, 128]⟩
abbrev S8192x3072 : Shape := ⟨2, ![8192, 3072]⟩
abbrev S1024x4x768 : Shape := ⟨3, ![1024, 4, 768]⟩
abbrev S4x1024x768 : Shape := ⟨3, ![4, 1024, 768]⟩
abbrev S8192x1536 : Shape := ⟨2, ![8192, 1536]⟩
abbrev S8192x512 : Shape := ⟨2, ![8192, 512]⟩
abbrev S512x1024 : Shape := ⟨2, ![512, 1024]⟩
abbrev S512x128 : Shape := ⟨2, ![512, 128]⟩
abbrev S512x3072 : Shape := ⟨2, ![512, 3072]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S1024 : Shape := ⟨1, ![1024]⟩

abbrev nBuf : Space → Nat
  | .hbm => 21
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x128, .f32⟩
  | .hbm, ⟨4, _⟩ => ⟨S8192x128, .f32⟩
  | .hbm, ⟨5, _⟩ => ⟨S1x128, .f32⟩
  | .hbm, ⟨6, _⟩ => ⟨S1x128, .f32⟩
  | .hbm, ⟨7, _⟩ => ⟨S8192x3072, .bf16⟩
  | .hbm, ⟨8, _⟩ => ⟨S8192x1024, .f32⟩
  | .hbm, ⟨9, _⟩ => ⟨S1024x3072, .bf16⟩
  | .hbm, ⟨10, _⟩ => ⟨S1024x4x768, .bf16⟩
  | .hbm, ⟨11, _⟩ => ⟨S4x1024x768, .bf16⟩
  | .hbm, ⟨12, _⟩ => ⟨S8192x3072, .f32⟩
  | .hbm, ⟨13, _⟩ => ⟨S8192x1024, .bf16⟩
  | .hbm, ⟨14, _⟩ => ⟨S8192x1536, .f32⟩
  | .hbm, ⟨15, _⟩ => ⟨S8192x512, .f32⟩
  | .hbm, ⟨16, _⟩ => ⟨S8192x1024, .f32⟩
  | .hbm, ⟨17, _⟩ => ⟨S1x1024, .f32⟩
  | .hbm, ⟨18, _⟩ => ⟨S4x1024x768, .f32⟩
  | .hbm, ⟨19, _⟩ => ⟨S1024x4x768, .f32⟩
  | .hbm, ⟨20, _⟩ => ⟨S1024x3072, .f32⟩
  | .local _ .vmem, ⟨0, _⟩ => ⟨S512x1024, .f32⟩
  | .local _ .vmem, ⟨1, _⟩ => ⟨S512x1024, .f32⟩
  | .local _ .vmem, ⟨2, _⟩ => ⟨S4x1024x768, .bf16⟩
  | .local _ .vmem, ⟨3, _⟩ => ⟨S1x1024, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S512x3072, .f32⟩
  | .local _ .vmem, ⟨11, _⟩ => ⟨S512x3072, .f32⟩
  | .local _ .vmem, ⟨12, _⟩ => ⟨S512x1024, .bf16⟩
  | .local _ .vmem, ⟨13, _⟩ => ⟨S512x1024, .bf16⟩
  | .local _ .vmem, ⟨14, _⟩ => ⟨S512x1536, .f32⟩
  | .local _ .vmem, ⟨15, _⟩ => ⟨S512x1536, .f32⟩
  | .local _ .vmem, ⟨16, _⟩ => ⟨S512x512, .f32⟩
  | .local _ .vmem, ⟨17, _⟩ => ⟨S512x512, .f32⟩
  | .local _ .vmem, ⟨18, _⟩ => ⟨S512x3072, .bf16⟩
  | .local _ .vmem, ⟨19, _⟩ => ⟨S512x3072, .bf16⟩
  | .local _ .vmem, ⟨20, _⟩ => ⟨S4x1024x768, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S512x1024, .bf16⟩
  | .local _ .vmem, ⟨30, _⟩ => ⟨S512x1024, .bf16⟩
  | .local _ .vmem, ⟨31, _⟩ => ⟨S512x3072, .bf16⟩
  | .local _ .vmem, ⟨32, _⟩ => ⟨S512x3072, .bf16⟩
  | .local _ .vmem, ⟨33, _⟩ => ⟨S4x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1024x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x3072 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1024x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]
-- ==== InProjRefIdeal.lean ====
abbrev S8192x1024 : Shape := ⟨2, ![8192, 1024]⟩
abbrev S1x1024 : Shape := ⟨2, ![1, 1024]⟩
abbrev S1024x3072 : Shape := ⟨2, ![1024, 3072]⟩
abbrev S8192x128 : Shape := ⟨2, ![8192, 128]⟩
abbrev S1x128 : Shape := ⟨2, ![1, 128]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S3072x1024 : Shape := ⟨2, ![3072, 1024]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x128, .f32⟩
  | .hbm, ⟨4, _⟩ => ⟨S8192x128, .f32⟩
  | .hbm, ⟨5, _⟩ => ⟨S1x128, .f32⟩
  | .hbm, ⟨6, _⟩ => ⟨S1x128, .f32⟩
  | .hbm, ⟨7, _⟩ => ⟨S8192x3072, .bf16⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x3072, .f32⟩
  | .hbm, ⟨29, _⟩ => ⟨S8192x3072, .f32⟩
  | .hbm, ⟨30, _⟩ => ⟨S3072x1024, .f32⟩
  | .hbm, ⟨31, _⟩ => ⟨S1024x3072, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Cross.lean ====
abbrev S8192x1024 : Shape := ⟨2, ![8192, 1024]⟩
abbrev S256x1024 : Shape := ⟨2, ![256, 1024]⟩
abbrev S1x1024 : Shape := ⟨2, ![1, 1024]⟩
abbrev S1024x512 : Shape := ⟨2, ![1024, 512]⟩
abbrev S1024x1024 : Shape := ⟨2, ![1024, 1024]⟩
abbrev S1x128 : Shape := ⟨2, ![1, 128]⟩
abbrev S512x1024 : Shape := ⟨2, ![512, 1024]⟩
abbrev S1x1024x512 : Shape := ⟨3, ![1, 1024, 512]⟩
abbrev S1x1024x1024 : Shape := ⟨3, ![1, 1024, 1024]⟩
abbrev S512x4x256 : Shape := ⟨3, ![512, 4, 256]⟩
abbrev S4x512x256 : Shape := ⟨3, ![4, 512, 256]⟩
abbrev S256 : Shape := ⟨1, ![256]⟩
abbrev S256x1 : Shape := ⟨2, ![256, 1]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩
abbrev S1x512x256 : Shape := ⟨3, ![1, 512, 256]⟩
abbrev S256x512 : Shape := ⟨2, ![256, 512]⟩
abbrev S128 : Shape := ⟨1, ![128]⟩
abbrev S1024 : Shape := ⟨1, ![1024]⟩

abbrev nBuf : Space → Nat
  | .hbm => 40
  | .vmem => 66
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S1024x512, .f32⟩
  | .hbm, ⟨5, _⟩ => ⟨S1024x1024, .f32⟩
  | .hbm, ⟨6, _⟩ => ⟨S1x128, .f32⟩
  | .hbm, ⟨7, _⟩ => ⟨S1x128, .f32⟩
  | .hbm, ⟨8, _⟩ => ⟨S512x1024, .f32⟩
  | .hbm, ⟨9, _⟩ => ⟨S8192x1024, .f32⟩
  | .hbm, ⟨10, _⟩ => ⟨S1024x512, .bf16⟩
  | .hbm, ⟨11, _⟩ => ⟨S1x1024x512, .bf16⟩
  | .hbm, ⟨12, _⟩ => ⟨S1024x1024, .bf16⟩
  | .hbm, ⟨13, _⟩ => ⟨S1x1024x1024, .bf16⟩
  | .hbm, ⟨14, _⟩ => ⟨S512x1024, .bf16⟩
  | .hbm, ⟨15, _⟩ => ⟨S512x4x256, .bf16⟩
  | .hbm, ⟨16, _⟩ => ⟨S4x512x256, .bf16⟩
  | .hbm, ⟨17, _⟩ => ⟨S256x1024, .f32⟩
  | .hbm, ⟨18, _⟩ => ⟨S256x1024, .bf16⟩
  | .hbm, ⟨19, _⟩ => ⟨S8192x512, .f32⟩
  | .hbm, ⟨20, _⟩ => ⟨S8192x1024, .bf16⟩
  | .hbm, ⟨21, _⟩ => ⟨S8192x512, .bf16⟩
  | .hbm, ⟨22, _⟩ => ⟨S8192x1024, .f32⟩
  | .hbm, ⟨23, _⟩ => ⟨S4x512x256, .f32⟩
  | .hbm, ⟨24, _⟩ => ⟨S8192x512, .bf16⟩
  | .hbm, ⟨25, _⟩ => ⟨S256x512, .f32⟩
  | .hbm, ⟨26, _⟩ => ⟨S256x512, .f32⟩
  | .hbm, ⟨27, _⟩ => ⟨S1x128, .f32⟩
  | .hbm, ⟨28, _⟩ => ⟨S8192x1024, .f32⟩
  | .hbm, ⟨29, _⟩ => ⟨S1x1024, .f32⟩
  | .hbm, ⟨30, _⟩ => ⟨S256x1024, .bf16⟩
  | .hbm, ⟨31, _⟩ => ⟨S1x128, .f32⟩
  | .hbm, ⟨32, _⟩ => ⟨S1x1024x512, .f32⟩
  | .hbm, ⟨33, _⟩ => ⟨S256x1024, .f32⟩
  | .hbm, ⟨34, _⟩ => ⟨S1x1024, .f32⟩
  | .hbm, ⟨35, _⟩ => ⟨S1x1024x1024, .f32⟩
  | .hbm, ⟨36, _⟩ => ⟨S1024x512, .f32⟩
  | .hbm, ⟨37, _⟩ => ⟨S1024x1024, .f32⟩
  | .hbm, ⟨38, _⟩ => ⟨S512x4x256, .f32⟩
  | .hbm, ⟨39, _⟩ => ⟨S512x1024, .f32⟩
  | .local _ .vmem, ⟨0, _⟩ => ⟨S256x1024, .f32⟩
  | .local _ .vmem, ⟨1, _⟩ => ⟨S1x1024x1024, .bf16⟩
  | .local _ .vmem, ⟨2, _⟩ => ⟨S1x1024, .f32⟩
  | .local _ .vmem, ⟨3, _⟩ => ⟨S256x1024, .f32⟩
  | .local _ .vmem, ⟨4, _⟩ => ⟨S256x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024x512, .bf16⟩
  | .local _ .vmem, ⟨9, _⟩ => ⟨S256x1024, .f32⟩
  | .local _ .vmem, ⟨10, _⟩ => ⟨S1x128, .f32⟩
  | .local _ .vmem, ⟨11, _⟩ => ⟨S1x128, .f32⟩
  | .local _ .vmem, ⟨12, _⟩ => ⟨S4x512x256, .bf16⟩
  | .local _ .vmem, ⟨13, _⟩ => ⟨S512x512, .f32⟩
  | .local _ .vmem, ⟨14, _⟩ => ⟨S512x512, .f32⟩
  | .local _ .vmem, ⟨15, _⟩ => ⟨S512x1024, .bf16⟩
  | .local _ .vmem, ⟨16, _⟩ => ⟨S512x1024, .bf16⟩
  | .local _ .vmem, ⟨17, _⟩ => ⟨S512x512, .bf16⟩
  | .local _ .vmem, ⟨18, _⟩ => ⟨S512x512, .bf16⟩
  | .local _ .vmem, ⟨19, _⟩ => ⟨S512x1024, .f32⟩
  | .local _ .vmem, ⟨20, _⟩ => ⟨S512x1024, .f32⟩
  | .local _ .vmem, ⟨21, _⟩ => ⟨S1024x512, .bf16⟩
  | .local _ .vmem, ⟨22, _⟩ => ⟨S1024x512, .bf16⟩
  | .local _ .vmem, ⟨23, _⟩ => ⟨S1024x1024, .f32⟩
  | .local _ .vmem, ⟨24, _⟩ => ⟨S1024x1024, .f32⟩
  | .local _ .vmem, ⟨25, _⟩ => ⟨S4x512x256, .f32⟩
  | .local _ .vmem, ⟨26, _⟩ => ⟨S512x1024, .f32⟩
  | .local _ .vmem, ⟨27, _⟩ => ⟨S512x1024, .f32⟩
  | .local _ .vmem, ⟨28, _⟩ => ⟨S4x512x256, .bf16⟩
  | .local _ .vmem, ⟨29, _⟩ => ⟨S512x512, .f32⟩
  | .local _ .vmem, ⟨30, _⟩ => ⟨S512x512, .f32⟩
  | .local _ .vmem, ⟨31, _⟩ => ⟨S256x1024, .f32⟩
  | .local _ .vmem, ⟨32, _⟩ => ⟨S1x128, .f32⟩
  | .local _ .vmem, ⟨33, _⟩ => ⟨S1x128, .f32⟩
  | .local _ .vmem, ⟨34, _⟩ => ⟨S1x1024x512, .bf16⟩
  | .local _ .vmem, ⟨35, _⟩ => ⟨S512x1024, .f32⟩
  | .local _ .vmem, ⟨36, _⟩ => ⟨S512x1024, .f32⟩
  | .local _ .vmem, ⟨37, _⟩ => ⟨S1x1024, .f32⟩
  | .local _ .vmem, ⟨38, _⟩ => ⟨S512x512, .bf16⟩
  | .local _ .vmem, ⟨39, _⟩ => ⟨S512x512, .bf16⟩
  | .local _ .vmem, ⟨40, _⟩ => ⟨S256x512, .f32⟩
  | .local _ .vmem, ⟨41, _⟩ => ⟨S256x512, .f32⟩
  | .local _ .vmem, ⟨42, _⟩ => ⟨S1x128, .f32⟩
  | .local _ .vmem, ⟨43, _⟩ => ⟨S512x1024, .f32⟩
  | .local _ .vmem, ⟨44, _⟩ => ⟨S512x1024, .f32⟩
  | .local _ .vmem, ⟨45, _⟩ => ⟨S1x1024, .f32⟩
  | .local _ .vmem, ⟨46, _⟩ => ⟨S256x512, .f32⟩
  | .local _ .vmem, ⟨47, _⟩ => ⟨S256x512, .f32⟩
  | .local _ .vmem, ⟨48, _⟩ => ⟨S256x1024, .f32⟩
  | .local _ .vmem, ⟨49, _⟩ => ⟨S1x128, .f32⟩
  | .local _ .vmem, ⟨50, _⟩ => ⟨S256x1024, .bf16⟩
  | .local _ .vmem, ⟨51, _⟩ => ⟨S1x128, .f32⟩
  | .local _ .vmem, ⟨52, _⟩ => ⟨S1024x1024, .bf16⟩
  | .local _ .vmem, ⟨53, _⟩ => ⟨S1024x1024, .bf16⟩
  | .local _ .vmem, ⟨54, _⟩ => ⟨S1024x512, .bf16⟩
  | .local _ .vmem, ⟨55, _⟩ => ⟨S1024x512, .bf16⟩
  | .local _ .vmem, ⟨56, _⟩ => ⟨S1x1024x512, .f32⟩
  | .local _ .vmem, ⟨57, _⟩ => ⟨S256x1024, .bf16⟩
  | .local _ .vmem, ⟨58, _⟩ => ⟨S1x1024x1024, .bf16⟩
  | .local _ .vmem, ⟨59, _⟩ => ⟨S256x1024, .f32⟩
  | .local _ .vmem, ⟨60, _⟩ => ⟨S1x1024, .f32⟩
  | .local _ .vmem, ⟨61, _⟩ => ⟨S256x1024, .f32⟩
  | .local _ .vmem, ⟨62, _⟩ => ⟨S1x1024, .f32⟩
  | .local _ .vmem, ⟨63, _⟩ => ⟨S256x1024, .bf16⟩
  | .local _ .vmem, ⟨64, _⟩ => ⟨S256x1024, .bf16⟩
  | .local _ .vmem, ⟨65, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev main_v10_5 : Ref sig .tc := ⟨.hbm, 29, rfl⟩
abbrev main_v11_0 : Ref sig .tc := ⟨.hbm, 30, rfl⟩
abbrev main_v11_1 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc3_stg10_0 : Ref sig .tc := ⟨.vmem, 40, rfl⟩
abbrev cc3_stg11_0 : Ref sig .tc := ⟨.vmem, 41, rfl⟩
abbrev cc3_stg12_0 : Ref sig .tc := ⟨.vmem, 42, rfl⟩
abbrev cc3_stg13_0 : Ref sig .tc := ⟨.vmem, 43, rfl⟩
abbrev cc3_stg13_1 : Ref sig .tc := ⟨.vmem, 44, rfl⟩
abbrev cc3_stg14_0 : Ref sig .tc := ⟨.vmem, 45, rfl⟩
abbrev cc4_stg0_0 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc6_stg0_0 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc7_stg0_0 : Ref sig .tc := ⟨.vmem, 63, rfl⟩
abbrev cc7_stg1_0 : Ref sig .tc := ⟨.vmem, 64, rfl⟩
abbrev cc7_stg2_0 : Ref sig .tc := ⟨.vmem, 65, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36
abbrev cc3_sem8_0 : DmaSem sig := 37
abbrev cc3_sem9_0 : DmaSem sig := 38
abbrev cc3_sem9_1 : DmaSem sig := 39
abbrev cc3_sem10_0 : DmaSem sig := 40
abbrev cc3_sem11_0 : DmaSem sig := 41
abbrev cc3_sem12_0 : DmaSem sig := 42
abbrev cc3_sem13_0 : DmaSem sig := 43
abbrev cc3_sem13_1 : DmaSem sig := 44
abbrev cc3_sem14_0 : DmaSem sig := 45
abbrev cc4_sem0_0 : DmaSem sig := 46
abbrev cc4_sem1_0 : DmaSem sig := 47
abbrev cc4_sem2_0 : DmaSem sig := 48
abbrev cc4_sem3_0 : DmaSem sig := 49
abbrev cc4_sem4_0 : DmaSem sig := 50
abbrev cc4_sem5_0 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc6_sem0_0 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc7_sem0_0 : DmaSem sig := 63
abbrev cc7_sem1_0 : DmaSem sig := 64
abbrev cc7_sem2_0 : DmaSem sig := 65

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x512x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x512x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S512x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x512 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S256x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S256x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S512x1024 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 1 → Memref sig .tc .vmem S1x1024 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨3, ![1, 1, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, false, true]

abbrev stage5_1 : Fin 2 → Memref sig .tc .vmem S1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, false, true]

abbrev stage5_2 : Fin 1 → Memref sig .tc .vmem S1x1024x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false, false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1x1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨3, ![1, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage7_0 : Fin 1 → Memref sig .tc .vmem S256x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false, false]

abbrev stage7_1 : Fin 1 → Memref sig .tc .vmem S256x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false, false]

abbrev stage7_2 : Fin 1 → Memref sig .tc .vmem S1x1024x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false, false]
-- ==== CrossRefIdeal.lean ====
abbrev S8192x1024 : Shape := ⟨2, ![8192, 1024]⟩
abbrev S256x1024 : Shape := ⟨2, ![256, 1024]⟩
abbrev S1x1024 : Shape := ⟨2, ![1, 1024]⟩
abbrev S1024x512 : Shape := ⟨2, ![1024, 512]⟩
abbrev S1024x1024 : Shape := ⟨2, ![1024, 1024]⟩
abbrev S1x128 : Shape := ⟨2, ![1, 128]⟩
abbrev S512x1024 : Shape := ⟨2, ![512, 1024]⟩
abbrev S_ : Shape := ⟨0, ![]⟩
abbrev S8192 : Shape := ⟨1, ![8192]⟩
abbrev S8192x1 : Shape := ⟨2, ![8192, 1]⟩
abbrev S1x8192x1024 : Shape := ⟨3, ![1, 8192, 1024]⟩
abbrev S256 : Shape := ⟨1, ![256]⟩
abbrev S256x1 : Shape := ⟨2, ![256, 1]⟩
abbrev S1x256x1024 : Shape := ⟨3, ![1, 256, 1024]⟩
abbrev S1x8192x512 : Shape := ⟨3, ![1, 8192, 512]⟩
abbrev S1x8192x4x128 : Shape := ⟨4, ![1, 8192, 4, 128]⟩
abbrev S1x256x512 : Shape := ⟨3, ![1, 256, 512]⟩
abbrev S1x256x4x128 : Shape := ⟨4, ![1, 256, 4, 128]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S1x256x4 : Shape := ⟨3, ![1, 256, 4]⟩
abbrev S1x256x4x1 : Shape := ⟨4, ![1, 256, 4, 1]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩
abbrev S128 : Shape := ⟨1, ![128]⟩
abbrev S256x4 : Shape := ⟨2, ![256, 4]⟩
abbrev S8192x4 : Shape := ⟨2, ![8192, 4]⟩
abbrev S1024 : Shape := ⟨1, ![1024]⟩

abbrev nBuf : Space → Nat
  | .hbm => 292
  | .vmem => 0
  | .smem => 0
  | _ => 0

abbrev hbmTy0_0 (i : Nat) : BufTy := match i % 128 with
  | 0 => ⟨S8192x1024, .f32⟩
  | 1 => ⟨S256x1024, .f32⟩
  | 2 => ⟨S1x1024, .f32⟩
  | 3 => ⟨S1x1024, .f32⟩
  | 4 => ⟨S1024x512, .f32⟩
  | 5 => ⟨S1024x1024, .f32⟩
  | 6 => ⟨S1x128, .f32⟩
  | 7 => ⟨S1x128, .f32⟩
  | 8 => ⟨S512x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S1x8192x1024, .f32⟩
  | 30 => ⟨S256x1024, .f32⟩
  | 31 => ⟨S_, .f32⟩
  | 32 => ⟨S256, .f32⟩
  | 33 => ⟨S256x1, .f32⟩
  | 34 => ⟨S_, .f32⟩
  | 35 => ⟨S256x1, .f32⟩
  | 36 => ⟨S256x1, .f32⟩
  | 37 => ⟨S_, .f32⟩
  | 38 => ⟨S256x1, .f32⟩
  | 39 => ⟨S256x1, .f32⟩
  | 40 => ⟨S256x1, .f32⟩
  | 41 => ⟨S256x1, .f32⟩
  | 42 => ⟨S_, .f32⟩
  | 43 => ⟨S256x1, .f32⟩
  | 44 => ⟨S256x1, .f32⟩
  | 45 => ⟨S256x1024, .f32⟩
  | 46 => ⟨S256x1024, .f32⟩
  | 47 => ⟨S256x1024, .f32⟩
  | 48 => ⟨S256x1024, .f32⟩
  | 49 => ⟨S1x256x1024, .f32⟩
  | 50 => ⟨S1x8192x512, .f32⟩
  | 51 => ⟨S1x8192x4x128, .f32⟩
  | 52 => ⟨S1x256x1024, .f32⟩
  | 53 => ⟨S1x256x512, .f32⟩
  | 54 => ⟨S1x256x512, .f32⟩
  | 55 => ⟨S1x256x4x128, .f32⟩
  | 56 => ⟨S1x256x4x128, .f32⟩
  | 57 => ⟨S1x8192x4x128, .f32⟩
  | 58 => ⟨S_, .f32⟩
  | 59 => ⟨S1x8192x4, .f32⟩
  | 60 => ⟨S1x8192x4x1, .f32⟩
  | 61 => ⟨S_, .f32⟩
  | 62 => ⟨S1x8192x4x1, .f32⟩
  | 63 => ⟨S1x8192x4x1, .f32⟩
  | 64 => ⟨S_, .f32⟩
  | 65 => ⟨S1x8192x4x1, .f32⟩
  | 66 => ⟨S1x8192x4x1, .f32⟩
  | 67 => ⟨S1x8192x4x1, .f32⟩
  | 68 => ⟨S1x8192x4x1, .f32⟩
  | 69 => ⟨S_, .f32⟩
  | 70 => ⟨S1x8192x4x1, .f32⟩
  | 71 => ⟨S1x8192x4x1, .f32⟩
  | 72 => ⟨S1x8192x4x128, .f32⟩
  | 73 => ⟨S1x8192x4x128, .f32⟩
  | 74 => ⟨S1x1x1x128, .f32⟩
  | 75 => ⟨S1x8192x4x128, .f32⟩
  | 76 => ⟨S1x8192x4x128, .f32⟩
  | 77 => ⟨S_, .f32⟩
  | 78 => ⟨S1x8192x4x128, .f32⟩
  | 79 => ⟨S1x8192x4x128, .f32⟩
  | 80 => ⟨S1x256x4x128, .f32⟩
  | 81 => ⟨S_, .f32⟩
  | 82 => ⟨S1x256x4, .f32⟩
  | 83 => ⟨S1x256x4x1, .f32⟩
  | 84 => ⟨S_, .f32⟩
  | 85 => ⟨S1x256x4x1, .f32⟩
  | 86 => ⟨S1x256x4x1, .f32⟩
  | 87 => ⟨S_, .f32⟩
  | 88 => ⟨S1x256x4x1, .f32⟩
  | 89 => ⟨S1x256x4x1, .f32⟩
  | 90 => ⟨S1x256x4x1, .f32⟩
  | 91 => ⟨S1x256x4x1, .f32⟩
  | 92 => ⟨S_, .f32⟩
  | 93 => ⟨S1x256x4x1, .f32⟩
  | 94 => ⟨S1x256x4x1, .f32⟩
  | 95 => ⟨S1x256x4x128, .f32⟩
  | 96 => ⟨S1x256x4x128, .f32⟩
  | 97 => ⟨S1x1x1x128, .f32⟩
  | 98 => ⟨S1x256x4x128, .f32⟩
  | 99 => ⟨S1x256x4x128, .f32⟩
  | 100 => ⟨S1x4x8192x256, .f32⟩
  | 101 => ⟨S_, .f32⟩
  | 102 => ⟨S1x4x8192, .f32⟩
  | 103 => ⟨S1x4x8192x1, .f32⟩
  | 104 => ⟨S1x4x8192x256, .f32⟩
  | 105 => ⟨S1x4x8192x256, .i1⟩
  | 106 => ⟨S1x4x8192x256, .f32⟩
  | 107 => ⟨S_, .f32⟩
  | 108 => ⟨S1x4x8192, .f32⟩
  | 109 => ⟨S_, .f32⟩
  | 110 => ⟨S1x4x8192, .f32⟩
  | 111 => ⟨S1x4x8192, .f32⟩
  | 112 => ⟨S_, .f32⟩
  | 113 => ⟨S1x4x8192, .f32⟩
  | 114 => ⟨S1x4x8192, .i1⟩
  | 115 => ⟨S_, .f32⟩
  | 116 => ⟨S1x4x8192, .f32⟩
  | 117 => ⟨S1x4x8192, .i1⟩
  | 118 => ⟨S_, .f32⟩
  | 119 => ⟨S1x4x8192, .f32⟩
  | 120 => ⟨S_, .f32⟩
  | 121 => ⟨S1x4x8192, .f32⟩
  | 122 => ⟨S_, .f32⟩
  | 123 => ⟨S1x4x8192, .f32⟩
  | 124 => ⟨S1x4x8192, .f32⟩
  | 125 => ⟨S1x4x8192, .f32⟩
  | 126 => ⟨S1x4x8192x1, .f32⟩
  | 127 => ⟨S1x4x8192x256, .f32⟩
  | _ => ⟨S8192x1024, .f32⟩

abbrev hbmTy0_1 (i : Nat) : BufTy := match i % 128 with
  | 0 => ⟨S1x4x8192x256, .f32⟩
  | 1 => ⟨S1x4x8192x256, .f32⟩
  | 2 => ⟨S_, .f32⟩
  | 3 => ⟨S1x4x8192, .f32⟩
  | 4 => ⟨S1x4x8192x1, .f32⟩
  | 5 => ⟨S1x4x8192x256, .f32⟩
  | 6 => ⟨S1x4x8192x256, .f32⟩
  | 7 => ⟨S1x4x8192x1, .f32⟩
  | 8 => ⟨S_, .f32⟩
  | 9 => ⟨S1x4x8192x1, .f32⟩
  | 10 => ⟨S1x4x8192x1, .f32⟩
  | 11 => ⟨S1x4x128x8192, .f32⟩
  | 12 => ⟨S1x8192x4x128, .f32⟩
  | 13 => ⟨S1x8192x512, .f32⟩
  | 14 => ⟨S1x8192x1024, .f32⟩
  | 15 => ⟨S8192x1024, .f32⟩
  | 16 => ⟨S8192x1024, .f32⟩
  | 17 => ⟨S8192x1024, .f32⟩
  | 18 => ⟨S1x8192x1024, .f32⟩
  | 19 => ⟨S1024x512, .f32⟩
  | 20 => ⟨S512x1024, .f32⟩
  | 21 => ⟨S1x8192x512, .f32⟩
  | 22 => ⟨S1x8192x4x128, .f32⟩
  | 23 => ⟨S1x4x128x8192, .f32⟩
  | 24 => ⟨S1x4x8192x256, .f32⟩
  | 25 => ⟨S1x4x128x256, .f32⟩
  | 26 => ⟨S1x256x4x128, .f32⟩
  | 27 => ⟨S1x4x8192x256, .f32⟩
  | 28 => ⟨S1x4x8192x256, .f32⟩
  | 29 => ⟨S1x4x8192x256, .f32⟩
  | 30 => ⟨S_, .f32⟩
  | 31 => ⟨S1x4x8192, .f32⟩
  | 32 => ⟨S1x4x8192x1, .f32⟩
  | 33 => ⟨S1x4x8192x1, .f32⟩
  | 34 => ⟨S1x4x8192x256, .f32⟩
  | 35 => ⟨S1x4x8192x256, .f32⟩
  | 36 => ⟨S_, .f32⟩
  | 37 => ⟨S4x8192, .f32⟩
  | 38 => ⟨S1x4x8192, .f32⟩
  | 39 => ⟨S1x4x8192x256, .f32⟩
  | 40 => ⟨S1x4x8192x256, .f32⟩
  | 41 => ⟨S1x4x8192x256, .f32⟩
  | 42 => ⟨S1x4x256x128, .f32⟩
  | 43 => ⟨S1x256x4x128, .f32⟩
  | 44 => ⟨S1x4x8192x128, .f32⟩
  | 45 => ⟨S1x8192x4x128, .f32⟩
  | 46 => ⟨S1x256x4x128, .f32⟩
  | 47 => ⟨S_, .f32⟩
  | 48 => ⟨S1x128, .f32⟩
  | 49 => ⟨S1x1x1x128, .f32⟩
  | 50 => ⟨S1x256x4x128, .f32⟩
  | 51 => ⟨S1x256x4x128, .f32⟩
  | 52 => ⟨S_, .f32⟩
  | 53 => ⟨S128, .f32⟩
  | 54 => ⟨S1x128, .f32⟩
  | 55 => ⟨S1x256x4x128, .f32⟩
  | 56 => ⟨S_, .f32⟩
  | 57 => ⟨S1x256x4, .f32⟩
  | 58 => ⟨S1x256x4x1, .f32⟩
  | 59 => ⟨S1x256x4x128, .f32⟩
  | 60 => ⟨S1x256x4x128, .f32⟩
  | 61 => ⟨S1x256x4x1, .f32⟩
  | 62 => ⟨S_, .f32⟩
  | 63 => ⟨S1x256x4x1, .f32⟩
  | 64 => ⟨S1x256x4x1, .f32⟩
  | 65 => ⟨S_, .f32⟩
  | 66 => ⟨S256x4, .f32⟩
  | 67 => ⟨S1x256x4, .f32⟩
  | 68 => ⟨S1x256x4x128, .f32⟩
  | 69 => ⟨S1x256x4x128, .f32⟩
  | 70 => ⟨S1x256x4x128, .f32⟩
  | 71 => ⟨S1x256x4x128, .f32⟩
  | 72 => ⟨S1x256x4x128, .f32⟩
  | 73 => ⟨S_, .f32⟩
  | 74 => ⟨S1x8192x4x128, .f32⟩
  | 75 => ⟨S1x8192x4x128, .f32⟩
  | 76 => ⟨S1x8192x4x128, .f32⟩
  | 77 => ⟨S_, .f32⟩
  | 78 => ⟨S1x128, .f32⟩
  | 79 => ⟨S1x1x1x128, .f32⟩
  | 80 => ⟨S1x8192x4x128, .f32⟩
  | 81 => ⟨S1x8192x4x128, .f32⟩
  | 82 => ⟨S_, .f32⟩
  | 83 => ⟨S128, .f32⟩
  | 84 => ⟨S1x128, .f32⟩
  | 85 => ⟨S1x8192x4x128, .f32⟩
  | 86 => ⟨S_, .f32⟩
  | 87 => ⟨S1x8192x4, .f32⟩
  | 88 => ⟨S1x8192x4x1, .f32⟩
  | 89 => ⟨S1x8192x4x128, .f32⟩
  | 90 => ⟨S1x8192x4x128, .f32⟩
  | 91 => ⟨S1x8192x4x1, .f32⟩
  | 92 => ⟨S_, .f32⟩
  | 93 => ⟨S1x8192x4x1, .f32⟩
  | 94 => ⟨S1x8192x4x1, .f32⟩
  | 95 => ⟨S_, .f32⟩
  | 96 => ⟨S8192x4, .f32⟩
  | 97 => ⟨S1x8192x4, .f32⟩
  | 98 => ⟨S1x8192x4x128, .f32⟩
  | 99 => ⟨S1x8192x4x128, .f32⟩
  | 100 => ⟨S1x8192x4x128, .f32⟩
  | 101 => ⟨S1x8192x4x128, .f32⟩
  | 102 => ⟨S1x8192x4x128, .f32⟩
  | 103 => ⟨S1x256x512, .f32⟩
  | 104 => ⟨S1x256x512, .f32⟩
  | 105 => ⟨S1x256x1024, .f32⟩
  | 106 => ⟨S1024x1024, .f32⟩
  | 107 => ⟨S1024x1024, .f32⟩
  | 108 => ⟨S1x256x1024, .f32⟩
  | 109 => ⟨S1x8192x512, .f32⟩
  | 110 => ⟨S512x1024, .f32⟩
  | 111 => ⟨S1024x512, .f32⟩
  | 112 => ⟨S1x8192x1024, .f32⟩
  | 113 => ⟨S_, .f32⟩
  | 114 => ⟨S256x1024, .f32⟩
  | 115 => ⟨S256x1024, .f32⟩
  | 116 => ⟨S_, .f32⟩
  | 117 => ⟨S1024, .f32⟩
  | 118 => ⟨S1x1024, .f32⟩
  | 119 => ⟨S256x1024, .f32⟩
  | 120 => ⟨S256x1024, .f32⟩
  | 121 => ⟨S256x1024, .f32⟩
  | 122 => ⟨S_, .f32⟩
  | 123 => ⟨S256, .f32⟩
  | 124 => ⟨S256x1, .f32⟩
  | 125 => ⟨S256x1024, .f32⟩
  | 126 => ⟨S256x1024, .f32⟩
  | 127 => ⟨S256x1, .f32⟩
  | _ => ⟨S8192x1024, .f32⟩

abbrev hbmTy0_2 (i : Nat) : BufTy := match i % 128 with
  | 0 => ⟨S_, .f32⟩
  | 1 => ⟨S256x1, .f32⟩
  | 2 => ⟨S256x1, .f32⟩
  | 3 => ⟨S_, .f32⟩
  | 4 => ⟨S256, .f32⟩
  | 5 => ⟨S256x1024, .f32⟩
  | 6 => ⟨S256x1024, .f32⟩
  | 7 => ⟨S256x1024, .f32⟩
  | 8 => ⟨S256x1024, .f32⟩
  | 9 => ⟨S256x1024, .f32⟩
  | 10 => ⟨S_, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S8192x1024, .f32⟩
  | 23 => ⟨S8192x1024, .f32⟩
  | 24 => ⟨S8192x1024, .f32⟩
  | 25 => ⟨S8192x1, .f32⟩
  | 26 => ⟨S_, .f32⟩
  | 27 => ⟨S8192x1, .f32⟩
  | 28 => ⟨S8192x1, .f32⟩
  | 29 => ⟨S_, .f32⟩
  | 30 => ⟨S8192, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_cst_18 : Ref sig .tc := ⟨.hbm, 109, rfl⟩
abbrev main_v80 : Ref sig .tc := ⟨.hbm, 110, rfl⟩
abbrev main_v81 : Ref sig .tc := ⟨.hbm, 111, rfl⟩
abbrev main_cst_19 : Ref sig .tc := ⟨.hbm, 112, rfl⟩
abbrev main_v82 : Ref sig .tc := ⟨.hbm, 113, rfl⟩
abbrev main_v83 : Ref sig .tc := ⟨.hbm, 114, rfl⟩
abbrev main_cst_20 : Ref sig .tc := ⟨.hbm, 115, rfl⟩
abbrev main_v84 : Ref sig .tc := ⟨.hbm, 116, rfl⟩
abbrev main_v85 : Ref sig .tc := ⟨.hbm, 117, rfl⟩
abbrev main_cst_21 : Ref sig .tc := ⟨.hbm, 118, rfl⟩
abbrev main_v86 : Ref sig .tc := ⟨.hbm, 119, rfl⟩
abbrev main_cst_22 : Ref sig .tc := ⟨.hbm, 120, rfl⟩
abbrev main_v87 : Ref sig .tc := ⟨.hbm, 121, rfl⟩
abbrev main_cst_23 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_25 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_26 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_27 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_28 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_29 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_30 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_31 : Ref sig .tc := ⟨.hbm, 190, rfl⟩
abbrev main_v148 : Ref sig .tc := ⟨.hbm, 191, rfl⟩
abbrev main_v149 : Ref sig .tc := ⟨.hbm, 192, rfl⟩
abbrev main_cst_32 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_33 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_34 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_35 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_36 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_37 : Ref sig .tc := ⟨.hbm, 220, rfl⟩
abbrev main_v172 : Ref sig .tc := ⟨.hbm, 221, rfl⟩
abbrev main_v173 : Ref sig .tc := ⟨.hbm, 222, rfl⟩
abbrev main_cst_38 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_39 : Ref sig .tc := ⟨.hbm, 241, rfl⟩
abbrev main_v191 : Ref sig .tc := ⟨.hbm, 242, rfl⟩
abbrev main_v192 : Ref sig .tc := ⟨.hbm, 243, rfl⟩
abbrev main_cst_40 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_cst_41 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_cst_42 : Ref sig .tc := ⟨.hbm, 256, rfl⟩
abbrev main_v203 : Ref sig .tc := ⟨.hbm, 257, rfl⟩
abbrev main_v204 : Ref sig .tc := ⟨.hbm, 258, rfl⟩
abbrev main_cst_43 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_44 : Ref sig .tc := ⟨.hbm, 266, rfl⟩
abbrev main_v211 : Ref sig .tc := ⟨.hbm, 267, rfl⟩
abbrev main_v212 : Ref sig .tc := ⟨.hbm, 268, rfl⟩
abbrev main_cst_45 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_cst_46 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_cst_47 : Ref sig .tc := ⟨.hbm, 282, rfl⟩
abbrev main_v224 : Ref sig .tc := ⟨.hbm, 283, rfl⟩
abbrev main_v225 : Ref sig .tc := ⟨.hbm, 284, rfl⟩
abbrev main_cst_48 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩

abbrev nD : Nat := 1
abbrev τ : Topo := Topo.v7x

variable {F : FTy → Type} [FloatOps F]
-- ==== OutProj.lean ====
abbrev S8192x512 : Shape := ⟨2, ![8192, 512]⟩
abbrev S4x128x128 : Shape := ⟨3, ![4, 128, 128]⟩
abbrev S1x512 : Shape := ⟨2, ![1, 512]⟩
abbrev S1024x1024 : Shape := ⟨2, ![1024, 1024]⟩
abbrev S8192x1024 : Shape := ⟨2, ![8192, 1024]⟩
abbrev S1x1024x1024 : Shape := ⟨3, ![1, 1024, 1024]⟩
abbrev S8192x4x128 : Shape := ⟨3, ![8192, 4, 128]⟩
abbrev S4x128x8192 : Shape := ⟨3, ![4, 128, 8192]⟩
abbrev S512x1024 : Shape := ⟨2, ![512, 1024]⟩
abbrev S16x1024 : Shape := ⟨2, ![16, 1024]⟩
abbrev S512x512 : Shape := ⟨2, ![512, 512]⟩
abbrev S1x512x1024 : Shape := ⟨3, ![1, 512, 1024]⟩
abbrev S16x512 : Shape := ⟨2, ![16, 512]⟩
abbrev S512x128 : Shape := ⟨2, ![512, 128]⟩
abbrev S512 : Shape := ⟨1, ![512]⟩
abbrev S512x1 : Shape := ⟨2, ![512, 1]⟩
abbrev S528x128 : Shape := ⟨2, ![528, 128]⟩
abbrev S16x128 : Shape := ⟨2, ![16, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 26
  | .vmem => 26
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .bf16⟩
  | .hbm, ⟨3, _⟩ => ⟨S4x128x128, .f32⟩
  | .hbm, ⟨4, _⟩ => ⟨S1x512, .f32⟩
  | .hbm, ⟨5, _⟩ => ⟨S1024x1024, .f32⟩
  | .hbm, ⟨6, _⟩ => ⟨S8192x1024, .f32⟩
  | .hbm, ⟨7, _⟩ => ⟨S1024x1024, .bf16⟩
  | .hbm, ⟨8, _⟩ => ⟨S1x1024x1024, .bf16⟩
  | .hbm, ⟨9, _⟩ => ⟨S8192x512, .f32⟩
  | .hbm, ⟨10, _⟩ => ⟨S8192x4x128, .f32⟩
  | .hbm, ⟨11, _⟩ => ⟨S4x128x8192, .f32⟩
  | .hbm, ⟨12, _⟩ => ⟨S8192x4x128, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .bf16⟩
  | .hbm, ⟨17, _⟩ => ⟨S8192x1024, .bf16⟩
  | .hbm, ⟨18, _⟩ => ⟨S1x1024x1024, .f32⟩
  | .hbm, ⟨19, _⟩ => ⟨S4x128x128, .bf16⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S4x128x128, .f32⟩
  | .hbm, ⟨24, _⟩ => ⟨S1x512, .f32⟩
  | .hbm, ⟨25, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S512x1024, .f32⟩
  | .local _ .vmem, ⟨6, _⟩ => ⟨S512x1024, .f32⟩
  | .local _ .vmem, ⟨7, _⟩ => ⟨S16x1024, .f32⟩
  | .local _ .vmem, ⟨8, _⟩ => ⟨S16x1024, .f32⟩
  | .local _ .vmem, ⟨9, _⟩ => ⟨S1x1024x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S4x128x128, .bf16⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S4x128x128, .f32⟩
  | .local _ .vmem, ⟨25, _⟩ => ⟨S1x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg12_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem12_0 : DmaSem sig := 25

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S4x128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S4x128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== OutProjRefIdeal.lean ====
abbrev S8192x512 : Shape := ⟨2, ![8192, 512]⟩
abbrev S4x128x128 : Shape := ⟨3, ![4, 128, 128]⟩
abbrev S1x512 : Shape := ⟨2, ![1, 512]⟩
abbrev S1024x1024 : Shape := ⟨2, ![1024, 1024]⟩
abbrev S8192x1024 : Shape := ⟨2, ![8192, 1024]⟩
abbrev S8192x4x128 : Shape := ⟨3, ![8192, 4, 128]⟩
abbrev S4x128x8192 : Shape := ⟨3, ![4, 128, 8192]⟩
abbrev S_ : Shape := ⟨0, ![]⟩
abbrev S512 : Shape := ⟨1, ![512]⟩
abbrev S4x8192x128 : Shape := ⟨3, ![4, 8192, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .bf16⟩
  | .hbm, ⟨3, _⟩ => ⟨S4x128x128, .f32⟩
  | .hbm, ⟨4, _⟩ => ⟨S1x512, .f32⟩
  | .hbm, ⟨5, _⟩ => ⟨S1024x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x4x128, .f32⟩
  | .hbm, ⟨10, _⟩ => ⟨S4x128x8192, .f32⟩
  | .hbm, ⟨11, _⟩ => ⟨S8192x4x128, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S1024x1024, .f32⟩
  | .hbm, ⟨19, _⟩ => ⟨S8192x1024, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x4x128, .f32⟩
  | .hbm, ⟨29, _⟩ => ⟨S4x128x8192, .f32⟩
  | .hbm, ⟨30, _⟩ => ⟨S4x8192x128, .f32⟩
  | .hbm, ⟨31, _⟩ => ⟨S8192x4x128, .f32⟩
  | .hbm, ⟨32, _⟩ => ⟨S4x128x128, .f32⟩
  | .hbm, ⟨33, _⟩ => ⟨S4x128x128, .f32⟩
  | .hbm, ⟨34, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== QkvBwd.lean ====
abbrev S8192x512 : Shape := ⟨2, ![8192, 512]⟩
abbrev S8192x3072 : Shape := ⟨2, ![8192, 3072]⟩
abbrev S8192 : Shape := ⟨1, ![8192]⟩
abbrev S1x128 : Shape := ⟨2, ![1, 128]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S512x512 : Shape := ⟨2, ![512, 512]⟩
abbrev S512x2048 : Shape := ⟨2, ![512, 2048]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S128 : Shape := ⟨1, ![128]⟩

abbrev nBuf : Space → Nat
  | .hbm => 46
  | .vmem => 32
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x3072, .f32⟩
  | .hbm, ⟨11, _⟩ => ⟨S8192, .i32⟩
  | .hbm, ⟨12, _⟩ => ⟨S1x128, .f32⟩
  | .hbm, ⟨13, _⟩ => ⟨S1x128, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S8192, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S_, .f32⟩
  | .hbm, ⟨37, _⟩ => ⟨S8192x96, .f32⟩
  | .hbm, ⟨38, _⟩ => ⟨S8192x128, .f32⟩
  | .hbm, ⟨39, _⟩ => ⟨S8192x16, .f32⟩
  | .hbm, ⟨40, _⟩ => ⟨S_, .f32⟩
  | .hbm, ⟨41, _⟩ => ⟨S8192x96, .f32⟩
  | .hbm, ⟨42, _⟩ => ⟨S8192x128, .f32⟩
  | .hbm, ⟨43, _⟩ => ⟨S8192x3072, .bf16⟩
  | .hbm, ⟨44, _⟩ => ⟨S1x128, .f32⟩
  | .hbm, ⟨45, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x2048, .f32⟩
  | .local _ .vmem, ⟨21, _⟩ => ⟨S512x2048, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S1x128, .f32⟩
  | .local _ .vmem, ⟨27, _⟩ => ⟨S1x128, .f32⟩
  | .local _ .vmem, ⟨28, _⟩ => ⟨S512x3072, .bf16⟩
  | .local _ .vmem, ⟨29, _⟩ => ⟨S512x3072, .bf16⟩
  | .local _ .vmem, ⟨30, _⟩ => ⟨S1x128, .f32⟩
  | .local _ .vmem, ⟨31, _⟩ => ⟨S1x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_v23_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem17_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== QkvBwdRefIdeal.lean ====
abbrev S8192x512 : Shape := ⟨2, ![8192, 512]⟩
abbrev S8192x3072 : Shape := ⟨2, ![8192, 3072]⟩
abbrev S8192 : Shape := ⟨1, ![8192]⟩
abbrev S1x128 : Shape := ⟨2, ![1, 128]⟩
abbrev S16 : Shape := ⟨1, ![16]⟩
abbrev S_ : Shape := ⟨0, ![]⟩
abbrev S1x8192 : Shape := ⟨2, ![1, 8192]⟩
abbrev S1x8192x1 : Shape := ⟨3, ![1, 8192, 1]⟩
abbrev S1x1x16 : Shape := ⟨3, ![1, 1, 16]⟩
abbrev S1x8192x16 : Shape := ⟨3, ![1, 8192, 16]⟩
abbrev S1x8192x3072 : Shape := ⟨3, ![1, 8192, 3072]⟩
abbrev S1x8192x1536 : Shape := ⟨3, ![1, 8192, 1536]⟩
abbrev S1x8192x512 : Shape := ⟨3, ![1, 8192, 512]⟩
abbrev S1x8192x12x128 : Shape := ⟨4, ![1, 8192, 12, 128]⟩
abbrev S1x8192x4x128 : Shape := ⟨4, ![1, 8192, 4, 128]⟩
abbrev S1x8192x12 : Shape := ⟨3, ![1, 8192, 12]⟩
abbrev S1x8192x12x1 : Shape := ⟨4, ![1, 8192, 12, 1]⟩
abbrev S1x1x1x128 : Shape := ⟨4, ![1, 1, 1, 128]⟩
abbrev S1x8192x1x16 : Shape := ⟨4, ![1, 8192, 1, 16]⟩
abbrev S1x8192x12x32 : Shape := ⟨4, ![1, 8192, 12, 32]⟩
abbrev S1x8192x12x16 : Shape := ⟨4, ![1, 8192, 12, 16]⟩
abbrev S1x8192x12x96 : Shape := ⟨4, ![1, 8192, 12, 96]⟩
abbrev S1x8192x4 : Shape := ⟨3, ![1, 8192, 4]⟩
abbrev S1x8192x4x1 : Shape := ⟨4, ![1, 8192, 4, 1]⟩
abbrev S1x8192x4x32 : Shape := ⟨4, ![1, 8192, 4, 32]⟩
abbrev S1x8192x4x16 : Shape := ⟨4, ![1, 8192, 4, 16]⟩
abbrev S1x8192x4x96 : Shape := ⟨4, ![1, 8192, 4, 96]⟩
abbrev S8192x1536 : Shape := ⟨2, ![8192, 1536]⟩
abbrev S128 : Shape := ⟨1, ![128]⟩
abbrev S8192x4 : Shape := ⟨2, ![8192, 4]⟩
abbrev S8192x12 : Shape := ⟨2, ![8192, 12]⟩

abbrev nBuf : Space → Nat
  | .hbm => 252
  | .vmem => 0
  | .smem => 0
  | _ => 0

abbrev hbmTy0_0 (i : Nat) : BufTy := match i % 128 with
  | 0 => ⟨S8192x512, .bf16⟩
  | 1 => ⟨S8192x512, .f32⟩
  | 2 => ⟨S8192x512, .f32⟩
  | 3 => ⟨S8192x512, .bf16⟩
  | 4 => ⟨S8192x512, .f32⟩
  | 5 => ⟨S8192x512, .f32⟩
  | 6 => ⟨S8192x512, .bf16⟩
  | 7 => ⟨S8192x512, .f32⟩
  | 8 => ⟨S8192x512, .f32⟩
  | 9 => ⟨S8192x512, .f32⟩
  | 10 => ⟨S8192x3072, .f32⟩
  | 11 => ⟨S8192, .i32⟩
  | 12 => ⟨S1x128, .f32⟩
  | 13 => ⟨S1x128, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S1x8192, .i32⟩
  | 29 => ⟨S1x8192, .f32⟩
  | 30 => ⟨S1x8192x1, .f32⟩
  | 31 => ⟨S1x1x16, .f32⟩
  | 32 => ⟨S1x8192x16, .f32⟩
  | 33 => ⟨S1x8192x16, .f32⟩
  | 34 => ⟨S1x8192x16, .f32⟩
  | 35 => ⟨S1x8192x16, .f32⟩
  | 36 => ⟨S1x8192x16, .f32⟩
  | 37 => ⟨S1x8192x3072, .f32⟩
  | 38 => ⟨S1x8192x1536, .f32⟩
  | 39 => ⟨S1x8192x512, .f32⟩
  | 40 => ⟨S1x8192x512, .f32⟩
  | 41 => ⟨S1x8192x512, .f32⟩
  | 42 => ⟨S1x8192x12x128, .f32⟩
  | 43 => ⟨S1x8192x4x128, .f32⟩
  | 44 => ⟨S1x8192x12x128, .f32⟩
  | 45 => ⟨S_, .f32⟩
  | 46 => ⟨S1x8192x12, .f32⟩
  | 47 => ⟨S1x8192x12x1, .f32⟩
  | 48 => ⟨S_, .f32⟩
  | 49 => ⟨S1x8192x12x1, .f32⟩
  | 50 => ⟨S1x8192x12x1, .f32⟩
  | 51 => ⟨S_, .f32⟩
  | 52 => ⟨S1x8192x12x1, .f32⟩
  | 53 => ⟨S1x8192x12x1, .f32⟩
  | 54 => ⟨S1x8192x12x1, .f32⟩
  | 55 => ⟨S1x8192x12x1, .f32⟩
  | 56 => ⟨S_, .f32⟩
  | 57 => ⟨S1x8192x12x1, .f32⟩
  | 58 => ⟨S1x8192x12x1, .f32⟩
  | 59 => ⟨S1x8192x12x128, .f32⟩
  | 60 => ⟨S1x8192x12x128, .f32⟩
  | 61 => ⟨S1x1x1x128, .f32⟩
  | 62 => ⟨S1x8192x12x128, .f32⟩
  | 63 => ⟨S1x8192x12x128, .f32⟩
  | 64 => ⟨S1x8192x1x16, .f32⟩
  | 65 => ⟨S1x8192x1x16, .f32⟩
  | 66 => ⟨S1x8192x12x32, .f32⟩
  | 67 => ⟨S1x8192x12x16, .f32⟩
  | 68 => ⟨S1x8192x12x16, .f32⟩
  | 69 => ⟨S1x8192x12x16, .f32⟩
  | 70 => ⟨S1x8192x12x16, .f32⟩
  | 71 => ⟨S1x8192x12x16, .f32⟩
  | 72 => ⟨S1x8192x12x16, .f32⟩
  | 73 => ⟨S1x8192x12x16, .f32⟩
  | 74 => ⟨S1x8192x12x16, .f32⟩
  | 75 => ⟨S1x8192x12x16, .f32⟩
  | 76 => ⟨S1x8192x12x16, .f32⟩
  | 77 => ⟨S1x8192x12x16, .f32⟩
  | 78 => ⟨S1x8192x12x16, .f32⟩
  | 79 => ⟨S1x8192x12x32, .f32⟩
  | 80 => ⟨S1x8192x12x96, .f32⟩
  | 81 => ⟨S1x8192x12x128, .f32⟩
  | 82 => ⟨S_, .f32⟩
  | 83 => ⟨S1x8192x12x128, .f32⟩
  | 84 => ⟨S1x8192x12x128, .f32⟩
  | 85 => ⟨S1x8192x4x128, .f32⟩
  | 86 => ⟨S_, .f32⟩
  | 87 => ⟨S1x8192x4, .f32⟩
  | 88 => ⟨S1x8192x4x1, .f32⟩
  | 89 => ⟨S_, .f32⟩
  | 90 => ⟨S1x8192x4x1, .f32⟩
  | 91 => ⟨S1x8192x4x1, .f32⟩
  | 92 => ⟨S_, .f32⟩
  | 93 => ⟨S1x8192x4x1, .f32⟩
  | 94 => ⟨S1x8192x4x1, .f32⟩
  | 95 => ⟨S1x8192x4x1, .f32⟩
  | 96 => ⟨S1x8192x4x1, .f32⟩
  | 97 => ⟨S_, .f32⟩
  | 98 => ⟨S1x8192x4x1, .f32⟩
  | 99 => ⟨S1x8192x4x1, .f32⟩
  | 100 => ⟨S1x8192x4x128, .f32⟩
  | 101 => ⟨S1x8192x4x128, .f32⟩
  | 102 => ⟨S1x1x1x128, .f32⟩
  | 103 => ⟨S1x8192x4x128, .f32⟩
  | 104 => ⟨S1x8192x4x128, .f32⟩
  | 105 => ⟨S1x8192x1x16, .f32⟩
  | 106 => ⟨S1x8192x1x16, .f32⟩
  | 107 => ⟨S1x8192x4x32, .f32⟩
  | 108 => ⟨S1x8192x4x16, .f32⟩
  | 109 => ⟨S1x8192x4x16, .f32⟩
  | 110 => ⟨S1x8192x4x16, .f32⟩
  | 111 => ⟨S1x8192x4x16, .f32⟩
  | 112 => ⟨S1x8192x4x16, .f32⟩
  | 113 => ⟨S1x8192x4x16, .f32⟩
  | 114 => ⟨S1x8192x4x16, .f32⟩
  | 115 => ⟨S1x8192x4x16, .f32⟩
  | 116 => ⟨S1x8192x4x16, .f32⟩
  | 117 => ⟨S1x8192x4x16, .f32⟩
  | 118 => ⟨S1x8192x4x16, .f32⟩
  | 119 => ⟨S1x8192x4x16, .f32⟩
  | 120 => ⟨S1x8192x4x32, .f32⟩
  | 121 => ⟨S1x8192x4x96, .f32⟩
  | 122 => ⟨S1x8192x4x128, .f32⟩
  | 123 => ⟨S8192x1536, .f32⟩
  | 124 => ⟨S8192x512, .f32⟩
  | 125 => ⟨S8192x512, .f32⟩
  | 126 => ⟨S8192x512, .f32⟩
  | 127 => ⟨S8192x512, .f32⟩
  | _ => ⟨S8192x512, .bf16⟩

abbrev hbmTy0_1 (i : Nat) : BufTy := match i % 128 with
  | 0 => ⟨S8192x1536, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S1x8192x512, .f32⟩
  | 8 => ⟨S1x8192x512, .f32⟩
  | 9 => ⟨S1x8192x4x128, .f32⟩
  | 10 => ⟨S1x8192x12x128, .f32⟩
  | 11 => ⟨S1x8192x4x32, .f32⟩
  | 12 => ⟨S1x8192x4x96, .f32⟩
  | 13 => ⟨S_, .f32⟩
  | 14 => ⟨S1x8192x4x128, .f32⟩
  | 15 => ⟨S1x8192x4x16, .f32⟩
  | 16 => ⟨S1x8192x4x16, .f32⟩
  | 17 => ⟨S1x8192x4x16, .f32⟩
  | 18 => ⟨S1x8192x4x16, .f32⟩
  | 19 => ⟨S1x8192x4x16, .f32⟩
  | 20 => ⟨S1x8192x4x16, .f32⟩
  | 21 => ⟨S1x8192x4x16, .f32⟩
  | 22 => ⟨S1x8192x4x16, .f32⟩
  | 23 => ⟨S1x8192x4x16, .f32⟩
  | 24 => ⟨S1x8192x4x16, .f32⟩
  | 25 => ⟨S1x8192x4x16, .f32⟩
  | 26 => ⟨S1x8192x4x16, .f32⟩
  | 27 => ⟨S1x8192x4x16, .f32⟩
  | 28 => ⟨S_, .f32⟩
  | 29 => ⟨S1x8192x4x32, .f32⟩
  | 30 => ⟨S_, .f32⟩
  | 31 => ⟨S1x8192x4x32, .f32⟩
  | 32 => ⟨S1x8192x4x32, .f32⟩
  | 33 => ⟨S_, .f32⟩
  | 34 => ⟨S1x8192x4x128, .f32⟩
  | 35 => ⟨S1x8192x4x128, .f32⟩
  | 36 => ⟨S1x8192x4x128, .f32⟩
  | 37 => ⟨S_, .f32⟩
  | 38 => ⟨S1x128, .f32⟩
  | 39 => ⟨S1x1x1x128, .f32⟩
  | 40 => ⟨S1x8192x4x128, .f32⟩
  | 41 => ⟨S1x8192x4x128, .f32⟩
  | 42 => ⟨S_, .f32⟩
  | 43 => ⟨S128, .f32⟩
  | 44 => ⟨S1x128, .f32⟩
  | 45 => ⟨S1x8192x4x128, .f32⟩
  | 46 => ⟨S_, .f32⟩
  | 47 => ⟨S1x8192x4, .f32⟩
  | 48 => ⟨S1x8192x4x1, .f32⟩
  | 49 => ⟨S1x8192x4x128, .f32⟩
  | 50 => ⟨S1x8192x4x128, .f32⟩
  | 51 => ⟨S1x8192x4x1, .f32⟩
  | 52 => ⟨S_, .f32⟩
  | 53 => ⟨S1x8192x4x1, .f32⟩
  | 54 => ⟨S1x8192x4x1, .f32⟩
  | 55 => ⟨S_, .f32⟩
  | 56 => ⟨S8192x4, .f32⟩
  | 57 => ⟨S1x8192x4, .f32⟩
  | 58 => ⟨S1x8192x4x128, .f32⟩
  | 59 => ⟨S1x8192x4x128, .f32⟩
  | 60 => ⟨S1x8192x4x128, .f32⟩
  | 61 => ⟨S1x8192x4x128, .f32⟩
  | 62 => ⟨S1x8192x4x128, .f32⟩
  | 63 => ⟨S_, .f32⟩
  | 64 => ⟨S1x8192x12x128, .f32⟩
  | 65 => ⟨S1x8192x12x128, .f32⟩
  | 66 => ⟨S1x8192x12x32, .f32⟩
  | 67 => ⟨S1x8192x12x96, .f32⟩
  | 68 => ⟨S_, .f32⟩
  | 69 => ⟨S1x8192x12x128, .f32⟩
  | 70 => ⟨S1x8192x12x16, .f32⟩
  | 71 => ⟨S1x8192x12x16, .f32⟩
  | 72 => ⟨S1x8192x12x16, .f32⟩
  | 73 => ⟨S1x8192x12x16, .f32⟩
  | 74 => ⟨S1x8192x12x16, .f32⟩
  | 75 => ⟨S1x8192x12x16, .f32⟩
  | 76 => ⟨S1x8192x12x16, .f32⟩
  | 77 => ⟨S1x8192x12x16, .f32⟩
  | 78 => ⟨S1x8192x12x16, .f32⟩
  | 79 => ⟨S1x8192x12x16, .f32⟩
  | 80 => ⟨S1x8192x12x16, .f32⟩
  | 81 => ⟨S1x8192x12x16, .f32⟩
  | 82 => ⟨S1x8192x12x16, .f32⟩
  | 83 => ⟨S_, .f32⟩
  | 84 => ⟨S1x8192x12x32, .f32⟩
  | 85 => ⟨S_, .f32⟩
  | 86 => ⟨S1x8192x12x32, .f32⟩
  | 87 => ⟨S1x8192x12x32, .f32⟩
  | 88 => ⟨S_, .f32⟩
  | 89 => ⟨S1x8192x12x128, .f32⟩
  | 90 => ⟨S1x8192x12x128, .f32⟩
  | 91 => ⟨S1x8192x12x128, .f32⟩
  | 92 => ⟨S_, .f32⟩
  | 93 => ⟨S1x128, .f32⟩
  | 94 => ⟨S1x1x1x128, .f32⟩
  | 95 => ⟨S1x8192x12x128, .f32⟩
  | 96 => ⟨S1x8192x12x128, .f32⟩
  | 97 => ⟨S_, .f32⟩
  | 98 => ⟨S128, .f32⟩
  | 99 => ⟨S1x128, .f32⟩
  | 100 => ⟨S1x8192x12x128, .f32⟩
  | 101 => ⟨S_, .f32⟩
  | 102 => ⟨S1x8192x12, .f32⟩
  | 103 => ⟨S1x8192x12x1, .f32⟩
  | 104 => ⟨S1x8192x12x128, .f32⟩
  | 105 => ⟨S1x8192x12x128, .f32⟩
  | 106 => ⟨S1x8192x12x1, .f32⟩
  | 107 => ⟨S_, .f32⟩
  | 108 => ⟨S1x8192x12x1, .f32⟩
  | 109 => ⟨S1x8192x12x1, .f32⟩
  | 110 => ⟨S_, .f32⟩
  | 111 => ⟨S8192x12, .f32⟩
  | 112 => ⟨S1x8192x12, .f32⟩
  | 113 => ⟨S1x8192x12x128, .f32⟩
  | 114 => ⟨S1x8192x12x128, .f32⟩
  | 115 => ⟨S1x8192x12x128, .f32⟩
  | 116 => ⟨S1x8192x12x128, .f32⟩
  | 117 => ⟨S1x8192x12x128, .f32⟩
  | 118 => ⟨S1x8192x512, .f32⟩
  | 119 => ⟨S1x8192x1536, .f32⟩
  | 120 => ⟨S1x8192x3072, .f32⟩
  | 121 => ⟨S_, .f32⟩
  | 122 => ⟨S8192x3072, .f32⟩
  | 123 => ⟨S8192x3072, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_cst_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_12 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_13 : Ref sig .tc := ⟨.hbm, 156, rfl⟩
abbrev main_v128 : Ref sig .tc := ⟨.hbm, 157, rfl⟩
abbrev main_cst_14 : Ref sig .tc := ⟨.hbm, 158, rfl⟩
abbrev main_v129 : Ref sig .tc := ⟨.hbm, 159, rfl⟩
abbrev main_v130 : Ref sig .tc := ⟨.hbm, 160, rfl⟩
abbrev main_cst_15 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_16 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_17 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_cst_18 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_19 : Ref sig .tc := ⟨.hbm, 180, rfl⟩
abbrev main_v146 : Ref sig .tc := ⟨.hbm, 181, rfl⟩
abbrev main_v147 : Ref sig .tc := ⟨.hbm, 182, rfl⟩
abbrev main_cst_20 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_21 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_22 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_23 : Ref sig .tc := ⟨.hbm, 211, rfl⟩
abbrev main_v173 : Ref sig .tc := ⟨.hbm, 212, rfl⟩
abbrev main_cst_24 : Ref sig .tc := ⟨.hbm, 213, rfl⟩
abbrev main_v174 : Ref sig .tc := ⟨.hbm, 214, rfl⟩
abbrev main_v175 : Ref sig .tc := ⟨.hbm, 215, rfl⟩
abbrev main_cst_25 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_cst_26 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_cst_27 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_cst_28 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_cst_29 : Ref sig .tc := ⟨.hbm, 235, rfl⟩
abbrev main_v191 : Ref sig .tc := ⟨.hbm, 236, rfl⟩
abbrev main_v192 : Ref sig .tc := ⟨.hbm, 237, rfl⟩
abbrev main_cst_30 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_cst_31 : Ref sig .tc := ⟨.hbm, 249, rfl⟩
abbrev main_v203 : Ref sig .tc := ⟨.hbm, 250, rfl⟩
abbrev main_v204 : Ref sig .tc := ⟨.hbm, 251, rfl⟩

abbrev nD : Nat := 1
abbrev τ : Topo := Topo.v7x

variable {F : FTy → Type} [FloatOps F]
-- ==== Proof.Model.lean ====
/-
  The feed-forward layer with its squared-error loss over the REAL numbers: the values at which the kernel's and the
  reference's results meet. Everything but the weight gradients is a function of one token's row.
-/
module

public import Idealize.ShloMosaic.PureOps.Ideal

@[expose] public section

noncomputable section

namespace Cert.Ffn

/-- The number added to the mean square under the root: the single-precision value nearest to one millionth. -/
def eps : ℝ := 8796093 * 2 ^ (-43 : ℤ)

/-- The reciprocal root mean square of a row. -/
def rr (x : Fin 1024 → ℝ) : ℝ := (√((∑ k, x k * x k) / 1024 + eps))⁻¹

/-- The row scaled to root mean square one, without the gain. -/
def xh (x : Fin 1024 → ℝ) (k : Fin 1024) : ℝ := x k * rr x

/-- The normalised row: scaled and multiplied by the gain. -/
def xn (x g : Fin 1024 → ℝ) (k : Fin 1024) : ℝ := xh x k * g k

/-- Column `n` of a product of the normalised row with a weight matrix. -/
def lin (x g : Fin 1024 → ℝ) (w : Fin 1024 → ℕ → ℝ) (n : ℕ) : ℝ := ∑ k, xn x g k * w k n

/-- The logistic function. -/
def sig (z : ℝ) : ℝ := (1 + Real.exp (-z))⁻¹

/-- The gate's nonlinearity, `z` times its logistic. -/
def silu (z : ℝ) : ℝ := z * sig z

/-- The derivative of the activation in the gate value `z`, for an up value `u`. -/
def fac0 (z u : ℝ) : ℝ := u * (sig z + silu z * (1 - sig z))

/-- The two factors the backward pass takes: slab 0 the derivative in the gate, slab 1 the derivative in the up value. -/
def fac (e : ℕ) (z u : ℝ) : ℝ := if e = 0 then fac0 z u else silu z

/-- The activation: the up value (columns from 2816 on) times the gated gate value (the columns before them). -/
def act (x g : Fin 1024 → ℝ) (w : Fin 1024 → ℕ → ℝ) (n : ℕ) : ℝ := silu (lin x g w n) * lin x g w (2816 + n)

/-- The layer's output minus the target. -/
def err (x g : Fin 1024 → ℝ) (w : Fin 1024 → ℕ → ℝ) (wd : Fin 2816 → Fin 1024 → ℝ) (tg : Fin 1024 → ℝ)
    (k : Fin 1024) : ℝ := ((∑ n, act x g w n.val * wd n k) + x k) - tg k

/-- The loss's gradient in the layer's output. -/
def dy (x g : Fin 1024 → ℝ) (w : Fin 1024 → ℕ → ℝ) (wd : Fin 2816 → Fin 1024 → ℝ) (tg : Fin 1024 → ℝ)
    (k : Fin 1024) : ℝ := err x g w wd tg k * (1 / 1024)

/-- The gradient in column `n` of the gate (`e = 0`) or the up value (`e = 1`), from the loss's gradient `d` in the layer's
output, the down projection and the factor the forward pass kept. -/
def dz (d : Fin 1024 → ℝ) (wd : ℕ → Fin 1024 → ℝ) (f : ℕ → ℕ → ℝ) (e n : ℕ) : ℝ := (∑ k, d k * wd n k) * f e n

/-- The gradient in the normalised row. -/
def dhn (d : Fin 1024 → ℝ) (wd : ℕ → Fin 1024 → ℝ) (f : ℕ → ℕ → ℝ) (w : Fin 1024 → ℕ → ℝ) (j : Fin 1024) : ℝ :=
  ∑ n : Fin 2816, (dz d wd f 0 n.val * w j n.val + dz d wd f 1 n.val * w j (2816 + n.val))

/-- The gradient in the row itself, from the gradient `v` in the normalised row and the residual's `d`. -/
def dx (x g v d : Fin 1024 → ℝ) (k : Fin 1024) : ℝ :=
  rr x * (v k * g k - xh x k * ((∑ j, v j * g j * xh x j) / 1024)) + d k

end Cert.Ffn

end
-- ==== Proof.Coe.lean ====
/-
  Operations of the extended reals on the coercions of real numbers: what each is the coercion of.
-/
module

public import proofs.«01_k».proof.Proof.Model
public import Idealize.ShloMosaic.PureOps.Ideal
public import Idealize.ShloMosaic.Lib.Pointwise

@[expose] public section

set_option maxRecDepth 16384

noncomputable section

open Idealize.ShloMosaic

namespace Cert.Ffn

/-- A finite sum of coercions is the coercion of the sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The word of the number added under the root denotes it. -/
theorem eps_val : Ideal.ofBits .f32 0x358637BD#32 = ((eps : ℝ) : EReal) := by
  simp [Ideal.ofBits, Ideal.ieee, -EReal.coe_mul, eps]
  try norm_num

/-- The word of 1024. -/
theorem k_val : Ideal.ofBits .f32 0x44800000#32 = ((1024 : ℝ) : EReal) := by
  simp [Ideal.ofBits, Ideal.ieee, -EReal.coe_mul]
  try norm_num

/-- The word of one. -/
theorem one_val : Ideal.ofBits .f32 0x3F800000#32 = ((1 : ℝ) : EReal) := by
  simp [Ideal.ofBits, Ideal.ieee, -EReal.coe_mul]
  try norm_num

/-- The word of zero. -/
theorem zero_val : Ideal.ofBits .f32 0x00000000#32 = ((0 : ℝ) : EReal) := by
  simp [Ideal.ofBits, Ideal.ieee, -EReal.coe_mul]

/-- The word of one 1024th. -/
theorem ik_val : Ideal.ofBits .f32 0x3A800000#32 = ((1 / 1024 : ℝ) : EReal) := by
  simp [Ideal.ofBits, Ideal.ieee, -EReal.coe_mul]
  try norm_num

/-- The word of one half. -/
theorem half_val : Ideal.ofBits .f32 0x3F000000#32 = ((1 / 2 : ℝ) : EReal) := by
  simp [Ideal.ofBits, Ideal.ieee, -EReal.coe_mul]
  try norm_num

theorem eps_pos : 0 < eps := by unfold eps; positivity

/-- A quotient of coercions by a number that is not zero. -/
theorem div_coe (x : ℝ) {y : ℝ} (h : y ≠ 0) : Ideal.div (x : EReal) (y : EReal) = ((x / y : ℝ) : EReal) := by
  rw [Ideal.div_coe h, ← EReal.coe_mul]; congr 1; field_simp

/-- The reciprocal root of a positive number. -/
theorem rsqrt_coe {y : ℝ} (h : 0 < y) : Ideal.rsqrt (y : EReal) = (((√y)⁻¹ : ℝ) : EReal) := by
  rw [Ideal.rsqrt_coe, if_neg (not_lt.mpr h.le), if_neg h.ne']

/-- The mean square with the small number added is positive. -/
theorem ms_pos (x : Fin 1024 → ℝ) : 0 < (∑ k, x k * x k) / 1024 + eps := by
  have h : 0 ≤ ∑ k, x k * x k := Finset.sum_nonneg fun k _ => mul_self_nonneg _
  have := eps_pos
  positivity

/-- One plus an exponential is not zero. -/
theorem one_add_exp_ne (z : ℝ) : 1 + Real.exp z ≠ 0 := by positivity

/-- The logistic function as the kernel spells it. -/
theorem sig_coe (z : ℝ) : Ideal.div ((1 : ℝ) : EReal) (((1 : ℝ) : EReal) + Ideal.exp (0 - (z : EReal))) = ((sig z : ℝ) : EReal) := by
  rw [← EReal.coe_zero, ← EReal.coe_sub, Ideal.exp_coe, ← EReal.coe_add, div_coe _ (one_add_exp_ne _)]
  simp [sig]

end Cert.Ffn

end
-- ==== Proof.Rows.lean ====
/-
  What the backward pass takes of one token, and two more words.
-/
module

public import proofs.«01_k».proof.Proof.Coe

@[expose] public section

set_option maxRecDepth 16384

noncomputable section

open Idealize.ShloMosaic

namespace Cert.Ffn

variable (x tg : Fin 8192 → Fin 1024 → ℝ) (g : Fin 1024 → ℝ) (w : Fin 1024 → ℕ → ℝ) (wd : ℕ → Fin 1024 → ℝ)

/-- The loss's gradient in the layer's output, of one token. -/
def dyR (r : Fin 8192) : Fin 1024 → ℝ := dy (x r) g w (fun n => wd n.val) (tg r)

/-- The two factors the forward pass keeps, of one token. -/
def facR (r : Fin 8192) (e n : ℕ) : ℝ := fac e (lin (x r) g w n) (lin (x r) g w (2816 + n))

/-- The word of minus one half. -/
theorem neg_half_val : Ideal.ofBits .f32 0xBF000000#32 = ((-(1 / 2) : ℝ) : EReal) := by
  simp [Ideal.ofBits, Ideal.ieee, -EReal.coe_mul, -EReal.coe_neg]
  try norm_num

/-- The word of two. -/
theorem two_val : Ideal.ofBits .f32 0x40000000#32 = ((2 : ℝ) : EReal) := by
  simp [Ideal.ofBits, Ideal.ieee, -EReal.coe_mul]
  try norm_num

end Cert.Ffn

end
-- ==== Proof.Norm.lean ====
/-
  A normalised row of any length and its gradient over the extended reals, for any row: the two spellings of the gradient agree
  also where the row or what arrives is infinite, since the reciprocal root mean square is always a nonnegative real number.
-/
module

public import proofs.«01_k».proof.Proof.Rows

@[expose] public section

set_option maxRecDepth 16384

noncomputable section

open Idealize.ShloMosaic

namespace Cert.Norm

/-- A sum times a nonnegative real number. -/
theorem sum_mul_coe {ι : Type*} (s : Finset ι) (f : ι → EReal) {ρ : ℝ} (h : 0 ≤ ρ) :
    (∑ i ∈ s, f i * (ρ : EReal)) = (∑ i ∈ s, f i) * (ρ : EReal) := by
  classical
  induction s using Finset.induction_on with
  | empty => simp
  | insert a s ha ih =>
    rw [Finset.sum_insert ha, Finset.sum_insert ha, ih, mul_comm (f a + _), mul_comm (f a), mul_comm (∑ i ∈ s, f i),
      EReal.left_distrib_of_nonneg_of_ne_top (by exact_mod_cast h) (EReal.coe_ne_top _)]

theorem mul_self_nn (a : EReal) : 0 ≤ a * a := by
  induction a with
  | bot => simp
  | top => simp
  | coe a => rw [← EReal.coe_mul]; exact_mod_cast mul_self_nonneg a

variable {n : ℕ} (κ : EReal)

/-- The mean square of a row, its length `κ`, with the small number added. -/
def ms (x : Fin n → EReal) : EReal := Ideal.div (∑ k, x k * x k) κ + Ideal.ofBits .f32 0x358637BD#32
/-- The reciprocal root mean square of a row. -/
def rr (x : Fin n → EReal) : EReal := Ideal.rsqrt (ms κ x)
/-- A row scaled to root mean square one. -/
def xh (x : Fin n → EReal) (k : Fin n) : EReal := x k * rr κ x
/-- The normalised row. -/
def xn (x g : Fin n → EReal) (k : Fin n) : EReal := xh κ x k * g k
/-- The gradient in a row, from the gradient in its normalised row. -/
def ng (x g d : Fin n → EReal) (k : Fin n) : EReal :=
  rr κ x * (d k * g k - xh κ x k * Ideal.div (∑ j, d j * g j * xh κ x j) κ)
/-- What every entry of a row takes through the derivative of the reciprocal root. -/
def nt (x g d : Fin n → EReal) : EReal :=
  Ideal.div ((∑ j, x j * (d j * g j)) * (Ideal.ofBits .f32 0xBF000000#32 * Ideal.div (rr κ x) (ms κ x))) κ
/-- The gradient in a row as the chain rule spells it. -/
def ng' (x g d : Fin n → EReal) (k : Fin n) : EReal := d k * g k * rr κ x + x k * nt κ x g d + nt κ x g d * x k

variable {κ} {N : ℝ} (hκ : κ = (N : EReal)) (hN : 0 < N)

include hκ hN in
/-- Either the mean square is infinite, or the row is real and the mean square is real and positive. -/
theorem ms_cases (x : Fin n → EReal) : ms κ x = ⊤ ∨ ∃ (y : Fin n → ℝ) (v : ℝ), (∀ k, x k = (y k : EReal)) ∧ 0 < v ∧ ms κ x = (v : EReal) := by
  by_cases ht : (∑ k, x k * x k) = ⊤
  · left
    rw [ms, ht, hκ, Ffn.eps_val, Ideal.div_coe hN.ne']
    rw [EReal.top_mul_coe_of_pos (by positivity), EReal.top_add_coe]
  · right
    have hx : ∀ k, ∃ r : ℝ, x k = (r : EReal) := fun k => by
      have hk : x k * x k ≠ ⊤ := fun h => ht (top_le_iff.mp (h ▸ Finset.single_le_sum (f := fun k => x k * x k) (fun k _ => mul_self_nn (x k)) (Finset.mem_univ k)))
      induction hk' : x k with
      | bot => rw [hk'] at hk; simp at hk
      | top => rw [hk'] at hk; simp at hk
      | coe r => exact ⟨r, rfl⟩
    choose y hy using hx
    have h0 : 0 ≤ ∑ k, y k * y k := Finset.sum_nonneg fun k _ => mul_self_nonneg _
    have he := Ffn.eps_pos
    refine ⟨y, (∑ k, y k * y k) / N + Ffn.eps, hy, by positivity, ?_⟩
    rw [ms, hκ, Ffn.eps_val]
    simp only [hy, ← EReal.coe_mul, Ffn.coe_sum, Ffn.div_coe _ hN.ne', ← EReal.coe_add]

include hκ hN in
/-- A scaled row is real, whatever the row. -/
theorem xh_real (x : Fin n → EReal) (k : Fin n) : ∃ r : ℝ, xh κ x k = (r : EReal) := by
  rcases ms_cases hκ hN x with h | ⟨y, v, hy, hv, h⟩
  · exact ⟨0, by rw [xh, rr, h, Ideal.rsqrt_top, mul_zero, EReal.coe_zero]⟩
  · exact ⟨y k * (√v)⁻¹, by rw [xh, rr, h, Ffn.rsqrt_coe hv, hy, EReal.coe_mul]⟩

include hκ hN in
/-- The two spellings of the gradient agree. -/
theorem ng_eq (x g d : Fin n → EReal) (k : Fin n) : ng' κ x g d k = ng κ x g d k := by
  rcases ms_cases hκ hN x with h | ⟨y, v, hy, hv, h⟩
  · have hr : rr κ x = 0 := by rw [rr, h, Ideal.rsqrt_top]
    have hz : Ideal.div 0 κ = 0 := by rw [hκ, Ideal.div_coe hN.ne', zero_mul]
    have hd : Ideal.div 0 (⊤ : EReal) = 0 := by rw [Ideal.div, if_neg EReal.top_ne_zero, zero_mul]
    unfold ng' ng nt
    simp only [hr, h, xh, mul_zero, zero_mul, hd, hz, add_zero]
  · obtain ⟨ρ, hρ⟩ : ∃ ρ : ℝ, ρ = (√v)⁻¹ := ⟨_, rfl⟩
    have hρ0 : 0 < ρ := by rw [hρ]; positivity
    have hr : rr κ x = (ρ : EReal) := by rw [rr, h, Ffn.rsqrt_coe hv, hρ]
    have hv' : ρ / v = ρ * ρ * ρ := by
      have hs : √v * √v = v := Real.mul_self_sqrt hv.le
      have hs0 : √v ≠ 0 := (Real.sqrt_pos.mpr hv).ne'
      rw [hρ]
      field_simp
      nlinarith [hs]
    have hS : (∑ j, d j * g j * xh κ x j) = (∑ j, x j * (d j * g j)) * (ρ : EReal) := by
      rw [← sum_mul_coe _ _ hρ0.le]
      refine Finset.sum_congr rfl fun j _ => ?_
      rw [xh, hr, ← mul_assoc, mul_comm (d j * g j) (x j)]
    unfold ng' ng nt
    rw [hS, xh, hr, h, hκ, Ffn.neg_half_val, Ffn.div_coe _ hv.ne', hv', hy k, Ideal.div_coe hN.ne',
      Ideal.div_coe hN.ne']
    generalize (∑ j, x j * (d j * g j)) = S
    generalize d k * g k = D
    generalize y k = a
    have h1 : (a : EReal) * (S * (((-(1/2) : ℝ) : EReal) * ((ρ * ρ * ρ : ℝ) : EReal)) * ((1 / N : ℝ) : EReal))
        = S * ((-(1/2) * (a * ρ * ρ * ρ / N) : ℝ) : EReal) := by
      rw [← EReal.coe_mul, mul_assoc, ← EReal.coe_mul, mul_comm (a : EReal), mul_assoc, ← EReal.coe_mul]
      congr 2
      ring
    have h2 : (ρ : EReal) * (D - (a : EReal) * (ρ : EReal) * (S * (ρ : EReal) * ((1 / N : ℝ) : EReal)))
        = D * (ρ : EReal) + S * ((-(a * ρ * ρ * ρ / N) : ℝ) : EReal) := by
      rw [sub_eq_add_neg, EReal.left_distrib_of_nonneg_of_ne_top (by exact_mod_cast hρ0.le) (EReal.coe_ne_top _), mul_comm (ρ : EReal) D]
      congr 1
      rw [mul_neg, ← EReal.coe_mul, mul_assoc S, ← EReal.coe_mul, mul_left_comm, ← mul_assoc, ← mul_assoc, mul_comm _ S]
      rw [EReal.coe_neg, mul_neg, mul_assoc, mul_assoc, ← EReal.coe_mul, ← EReal.coe_mul]
      congr 3
      ring
    have h3 : ∀ t : ℝ, S * ((-(1/2) * t : ℝ) : EReal) + S * ((-(1/2) * t : ℝ) : EReal) = S * ((-t : ℝ) : EReal) := fun t => by
      have e1 : S * ((-t : ℝ) : EReal) = ((1 + 1 : ℝ) : EReal) * (S * ((-(1/2) * t : ℝ) : EReal)) := by
        rw [mul_left_comm, ← EReal.coe_mul]
        congr 2
        ring
      rw [e1, EReal.coe_add, EReal.right_distrib_of_nonneg (by norm_num) (by norm_num), EReal.coe_one, one_mul]
    rw [mul_comm _ (a : EReal), h1, h2, add_assoc, h3]

end Cert.Norm

end
-- ==== Proof.Cross.lean ====
/-
  Cross attention of one head over the extended reals and its gradient, for any rows and finite gains: the softmax weights are
  positive real numbers, so the two spellings of the output and of the scores' gradient agree whatever the values are.
-/
module

public import proofs.«01_k».proof.Proof.Norm

@[expose] public section

set_option maxRecDepth 16384

noncomputable section

open Idealize.ShloMosaic

namespace Cert.Cross
open Cert.Norm

/-- The length of a head's row. -/
abbrev c128 : EReal := Ideal.ofBits .f32 0x43000000#32
/-- The length of a token's row. -/
abbrev c1024 : EReal := Ideal.ofBits .f32 0x44800000#32
/-- The scale of the scores. -/
abbrev scl : EReal := Ideal.ofBits .f32 0x3DB504F3#32

theorem c128_val : c128 = ((128 : ℝ) : EReal) := by
  simp [Ideal.ofBits, Ideal.ieee, -EReal.coe_mul]
  try norm_num
theorem scl_val : scl = ((11863283 * 2 ^ (-27 : ℤ) : ℝ) : EReal) := by
  simp [Ideal.ofBits, Ideal.ieee, -EReal.coe_mul]
  try norm_num
theorem scl_real : ∃ r : ℝ, scl = (r : EReal) := ⟨_, scl_val⟩
/-- The word of minus infinity. -/
theorem bot_val : Ideal.ofBits .f32 0xFF800000#32 = ⊥ := by
  simp [Ideal.ofBits, Ideal.ieee]

section
variable (x g y l : Fin 128 → EReal) (K V : Fin 256 → Fin 128 → EReal) (o : Fin 128 → EReal)

/-- A query row normalised and scaled. -/
def qn (d : Fin 128) : EReal := xn c128 x g d * scl
/-- The score of a query row with a key row. -/
def sc (m : Fin 256) : EReal := ∑ d, qn x g d * xn c128 (K m) l d
/-- The greatest score. -/
def mx : EReal := Finset.univ.fold max (Ideal.ofBits .f32 0xFF800000#32) (sc x g l K)
/-- The exponential of a score less the greatest. -/
def pr (m : Fin 256) : EReal := Ideal.exp (sc x g l K m - mx x g l K)
/-- The sum of the exponentials. -/
def sm : EReal := ∑ m, pr x g l K m
/-- The softmax weight. -/
def yy (m : Fin 256) : EReal := Ideal.div (pr x g l K m) (sm x g l K)
/-- The output row, divided after the sum. -/
def oo (d : Fin 128) : EReal := Ideal.div (∑ m, pr x g l K m * V m d) (sm x g l K)
/-- The gradient in a weight. -/
def dp (m : Fin 256) : EReal := ∑ d, o d * V m d
/-- The gradient in a score. -/
def ds (m : Fin 256) : EReal := yy x g l K m * (dp V o m - ∑ j, dp V o j * yy x g l K j)
/-- The gradient in the normalised query row. -/
def dn (d : Fin 128) : EReal := (∑ m, ds x g l K V o m * xn c128 (K m) l d) * scl
/-- The gradient in the query row. -/
def dq (d : Fin 128) : EReal := ng c128 x g (dn x g l K V o) d

/-- The output row, weights first. -/
def oo' (d : Fin 128) : EReal := ∑ m, yy x g l K m * V m d
/-- The gradient in a score as the chain rule spells it. -/
def ds' (m : Fin 256) : EReal :=
  (Ideal.div (dp V o m) (sm x g l K) + -(∑ j, dp V o j * Ideal.div 1 (sm x g l K * sm x g l K) * pr x g l K j)) * pr x g l K m

variable {g l} (hg : ∀ d, ∃ r : ℝ, g d = (r : EReal)) (hl : ∀ d, ∃ r : ℝ, l d = (r : EReal))

include hg hl in
/-- The scores are real. -/
theorem sc_real (m : Fin 256) : ∃ r : ℝ, sc x g l K m = (r : EReal) := by
  have h : ∀ d, ∃ r : ℝ, qn x g d * xn c128 (K m) l d = (r : EReal) := fun d => by
    obtain ⟨a, ha⟩ := hg d
    obtain ⟨b, hb⟩ := hl d
    obtain ⟨s, hs⟩ := scl_real
    obtain ⟨u, hu⟩ := xh_real c128_val (by norm_num) x d
    obtain ⟨v, hv⟩ := xh_real c128_val (by norm_num) (K m) d
    exact ⟨u * a * s * (v * b), by rw [qn, xn, xn, hu, hv, ha, hb, hs]; simp only [EReal.coe_mul]⟩
  choose f hf using h
  exact ⟨∑ d, f d, by rw [sc]; simp only [hf, Ffn.coe_sum]⟩

include hg hl in
/-- The exponentials are positive real numbers, and so is their sum. -/
theorem pr_real : ∃ (p : Fin 256 → ℝ) (s : ℝ), (∀ m, 0 < p m) ∧ 0 < s ∧ (∀ m, pr x g l K m = (p m : EReal)) ∧ sm x g l K = (s : EReal) := by
  choose f hf using sc_real x K hg hl
  obtain ⟨M, hM⟩ : ∃ M : ℝ, mx x g l K = (M : EReal) := by
    have hs : mx x g l K = Finset.univ.sup (sc x g l K) := by rw [mx, bot_val]; rfl
    obtain ⟨j, -, hj⟩ := Finset.exists_mem_eq_sup (Finset.univ : Finset (Fin 256)) ⟨0, Finset.mem_univ _⟩ (sc x g l K)
    exact ⟨f j, by rw [hs, hj, hf]⟩
  refine ⟨fun m => Real.exp (f m - M), ∑ m, Real.exp (f m - M), fun m => Real.exp_pos _,
    Finset.sum_pos (fun m _ => Real.exp_pos _) ⟨0, Finset.mem_univ _⟩, fun m => ?_, ?_⟩
  · rw [pr, hM, hf, ← EReal.coe_sub, Ideal.exp_coe]
  · rw [sm, ← Ffn.coe_sum]
    refine Finset.sum_congr rfl fun m _ => ?_
    rw [pr, hM, hf, ← EReal.coe_sub, Ideal.exp_coe]

include hg hl in
/-- Dividing after the sum or before makes no difference. -/
theorem oo_eq (d : Fin 128) : oo' x g l K V d = oo x g l K V d := by
  obtain ⟨p, s, hp, hs, h1, h2⟩ := pr_real x K hg hl
  unfold oo' oo yy
  rw [h2, Ideal.div_coe hs.ne', ← sum_mul_coe _ _ (by positivity)]
  refine Finset.sum_congr rfl fun m _ => ?_
  rw [Ideal.div_coe hs.ne', mul_right_comm]

include hg hl in
/-- The two spellings of the gradient in a score agree. -/
theorem ds_eq (m : Fin 256) : ds' x g l K V o m = ds x g l K V o m := by
  obtain ⟨p, s, hp, hs, h1, h2⟩ := pr_real x K hg hl
  have hy : ∀ m, yy x g l K m = ((p m / s : ℝ) : EReal) := fun m => by rw [yy, h1, h2, Ffn.div_coe _ hs.ne']
  have e : (∑ j, dp V o j * Ideal.div 1 (sm x g l K * sm x g l K) * pr x g l K j)
      = (∑ j, dp V o j * yy x g l K j) * ((1 / s : ℝ) : EReal) := by
    rw [← sum_mul_coe _ _ (by positivity)]
    refine Finset.sum_congr rfl fun j _ => ?_
    rw [h1, h2, hy, ← EReal.coe_mul, ← EReal.coe_one, Ffn.div_coe _ (by positivity), mul_assoc, mul_assoc, ← EReal.coe_mul, ← EReal.coe_mul]
    congr 2
    field_simp
  unfold ds' ds
  rw [e, h2, hy, h1, Ideal.div_coe hs.ne', ← EReal.neg_mul, ← EReal.right_distrib_of_nonneg_of_ne_top (by exact_mod_cast (by positivity : (0:ℝ) ≤ 1 / s)) (EReal.coe_ne_top _),
    ← sub_eq_add_neg, mul_assoc, ← EReal.coe_mul, mul_comm]
  congr 2
  field_simp
end

/-- The 128 columns of a row from `o` on. -/
def hd (x : ℕ → EReal) (o : ℕ) (d : Fin 128) : EReal := x (o + d.val)
/-- A row from the rows of its heads. -/
def cat (f : ℕ → Fin 128 → EReal) (n : ℕ) : EReal := f (n / 128) ⟨n % 128, Nat.mod_lt _ (by decide)⟩

theorem cat_at (f : ℕ → Fin 128 → EReal) (h : ℕ) (d : Fin 128) : cat f (128 * h + d.val) = f h d := by
  have h1 : (128 * h + d.val) / 128 = h := by omega
  have h2 : (⟨(128 * h + d.val) % 128, Nat.mod_lt _ (by decide)⟩ : Fin 128) = d := Fin.ext (by show (128 * h + d.val) % 128 = d.val; omega)
  rw [cat, h1, h2]

/-- A head of a row put together. -/
theorem hd_cat (f : ℕ → Fin 128 → EReal) (h : ℕ) : hd (cat f) (128 * h) = f h := funext fun d => cat_at f h d

section
variable (g l : Fin 128 → EReal) (kv : Fin 256 → ℕ → EReal) (q o : ℕ → EReal)

/-- The keys of a head. -/
def kk (h : ℕ) (m : Fin 256) : Fin 128 → EReal := hd (kv m) (128 * h)
/-- The values of a head. -/
def vv (h : ℕ) (m : Fin 256) : Fin 128 → EReal := hd (kv m) (512 + 128 * h)
/-- The output row of all heads. -/
def xo : ℕ → EReal := cat fun h => oo (hd q (128 * h)) g l (kk kv h) (vv kv h)
/-- The weights of a head. -/
def yh (h : ℕ) : Fin 256 → EReal := yy (hd q (128 * h)) g l (kk kv h)
/-- The gradient in the scores of a head. -/
def dsh (h : ℕ) : Fin 256 → EReal := ds (hd q (128 * h)) g l (kk kv h) (vv kv h) (hd o (128 * h))
/-- The gradient in the normalised query row of a head. -/
def dnh (h : ℕ) : Fin 128 → EReal := dn (hd q (128 * h)) g l (kk kv h) (vv kv h) (hd o (128 * h))
/-- The gradient in the query row of all heads. -/
def dqr : ℕ → EReal := cat fun h => ng c128 (hd q (128 * h)) g (dnh g l kv q o h)
/-- What a token adds to the gradient in the values. -/
def dvr (m : Fin 256) : ℕ → EReal := cat fun h d => yh g l kv q h m * hd o (128 * h) d
/-- What a token adds to the gradient in the normalised keys. -/
def dkr (m : Fin 256) : ℕ → EReal := cat fun h d => dsh g l kv q o h m * qn (hd q (128 * h)) g d
/-- What a token adds to the gradient in the query's gain. -/
def gqr (d : Fin 128) : EReal := ∑ h : Fin 4, dnh g l kv q o h.val d * xh c128 (hd q (128 * h.val)) d
end

/-- A row times a matrix. -/
def lin {n : ℕ} (x : Fin n → EReal) (w : Fin n → ℕ → EReal) (j : ℕ) : EReal := ∑ k, x k * w k j
/-- A row after the cross-attention. -/
def res (x : Fin 1024 → EReal) (z : ℕ → EReal) (w : ℕ → ℕ → EReal) (k : Fin 1024) : EReal := x k + ∑ n : Fin 512, z n.val * w n.val k.val
/-- A row of 1024 times a matrix transposed. -/
def linT (e : ℕ → EReal) (w : ℕ → ℕ → EReal) (n : ℕ) : EReal := ∑ k : Fin 1024, e k.val * w n k.val
/-- A row of 512 times a matrix transposed. -/
def dhn (d : ℕ → EReal) (w : Fin 1024 → ℕ → EReal) (k : Fin 1024) : EReal := ∑ n : Fin 512, d n.val * w k n.val
/-- A row of 1024 times a matrix transposed, as a row. -/
def dmn (d : ℕ → EReal) (w : Fin 1024 → ℕ → EReal) (k : Fin 1024) : EReal := ∑ n : Fin 1024, d n.val * w k n.val
/-- The gradient in the projected memory, from those in the normalised keys and in the values. -/
def dkv (l : Fin 128 → EReal) (kv dk dv : ℕ → EReal) (n : ℕ) : EReal :=
  if n < 512 then cat (fun h => ng c128 (hd kv (128 * h)) l (hd dk (128 * h))) n else dv (n - 512)

end Cert.Cross

end
-- ==== Proof.Rope.lean ====
/-
  The gradients entering the mixer's input projection, row by row over the extended reals: a rotated row's gradient taken back
  through the rotation, the scale and the norm.
-/
module

public import proofs.«01_k».proof.Proof.Cross

@[expose] public section

set_option maxRecDepth 16384

noncomputable section

open Idealize.ShloMosaic

namespace Cert.Rope
open Cert.Norm Cert.Cross

/-- The gradient in a row from the gradient in its rotated row: the first 32 entries turn back in pairs, by the angles whose
cosines and sines are given; the others pass. -/
def rot (c s : ℕ → EReal) (d : Fin 128 → EReal) (i : Fin 128) : EReal :=
  if h : i.val < 16 then d i * c i.val + d ⟨i.val + 16, by omega⟩ * s i.val
  else if i.val < 32 then d i * c (i.val - 16) + -(d ⟨i.val - 16, by omega⟩) * s (i.val - 16)
  else d i

/-- Three rows of 512 numbers side by side. -/
def cat3 (a b c : ℕ → EReal) (n : ℕ) : EReal := if n < 512 then a n else if n < 1024 then b (n - 512) else c (n - 1024)

/-- The gradients in a token's normalised queries: scaled and turned back. -/
def dqn (c s y : ℕ → EReal) (h : ℕ) : Fin 128 → EReal := rot c s fun i => hd y (128 * h) i * scl
/-- The gradients in a token's normalised keys: turned back. -/
def dkn (c s y : ℕ → EReal) (h : ℕ) : Fin 128 → EReal := rot c s (hd y (128 * h))

/-- The gradient in a token's projected row: twelve heads of queries, four of keys, the values and the pool's columns. -/
def dp (c s p yq yk yv yu : ℕ → EReal) (g l : Fin 128 → EReal) (n : ℕ) : EReal :=
  if n < 1536 then ng c128 (hd p (128 * (n / 128))) g (dqn c s yq (n / 128)) ⟨n % 128, Nat.mod_lt _ (by decide)⟩
  else if n < 2048 then ng c128 (hd p (128 * (n / 128))) l (dkn c s yk ((n - 1536) / 128)) ⟨n % 128, Nat.mod_lt _ (by decide)⟩
  else if n < 2560 then yv (n - 2048)
  else yu (n - 2560)

/-- What a token adds to the gradient in the queries' gain. -/
def gqr (c s p y : ℕ → EReal) (d : Fin 128) : EReal := ∑ h : Fin 12, dqn c s y h.val d * xh c128 (hd p (128 * h.val)) d
/-- What a token adds to the gradient in the keys' gain. -/
def gkr (c s p y : ℕ → EReal) (d : Fin 128) : EReal := ∑ h : Fin 4, dkn c s y h.val d * xh c128 (hd p (1536 + 128 * h.val)) d

end Cert.Rope

end
-- ==== Proof.QkvHead.lean ====
/-
  One head of the call entering the mixer's input projection over the extended reals, for any arguments: what is computed of a
  block of 512 rows. The sixteen heads are the same computation.
-/
module

public import proofs.«01_k».proof.Proof.Gen.QkvBwdIdeal.Skeleton
public import proofs.«01_k».proof.Proof.Rope
public import Idealize.ShloMosaic.Lib.Pipeline.ValueKit
public import Idealize.ShloMosaic.Lib.Pointwise
public import Idealize.ShloMosaic.Lib.KernelVsHost

@[expose] public section

set_option maxRecDepth 16384
noncomputable section
open Idealize.ShloMosaic Idealize.ShloMosaic.TcCoe Idealize.SL.Sem
namespace Cert.QkvBwdIdeal.Value
open Cert.QkvBwdIdeal Cert.QkvBwdIdeal.Gen Cert.Rope Cert.Cross Cert.Norm

/-- The gradient of a block of heads turned back by the tables of cosines and signed sines. -/
def hDn (C S Z : FVec Ideal S512x128 .f32) : FVec Ideal S512x128 .f32 :=
  addf (mulf Z C) (select (cmpi .slt (iota .tc S512x128 32 [1] iota_S512x128_d1_w32) (broadcast S512x128 16#32))
    (dynamicRotate 1 112#32 none (mulf Z S) rotates_S512x128_d1)
    (select (cmpi .slt (iota .tc S512x128 32 [1] iota_S512x128_d1_w32) (broadcast S512x128 32#32))
      (dynamicRotate 1 16#32 none (mulf Z S) rotates_S512x128_d1)
      (broadcast S512x128 (Scalar.ofBits (F := Ideal) .f32 0x00000000#32))))

/-- The table of cosines at a row. -/
def ctab (c : ℕ → EReal) (i : ℕ) : EReal := if i < 16 then c i else if i < 32 then c (i - 16) else 1
/-- The table of signed sines at a row. -/
def stab (s : ℕ → EReal) (i : ℕ) : EReal := if i < 16 then -s i else if i < 32 then s (i - 16) else 0

theorem cmp16 (i : Fin 128) : IntOp.cmpi .slt (BitVec.ofNat 32 i.val) 16#32 = if i.val < 16 then 1#1 else 0#1 := by
  revert i; decide
theorem cmp32 (i : Fin 128) : IntOp.cmpi .slt (BitVec.ofNat 32 i.val) 32#32 = if i.val < 32 then 1#1 else 0#1 := by
  revert i; decide

theorem hDn_at (C S Z : FVec Ideal S512x128 .f32) (c s : Fin 512 → ℕ → EReal) (z : Fin 512 → Fin 128 → EReal)
    (hC : ∀ a i, C (ix2 a i) = ctab (c a) i.val) (hS : ∀ a i, S (ix2 a i) = stab (s a) i.val) (hZ : ∀ a i, Z (ix2 a i) = z a i)
    (a : Fin 512) (i : Fin 128) : hDn C S Z (ix2 a i) = rot (c a) (s a) (z a) i := by
  unfold hDn rot
  pointwise []
  simp only [hC, hS, hZ, cmp16, cmp32]
  have hi := i.isLt
  by_cases h1 : i.val < 16
  · have e : (i.val + 128 - 112) % 128 = i.val + 16 := by omega
    have e' : (⟨(i.val + 128 - 112) % 128, Nat.mod_lt _ (by decide)⟩ : Fin 128) = ⟨i.val + 16, by omega⟩ := Fin.ext e
    rw [dif_pos h1, if_pos h1, ValueIdx.select_one]
    show z a i * ctab (c a) i.val + z a ⟨(i.val + 128 - 112) % 128, _⟩ * stab (s a) ((i.val + 128 - 112) % 128) = _
    rw [e', e, ctab, if_pos h1, stab, if_neg (by omega), if_pos (by omega), Nat.add_sub_cancel]
  · rw [dif_neg h1, if_neg h1, ValueIdx.select_zero]
    by_cases h2 : i.val < 32
    · have e : (i.val + 128 - 16) % 128 = i.val - 16 := by omega
      have e' : (⟨(i.val + 128 - 16) % 128, Nat.mod_lt _ (by decide)⟩ : Fin 128) = ⟨i.val - 16, by omega⟩ := Fin.ext e
      rw [if_pos h2, if_pos h2, ValueIdx.select_one]
      show z a i * ctab (c a) i.val + z a ⟨(i.val + 128 - 16) % 128, _⟩ * stab (s a) ((i.val + 128 - 16) % 128) = _
      rw [e', e, ctab, if_neg h1, if_pos h2, stab, if_pos (by omega), mul_neg, neg_mul]
    · rw [if_neg h2, if_neg h2, ValueIdx.select_zero, ctab, if_neg h1, if_neg h2, mul_one, add_zero]

section
variable (T N : FVec Ideal S512x128 .f32) (G B : FVec Ideal S1x128 .f32) (t n : Fin 512 → Fin 128 → EReal) (g : Fin 128 → EReal)
    (hT : ∀ a d, T (ix2 a d) = t a d) (hN : ∀ a d, N (ix2 a d) = n a d) (hG : ∀ d, G (ix2 0 d) = g d)

include hT hN hG in
/-- The gradients in a head's rows. -/
theorem h_row (a : Fin 512) (d : Fin 128) : k0_pay12 (F := Ideal) T G N (k0_pay9 T) (k0_pay10 T) (ix2 a d) = ng c128 (t a) g (n a) d := by
  pointwise [k0_pay12, k0_pay11, k0_pay10, k0_pay9]
  simp only [hT, hN, hG]
  rfl

include hT hN in
/-- The gradient in the gain grows by the block's rows. -/
theorem h_gain (d : Fin 128) : k0_pay13 (F := Ideal) B T N (k0_pay10 T) (ix2 0 d) = B (ix2 0 d) + ∑ a, n a d * xh c128 (t a) d := by
  pointwise [k0_pay13, k0_pay11, k0_pay10, k0_pay9]
  simp only [hT, hN]
  rfl
end

/-! The sixteen heads, cut each in its own way, are one computation. -/

/-- The scaled gradients in a head's queries, of the first call. -/
def qZb (A : FVec Ideal S512x128 .bf16) : FVec Ideal S512x128 .f32 :=
  mulf (extf .f32 A bitsLt_bf16_f32) (broadcast S512x128 (Scalar.ofBits (F := Ideal) .f32 0x3DB504F3#32))
/-- The scaled gradients in a head's queries, of the other calls. -/
def qZ (A : FVec Ideal S512x128 .f32) : FVec Ideal S512x128 .f32 :=
  mulf A (broadcast S512x128 (Scalar.ofBits (F := Ideal) .f32 0x3DB504F3#32))
/-- The gradients in a head's keys, of the three calls together. -/
def kZ (A : FVec Ideal S512x128 .bf16) (B D : FVec Ideal S512x128 .f32) : FVec Ideal S512x128 .f32 :=
  mulf (addf (addf (extf .f32 A bitsLt_bf16_f32) B) D) (broadcast S512x128 (Scalar.ofBits (F := Ideal) .f32 0x3F800000#32))

section
variable (v4 v6 : FVec Ideal S512x128 .f32) (T : FVec Ideal S512x128 .f32) (G P : FVec Ideal S1x128 .f32)
    (Ab : FVec Ideal S512x128 .bf16) (A B D : FVec Ideal S512x128 .f32)

theorem row0 : (k0_pay12 (F := Ideal) T G (k0_pay8 (F := Ideal) v4 v6 Ab) (k0_pay9 (F := Ideal) T) (k0_pay10 (F := Ideal) T)) = k0_pay12 T G (hDn (k0_pay5 v4) (k0_pay6 v6) (qZb Ab)) (k0_pay9 T) (k0_pay10 T) := rfl
theorem gain0 : (k0_pay13 (F := Ideal) P T (k0_pay8 (F := Ideal) v4 v6 Ab) (k0_pay10 (F := Ideal) T)) = k0_pay13 P T (hDn (k0_pay5 v4) (k0_pay6 v6) (qZb Ab)) (k0_pay10 T) := rfl
theorem row1 : (k0_pay18 (F := Ideal) T G (k0_pay14 (F := Ideal) (iota .tc S512x128 32 [1] iota_S512x128_d1_w32) (k0_pay5 (F := Ideal) v4) (k0_pay6 (F := Ideal) v6) Ab) (k0_pay15 (F := Ideal) T)) = k0_pay12 T G (hDn (k0_pay5 v4) (k0_pay6 v6) (qZb Ab)) (k0_pay9 T) (k0_pay10 T) := rfl
theorem gain1 : (k0_pay19 (F := Ideal) P T (k0_pay14 (F := Ideal) (iota .tc S512x128 32 [1] iota_S512x128_d1_w32) (k0_pay5 (F := Ideal) v4) (k0_pay6 (F := Ideal) v6) Ab) (k0_pay15 (F := Ideal) T)) = k0_pay13 P T (hDn (k0_pay5 v4) (k0_pay6 v6) (qZb Ab)) (k0_pay10 T) := rfl
theorem row2 : (k0_pay30 (F := Ideal) (iota .tc S512x128 32 [1] iota_S512x128_d1_w32) T G (k0_pay21 (F := Ideal) (k0_pay5 (F := Ideal) v4) Ab) (k0_pay23 (F := Ideal) (k0_pay6 (F := Ideal) v6) Ab) (k0_pay24 (F := Ideal) (k0_pay6 (F := Ideal) v6) Ab) (k0_pay25 (iota .tc S512x128 32 [1] iota_S512x128_d1_w32)) (k0_pay26 (F := Ideal))) = k0_pay12 T G (hDn (k0_pay5 v4) (k0_pay6 v6) (qZb Ab)) (k0_pay9 T) (k0_pay10 T) := rfl
theorem gain2 : (k0_pay31 (F := Ideal) (iota .tc S512x128 32 [1] iota_S512x128_d1_w32) P T (k0_pay21 (F := Ideal) (k0_pay5 (F := Ideal) v4) Ab) (k0_pay23 (F := Ideal) (k0_pay6 (F := Ideal) v6) Ab) (k0_pay24 (F := Ideal) (k0_pay6 (F := Ideal) v6) Ab) (k0_pay25 (iota .tc S512x128 32 [1] iota_S512x128_d1_w32)) (k0_pay26 (F := Ideal))) = k0_pay13 P T (hDn (k0_pay5 v4) (k0_pay6 v6) (qZb Ab)) (k0_pay10 T) := rfl
theorem row3 : (k0_pay38 (F := Ideal) (iota .tc S512x128 32 [1] iota_S512x128_d1_w32) T G (k0_pay33 (F := Ideal) (k0_pay5 (F := Ideal) v4) Ab) (k0_pay34 (F := Ideal) (k0_pay6 (F := Ideal) v6) Ab)) = k0_pay12 T G (hDn (k0_pay5 v4) (k0_pay6 v6) (qZb Ab)) (k0_pay9 T) (k0_pay10 T) := rfl
theorem gain3 : (k0_pay39 (F := Ideal) (iota .tc S512x128 32 [1] iota_S512x128_d1_w32) P T (k0_pay33 (F := Ideal) (k0_pay5 (F := Ideal) v4) Ab) (k0_pay34 (F := Ideal) (k0_pay6 (F := Ideal) v6) Ab)) = k0_pay13 P T (hDn (k0_pay5 v4) (k0_pay6 v6) (qZb Ab)) (k0_pay10 T) := rfl
theorem row4 : (k0_pay44 (F := Ideal) (iota .tc S512x128 32 [1] iota_S512x128_d1_w32) (k0_pay5 (F := Ideal) v4) (k0_pay6 (F := Ideal) v6) A T G) = k0_pay12 T G (hDn (k0_pay5 v4) (k0_pay6 v6) (qZ A)) (k0_pay9 T) (k0_pay10 T) := rfl
theorem gain4 : (k0_pay45 (F := Ideal) P (k0_pay43 (F := Ideal) (iota .tc S512x128 32 [1] iota_S512x128_d1_w32) (k0_pay5 (F := Ideal) v4) (k0_pay6 (F := Ideal) v6) A T)) = k0_pay13 P T (hDn (k0_pay5 v4) (k0_pay6 v6) (qZ A)) (k0_pay10 T) := rfl
theorem row5 : (k0_pay51 (F := Ideal) (k0_pay49 (F := Ideal) (iota .tc S512x128 32 [1] iota_S512x128_d1_w32) (k0_pay5 (F := Ideal) v4) (k0_pay6 (F := Ideal) v6) A T G)) = k0_pay12 T G (hDn (k0_pay5 v4) (k0_pay6 v6) (qZ A)) (k0_pay9 T) (k0_pay10 T) := rfl
theorem gain5 : (k0_pay52 (F := Ideal) P (k0_pay50 (F := Ideal) (iota .tc S512x128 32 [1] iota_S512x128_d1_w32) (k0_pay5 (F := Ideal) v4) (k0_pay6 (F := Ideal) v6) A T)) = k0_pay13 P T (hDn (k0_pay5 v4) (k0_pay6 v6) (qZ A)) (k0_pay10 T) := rfl
theorem row6 : (k0_pay59 (F := Ideal) (k0_pay54 (F := Ideal) T) (k0_pay55 (F := Ideal) T) (k0_pay56 (F := Ideal) (iota .tc S512x128 32 [1] iota_S512x128_d1_w32) (k0_pay5 (F := Ideal) v4) (k0_pay6 (F := Ideal) v6) A G) (k0_pay57 (F := Ideal) (iota .tc S512x128 32 [1] iota_S512x128_d1_w32) (k0_pay5 (F := Ideal) v4) (k0_pay6 (F := Ideal) v6) A T G) (k0_pay58 (F := Ideal))) = k0_pay12 T G (hDn (k0_pay5 v4) (k0_pay6 v6) (qZ A)) (k0_pay9 T) (k0_pay10 T) := rfl
theorem gain6 : (k0_pay60 (F := Ideal) P (k0_pay53 (F := Ideal) (iota .tc S512x128 32 [1] iota_S512x128_d1_w32) (k0_pay5 (F := Ideal) v4) (k0_pay6 (F := Ideal) v6) A) (k0_pay55 (F := Ideal) T)) = k0_pay13 P T (hDn (k0_pay5 v4) (k0_pay6 v6) (qZ A)) (k0_pay10 T) := rfl
theorem row7 : (k0_pay64 (F := Ideal) G (k0_pay61 (F := Ideal) (iota .tc S512x128 32 [1] iota_S512x128_d1_w32) (k0_pay5 (F := Ideal) v4) (k0_pay6 (F := Ideal) v6) A) (k0_pay62 (F := Ideal) T) (k0_pay63 (F := Ideal) T)) = k0_pay12 T G (hDn (k0_pay5 v4) (k0_pay6 v6) (qZ A)) (k0_pay9 T) (k0_pay10 T) := rfl
theorem gain7 : (k0_pay65 (F := Ideal) P (k0_pay61 (F := Ideal) (iota .tc S512x128 32 [1] iota_S512x128_d1_w32) (k0_pay5 (F := Ideal) v4) (k0_pay6 (F := Ideal) v6) A) (k0_pay63 (F := Ideal) T)) = k0_pay13 P T (hDn (k0_pay5 v4) (k0_pay6 v6) (qZ A)) (k0_pay10 T) := rfl
theorem row8 : (k0_pay70 (F := Ideal) T G (k0_pay66 (F := Ideal) (iota .tc S512x128 32 [1] iota_S512x128_d1_w32) (k0_pay5 (F := Ideal) v4) (k0_pay6 (F := Ideal) v6) A) (k0_pay67 (F := Ideal) T) (FloatOps.ofBits (F := Ideal) .f32 1124073472#32)) = k0_pay12 T G (hDn (k0_pay5 v4) (k0_pay6 v6) (qZ A)) (k0_pay9 T) (k0_pay10 T) := rfl
theorem gain8 : (k0_pay71 (F := Ideal) P T (k0_pay66 (F := Ideal) (iota .tc S512x128 32 [1] iota_S512x128_d1_w32) (k0_pay5 (F := Ideal) v4) (k0_pay6 (F := Ideal) v6) A) (k0_pay67 (F := Ideal) T) (FloatOps.ofBits (F := Ideal) .f32 1124073472#32)) = k0_pay13 P T (hDn (k0_pay5 v4) (k0_pay6 v6) (qZ A)) (k0_pay10 T) := rfl
theorem row9 : (k0_pay81 (F := Ideal) (iota .tc S512x128 32 [1] iota_S512x128_d1_w32) T G (k0_pay73 (F := Ideal) (k0_pay5 (F := Ideal) v4) A) (k0_pay75 (F := Ideal) (k0_pay6 (F := Ideal) v6) A) (k0_pay76 (F := Ideal) (iota .tc S512x128 32 [1] iota_S512x128_d1_w32) (k0_pay6 (F := Ideal) v6) A) k0_pay77) = k0_pay12 T G (hDn (k0_pay5 v4) (k0_pay6 v6) (qZ A)) (k0_pay9 T) (k0_pay10 T) := rfl
theorem gain9 : (k0_pay82 (F := Ideal) (iota .tc S512x128 32 [1] iota_S512x128_d1_w32) P T (k0_pay73 (F := Ideal) (k0_pay5 (F := Ideal) v4) A) (k0_pay75 (F := Ideal) (k0_pay6 (F := Ideal) v6) A) (k0_pay76 (F := Ideal) (iota .tc S512x128 32 [1] iota_S512x128_d1_w32) (k0_pay6 (F := Ideal) v6) A) k0_pay77) = k0_pay13 P T (hDn (k0_pay5 v4) (k0_pay6 v6) (qZ A)) (k0_pay10 T) := rfl
theorem row10 : (k0_pay91 (F := Ideal) (iota .tc S512x128 32 [1] iota_S512x128_d1_w32) T G (k0_pay84 (F := Ideal) (k0_pay5 (F := Ideal) v4) A) (k0_pay86 (F := Ideal) (k0_pay6 (F := Ideal) v6) A) (k0_pay87 (F := Ideal) (k0_pay6 (F := Ideal) v6) A)) = k0_pay12 T G (hDn (k0_pay5 v4) (k0_pay6 v6) (qZ A)) (k0_pay9 T) (k0_pay10 T) := rfl
theorem gain10 : (k0_pay92 (F := Ideal) (iota .tc S512x128 32 [1] iota_S512x128_d1_w32) P T (k0_pay84 (F := Ideal) (k0_pay5 (F := Ideal) v4) A) (k0_pay86 (F := Ideal) (k0_pay6 (F := Ideal) v6) A) (k0_pay87 (F := Ideal) (k0_pay6 (F := Ideal) v6) A)) = k0_pay13 P T (hDn (k0_pay5 v4) (k0_pay6 v6) (qZ A)) (k0_pay10 T) := rfl
theorem row11 : (k0_pay96 (F := Ideal) (iota .tc S512x128 32 [1] iota_S512x128_d1_w32) (k0_pay5 (F := Ideal) v4) (k0_pay6 (F := Ideal) v6) A T G (FloatOps.ofBits (F := Ideal) .f32 1035273459#32)) = k0_pay12 T G (hDn (k0_pay5 v4) (k0_pay6 v6) (qZ A)) (k0_pay9 T) (k0_pay10 T) := rfl
theorem gain11 : (k0_pay97 (F := Ideal) (iota .tc S512x128 32 [1] iota_S512x128_d1_w32) (k0_pay5 (F := Ideal) v4) (k0_pay6 (F := Ideal) v6) P A T (FloatOps.ofBits (F := Ideal) .f32 1035273459#32)) = k0_pay13 P T (hDn (k0_pay5 v4) (k0_pay6 v6) (qZ A)) (k0_pay10 T) := rfl
theorem row12 : (k0_pay103 (F := Ideal) G (k0_pay100 (F := Ideal) (iota .tc S512x128 32 [1] iota_S512x128_d1_w32) (k0_pay5 (F := Ideal) v4) (k0_pay6 (F := Ideal) v6) Ab B D) (k0_pay101 (F := Ideal) T) (k0_pay102 (F := Ideal) T)) = k0_pay12 T G (hDn (k0_pay5 v4) (k0_pay6 v6) (kZ Ab B D)) (k0_pay9 T) (k0_pay10 T) := rfl
theorem gain12 : (k0_pay104 (F := Ideal) P (k0_pay100 (F := Ideal) (iota .tc S512x128 32 [1] iota_S512x128_d1_w32) (k0_pay5 (F := Ideal) v4) (k0_pay6 (F := Ideal) v6) Ab B D) (k0_pay102 (F := Ideal) T)) = k0_pay13 P T (hDn (k0_pay5 v4) (k0_pay6 v6) (kZ Ab B D)) (k0_pay10 T) := rfl
theorem row13 : (k0_pay113 (F := Ideal) (iota .tc S512x128 32 [1] iota_S512x128_d1_w32) T G (k0_pay106 (F := Ideal) (k0_pay5 (F := Ideal) v4) Ab B D) (k0_pay108 (F := Ideal) (k0_pay6 (F := Ideal) v6) Ab B D) (k0_pay109 (F := Ideal) (iota .tc S512x128 32 [1] iota_S512x128_d1_w32) (k0_pay6 (F := Ideal) v6) Ab B D) 16#32) = k0_pay12 T G (hDn (k0_pay5 v4) (k0_pay6 v6) (kZ Ab B D)) (k0_pay9 T) (k0_pay10 T) := rfl
theorem gain13 : (k0_pay114 (F := Ideal) (iota .tc S512x128 32 [1] iota_S512x128_d1_w32) P T (k0_pay106 (F := Ideal) (k0_pay5 (F := Ideal) v4) Ab B D) (k0_pay108 (F := Ideal) (k0_pay6 (F := Ideal) v6) Ab B D) (k0_pay109 (F := Ideal) (iota .tc S512x128 32 [1] iota_S512x128_d1_w32) (k0_pay6 (F := Ideal) v6) Ab B D) 16#32) = k0_pay13 P T (hDn (k0_pay5 v4) (k0_pay6 v6) (kZ Ab B D)) (k0_pay10 T) := rfl
theorem row14 : (k0_pay119 (F := Ideal) (iota .tc S512x128 32 [1] iota_S512x128_d1_w32) (k0_pay5 (F := Ideal) v4) (k0_pay6 (F := Ideal) v6) (k0_pay115 (F := Ideal) Ab B D) T G) = k0_pay12 T G (hDn (k0_pay5 v4) (k0_pay6 v6) (kZ Ab B D)) (k0_pay9 T) (k0_pay10 T) := rfl
theorem gain14 : (k0_pay120 (F := Ideal) (iota .tc S512x128 32 [1] iota_S512x128_d1_w32) (k0_pay5 (F := Ideal) v4) (k0_pay6 (F := Ideal) v6) P (k0_pay115 (F := Ideal) Ab B D) T) = k0_pay13 P T (hDn (k0_pay5 v4) (k0_pay6 v6) (kZ Ab B D)) (k0_pay10 T) := rfl
theorem row15 : (k0_pay126 (F := Ideal) (k0_pay122 (F := Ideal) T) (k0_pay123 (F := Ideal) T) (k0_pay124 (F := Ideal) (iota .tc S512x128 32 [1] iota_S512x128_d1_w32) (k0_pay5 (F := Ideal) v4) (k0_pay6 (F := Ideal) v6) Ab B D G) (k0_pay125 (F := Ideal) (iota .tc S512x128 32 [1] iota_S512x128_d1_w32) (k0_pay5 (F := Ideal) v4) (k0_pay6 (F := Ideal) v6) Ab B D T G)) = k0_pay12 T G (hDn (k0_pay5 v4) (k0_pay6 v6) (kZ Ab B D)) (k0_pay9 T) (k0_pay10 T) := rfl
theorem gain15 (Q : FVec Ideal S1x128 .f32) : (k0_pay127 (F := Ideal) P (k0_pay121 (F := Ideal) (iota .tc S512x128 32 [1] iota_S512x128_d1_w32) (k0_pay5 (F := Ideal) v4) (k0_pay6 (F := Ideal) v6) Ab B D) (k0_pay123 (F := Ideal) T) Q) = addf (shapeCast S1x128 Q shapeCasts_S1x128_S1x128) (k0_pay13 P T (hDn (k0_pay5 v4) (k0_pay6 v6) (kZ Ab B D)) (k0_pay10 T)) := rfl
theorem gainq (Q : FVec Ideal S1x128 .f32) : k0_pay98 (F := Ideal) P Q = addf (shapeCast S1x128 Q shapeCasts_S1x128_S1x128) P := rfl
end

section
variable (C S Z T : FVec Ideal S512x128 .f32) (G B : FVec Ideal S1x128 .f32) (c s : Fin 512 → ℕ → EReal) (t z : Fin 512 → Fin 128 → EReal)
    (g : Fin 128 → EReal) (hC : ∀ a i, C (ix2 a i) = ctab (c a) i.val) (hS : ∀ a i, S (ix2 a i) = stab (s a) i.val)
    (hZ : ∀ a i, Z (ix2 a i) = z a i) (hT : ∀ a d, T (ix2 a d) = t a d) (hG : ∀ d, G (ix2 0 d) = g d)

include hC hS hZ in
theorem n_at (a : Fin 512) (i : Fin 128) : hDn (k0_pay5 C) (k0_pay6 S) Z (ix2 a i) = rot (c a) (s a) (z a) i := by
  refine hDn_at _ _ Z c s z (fun a i => ?_) (fun a i => ?_) hZ a i
  · pointwise [k0_pay5]
    exact hC a i
  · pointwise [k0_pay6]
    exact hS a i

include hC hS hZ hT hG in
/-- The gradients in a head's rows. -/
theorem head_row (a : Fin 512) (d : Fin 128) : k0_pay12 (F := Ideal) T G (hDn (k0_pay5 C) (k0_pay6 S) Z) (k0_pay9 T) (k0_pay10 T) (ix2 a d)
    = ng c128 (t a) g (rot (c a) (s a) (z a)) d :=
  h_row T _ G t (fun a => rot (c a) (s a) (z a)) g hT (n_at C S Z c s z hC hS hZ) hG a d

include hC hS hZ hT in
/-- The gradient in the gain grows by a head's rows. -/
theorem head_gain (d : Fin 128) : k0_pay13 (F := Ideal) B T (hDn (k0_pay5 C) (k0_pay6 S) Z) (k0_pay10 T) (ix2 0 d)
    = B (ix2 0 d) + ∑ a, rot (c a) (s a) (z a) d * xh c128 (t a) d :=
  h_gain T _ B t (fun a => rot (c a) (s a) (z a)) hT (n_at C S Z c s z hC hS hZ) d
end

theorem qZb_at (A : FVec Ideal S512x128 .bf16) (a : Fin 512) (i : Fin 128) : qZb A (ix2 a i) = A (ix2 a i) * scl := by
  pointwise [qZb]
theorem qZ_at (A : FVec Ideal S512x128 .f32) (a : Fin 512) (i : Fin 128) : qZ A (ix2 a i) = A (ix2 a i) * scl := by
  pointwise [qZ]
theorem one_val : Ideal.ofBits .f32 0x3F800000#32 = 1 := by
  have e : Ideal.ofBits .f32 0x3F800000#32 = ((8388608 * ((2 : ℝ) ^ 23)⁻¹ : ℝ) : EReal) := by
    simp [Ideal.ofBits, Ideal.ieee, -EReal.coe_mul]
  rw [e, ← EReal.coe_one]
  exact congrArg _ (by norm_num)
theorem kZ_at (A : FVec Ideal S512x128 .bf16) (B D : FVec Ideal S512x128 .f32) (a : Fin 512) (i : Fin 128) :
    kZ A B D (ix2 a i) = A (ix2 a i) + B (ix2 a i) + D (ix2 a i) := by
  pointwise [kZ]

end Cert.QkvBwdIdeal.Value

end
-- ==== Proof.QkvBlk.lean ====
/-
  The call entering the mixer's input projection over the extended reals, block by block, for any arguments: the gradient in the
  projected rows, and what each block of rows adds to the gains' gradients.
-/
module

public import proofs.«01_k».proof.Proof.Gen.QkvBwdIdeal.Frame
public import proofs.«01_k».proof.Proof.QkvHead

@[expose] public section

set_option maxRecDepth 16384
noncomputable section
open Idealize.ShloMosaic Idealize.ShloMosaic.TcCoe Idealize.SL.Sem
open Idealize.ShloMosaic.Pipeline (Dat)

namespace Cert.Rope
open Cert.Norm Cert.Cross
section
variable (c s p yq yk yv yu : ℕ → EReal) (g l : Fin 128 → EReal)

theorem dp_q (j : ℕ) (hj : j < 12) (d : Fin 128) : Rope.dp c s p yq yk yv yu g l (128 * j + d.val) = ng c128 (hd p (128 * j)) g (dqn c s yq j) d := by
  have hd' := d.isLt
  have e1 : (128 * j + d.val) / 128 = j := by omega
  have e2 : (⟨(128 * j + d.val) % 128, Nat.mod_lt _ (by decide)⟩ : Fin 128) = d := Fin.ext (by show (128 * j + d.val) % 128 = d.val; omega)
  rw [Rope.dp, if_pos (by omega), e1, e2]
theorem dp_q0 (d : Fin 128) : Rope.dp c s p yq yk yv yu g l d.val = ng c128 (hd p 0) g (dqn c s yq 0) d := by
  have h := dp_q c s p yq yk yv yu g l 0 (by decide) d
  rwa [Nat.mul_zero, Nat.zero_add] at h
theorem dp_k (j : ℕ) (hj : j < 4) (d : Fin 128) : Rope.dp c s p yq yk yv yu g l (1536 + 128 * j + d.val)
    = ng c128 (hd p (1536 + 128 * j)) l (dkn c s yk j) d := by
  have hd' := d.isLt
  have e1 : 128 * ((1536 + 128 * j + d.val) / 128) = 1536 + 128 * j := by omega
  have e3 : (1536 + 128 * j + d.val - 1536) / 128 = j := by omega
  have e2 : (⟨(1536 + 128 * j + d.val) % 128, Nat.mod_lt _ (by decide)⟩ : Fin 128) = d :=
    Fin.ext (by show (1536 + 128 * j + d.val) % 128 = d.val; omega)
  rw [Rope.dp, if_neg (by omega), if_pos (by omega), e1, e2, e3]
theorem dp_v (n : ℕ) (hn : n < 512) : Rope.dp c s p yq yk yv yu g l (2048 + n) = yv n := by
  rw [Rope.dp, if_neg (by omega), if_neg (by omega), if_pos (by omega), Nat.add_sub_cancel_left]
theorem dp_u (n : ℕ) (hn : n < 512) : Rope.dp c s p yq yk yv yu g l (2560 + n) = yu n := by
  rw [Rope.dp, if_neg (by omega), if_neg (by omega), if_neg (by omega), Nat.add_sub_cancel_left]
end
theorem sum12 (f : ℕ → EReal) : ∑ h : Fin 12, f h.val = 0 + f 0 + f 1 + f 2 + f 3 + f 4 + f 5 + f 6 + f 7 + f 8 + f 9 + f 10 + f 11 := by
  rw [Fin.sum_univ_eq_sum_range]
  simp only [Finset.sum_range_succ, Finset.sum_range_zero]
theorem sum4 (f : ℕ → EReal) : ∑ h : Fin 4, f h.val = 0 + f 0 + f 1 + f 2 + f 3 := by
  rw [Fin.sum_univ_eq_sum_range]
  simp only [Finset.sum_range_succ, Finset.sum_range_zero]
/-- The heads' sums, head by head. -/
theorem gq_sum {n : ℕ} (c s p y : Fin n → ℕ → EReal) (d : Fin 128) (f : ℕ → EReal)
    (hf : ∀ h, f h = ∑ a, rot (c a) (s a) (fun i => hd (y a) (128 * h) i * scl) d * xh c128 (hd (p a) (128 * h)) d) :
    0 + f 0 + f 1 + f 2 + f 3 + f 4 + f 5 + f 6 + f 7 + f 8 + f 9 + f 10 + f 11 = ∑ a, Rope.gqr (c a) (s a) (p a) (y a) d := by
  rw [← sum12]
  simp only [Rope.gqr]
  rw [Finset.sum_comm]
  exact Finset.sum_congr rfl fun h _ => hf h.val
theorem gk_sum {n : ℕ} (c s p y : Fin n → ℕ → EReal) (d : Fin 128) (f : ℕ → EReal)
    (hf : ∀ h, f h = ∑ a, rot (c a) (s a) (hd (y a) (128 * h)) d * xh c128 (hd (p a) (1536 + 128 * h)) d) :
    0 + f 0 + f 1 + f 2 + f 3 = ∑ a, Rope.gkr (c a) (s a) (p a) (y a) d := by
  rw [← sum4]
  simp only [Rope.gkr]
  rw [Finset.sum_comm]
  exact Finset.sum_congr rfl fun h _ => hf h.val
end Cert.Rope

namespace Cert.QkvBwdIdeal.Value
open Cert.QkvBwdIdeal Cert.QkvBwdIdeal.Gen Cert.Rope Cert.Cross Cert.Norm

variable (m : (ℓ : Loc nD τ sig) → Buf (Elt Ideal) ℓ) (c : Dev nD) (t : Fin cfg0.N)
    (X0 : FVec Ideal S512x512 .bf16) (X1 X2 : FVec Ideal S512x512 .f32) (X3 : FVec Ideal S512x512 .bf16) (X4 X5 : FVec Ideal S512x512 .f32)
    (X6 : FVec Ideal S512x512 .bf16) (X7 X8 X9 : FVec Ideal S512x512 .f32) (P : FVec Ideal S512x2048 .f32) (C S : FVec Ideal S512x128 .f32)
    (G L : FVec Ideal S1x128 .f32) (q0 q1 q2 k0 k1 k2 v0 v1 v2 u p cc ss : Fin 512 → ℕ → EReal) (g l : Fin 128 → EReal)
    (e0 : iblk m c 0 t = X0) (e1 : iblk m c 1 t = X1) (e2 : iblk m c 2 t = X2) (e3 : iblk m c 3 t = X3) (e4 : iblk m c 4 t = X4)
    (e5 : iblk m c 5 t = X5) (e6 : iblk m c 6 t = X6) (e7 : iblk m c 7 t = X7) (e8 : iblk m c 8 t = X8) (e9 : iblk m c 9 t = X9)
    (eP : X0_10 m c t = P) (eC : iblk m c 11 t = C) (eS : iblk m c 12 t = S) (eG : iblk m c 13 t = G) (eL : iblk m c 14 t = L)
    (h0 : ∀ a n, X0 (ix2 a n) = q0 a n.val) (h1 : ∀ a n, X1 (ix2 a n) = q1 a n.val) (h2 : ∀ a n, X2 (ix2 a n) = q2 a n.val)
    (h3 : ∀ a n, X3 (ix2 a n) = k0 a n.val) (h4 : ∀ a n, X4 (ix2 a n) = k1 a n.val) (h5 : ∀ a n, X5 (ix2 a n) = k2 a n.val)
    (h6 : ∀ a n, X6 (ix2 a n) = v0 a n.val) (h7 : ∀ a n, X7 (ix2 a n) = v1 a n.val) (h8 : ∀ a n, X8 (ix2 a n) = v2 a n.val)
    (h9 : ∀ a n, X9 (ix2 a n) = u a n.val) (hP : ∀ a n, P (ix2 a n) = p a n.val)
    (hC : ∀ a i, C (ix2 a i) = ctab (cc a) i.val) (hS : ∀ a i, S (ix2 a i) = stab (ss a) i.val)
    (hG : ∀ d, G (ix2 0 d) = g d) (hL : ∀ d, L (ix2 0 d) = l d)

/-- The columns a rectangle holds. -/
abbrev ldX {S : Shape} (X : S.Idx → EReal) (r : Rect S) : r.shape.Idx → EReal := fun x => X (r.idx x)

theorem ld_x (X : S512x512.Idx → EReal) (o : ℕ) (inb : ∀ k, (![0, o] : Fin 2 → ℕ) k + (![512, 128] : Fin 2 → ℕ) k ≤ S512x512.size k)
    (a : Fin 512) (i : Fin 128) (h : o + i.val < 512) :
    ldX X (Rect.unit (s := S512x512) ![0, o] ![512, 128] inb) (ix2 a i) = X (ix2 a ⟨o + i.val, h⟩) := by
  refine congrArg X (funext fun k => ?_)
  refine Fin.cases (Fin.ext ?_) (fun k => Fin.cases (Fin.ext ?_) (fun k => k.elim0) k) k
  · show 0 + 1 * a.val = a.val
    omega
  · show o + 1 * i.val = o + i.val
    omega
theorem ld_p (X : S512x2048.Idx → EReal) (o : ℕ) (inb : ∀ k, (![0, o] : Fin 2 → ℕ) k + (![512, 128] : Fin 2 → ℕ) k ≤ S512x2048.size k)
    (a : Fin 512) (i : Fin 128) (h : o + i.val < 2048) :
    ldX X (Rect.unit (s := S512x2048) ![0, o] ![512, 128] inb) (ix2 a i) = X (ix2 a ⟨o + i.val, h⟩) := by
  refine congrArg X (funext fun k => ?_)
  refine Fin.cases (Fin.ext ?_) (fun k => Fin.cases (Fin.ext ?_) (fun k => k.elim0) k) k
  · show 0 + 1 * a.val = a.val
    omega
  · show o + 1 * i.val = o + i.val
    omega
theorem add_row (Q B : FVec Ideal S1x128 .f32) (d : Fin 128) (x y : EReal) (hQ : Q (ix2 0 d) = x) (hB : B (ix2 0 d) = y) :
    addf (shapeCast S1x128 Q shapeCasts_S1x128_S1x128) B (ix2 0 d) = x + y := by
  pointwise
  rw [hQ, hB]
/-- The gradients in a row's queries. -/
abbrev yq (a : Fin 512) : ℕ → EReal := cat3 (q0 a) (q1 a) (q2 a)
/-- The gradients in a row's keys. -/
abbrev yk (a : Fin 512) (n : ℕ) : EReal := k0 a n + k1 a n + k2 a n
/-- The gradients in a row's values. -/
abbrev yv (a : Fin 512) (n : ℕ) : EReal := v0 a n + v1 a n + v2 a n

include hP in
theorem t0 (a : Fin 512) (i : Fin 128) : (ldX P (Rect.unit (s := S512x2048) ![0, 0] ![512, 128] inb_S512x2048_S512x128_0_0)) (ix2 a i) = hd (p a) 0 i := by
  have hi := i.isLt
  rw [ld_p _ _ _ _ _ (by omega), hP]
  rfl
include h0 in
theorem z0 (a : Fin 512) (i : Fin 128) : qZb (ldX X0 (Rect.unit (s := S512x512) ![0, 0] ![512, 128] inb_S512x512_S512x128_0_0)) (ix2 a i) = hd (yq q0 q1 q2 a) 0 i * scl := by
  have hi := i.isLt
  have e : (ldX X0 (Rect.unit (s := S512x512) ![0, 0] ![512, 128] inb_S512x512_S512x128_0_0)) (ix2 a i) = hd (yq q0 q1 q2 a) 0 i := by
    rw [ld_x _ _ _ _ _ (by omega), h0, hd, yq, cat3, if_pos (by omega)]

  rw [qZb_at, e]
include hP in
theorem t1 (a : Fin 512) (i : Fin 128) : (ldX P (Rect.unit (s := S512x2048) ![0, 128] ![512, 128] inb_S512x2048_S512x128_0_128)) (ix2 a i) = hd (p a) 128 i := by
  have hi := i.isLt
  rw [ld_p _ _ _ _ _ (by omega), hP]
  rfl
include h0 in
theorem z1 (a : Fin 512) (i : Fin 128) : qZb (ldX X0 (Rect.unit (s := S512x512) ![0, 128] ![512, 128] inb_S512x512_S512x128_0_128)) (ix2 a i) = hd (yq q0 q1 q2 a) 128 i * scl := by
  have hi := i.isLt
  have e : (ldX X0 (Rect.unit (s := S512x512) ![0, 128] ![512, 128] inb_S512x512_S512x128_0_128)) (ix2 a i) = hd (yq q0 q1 q2 a) 128 i := by
    rw [ld_x _ _ _ _ _ (by omega), h0, hd, yq, cat3, if_pos (by omega)]

  rw [qZb_at, e]
include hP in
theorem t2 (a : Fin 512) (i : Fin 128) : (ldX P (Rect.unit (s := S512x2048) ![0, 256] ![512, 128] inb_S512x2048_S512x128_0_256)) (ix2 a i) = hd (p a) 256 i := by
  have hi := i.isLt
  rw [ld_p _ _ _ _ _ (by omega), hP]
  rfl
include h0 in
theorem z2 (a : Fin 512) (i : Fin 128) : qZb (ldX X0 (Rect.unit (s := S512x512) ![0, 256] ![512, 128] inb_S512x512_S512x128_0_256)) (ix2 a i) = hd (yq q0 q1 q2 a) 256 i * scl := by
  have hi := i.isLt
  have e : (ldX X0 (Rect.unit (s := S512x512) ![0, 256] ![512, 128] inb_S512x512_S512x128_0_256)) (ix2 a i) = hd (yq q0 q1 q2 a) 256 i := by
    rw [ld_x _ _ _ _ _ (by omega), h0, hd, yq, cat3, if_pos (by omega)]

  rw [qZb_at, e]
include hP in
theorem t3 (a : Fin 512) (i : Fin 128) : (ldX P (Rect.unit (s := S512x2048) ![0, 384] ![512, 128] inb_S512x2048_S512x128_0_384)) (ix2 a i) = hd (p a) 384 i := by
  have hi := i.isLt
  rw [ld_p _ _ _ _ _ (by omega), hP]
  rfl
include h0 in
theorem z3 (a : Fin 512) (i : Fin 128) : qZb (ldX X0 (Rect.unit (s := S512x512) ![0, 384] ![512, 128] inb_S512x512_S512x128_0_384)) (ix2 a i) = hd (yq q0 q1 q2 a) 384 i * scl := by
  have hi := i.isLt
  have e : (ldX X0 (Rect.unit (s := S512x512) ![0, 384] ![512, 128] inb_S512x512_S512x128_0_384)) (ix2 a i) = hd (yq q0 q1 q2 a) 384 i := by
    rw [ld_x _ _ _ _ _ (by omega), h0, hd, yq, cat3, if_pos (by omega)]

  rw [qZb_at, e]
include hP in
theorem t4 (a : Fin 512) (i : Fin 128) : (ldX P (Rect.unit (s := S512x2048) ![0, 512] ![512, 128] inb_S512x2048_S512x128_0_512)) (ix2 a i) = hd (p a) 512 i := by
  have hi := i.isLt
  rw [ld_p _ _ _ _ _ (by omega), hP]
  rfl
include h1 in
theorem z4 (a : Fin 512) (i : Fin 128) : qZ (ldX X1 (Rect.unit (s := S512x512) ![0, 0] ![512, 128] inb_S512x512_S512x128_0_0)) (ix2 a i) = hd (yq q0 q1 q2 a) 512 i * scl := by
  have hi := i.isLt
  have e : (ldX X1 (Rect.unit (s := S512x512) ![0, 0] ![512, 128] inb_S512x512_S512x128_0_0)) (ix2 a i) = hd (yq q0 q1 q2 a) 512 i := by
    rw [ld_x _ _ _ _ _ (by omega), h1, hd, yq, cat3, if_neg (by omega), if_pos (by omega)]
    exact congrArg (q1 a) (by show 0 + i.val = 512 + i.val - 512; omega)
  rw [qZ_at, e]
include hP in
theorem t5 (a : Fin 512) (i : Fin 128) : (ldX P (Rect.unit (s := S512x2048) ![0, 640] ![512, 128] inb_S512x2048_S512x128_0_640)) (ix2 a i) = hd (p a) 640 i := by
  have hi := i.isLt
  rw [ld_p _ _ _ _ _ (by omega), hP]
  rfl
include h1 in
theorem z5 (a : Fin 512) (i : Fin 128) : qZ (ldX X1 (Rect.unit (s := S512x512) ![0, 128] ![512, 128] inb_S512x512_S512x128_0_128)) (ix2 a i) = hd (yq q0 q1 q2 a) 640 i * scl := by
  have hi := i.isLt
  have e : (ldX X1 (Rect.unit (s := S512x512) ![0, 128] ![512, 128] inb_S512x512_S512x128_0_128)) (ix2 a i) = hd (yq q0 q1 q2 a) 640 i := by
    rw [ld_x _ _ _ _ _ (by omega), h1, hd, yq, cat3, if_neg (by omega), if_pos (by omega)]
    exact congrArg (q1 a) (by show 128 + i.val = 640 + i.val - 512; omega)
  rw [qZ_at, e]
include hP in
theorem t6 (a : Fin 512) (i : Fin 128) : (ldX P (Rect.unit (s := S512x2048) ![0, 768] ![512, 128] inb_S512x2048_S512x128_0_768)) (ix2 a i) = hd (p a) 768 i := by
  have hi := i.isLt
  rw [ld_p _ _ _ _ _ (by omega), hP]
  rfl
include h1 in
theorem z6 (a : Fin 512) (i : Fin 128) : qZ (ldX X1 (Rect.unit (s := S512x512) ![0, 256] ![512, 128] inb_S512x512_S512x128_0_256)) (ix2 a i) = hd (yq q0 q1 q2 a) 768 i * scl := by
  have hi := i.isLt
  have e : (ldX X1 (Rect.unit (s := S512x512) ![0, 256] ![512, 128] inb_S512x512_S512x128_0_256)) (ix2 a i) = hd (yq q0 q1 q2 a) 768 i := by
    rw [ld_x _ _ _ _ _ (by omega), h1, hd, yq, cat3, if_neg (by omega), if_pos (by omega)]
    exact congrArg (q1 a) (by show 256 + i.val = 768 + i.val - 512; omega)
  rw [qZ_at, e]
include hP in
theorem t7 (a : Fin 512) (i : Fin 128) : (ldX P (Rect.unit (s := S512x2048) ![0, 896] ![512, 128] inb_S512x2048_S512x128_0_896)) (ix2 a i) = hd (p a) 896 i := by
  have hi := i.isLt
  rw [ld_p _ _ _ _ _ (by omega), hP]
  rfl
include h1 in
theorem z7 (a : Fin 512) (i : Fin 128) : qZ (ldX X1 (Rect.unit (s := S512x512) ![0, 384] ![512, 128] inb_S512x512_S512x128_0_384)) (ix2 a i) = hd (yq q0 q1 q2 a) 896 i * scl := by
  have hi := i.isLt
  have e : (ldX X1 (Rect.unit (s := S512x512) ![0, 384] ![512, 128] inb_S512x512_S512x128_0_384)) (ix2 a i) = hd (yq q0 q1 q2 a) 896 i := by
    rw [ld_x _ _ _ _ _ (by omega), h1, hd, yq, cat3, if_neg (by omega), if_pos (by omega)]
    exact congrArg (q1 a) (by show 384 + i.val = 896 + i.val - 512; omega)
  rw [qZ_at, e]
include hP in
theorem t8 (a : Fin 512) (i : Fin 128) : (ldX P (Rect.unit (s := S512x2048) ![0, 1024] ![512, 128] inb_S512x2048_S512x128_0_1024)) (ix2 a i) = hd (p a) 1024 i := by
  have hi := i.isLt
  rw [ld_p _ _ _ _ _ (by omega), hP]
  rfl
include h2 in
theorem z8 (a : Fin 512) (i : Fin 128) : qZ (ldX X2 (Rect.unit (s := S512x512) ![0, 0] ![512, 128] inb_S512x512_S512x128_0_0)) (ix2 a i) = hd (yq q0 q1 q2 a) 1024 i * scl := by
  have hi := i.isLt
  have e : (ldX X2 (Rect.unit (s := S512x512) ![0, 0] ![512, 128] inb_S512x512_S512x128_0_0)) (ix2 a i) = hd (yq q0 q1 q2 a) 1024 i := by
    rw [ld_x _ _ _ _ _ (by omega), h2, hd, yq, cat3, if_neg (by omega), if_neg (by omega)]
    exact congrArg (q2 a) (by show 0 + i.val = 1024 + i.val - 1024; omega)
  rw [qZ_at, e]
include hP in
theorem t9 (a : Fin 512) (i : Fin 128) : (ldX P (Rect.unit (s := S512x2048) ![0, 1152] ![512, 128] inb_S512x2048_S512x128_0_1152)) (ix2 a i) = hd (p a) 1152 i := by
  have hi := i.isLt
  rw [ld_p _ _ _ _ _ (by omega), hP]
  rfl
include h2 in
theorem z9 (a : Fin 512) (i : Fin 128) : qZ (ldX X2 (Rect.unit (s := S512x512) ![0, 128] ![512, 128] inb_S512x512_S512x128_0_128)) (ix2 a i) = hd (yq q0 q1 q2 a) 1152 i * scl := by
  have hi := i.isLt
  have e : (ldX X2 (Rect.unit (s := S512x512) ![0, 128] ![512, 128] inb_S512x512_S512x128_0_128)) (ix2 a i) = hd (yq q0 q1 q2 a) 1152 i := by
    rw [ld_x _ _ _ _ _ (by omega), h2, hd, yq, cat3, if_neg (by omega), if_neg (by omega)]
    exact congrArg (q2 a) (by show 128 + i.val = 1152 + i.val - 1024; omega)
  rw [qZ_at, e]
include hP in
theorem t10 (a : Fin 512) (i : Fin 128) : (ldX P (Rect.unit (s := S512x2048) ![0, 1280] ![512, 128] inb_S512x2048_S512x128_0_1280)) (ix2 a i) = hd (p a) 1280 i := by
  have hi := i.isLt
  rw [ld_p _ _ _ _ _ (by omega), hP]
  rfl
include h2 in
theorem z10 (a : Fin 512) (i : Fin 128) : qZ (ldX X2 (Rect.unit (s := S512x512) ![0, 256] ![512, 128] inb_S512x512_S512x128_0_256)) (ix2 a i) = hd (yq q0 q1 q2 a) 1280 i * scl := by
  have hi := i.isLt
  have e : (ldX X2 (Rect.unit (s := S512x512) ![0, 256] ![512, 128] inb_S512x512_S512x128_0_256)) (ix2 a i) = hd (yq q0 q1 q2 a) 1280 i := by
    rw [ld_x _ _ _ _ _ (by omega), h2, hd, yq, cat3, if_neg (by omega), if_neg (by omega)]
    exact congrArg (q2 a) (by show 256 + i.val = 1280 + i.val - 1024; omega)
  rw [qZ_at, e]
include hP in
theorem t11 (a : Fin 512) (i : Fin 128) : (ldX P (Rect.unit (s := S512x2048) ![0, 1408] ![512, 128] inb_S512x2048_S512x128_0_1408)) (ix2 a i) = hd (p a) 1408 i := by
  have hi := i.isLt
  rw [ld_p _ _ _ _ _ (by omega), hP]
  rfl
include h2 in
theorem z11 (a : Fin 512) (i : Fin 128) : qZ (ldX X2 (Rect.unit (s := S512x512) ![0, 384] ![512, 128] inb_S512x512_S512x128_0_384)) (ix2 a i) = hd (yq q0 q1 q2 a) 1408 i * scl := by
  have hi := i.isLt
  have e : (ldX X2 (Rect.unit (s := S512x512) ![0, 384] ![512, 128] inb_S512x512_S512x128_0_384)) (ix2 a i) = hd (yq q0 q1 q2 a) 1408 i := by
    rw [ld_x _ _ _ _ _ (by omega), h2, hd, yq, cat3, if_neg (by omega), if_neg (by omega)]
    exact congrArg (q2 a) (by show 384 + i.val = 1408 + i.val - 1024; omega)
  rw [qZ_at, e]
include hP in
theorem t12 (a : Fin 512) (i : Fin 128) : (ldX P (Rect.unit (s := S512x2048) ![0, 1536] ![512, 128] inb_S512x2048_S512x128_0_1536)) (ix2 a i) = hd (p a) 1536 i := by
  have hi := i.isLt
  rw [ld_p _ _ _ _ _ (by omega), hP]
  rfl
include h3 h4 h5 in
theorem z12 (a : Fin 512) (i : Fin 128) : kZ (ldX X3 (Rect.unit (s := S512x512) ![0, 0] ![512, 128] inb_S512x512_S512x128_0_0)) (ldX X4 (Rect.unit (s := S512x512) ![0, 0] ![512, 128] inb_S512x512_S512x128_0_0)) (ldX X5 (Rect.unit (s := S512x512) ![0, 0] ![512, 128] inb_S512x512_S512x128_0_0)) (ix2 a i) = hd (yk k0 k1 k2 a) 0 i := by
  have hi := i.isLt
  rw [kZ_at, ld_x _ _ _ _ _ (by omega), ld_x _ _ _ _ _ (by omega), ld_x _ _ _ _ _ (by omega), h3, h4, h5]
  rfl
include hP in
theorem t13 (a : Fin 512) (i : Fin 128) : (ldX P (Rect.unit (s := S512x2048) ![0, 1664] ![512, 128] inb_S512x2048_S512x128_0_1664)) (ix2 a i) = hd (p a) 1664 i := by
  have hi := i.isLt
  rw [ld_p _ _ _ _ _ (by omega), hP]
  rfl
include h3 h4 h5 in
theorem z13 (a : Fin 512) (i : Fin 128) : kZ (ldX X3 (Rect.unit (s := S512x512) ![0, 128] ![512, 128] inb_S512x512_S512x128_0_128)) (ldX X4 (Rect.unit (s := S512x512) ![0, 128] ![512, 128] inb_S512x512_S512x128_0_128)) (ldX X5 (Rect.unit (s := S512x512) ![0, 128] ![512, 128] inb_S512x512_S512x128_0_128)) (ix2 a i) = hd (yk k0 k1 k2 a) 128 i := by
  have hi := i.isLt
  rw [kZ_at, ld_x _ _ _ _ _ (by omega), ld_x _ _ _ _ _ (by omega), ld_x _ _ _ _ _ (by omega), h3, h4, h5]
  rfl
include hP in
theorem t14 (a : Fin 512) (i : Fin 128) : (ldX P (Rect.unit (s := S512x2048) ![0, 1792] ![512, 128] inb_S512x2048_S512x128_0_1792)) (ix2 a i) = hd (p a) 1792 i := by
  have hi := i.isLt
  rw [ld_p _ _ _ _ _ (by omega), hP]
  rfl
include h3 h4 h5 in
theorem z14 (a : Fin 512) (i : Fin 128) : kZ (ldX X3 (Rect.unit (s := S512x512) ![0, 256] ![512, 128] inb_S512x512_S512x128_0_256)) (ldX X4 (Rect.unit (s := S512x512) ![0, 256] ![512, 128] inb_S512x512_S512x128_0_256)) (ldX X5 (Rect.unit (s := S512x512) ![0, 256] ![512, 128] inb_S512x512_S512x128_0_256)) (ix2 a i) = hd (yk k0 k1 k2 a) 256 i := by
  have hi := i.isLt
  rw [kZ_at, ld_x _ _ _ _ _ (by omega), ld_x _ _ _ _ _ (by omega), ld_x _ _ _ _ _ (by omega), h3, h4, h5]
  rfl
include hP in
theorem t15 (a : Fin 512) (i : Fin 128) : (ldX P (Rect.unit (s := S512x2048) ![0, 1920] ![512, 128] inb_S512x2048_S512x128_0_1920)) (ix2 a i) = hd (p a) 1920 i := by
  have hi := i.isLt
  rw [ld_p _ _ _ _ _ (by omega), hP]
  rfl
include h3 h4 h5 in
theorem z15 (a : Fin 512) (i : Fin 128) : kZ (ldX X3 (Rect.unit (s := S512x512) ![0, 384] ![512, 128] inb_S512x512_S512x128_0_384)) (ldX X4 (Rect.unit (s := S512x512) ![0, 384] ![512, 128] inb_S512x512_S512x128_0_384)) (ldX X5 (Rect.unit (s := S512x512) ![0, 384] ![512, 128] inb_S512x512_S512x128_0_384)) (ix2 a i) = hd (yk k0 k1 k2 a) 384 i := by
  have hi := i.isLt
  rw [kZ_at, ld_x _ _ _ _ _ (by omega), ld_x _ _ _ _ _ (by omega), ld_x _ _ _ _ _ (by omega), h3, h4, h5]
  rfl

include e0 e1 e2 e3 e4 e5 e6 e7 e8 e9 eP eC eS eG eL h0 h1 h2 h3 h4 h5 h6 h7 h8 h9 hP hC hS hG hL in
/-- The gradient in the projected rows of a block, at the first point. -/
theorem o15A (ht : t.val % 16 = 0) (a : Fin 512) (n : Fin 3072) : (outsAt0 m c t.val t.isLt).1 (ix2 a n)
    = Rope.dp (cc a) (ss a) (p a) (yq q0 q1 q2 a) (yk k0 k1 k2 a) (yv v0 v1 v2 a) (u a) g l n.val := by
  rw [outsAt0_A m c t ht]; dsimp only []; frame_out
  simp only [e0, e1, e2, e3, e4, e5, e6, e7, e8, e9, eP, eC, eS, eG, eL]
  clear ht
  canon_tiles x' w using View.cover_of_tiledBy _ ![512, 128] (by sl_kernel_rfl) _
  all_goals
    idx_vars x'
    obtain rfl : a = x'0 := Fin.ext w0
    rw [w1]
  · refine Eq.trans ?_ (dp_u _ _ _ _ _ _ _ _ _ x'1.val x'1.isLt).symm
    pointwise [k0_pay2]
    rw [h9]
  · refine Eq.trans ?_ (dp_v _ _ _ _ _ _ _ _ _ x'1.val x'1.isLt).symm
    pointwise [k0_pay1, k0_pay128]
    rw [h6, h7, h8]
  · exact (congrFun (row15 _ _ _ _ _ _ _) _).trans ((head_row _ _ _ _ _ cc ss (fun a => hd (p a) 1920) (fun a => hd (yk k0 k1 k2 a) 384) l hC hS (z15 X3 X4 X5 k0 k1 k2 h3 h4 h5) (t15 P p hP) hL _ _).trans
      (dp_k _ _ _ _ _ _ _ _ _ 3 (by decide) x'1).symm)
  · exact (congrFun (row14 _ _ _ _ _ _ _) _).trans ((head_row _ _ _ _ _ cc ss (fun a => hd (p a) 1792) (fun a => hd (yk k0 k1 k2 a) 256) l hC hS (z14 X3 X4 X5 k0 k1 k2 h3 h4 h5) (t14 P p hP) hL _ _).trans
      (dp_k _ _ _ _ _ _ _ _ _ 2 (by decide) x'1).symm)
  · exact (congrFun (row13 _ _ _ _ _ _ _) _).trans ((head_row _ _ _ _ _ cc ss (fun a => hd (p a) 1664) (fun a => hd (yk k0 k1 k2 a) 128) l hC hS (z13 X3 X4 X5 k0 k1 k2 h3 h4 h5) (t13 P p hP) hL _ _).trans
      (dp_k _ _ _ _ _ _ _ _ _ 1 (by decide) x'1).symm)
  · exact (congrFun (row12 _ _ _ _ _ _ _) _).trans ((head_row _ _ _ _ _ cc ss (fun a => hd (p a) 1536) (fun a => hd (yk k0 k1 k2 a) 0) l hC hS (z12 X3 X4 X5 k0 k1 k2 h3 h4 h5) (t12 P p hP) hL _ _).trans
      (dp_k _ _ _ _ _ _ _ _ _ 0 (by decide) x'1).symm)
  · exact (congrFun (row11 _ _ _ _ _) _).trans ((head_row _ _ _ _ _ cc ss (fun a => hd (p a) 1408) (fun a i => hd (yq q0 q1 q2 a) 1408 i * scl) g hC hS (z11 X2 q0 q1 q2 h2) (t11 P p hP) hG _ _).trans
      (dp_q _ _ _ _ _ _ _ _ _ 11 (by decide) x'1).symm)
  · exact (congrFun (row10 _ _ _ _ _) _).trans ((head_row _ _ _ _ _ cc ss (fun a => hd (p a) 1280) (fun a i => hd (yq q0 q1 q2 a) 1280 i * scl) g hC hS (z10 X2 q0 q1 q2 h2) (t10 P p hP) hG _ _).trans
      (dp_q _ _ _ _ _ _ _ _ _ 10 (by decide) x'1).symm)
  · exact (congrFun (row9 _ _ _ _ _) _).trans ((head_row _ _ _ _ _ cc ss (fun a => hd (p a) 1152) (fun a i => hd (yq q0 q1 q2 a) 1152 i * scl) g hC hS (z9 X2 q0 q1 q2 h2) (t9 P p hP) hG _ _).trans
      (dp_q _ _ _ _ _ _ _ _ _ 9 (by decide) x'1).symm)
  · exact (congrFun (row8 _ _ _ _ _) _).trans ((head_row _ _ _ _ _ cc ss (fun a => hd (p a) 1024) (fun a i => hd (yq q0 q1 q2 a) 1024 i * scl) g hC hS (z8 X2 q0 q1 q2 h2) (t8 P p hP) hG _ _).trans
      (dp_q _ _ _ _ _ _ _ _ _ 8 (by decide) x'1).symm)
  · exact (congrFun (row7 _ _ _ _ _) _).trans ((head_row _ _ _ _ _ cc ss (fun a => hd (p a) 896) (fun a i => hd (yq q0 q1 q2 a) 896 i * scl) g hC hS (z7 X1 q0 q1 q2 h1) (t7 P p hP) hG _ _).trans
      (dp_q _ _ _ _ _ _ _ _ _ 7 (by decide) x'1).symm)
  · exact (congrFun (row6 _ _ _ _ _) _).trans ((head_row _ _ _ _ _ cc ss (fun a => hd (p a) 768) (fun a i => hd (yq q0 q1 q2 a) 768 i * scl) g hC hS (z6 X1 q0 q1 q2 h1) (t6 P p hP) hG _ _).trans
      (dp_q _ _ _ _ _ _ _ _ _ 6 (by decide) x'1).symm)
  · exact (congrFun (row5 _ _ _ _ _) _).trans ((head_row _ _ _ _ _ cc ss (fun a => hd (p a) 640) (fun a i => hd (yq q0 q1 q2 a) 640 i * scl) g hC hS (z5 X1 q0 q1 q2 h1) (t5 P p hP) hG _ _).trans
      (dp_q _ _ _ _ _ _ _ _ _ 5 (by decide) x'1).symm)
  · exact (congrFun (row4 _ _ _ _ _) _).trans ((head_row _ _ _ _ _ cc ss (fun a => hd (p a) 512) (fun a i => hd (yq q0 q1 q2 a) 512 i * scl) g hC hS (z4 X1 q0 q1 q2 h1) (t4 P p hP) hG _ _).trans
      (dp_q _ _ _ _ _ _ _ _ _ 4 (by decide) x'1).symm)
  · exact (congrFun (row3 _ _ _ _ _) _).trans ((head_row _ _ _ _ _ cc ss (fun a => hd (p a) 384) (fun a i => hd (yq q0 q1 q2 a) 384 i * scl) g hC hS (z3 X0 q0 q1 q2 h0) (t3 P p hP) hG _ _).trans
      (dp_q _ _ _ _ _ _ _ _ _ 3 (by decide) x'1).symm)
  · exact (congrFun (row2 _ _ _ _ _) _).trans ((head_row _ _ _ _ _ cc ss (fun a => hd (p a) 256) (fun a i => hd (yq q0 q1 q2 a) 256 i * scl) g hC hS (z2 X0 q0 q1 q2 h0) (t2 P p hP) hG _ _).trans
      (dp_q _ _ _ _ _ _ _ _ _ 2 (by decide) x'1).symm)
  · exact (congrFun (row1 _ _ _ _ _) _).trans ((head_row _ _ _ _ _ cc ss (fun a => hd (p a) 128) (fun a i => hd (yq q0 q1 q2 a) 128 i * scl) g hC hS (z1 X0 q0 q1 q2 h0) (t1 P p hP) hG _ _).trans
      (dp_q _ _ _ _ _ _ _ _ _ 1 (by decide) x'1).symm)
  · exact (congrFun (row0 _ _ _ _ _) _).trans ((head_row _ _ _ _ _ cc ss (fun a => hd (p a) 0) (fun a i => hd (yq q0 q1 q2 a) 0 i * scl) g hC hS (z0 X0 q0 q1 q2 h0) (t0 P p hP) hG _ _).trans
      (dp_q0 _ _ _ _ _ _ _ _ _ x'1).symm)
include e0 e1 e2 e3 e4 e5 e6 e7 e8 e9 eP eC eS eG eL h0 h1 h2 h3 h4 h5 h6 h7 h8 h9 hP hC hS hG hL in
/-- The gradient in the projected rows of a block, at every other point. -/
theorem o15B (ht : ¬ t.val % 16 = 0) (a : Fin 512) (n : Fin 3072) : (outsAt0 m c t.val t.isLt).1 (ix2 a n)
    = Rope.dp (cc a) (ss a) (p a) (yq q0 q1 q2 a) (yk k0 k1 k2 a) (yv v0 v1 v2 a) (u a) g l n.val := by
  rw [outsAt0_B m c t ht]; dsimp only []; frame_out
  simp only [e0, e1, e2, e3, e4, e5, e6, e7, e8, e9, eP, eC, eS, eG, eL]
  clear ht
  canon_tiles x' w using View.cover_of_tiledBy _ ![512, 128] (by sl_kernel_rfl) _
  all_goals
    idx_vars x'
    obtain rfl : a = x'0 := Fin.ext w0
    rw [w1]
  · refine Eq.trans ?_ (dp_u _ _ _ _ _ _ _ _ _ x'1.val x'1.isLt).symm
    pointwise [k0_pay2]
    rw [h9]
  · refine Eq.trans ?_ (dp_v _ _ _ _ _ _ _ _ _ x'1.val x'1.isLt).symm
    pointwise [k0_pay1, k0_pay128]
    rw [h6, h7, h8]
  · exact (congrFun (row15 _ _ _ _ _ _ _) _).trans ((head_row _ _ _ _ _ cc ss (fun a => hd (p a) 1920) (fun a => hd (yk k0 k1 k2 a) 384) l hC hS (z15 X3 X4 X5 k0 k1 k2 h3 h4 h5) (t15 P p hP) hL _ _).trans
      (dp_k _ _ _ _ _ _ _ _ _ 3 (by decide) x'1).symm)
  · exact (congrFun (row14 _ _ _ _ _ _ _) _).trans ((head_row _ _ _ _ _ cc ss (fun a => hd (p a) 1792) (fun a => hd (yk k0 k1 k2 a) 256) l hC hS (z14 X3 X4 X5 k0 k1 k2 h3 h4 h5) (t14 P p hP) hL _ _).trans
      (dp_k _ _ _ _ _ _ _ _ _ 2 (by decide) x'1).symm)
  · exact (congrFun (row13 _ _ _ _ _ _ _) _).trans ((head_row _ _ _ _ _ cc ss (fun a => hd (p a) 1664) (fun a => hd (yk k0 k1 k2 a) 128) l hC hS (z13 X3 X4 X5 k0 k1 k2 h3 h4 h5) (t13 P p hP) hL _ _).trans
      (dp_k _ _ _ _ _ _ _ _ _ 1 (by decide) x'1).symm)
  · exact (congrFun (row12 _ _ _ _ _ _ _) _).trans ((head_row _ _ _ _ _ cc ss (fun a => hd (p a) 1536) (fun a => hd (yk k0 k1 k2 a) 0) l hC hS (z12 X3 X4 X5 k0 k1 k2 h3 h4 h5) (t12 P p hP) hL _ _).trans
      (dp_k _ _ _ _ _ _ _ _ _ 0 (by decide) x'1).symm)
  · exact (congrFun (row11 _ _ _ _ _) _).trans ((head_row _ _ _ _ _ cc ss (fun a => hd (p a) 1408) (fun a i => hd (yq q0 q1 q2 a) 1408 i * scl) g hC hS (z11 X2 q0 q1 q2 h2) (t11 P p hP) hG _ _).trans
      (dp_q _ _ _ _ _ _ _ _ _ 11 (by decide) x'1).symm)
  · exact (congrFun (row10 _ _ _ _ _) _).trans ((head_row _ _ _ _ _ cc ss (fun a => hd (p a) 1280) (fun a i => hd (yq q0 q1 q2 a) 1280 i * scl) g hC hS (z10 X2 q0 q1 q2 h2) (t10 P p hP) hG _ _).trans
      (dp_q _ _ _ _ _ _ _ _ _ 10 (by decide) x'1).symm)
  · exact (congrFun (row9 _ _ _ _ _) _).trans ((head_row _ _ _ _ _ cc ss (fun a => hd (p a) 1152) (fun a i => hd (yq q0 q1 q2 a) 1152 i * scl) g hC hS (z9 X2 q0 q1 q2 h2) (t9 P p hP) hG _ _).trans
      (dp_q _ _ _ _ _ _ _ _ _ 9 (by decide) x'1).symm)
  · exact (congrFun (row8 _ _ _ _ _) _).trans ((head_row _ _ _ _ _ cc ss (fun a => hd (p a) 1024) (fun a i => hd (yq q0 q1 q2 a) 1024 i * scl) g hC hS (z8 X2 q0 q1 q2 h2) (t8 P p hP) hG _ _).trans
      (dp_q _ _ _ _ _ _ _ _ _ 8 (by decide) x'1).symm)
  · exact (congrFun (row7 _ _ _ _ _) _).trans ((head_row _ _ _ _ _ cc ss (fun a => hd (p a) 896) (fun a i => hd (yq q0 q1 q2 a) 896 i * scl) g hC hS (z7 X1 q0 q1 q2 h1) (t7 P p hP) hG _ _).trans
      (dp_q _ _ _ _ _ _ _ _ _ 7 (by decide) x'1).symm)
  · exact (congrFun (row6 _ _ _ _ _) _).trans ((head_row _ _ _ _ _ cc ss (fun a => hd (p a) 768) (fun a i => hd (yq q0 q1 q2 a) 768 i * scl) g hC hS (z6 X1 q0 q1 q2 h1) (t6 P p hP) hG _ _).trans
      (dp_q _ _ _ _ _ _ _ _ _ 6 (by decide) x'1).symm)
  · exact (congrFun (row5 _ _ _ _ _) _).trans ((head_row _ _ _ _ _ cc ss (fun a => hd (p a) 640) (fun a i => hd (yq q0 q1 q2 a) 640 i * scl) g hC hS (z5 X1 q0 q1 q2 h1) (t5 P p hP) hG _ _).trans
      (dp_q _ _ _ _ _ _ _ _ _ 5 (by decide) x'1).symm)
  · exact (congrFun (row4 _ _ _ _ _) _).trans ((head_row _ _ _ _ _ cc ss (fun a => hd (p a) 512) (fun a i => hd (yq q0 q1 q2 a) 512 i * scl) g hC hS (z4 X1 q0 q1 q2 h1) (t4 P p hP) hG _ _).trans
      (dp_q _ _ _ _ _ _ _ _ _ 4 (by decide) x'1).symm)
  · exact (congrFun (row3 _ _ _ _ _) _).trans ((head_row _ _ _ _ _ cc ss (fun a => hd (p a) 384) (fun a i => hd (yq q0 q1 q2 a) 384 i * scl) g hC hS (z3 X0 q0 q1 q2 h0) (t3 P p hP) hG _ _).trans
      (dp_q _ _ _ _ _ _ _ _ _ 3 (by decide) x'1).symm)
  · exact (congrFun (row2 _ _ _ _ _) _).trans ((head_row _ _ _ _ _ cc ss (fun a => hd (p a) 256) (fun a i => hd (yq q0 q1 q2 a) 256 i * scl) g hC hS (z2 X0 q0 q1 q2 h0) (t2 P p hP) hG _ _).trans
      (dp_q _ _ _ _ _ _ _ _ _ 2 (by decide) x'1).symm)
  · exact (congrFun (row1 _ _ _ _ _) _).trans ((head_row _ _ _ _ _ cc ss (fun a => hd (p a) 128) (fun a i => hd (yq q0 q1 q2 a) 128 i * scl) g hC hS (z1 X0 q0 q1 q2 h0) (t1 P p hP) hG _ _).trans
      (dp_q _ _ _ _ _ _ _ _ _ 1 (by decide) x'1).symm)
  · exact (congrFun (row0 _ _ _ _ _) _).trans ((head_row _ _ _ _ _ cc ss (fun a => hd (p a) 0) (fun a i => hd (yq q0 q1 q2 a) 0 i * scl) g hC hS (z0 X0 q0 q1 q2 h0) (t0 P p hP) hG _ _).trans
      (dp_q0 _ _ _ _ _ _ _ _ _ x'1).symm)
include e0 e1 e2 eP eC eS h0 h1 h2 hP hC hS in
/-- The gradient in the gain of the queries starts at the first point. -/
theorem o16A (ht : t.val % 16 = 0) (d : Fin 128) : (outsAt0 m c t.val t.isLt).2.1 (ix2 0 d)
    = 0 + ∑ a, Rope.gqr (cc a) (ss a) (p a) (yq q0 q1 q2 a) d := by
  rw [outsAt0_A m c t ht]; dsimp only []; frame_out
  simp only [e0, e1, e2, eP, eC, eS]
  rw [gainq, gain11, gain10, gain9, gain8, gain7, gain6, gain5, gain4, gain3, gain2, gain1, gain0]
  refine add_row _ _ d _ _ (by pointwise [k0_pay3]) ?_
  rw [head_gain _ _ _ _ _ cc ss (fun a => hd (p a) 1408) (fun a i => hd (yq q0 q1 q2 a) 1408 i * scl) hC hS (z11 X2 q0 q1 q2 h2) (t11 P p hP)]
  rw [head_gain _ _ _ _ _ cc ss (fun a => hd (p a) 1280) (fun a i => hd (yq q0 q1 q2 a) 1280 i * scl) hC hS (z10 X2 q0 q1 q2 h2) (t10 P p hP)]
  rw [head_gain _ _ _ _ _ cc ss (fun a => hd (p a) 1152) (fun a i => hd (yq q0 q1 q2 a) 1152 i * scl) hC hS (z9 X2 q0 q1 q2 h2) (t9 P p hP)]
  rw [head_gain _ _ _ _ _ cc ss (fun a => hd (p a) 1024) (fun a i => hd (yq q0 q1 q2 a) 1024 i * scl) hC hS (z8 X2 q0 q1 q2 h2) (t8 P p hP)]
  rw [head_gain _ _ _ _ _ cc ss (fun a => hd (p a) 896) (fun a i => hd (yq q0 q1 q2 a) 896 i * scl) hC hS (z7 X1 q0 q1 q2 h1) (t7 P p hP)]
  rw [head_gain _ _ _ _ _ cc ss (fun a => hd (p a) 768) (fun a i => hd (yq q0 q1 q2 a) 768 i * scl) hC hS (z6 X1 q0 q1 q2 h1) (t6 P p hP)]
  rw [head_gain _ _ _ _ _ cc ss (fun a => hd (p a) 640) (fun a i => hd (yq q0 q1 q2 a) 640 i * scl) hC hS (z5 X1 q0 q1 q2 h1) (t5 P p hP)]
  rw [head_gain _ _ _ _ _ cc ss (fun a => hd (p a) 512) (fun a i => hd (yq q0 q1 q2 a) 512 i * scl) hC hS (z4 X1 q0 q1 q2 h1) (t4 P p hP)]
  rw [head_gain _ _ _ _ _ cc ss (fun a => hd (p a) 384) (fun a i => hd (yq q0 q1 q2 a) 384 i * scl) hC hS (z3 X0 q0 q1 q2 h0) (t3 P p hP)]
  rw [head_gain _ _ _ _ _ cc ss (fun a => hd (p a) 256) (fun a i => hd (yq q0 q1 q2 a) 256 i * scl) hC hS (z2 X0 q0 q1 q2 h0) (t2 P p hP)]
  rw [head_gain _ _ _ _ _ cc ss (fun a => hd (p a) 128) (fun a i => hd (yq q0 q1 q2 a) 128 i * scl) hC hS (z1 X0 q0 q1 q2 h0) (t1 P p hP)]
  rw [head_gain _ _ _ _ _ cc ss (fun a => hd (p a) 0) (fun a i => hd (yq q0 q1 q2 a) 0 i * scl) hC hS (z0 X0 q0 q1 q2 h0) (t0 P p hP)]
  have e : k0_pay7 (F := Ideal) (ix2 0 d) = 0 := by pointwise [k0_pay7]
  rw [e]
  exact gq_sum cc ss p (yq q0 q1 q2) d (fun h => ∑ a, rot (cc a) (ss a) (fun i => hd (yq q0 q1 q2 a) (128 * h) i * scl) d * xh c128 (hd (p a) (128 * h)) d) (fun _ => rfl)
include e0 e1 e2 eP eC eS h0 h1 h2 hP hC hS in
/-- The gradient in the gain of the queries grows at every other point. -/
theorem o16B (ht : ¬ t.val % 16 = 0) (d : Fin 128) : (outsAt0 m c t.val t.isLt).2.1 (ix2 0 d)
    = (outsAt0 m c (t.val - 1) (by omega)).2.1 (ix2 0 d) + ∑ a, Rope.gqr (cc a) (ss a) (p a) (yq q0 q1 q2 a) d := by
  rw [outsAt0_B m c t ht]; dsimp only []; frame_out
  simp only [e0, e1, e2, eP, eC, eS]
  rw [gainq, gain11, gain10, gain9, gain8, gain7, gain6, gain5, gain4, gain3, gain2, gain1, gain0]
  refine add_row _ _ d _ _ rfl ?_
  rw [head_gain _ _ _ _ _ cc ss (fun a => hd (p a) 1408) (fun a i => hd (yq q0 q1 q2 a) 1408 i * scl) hC hS (z11 X2 q0 q1 q2 h2) (t11 P p hP)]
  rw [head_gain _ _ _ _ _ cc ss (fun a => hd (p a) 1280) (fun a i => hd (yq q0 q1 q2 a) 1280 i * scl) hC hS (z10 X2 q0 q1 q2 h2) (t10 P p hP)]
  rw [head_gain _ _ _ _ _ cc ss (fun a => hd (p a) 1152) (fun a i => hd (yq q0 q1 q2 a) 1152 i * scl) hC hS (z9 X2 q0 q1 q2 h2) (t9 P p hP)]
  rw [head_gain _ _ _ _ _ cc ss (fun a => hd (p a) 1024) (fun a i => hd (yq q0 q1 q2 a) 1024 i * scl) hC hS (z8 X2 q0 q1 q2 h2) (t8 P p hP)]
  rw [head_gain _ _ _ _ _ cc ss (fun a => hd (p a) 896) (fun a i => hd (yq q0 q1 q2 a) 896 i * scl) hC hS (z7 X1 q0 q1 q2 h1) (t7 P p hP)]
  rw [head_gain _ _ _ _ _ cc ss (fun a => hd (p a) 768) (fun a i => hd (yq q0 q1 q2 a) 768 i * scl) hC hS (z6 X1 q0 q1 q2 h1) (t6 P p hP)]
  rw [head_gain _ _ _ _ _ cc ss (fun a => hd (p a) 640) (fun a i => hd (yq q0 q1 q2 a) 640 i * scl) hC hS (z5 X1 q0 q1 q2 h1) (t5 P p hP)]
  rw [head_gain _ _ _ _ _ cc ss (fun a => hd (p a) 512) (fun a i => hd (yq q0 q1 q2 a) 512 i * scl) hC hS (z4 X1 q0 q1 q2 h1) (t4 P p hP)]
  rw [head_gain _ _ _ _ _ cc ss (fun a => hd (p a) 384) (fun a i => hd (yq q0 q1 q2 a) 384 i * scl) hC hS (z3 X0 q0 q1 q2 h0) (t3 P p hP)]
  rw [head_gain _ _ _ _ _ cc ss (fun a => hd (p a) 256) (fun a i => hd (yq q0 q1 q2 a) 256 i * scl) hC hS (z2 X0 q0 q1 q2 h0) (t2 P p hP)]
  rw [head_gain _ _ _ _ _ cc ss (fun a => hd (p a) 128) (fun a i => hd (yq q0 q1 q2 a) 128 i * scl) hC hS (z1 X0 q0 q1 q2 h0) (t1 P p hP)]
  rw [head_gain _ _ _ _ _ cc ss (fun a => hd (p a) 0) (fun a i => hd (yq q0 q1 q2 a) 0 i * scl) hC hS (z0 X0 q0 q1 q2 h0) (t0 P p hP)]
  have e : k0_pay7 (F := Ideal) (ix2 0 d) = 0 := by pointwise [k0_pay7]
  rw [e]
  exact gq_sum cc ss p (yq q0 q1 q2) d (fun h => ∑ a, rot (cc a) (ss a) (fun i => hd (yq q0 q1 q2 a) (128 * h) i * scl) d * xh c128 (hd (p a) (128 * h)) d) (fun _ => rfl)
include e3 e4 e5 eP eC eS h3 h4 h5 hP hC hS in
/-- The gradient in the gain of the keys starts at the first point. -/
theorem o17A (ht : t.val % 16 = 0) (d : Fin 128) : (outsAt0 m c t.val t.isLt).2.2 (ix2 0 d)
    = 0 + ∑ a, Rope.gkr (cc a) (ss a) (p a) (yk k0 k1 k2 a) d := by
  rw [outsAt0_A m c t ht]; dsimp only []; frame_out
  simp only [e3, e4, e5, eP, eC, eS]
  rw [gain15, gain14, gain13, gain12]
  refine add_row _ _ d _ _ (by pointwise [k0_pay4]) ?_
  rw [head_gain _ _ _ _ _ cc ss (fun a => hd (p a) 1920) (fun a => hd (yk k0 k1 k2 a) 384) hC hS (z15 X3 X4 X5 k0 k1 k2 h3 h4 h5) (t15 P p hP)]
  rw [head_gain _ _ _ _ _ cc ss (fun a => hd (p a) 1792) (fun a => hd (yk k0 k1 k2 a) 256) hC hS (z14 X3 X4 X5 k0 k1 k2 h3 h4 h5) (t14 P p hP)]
  rw [head_gain _ _ _ _ _ cc ss (fun a => hd (p a) 1664) (fun a => hd (yk k0 k1 k2 a) 128) hC hS (z13 X3 X4 X5 k0 k1 k2 h3 h4 h5) (t13 P p hP)]
  rw [head_gain _ _ _ _ _ cc ss (fun a => hd (p a) 1536) (fun a => hd (yk k0 k1 k2 a) 0) hC hS (z12 X3 X4 X5 k0 k1 k2 h3 h4 h5) (t12 P p hP)]
  have e : k0_pay99 (F := Ideal) (ix2 0 d) = 0 := by pointwise [k0_pay99]
  rw [e]
  exact gk_sum cc ss p (yk k0 k1 k2) d (fun h => ∑ a, rot (cc a) (ss a) (hd (yk k0 k1 k2 a) (128 * h)) d * xh c128 (hd (p a) (1536 + 128 * h)) d) (fun _ => rfl)
include e3 e4 e5 eP eC eS h3 h4 h5 hP hC hS in
/-- The gradient in the gain of the keys grows at every other point. -/
theorem o17B (ht : ¬ t.val % 16 = 0) (d : Fin 128) : (outsAt0 m c t.val t.isLt).2.2 (ix2 0 d)
    = (outsAt0 m c (t.val - 1) (by omega)).2.2 (ix2 0 d) + ∑ a, Rope.gkr (cc a) (ss a) (p a) (yk k0 k1 k2 a) d := by
  rw [outsAt0_B m c t ht]; dsimp only []; frame_out
  simp only [e3, e4, e5, eP, eC, eS]
  rw [gain15, gain14, gain13, gain12]
  refine add_row _ _ d _ _ rfl ?_
  rw [head_gain _ _ _ _ _ cc ss (fun a => hd (p a) 1920) (fun a => hd (yk k0 k1 k2 a) 384) hC hS (z15 X3 X4 X5 k0 k1 k2 h3 h4 h5) (t15 P p hP)]
  rw [head_gain _ _ _ _ _ cc ss (fun a => hd (p a) 1792) (fun a => hd (yk k0 k1 k2 a) 256) hC hS (z14 X3 X4 X5 k0 k1 k2 h3 h4 h5) (t14 P p hP)]
  rw [head_gain _ _ _ _ _ cc ss (fun a => hd (p a) 1664) (fun a => hd (yk k0 k1 k2 a) 128) hC hS (z13 X3 X4 X5 k0 k1 k2 h3 h4 h5) (t13 P p hP)]
  rw [head_gain _ _ _ _ _ cc ss (fun a => hd (p a) 1536) (fun a => hd (yk k0 k1 k2 a) 0) hC hS (z12 X3 X4 X5 k0 k1 k2 h3 h4 h5) (t12 P p hP)]
  have e : k0_pay99 (F := Ideal) (ix2 0 d) = 0 := by pointwise [k0_pay99]
  rw [e]
  exact gk_sum cc ss p (yk k0 k1 k2) d (fun h => ∑ a, rot (cc a) (ss a) (hd (yk k0 k1 k2 a) (128 * h)) d * xh c128 (hd (p a) (1536 + 128 * h)) d) (fun _ => rfl)

end Cert.QkvBwdIdeal.Value

end
-- ==== Proof.Red.lean ====
/-
  Reductions of arrays of rank four over the extended reals, at any extents.
-/
module

public import Idealize.ShloMosaic.Lib.Pipeline.ValueKit
public import Idealize.ShloMosaic.Lib.Pointwise

@[expose] public section

noncomputable section
open Idealize.ShloMosaic
namespace Cert.Red

variable {n p m : ℕ} {u : Shape} (hu : 0 < u.numel)

/-- The greatest entry along the last axis. -/
theorem max_last (x : FVec Ideal ⟨4, ![1, p, n, m]⟩ .f32) (init : FVec Ideal u .f32) (h : (⟨4, ![1, p, n, m]⟩ : Shape).ReducesTo [3] ⟨3, ![1, p, n]⟩)
    (a : Fin p) (b : Fin n) : Host.reduce FloatOps.maximumf x init h hu (ix3 0 a b)
    = (Finset.univ : Finset (Fin m)).fold max (init (Shape.Idx.first hu)) fun k => x (ix4 0 a b k) := by
  rw [Host.reduce_eq_fold]
  exact h.fold_fiber_r4_a3 (ix3 0 a b) _ _ _

omit hu in
/-- An index is named by its two middle coordinates once the others are fixed. -/
theorem inj_mid (d : Fin m) : Function.Injective (fun q : Fin n × Fin p => (ix4 0 q.1 q.2 d : (⟨4, ![1, n, p, m]⟩ : Shape).Idx)) :=
  fun a b e => Prod.ext (show a.1 = b.1 from congrFun e 1) (show a.2 = b.2 from congrFun e 2)

/-- A sum over the two middle axes. -/
theorem sum_mid (x : FVec Ideal ⟨4, ![1, n, p, m]⟩ .f32) (init : FVec Ideal u .f32) (h : (⟨4, ![1, n, p, m]⟩ : Shape).ReducesTo [1, 2] ⟨2, ![1, m]⟩)
    (d : Fin m) : Host.reduceAdd x init h hu (ix2 0 d) = init (Shape.Idx.first hu) + ∑ a : Fin n, ∑ b : Fin p, x (ix4 0 a b d) := by
  show init (Shape.Idx.first hu) + ∑ i ∈ Finset.univ.filter (fun i => h.drop i = ix2 0 d), x i = _
  rw [← Fintype.sum_prod_type' (fun a b => x (ix4 0 a b d))]
  congr 1
  refine Finset.sum_filter_eq_sum_of_fiber _ (fun q : Fin n × Fin p => ix4 0 q.1 q.2 d) (inj_mid d) (fun i => ?_) _
  constructor
  · intro e
    refine ⟨(i 1, i 2), ?_⟩
    funext a; apply Fin.ext
    match a with
    | ⟨0, _⟩ => exact (Nat.lt_one_iff.mp (i 0).isLt).symm
    | ⟨1, _⟩ => rfl
    | ⟨2, _⟩ => rfl
    | ⟨3, _⟩ => exact (congrArg Fin.val (congrFun e 1)).symm
  · rintro ⟨k, rfl⟩
    funext b
    apply Fin.ext
    match b with
    | ⟨0, _⟩ => rfl
    | ⟨1, _⟩ => rfl

/-- A sum over a first and a last axis of one entry each. -/
theorem sum_ends (x : FVec Ideal ⟨4, ![1, n, p, 1]⟩ .f32) (init : FVec Ideal u .f32) (h : (⟨4, ![1, n, p, 1]⟩ : Shape).ReducesTo [0, 3] ⟨2, ![n, p]⟩)
    (a : Fin n) (b : Fin p) : Host.reduceAdd x init h hu (ix2 a b) = init (Shape.Idx.first hu) + x (ix4 0 a b 0) := by
  show init (Shape.Idx.first hu) + ∑ i ∈ Finset.univ.filter (fun i => h.drop i = ix2 a b), x i = _
  congr 1
  rw [← Fin.sum_univ_one (fun _ => x (ix4 0 a b 0))]
  refine Finset.sum_filter_eq_sum_of_fiber _ (fun _ : Fin 1 => ix4 0 a b 0) (fun a b e => Subsingleton.elim _ _) (fun i => ?_) _
  constructor
  · intro e
    refine ⟨0, ?_⟩
    funext a; apply Fin.ext
    match a with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => exact (Nat.lt_one_iff.mp (i 3).isLt).symm
  · rintro ⟨k, rfl⟩
    funext b
    apply Fin.ext
    match b with
    | ⟨0, _⟩ => rfl
    | ⟨1, _⟩ => rfl

/-- A sum over three axes of one entry each. -/
theorem sum_ones (x : FVec Ideal ⟨4, ![1, 1, 1, m]⟩ .f32) (init : FVec Ideal u .f32) (h : (⟨4, ![1, 1, 1, m]⟩ : Shape).ReducesTo [0, 1, 2] ⟨1, ![m]⟩)
    (d : Fin m) : Host.reduceAdd x init h hu (ix1 d) = init (Shape.Idx.first hu) + x (ix4 0 0 0 d) := by
  show init (Shape.Idx.first hu) + ∑ i ∈ Finset.univ.filter (fun i => h.drop i = ix1 d), x i = _
  congr 1
  rw [← Fin.sum_univ_one (fun _ => x (ix4 0 0 0 d))]
  refine Finset.sum_filter_eq_sum_of_fiber _ (fun _ : Fin 1 => ix4 0 0 0 d) (fun a b e => Subsingleton.elim _ _) (fun i => ?_) _
  constructor
  · intro e
    refine ⟨0, ?_⟩
    funext a; apply Fin.ext
    match a with
    | ⟨0, _⟩ => exact (Nat.lt_one_iff.mp (i 0).isLt).symm
    | ⟨1, _⟩ => exact (Nat.lt_one_iff.mp (i 1).isLt).symm
    | ⟨2, _⟩ => exact (Nat.lt_one_iff.mp (i 2).isLt).symm
    | ⟨3, _⟩ => exact (congrArg Fin.val (congrFun e 0)).symm
  · rintro ⟨k, rfl⟩
    funext b
    apply Fin.ext
    match b with
    | ⟨0, _⟩ => rfl

end Cert.Red

end
-- ==== Proof.QkvRef.lean ====
/-
  The values of the reference of the gradients entering the mixer's input projection, over the extended reals, operation by operation.
-/
module

public import proofs.«01_k».proof.Proof.Gen.QkvBwdRefIdeal.Read
public import proofs.«01_k».proof.Proof.Rope
public import proofs.«01_k».proof.Proof.Red
public import Idealize.ShloMosaic.Lib.Pipeline.ValueKit
public import Idealize.ShloMosaic.Lib.Pointwise
public import Idealize.ShloMosaic.Lib.KernelVsHost

@[expose] public section

set_option maxRecDepth 16384
noncomputable section
open Idealize.ShloMosaic Idealize.ShloMosaic.TcCoe Idealize.SL.Sem

namespace Cert.Rope

/-- What goes into the call, row by row: the gradients of the three attention calls, the pool's gradient, the projected rows, the
    cosines and sines, and the gains. -/
structure Inp where
  q0 : Fin 8192 → ℕ → EReal
  q1 : Fin 8192 → ℕ → EReal
  q2 : Fin 8192 → ℕ → EReal
  k0 : Fin 8192 → ℕ → EReal
  k1 : Fin 8192 → ℕ → EReal
  k2 : Fin 8192 → ℕ → EReal
  v0 : Fin 8192 → ℕ → EReal
  v1 : Fin 8192 → ℕ → EReal
  v2 : Fin 8192 → ℕ → EReal
  u : Fin 8192 → ℕ → EReal
  p : Fin 8192 → ℕ → EReal
  c : Fin 8192 → ℕ → EReal
  s : Fin 8192 → ℕ → EReal
  g : Fin 128 → EReal
  l : Fin 128 → EReal

namespace Inp
variable (I : Inp)
/-- The gradients in a token's queries. -/
def yq (r : Fin 8192) : ℕ → EReal := cat3 (I.q0 r) (I.q1 r) (I.q2 r)
/-- The gradients in a token's keys, of the three calls together. -/
def yk (r : Fin 8192) (n : ℕ) : EReal := I.k0 r n + I.k1 r n + I.k2 r n
/-- The gradients in a token's values, of the three calls together. -/
def yv (r : Fin 8192) (n : ℕ) : EReal := I.v0 r n + I.v1 r n + I.v2 r n
end Inp

end Cert.Rope

namespace Cert.QkvBwdRefIdeal.Value
open Cert.QkvBwdRefIdeal Cert.QkvBwdRefIdeal.Gen Cert.QkvBwdRefIdeal.Read Cert.Rope Cert.Cross Cert.Norm

/-- The arguments hold these rows. -/
structure Of (I : Inp) (A0 : FVec Ideal S8192x512 .bf16) (A1 A2 : FVec Ideal S8192x512 .f32) (A3 : FVec Ideal S8192x512 .bf16)
    (A4 A5 : FVec Ideal S8192x512 .f32) (A6 : FVec Ideal S8192x512 .bf16) (A7 A8 A9 : FVec Ideal S8192x512 .f32)
    (P : FVec Ideal S8192x3072 .f32) (T : IVec S8192 32) (G L : FVec Ideal S1x128 .f32) : Prop where
  h0 : ∀ r n, A0 (ix2 r n) = I.q0 r n.val
  h1 : ∀ r n, A1 (ix2 r n) = I.q1 r n.val
  h2 : ∀ r n, A2 (ix2 r n) = I.q2 r n.val
  h3 : ∀ r n, A3 (ix2 r n) = I.k0 r n.val
  h4 : ∀ r n, A4 (ix2 r n) = I.k1 r n.val
  h5 : ∀ r n, A5 (ix2 r n) = I.k2 r n.val
  h6 : ∀ r n, A6 (ix2 r n) = I.v0 r n.val
  h7 : ∀ r n, A7 (ix2 r n) = I.v1 r n.val
  h8 : ∀ r n, A8 (ix2 r n) = I.v2 r n.val
  h9 : ∀ r n, A9 (ix2 r n) = I.u r n.val
  hP : ∀ r n, P (ix2 r n) = I.p r n.val
  hc : ∀ r i, val_main_v17 (F := Ideal) T (ix3 0 r i) = I.c r i.val
  hs : ∀ r i, val_main_v18 (F := Ideal) T (ix3 0 r i) = I.s r i.val
  hG : ∀ d, G (ix2 0 d) = I.g d
  hL : ∀ d, L (ix2 0 d) = I.l d

variable {I : Inp} {A0 : FVec Ideal S8192x512 .bf16} {A1 A2 : FVec Ideal S8192x512 .f32} {A3 : FVec Ideal S8192x512 .bf16}
    {A4 A5 : FVec Ideal S8192x512 .f32} {A6 : FVec Ideal S8192x512 .bf16} {A7 A8 A9 : FVec Ideal S8192x512 .f32}
    {P : FVec Ideal S8192x3072 .f32} {T : IVec S8192 32} {G L : FVec Ideal S1x128 .f32} (H : Of I A0 A1 A2 A3 A4 A5 A6 A7 A8 A9 P T G L)

/-- The gradient in a row, its terms in another order. -/
theorem ng_at {n : ℕ} {κ : EReal} {N : ℝ} (hκ : κ = (N : EReal)) (hN : 0 < N) (x g d : Fin n → EReal) (k : Fin n) :
    d k * g k * rr κ x + x k * nt κ x g d + nt κ x g d * x k = ng κ x g d k := ng_eq hκ hN x g d k

/-- A row turned back, spelt by parts that are padded and added. -/
theorem turn (c s : ℕ → EReal) (z : Fin 128 → EReal) (d : Fin 128) :
    ((if h : 32 ≤ d.val ∧ d.val - 32 < 96 then z ⟨32 + (d.val - 32), by omega⟩ else 0) +
      if h : d.val < 32 then
        (if h2 : 16 ≤ d.val ∧ d.val - 16 < 16 then
            z ⟨16 + (d.val - 16), by omega⟩ * c (d.val - 16) + -z ⟨d.val - 16, by omega⟩ * s (d.val - 16)
          else 0) +
          if h2 : d.val < 16 then z ⟨16 + d.val, by omega⟩ * s d.val + z d * c d.val else 0
      else 0) = rot c s z d := by
  have hd := d.isLt
  unfold rot
  by_cases h1 : d.val < 16
  · have n1 : ¬(32 ≤ d.val ∧ d.val - 32 < 96) := by omega
    have n2 : d.val < 32 := by omega
    have n3 : ¬(16 ≤ d.val ∧ d.val - 16 < 16) := by omega
    have e : (⟨16 + d.val, by omega⟩ : Fin 128) = ⟨d.val + 16, by omega⟩ := Fin.ext (Nat.add_comm _ _)
    rw [dif_neg n1, dif_pos n2, dif_neg n3, dif_pos h1, dif_pos h1, zero_add, zero_add, add_comm, e]
  · by_cases h2 : d.val < 32
    · have n1 : ¬(32 ≤ d.val ∧ d.val - 32 < 96) := by omega
      have n3 : 16 ≤ d.val ∧ d.val - 16 < 16 := by omega
      have e : (⟨16 + (d.val - 16), by omega⟩ : Fin 128) = d := Fin.ext (by show 16 + (d.val - 16) = d.val; omega)
      rw [dif_neg n1, dif_pos h2, dif_pos n3, dif_neg h1, dif_neg h1, if_pos h2, zero_add, add_zero, e]
    · have n1 : 32 ≤ d.val ∧ d.val - 32 < 96 := by omega
      have e : (⟨32 + (d.val - 32), by omega⟩ : Fin 128) = d := Fin.ext (by show 32 + (d.val - 32) = d.val; omega)
      rw [dif_pos n1, dif_neg h2, dif_neg h1, if_neg h2, add_zero, e]

include H

theorem v42_at (r : Fin 8192) (i : Fin 16) : val_main_v42 (F := Ideal) T (ix4 0 r 0 i) = I.c r i.val := by
  pointwise [val_main_v42]
  exact H.hc r i
theorem v43_at (r : Fin 8192) (i : Fin 16) : val_main_v43 (F := Ideal) T (ix4 0 r 0 i) = I.s r i.val := by
  pointwise [val_main_v43]
  exact H.hs r i
theorem v78_at (r : Fin 8192) (i : Fin 16) : val_main_v78 (F := Ideal) T (ix4 0 r 0 i) = I.c r i.val := by
  pointwise [val_main_v78]
  exact H.hc r i
theorem v79_at (r : Fin 8192) (i : Fin 16) : val_main_v79 (F := Ideal) T (ix4 0 r 0 i) = I.s r i.val := by
  pointwise [val_main_v79]
  exact H.hs r i

theorem v101_at (r : Fin 8192) (n : Fin 1536) : val_main_v101 (F := Ideal) A0 A1 A2 (ix2 r n) = I.yq r n.val := by
  unfold Inp.yq cat3
  split_ifs with h1 h2
  · pointwise [val_main_v101, val_main_v100]
    simp only [h1, if_true, dif_pos, H.h0]
  · pointwise [val_main_v101, val_main_v100]
    simp only [h1, h2, if_true, if_false, dif_pos, dif_neg, H.h1]
    rw [dif_neg not_false, dif_pos (by omega)]
  · pointwise [val_main_v101, val_main_v100]
    simp only [h1, h2, if_true, if_false, dif_pos, dif_neg, H.h2]
    rw [dif_neg not_false, dif_neg (by omega)]
    exact congrArg (I.q2 r) (by omega)

theorem v104_at (r : Fin 8192) (n : Fin 512) : val_main_v104 (F := Ideal) A3 A4 A5 (ix2 r n) = I.yk r n.val := by
  pointwise [val_main_v104, val_main_v103, val_main_v102]
  rw [H.h3, H.h4, H.h5, Inp.yk]
theorem v107_at (r : Fin 8192) (n : Fin 512) : val_main_v107 (F := Ideal) A6 A7 A8 (ix2 r n) = I.yv r n.val := by
  pointwise [val_main_v107, val_main_v106, val_main_v105]
  rw [H.h6, H.h7, H.h8, Inp.yv]

theorem v156_at (r : Fin 8192) (h : Fin 12) (d : Fin 128) : val_main_v156 (F := Ideal) A0 A1 A2 (ix4 0 r h d) = hd (I.yq r) (128 * h.val) d * scl := by
  pointwise [val_main_v156, val_main_v155, val_main_cst_21, val_main_v111]
  simp only [v101_at H, hd, Nat.mul_comm h.val 128]
theorem v110_at (r : Fin 8192) (h : Fin 4) (d : Fin 128) : val_main_v110 (F := Ideal) A3 A4 A5 (ix4 0 r h d) = hd (I.yk r) (128 * h.val) d := by
  pointwise [val_main_v110]
  simp only [v104_at H, hd, Nat.mul_comm h.val 128]

/-- The gradient in the queries, turned back. -/
theorem v177_at (r : Fin 8192) (h : Fin 12) (d : Fin 128) : val_main_v177 (F := Ideal) A0 A1 A2 T (ix4 0 r h d) = dqn (I.c r) (I.s r) (I.yq r) h.val d := by
  pointwise [val_main_v177, val_main_v159, val_main_v158, val_main_v176, val_main_v175, val_main_v173, val_main_v174, val_main_v169, val_main_v172, val_main_v165, val_main_v168, val_main_v163, val_main_v171, val_main_v160, val_main_v161, val_main_v157, val_main_v162, val_main_v164, val_main_v166, val_main_v167, val_main_v170, val_main_cst_22, val_main_cst_23, val_main_cst_24, val_main_cst_25]
  simp only [v156_at H, v42_at H, v43_at H]
  exact turn (I.c r) (I.s r) (fun i => hd (I.yq r) (128 * h.val) i * scl) d

theorem v24_at (r : Fin 8192) (h : Fin 12) (d : Fin 128) : val_main_v24 (F := Ideal) P (ix4 0 r h d) = hd (I.p r) (128 * h.val) d := by
  pointwise [val_main_v24, val_main_v20, val_main_v19]
  simp only [H.hP, hd, Nat.mul_comm h.val 128]
  skip
theorem v32_at (r : Fin 8192) (h : Fin 12) : val_main_v32 (F := Ideal) P (ix4 0 r h 0) = ms c128 (hd (I.p r) (128 * h.val)) := by
  pointwise [val_main_v32, val_main_v31, val_main_v30, val_main_v29, val_main_v28, val_main_v27, val_main_v26, val_main_cst_3, val_main_cst_4, val_main_cst_5]
  simp only [v24_at H, ms]
theorem v33_at (r : Fin 8192) (h : Fin 12) : val_main_v33 (F := Ideal) P (ix4 0 r h 0) = rr c128 (hd (I.p r) (128 * h.val)) := by
  pointwise [val_main_v33]
  rw [v32_at H, rr]
theorem v38_at (r : Fin 8192) (h : Fin 12) (d : Fin 128) : val_main_v38 (F := Ideal) P (ix4 0 r h d) = xh c128 (hd (I.p r) (128 * h.val)) d := by
  pointwise [val_main_v38, val_main_v37]
  rw [v24_at H, v33_at H, xh]

/-- The gradient in the gain of the queries. -/
theorem v184_at (d : Fin 128) : val_main_v184 (F := Ideal) A0 A1 A2 P T (ix2 0 d) = ∑ r, Rope.gqr (I.c r) (I.s r) (I.p r) (I.yq r) d := by
  have e : val_main_v179 (F := Ideal) A0 A1 A2 P T (ix2 0 d) = ∑ r, Rope.gqr (I.c r) (I.s r) (I.p r) (I.yq r) d := by
    unfold val_main_v179
    rw [Red.sum_mid]
    pointwise [val_main_v178, val_main_cst_26]
    simp only [v38_at H, v177_at H, Rope.gqr, mul_comm (xh _ _ _)]
  rw [← e]
  have e2 : val_main_v183 (F := Ideal) A0 A1 A2 P T (ix1 d) = val_main_v179 (F := Ideal) A0 A1 A2 P T (ix2 0 d) := by
    unfold val_main_v183
    rw [Red.sum_ones]
    pointwise [val_main_v180, val_main_cst_27]
  pointwise [val_main_v184]
  exact e2

theorem v182_at (r : Fin 8192) (h : Fin 12) (d : Fin 128) : val_main_v182 (F := Ideal) A0 A1 A2 T G (ix4 0 r h d)
    = dqn (I.c r) (I.s r) (I.yq r) h.val d * I.g d := by
  pointwise [val_main_v182, val_main_v181, val_main_v39]
  rw [v177_at H, H.hG]

theorem v193_at (r : Fin 8192) (h : Fin 12) : val_main_v193 (F := Ideal) A0 A1 A2 P T G (ix2 r h)
    = nt c128 (hd (I.p r) (128 * h.val)) I.g (dqn (I.c r) (I.s r) (I.yq r) h.val) := by
  unfold val_main_v193
  rw [Red.sum_ends]
  pointwise [val_main_v192, val_main_v191, val_main_v190, val_main_v187, val_main_v186, val_main_v185, val_main_v36, val_main_v35, val_main_v34, val_main_cst_6, val_main_cst_28, val_main_cst_29, val_main_cst_30]
  simp only [v24_at H, v182_at H, v33_at H, v32_at H, nt]

/-- The gradient in the queries before their norm. -/
theorem v199_at (r : Fin 8192) (h : Fin 12) (d : Fin 128) : val_main_v199 (F := Ideal) A0 A1 A2 P T G (ix4 0 r h d)
    = ng c128 (hd (I.p r) (128 * h.val)) I.g (dqn (I.c r) (I.s r) (I.yq r) h.val) d := by
  rw [← ng_at c128_val (by norm_num)]
  pointwise [val_main_v199, val_main_v198, val_main_v197, val_main_v196, val_main_v195, val_main_v194, val_main_v189, val_main_v188]
  rw [v24_at H, v182_at H, v33_at H, v193_at H]

/-- The gradient in the keys, turned back. -/
theorem v132_at (r : Fin 8192) (h : Fin 4) (d : Fin 128) : val_main_v132 (F := Ideal) A3 A4 A5 T (ix4 0 r h d) = dkn (I.c r) (I.s r) (I.yk r) h.val d := by
  pointwise [val_main_v132, val_main_v114, val_main_v113, val_main_v131, val_main_v130, val_main_v128, val_main_v129, val_main_v124, val_main_v127, val_main_v120, val_main_v123, val_main_v118, val_main_v126, val_main_v115, val_main_v116, val_main_v112, val_main_v117, val_main_v119, val_main_v121, val_main_v122, val_main_v125, val_main_cst_12, val_main_cst_13, val_main_cst_14, val_main_cst_15]
  simp only [v110_at H, v78_at H, v79_at H]
  exact turn (I.c r) (I.s r) (hd (I.yk r) (128 * h.val)) d

theorem v25_at (r : Fin 8192) (h : Fin 4) (d : Fin 128) : val_main_v25 (F := Ideal) P (ix4 0 r h d) = hd (I.p r) (1536 + 128 * h.val) d := by
  pointwise [val_main_v25, val_main_v21, val_main_v19]
  simp only [H.hP, hd, Nat.mul_comm h.val 128]
  exact congrArg (I.p r) (by omega)
theorem v68_at (r : Fin 8192) (h : Fin 4) : val_main_v68 (F := Ideal) P (ix4 0 r h 0) = ms c128 (hd (I.p r) (1536 + 128 * h.val)) := by
  pointwise [val_main_v68, val_main_v67, val_main_v66, val_main_v65, val_main_v64, val_main_v63, val_main_v62, val_main_cst_8, val_main_cst_9, val_main_cst_10]
  simp only [v25_at H, ms]
theorem v69_at (r : Fin 8192) (h : Fin 4) : val_main_v69 (F := Ideal) P (ix4 0 r h 0) = rr c128 (hd (I.p r) (1536 + 128 * h.val)) := by
  pointwise [val_main_v69]
  rw [v68_at H, rr]
theorem v74_at (r : Fin 8192) (h : Fin 4) (d : Fin 128) : val_main_v74 (F := Ideal) P (ix4 0 r h d) = xh c128 (hd (I.p r) (1536 + 128 * h.val)) d := by
  pointwise [val_main_v74, val_main_v73]
  rw [v25_at H, v69_at H, xh]

/-- The gradient in the gain of the keys. -/
theorem v139_at (d : Fin 128) : val_main_v139 (F := Ideal) A3 A4 A5 P T (ix2 0 d) = ∑ r, Rope.gkr (I.c r) (I.s r) (I.p r) (I.yk r) d := by
  have e : val_main_v134 (F := Ideal) A3 A4 A5 P T (ix2 0 d) = ∑ r, Rope.gkr (I.c r) (I.s r) (I.p r) (I.yk r) d := by
    unfold val_main_v134
    rw [Red.sum_mid]
    pointwise [val_main_v133, val_main_cst_16]
    simp only [v74_at H, v132_at H, Rope.gkr, mul_comm (xh _ _ _)]
  rw [← e]
  have e2 : val_main_v138 (F := Ideal) A3 A4 A5 P T (ix1 d) = val_main_v134 (F := Ideal) A3 A4 A5 P T (ix2 0 d) := by
    unfold val_main_v138
    rw [Red.sum_ones]
    pointwise [val_main_v135, val_main_cst_17]
  pointwise [val_main_v139]
  exact e2

theorem v137_at (r : Fin 8192) (h : Fin 4) (d : Fin 128) : val_main_v137 (F := Ideal) A3 A4 A5 T L (ix4 0 r h d)
    = dkn (I.c r) (I.s r) (I.yk r) h.val d * I.l d := by
  pointwise [val_main_v137, val_main_v136, val_main_v75]
  rw [v132_at H, H.hL]

theorem v148_at (r : Fin 8192) (h : Fin 4) : val_main_v148 (F := Ideal) A3 A4 A5 P T L (ix2 r h)
    = nt c128 (hd (I.p r) (1536 + 128 * h.val)) I.l (dkn (I.c r) (I.s r) (I.yk r) h.val) := by
  unfold val_main_v148
  rw [Red.sum_ends]
  pointwise [val_main_v147, val_main_v146, val_main_v145, val_main_v142, val_main_v141, val_main_v140, val_main_v72, val_main_v71, val_main_v70, val_main_cst_11, val_main_cst_18, val_main_cst_19, val_main_cst_20]
  simp only [v25_at H, v137_at H, v69_at H, v68_at H, nt]

/-- The gradient in the keys before their norm. -/
theorem v154_at (r : Fin 8192) (h : Fin 4) (d : Fin 128) : val_main_v154 (F := Ideal) A3 A4 A5 P T L (ix4 0 r h d)
    = ng c128 (hd (I.p r) (1536 + 128 * h.val)) I.l (dkn (I.c r) (I.s r) (I.yk r) h.val) d := by
  rw [← ng_at c128_val (by norm_num)]
  pointwise [val_main_v154, val_main_v153, val_main_v152, val_main_v151, val_main_v150, val_main_v149, val_main_v144, val_main_v143]
  rw [v25_at H, v137_at H, v69_at H, v148_at H]

/-- The gradient in the projected rows. -/
theorem v204_at (r : Fin 8192) (n : Fin 3072) : val_main_v204 (F := Ideal) A0 A1 A2 A3 A4 A5 A6 A7 A8 A9 P T G L (ix2 r n)
    = Rope.dp (I.c r) (I.s r) (I.p r) (I.yq r) (I.yk r) (I.yv r) (I.u r) I.g I.l n.val := by
  unfold Rope.dp
  have hn := n.isLt
  split_ifs with h1 h2 h3
  · pointwise [val_main_v204, val_main_v203, val_main_v202, val_main_v201, val_main_cst_31]
    rw [Fin.sum_univ_one, dif_pos h1, v199_at H]
  · pointwise [val_main_v204, val_main_v203, val_main_v202, val_main_v200, val_main_cst_31]
    rw [Fin.sum_univ_one, dif_neg h1, dif_pos (by omega), v154_at H]
    have e1 : 1536 + 128 * ((n.val - 1536) / 128) = 128 * (n.val / 128) := by omega
    show ng c128 (hd (I.p r) (1536 + 128 * ((n.val - 1536) / 128))) _ _ _ = _
    rw [e1]
    exact congrArg _ (Fin.ext (by show (n.val - 1536) % 128 = n.val % 128; omega))
  · pointwise [val_main_v204, val_main_v203, val_main_v202, val_main_v109, val_main_cst_31]
    rw [Fin.sum_univ_one, dif_neg h1, dif_neg (by omega), dif_pos (by omega), v107_at H]
    exact congrArg (I.yv r) (by show n.val - 1536 - 512 = n.val - 2048; omega)
  · pointwise [val_main_v204, val_main_v203, val_main_v202, val_main_v108, val_main_cst_31]
    rw [Fin.sum_univ_one, dif_neg h1, dif_neg (by omega), dif_neg (by omega), H.h9]
    exact congrArg (I.u r) (by show n.val - 1536 - 512 - 512 = n.val - 2560; omega)

end Cert.QkvBwdRefIdeal.Value

end
-- ==== Proof.QkvVal.lean ====
/-
  What the call entering the mixer's input projection leaves over the extended reals, for any arguments: the gradient in every
  projected row, and the gains' gradients summed over all tokens.
-/
module

public import proofs.«01_k».proof.Proof.QkvBlk
public import proofs.«01_k».proof.Proof.QkvRef

@[expose] public section

set_option maxRecDepth 16384
noncomputable section
open Idealize.ShloMosaic Idealize.ShloMosaic.TcCoe Idealize.SL.Sem
open Idealize.ShloMosaic.Pipeline (Dat)
namespace Cert.QkvBwdIdeal.Value
open Cert.QkvBwdIdeal Cert.QkvBwdIdeal.Gen Cert.Rope

variable (m : (ℓ : Loc nD τ sig) → Buf (Elt Ideal) ℓ) (c : Dev nD)

/-- Row `y` of the block of 512 rows number `t`. -/
def row (t : Fin 16) (y : Fin 512) : Fin 8192 := ⟨t.val * 512 + y.val, by omega⟩
/-- A grid point as a number below 16. -/
def pt0 (t : Fin cfg0.N) : Fin 16 := ⟨t.val, lt_of_lt_of_eq t.isLt N_0⟩

/-- Where the blocks lie. -/
theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![0, 0] ∧ win0_14.index t = ![0, 0] ∧ win0_15.index t = ![t.val, 0] ∧ win0_16.index t = ![0, 0] ∧ win0_17.index t = ![0, 0] :=
  (by decide +kernel : ∀ t : Fin grid0.N, _)

/-- The arguments and the two tables hold these rows. -/
structure In (I : Inp) : Prop where
  h0 : ∃ X : FVec Ideal S8192x512 .bf16, V m c main_arg0 = X ∧ ∀ r n, X (ix2 r n) = I.q0 r n.val
  h1 : ∃ X : FVec Ideal S8192x512 .f32, V m c main_arg1 = X ∧ ∀ r n, X (ix2 r n) = I.q1 r n.val
  h2 : ∃ X : FVec Ideal S8192x512 .f32, V m c main_arg2 = X ∧ ∀ r n, X (ix2 r n) = I.q2 r n.val
  h3 : ∃ X : FVec Ideal S8192x512 .bf16, V m c main_arg3 = X ∧ ∀ r n, X (ix2 r n) = I.k0 r n.val
  h4 : ∃ X : FVec Ideal S8192x512 .f32, V m c main_arg4 = X ∧ ∀ r n, X (ix2 r n) = I.k1 r n.val
  h5 : ∃ X : FVec Ideal S8192x512 .f32, V m c main_arg5 = X ∧ ∀ r n, X (ix2 r n) = I.k2 r n.val
  h6 : ∃ X : FVec Ideal S8192x512 .bf16, V m c main_arg6 = X ∧ ∀ r n, X (ix2 r n) = I.v0 r n.val
  h7 : ∃ X : FVec Ideal S8192x512 .f32, V m c main_arg7 = X ∧ ∀ r n, X (ix2 r n) = I.v1 r n.val
  h8 : ∃ X : FVec Ideal S8192x512 .f32, V m c main_arg8 = X ∧ ∀ r n, X (ix2 r n) = I.v2 r n.val
  h9 : ∃ X : FVec Ideal S8192x512 .f32, V m c main_arg9 = X ∧ ∀ r n, X (ix2 r n) = I.u r n.val
  hP : ∃ X : FVec Ideal S8192x3072 .f32, V m c main_arg10 = X ∧ ∀ r n, X (ix2 r n) = I.p r n.val
  hC : ∃ X : FVec Ideal S8192x128 .f32, V m c main_v19 = X ∧ ∀ r n, X (ix2 r n) = ctab (I.c r) n.val
  hS : ∃ X : FVec Ideal S8192x128 .f32, V m c main_v22 = X ∧ ∀ r n, X (ix2 r n) = stab (I.s r) n.val
  hG : ∃ X : FVec Ideal S1x128 .f32, V m c main_arg12 = X ∧ ∀ d, X (ix2 0 d) = I.g d
  hL : ∃ X : FVec Ideal S1x128 .f32, V m c main_arg13 = X ∧ ∀ d, X (ix2 0 d) = I.l d

variable {m c} {I : Inp} (H : In m c I)

section
variable (t : Fin cfg0.N)
include H
theorem b0 (a : Fin 512) (n : Fin 512) : (iblk m c 0 t : FVec Ideal S512x512 .bf16) (ix2 a n) = I.q0 (row (pt0 t) a) n.val := by
  obtain ⟨X, e, h⟩ := H.h0
  rw [← h]; subst e
  obtain ⟨i0, i1, i2, i3, i4, i5, i6, i7, i8, i9, i10, i11, i12, i13, i14, i15, i16, i17⟩ := idx0 t
  blk_ext [iblk, i0, row, pt0]
theorem b1 (a : Fin 512) (n : Fin 512) : (iblk m c 1 t : FVec Ideal S512x512 .f32) (ix2 a n) = I.q1 (row (pt0 t) a) n.val := by
  obtain ⟨X, e, h⟩ := H.h1
  rw [← h]; subst e
  obtain ⟨i0, i1, i2, i3, i4, i5, i6, i7, i8, i9, i10, i11, i12, i13, i14, i15, i16, i17⟩ := idx0 t
  blk_ext [iblk, i1, row, pt0]
theorem b2 (a : Fin 512) (n : Fin 512) : (iblk m c 2 t : FVec Ideal S512x512 .f32) (ix2 a n) = I.q2 (row (pt0 t) a) n.val := by
  obtain ⟨X, e, h⟩ := H.h2
  rw [← h]; subst e
  obtain ⟨i0, i1, i2, i3, i4, i5, i6, i7, i8, i9, i10, i11, i12, i13, i14, i15, i16, i17⟩ := idx0 t
  blk_ext [iblk, i2, row, pt0]
theorem b3 (a : Fin 512) (n : Fin 512) : (iblk m c 3 t : FVec Ideal S512x512 .bf16) (ix2 a n) = I.k0 (row (pt0 t) a) n.val := by
  obtain ⟨X, e, h⟩ := H.h3
  rw [← h]; subst e
  obtain ⟨i0, i1, i2, i3, i4, i5, i6, i7, i8, i9, i10, i11, i12, i13, i14, i15, i16, i17⟩ := idx0 t
  blk_ext [iblk, i3, row, pt0]
theorem b4 (a : Fin 512) (n : Fin 512) : (iblk m c 4 t : FVec Ideal S512x512 .f32) (ix2 a n) = I.k1 (row (pt0 t) a) n.val := by
  obtain ⟨X, e, h⟩ := H.h4
  rw [← h]; subst e
  obtain ⟨i0, i1, i2, i3, i4, i5, i6, i7, i8, i9, i10, i11, i12, i13, i14, i15, i16, i17⟩ := idx0 t
  blk_ext [iblk, i4, row, pt0]
theorem b5 (a : Fin 512) (n : Fin 512) : (iblk m c 5 t : FVec Ideal S512x512 .f32) (ix2 a n) = I.k2 (row (pt0 t) a) n.val := by
  obtain ⟨X, e, h⟩ := H.h5
  rw [← h]; subst e
  obtain ⟨i0, i1, i2, i3, i4, i5, i6, i7, i8, i9, i10, i11, i12, i13, i14, i15, i16, i17⟩ := idx0 t
  blk_ext [iblk, i5, row, pt0]
theorem b6 (a : Fin 512) (n : Fin 512) : (iblk m c 6 t : FVec Ideal S512x512 .bf16) (ix2 a n) = I.v0 (row (pt0 t) a) n.val := by
  obtain ⟨X, e, h⟩ := H.h6
  rw [← h]; subst e
  obtain ⟨i0, i1, i2, i3, i4, i5, i6, i7, i8, i9, i10, i11, i12, i13, i14, i15, i16, i17⟩ := idx0 t
  blk_ext [iblk, i6, row, pt0]
theorem b7 (a : Fin 512) (n : Fin 512) : (iblk m c 7 t : FVec Ideal S512x512 .f32) (ix2 a n) = I.v1 (row (pt0 t) a) n.val := by
  obtain ⟨X, e, h⟩ := H.h7
  rw [← h]; subst e
  obtain ⟨i0, i1, i2, i3, i4, i5, i6, i7, i8, i9, i10, i11, i12, i13, i14, i15, i16, i17⟩ := idx0 t
  blk_ext [iblk, i7, row, pt0]
theorem b8 (a : Fin 512) (n : Fin 512) : (iblk m c 8 t : FVec Ideal S512x512 .f32) (ix2 a n) = I.v2 (row (pt0 t) a) n.val := by
  obtain ⟨X, e, h⟩ := H.h8
  rw [← h]; subst e
  obtain ⟨i0, i1, i2, i3, i4, i5, i6, i7, i8, i9, i10, i11, i12, i13, i14, i15, i16, i17⟩ := idx0 t
  blk_ext [iblk, i8, row, pt0]
theorem b9 (a : Fin 512) (n : Fin 512) : (iblk m c 9 t : FVec Ideal S512x512 .f32) (ix2 a n) = I.u (row (pt0 t) a) n.val := by
  obtain ⟨X, e, h⟩ := H.h9
  rw [← h]; subst e
  obtain ⟨i0, i1, i2, i3, i4, i5, i6, i7, i8, i9, i10, i11, i12, i13, i14, i15, i16, i17⟩ := idx0 t
  blk_ext [iblk, i9, row, pt0]
theorem bP (a : Fin 512) (n : Fin 2048) : (X0_10 m c t : FVec Ideal S512x2048 .f32) (ix2 a n) = I.p (row (pt0 t) a) n.val := by
  obtain ⟨X, e, h⟩ := H.hP
  rw [show I.p (row (pt0 t) a) n.val = X (ix2 (row (pt0 t) a) (⟨n.val, by omega⟩ : Fin 3072)) from (h (row (pt0 t) a) (⟨n.val, by omega⟩ : Fin 3072)).symm]; subst e
  obtain ⟨i0, i1, i2, i3, i4, i5, i6, i7, i8, i9, i10, i11, i12, i13, i14, i15, i16, i17⟩ := idx0 t
  unfold X0_10 Pipeline.Window.fill
  rw [dif_pos (moved0_10 t _)]
  blk_ext [iblk, i10, row, pt0]
theorem bC (a : Fin 512) (n : Fin 128) : (iblk m c 11 t : FVec Ideal S512x128 .f32) (ix2 a n) = ctab (I.c (row (pt0 t) a)) n.val := by
  obtain ⟨X, e, h⟩ := H.hC
  rw [← h]; subst e
  obtain ⟨i0, i1, i2, i3, i4, i5, i6, i7, i8, i9, i10, i11, i12, i13, i14, i15, i16, i17⟩ := idx0 t
  blk_ext [iblk, i11, row, pt0]
theorem bS (a : Fin 512) (n : Fin 128) : (iblk m c 12 t : FVec Ideal S512x128 .f32) (ix2 a n) = stab (I.s (row (pt0 t) a)) n.val := by
  obtain ⟨X, e, h⟩ := H.hS
  rw [← h]; subst e
  obtain ⟨i0, i1, i2, i3, i4, i5, i6, i7, i8, i9, i10, i11, i12, i13, i14, i15, i16, i17⟩ := idx0 t
  blk_ext [iblk, i12, row, pt0]
theorem bG (d : Fin 128) : (iblk m c 13 t : FVec Ideal S1x128 .f32) (ix2 0 d) = I.g d := by
  obtain ⟨X, e, h⟩ := H.hG
  rw [← h]; subst e
  obtain ⟨i0, i1, i2, i3, i4, i5, i6, i7, i8, i9, i10, i11, i12, i13, i14, i15, i16, i17⟩ := idx0 t
  blk_ext [iblk, i13]
theorem bL (d : Fin 128) : (iblk m c 14 t : FVec Ideal S1x128 .f32) (ix2 0 d) = I.l d := by
  obtain ⟨X, e, h⟩ := H.hL
  rw [← h]; subst e
  obtain ⟨i0, i1, i2, i3, i4, i5, i6, i7, i8, i9, i10, i11, i12, i13, i14, i15, i16, i17⟩ := idx0 t
  blk_ext [iblk, i14]
end

include H in
/-- The gradient in every projected row. -/
theorem arr15 : (dats m 0 c).arrAt 15 cfg0.N = fun i : S8192x3072.Idx =>
    Rope.dp (I.c (i 0)) (I.s (i 0)) (I.p (i 0)) (I.yq (i 0)) (I.yk (i 0)) (I.yv (i 0)) (I.u (i 0)) I.g I.l (i 1).val := by
  refine (dats m 0 c).arrAt_eq_of_covers 15 _ (by decide +kernel) fun t hf y => ?_
  obtain ⟨i0, i1, i2, i3, i4, i5, i6, i7, i8, i9, i10, i11, i12, i13, i14, i15, i16, i17⟩ := idx0 t
  blk_simp
  rw [after0_15]
  idx_vars y
  have hval : (outsAt0 m c t.val t.isLt).1 (ix2 y0 y1) = Rope.dp (I.c (row (pt0 t) y0)) (I.s (row (pt0 t) y0)) (I.p (row (pt0 t) y0))
      (I.yq (row (pt0 t) y0)) (I.yk (row (pt0 t) y0)) (I.yv (row (pt0 t) y0)) (I.u (row (pt0 t) y0)) I.g I.l y1.val := by
    by_cases h0 : t.val % 16 = 0
    · exact o15A m c t _ _ _ _ _ _ _ _ _ _ _ _ _ _ _ (fun a => I.q0 (row (pt0 t) a)) (fun a => I.q1 (row (pt0 t) a)) (fun a => I.q2 (row (pt0 t) a)) (fun a => I.k0 (row (pt0 t) a)) (fun a => I.k1 (row (pt0 t) a)) (fun a => I.k2 (row (pt0 t) a)) (fun a => I.v0 (row (pt0 t) a)) (fun a => I.v1 (row (pt0 t) a)) (fun a => I.v2 (row (pt0 t) a)) (fun a => I.u (row (pt0 t) a)) (fun a => I.p (row (pt0 t) a)) (fun a => I.c (row (pt0 t) a)) (fun a => I.s (row (pt0 t) a)) I.g I.l rfl rfl rfl rfl rfl rfl rfl rfl rfl rfl rfl rfl rfl rfl rfl (b0 H t) (b1 H t) (b2 H t) (b3 H t) (b4 H t) (b5 H t) (b6 H t) (b7 H t) (b8 H t) (b9 H t) (bP H t) (bC H t) (bS H t) (bG H t) (bL H t) h0 y0 y1
    · exact o15B m c t _ _ _ _ _ _ _ _ _ _ _ _ _ _ _ (fun a => I.q0 (row (pt0 t) a)) (fun a => I.q1 (row (pt0 t) a)) (fun a => I.q2 (row (pt0 t) a)) (fun a => I.k0 (row (pt0 t) a)) (fun a => I.k1 (row (pt0 t) a)) (fun a => I.k2 (row (pt0 t) a)) (fun a => I.v0 (row (pt0 t) a)) (fun a => I.v1 (row (pt0 t) a)) (fun a => I.v2 (row (pt0 t) a)) (fun a => I.u (row (pt0 t) a)) (fun a => I.p (row (pt0 t) a)) (fun a => I.c (row (pt0 t) a)) (fun a => I.s (row (pt0 t) a)) I.g I.l rfl rfl rfl rfl rfl rfl rfl rfl rfl rfl rfl rfl rfl rfl rfl (b0 H t) (b1 H t) (b2 H t) (b3 H t) (b4 H t) (b5 H t) (b6 H t) (b7 H t) (b8 H t) (b9 H t) (bP H t) (bC H t) (bS H t) (bG H t) (bL H t) h0 y0 y1
  rw [hval]
  have hr : row (pt0 t) y0 = (win0_15.blk t).view.emb (ix2 y0 y1) 0 := by
    apply Fin.ext; blk_simp [i15, row, pt0]
  rw [hr]
  blk_simp [i15]

include H in
/-- The gradient in the gain of the queries, summed over all tokens. -/
theorem arr16 : (dats m 0 c).arrAt 16 cfg0.N = fun i : S1x128.Idx =>
    ∑ r : Fin 8192, Rope.gqr (I.c r) (I.s r) (I.p r) (I.yq r) (i 1) := by
  refine (dats m 0 c).arrAt_eq_of_covers 16 _ (by decide +kernel) fun t hf y => ?_
  obtain ⟨i0, i1, i2, i3, i4, i5, i6, i7, i8, i9, i10, i11, i12, i13, i14, i15, i16, i17⟩ := idx0 t
  blk_simp
  rw [after0_16]
  idx_vars y
  have hy : y0 = 0 := Subsingleton.elim _ _
  subst hy
  have h := Pipeline.eq_sum_fin_of_reset_step_apply_of_flush (N := cfg0.N)
    (fun n h (i : Fin 128) => (outsAt0 m c n h).2.1 (ix2 0 i)) 16 (fun _ => 0)
    (fun t i => ∑ a, Rope.gqr (I.c (row (pt0 t) a)) (I.s (row (pt0 t) a)) (I.p (row (pt0 t) a)) (I.yq (row (pt0 t) a)) i)
    (fun t h0 i => o16A m c t _ _ _ _ _ _ (fun a => I.q0 (row (pt0 t) a)) (fun a => I.q1 (row (pt0 t) a)) (fun a => I.q2 (row (pt0 t) a)) (fun a => I.p (row (pt0 t) a)) (fun a => I.c (row (pt0 t) a)) (fun a => I.s (row (pt0 t) a)) rfl rfl rfl rfl rfl rfl (b0 H t) (b1 H t) (b2 H t) (bP H t) (bC H t) (bS H t) h0 i)
    (fun t h0 i => o16B m c t _ _ _ _ _ _ (fun a => I.q0 (row (pt0 t) a)) (fun a => I.q1 (row (pt0 t) a)) (fun a => I.q2 (row (pt0 t) a)) (fun a => I.p (row (pt0 t) a)) (fun a => I.c (row (pt0 t) a)) (fun a => I.s (row (pt0 t) a)) rfl rfl rfl rfl rfl rfl (b0 H t) (b1 H t) (b2 H t) (bP H t) (bC H t) (bS H t) h0 i)
    t ((flush0_16 t).mp hf) y1
  refine h.trans ?_
  rw [zero_add]
  have he : (win0_16.blk t).view.emb (ix2 0 y1) 1 = y1 := by
    apply Fin.ext; blk_simp [i16]
  rw [he]
  refine Fin.sum_mul_add_congr (L := 8192) (S := 16) (n := 512) (hL := rfl) (f := fun r : Fin 8192 => Rope.gqr (I.c r) (I.s r) (I.p r) (I.yq r) y1) (fun m k hl => ?_)
  have hN : t.val < 16 := lt_of_lt_of_eq t.isLt N_0
  have hs : ∀ (x : Fin cfg0.N), x.val = m.val → row (pt0 x) k = ⟨m.val * 512 + k.val, hl⟩ := fun x hx => Fin.ext (by simp only [row, pt0, hx])
  try dsimp only
  rw [hs _ (by dsimp only; omega)]

include H in
/-- The gradient in the gain of the keys, summed over all tokens. -/
theorem arr17 : (dats m 0 c).arrAt 17 cfg0.N = fun i : S1x128.Idx =>
    ∑ r : Fin 8192, Rope.gkr (I.c r) (I.s r) (I.p r) (I.yk r) (i 1) := by
  refine (dats m 0 c).arrAt_eq_of_covers 17 _ (by decide +kernel) fun t hf y => ?_
  obtain ⟨i0, i1, i2, i3, i4, i5, i6, i7, i8, i9, i10, i11, i12, i13, i14, i15, i16, i17⟩ := idx0 t
  blk_simp
  rw [after0_17]
  idx_vars y
  have hy : y0 = 0 := Subsingleton.elim _ _
  subst hy
  have h := Pipeline.eq_sum_fin_of_reset_step_apply_of_flush (N := cfg0.N)
    (fun n h (i : Fin 128) => (outsAt0 m c n h).2.2 (ix2 0 i)) 16 (fun _ => 0)
    (fun t i => ∑ a, Rope.gkr (I.c (row (pt0 t) a)) (I.s (row (pt0 t) a)) (I.p (row (pt0 t) a)) (I.yk (row (pt0 t) a)) i)
    (fun t h0 i => o17A m c t _ _ _ _ _ _ (fun a => I.k0 (row (pt0 t) a)) (fun a => I.k1 (row (pt0 t) a)) (fun a => I.k2 (row (pt0 t) a)) (fun a => I.p (row (pt0 t) a)) (fun a => I.c (row (pt0 t) a)) (fun a => I.s (row (pt0 t) a)) rfl rfl rfl rfl rfl rfl (b3 H t) (b4 H t) (b5 H t) (bP H t) (bC H t) (bS H t) h0 i)
    (fun t h0 i => o17B m c t _ _ _ _ _ _ (fun a => I.k0 (row (pt0 t) a)) (fun a => I.k1 (row (pt0 t) a)) (fun a => I.k2 (row (pt0 t) a)) (fun a => I.p (row (pt0 t) a)) (fun a => I.c (row (pt0 t) a)) (fun a => I.s (row (pt0 t) a)) rfl rfl rfl rfl rfl rfl (b3 H t) (b4 H t) (b5 H t) (bP H t) (bC H t) (bS H t) h0 i)
    t ((flush0_17 t).mp hf) y1
  refine h.trans ?_
  rw [zero_add]
  have he : (win0_17.blk t).view.emb (ix2 0 y1) 1 = y1 := by
    apply Fin.ext; blk_simp [i17]
  rw [he]
  refine Fin.sum_mul_add_congr (L := 8192) (S := 16) (n := 512) (hL := rfl) (f := fun r : Fin 8192 => Rope.gkr (I.c r) (I.s r) (I.p r) (I.yk r) y1) (fun m k hl => ?_)
  have hN : t.val < 16 := lt_of_lt_of_eq t.isLt N_0
  have hs : ∀ (x : Fin cfg0.N), x.val = m.val → row (pt0 x) k = ⟨m.val * 512 + k.val, hl⟩ := fun x hx => Fin.ext (by simp only [row, pt0, hx])
  try dsimp only
  rw [hs _ (by dsimp only; omega)]

end Cert.QkvBwdIdeal.Value

end
-- ==== Proof.QkvTab.lean ====
/-
  The cosine and sine tables the host makes for the call, over the extended reals: they hold the reference's cosines and sines.
-/
module

public import proofs.«01_k».proof.Proof.Gen.QkvBwdIdeal.Frame
public import proofs.«01_k».proof.Proof.QkvHead
public import proofs.«01_k».proof.Proof.QkvRef

@[expose] public section

set_option maxRecDepth 16384
noncomputable section
open Idealize.ShloMosaic Idealize.ShloMosaic.TcCoe Idealize.SL.Sem
namespace Cert.QkvBwdIdeal.Value
open Cert.QkvBwdIdeal Cert.QkvBwdIdeal.Gen Cert.Rope
open Cert.QkvBwdRefIdeal.Read

/-- Every token's sixteen angles, as the host makes them. -/
def angles (T : IVec S8192 32) : FVec Ideal S8192x16 .f32 :=
  mulf (broadcastInDim S8192x16 ![0, 1] bcast_S8192x1_S8192x16_0_1 (broadcastInDim S8192x1 ![0] bcast_S8192_S8192x1_0 (sitofp .f32 T : FVec Ideal S8192 .f32)))
    (broadcastInDim S8192x16 ![0, 1] bcast_S1x16_S8192x16_0_1 (broadcastInDim S1x16 ![1] bcast_S16_S1x16_1
      (Host.powf (broadcastInDim S16 ![] bcast_S_S16 (constant (F := Ideal) S_ .f32 0x48F42400#32))
        (Host.divf (Host.negf (addf (broadcastInDim S16 ![] bcast_S_S16 (constant (F := Ideal) S_ .f32 0x00000000#32))
            (mulf (broadcastInDim S16 ![] bcast_S_S16 (constant (F := Ideal) S_ .f32 0x40000000#32)) (sitofp .f32 (iotaInDim S16 32 0) : FVec Ideal S16 .f32))))
          (broadcastInDim S16 ![] bcast_S_S16 (constant (F := Ideal) S_ .f32 0x42000000#32))) : FVec Ideal S16 .f32)))

/-- Their cosines are the reference's. -/
theorem cos_at (T : IVec S8192 32) (r : Fin 8192) (i : Fin 16) : (Host.cos (angles T) : FVec Ideal S8192x16 .f32) (ix2 r i)
    = val_main_v17 (F := Ideal) T (ix3 0 r i) := by
  pointwise [angles, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
/-- Their sines are the reference's. -/
theorem sin_at (T : IVec S8192 32) (r : Fin 8192) (i : Fin 16) : (Host.sin (angles T) : FVec Ideal S8192x16 .f32) (ix2 r i)
    = val_main_v18 (F := Ideal) T (ix3 0 r i) := by
  pointwise [angles, val_main_v18, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]

variable (m : (ℓ : Loc nD τ sig) → Buf (Elt Ideal) ℓ) (c : Dev nD) (T : IVec S8192 32) (eT : m ((c : Thread nD τ).loc main_arg11) = T)
    (co si : Fin 8192 → ℕ → EReal) (hc : ∀ r i, val_main_v17 (F := Ideal) T (ix3 0 r i) = co r i.val)
    (hs : ∀ r i, val_main_v18 (F := Ideal) T (ix3 0 r i) = si r i.val)

include eT hc in
/-- The table of cosines. -/
theorem v19_val : ∃ X : FVec Ideal S8192x128 .f32, V m c main_v19 = X ∧ ∀ r n, X (ix2 r n) = ctab (co r) n.val := by
  have h : V m c main_v19 = concatenate S8192x128 1 [⟨S8192x16, (Host.cos (angles T) : FVec Ideal S8192x16 .f32)⟩,
      ⟨S8192x16, (Host.cos (angles T) : FVec Ideal S8192x16 .f32)⟩,
      ⟨S8192x96, (broadcastInDim S8192x96 ![] bcast_S_S8192x96 (constant (F := Ideal) S_ .f32 0x3F800000#32) : FVec Ideal S8192x96 .f32)⟩]
      concatenates_S8192x16_S8192x16_S8192x96_S8192x128_d1 := by
    subst eT
    show StableHlo.after hostOps0 (fun b => m (c, b)) (Proc.devRef .tc main_v19) = _
    after_results_simp
    rfl
  refine ⟨_, h, fun r n => ?_⟩
  have hn := n.isLt
  generalize hX : (Host.cos (angles T) : FVec Ideal S8192x16 .f32) = X
  have hX' : ∀ r i, X (ix2 r i) = co r i.val := fun r i => by rw [← hX, cos_at, hc]
  unfold ctab
  pointwise
  split_ifs <;> first | omega | (rw [hX']; done) | (rw [hX']; exact (if_pos (show n.val < 32 by omega)).symm) | exact one_val | rfl

include eT hs in
/-- The table of signed sines. -/
theorem v22_val : ∃ X : FVec Ideal S8192x128 .f32, V m c main_v22 = X ∧ ∀ r n, X (ix2 r n) = stab (si r) n.val := by
  have h : V m c main_v22 = concatenate S8192x128 1 [⟨S8192x16, (Host.negf (Host.sin (angles T)) : FVec Ideal S8192x16 .f32)⟩,
      ⟨S8192x16, (Host.sin (angles T) : FVec Ideal S8192x16 .f32)⟩,
      ⟨S8192x96, (broadcastInDim S8192x96 ![] bcast_S_S8192x96 (constant (F := Ideal) S_ .f32 0x00000000#32) : FVec Ideal S8192x96 .f32)⟩]
      concatenates_S8192x16_S8192x16_S8192x96_S8192x128_d1 := by
    subst eT
    show StableHlo.after hostOps0 (fun b => m (c, b)) (Proc.devRef .tc main_v22) = _
    after_results_simp
    rfl
  refine ⟨_, h, fun r n => ?_⟩
  have hn := n.isLt
  generalize hX : (Host.sin (angles T) : FVec Ideal S8192x16 .f32) = X
  have hX' : ∀ r i, X (ix2 r i) = si r i.val := fun r i => by rw [← hX, sin_at, hs]
  unfold stab
  pointwise
  split_ifs <;> first | omega | (rw [hX']; done) | (rw [hX']; exact (if_pos (show n.val < 32 by omega)).symm) | rfl

end Cert.QkvBwdIdeal.Value

end
-- ==== Proof.QkvEnd.lean ====
/-
  The call entering the mixer's input projection against its reference over the extended reals, for any arguments.
-/
module

public import proofs.«01_k».proof.Proof.QkvVal
public import proofs.«01_k».proof.Proof.QkvTab

@[expose] public section

set_option maxRecDepth 16384
noncomputable section
open Idealize.ShloMosaic Idealize.ShloMosaic.TcCoe Idealize.SL.Sem
namespace Cert.QkvBwdIdeal.Value
open Cert.QkvBwdIdeal Cert.QkvBwdIdeal.Gen Cert.Rope
open Cert.QkvBwdRefIdeal.Read

/-- An array of rows with its columns by number. -/
def num {K : ℕ} (X : (⟨2, ![8192, K]⟩ : Shape).Idx → EReal) (r : Fin 8192) (n : ℕ) : EReal := if h : n < K then X (ix2 r ⟨n, h⟩) else 0
theorem num_at {K : ℕ} (X : (⟨2, ![8192, K]⟩ : Shape).Idx → EReal) (r : Fin 8192) (n : Fin K) : X (ix2 r n) = num X r n.val := by
  rw [num, dif_pos n.isLt]
/-- A table of angles' values with its columns by number. -/
def num3 (X : (⟨3, ![1, 8192, 16]⟩ : Shape).Idx → EReal) (r : Fin 8192) (n : ℕ) : EReal := if h : n < 16 then X (ix3 0 r ⟨n, h⟩) else 0
theorem num3_at (X : (⟨3, ![1, 8192, 16]⟩ : Shape).Idx → EReal) (r : Fin 8192) (n : Fin 16) : X (ix3 0 r n) = num3 X r n.val := by
  rw [num3, dif_pos n.isLt]

variable (A0 : FVec Ideal S8192x512 .bf16) (A1 A2 : FVec Ideal S8192x512 .f32) (A3 : FVec Ideal S8192x512 .bf16)
    (A4 A5 : FVec Ideal S8192x512 .f32) (A6 : FVec Ideal S8192x512 .bf16) (A7 A8 A9 : FVec Ideal S8192x512 .f32)
    (P : FVec Ideal S8192x3072 .f32) (T : IVec S8192 32) (G L : FVec Ideal S1x128 .f32)

/-- The rows the arguments hold. -/
def inp : Inp := ⟨num A0, num A1, num A2, num A3, num A4, num A5, num A6, num A7, num A8, num A9, num P,
  num3 (val_main_v17 (F := Ideal) T), num3 (val_main_v18 (F := Ideal) T), fun d => G (ix2 0 d), fun d => L (ix2 0 d)⟩

theorem of_inp : Cert.QkvBwdRefIdeal.Value.Of (inp A0 A1 A2 A3 A4 A5 A6 A7 A8 A9 P T G L) A0 A1 A2 A3 A4 A5 A6 A7 A8 A9 P T G L :=
  ⟨num_at A0, num_at A1, num_at A2, num_at A3, num_at A4, num_at A5, num_at A6, num_at A7, num_at A8, num_at A9, num_at P,
   num3_at _, num3_at _, fun _ => rfl, fun _ => rfl⟩

variable (m : (ℓ : Loc nD τ sig) → Buf (Elt Ideal) ℓ) (c : Dev nD)
    (e0 : m ((c : Thread nD τ).loc main_arg0) = A0)
    (e1 : m ((c : Thread nD τ).loc main_arg1) = A1)
    (e2 : m ((c : Thread nD τ).loc main_arg2) = A2)
    (e3 : m ((c : Thread nD τ).loc main_arg3) = A3)
    (e4 : m ((c : Thread nD τ).loc main_arg4) = A4)
    (e5 : m ((c : Thread nD τ).loc main_arg5) = A5)
    (e6 : m ((c : Thread nD τ).loc main_arg6) = A6)
    (e7 : m ((c : Thread nD τ).loc main_arg7) = A7)
    (e8 : m ((c : Thread nD τ).loc main_arg8) = A8)
    (e9 : m ((c : Thread nD τ).loc main_arg9) = A9)
    (eP : m ((c : Thread nD τ).loc main_arg10) = P) (eT : m ((c : Thread nD τ).loc main_arg11) = T)
    (eG : m ((c : Thread nD τ).loc main_arg12) = G) (eL : m ((c : Thread nD τ).loc main_arg13) = L)

include e0 e1 e2 e3 e4 e5 e6 e7 e8 e9 eP eT eG eL
theorem in_inp : In m c (inp A0 A1 A2 A3 A4 A5 A6 A7 A8 A9 P T G L) where
  h0 := ⟨A0, (V_main_arg0 m c).trans e0, num_at A0⟩
  h1 := ⟨A1, (V_main_arg1 m c).trans e1, num_at A1⟩
  h2 := ⟨A2, (V_main_arg2 m c).trans e2, num_at A2⟩
  h3 := ⟨A3, (V_main_arg3 m c).trans e3, num_at A3⟩
  h4 := ⟨A4, (V_main_arg4 m c).trans e4, num_at A4⟩
  h5 := ⟨A5, (V_main_arg5 m c).trans e5, num_at A5⟩
  h6 := ⟨A6, (V_main_arg6 m c).trans e6, num_at A6⟩
  h7 := ⟨A7, (V_main_arg7 m c).trans e7, num_at A7⟩
  h8 := ⟨A8, (V_main_arg8 m c).trans e8, num_at A8⟩
  h9 := ⟨A9, (V_main_arg9 m c).trans e9, num_at A9⟩
  hP := ⟨P, (V_main_arg10 m c).trans eP, num_at P⟩
  hC := v19_val m c T eT _ (num3_at _)
  hS := v22_val m c T eT _ (num3_at _)
  hG := ⟨G, (V_main_arg12 m c).trans eG, fun _ => rfl⟩
  hL := ⟨L, (V_main_arg13 m c).trans eL, fun _ => rfl⟩

/-- The call's three results are the reference's. -/
theorem results :
    val_main_v204 (F := Ideal) A0 A1 A2 A3 A4 A5 A6 A7 A8 A9 P T G L = (dats m 0 c).arrAt 15 cfg0.N
    ∧ val_main_v184 (F := Ideal) A0 A1 A2 P T = (dats m 0 c).arrAt 16 cfg0.N
    ∧ val_main_v139 (F := Ideal) A3 A4 A5 P T = (dats m 0 c).arrAt 17 cfg0.N := by
  have H := in_inp A0 A1 A2 A3 A4 A5 A6 A7 A8 A9 P T G L m c e0 e1 e2 e3 e4 e5 e6 e7 e8 e9 eP eT eG eL
  have O := of_inp A0 A1 A2 A3 A4 A5 A6 A7 A8 A9 P T G L
  refine ⟨?_, ?_, ?_⟩
  · rw [arr15 H]
    funext i
    idx_vars i
    exact Cert.QkvBwdRefIdeal.Value.v204_at O _ _
  · rw [arr16 H]
    funext i
    idx_vars i
    have hi : i0 = 0 := Subsingleton.elim _ _
    subst hi
    exact Cert.QkvBwdRefIdeal.Value.v184_at O _
  · rw [arr17 H]
    funext i
    idx_vars i
    have hi : i0 = 0 := Subsingleton.elim _ _
    subst hi
    exact Cert.QkvBwdRefIdeal.Value.v139_at O _

end Cert.QkvBwdIdeal.Value

end
-- ==== Proof.OutRun.lean ====
/-
  The output projection's run, for any float values: it ends with the results at the contents of the last boundary, the
  arguments unchanged and every counter at zero.
-/
module

public import proofs.«01_k».proof.Proof.Gen.OutProjIdeal.Frame

@[expose] public section

set_option maxRecDepth 16384
noncomputable section
namespace Cert.OutProjIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutProjIdeal Cert.OutProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two calls and the host code between them, from any memory with zero counters: it ends, nothing
faulting, with each result at the last boundary's contents, the arguments as launched and every counter at zero. -/
theorem run_main : θ_run defs (onTc (τ := τ) (main (F := F))) ⟨m, fun _ => 0, ρ⟩ (fun r => (∀ c : Dev nD,
      (r.2.mem ((c.tc : Thread nD τ).loc main_v13_0) = W5 m ρ c (Proc.devRef .tc main_v13_0)
      ∧ r.2.mem ((c.tc : Thread nD τ).loc main_v13_3) = W5 m ρ c (Proc.devRef .tc main_v13_3)
      ∧ r.2.mem ((c.tc : Thread nD τ).loc main_v13_4) = W5 m ρ c (Proc.devRef .tc main_v13_4)
      ∧ r.2.mem ((c.tc : Thread nD τ).loc main_v14) = W5 m ρ c (Proc.devRef .tc main_v14))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨⟨h c _ (mem_uc main_v13_0 (by decide)), h c _ (mem_uc main_v13_3 (by decide)), h c _ (mem_uc main_v13_4 (by decide)), h c _ (mem_uc main_v14 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩), funext fun g => hz g (.inr (no_unscoped g.2))⟩)

/-- The same run, read at the arguments and the counters alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_main m ρ)

end Cert.OutProjIdeal.Value
-- ==== Proof.Out.lean ====
/-
  The arithmetic of the output projection's backward pass, over the extended reals.
-/
module

public import Idealize.ShloMosaic.PureOps.Ideal

@[expose] public section

noncomputable section
namespace Cert.Out

/-- The gradient in column `n` of a row entering the output projection: the row's output gradient against row `n` of the weights. -/
def dm (e : Fin 1024 → EReal) (w : ℕ → Fin 1024 → EReal) (n : ℕ) : EReal := ∑ k, e k * w n k

/-- A row's pooled channel `q` of group `g` before the scale. -/
def yg (d : ℕ → EReal) (p : ℕ → Fin 128 → Fin 128 → EReal) (g : ℕ) (q : Fin 128) : EReal := ∑ k : Fin 128, d (128 * g + k.val) * p g k q

/-- A row's pooled channels one after the other, before the scale. -/
def yn (d : ℕ → EReal) (p : ℕ → Fin 128 → Fin 128 → EReal) (n : ℕ) : EReal := yg d p (n / 128) ⟨n % 128, Nat.mod_lt _ (by decide)⟩

theorem yn_at (d : ℕ → EReal) (p : ℕ → Fin 128 → Fin 128 → EReal) (g : ℕ) (q : Fin 128) : yn d p (128 * g + q.val) = yg d p g q := by
  have hd : (128 * g + q.val) / 128 = g := by omega
  have hm : (⟨(128 * g + q.val) % 128, Nat.mod_lt _ (by decide)⟩ : Fin 128) = q := Fin.ext (by simp only []; omega)
  unfold yn
  rw [hm, hd]

end Cert.Out
-- ==== Proof.OutPay.lean ====
/-
  What the mixer's backward call stores, payload by payload, over the extended reals.
-/
module

public import proofs.«01_k».proof.Proof.Gen.OutProjIdeal.Skeleton
public import proofs.«01_k».proof.Proof.Out
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.OutProjIdeal.Value
open Cert.OutProjIdeal Cert.OutProjIdeal.Gen Cert.Out

/-- The gradients entering the output projection's rows of a block. -/
theorem p_dm (E : FVec Ideal S512x1024 .f32) (W : FVec Ideal S1x1024x1024 .bf16) (e : Fin 512 → Fin 1024 → EReal) (w : ℕ → Fin 1024 → EReal)
    (hE : ∀ y k, E (ix2 y k) = e y k) (hW : ∀ n k, W (ix3 0 n k) = w n.val k) (a : Fin 512) (n : Fin 1024) :
    k1_pay3 (F := Ideal) E W (ix2 a n) = dm (e a) w n.val := by
  pointwise [k1_pay3]
  simp only [hE, hW]
  rfl

section
variable (V : FVec Ideal S512x1024 .f32) (H : FVec Ideal S16x512 .f32) (S : FVec Ideal S1x128 .f32) (D : FVec Ideal S512x128 .bf16)
    (v : Fin 512 → ℕ → EReal) (s : Fin 128 → EReal) (d : Fin 512 → Fin 128 → EReal)
    (hV : ∀ a n, V (ix2 a n) = v a n.val) (hS : ∀ q, S (ix2 0 q) = s q) (hD : ∀ a q, D (ix2 a q) = d a q)

include hV hS hD in
/-- The first group's weight gradient grows by the block's rows. -/
theorem p_gw0 (i : BitVec 32) (A : FVec Ideal S1x128x128 .f32) (p q : Fin 128) :
    k1_pay24 (F := Ideal) (k1_pay21 i V H S) D A (ix3 0 p q) = A (ix3 0 p q) + ∑ a, d a p * (v a (512 + q.val) * s q) := by
  pointwise [k1_pay24, k1_pay21, k1_pay20]
  simp only [hV, hS, hD]

include hV hD in
/-- The first group's scale gradient grows by the block's rows. -/
theorem p_gs0 (i : BitVec 32) (A : FVec Ideal S1x128 .f32) (P : FVec Ideal S1x128x128 .bf16) (p : Fin 128 → Fin 128 → EReal)
    (hP : ∀ k q, P (ix3 0 k q) = p k q) (q : Fin 128) :
    k1_pay25 (F := Ideal) (k1_pay20 i V H) D A P (ix2 0 q) = A (ix2 0 q) + ∑ a, v a (512 + q.val) * ∑ k, d a k * p k q := by
  pointwise [k1_pay25, k1_pay20]
  simp only [hV, hD, hP]

include hV hS hD in
/-- The second group's weight gradient grows by the block's rows. -/
theorem p_gw1 (A : FVec Ideal S1x128x128 .f32) (p q : Fin 128) :
    k1_pay30 (F := Ideal) H (k1_pay26 V) S D A (ix3 0 p q) = A (ix3 0 p q) + ∑ a, d a p * (v a (640 + q.val) * s q) := by
  pointwise [k1_pay30, k1_pay28, k1_pay27, k1_pay26]
  simp only [hV, hS, hD]

include hV hD in
/-- The second group's scale gradient grows by the block's rows. -/
theorem p_gs1 (A : FVec Ideal S1x128 .f32) (P : FVec Ideal S1x128x128 .bf16) (p : Fin 128 → Fin 128 → EReal)
    (hP : ∀ k q, P (ix3 0 k q) = p k q) (q : Fin 128) :
    k1_pay32 (F := Ideal) (k1_pay27 H (k1_pay26 V)) D (k1_pay31 A) P (ix2 0 q) = A (ix2 0 q) + ∑ a, v a (640 + q.val) * ∑ k, d a k * p k q := by
  pointwise [k1_pay32, k1_pay31, k1_pay27, k1_pay26]
  simp only [hV, hD, hP]

include hV hS hD in
/-- The third group's weight gradient grows by the block's rows. -/
theorem p_gw2 (A : FVec Ideal S1x128x128 .f32) (p q : Fin 128) :
    k1_pay36 (F := Ideal) (k1_pay34 V H S) D A (ix3 0 p q) = A (ix3 0 p q) + ∑ a, d a p * (v a (768 + q.val) * s q) := by
  pointwise [k1_pay36, k1_pay34, k1_pay33]
  simp only [hV, hS, hD]

include hV hD in
/-- The third group's scale gradient grows by the block's rows. -/
theorem p_gs2 (A : FVec Ideal S1x128 .f32) (P : FVec Ideal S1x128x128 .bf16) (p : Fin 128 → Fin 128 → EReal)
    (hP : ∀ k q, P (ix3 0 k q) = p k q) (q : Fin 128) :
    k1_pay37 (F := Ideal) (k1_pay33 V H) D A P (ix2 0 q) = A (ix2 0 q) + ∑ a, v a (768 + q.val) * ∑ k, d a k * p k q := by
  pointwise [k1_pay37, k1_pay33]
  simp only [hV, hD, hP]

include hV hS hD in
/-- The fourth group's weight gradient grows by the block's rows. -/
theorem p_gw3 (A : FVec Ideal S1x128x128 .f32) (p q : Fin 128) :
    k1_pay43 (F := Ideal) (k1_pay39 V H S) D A (ix3 0 p q) = A (ix3 0 p q) + ∑ a, d a p * (v a (896 + q.val) * s q) := by
  pointwise [k1_pay43, k1_pay39, k1_pay38]
  simp only [hV, hS, hD]

include hV hD in
/-- The fourth group's scale gradient grows by the block's rows. -/
theorem p_gs3 (A : FVec Ideal S1x128 .f32) (P : FVec Ideal S1x128x128 .bf16) (p : Fin 128 → Fin 128 → EReal)
    (hP : ∀ k q, P (ix3 0 k q) = p k q) (q : Fin 128) :
    k1_pay44 (F := Ideal) (k1_pay38 V H) D A P (ix2 0 q) = A (ix2 0 q) + ∑ a, v a (896 + q.val) * ∑ k, d a k * p k q := by
  pointwise [k1_pay44, k1_pay38]
  simp only [hV, hD, hP]

end
end Cert.OutProjIdeal.Value
-- ==== Proof.OutBwd.lean ====
/-
  The mixer's backward call over the extended reals, for any arguments: the gradient in the attention's rows, and those in the
  groups' weights and in the scale summed over the tokens.
-/
module

public import proofs.«01_k».proof.Proof.Gen.OutProjIdeal.Frame
public import proofs.«01_k».proof.Proof.OutPay

@[expose] public section

set_option maxRecDepth 16384
noncomputable section
open Idealize.ShloMosaic Idealize.ShloMosaic.TcCoe Idealize.SL.Sem
open Idealize.ShloMosaic.Pipeline (Dat)
namespace Cert.OutProjIdeal.Value
open Cert.OutProjIdeal Cert.OutProjIdeal.Gen Cert.Out

variable (V : (c : Dev nD) → (b : Ref sig .tc) → Buf (Elt Ideal) ((c : Thread nD τ).loc b))

/-- A load of one group's slice reads what the stores before it left there. -/
theorem rd_grp {sig : RefSig} {κ : Kind} {sp : Space} (v : View sig κ sp S4x128x128 .f32) (L : List (View.Piece (Elt Ideal) S4x128x128 .f32))
    (o : ℕ) (ho : o < 4) (inb : ∀ a, (![o, 0, 0] : Fin 3 → ℕ) a + (![1, 128, 128] : Fin 3 → ℕ) a ≤ S4x128x128.size a) (p q : Fin 128) :
    v.readCov L (Rect.unit (s := S4x128x128) ![o, 0, 0] ![1, 128, 128] inb).toLoadRect (ix3 0 p q) = View.canon L (ix3 ⟨o, ho⟩ p q) := by
  rw [View.readCov_eq_canon']
  refine congrArg (View.canon L) (funext fun a => Fin.ext ?_)
  fin_cases a
  · show o + 1 * 0 = o; omega
  · show 0 + 1 * p.val = p.val; omega
  · show 0 + 1 * q.val = q.val; omega

/-- A store to another group's slice does not matter. -/
theorem grp_skip (L : List (View.Piece (Elt Ideal) S4x128x128 .f32)) (o : ℕ) (j : Fin 4) (hj : j.val ≠ o)
    (inb : ∀ a, (![o, 0, 0] : Fin 3 → ℕ) a + (![1, 128, 128] : Fin 3 → ℕ) a ≤ S4x128x128.size a)
    (w : (Rect.unit (s := S4x128x128) ![o, 0, 0] ![1, 128, 128] inb).shape.Idx → Elt Ideal .f32) (p q : Fin 128) :
    View.canon ((⟨Rect.unit (s := S4x128x128) ![o, 0, 0] ![1, 128, 128] inb, w⟩ : View.Piece (Elt Ideal) S4x128x128 .f32) :: L) (ix3 j p q)
      = View.canon L (ix3 j p q) := by
  refine View.canon_cons_of_not_mem _ _ fun hm => ?_
  obtain ⟨x, hx⟩ := (Rect.unit (s := S4x128x128) ![o, 0, 0] ![1, 128, 128] inb).exists_idx_of_mem hm
  have h := congrArg (fun i : S4x128x128.Idx => (i 0).val) hx
  have h' : o + 1 * (x 0).val = j.val := h
  have hl : (x 0).val < 1 := (x 0).isLt
  omega

/-- The zeros stored first over all groups. -/
theorem grp_zeros (inb : ∀ a, (![0, 0, 0] : Fin 3 → ℕ) a + (![4, 128, 128] : Fin 3 → ℕ) a ≤ S4x128x128.size a)
    (w : S4x128x128.Idx → Elt Ideal .f32) :
    View.canon [(⟨Rect.unit (s := S4x128x128) ![0, 0, 0] ![4, 128, 128] inb, w⟩ : View.Piece (Elt Ideal) S4x128x128 .f32)] = w :=
  View.canon_cons_unit_lit inb w [] (by decide)

/-- Reading 128 columns of what was stored. -/
theorem rd_col {sig : RefSig} {κ : Kind} {sp : Space} (v : View sig κ sp S1x512 .f32) (L : List (View.Piece (Elt Ideal) S1x512 .f32))
    (o : ℕ) (ho : o + 128 ≤ 512) (inb : ∀ a, (![0, o] : Fin 2 → ℕ) a + (![1, 128] : Fin 2 → ℕ) a ≤ S1x512.size a) (q : Fin 128) :
    v.readCov L (Rect.unit (s := S1x512) ![0, o] ![1, 128] inb).toLoadRect (ix2 0 q) = View.canon L (ix2 0 ⟨o + q.val, by omega⟩) := by
  rw [View.readCov_eq_canon']
  refine congrArg (View.canon L) (funext fun a => Fin.ext ?_)
  fin_cases a
  · rfl
  · show o + 1 * q.val = o + q.val; omega

/-- A store of other columns does not matter. -/
theorem col_skip (L : List (View.Piece (Elt Ideal) S1x512 .f32)) (o : ℕ) (inb : ∀ a, (![0, o] : Fin 2 → ℕ) a + (![1, 128] : Fin 2 → ℕ) a ≤ S1x512.size a)
    (w : (Rect.unit (s := S1x512) ![0, o] ![1, 128] inb).shape.Idx → Elt Ideal .f32) (n : Fin 512) (hn : o + 128 ≤ n.val) :
    View.canon ((⟨Rect.unit (s := S1x512) ![0, o] ![1, 128] inb, w⟩ : View.Piece (Elt Ideal) S1x512 .f32) :: L) (ix2 0 n)
      = View.canon L (ix2 0 n) := by
  refine View.canon_cons_of_not_mem _ _ fun hm => ?_
  obtain ⟨x, hx⟩ := (Rect.unit (s := S1x512) ![0, o] ![1, 128] inb).exists_idx_of_mem hm
  have h := congrArg (fun i : S1x512.Idx => (i 1).val) hx
  have h' : o + 1 * (x 1).val = n.val := h
  have hx1 : (x 1).val < 128 := (x 1).isLt
  omega

/-- The zeros stored first over the scale's gradient. -/
theorem col_zeros (inb : ∀ a, (![0, 0] : Fin 2 → ℕ) a + (![1, 512] : Fin 2 → ℕ) a ≤ S1x512.size a)
    (w : S1x512.Idx → Elt Ideal .f32) :
    View.canon [(⟨Rect.unit (s := S1x512) ![0, 0] ![1, 512] inb, w⟩ : View.Piece (Elt Ideal) S1x512 .f32)] = w :=
  View.canon_cons_unit_lit inb w [] (by decide)

/-- Where four stores cover an index, a fifth, earlier one does not matter. -/
theorem canon_drop {S : Shape} {e : EltTy} (p₁ p₂ p₃ p₄ z : View.Piece (Elt Ideal) S e) (y : S.Idx)
    (h : ∃ p ∈ [p₁, p₂, p₃, p₄], y ∈ p.1.set) : View.canon [p₁, p₂, p₃, p₄, z] y = View.canon [p₁, p₂, p₃, p₄] y := by
  by_cases h1 : y ∈ p₁.1.set
  · obtain ⟨x, rfl⟩ := p₁.1.exists_idx_of_mem h1
    exact (View.canon_cons_emb p₁.1 p₁.2 _ x).trans (View.canon_cons_emb p₁.1 p₁.2 _ x).symm
  rw [View.canon_cons_of_not_mem _ _ h1, View.canon_cons_of_not_mem _ _ h1]
  by_cases h2 : y ∈ p₂.1.set
  · obtain ⟨x, rfl⟩ := p₂.1.exists_idx_of_mem h2
    exact (View.canon_cons_emb p₂.1 p₂.2 _ x).trans (View.canon_cons_emb p₂.1 p₂.2 _ x).symm
  rw [View.canon_cons_of_not_mem _ _ h2, View.canon_cons_of_not_mem _ _ h2]
  by_cases h3 : y ∈ p₃.1.set
  · obtain ⟨x, rfl⟩ := p₃.1.exists_idx_of_mem h3
    exact (View.canon_cons_emb p₃.1 p₃.2 _ x).trans (View.canon_cons_emb p₃.1 p₃.2 _ x).symm
  rw [View.canon_cons_of_not_mem _ _ h3, View.canon_cons_of_not_mem _ _ h3]
  have h4 : y ∈ p₄.1.set := by
    obtain ⟨p, hp, hy⟩ := h
    simp only [List.mem_cons, List.not_mem_nil, or_false] at hp
    rcases hp with rfl | rfl | rfl | rfl
    exacts [absurd hy h1, absurd hy h2, absurd hy h3, hy]
  obtain ⟨x, rfl⟩ := p₄.1.exists_idx_of_mem h4
  exact (View.canon_cons_emb p₄.1 p₄.2 _ x).trans (View.canon_cons_emb p₄.1 p₄.2 _ x).symm

section
variable (c : Dev nD) (t : Fin cfg1.N) (E : FVec Ideal S512x1024 .f32) (W : FVec Ideal S1x1024x1024 .bf16) (D : FVec Ideal S512x512 .bf16)
    (P : FVec Ideal S4x128x128 .bf16) (S : FVec Ideal S1x512 .f32)
    (e : Fin 512 → Fin 1024 → EReal) (w : ℕ → Fin 1024 → EReal) (d : Fin 512 → ℕ → EReal) (p : ℕ → Fin 128 → Fin 128 → EReal) (s : ℕ → EReal)
    (eE : iblk1 V c 0 t = E) (eW : iblk1 V c 2 t = W) (eD : iblk1 V c 5 t = D) (eP : iblk1 V c 6 t = P) (eS : iblk1 V c 7 t = S)
    (hE : ∀ y k, E (ix2 y k) = e y k) (hW : ∀ n k, W (ix3 0 n k) = w n.val k) (hD : ∀ y n, D (ix2 y n) = d y n.val)
    (hP : ∀ j k q, P (ix3 j k q) = p j.val k q) (hS : ∀ n, S (ix2 0 n) = s n.val)

include eE eW hE hW in
/-- The gradient in the attention's rows of a block, group of columns by group of columns, at the first point. -/
theorem out1_8A (h0 : t.val % 16 = 0) (a : Fin 512) (n : Fin 512) : (outsAt1 V c t.val t.isLt).1 (ix2 a n) = dm (e a) w n.val := by
  rw [outsAt1_A V c t h0]; dsimp only []; frame_out
  simp only [eE, eW]
  clear h0
  generalize hV' : k1_pay3 (F := Ideal) _ _ = T
  have hV : ∀ a n, T (ix2 a n) = dm (e a) w n.val := fun a n => by
    rw [← hV']
    exact p_dm E W e w hE hW a n
  canon_tiles x' h
  all_goals
    idx_vars x'
    obtain rfl : a = x'0 := Fin.ext h0
    rw [h1]
  · pointwise [k1_pay16, k1_pay15]
    simp only [hV]
  · pointwise [k1_pay12, k1_pay11]
    simp only [hV]
  · pointwise [k1_pay9, k1_pay8]
    simp only [hV]
  · pointwise [k1_pay6, k1_pay5]
    simp only [hV', hV]

include eE eW hE hW in
/-- The gradient in the attention's rows of a block, group of columns by group of columns, at every other point. -/
theorem out1_8B (h0 : ¬ t.val % 16 = 0) (a : Fin 512) (n : Fin 512) : (outsAt1 V c t.val t.isLt).1 (ix2 a n) = dm (e a) w n.val := by
  rw [outsAt1_B V c t h0]; dsimp only []; frame_out
  simp only [eE, eW]
  clear h0
  generalize hV' : k1_pay3 (F := Ideal) _ _ = T
  have hV : ∀ a n, T (ix2 a n) = dm (e a) w n.val := fun a n => by
    rw [← hV']
    exact p_dm E W e w hE hW a n
  canon_tiles x' h
  all_goals
    idx_vars x'
    obtain rfl : a = x'0 := Fin.ext h0
    rw [h1]
  · pointwise [k1_pay16, k1_pay15]
    simp only [hV]
  · pointwise [k1_pay12, k1_pay11]
    simp only [hV]
  · pointwise [k1_pay9, k1_pay8]
    simp only [hV]
  · pointwise [k1_pay6, k1_pay5]
    simp only [hV', hV]

include eE eW eD eS hE hW hD hS in
/-- The groups' weight gradients start at the first point. -/
theorem out1_11A (h0 : t.val % 16 = 0) (j : Fin 4) (p' q : Fin 128) :
    (outsAt1 V c t.val t.isLt).2.2.2.1 (ix3 j p' q) = 0 + ∑ a, d a (128 * j.val + p'.val) * (dm (e a) w (512 + (128 * j.val + q.val)) * s (128 * j.val + q.val)) := by
  rw [outsAt1_A V c t h0]; dsimp only []; frame_out
  simp only [eE, eW, eD, eS]
  clear h0
  generalize hV' : k1_pay3 (F := Ideal) _ _ = T
  have hV : ∀ a n, T (ix2 a n) = dm (e a) w n.val := fun a n => by
    rw [← hV']
    exact p_dm E W e w hE hW a n
  clear hV'
  refine (canon_drop _ _ _ _ _ _ (View.cover_of_tiledBy _ ![1, 128, 128] (by sl_kernel_rfl) _)).trans ?_
  canon_tiles x' h
  · idx_vars x'
    obtain rfl : x'0 = 0 := Subsingleton.elim _ _
    obtain rfl : p' = x'1 := Fin.ext h1
    obtain rfl : q = x'2 := Fin.ext h2
    obtain rfl : j = 3 := Fin.ext h0
    refine (p_gw3 T _ _ _ (fun a => dm (e a) w) (fun q => s (128 * 3 + q.val)) (fun a q => d a (128 * 3 + q.val)) hV ?_ ?_ _ _ _).trans ?_
    rotate_right
    · refine congrArg₂ (· + ·) ?_ (Finset.sum_congr rfl fun a _ => ?_)
      · rw [rd_grp _ _ _ (by decide)]
        repeat rw [grp_skip _ _ _ (by decide)]
        rw [grp_zeros]
        pointwise [k1_pay1]
      · rw [show 512 + (128 * ((3 : Fin 4) : ℕ) + q.val) = 896 + q.val from by simp only [show ((3 : Fin 4) : ℕ) = 3 from rfl]; omega]
        rfl
    · intro r
      pointwise
      simp only [hS, Nat.reduceMul, Nat.reduceAdd, Nat.zero_add]
    · intro p r
      pointwise
      simp only [hD, Nat.reduceMul, Nat.reduceAdd, Nat.zero_add]
  · idx_vars x'
    obtain rfl : x'0 = 0 := Subsingleton.elim _ _
    obtain rfl : p' = x'1 := Fin.ext h1
    obtain rfl : q = x'2 := Fin.ext h2
    obtain rfl : j = 2 := Fin.ext h0
    refine (p_gw2 T _ _ _ (fun a => dm (e a) w) (fun q => s (128 * 2 + q.val)) (fun a q => d a (128 * 2 + q.val)) hV ?_ ?_ _ _ _).trans ?_
    rotate_right
    · refine congrArg₂ (· + ·) ?_ (Finset.sum_congr rfl fun a _ => ?_)
      · rw [rd_grp _ _ _ (by decide)]
        repeat rw [grp_skip _ _ _ (by decide)]
        rw [grp_zeros]
        pointwise [k1_pay1]
      · rw [show 512 + (128 * ((2 : Fin 4) : ℕ) + q.val) = 768 + q.val from by simp only [show ((2 : Fin 4) : ℕ) = 2 from rfl]; omega]
        rfl
    · intro r
      pointwise
      simp only [hS, Nat.reduceMul, Nat.reduceAdd, Nat.zero_add]
    · intro p r
      pointwise
      simp only [hD, Nat.reduceMul, Nat.reduceAdd, Nat.zero_add]
  · idx_vars x'
    obtain rfl : x'0 = 0 := Subsingleton.elim _ _
    obtain rfl : p' = x'1 := Fin.ext h1
    obtain rfl : q = x'2 := Fin.ext h2
    obtain rfl : j = 1 := Fin.ext h0
    refine (p_gw1 T _ _ _ (fun a => dm (e a) w) (fun q => s (128 * 1 + q.val)) (fun a q => d a (128 * 1 + q.val)) hV ?_ ?_ _ _ _).trans ?_
    rotate_right
    · refine congrArg₂ (· + ·) ?_ (Finset.sum_congr rfl fun a _ => ?_)
      · rw [rd_grp _ _ _ (by decide)]
        repeat rw [grp_skip _ _ _ (by decide)]
        rw [grp_zeros]
        pointwise [k1_pay1]
      · rw [show 512 + (128 * ((1 : Fin 4) : ℕ) + q.val) = 640 + q.val from by simp only [show ((1 : Fin 4) : ℕ) = 1 from rfl]; omega]
        rfl
    · intro r
      pointwise
      simp only [hS, Nat.reduceMul, Nat.reduceAdd, Nat.zero_add]
    · intro p r
      pointwise
      simp only [hD, Nat.reduceMul, Nat.reduceAdd, Nat.zero_add]
  · idx_vars x'
    obtain rfl : x'0 = 0 := Subsingleton.elim _ _
    obtain rfl : p' = x'1 := Fin.ext h1
    obtain rfl : q = x'2 := Fin.ext h2
    obtain rfl : j = 0 := Fin.ext h0
    refine (p_gw0 T _ _ _ (fun a => dm (e a) w) (fun q => s (128 * 0 + q.val)) (fun a q => d a (128 * 0 + q.val)) hV ?_ ?_ _ _ _ _).trans ?_
    rotate_right
    · refine congrArg₂ (· + ·) ?_ (Finset.sum_congr rfl fun a _ => ?_)
      · rw [rd_grp _ _ _ (by decide)]
        repeat rw [grp_skip _ _ _ (by decide)]
        rw [grp_zeros]
        pointwise [k1_pay1]
      · rw [show 512 + (128 * ((0 : Fin 4) : ℕ) + q.val) = 512 + q.val from by simp only [show ((0 : Fin 4) : ℕ) = 0 from rfl]; omega]
        rfl
    · intro r
      pointwise
      simp only [hS, Nat.reduceMul, Nat.reduceAdd, Nat.zero_add]
    · intro p r
      pointwise
      simp only [hD, Nat.reduceMul, Nat.reduceAdd, Nat.zero_add]

include eE eW eD eP hE hW hD hP in
/-- The scale's gradient starts at the first point. -/
theorem out1_12A (h0 : t.val % 16 = 0) (n : Fin 512) :
    (outsAt1 V c t.val t.isLt).2.2.2.2 (ix2 0 n) = 0 + ∑ a, dm (e a) w (512 + n.val) * yn (d a) p n.val := by
  rw [outsAt1_A V c t h0]; dsimp only []; frame_out
  simp only [eE, eW, eD, eP]
  clear h0
  generalize hV' : k1_pay3 (F := Ideal) _ _ = T
  have hV : ∀ a n, T (ix2 a n) = dm (e a) w n.val := fun a n => by
    rw [← hV']
    exact p_dm E W e w hE hW a n
  clear hV'
  refine (canon_drop _ _ _ _ _ _ (View.cover_of_tiledBy _ ![1, 128] (by sl_kernel_rfl) _)).trans ?_
  canon_tiles x' h
  · idx_vars x'
    obtain rfl : x'0 = 0 := Subsingleton.elim _ _
    have hv : n.val = 128 * 3 + x'1.val := by omega
    refine (p_gs3 T _ _ (fun a => dm (e a) w) (fun a q => d a (128 * 3 + q.val)) hV ?_ _ _ (p 3) ?_ x'1).trans ?_
    rotate_right
    · refine congrArg₂ (· + ·) ?_ (Finset.sum_congr rfl fun a _ => ?_)
      · rw [rd_col _ _ _ (by decide)]
        repeat rw [col_skip _ _ _ _ _ (by simp only []; omega)]
        rw [col_zeros]
        pointwise [k1_pay2]
      · rw [hv, yn_at, show 512 + (128 * 3 + x'1.val) = 896 + x'1.val from by omega]
        rfl
    · intro p r
      pointwise
      simp only [hD, Nat.reduceMul, Nat.reduceAdd, Nat.zero_add]
    · intro k q
      pointwise
      rw [hP]
      rfl
  · idx_vars x'
    obtain rfl : x'0 = 0 := Subsingleton.elim _ _
    have hv : n.val = 128 * 2 + x'1.val := by omega
    refine (p_gs2 T _ _ (fun a => dm (e a) w) (fun a q => d a (128 * 2 + q.val)) hV ?_ _ _ (p 2) ?_ x'1).trans ?_
    rotate_right
    · refine congrArg₂ (· + ·) ?_ (Finset.sum_congr rfl fun a _ => ?_)
      · rw [rd_col _ _ _ (by decide)]
        repeat rw [col_skip _ _ _ _ _ (by simp only []; omega)]
        rw [col_zeros]
        pointwise [k1_pay2]
      · rw [hv, yn_at, show 512 + (128 * 2 + x'1.val) = 768 + x'1.val from by omega]
        rfl
    · intro p r
      pointwise
      simp only [hD, Nat.reduceMul, Nat.reduceAdd, Nat.zero_add]
    · intro k q
      pointwise
      rw [hP]
      rfl
  · idx_vars x'
    obtain rfl : x'0 = 0 := Subsingleton.elim _ _
    have hv : n.val = 128 * 1 + x'1.val := by omega
    refine (p_gs1 T _ _ (fun a => dm (e a) w) (fun a q => d a (128 * 1 + q.val)) hV ?_ _ _ (p 1) ?_ x'1).trans ?_
    rotate_right
    · refine congrArg₂ (· + ·) ?_ (Finset.sum_congr rfl fun a _ => ?_)
      · pointwise [k1_pay31]
        rw [rd_col _ _ _ (by decide)]
        repeat rw [col_skip _ _ _ _ _ (by simp only []; omega)]
        rw [col_zeros]
        pointwise [k1_pay2]
      · rw [hv, yn_at, show 512 + (128 * 1 + x'1.val) = 640 + x'1.val from by omega]
        rfl
    · intro p r
      pointwise
      simp only [hD, Nat.reduceMul, Nat.reduceAdd, Nat.zero_add]
    · intro k q
      pointwise
      rw [hP]
      rfl
  · idx_vars x'
    obtain rfl : x'0 = 0 := Subsingleton.elim _ _
    have hv : n.val = 128 * 0 + x'1.val := by omega
    refine (p_gs0 T _ _ (fun a => dm (e a) w) (fun a q => d a (128 * 0 + q.val)) hV ?_ _ _ _ (p 0) ?_ x'1).trans ?_
    rotate_right
    · refine congrArg₂ (· + ·) ?_ (Finset.sum_congr rfl fun a _ => ?_)
      · rw [rd_col _ _ _ (by decide)]
        repeat rw [col_skip _ _ _ _ _ (by simp only []; omega)]
        rw [col_zeros]
        pointwise [k1_pay2]
      · rw [hv, yn_at, show 512 + (128 * 0 + x'1.val) = 512 + x'1.val from by omega]
        rfl
    · intro p r
      pointwise
      simp only [hD, Nat.reduceMul, Nat.reduceAdd, Nat.zero_add]
    · intro k q
      pointwise
      rw [hP]
      rfl

include eE eW eD eS hE hW hD hS in
/-- The groups' weight gradients grow by every other point's rows. -/
theorem out1_11B (h0 : ¬ t.val % 16 = 0) (j : Fin 4) (p' q : Fin 128) :
    (outsAt1 V c t.val t.isLt).2.2.2.1 (ix3 j p' q) = (outsAt1 V c (t.val - 1) (by omega)).2.2.2.1 (ix3 j p' q) + ∑ a, d a (128 * j.val + p'.val) * (dm (e a) w (512 + (128 * j.val + q.val)) * s (128 * j.val + q.val)) := by
  rw [outsAt1_B V c t h0]; dsimp only []; frame_out
  simp only [eE, eW, eD, eS]
  generalize (outsAt1 V c (t.val - 1) _).2.2.2.1 = A0
  clear h0
  generalize hV' : k1_pay3 (F := Ideal) _ _ = T
  have hV : ∀ a n, T (ix2 a n) = dm (e a) w n.val := fun a n => by
    rw [← hV']
    exact p_dm E W e w hE hW a n
  clear hV'
  canon_tiles x' h
  · idx_vars x'
    obtain rfl : x'0 = 0 := Subsingleton.elim _ _
    obtain rfl : p' = x'1 := Fin.ext h1
    obtain rfl : q = x'2 := Fin.ext h2
    obtain rfl : j = 3 := Fin.ext h0
    refine (p_gw3 T _ _ _ (fun a => dm (e a) w) (fun q => s (128 * 3 + q.val)) (fun a q => d a (128 * 3 + q.val)) hV ?_ ?_ _ _ _).trans ?_
    rotate_right
    · refine congrArg₂ (· + ·) ?_ (Finset.sum_congr rfl fun a _ => ?_)
      · pointwise
      · rw [show 512 + (128 * ((3 : Fin 4) : ℕ) + q.val) = 896 + q.val from by simp only [show ((3 : Fin 4) : ℕ) = 3 from rfl]; omega]
        rfl
    · intro r
      pointwise
      simp only [hS, Nat.reduceMul, Nat.reduceAdd, Nat.zero_add]
    · intro p r
      pointwise
      simp only [hD, Nat.reduceMul, Nat.reduceAdd, Nat.zero_add]
  · idx_vars x'
    obtain rfl : x'0 = 0 := Subsingleton.elim _ _
    obtain rfl : p' = x'1 := Fin.ext h1
    obtain rfl : q = x'2 := Fin.ext h2
    obtain rfl : j = 2 := Fin.ext h0
    refine (p_gw2 T _ _ _ (fun a => dm (e a) w) (fun q => s (128 * 2 + q.val)) (fun a q => d a (128 * 2 + q.val)) hV ?_ ?_ _ _ _).trans ?_
    rotate_right
    · refine congrArg₂ (· + ·) ?_ (Finset.sum_congr rfl fun a _ => ?_)
      · pointwise
      · rw [show 512 + (128 * ((2 : Fin 4) : ℕ) + q.val) = 768 + q.val from by simp only [show ((2 : Fin 4) : ℕ) = 2 from rfl]; omega]
        rfl
    · intro r
      pointwise
      simp only [hS, Nat.reduceMul, Nat.reduceAdd, Nat.zero_add]
    · intro p r
      pointwise
      simp only [hD, Nat.reduceMul, Nat.reduceAdd, Nat.zero_add]
  · idx_vars x'
    obtain rfl : x'0 = 0 := Subsingleton.elim _ _
    obtain rfl : p' = x'1 := Fin.ext h1
    obtain rfl : q = x'2 := Fin.ext h2
    obtain rfl : j = 1 := Fin.ext h0
    refine (p_gw1 T _ _ _ (fun a => dm (e a) w) (fun q => s (128 * 1 + q.val)) (fun a q => d a (128 * 1 + q.val)) hV ?_ ?_ _ _ _).trans ?_
    rotate_right
    · refine congrArg₂ (· + ·) ?_ (Finset.sum_congr rfl fun a _ => ?_)
      · pointwise
      · rw [show 512 + (128 * ((1 : Fin 4) : ℕ) + q.val) = 640 + q.val from by simp only [show ((1 : Fin 4) : ℕ) = 1 from rfl]; omega]
        rfl
    · intro r
      pointwise
      simp only [hS, Nat.reduceMul, Nat.reduceAdd, Nat.zero_add]
    · intro p r
      pointwise
      simp only [hD, Nat.reduceMul, Nat.reduceAdd, Nat.zero_add]
  · idx_vars x'
    obtain rfl : x'0 = 0 := Subsingleton.elim _ _
    obtain rfl : p' = x'1 := Fin.ext h1
    obtain rfl : q = x'2 := Fin.ext h2
    obtain rfl : j = 0 := Fin.ext h0
    refine (p_gw0 T _ _ _ (fun a => dm (e a) w) (fun q => s (128 * 0 + q.val)) (fun a q => d a (128 * 0 + q.val)) hV ?_ ?_ _ _ _ _).trans ?_
    rotate_right
    · refine congrArg₂ (· + ·) ?_ (Finset.sum_congr rfl fun a _ => ?_)
      · pointwise
      · rw [show 512 + (128 * ((0 : Fin 4) : ℕ) + q.val) = 512 + q.val from by simp only [show ((0 : Fin 4) : ℕ) = 0 from rfl]; omega]
        rfl
    · intro r
      pointwise
      simp only [hS, Nat.reduceMul, Nat.reduceAdd, Nat.zero_add]
    · intro p r
      pointwise
      simp only [hD, Nat.reduceMul, Nat.reduceAdd, Nat.zero_add]

include eE eW eD eP hE hW hD hP in
/-- The scale's gradient grows by every other point's rows. -/
theorem out1_12B (h0 : ¬ t.val % 16 = 0) (n : Fin 512) :
    (outsAt1 V c t.val t.isLt).2.2.2.2 (ix2 0 n) = (outsAt1 V c (t.val - 1) (by omega)).2.2.2.2 (ix2 0 n) + ∑ a, dm (e a) w (512 + n.val) * yn (d a) p n.val := by
  rw [outsAt1_B V c t h0]; dsimp only []; frame_out
  simp only [eE, eW, eD, eP]
  generalize (outsAt1 V c (t.val - 1) _).2.2.2.2 = A0
  clear h0
  generalize hV' : k1_pay3 (F := Ideal) _ _ = T
  have hV : ∀ a n, T (ix2 a n) = dm (e a) w n.val := fun a n => by
    rw [← hV']
    exact p_dm E W e w hE hW a n
  clear hV'
  canon_tiles x' h
  · idx_vars x'
    obtain rfl : x'0 = 0 := Subsingleton.elim _ _
    have hv : n.val = 128 * 3 + x'1.val := by omega
    refine (p_gs3 T _ _ (fun a => dm (e a) w) (fun a q => d a (128 * 3 + q.val)) hV ?_ _ _ (p 3) ?_ x'1).trans ?_
    rotate_right
    · refine congrArg₂ (· + ·) ?_ (Finset.sum_congr rfl fun a _ => ?_)
      · pointwise
        exact congrArg A0 (congrArg (ix2 0) (Fin.ext h1.symm))
      · rw [hv, yn_at, show 512 + (128 * 3 + x'1.val) = 896 + x'1.val from by omega]
        rfl
    · intro p r
      pointwise
      simp only [hD, Nat.reduceMul, Nat.reduceAdd, Nat.zero_add]
    · intro k q
      pointwise
      rw [hP]
      rfl
  · idx_vars x'
    obtain rfl : x'0 = 0 := Subsingleton.elim _ _
    have hv : n.val = 128 * 2 + x'1.val := by omega
    refine (p_gs2 T _ _ (fun a => dm (e a) w) (fun a q => d a (128 * 2 + q.val)) hV ?_ _ _ (p 2) ?_ x'1).trans ?_
    rotate_right
    · refine congrArg₂ (· + ·) ?_ (Finset.sum_congr rfl fun a _ => ?_)
      · pointwise
        exact congrArg A0 (congrArg (ix2 0) (Fin.ext h1.symm))
      · rw [hv, yn_at, show 512 + (128 * 2 + x'1.val) = 768 + x'1.val from by omega]
        rfl
    · intro p r
      pointwise
      simp only [hD, Nat.reduceMul, Nat.reduceAdd, Nat.zero_add]
    · intro k q
      pointwise
      rw [hP]
      rfl
  · idx_vars x'
    obtain rfl : x'0 = 0 := Subsingleton.elim _ _
    have hv : n.val = 128 * 1 + x'1.val := by omega
    refine (p_gs1 T _ _ (fun a => dm (e a) w) (fun a q => d a (128 * 1 + q.val)) hV ?_ _ _ (p 1) ?_ x'1).trans ?_
    rotate_right
    · refine congrArg₂ (· + ·) ?_ (Finset.sum_congr rfl fun a _ => ?_)
      · pointwise [k1_pay31]
        exact congrArg A0 (congrArg (ix2 0) (Fin.ext h1.symm))
      · rw [hv, yn_at, show 512 + (128 * 1 + x'1.val) = 640 + x'1.val from by omega]
        rfl
    · intro p r
      pointwise
      simp only [hD, Nat.reduceMul, Nat.reduceAdd, Nat.zero_add]
    · intro k q
      pointwise
      rw [hP]
      rfl
  · idx_vars x'
    obtain rfl : x'0 = 0 := Subsingleton.elim _ _
    have hv : n.val = 128 * 0 + x'1.val := by omega
    refine (p_gs0 T _ _ (fun a => dm (e a) w) (fun a q => d a (128 * 0 + q.val)) hV ?_ _ _ _ (p 0) ?_ x'1).trans ?_
    rotate_right
    · refine congrArg₂ (· + ·) ?_ (Finset.sum_congr rfl fun a _ => ?_)
      · pointwise
        exact congrArg A0 (congrArg (ix2 0) (Fin.ext h1.symm))
      · rw [hv, yn_at, show 512 + (128 * 0 + x'1.val) = 512 + x'1.val from by omega]
        rfl
    · intro p r
      pointwise
      simp only [hD, Nat.reduceMul, Nat.reduceAdd, Nat.zero_add]
    · intro k q
      pointwise
      rw [hP]
      rfl

end
end Cert.OutProjIdeal.Value
-- ==== Proof.OutArr.lean ====
/-
  What the mixer's backward call leaves over the extended reals, for any arguments: the gradient in every token's attention row, and
  the groups' weight gradients and the scale's, summed over all tokens.
-/
module

public import proofs.«01_k».proof.Proof.OutBwd

@[expose] public section

set_option maxRecDepth 16384
noncomputable section
open Idealize.ShloMosaic Idealize.ShloMosaic.TcCoe Idealize.SL.Sem
open Idealize.ShloMosaic.Pipeline (Dat)
namespace Cert.OutProjIdeal.Value
open Cert.OutProjIdeal Cert.OutProjIdeal.Gen Cert.Out

variable (V : (c : Dev nD) → (b : Ref sig .tc) → Buf (Elt Ideal) ((c : Thread nD τ).loc b))

/-- Row `y` of the block of 512 rows number `t`. -/
def row (t : Fin 16) (y : Fin 512) : Fin 8192 := ⟨t.val * 512 + y.val, by omega⟩

/-- Where the backward call's blocks lie. -/
theorem idx1 : ∀ t : Fin cfg1.N, win1_0.index t = ![t.val, 0] ∧ win1_2.index t = ![0, 0, 0] ∧ win1_5.index t = ![t.val, 0] ∧ win1_6.index t = ![0, 0, 0] ∧ win1_7.index t = ![0, 0] ∧ win1_8.index t = ![t.val, 0] ∧ win1_11.index t = ![0, 0, 0] ∧ win1_12.index t = ![0, 0] :=
  (by decide +kernel : ∀ t : Fin grid1.N, _)

/-- A grid point of the backward call as a number below 16. -/
def pt1 (t : Fin cfg1.N) : Fin 16 := ⟨t.val, lt_of_lt_of_eq t.isLt N_1⟩

section
variable (c : Dev nD) (E : FVec Ideal S8192x1024 .f32) (W : FVec Ideal S1x1024x1024 .bf16) (D : FVec Ideal S8192x512 .bf16)
    (P : FVec Ideal S4x128x128 .bf16) (S : FVec Ideal S1x512 .f32)
    (e : Fin 8192 → Fin 1024 → EReal) (w : ℕ → Fin 1024 → EReal) (d : Fin 8192 → ℕ → EReal) (p : ℕ → Fin 128 → Fin 128 → EReal) (s : ℕ → EReal)
    (eE : V c main_arg6 = E) (eW : V c main_v1 = W) (eD : V c main_arg2 = D) (eP : V c main_v12 = P) (eS : V c main_arg4 = S)
    (hE : ∀ y k, E (ix2 y k) = e y k) (hW : ∀ n k, W (ix3 0 n k) = w n.val k) (hD : ∀ y n, D (ix2 y n) = d y n.val)
    (hP : ∀ j k q, P (ix3 j k q) = p j.val k q) (hS : ∀ n, S (ix2 0 n) = s n.val)

include eE hE in
theorem hE1 (t : Fin cfg1.N) (y : Fin 512) (k : Fin 1024) : iblk1 V c 0 t (ix2 y k) = e (row (pt1 t) y) k := by
  rw [← hE]; subst eE
  obtain ⟨e0, e2, e5, e6, e7, e8, e11, e12⟩ := idx1 t
  blk_ext [iblk1, e0, row, pt1]

include eD hD in
theorem hD1 (t : Fin cfg1.N) (y : Fin 512) (k : Fin 512) : iblk1 V c 5 t (ix2 y k) = d (row (pt1 t) y) k.val := by
  rw [← hD]; subst eD
  obtain ⟨e0, e2, e5, e6, e7, e8, e11, e12⟩ := idx1 t
  blk_ext [iblk1, e5, row, pt1]

include eW in
theorem blk1_2 (t : Fin cfg1.N) : iblk1 V c 2 t = W := by
  subst eW
  obtain ⟨e0, e2, e5, e6, e7, e8, e11, e12⟩ := idx1 t
  funext y
  blk_ext [iblk1, e2]

include eP in
theorem blk1_6 (t : Fin cfg1.N) : iblk1 V c 6 t = P := by
  subst eP
  obtain ⟨e0, e2, e5, e6, e7, e8, e11, e12⟩ := idx1 t
  funext y
  blk_ext [iblk1, e6]

include eS in
theorem blk1_7 (t : Fin cfg1.N) : iblk1 V c 7 t = S := by
  subst eS
  obtain ⟨e0, e2, e5, e6, e7, e8, e11, e12⟩ := idx1 t
  funext y
  blk_ext [iblk1, e7]

include eE eW hE hW in
/-- The gradient in every token's attention row. -/
theorem arr1_8 : (dat1 V c).arrAt 8 cfg1.N = fun i : S8192x512.Idx => dm (e (i 0)) w (i 1).val := by
  refine (dat1 V c).arrAt_eq_of_covers 8 _ (by decide +kernel) fun t hf y => ?_
  obtain ⟨e0, e2, e5, e6, e7, e8, e11, e12⟩ := idx1 t
  blk_simp
  rw [after1_8]
  idx_vars y
  have hval : (outsAt1 V c t.val t.isLt).1 (ix2 y0 y1) = dm (e (row (pt1 t) y0)) w y1.val := by
    by_cases h0 : t.val % 16 = 0
    · exact out1_8A V c t _ W (fun y => e (row (pt1 t) y)) w rfl (blk1_2 V c W eW t) (hE1 V c E e eE hE t) hW h0 y0 y1
    · exact out1_8B V c t _ W (fun y => e (row (pt1 t) y)) w rfl (blk1_2 V c W eW t) (hE1 V c E e eE hE t) hW h0 y0 y1
  rw [hval]
  have hr : row (pt1 t) y0 = (win1_8.blk t).view.emb (ix2 y0 y1) 0 := by
    apply Fin.ext; blk_simp [e8, row, pt1]
  rw [hr]
  blk_simp [e8]

include eE eW eD eS hE hW hD hS in
/-- The groups' weight gradients, summed over all tokens. -/
theorem arr1_11 : (dat1 V c).arrAt 11 cfg1.N = fun i : S4x128x128.Idx =>
    ∑ r : Fin 8192, d r (128 * (i 0).val + (i 1).val) * (dm (e r) w (512 + (128 * (i 0).val + (i 2).val)) * s (128 * (i 0).val + (i 2).val)) := by
  refine (dat1 V c).arrAt_eq_of_covers 11 _ (by decide +kernel) fun t hf y => ?_
  obtain ⟨e0, e2, e5, e6, e7, e8, e11, e12⟩ := idx1 t
  blk_simp
  rw [after1_11]
  idx_vars y
  have h := Pipeline.eq_sum_fin_of_reset_step_apply_of_flush (N := cfg1.N)
    (fun n h (i : Fin 4 × Fin 128 × Fin 128) => (outsAt1 V c n h).2.2.2.1 (ix3 i.1 i.2.1 i.2.2)) 16 (fun _ => 0)
    (fun t i => ∑ a, d (row (pt1 t) a) (128 * i.1.val + i.2.1.val) * (dm (e (row (pt1 t) a)) w (512 + (128 * i.1.val + i.2.2.val)) * s (128 * i.1.val + i.2.2.val)))
    (fun t h0 i => out1_11A V c t _ W _ S (fun y => e (row (pt1 t) y)) w (fun y => d (row (pt1 t) y)) s rfl (blk1_2 V c W eW t) rfl (blk1_7 V c S eS t)
      (hE1 V c E e eE hE t) hW (hD1 V c D d eD hD t) hS h0 i.1 i.2.1 i.2.2)
    (fun t h0 i => out1_11B V c t _ W _ S (fun y => e (row (pt1 t) y)) w (fun y => d (row (pt1 t) y)) s rfl (blk1_2 V c W eW t) rfl (blk1_7 V c S eS t)
      (hE1 V c E e eE hE t) hW (hD1 V c D d eD hD t) hS h0 i.1 i.2.1 i.2.2)
    t ((flush1_11 t).mp hf) (y0, y1, y2)
  refine h.trans ?_
  rw [zero_add]
  blk_simp [e11]
  refine Fin.sum_mul_add_congr (f := fun r : Fin 8192 => d r (128 * y0.val + y1.val) * (dm (e r) w (512 + (128 * y0.val + y2.val)) * s (128 * y0.val + y2.val))) (fun m k hl => ?_)
  have hN : t.val < 16 := lt_of_lt_of_eq t.isLt N_1
  have hs : ∀ (x : Fin cfg1.N), x.val = m.val → row (pt1 x) k = ⟨m.val * 512 + k.val, hl⟩ := fun x hx => Fin.ext (by simp only [row, pt1, hx])
  try dsimp only
  rw [hs _ (by dsimp only; omega)]

include eE eW eD eP hE hW hD hP in
/-- The scale's gradient, summed over all tokens. -/
theorem arr1_12 : (dat1 V c).arrAt 12 cfg1.N = fun i : S1x512.Idx =>
    ∑ r : Fin 8192, dm (e r) w (512 + (i 1).val) * yn (d r) p (i 1).val := by
  refine (dat1 V c).arrAt_eq_of_covers 12 _ (by decide +kernel) fun t hf y => ?_
  obtain ⟨e0, e2, e5, e6, e7, e8, e11, e12⟩ := idx1 t
  blk_simp
  rw [after1_12]
  idx_vars y
  have hy : y0 = 0 := Subsingleton.elim _ _
  subst hy
  have h := Pipeline.eq_sum_fin_of_reset_step_apply_of_flush (N := cfg1.N)
    (fun n h (i : Fin 512) => (outsAt1 V c n h).2.2.2.2 (ix2 0 i)) 16 (fun _ => 0)
    (fun t i => ∑ a, dm (e (row (pt1 t) a)) w (512 + i.val) * yn (d (row (pt1 t) a)) p i.val)
    (fun t h0 i => out1_12A V c t _ W _ P (fun y => e (row (pt1 t) y)) w (fun y => d (row (pt1 t) y)) p rfl (blk1_2 V c W eW t) rfl (blk1_6 V c P eP t)
      (hE1 V c E e eE hE t) hW (hD1 V c D d eD hD t) hP h0 i)
    (fun t h0 i => out1_12B V c t _ W _ P (fun y => e (row (pt1 t) y)) w (fun y => d (row (pt1 t) y)) p rfl (blk1_2 V c W eW t) rfl (blk1_6 V c P eP t)
      (hE1 V c E e eE hE t) hW (hD1 V c D d eD hD t) hP h0 i)
    t ((flush1_12 t).mp hf) y1
  refine h.trans ?_
  rw [zero_add]
  blk_simp [e12]
  refine Fin.sum_mul_add_congr (f := fun r : Fin 8192 => dm (e r) w (512 + y1.val) * yn (d r) p y1.val) (fun m k hl => ?_)
  have hN : t.val < 16 := lt_of_lt_of_eq t.isLt N_1
  have hs : ∀ (x : Fin cfg1.N), x.val = m.val → row (pt1 x) k = ⟨m.val * 512 + k.val, hl⟩ := fun x hx => Fin.ext (by simp only [row, pt1, hx])
  try dsimp only
  rw [hs _ (by dsimp only; omega)]
end

end Cert.OutProjIdeal.Value
-- ==== Proof.OutMm.lean ====
/-
  The output projection's weight gradient over the extended reals, for any arguments: a sum over all rows.
-/
module

public import proofs.«01_k».proof.Proof.Gen.OutProjIdeal.Frame
public import proofs.«01_k».proof.Proof.Out
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.OutProjIdeal.Value
open Cert.OutProjIdeal Cert.OutProjIdeal.Gen Cert.Out

variable (V : (c : Dev nD) → (b : Ref sig .tc) → Buf (Elt Ideal) ((c : Thread nD τ).loc b))

/-- Row `y` of the block of 1024 rows number `t`. -/
def row8 (t : Fin 8) (y : Fin 1024) : Fin 8192 := ⟨t.val * 1024 + y.val, by omega⟩

/-- Where the output projection's product's blocks lie. -/
theorem idx0 : ∀ t : Fin cfg0.N, win0_0.index t = ![t.val, 0] ∧ win0_1.index t = ![t.val, 0] ∧ win0_2.index t = ![0, 0, 0] :=
  (by decide +kernel : ∀ t : Fin grid0.N, _)

/-- A grid point of that product as a number below 8. -/
def pt0 (t : Fin cfg0.N) : Fin 8 := ⟨t.val, lt_of_lt_of_eq t.isLt N_0⟩

section
variable (c : Dev nD) (t : Fin cfg0.N) (A : FVec Ideal S1024x1024 .bf16) (B : FVec Ideal S1024x1024 .f32)
    (a : Fin 1024 → Fin 1024 → EReal) (b : Fin 1024 → Fin 1024 → EReal) (eA : iblk0 V c 0 t = A) (eB : iblk0 V c 1 t = B)
    (hA : ∀ r k, A (ix2 r k) = a r k) (hB : ∀ r n, B (ix2 r n) = b r n)

include eA eB hA hB in
/-- The first point starts the sums. -/
theorem out0_2A (h0 : t.val % 8 = 0) (p : Fin 1024) (q : Fin 1024) :
    (outsAt0 V c t.val t.isLt) (ix3 0 p q) = 0 + ∑ r, a r p * b r q := by
  rw [outsAt0_A V c t h0]; frame_out
  simp only [eA, eB]
  pointwise [k0_pay2, k0_pay1]
  simp only [hA, hB]
  try rfl

include eA eB hA hB in
/-- Every other point adds its rows. -/
theorem out0_2B (h0 : ¬ t.val % 8 = 0) (p : Fin 1024) (q : Fin 1024) :
    (outsAt0 V c t.val t.isLt) (ix3 0 p q) = (outsAt0 V c (t.val - 1) (by omega)) (ix3 0 p q) + ∑ r, a r p * b r q := by
  rw [outsAt0_B V c t h0]; frame_out
  simp only [eA, eB]
  pointwise [k0_pay2]
  simp only [hA, hB]
  try rfl
end

section
variable (c : Dev nD) (A : FVec Ideal S8192x1024 .bf16) (B : FVec Ideal S8192x1024 .f32)
    (a : Fin 8192 → Fin 1024 → EReal) (b : Fin 8192 → Fin 1024 → EReal) (eA : V c main_v10 = A) (eB : V c main_arg6 = B)
    (hA : ∀ r k, A (ix2 r k) = a r k) (hB : ∀ r n, B (ix2 r n) = b r n)

include eA hA in
theorem blk0_0 (t : Fin cfg0.N) (r p : Fin 1024) : iblk0 V c 0 t (ix2 r p) = a (row8 (pt0 t) r) p := by
  rw [← hA]; subst eA
  obtain ⟨e0, e1, e2⟩ := idx0 t
  blk_ext [iblk0, e0, row8, pt0]

include eB hB in
theorem blk0_1 (t : Fin cfg0.N) (r : Fin 1024) (n : Fin 1024) : iblk0 V c 1 t (ix2 r n) = b (row8 (pt0 t) r) n := by
  rw [← hB]; subst eB
  obtain ⟨e0, e1, e2⟩ := idx0 t
  blk_ext [iblk0, e1, row8, pt0]

include eA eB hA hB in
/-- The output projection's weight gradient, over all tokens. -/
theorem arr0_2 : (dat0 V c).arrAt 2 cfg0.N = fun i : S1x1024x1024.Idx => ∑ r : Fin 8192, a r (i 1) * b r (i 2) := by
  refine (dat0 V c).arrAt_eq_of_covers 2 _ (by decide +kernel) fun t hf y => ?_
  have hN : t.val < 8 := lt_of_lt_of_eq t.isLt N_0
  obtain ⟨e0, e1, e2⟩ := idx0 t
  blk_simp
  rw [after0_2]
  idx_vars y
  have hy : y0 = 0 := Subsingleton.elim _ _
  subst hy
  have hk : y1 = (win0_2.blk t).view.emb (ix3 0 y1 y2) 1 := by
    apply Fin.ext; blk_simp [e2]
  have hk2 : y2 = (win0_2.blk t).view.emb (ix3 0 y1 y2) 2 := by
    apply Fin.ext; blk_simp [e2]
  rw [← hk, ← hk2]
  have h := Pipeline.eq_sum_fin_of_reset_step_apply_of_flush (N := cfg0.N)
    (fun n h (i : Fin 1024 × Fin 1024) => outsAt0 V c n h (ix3 0 i.1 i.2)) 8 (fun _ => 0)
    (fun t i => ∑ r, a (row8 (pt0 t) r) i.1 * b (row8 (pt0 t) r) i.2)
    (fun t h0 i => out0_2A V c t _ _ (fun r => a (row8 (pt0 t) r)) (fun r => b (row8 (pt0 t) r)) rfl rfl (blk0_0 V c A a eA hA t) (blk0_1 V c B b eB hB t) h0 i.1 i.2)
    (fun t h0 i => out0_2B V c t _ _ (fun r => a (row8 (pt0 t) r)) (fun r => b (row8 (pt0 t) r)) rfl rfl (blk0_0 V c A a eA hA t) (blk0_1 V c B b eB hB t) h0 i.1 i.2)
    t ((flush0_2 t).mp hf) (y1, y2)
  refine h.trans ?_
  rw [zero_add]
  refine Fin.sum_mul_add_congr (f := fun r : Fin 8192 => a r y1 * b r y2) (fun s k hl => ?_)
  have hs : ∀ (p : Fin cfg0.N), p.val = s.val → row8 (pt0 p) k = ⟨s.val * 1024 + k.val, hl⟩ := fun p hp => Fin.ext (by simp only [row8, pt0, hp])
  dsimp only
  rw [hs _ (by dsimp only; omega)]
end

end Cert.OutProjIdeal.Value
-- ==== Proof.OutRef.lean ====
/-
  The values of the output projection's reference over the extended reals, operation by operation.
-/
module

public import proofs.«01_k».proof.Proof.Gen.OutProjRefIdeal.Read
public import proofs.«01_k».proof.Proof.Out
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.OutProjRefIdeal.Value
open Cert.OutProjRefIdeal Cert.OutProjRefIdeal.Gen Cert.OutProjRefIdeal.Read Cert.Out

variable (A D : FVec Ideal S8192x512 .bf16) (P : FVec Ideal S4x128x128 .f32) (S : FVec Ideal S1x512 .f32)
    (W : FVec Ideal S1024x1024 .f32) (E : FVec Ideal S8192x1024 .f32)
    (d : Fin 8192 → ℕ → EReal) (p : ℕ → Fin 128 → Fin 128 → EReal) (s : ℕ → EReal) (w : ℕ → Fin 1024 → EReal) (e : Fin 8192 → Fin 1024 → EReal)
    (hD : ∀ r n, D (ix2 r n) = d r n.val) (hP : ∀ j k q, P (ix3 j k q) = p j.val k q) (hS : ∀ n, S (ix2 0 n) = s n.val)
    (hW : ∀ n k, W (ix2 n k) = w n.val k) (hE : ∀ r k, E (ix2 r k) = e r k)

/-- The output projection's weight gradient. -/
theorem v11_at (n k : Fin 1024) : val_main_v11 (F := Ideal) A D P S E (ix2 n k)
    = ∑ r : Fin 8192, val_main_v8 (F := Ideal) A D P S (ix2 r n) * E (ix2 r k) := by
  rw [val_main_v11_apply, val_main_v10_apply]
  refine Finset.sum_congr rfl fun r _ => (mul_comm _ _).trans (congrArg₂ (· * ·) (congrArg _ ?_) (congrArg E ?_))
  all_goals
    funext a
    fin_cases a <;> rfl

include hW hE in
theorem v12_at (r : Fin 8192) (n : Fin 1024) : val_main_v12 (F := Ideal) W E (ix2 r n) = dm (e r) w n.val := by
  pointwise [val_main_v12]
  simp only [hW, hE, dm]

include hW hE in
/-- The gradient in the attention's rows. -/
theorem v13_at (r : Fin 8192) (n : Fin 512) : val_main_v13 (F := Ideal) W E (ix2 r n) = dm (e r) w n.val := by
  pointwise [val_main_v13]
  rw [v12_at W E w e hW hE]

include hW hE in
theorem v14_at (r : Fin 8192) (n : Fin 512) : val_main_v14 (F := Ideal) W E (ix2 r n) = dm (e r) w (512 + n.val) := by
  pointwise [val_main_v14]
  rw [v12_at W E w e hW hE]

include hD in
theorem v2_at (r : Fin 8192) (j : Fin 4) (q : Fin 128) : val_main_v2 (F := Ideal) D (ix3 r j q) = d r (128 * j.val + q.val) := by
  pointwise [val_main_v2, val_main_v1]
  simp only [hD, Nat.mul_comm j.val 128]

include hD hP in
theorem v4_at (r : Fin 8192) (j : Fin 4) (q : Fin 128) : val_main_v4 (F := Ideal) D P (ix3 r j q) = yg (d r) p j.val q := by
  pointwise [val_main_v4, val_main_v3]
  simp only [v2_at D d hD, hP, yg, mul_comm (p _ _ _)]

include hD hP in
theorem v5_at (r : Fin 8192) (n : Fin 512) : val_main_v5 (F := Ideal) D P (ix2 r n) = yn (d r) p n.val := by
  pointwise [val_main_v5]
  rw [v4_at D P d p hD hP]
  rfl

include hD hP hW hE in
/-- The gradient in the scale. -/
theorem v17_at (n : Fin 512) : val_main_v17 (F := Ideal) D P W E (ix2 0 n) = ∑ r, dm (e r) w (512 + n.val) * yn (d r) p n.val := by
  pointwise [val_main_v17, val_main_v16, val_main_v15, val_main_cst]
  simp only [v5_at D P d p hD hP, v14_at W E w e hW hE, mul_comm (yn _ _ _)]

include hS hW hE in
theorem v20_at (r : Fin 8192) (j : Fin 4) (q : Fin 128) : val_main_v20 (F := Ideal) S W E (ix3 r j q)
    = dm (e r) w (512 + (128 * j.val + q.val)) * s (128 * j.val + q.val) := by
  pointwise [val_main_v20, val_main_v19, val_main_v18]
  simp only [v14_at W E w e hW hE, hS, Nat.mul_comm j.val 128]

include hD hS hW hE in
/-- The gradient in the groups' weights. -/
theorem v25_at (j : Fin 4) (k q : Fin 128) : val_main_v25 (F := Ideal) D S W E (ix3 j k q)
    = ∑ r, d r (128 * j.val + k.val) * (dm (e r) w (512 + (128 * j.val + q.val)) * s (128 * j.val + q.val)) := by
  pointwise [val_main_v25, val_main_v24, val_main_v21]
  simp only [v20_at S W E s w e hS hW hE, v2_at D d hD, mul_comm (d _ _)]

end Cert.OutProjRefIdeal.Value
-- ==== Proof.OutVal.lean ====
/-
  The contents of the output projection's buffers from call to call, over the extended reals and for any arguments, down to the four
  results.
-/
module

public import proofs.«01_k».proof.Proof.OutArr
public import proofs.«01_k».proof.Proof.OutMm
public import proofs.«01_k».proof.Proof.OutRef

@[expose] public section

set_option maxRecDepth 16384
noncomputable section
open Idealize.ShloMosaic Idealize.ShloMosaic.TcCoe Idealize.SL.Sem
namespace Cert.OutProjIdeal.Value
open Cert.OutProjIdeal Cert.OutProjIdeal.Gen Cert.Out

/-- The rows entering the output projection, as the host makes them: the attention's columns, then the pooled ones. -/
def mixed (A D : FVec Ideal S8192x512 .bf16) (P : FVec Ideal S4x128x128 .f32) (S : FVec Ideal S1x512 .f32) : FVec Ideal S8192x1024 .bf16 :=
  concatenate S8192x1024 1 [⟨S8192x512, A⟩, ⟨S8192x512, truncf .bf16 (mulf
    (shapeCast S8192x512 (transpose S8192x4x128 [2, 0, 1] (Host.dotGeneral dot_S4x128x128_S8192x4x128_S4x128x8192_1_2_2_0_0_1 none P
      (shapeCast S8192x4x128 (extf .f32 D bitsLt_bf16_f32 : FVec Ideal S8192x512 .f32) shapeCasts_S8192x512_S8192x4x128) : FVec Ideal S4x128x8192 .f32)
      transposes_S4x128x8192_S8192x4x128_2_0_1) shapeCasts_S8192x4x128_S8192x512)
    (broadcastInDim S8192x512 ![0, 1] bcast_S1x512_S8192x512_0_1 S)) bitsLt_bf16_f32⟩] concatenates_S8192x512_S8192x512_S8192x1024_d1

/-- They are the reference's rows. -/
theorem mixed_at (A D : FVec Ideal S8192x512 .bf16) (P : FVec Ideal S4x128x128 .f32) (S : FVec Ideal S1x512 .f32) (i : S8192x1024.Idx) :
    mixed A D P S i = Cert.OutProjRefIdeal.Read.val_main_v8 (F := Ideal) A D P S i := by
  unfold mixed Cert.OutProjRefIdeal.Read.val_main_v8
  rfl

variable (m : (ℓ : Loc nD τ sig) → Buf (Elt Ideal) ℓ) (ρ : Dev nD → PrngReg) (c : Dev nD)

variable (A D : FVec Ideal S8192x512 .bf16) (P : FVec Ideal S4x128x128 .f32) (S : FVec Ideal S1x512 .f32) (W : FVec Ideal S1024x1024 .f32)
    (E : FVec Ideal S8192x1024 .f32)
    (eA : m ((c : Thread nD τ).loc main_arg0) = A) (eD : m ((c : Thread nD τ).loc main_arg2) = D)
    (eP : m ((c : Thread nD τ).loc main_arg3) = P) (eS : m ((c : Thread nD τ).loc main_arg4) = S)
    (eW : m ((c : Thread nD τ).loc main_arg5) = W) (eE : m ((c : Thread nD τ).loc main_arg6) = E)
    (d : Fin 8192 → ℕ → EReal) (p : ℕ → Fin 128 → Fin 128 → EReal) (s : ℕ → EReal) (w : ℕ → Fin 1024 → EReal) (e : Fin 8192 → Fin 1024 → EReal)
    (hD : ∀ r n, D (ix2 r n) = d r n.val) (hP : ∀ j k q, P (ix3 j k q) = p j.val k q) (hS : ∀ n, S (ix2 0 n) = s n.val)
    (hW : ∀ n k, W (ix2 n k) = w n.val k) (hE : ∀ r k, E (ix2 r k) = e r k)

include eA eD eP eS in
/-- The rows the weight gradient's product reads. -/
theorem v10_val : V1 m ρ c main_v10 = mixed A D P S := by
  subst eA eD eP eS
  show StableHlo.after hostOps0 (W0 m ρ c) (Proc.devRef .tc main_v10) = _
  after_results_simp
  rfl

include eW hW in
/-- The projection's weights as the backward call reads them. -/
theorem v1_val : ∃ W' : FVec Ideal S1x1024x1024 .bf16, V3 m ρ c main_v1 = W' ∧ ∀ n k, W' (ix3 0 n k) = w n.val k := by
  have h : V1 m ρ c main_v1 = shapeCast S1x1024x1024 (truncf .bf16 W bitsLt_bf16_f32 : FVec Ideal S1024x1024 .bf16)
      shapeCasts_S1024x1024_S1x1024x1024 := by
    subst eW
    show StableHlo.after hostOps0 (W0 m ρ c) (Proc.devRef .tc main_v1) = _
    after_results_simp
    rfl
  refine ⟨_, ((W3_of m ρ c main_v1 (by decide)).trans (W2_of m ρ c main_v1 (by decide))).trans h, fun n k => ?_⟩
  pointwise
  rw [hW]

include eP hP in
/-- The groups' weights as the backward call reads them. -/
theorem v12_val : ∃ P' : FVec Ideal S4x128x128 .bf16, V3 m ρ c main_v12 = P' ∧ ∀ j k q, P' (ix3 j k q) = p j.val k q := by
  have h : V3 m ρ c main_v12 = (truncf .bf16 P bitsLt_bf16_f32 : FVec Ideal S4x128x128 .bf16) := by
    rw [← (W2_args m ρ c main_arg3 (by decide)).trans eP]
    show StableHlo.after hostOps1 (W2 m ρ c) (Proc.devRef .tc main_v12) = _
    after_results_simp
  refine ⟨_, h, fun j k q => ?_⟩
  exact hP j k q

include eW eE hW hE in
/-- The gradient in the attention's rows. -/
theorem dattn_at : W5 m ρ c (Proc.devRef .tc main_v13_0) = fun i : S8192x512.Idx => dm (e (i 0)) w (i 1).val := by
  obtain ⟨W', eW', hW'⟩ := v1_val m ρ c W eW w hW
  rw [W5_of m ρ c main_v13_0 (by decide)]
  exact (W4_arr m ρ c 8).trans (arr1_8 (V3 m ρ) c E W' e w ((W3_args m ρ c main_arg6 (by decide)).trans eE) eW' hE hW')

include eD eS eW eE hD hS hW hE in
/-- The gradient in the groups' weights. -/
theorem gpw_at : W5 m ρ c (Proc.devRef .tc main_v13_3) = fun i : S4x128x128.Idx =>
    ∑ r : Fin 8192, d r (128 * (i 0).val + (i 1).val) * (dm (e r) w (512 + (128 * (i 0).val + (i 2).val)) * s (128 * (i 0).val + (i 2).val)) := by
  obtain ⟨W', eW', hW'⟩ := v1_val m ρ c W eW w hW
  rw [W5_of m ρ c main_v13_3 (by decide)]
  exact (W4_arr m ρ c 11).trans (arr1_11 (V3 m ρ) c E W' D S e w d s ((W3_args m ρ c main_arg6 (by decide)).trans eE) eW'
    ((W3_args m ρ c main_arg2 (by decide)).trans eD) ((W3_args m ρ c main_arg4 (by decide)).trans eS) hE hW' hD hS)

include eD eP eW eE hD hP hW hE in
/-- The gradient in the scale. -/
theorem gps_at : W5 m ρ c (Proc.devRef .tc main_v13_4) = fun i : S1x512.Idx =>
    ∑ r : Fin 8192, dm (e r) w (512 + (i 1).val) * yn (d r) p (i 1).val := by
  obtain ⟨W', eW', hW'⟩ := v1_val m ρ c W eW w hW
  obtain ⟨P', eP', hP'⟩ := v12_val m ρ c P eP p hP
  rw [W5_of m ρ c main_v13_4 (by decide)]
  exact (W4_arr m ρ c 12).trans (arr1_12 (V3 m ρ) c E W' D P' e w d p ((W3_args m ρ c main_arg6 (by decide)).trans eE) eW'
    ((W3_args m ρ c main_arg2 (by decide)).trans eD) eP' hE hW' hD hP')

include eA eD eP eS eE in
/-- The gradient in the projection's weights. -/
theorem gwo_at : W5 m ρ c (Proc.devRef .tc main_v14) = fun i : S1024x1024.Idx =>
    ∑ r : Fin 8192, mixed A D P S (ix2 r (i 0)) * E (ix2 r (i 1)) := by
  have hv : W4 m ρ c (Proc.devRef .tc main_v11) = fun i : S1x1024x1024.Idx => ∑ r : Fin 8192, mixed A D P S (ix2 r (i 1)) * E (ix2 r (i 2)) := by
    rw [W4_of m ρ c main_v11 (by decide), W3_of m ρ c main_v11 (by decide)]
    exact (W2_arr m ρ c 2).trans (arr0_2 (V1 m ρ) c _ E (fun r k => mixed A D P S (ix2 r k)) (fun r k => E (ix2 r k))
      (v10_val m ρ c A D P S eA eD eP eS) ((W1_args m ρ c main_arg6 (by decide)).trans eE) (fun _ _ => rfl) (fun _ _ => rfl))
  have h : W5 m ρ c (Proc.devRef .tc main_v14) = shapeCast S1024x1024
      (fun i : S1x1024x1024.Idx => ∑ r : Fin 8192, mixed A D P S (ix2 r (i 1)) * E (ix2 r (i 2)) : FVec Ideal S1x1024x1024 .f32)
      shapeCasts_S1x1024x1024_S1024x1024 := by
    rw [← hv]
    show StableHlo.after hostOps2 (W4 m ρ c) (Proc.devRef .tc main_v14) = _
    after_results_simp
    rfl
  rw [h]
  funext i
  idx_vars i
  pointwise

end Cert.OutProjIdeal.Value
-- ==== Proof.CrossRun.lean ====
/-
  The cross-attention's run, for any float values: it ends with the results at the contents of the last boundary, the
  arguments unchanged and every counter at zero.
-/
module

public import proofs.«01_k».proof.Proof.Gen.CrossIdeal.Frame

@[expose] public section

set_option maxRecDepth 16384
noncomputable section
namespace Cert.CrossIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CrossIdeal Cert.CrossIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the eight calls and the host code between them, from any memory with zero counters: it ends, nothing
faulting, with each result at the last boundary's contents, the arguments as launched and every counter at zero. -/
theorem run_main : θ_run defs (onTc (τ := τ) (main (F := F))) ⟨m, fun _ => 0, ρ⟩ (fun r => (∀ c : Dev nD,
      (r.2.mem ((c.tc : Thread nD τ).loc main_v8_3) = W10 m ρ c (Proc.devRef .tc main_v8_3)
      ∧ r.2.mem ((c.tc : Thread nD τ).loc main_v10_4) = W10 m ρ c (Proc.devRef .tc main_v10_4)
      ∧ r.2.mem ((c.tc : Thread nD τ).loc main_v10_5) = W10 m ρ c (Proc.devRef .tc main_v10_5)
      ∧ r.2.mem ((c.tc : Thread nD τ).loc main_v13_1) = W10 m ρ c (Proc.devRef .tc main_v13_1)
      ∧ r.2.mem ((c.tc : Thread nD τ).loc main_v15) = W10 m ρ c (Proc.devRef .tc main_v15)
      ∧ r.2.mem ((c.tc : Thread nD τ).loc main_v16) = W10 m ρ c (Proc.devRef .tc main_v16)
      ∧ r.2.mem ((c.tc : Thread nD τ).loc main_v10_3) = W10 m ρ c (Proc.devRef .tc main_v10_3)
      ∧ r.2.mem ((c.tc : Thread nD τ).loc main_v11_1) = W10 m ρ c (Proc.devRef .tc main_v11_1)
      ∧ r.2.mem ((c.tc : Thread nD τ).loc main_v18) = W10 m ρ c (Proc.devRef .tc main_v18))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,  fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨⟨h c _ (mem_uc main_v8_3 (by decide)), h c _ (mem_uc main_v10_4 (by decide)), h c _ (mem_uc main_v10_5 (by decide)), h c _ (mem_uc main_v13_1 (by decide)), h c _ (mem_uc main_v15 (by decide)), h c _ (mem_uc main_v16 (by decide)), h c _ (mem_uc main_v10_3 (by decide)), h c _ (mem_uc main_v11_1 (by decide)), h c _ (mem_uc main_v18 (by decide))⟩,
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩), funext fun g => hz g (.inr (no_unscoped g.2))⟩)

/-- The same run, read at the arguments and the counters alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run_main m ρ)

end Cert.CrossIdeal.Value
-- ==== Proof.CrossRef.lean ====
/-
  The values of the cross-attention's reference over the extended reals, operation by operation: what goes in, and the forward pass.
-/
module

public import proofs.«01_k».proof.Proof.Gen.CrossRefIdeal.Read
public import proofs.«01_k».proof.Proof.Cross
public import proofs.«01_k».proof.Proof.Red
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.Cross
open Cert.Norm

/-- What goes into the cross-attention: tokens, memory, the gains of both, the projections, the gains of queries and keys, the
    output projection, and the gradient in the result. -/
structure Inp where
  x : Fin 8192 → Fin 1024 → EReal
  mem : Fin 256 → Fin 1024 → EReal
  gx : Fin 1024 → EReal
  gm : Fin 1024 → EReal
  wq : Fin 1024 → ℕ → EReal
  wkv : Fin 1024 → ℕ → EReal
  g : Fin 128 → EReal
  l : Fin 128 → EReal
  wo : ℕ → ℕ → EReal
  e : Fin 8192 → ℕ → EReal

namespace Inp
variable (I : Inp)

/-- A token's query row. -/
def q (r : Fin 8192) : ℕ → EReal := lin (xn c1024 (I.x r) I.gx) I.wq
/-- A memory row's keys and values. -/
def kv (m : Fin 256) : ℕ → EReal := lin (xn c1024 (I.mem m) I.gm) I.wkv
/-- A token's attended row. -/
def xo (r : Fin 8192) : ℕ → EReal := Cross.xo I.g I.l I.kv (I.q r)
/-- The gradient in a token's attended row. -/
def o (r : Fin 8192) : ℕ → EReal := linT (I.e r) I.wo
/-- The gradient in a token's query row. -/
def dq (r : Fin 8192) : ℕ → EReal := dqr I.g I.l I.kv (I.q r) (I.o r)
/-- The gradient in a memory row's normalised keys. -/
def dk (m : Fin 256) (n : ℕ) : EReal := ∑ r, dkr I.g I.l I.kv (I.q r) (I.o r) m n
/-- The gradient in a memory row's values. -/
def dv (m : Fin 256) (n : ℕ) : EReal := ∑ r, dvr I.g I.l I.kv (I.q r) (I.o r) m n
/-- The gradient in a memory row's keys and values. -/
def dkv (m : Fin 256) : ℕ → EReal := Cross.dkv I.l (I.kv m) (I.dk m) (I.dv m)
end Inp

end Cert.Cross

namespace Cert.CrossRefIdeal.Value
open Cert.CrossRefIdeal Cert.CrossRefIdeal.Gen Cert.CrossRefIdeal.Read Cert.Cross Cert.Norm

/-- The arrays that hold what goes in, the gains of queries and keys being finite. -/
structure Of (I : Inp) (X : FVec Ideal S8192x1024 .f32) (M : FVec Ideal S256x1024 .f32) (GX GM : FVec Ideal S1x1024 .f32)
    (WQ : FVec Ideal S1024x512 .f32) (WK : FVec Ideal S1024x1024 .f32) (G L : FVec Ideal S1x128 .f32)
    (WO : FVec Ideal S512x1024 .f32) (E : FVec Ideal S8192x1024 .f32) : Prop where
  hX : ∀ r k, X (ix2 r k) = I.x r k
  hM : ∀ m k, M (ix2 m k) = I.mem m k
  hGX : ∀ k, GX (ix2 0 k) = I.gx k
  hGM : ∀ k, GM (ix2 0 k) = I.gm k
  hWQ : ∀ k n, WQ (ix2 k n) = I.wq k n.val
  hWK : ∀ k n, WK (ix2 k n) = I.wkv k n.val
  hG : ∀ d, G (ix2 0 d) = I.g d
  hL : ∀ d, L (ix2 0 d) = I.l d
  hWO : ∀ n k, WO (ix2 n k) = I.wo n.val k.val
  hE : ∀ r k, E (ix2 r k) = I.e r k.val
  hg : ∀ d, ∃ a : ℝ, I.g d = (a : EReal)
  hl : ∀ d, ∃ a : ℝ, I.l d = (a : EReal)

variable {I : Inp} {X : FVec Ideal S8192x1024 .f32} {M : FVec Ideal S256x1024 .f32} {GX GM : FVec Ideal S1x1024 .f32}
    {WQ : FVec Ideal S1024x512 .f32} {WK : FVec Ideal S1024x1024 .f32} {G L : FVec Ideal S1x128 .f32}
    {WO : FVec Ideal S512x1024 .f32} {E : FVec Ideal S8192x1024 .f32} (H : Of I X M GX GM WQ WK G L WO E)

include H

/-! The tokens' rows. -/

theorem v6_at (r : Fin 8192) : val_main_v6 (F := Ideal) X (ix2 r 0) = ms c1024 (I.x r) := by
  pointwise [val_main_v6, val_main_v5, val_main_v4, val_main_v3, val_main_v2, val_main_v1, val_main_v0, val_main_cst, val_main_cst_0, val_main_cst_1]
  simp only [H.hX, ms]

theorem v7_at (r : Fin 8192) : val_main_v7 (F := Ideal) X (ix2 r 0) = rr c1024 (I.x r) := by
  pointwise [val_main_v7]
  rw [v6_at H, rr]

theorem v10_at (r : Fin 8192) : val_main_v10 (F := Ideal) X (ix2 r 0)
    = Ideal.ofBits .f32 0xBF000000#32 * Ideal.div (rr c1024 (I.x r)) (ms c1024 (I.x r)) := by
  pointwise [val_main_v10, val_main_v9, val_main_v8, val_main_cst_2]
  rw [v6_at H, v7_at H]

theorem v12_at (r : Fin 8192) (k : Fin 1024) : val_main_v12 (F := Ideal) X (ix2 r k) = xh c1024 (I.x r) k := by
  pointwise [val_main_v12, val_main_v11]
  rw [v7_at H, H.hX, xh]

theorem v15_at (r : Fin 8192) (k : Fin 1024) : val_main_v15 (F := Ideal) X GX (ix3 0 r k) = xn c1024 (I.x r) I.gx k := by
  pointwise [val_main_v15, val_main_v14, val_main_v13]
  rw [v12_at H, H.hGX, xn]

/-! The memory's rows. -/

theorem v23_at (m : Fin 256) : val_main_v23 (F := Ideal) M (ix2 m 0) = rr c1024 (I.mem m) := by
  pointwise [val_main_v23, val_main_v22, val_main_v21, val_main_v20, val_main_v19, val_main_v18, val_main_v17, val_main_v16, val_main_cst_3, val_main_cst_4, val_main_cst_5]
  simp only [H.hM, rr, ms]

theorem v28_at (m : Fin 256) (k : Fin 1024) : val_main_v28 (F := Ideal) M (ix2 m k) = xh c1024 (I.mem m) k := by
  pointwise [val_main_v28, val_main_v27]
  rw [v23_at H, H.hM, xh]

theorem v31_at (m : Fin 256) (k : Fin 1024) : val_main_v31 (F := Ideal) M GM (ix3 0 m k) = xn c1024 (I.mem m) I.gm k := by
  pointwise [val_main_v31, val_main_v30, val_main_v29]
  rw [v28_at H, H.hGM, xn]

theorem v32_at (r : Fin 8192) (n : Fin 512) : val_main_v32 (F := Ideal) X GX WQ (ix3 0 r n) = I.q r n.val := by
  pointwise [val_main_v32]
  simp only [v15_at H, H.hWQ, Inp.q, lin]

theorem v33_at (r : Fin 8192) (h : Fin 4) (d : Fin 128) : val_main_v33 (F := Ideal) X GX WQ (ix4 0 r h d) = hd (I.q r) (128 * h.val) d := by
  pointwise [val_main_v33]
  rw [v32_at H]
  pointwise [hd]
  exact congrArg _ (by omega)

theorem v34_at (m : Fin 256) (n : Fin 1024) : val_main_v34 (F := Ideal) M GM WK (ix3 0 m n) = I.kv m n.val := by
  pointwise [val_main_v34]
  simp only [v31_at H, H.hWK, Inp.kv, lin]

theorem v37_at (m : Fin 256) (h : Fin 4) (d : Fin 128) : val_main_v37 (F := Ideal) M GM WK (ix4 0 m h d) = kk I.kv h.val m d := by
  pointwise [val_main_v37, val_main_v35]
  rw [v34_at H]
  pointwise [kk, hd]
  exact congrArg _ (by omega)

theorem v38_at (m : Fin 256) (h : Fin 4) (d : Fin 128) : val_main_v38 (F := Ideal) M GM WK (ix4 0 m h d) = vv I.kv h.val m d := by
  pointwise [val_main_v38, val_main_v36]
  rw [v34_at H]
  pointwise [vv, hd]
  exact congrArg _ (by omega)

/-! Queries and keys, head by head. -/

theorem v45_at (r : Fin 8192) (h : Fin 4) : val_main_v45 (F := Ideal) X GX WQ (ix4 0 r h 0) = ms c128 (hd (I.q r) (128 * h.val)) := by
  pointwise [val_main_v45, val_main_v44, val_main_v43, val_main_v42, val_main_v41, val_main_v40, val_main_v39, val_main_cst_7, val_main_cst_8, val_main_cst_9]
  simp only [v33_at H, ms]

theorem v46_at (r : Fin 8192) (h : Fin 4) : val_main_v46 (F := Ideal) X GX WQ (ix4 0 r h 0) = rr c128 (hd (I.q r) (128 * h.val)) := by
  pointwise [val_main_v46]
  rw [v45_at H, rr]

theorem v49_at (r : Fin 8192) (h : Fin 4) : val_main_v49 (F := Ideal) X GX WQ (ix4 0 r h 0)
    = Ideal.ofBits .f32 0xBF000000#32 * Ideal.div (rr c128 (hd (I.q r) (128 * h.val))) (ms c128 (hd (I.q r) (128 * h.val))) := by
  pointwise [val_main_v49, val_main_v48, val_main_v47, val_main_cst_10]
  rw [v45_at H, v46_at H]

theorem v51_at (r : Fin 8192) (h : Fin 4) (d : Fin 128) : val_main_v51 (F := Ideal) X GX WQ (ix4 0 r h d) = xh c128 (hd (I.q r) (128 * h.val)) d := by
  pointwise [val_main_v51, val_main_v50]
  rw [v46_at H, v33_at H, xh]

theorem v56_at (r : Fin 8192) (h : Fin 4) (d : Fin 128) : val_main_v56 (F := Ideal) X GX WQ G (ix4 0 r h d) = qn (hd (I.q r) (128 * h.val)) I.g d := by
  pointwise [val_main_v56, val_main_v55, val_main_v54, val_main_v53, val_main_v52, val_main_cst_11]
  rw [v51_at H, H.hG, qn, xn]

theorem v63_at (m : Fin 256) (h : Fin 4) : val_main_v63 (F := Ideal) M GM WK (ix4 0 m h 0) = ms c128 (kk I.kv h.val m) := by
  pointwise [val_main_v63, val_main_v62, val_main_v61, val_main_v60, val_main_v59, val_main_v58, val_main_v57, val_main_cst_12, val_main_cst_13, val_main_cst_14]
  simp only [v37_at H, ms]

theorem v64_at (m : Fin 256) (h : Fin 4) : val_main_v64 (F := Ideal) M GM WK (ix4 0 m h 0) = rr c128 (kk I.kv h.val m) := by
  pointwise [val_main_v64]
  rw [v63_at H, rr]

theorem v67_at (m : Fin 256) (h : Fin 4) : val_main_v67 (F := Ideal) M GM WK (ix4 0 m h 0)
    = Ideal.ofBits .f32 0xBF000000#32 * Ideal.div (rr c128 (kk I.kv h.val m)) (ms c128 (kk I.kv h.val m)) := by
  pointwise [val_main_v67, val_main_v66, val_main_v65, val_main_cst_15]
  rw [v63_at H, v64_at H]

theorem v69_at (m : Fin 256) (h : Fin 4) (d : Fin 128) : val_main_v69 (F := Ideal) M GM WK (ix4 0 m h d) = xh c128 (kk I.kv h.val m) d := by
  pointwise [val_main_v69, val_main_v68]
  rw [v64_at H, v37_at H, xh]

theorem v72_at (m : Fin 256) (h : Fin 4) (d : Fin 128) : val_main_v72 (F := Ideal) M GM WK L (ix4 0 m h d) = xn c128 (kk I.kv h.val m) I.l d := by
  pointwise [val_main_v72, val_main_v71, val_main_v70]
  rw [v69_at H, H.hL, xn]

/-! The softmax. -/

theorem v73_at (h : Fin 4) (r : Fin 8192) (m : Fin 256) : val_main_v73 (F := Ideal) X M GX GM WQ WK G L (ix4 0 h r m)
    = sc (hd (I.q r) (128 * h.val)) I.g I.l (kk I.kv h.val) m := by
  pointwise [val_main_v73]
  simp only [v56_at H, v72_at H, sc]

omit H in
/-- The greatest score starts from the word of minus infinity. -/
theorem c16_at (i : S_.Idx) : val_main_cst_16 (F := Ideal) i = Ideal.ofBits .f32 0xFF800000#32 := rfl

theorem v74_at (h : Fin 4) (r : Fin 8192) : val_main_v74 (F := Ideal) X M GX GM WQ WK G L (ix3 0 h r)
    = mx (hd (I.q r) (128 * h.val)) I.g I.l (kk I.kv h.val) := by
  unfold val_main_v74
  rw [Red.max_last, c16_at]
  simp only [v73_at H]
  rw [mx]

omit H in
theorem v80_at (i : S1x4x8192.Idx) : val_main_v80 (F := Ideal) i = Ideal.ofBits .f32 0xFF800000#32 := by
  rw [val_main_v80_apply]
  rfl

theorem v81_at (h : Fin 4) (r : Fin 8192) : val_main_v81 (F := Ideal) X M GX GM WQ WK G L (ix3 0 h r)
    = mx (hd (I.q r) (128 * h.val)) I.g I.l (kk I.kv h.val) := by
  rw [val_main_v81_apply, v80_at, v74_at H, bot_val]
  exact max_bot_left _

theorem v94_at (h : Fin 4) (r : Fin 8192) (m : Fin 256) : val_main_v94 (F := Ideal) X M GX GM WQ WK G L (ix4 0 h r m)
    = pr (hd (I.q r) (128 * h.val)) I.g I.l (kk I.kv h.val) m := by
  pointwise [val_main_v94, val_main_v93, val_main_v92, val_main_v91]
  rw [v73_at H, v81_at H, pr]

theorem v96_at (h : Fin 4) (r : Fin 8192) : val_main_v96 (F := Ideal) X M GX GM WQ WK G L (ix4 0 h r 0)
    = sm (hd (I.q r) (128 * h.val)) I.g I.l (kk I.kv h.val) := by
  pointwise [val_main_v96, val_main_v95, val_main_cst_24]
  simp only [v94_at H, sm]

theorem v98_at (h : Fin 4) (r : Fin 8192) (m : Fin 256) : val_main_v98 (F := Ideal) X M GX GM WQ WK G L (ix4 0 h r m)
    = yy (hd (I.q r) (128 * h.val)) I.g I.l (kk I.kv h.val) m := by
  pointwise [val_main_v98, val_main_v97]
  rw [v94_at H, v96_at H, yy]

theorem v101_at (h : Fin 4) (r : Fin 8192) : val_main_v101 (F := Ideal) X M GX GM WQ WK G L (ix4 0 h r 0)
    = Ideal.div 1 (sm (hd (I.q r) (128 * h.val)) I.g I.l (kk I.kv h.val) * sm (hd (I.q r) (128 * h.val)) I.g I.l (kk I.kv h.val)) := by
  pointwise [val_main_v101, val_main_v100, val_main_v99, val_main_cst_25]
  rw [v96_at H]

theorem v103_at (r : Fin 8192) (h : Fin 4) (d : Fin 128) : val_main_v103 (F := Ideal) X M GX GM WQ WK G L (ix4 0 r h d)
    = oo (hd (I.q r) (128 * h.val)) I.g I.l (kk I.kv h.val) (vv I.kv h.val) d := by
  rw [← oo_eq _ _ _ H.hg H.hl]
  pointwise [val_main_v103, val_main_v102]
  simp only [v38_at H, v98_at H, oo', mul_comm (vv _ _ _ _)]

theorem v104_at (r : Fin 8192) (n : Fin 512) : val_main_v104 (F := Ideal) X M GX GM WQ WK G L (ix3 0 r n) = I.xo r n.val := by
  pointwise [val_main_v104]
  rw [v103_at H]
  pointwise [Inp.xo, xo, cat]

/-- The forward result. -/
theorem v107_at (r : Fin 8192) (k : Fin 1024) : val_main_v107 (F := Ideal) X M GX GM WQ WK G L WO (ix2 r k) = res (I.x r) (I.xo r) I.wo k := by
  pointwise [val_main_v107, val_main_v106, val_main_v105]
  simp only [v104_at H, H.hX, H.hWO, res]

end Cert.CrossRefIdeal.Value

end
-- ==== Proof.CrossHead.lean ====
/-
  One head of the cross-attention's calls over the extended reals, for any arguments: what the forward and the backward call
  compute of a block of 512 query rows. The four heads are the same computation.
-/
module

public import proofs.«01_k».proof.Proof.Gen.CrossIdeal.Skeleton
public import proofs.«01_k».proof.Proof.Cross
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.CrossIdeal.Value
open Cert.CrossIdeal Cert.CrossIdeal.Gen Cert.Cross Cert.Norm

theorem g40 : ((0 : Fin 4) : ℕ) = 0 := rfl
theorem g41 : ((1 : Fin 4) : ℕ) = 1 := rfl
theorem g42 : ((2 : Fin 4) : ℕ) = 2 := rfl
theorem g43 : ((3 : Fin 4) : ℕ) = 3 := rfl

section
variable (G L : FVec Ideal S1x128 .f32) (Q : FVec Ideal S512x128 .f32) (K V : FVec Ideal S256x128 .f32) (O : FVec Ideal S512x128 .bf16)
    (D : FVec Ideal S512x512 .f32) (A : FVec Ideal S256x128 .f32) (B : FVec Ideal S1x128 .f32)
    (g l : Fin 128 → EReal) (q : Fin 512 → Fin 128 → EReal) (k v : Fin 256 → Fin 128 → EReal) (o : Fin 512 → Fin 128 → EReal)
    (hG : ∀ d, G (ix2 0 d) = g d) (hL : ∀ d, L (ix2 0 d) = l d) (hQ : ∀ a d, Q (ix2 a d) = q a d)
    (hK : ∀ m d, K (ix2 m d) = k m d) (hV : ∀ m d, V (ix2 m d) = v m d) (hO : ∀ a d, O (ix2 a d) = o a d)

include hG hQ in
/-- The normalised and scaled query rows. -/
theorem h_qn (a : Fin 512) (d : Fin 128) : k3_pay8 (F := Ideal) G Q (ix2 a d) = qn (q a) g d := by
  pointwise [k3_pay8]
  simp only [hG, hQ]
  rfl

include hL hK in
/-- The normalised key rows. -/
theorem h_kn (m : Fin 256) (d : Fin 128) : k3_pay9 (F := Ideal) L K (ix2 m d) = xn c128 (k m) l d := by
  pointwise [k3_pay9]
  simp only [hL, hK]
  rfl

include hG hL hQ hK in
/-- The exponentials of the scores less the greatest. -/
theorem h_pr (a : Fin 512) (m : Fin 256) : k3_pay12 (F := Ideal) G L Q K (ix2 a m) = pr (q a) g l k m := by
  pointwise [k3_pay12]
  simp only [h_qn G Q g q hG hQ, h_kn L K l k hL hK]
  rfl

include hG hL hQ hK in
/-- The softmax weights. -/
theorem h_yy (a : Fin 512) (m : Fin 256) : k3_pay13 (F := Ideal) (k3_pay12 G L Q K) (ix2 a m) = yy (q a) g l k m := by
  pointwise [k3_pay13]
  simp only [h_pr G L Q K g l q k hG hL hQ hK]
  rfl

include hG hL hQ hK hV in
/-- The output rows. -/
theorem h_oo (a : Fin 512) (d : Fin 128) : k1_pay9 (F := Ideal) G L Q K (k1_pay7 Q) k1_pay8 V (ix2 a d) = oo (q a) g l k v d := by
  have e : k1_pay9 (F := Ideal) G L Q K (k1_pay7 Q) k1_pay8 V = fun i => Ideal.div (∑ m, k3_pay12 (F := Ideal) G L Q K (ix2 (i 0) m) * V (ix2 m (i 1)))
      (∑ m, k3_pay12 (F := Ideal) G L Q K (ix2 (i 0) m)) := by
    funext i
    idx_vars i
    pointwise [k1_pay9, k1_pay7, k1_pay8, k3_pay12, k3_pay8, k3_pay9]
  rw [e]
  show Ideal.div (∑ m, k3_pay12 (F := Ideal) G L Q K (ix2 a m) * V (ix2 m d)) (∑ m, k3_pay12 (F := Ideal) G L Q K (ix2 a m)) = _
  simp only [h_pr G L Q K g l q k hG hL hQ hK, hV]
  rfl

include hG hL hQ hK hV hO in
/-- The gradients in the scores. -/
theorem h_ds (a : Fin 512) (m : Fin 256) : k3_pay14 (F := Ideal) (k3_pay10 V) O (k3_pay12 G L Q K) (ix2 a m) = ds (q a) g l k v (o a) m := by
  pointwise [k3_pay14, k3_pay10]
  simp only [h_yy G L Q K g l q k hG hL hQ hK, hV, hO]
  rfl

include hG hL hQ hK hO in
/-- The gradient in the values grows by the block's rows. -/
theorem h_dv (m : Fin 256) (d : Fin 128) : k3_pay15 (F := Ideal) O (k3_pay12 G L Q K) A (ix2 m d) = A (ix2 m d) + ∑ a, yy (q a) g l k m * o a d := by
  pointwise [k3_pay15]
  simp only [h_yy G L Q K g l q k hG hL hQ hK, hO]

include hG hL hQ hK hV hO in
/-- The gradient in the normalised keys grows by the block's rows. -/
theorem h_dk (m : Fin 256) (d : Fin 128) : k3_pay16 (F := Ideal) (k3_pay8 G Q) (k3_pay10 V) O (k3_pay12 G L Q K) A (ix2 m d)
    = A (ix2 m d) + ∑ a, ds (q a) g l k v (o a) m * qn (q a) g d := by
  pointwise [k3_pay16]
  simp only [h_ds G L Q K V O g l q k v o hG hL hQ hK hV hO, h_qn G Q g q hG hQ]

include hG hL hQ hK hV hO in
/-- The gradients in the normalised query rows. -/
theorem h_dn (a : Fin 512) (d : Fin 128) : k3_pay17 (F := Ideal) (k3_pay9 L K) (k3_pay10 V) O (k3_pay12 G L Q K) (ix2 a d)
    = dn (q a) g l k v (o a) d := by
  pointwise [k3_pay17]
  simp only [h_ds G L Q K V O g l q k v o hG hL hQ hK hV hO, h_kn L K l k hL hK]
  rfl

include hG hL hQ hK hV hO in
/-- The gradients in the query rows. -/
theorem h_dq (a : Fin 512) (d : Fin 128) : k3_pay21 (F := Ideal) (k3_pay17 (k3_pay9 L K) (k3_pay10 V) O (k3_pay12 G L Q K)) (k3_pay18 Q) (k3_pay19 Q)
    (k3_pay20 G) (ix2 a d) = ng c128 (q a) g (dn (q a) g l k v (o a)) d := by
  pointwise [k3_pay21, k3_pay18, k3_pay19, k3_pay20]
  simp only [h_dn G L Q K V O g l q k v o hG hL hQ hK hV hO, hG, hQ]
  rfl

include hG hL hQ hK hV hO in
/-- The gradient in the query's gain grows by the block's rows. -/
theorem h_gq (d : Fin 128) : k3_pay22 (F := Ideal) B (k3_pay17 (k3_pay9 L K) (k3_pay10 V) O (k3_pay12 G L Q K)) (k3_pay19 Q) (ix2 0 d)
    = B (ix2 0 d) + ∑ a, dn (q a) g l k v (o a) d * xh c128 (q a) d := by
  pointwise [k3_pay22, k3_pay18, k3_pay19]
  simp only [h_dn G L Q K V O g l q k v o hG hL hQ hK hV hO, hQ]
  rfl

/-! The other three heads, cut otherwise. -/

theorem f1_oo : k1_pay14 (F := Ideal) (k1_pay10 V) (k1_pay12 G L Q K) (k1_pay13 G L Q K) (constant S512x128 .f32 0x00000000#32)
    = k1_pay9 G L Q K (k1_pay7 Q) k1_pay8 V := rfl
theorem f2_oo : k1_pay17 (F := Ideal) V (k1_pay15 G Q) (k1_pay16 L K) = k1_pay9 G L Q K (k1_pay7 Q) k1_pay8 V := rfl
theorem f3_oo : k1_pay21 (F := Ideal) L K (k1_pay18 G Q) (k1_pay19 K) k1_pay20 V = k1_pay9 G L Q K (k1_pay7 Q) k1_pay8 V := rfl

theorem b1_dv : k3_pay30 (F := Ideal) D L K (k3_pay23 G Q) (k3_pay24 K) (FloatOps.ofBits .f32 0x43000000#32) A
    = k3_pay15 (k3_pay27 D) (k3_pay12 G L Q K) A := rfl
theorem b1_dk : k3_pay31 (F := Ideal) D L K (k3_pay23 G Q) (k3_pay24 K) (FloatOps.ofBits .f32 0x43000000#32) V A
    = k3_pay16 (k3_pay8 G Q) (k3_pay10 V) (k3_pay27 D) (k3_pay12 G L Q K) A := rfl
theorem b1_dq : k3_pay35 (F := Ideal) Q (k3_pay26 L K (k3_pay24 K) (FloatOps.ofBits .f32 0x43000000#32))
      (k3_pay29 D L K (k3_pay23 G Q) (k3_pay24 K) (FloatOps.ofBits .f32 0x43000000#32) V) G
    = k3_pay21 (k3_pay17 (k3_pay9 L K) (k3_pay10 V) (k3_pay27 D) (k3_pay12 G L Q K)) (k3_pay18 Q) (k3_pay19 Q) (k3_pay20 G) := rfl
theorem b1_gq : k3_pay36 (F := Ideal) B Q (k3_pay26 L K (k3_pay24 K) (FloatOps.ofBits .f32 0x43000000#32))
      (k3_pay29 D L K (k3_pay23 G Q) (k3_pay24 K) (FloatOps.ofBits .f32 0x43000000#32) V)
    = k3_pay22 B (k3_pay17 (k3_pay9 L K) (k3_pay10 V) (k3_pay27 D) (k3_pay12 G L Q K)) (k3_pay19 Q) := rfl

theorem b2_dv : k3_pay44 (F := Ideal) (k3_pay39 D) (k3_pay41 G L Q K) A = k3_pay15 (k3_pay39 D) (k3_pay12 G L Q K) A := rfl
theorem b2_dk : k3_pay45 (F := Ideal) (k3_pay37 G Q) (k3_pay40 G L Q K) (k3_pay42 D V) A
    = k3_pay16 (k3_pay8 G Q) (k3_pay10 V) (k3_pay39 D) (k3_pay12 G L Q K) A := rfl
theorem b2_dq : k3_pay51 (F := Ideal) (k3_pay47 Q) (k3_pay48 Q) (k3_pay49 (k3_pay38 L K) (k3_pay40 G L Q K) (k3_pay42 D V) G)
      (k3_pay50 Q (k3_pay38 L K) (k3_pay40 G L Q K) (k3_pay42 D V) G)
    = k3_pay21 (k3_pay17 (k3_pay9 L K) (k3_pay10 V) (k3_pay39 D) (k3_pay12 G L Q K)) (k3_pay18 Q) (k3_pay19 Q) (k3_pay20 G) := rfl
theorem b2_gq : k3_pay52 (F := Ideal) B (k3_pay46 (k3_pay38 L K) (k3_pay40 G L Q K) (k3_pay42 D V)) (k3_pay48 Q)
    = k3_pay22 B (k3_pay17 (k3_pay9 L K) (k3_pay10 V) (k3_pay39 D) (k3_pay12 G L Q K)) (k3_pay19 Q) := rfl

theorem b3_dv : k3_pay60 (F := Ideal) D L (k3_pay53 G Q) (k3_pay54 K) A = k3_pay15 (k3_pay57 D) (k3_pay12 G L Q K) A := rfl
theorem b3_dk : k3_pay61 (F := Ideal) D L (k3_pay53 G Q) (k3_pay54 K) V A
    = k3_pay16 (k3_pay8 G Q) (k3_pay10 V) (k3_pay57 D) (k3_pay12 G L Q K) A := rfl
theorem b3_dq : k3_pay67 (F := Ideal) Q (k3_pay62 D L (k3_pay53 G Q) (k3_pay54 K) V) k3_pay63 G
    = k3_pay21 (k3_pay17 (k3_pay9 L K) (k3_pay10 V) (k3_pay57 D) (k3_pay12 G L Q K)) (k3_pay18 Q) (k3_pay19 Q) (k3_pay20 G) := rfl
theorem b3_gq (C : FVec Ideal S1x128 .f32) : k3_pay68 (F := Ideal) B Q (k3_pay62 D L (k3_pay53 G Q) (k3_pay54 K) V) k3_pay63 C
    = addf C (k3_pay22 B (k3_pay17 (k3_pay9 L K) (k3_pay10 V) (k3_pay57 D) (k3_pay12 G L Q K)) (k3_pay19 Q)) := by
  have e : ∀ X : FVec Ideal S1x128 .f32, shapeCast S1x128 X shapeCasts_S1x128_S1x128 = X := fun X => by
    funext i
    idx_vars i
    pointwise
  unfold k3_pay68
  dsimp only
  rw [e]
  rfl
end

section
variable (D : FVec Ideal S512x512 .f32) (o : Fin 512 → ℕ → EReal) (hD : ∀ a n, D (ix2 a n) = o a n.val)

include hD in
theorem sl0 (a : Fin 512) (d : Fin 128) : k3_pay11 (F := Ideal) D (ix2 a d) = hd (o a) (128 * 0) d := by
  pointwise [k3_pay11]
  simp only [hD, hd, Nat.mul_zero, Nat.zero_add]
include hD in
theorem sl1 (a : Fin 512) (d : Fin 128) : k3_pay27 (F := Ideal) D (ix2 a d) = hd (o a) (128 * 1) d := by
  pointwise [k3_pay27]
  simp only [hD, hd, Nat.reduceMul]
include hD in
theorem sl2 (a : Fin 512) (d : Fin 128) : k3_pay39 (F := Ideal) D (ix2 a d) = hd (o a) (128 * 2) d := by
  pointwise [k3_pay39]
  simp only [hD, hd, Nat.reduceMul]
include hD in
theorem sl3 (a : Fin 512) (d : Fin 128) : k3_pay57 (F := Ideal) D (ix2 a d) = hd (o a) (128 * 3) d := by
  pointwise [k3_pay57]
  simp only [hD, hd, Nat.reduceMul]
end

end Cert.CrossIdeal.Value

end
-- ==== Proof.CrossFwd.lean ====
/-
  The cross-attention's forward call over the extended reals, for any arguments: the query rows, the normalised rows, the
  attended rows and the rows after them.
-/
module

public import proofs.«01_k».proof.Proof.Gen.CrossIdeal.Frame
public import proofs.«01_k».proof.Proof.CrossHead

@[expose] public section

set_option maxRecDepth 16384
noncomputable section
open Idealize.ShloMosaic Idealize.ShloMosaic.TcCoe Idealize.SL.Sem
open Idealize.ShloMosaic.Pipeline (Dat)
namespace Cert.CrossIdeal.Value
open Cert.CrossIdeal Cert.CrossIdeal.Gen Cert.Cross Cert.Norm

variable (V : (c : Dev nD) → (b : Ref sig .tc) → Buf (Elt Ideal) ((c : Thread nD τ).loc b))

/-- The normalised rows of one block. -/
theorem p_hn (X : FVec Ideal S512x1024 .f32) (G : FVec Ideal S1x1024 .f32) (x : Fin 512 → Fin 1024 → EReal) (g : Fin 1024 → EReal)
    (hX : ∀ y k, X (ix2 y k) = x y k) (hG : ∀ k, G (ix2 0 k) = g k) (y : Fin 512) (k : Fin 1024) :
    k1_pay4 (F := Ideal) X G (ix2 y k) = xn c1024 (x y) g k := by
  pointwise [k1_pay4]
  simp only [hX, hG]
  rfl

/-- The query rows of one block. -/
theorem p_q (X : FVec Ideal S512x1024 .f32) (G : FVec Ideal S1x1024 .f32) (W : FVec Ideal S1x1024x512 .bf16) (x : Fin 512 → Fin 1024 → EReal)
    (g : Fin 1024 → EReal) (w : Fin 1024 → ℕ → EReal) (hX : ∀ y k, X (ix2 y k) = x y k) (hG : ∀ k, G (ix2 0 k) = g k)
    (hW : ∀ k n, W (ix3 0 k n) = w k n.val) (y : Fin 512) (n : Fin 512) :
    k1_pay6 (F := Ideal) X G W (ix2 y n) = lin (xn c1024 (x y) g) w n.val := by
  pointwise [k1_pay6]
  simp only [p_hn X G x g hX hG, hW]
  rfl

/-- Reading back everything that was stored. -/
theorem readCov_whole {sig : RefSig} {κ : Kind} {sp : Space} {S : Shape} {e : EltTy} (v : View sig κ sp S e) (L : List (View.Piece (Elt Ideal) S e))
    {off : Fin S.rank → Nat} (inb : ∀ a, off a + S.size a ≤ S.size a) (h : ∀ a, off a = 0) :
    v.readCov L (Rect.unit off (no_index S.size) inb).toLoadRect = View.canon L := by
  rw [View.readCov_eq_canon']
  exact View.ld_unit_lit inb _ h

/-- Reading 128 columns of what was stored. -/
theorem rd_col {sig : RefSig} {κ : Kind} {sp : Space} {e : EltTy} (v : View sig κ sp S512x512 e) (L : List (View.Piece (Elt Ideal) S512x512 e))
    (o : ℕ) (ho : o + 128 ≤ 512) (inb : ∀ a, (![0, o] : Fin 2 → ℕ) a + (![512, 128] : Fin 2 → ℕ) a ≤ S512x512.size a) (p : Fin 512) (q : Fin 128) :
    v.readCov L (Rect.unit (s := S512x512) ![0, o] ![512, 128] inb).toLoadRect (ix2 p q) = View.canon L (ix2 p ⟨o + q.val, by omega⟩) := by
  rw [View.readCov_eq_canon']
  refine congrArg (View.canon L) (funext fun a => Fin.ext ?_)
  fin_cases a
  · show 0 + 1 * p.val = p.val; omega
  · show o + 1 * q.val = o + q.val; omega

/-- A buffer stored whole. -/
theorem canon_one {e : EltTy} (inb : ∀ a, (![0, 0] : Fin 2 → ℕ) a + (![512, 512] : Fin 2 → ℕ) a ≤ S512x512.size a)
    (w : S512x512.Idx → Elt Ideal e) :
    View.canon [(⟨Rect.unit (s := S512x512) ![0, 0] ![512, 512] inb, w⟩ : View.Piece (Elt Ideal) S512x512 e)] = w :=
  View.canon_cons_unit_lit inb w [] (by decide)

/-- A head of the attended row. -/
theorem xo_at (g l : Fin 128 → EReal) (kv : Fin 256 → ℕ → EReal) (q : ℕ → EReal) (h : ℕ) (d : Fin 128) :
    xo g l kv q (128 * h + d.val) = oo (hd q (128 * h)) g l (kk kv h) (vv kv h) d := cat_at _ h d

section
variable (c : Dev nD) (t : Fin cfg1.N) (X : FVec Ideal S512x1024 .f32) (GX : FVec Ideal S1x1024 .f32) (WQ : FVec Ideal S1x1024x512 .bf16)
    (KV : FVec Ideal S256x1024 .f32) (G L : FVec Ideal S1x128 .f32) (WO : FVec Ideal S4x512x256 .bf16)
    (x : Fin 512 → Fin 1024 → EReal) (gx : Fin 1024 → EReal) (wq : Fin 1024 → ℕ → EReal) (kv : Fin 256 → ℕ → EReal)
    (g l : Fin 128 → EReal) (wo : ℕ → ℕ → EReal)
    (eX : iblk1 V c 0 t = X) (eGX : iblk1 V c 1 t = GX) (eWQ : iblk1 V c 2 t = WQ) (eKV : iblk1 V c 3 t = KV)
    (eG : iblk1 V c 4 t = G) (eL : iblk1 V c 5 t = L) (eWO : iblk1 V c 6 t = WO)
    (hX : ∀ y k, X (ix2 y k) = x y k) (hGX : ∀ k, GX (ix2 0 k) = gx k) (hWQ : ∀ k n, WQ (ix3 0 k n) = wq k n.val)
    (hKV : ∀ m n, KV (ix2 m n) = kv m n.val) (hG : ∀ d, G (ix2 0 d) = g d) (hL : ∀ d, L (ix2 0 d) = l d)
    (hWO : ∀ j n d, WO (ix3 j n d) = wo n.val (256 * j.val + d.val))

include eX eGX eWQ hX hGX hWQ in
/-- The query rows. -/
theorem out1_7 (a : Fin 512) (n : Fin 512) : (outsAt1 V c t).1 (ix2 a n) = lin (xn c1024 (x a) gx) wq n.val := by
  unfold outsAt1; dsimp only []; frame_out
  simp only [eX, eGX, eWQ]
  exact p_q X GX WQ x gx wq hX hGX hWQ a n

include eX eGX hX hGX in
/-- The normalised rows. -/
theorem out1_8 (a : Fin 512) (k : Fin 1024) : (outsAt1 V c t).2.1 (ix2 a k) = xn c1024 (x a) gx k := by
  unfold outsAt1; dsimp only []; frame_out
  simp only [eX, eGX]
  unfold k1_pay5
  pointwise
  exact p_hn X GX x gx hX hGX a k

include eX eGX eWQ eKV eG eL hX hGX hWQ hKV hG hL in
/-- The attended rows, head by head. -/
theorem out1_9 (a : Fin 512) (n : Fin 512) : (outsAt1 V c t).2.2.1 (ix2 a n) = xo g l kv (lin (xn c1024 (x a) gx) wq) n.val := by
  unfold outsAt1; dsimp only []; frame_out
  simp only [eX, eGX, eWQ, eKV, eG, eL]
  canon_tiles x' h
  · idx_vars x'
    obtain rfl : a = x'0 := Fin.ext h0
    rw [f3_oo]
    rw [show n.val = 128 * 3 + x'1.val by omega, xo_at]
    refine h_oo _ _ _ _ _ g l (fun a => hd (lin (xn c1024 (x a) gx) wq) (128 * 3)) (kk kv 3) (vv kv 3) hG hL ?_ ?_ ?_ a x'1
    · intro p q
      rw [rd_col _ _ _ (by decide), canon_one]
      exact p_q X GX WQ x gx wq hX hGX hWQ p _
    all_goals
      intro p q
      pointwise
      simp only [hKV, kk, vv, hd, Nat.reduceMul, Nat.reduceAdd, Nat.zero_add]
  · idx_vars x'
    obtain rfl : a = x'0 := Fin.ext h0
    rw [f2_oo]
    rw [show n.val = 128 * 2 + x'1.val by omega, xo_at]
    refine h_oo _ _ _ _ _ g l (fun a => hd (lin (xn c1024 (x a) gx) wq) (128 * 2)) (kk kv 2) (vv kv 2) hG hL ?_ ?_ ?_ a x'1
    · intro p q
      rw [rd_col _ _ _ (by decide), canon_one]
      exact p_q X GX WQ x gx wq hX hGX hWQ p _
    all_goals
      intro p q
      pointwise
      simp only [hKV, kk, vv, hd, Nat.reduceMul, Nat.reduceAdd, Nat.zero_add]
  · idx_vars x'
    obtain rfl : a = x'0 := Fin.ext h0
    rw [f1_oo]
    rw [show n.val = 128 * 1 + x'1.val by omega, xo_at]
    refine h_oo _ _ _ _ _ g l (fun a => hd (lin (xn c1024 (x a) gx) wq) (128 * 1)) (kk kv 1) (vv kv 1) hG hL ?_ ?_ ?_ a x'1
    · intro p q
      rw [rd_col _ _ _ (by decide), canon_one]
      exact p_q X GX WQ x gx wq hX hGX hWQ p _
    all_goals
      intro p q
      pointwise
      simp only [hKV, kk, vv, hd, Nat.reduceMul, Nat.reduceAdd, Nat.zero_add]
  · idx_vars x'
    obtain rfl : a = x'0 := Fin.ext h0
    rw [show n.val = 128 * 0 + x'1.val by omega, xo_at]
    refine h_oo _ _ _ _ _ g l (fun a => hd (lin (xn c1024 (x a) gx) wq) (128 * 0)) (kk kv 0) (vv kv 0) hG hL ?_ ?_ ?_ a x'1
    · intro p q
      rw [rd_col _ _ _ (by decide), canon_one]
      exact p_q X GX WQ x gx wq hX hGX hWQ p _
    all_goals
      intro p q
      pointwise
      simp only [hKV, kk, vv, hd, Nat.reduceMul, Nat.reduceAdd, Nat.zero_add]

include eX eGX eWQ eKV eG eL eWO hX hGX hWQ hKV hG hL hWO in
/-- The rows after the cross-attention, in four pieces. -/
theorem out1_10 (a : Fin 512) (k : Fin 1024) : (outsAt1 V c t).2.2.2 (ix2 a k)
    = res (x a) (xo g l kv (lin (xn c1024 (x a) gx) wq)) wo k := by
  have h9 : ∀ (a : Fin 512) (n : Fin 512), (outsAt1 V c t).2.2.1 (ix2 a n) = xo g l kv (lin (xn c1024 (x a) gx) wq) n.val :=
    out1_9 V c t X GX WQ KV G L x gx wq kv g l eX eGX eWQ eKV eG eL hX hGX hWQ hKV hG hL
  unfold outsAt1 at h9 ⊢; dsimp only [] at h9 ⊢; frame_out at h9 ⊢
  simp only [eX, eGX, eWQ, eKV, eG, eL, eWO] at h9 ⊢
  rw [readCov_whole _ _ _ (by decide)]
  canon_tiles x' h
  all_goals
    idx_vars x'
    obtain rfl : a = x'0 := Fin.ext h0
    pointwise [k1_pay1, k1_pay2, k1_pay3, k1_pay22, k1_pay23]
    simp only [h9, hX, hWO, res, g40, g41, g42, g43, Nat.reduceMul, Nat.mul_zero, Nat.zero_add, h1]
    try exact congrArg₂ (· + ·) (congrArg (x a) (Fin.ext (by first | exact h1.symm | (simp only []; omega)))) rfl
end

/-- Where the forward call's blocks lie. -/
theorem idx1 : ∀ t : Fin cfg1.N, win1_0.index t = ![t.val, 0] ∧ win1_1.index t = ![0, 0] ∧ win1_2.index t = ![0, 0, 0]
    ∧ win1_3.index t = ![0, 0] ∧ win1_4.index t = ![0, 0] ∧ win1_5.index t = ![0, 0] ∧ win1_6.index t = ![0, 0, 0]
    ∧ win1_7.index t = ![t.val, 0] ∧ win1_8.index t = ![t.val, 0] ∧ win1_9.index t = ![t.val, 0] ∧ win1_10.index t = ![t.val, 0] :=
  (by decide +kernel : ∀ t : Fin grid1.N, _)

/-- Token `y` of the block of 512 tokens number `t`. -/
def row (t : Fin 16) (y : Fin 512) : Fin 8192 := ⟨t.val * 512 + y.val, by omega⟩

/-- A grid point of the forward call as a number below 16. -/
def pt1 (t : Fin cfg1.N) : Fin 16 := ⟨t.val, lt_of_lt_of_eq t.isLt N_1⟩

section
variable (c : Dev nD) (X : FVec Ideal S8192x1024 .f32) (GX : FVec Ideal S1x1024 .f32) (WQ : FVec Ideal S1x1024x512 .bf16)
    (KV : FVec Ideal S256x1024 .f32) (G L : FVec Ideal S1x128 .f32) (WO : FVec Ideal S4x512x256 .bf16)
    (x : Fin 8192 → Fin 1024 → EReal) (gx : Fin 1024 → EReal) (wq : Fin 1024 → ℕ → EReal) (kv : Fin 256 → ℕ → EReal)
    (g l : Fin 128 → EReal) (wo : ℕ → ℕ → EReal)
    (eX : V c main_arg0 = X) (eGX : V c main_arg2 = GX) (eWQ : V c main_v1 = WQ) (eKV : V c main_v7_0 = KV)
    (eG : V c main_arg6 = G) (eL : V c main_arg7 = L) (eWO : V c main_v6 = WO)
    (hX : ∀ y k, X (ix2 y k) = x y k) (hGX : ∀ k, GX (ix2 0 k) = gx k) (hWQ : ∀ k n, WQ (ix3 0 k n) = wq k n.val)
    (hKV : ∀ m n, KV (ix2 m n) = kv m n.val) (hG : ∀ d, G (ix2 0 d) = g d) (hL : ∀ d, L (ix2 0 d) = l d)
    (hWO : ∀ j n d, WO (ix3 j n d) = wo n.val (256 * j.val + d.val))

include eX hX in
theorem hX1 (t : Fin cfg1.N) (y : Fin 512) (k : Fin 1024) : iblk1 V c 0 t (ix2 y k) = x (row (pt1 t) y) k := by
  rw [← hX]; subst eX
  obtain ⟨e0, e1, e2, e3, e4, e5, e6, e7, e8, e9, e10⟩ := idx1 t
  blk_ext [iblk1, e0, row, pt1]

include eGX in
theorem blk1_1 (t : Fin cfg1.N) : iblk1 V c 1 t = GX := by
  subst eGX
  obtain ⟨e0, e1, e2, e3, e4, e5, e6, e7, e8, e9, e10⟩ := idx1 t
  funext y
  blk_ext [iblk1, e1]

include eWQ in
theorem blk1_2 (t : Fin cfg1.N) : iblk1 V c 2 t = WQ := by
  subst eWQ
  obtain ⟨e0, e1, e2, e3, e4, e5, e6, e7, e8, e9, e10⟩ := idx1 t
  funext y
  blk_ext [iblk1, e2]

include eKV in
theorem blk1_3 (t : Fin cfg1.N) : iblk1 V c 3 t = KV := by
  subst eKV
  obtain ⟨e0, e1, e2, e3, e4, e5, e6, e7, e8, e9, e10⟩ := idx1 t
  funext y
  blk_ext [iblk1, e3]

include eG in
theorem blk1_4 (t : Fin cfg1.N) : iblk1 V c 4 t = G := by
  subst eG
  obtain ⟨e0, e1, e2, e3, e4, e5, e6, e7, e8, e9, e10⟩ := idx1 t
  funext y
  blk_ext [iblk1, e4]

include eL in
theorem blk1_5 (t : Fin cfg1.N) : iblk1 V c 5 t = L := by
  subst eL
  obtain ⟨e0, e1, e2, e3, e4, e5, e6, e7, e8, e9, e10⟩ := idx1 t
  funext y
  blk_ext [iblk1, e5]

include eWO in
theorem blk1_6 (t : Fin cfg1.N) : iblk1 V c 6 t = WO := by
  subst eWO
  obtain ⟨e0, e1, e2, e3, e4, e5, e6, e7, e8, e9, e10⟩ := idx1 t
  funext y
  blk_ext [iblk1, e6]

include eX eGX eWQ hX hGX hWQ in
/-- Every token's query row. -/
theorem arr1_7 : (dat1 V c).arrAt 7 cfg1.N = fun i : S8192x512.Idx => lin (xn c1024 (x (i 0)) gx) wq (i 1).val := by
  refine (dat1 V c).arrAt_eq_of_covers 7 _ (by decide +kernel) fun t hf y => ?_
  obtain ⟨e0, e1, e2, e3, e4, e5, e6, e7, e8, e9, e10⟩ := idx1 t
  blk_simp
  rw [after1_7]
  idx_vars y
  rw [out1_7 V c t _ GX WQ (fun y => x (row (pt1 t) y)) gx wq rfl (blk1_1 V c GX eGX t) (blk1_2 V c WQ eWQ t) (hX1 V c X x eX hX t) hGX hWQ]
  have hr : row (pt1 t) y0 = (win1_7.blk t).view.emb (ix2 y0 y1) 0 := by
    apply Fin.ext; blk_simp [e7, row, pt1]
  rw [hr]
  blk_simp [e7]

include eX eGX hX hGX in
/-- Every token's normalised row. -/
theorem arr1_8 : (dat1 V c).arrAt 8 cfg1.N = fun i : S8192x1024.Idx => xn c1024 (x (i 0)) gx (i 1) := by
  refine (dat1 V c).arrAt_eq_of_covers 8 _ (by decide +kernel) fun t hf y => ?_
  obtain ⟨e0, e1, e2, e3, e4, e5, e6, e7, e8, e9, e10⟩ := idx1 t
  blk_simp
  rw [after1_8]
  idx_vars y
  rw [out1_8 V c t _ GX (fun y => x (row (pt1 t) y)) gx rfl (blk1_1 V c GX eGX t) (hX1 V c X x eX hX t) hGX]
  have hr : row (pt1 t) y0 = (win1_8.blk t).view.emb (ix2 y0 y1) 0 := by
    apply Fin.ext; blk_simp [e8, row, pt1]
  have hk : y1 = (win1_8.blk t).view.emb (ix2 y0 y1) 1 := by
    apply Fin.ext; blk_simp [e8]
  rw [← hr, ← hk]

include eX eGX eWQ eKV eG eL hX hGX hWQ hKV hG hL in
/-- Every token's attended row. -/
theorem arr1_9 : (dat1 V c).arrAt 9 cfg1.N = fun i : S8192x512.Idx => xo g l kv (lin (xn c1024 (x (i 0)) gx) wq) (i 1).val := by
  refine (dat1 V c).arrAt_eq_of_covers 9 _ (by decide +kernel) fun t hf y => ?_
  obtain ⟨e0, e1, e2, e3, e4, e5, e6, e7, e8, e9, e10⟩ := idx1 t
  blk_simp
  rw [after1_9]
  idx_vars y
  rw [out1_9 V c t _ GX WQ KV G L (fun y => x (row (pt1 t) y)) gx wq kv g l rfl (blk1_1 V c GX eGX t) (blk1_2 V c WQ eWQ t)
    (blk1_3 V c KV eKV t) (blk1_4 V c G eG t) (blk1_5 V c L eL t) (hX1 V c X x eX hX t) hGX hWQ hKV hG hL]
  have hr : row (pt1 t) y0 = (win1_9.blk t).view.emb (ix2 y0 y1) 0 := by
    apply Fin.ext; blk_simp [e9, row, pt1]
  rw [hr]
  blk_simp [e9]

include eX eGX eWQ eKV eG eL eWO hX hGX hWQ hKV hG hL hWO in
/-- Every token's row after the cross-attention. -/
theorem arr1_10 : (dat1 V c).arrAt 10 cfg1.N = fun i : S8192x1024.Idx =>
    res (x (i 0)) (xo g l kv (lin (xn c1024 (x (i 0)) gx) wq)) wo (i 1) := by
  refine (dat1 V c).arrAt_eq_of_covers 10 _ (by decide +kernel) fun t hf y => ?_
  obtain ⟨e0, e1, e2, e3, e4, e5, e6, e7, e8, e9, e10⟩ := idx1 t
  blk_simp
  rw [after1_10]
  idx_vars y
  rw [out1_10 V c t _ GX WQ KV G L WO (fun y => x (row (pt1 t) y)) gx wq kv g l wo rfl (blk1_1 V c GX eGX t) (blk1_2 V c WQ eWQ t)
    (blk1_3 V c KV eKV t) (blk1_4 V c G eG t) (blk1_5 V c L eL t) (blk1_6 V c WO eWO t) (hX1 V c X x eX hX t) hGX hWQ hKV hG hL hWO]
  have hr : row (pt1 t) y0 = (win1_10.blk t).view.emb (ix2 y0 y1) 0 := by
    apply Fin.ext; blk_simp [e10, row, pt1]
  have hk : y1 = (win1_10.blk t).view.emb (ix2 y0 y1) 1 := by
    apply Fin.ext; blk_simp [e10]
  rw [← hr, ← hk]
end
end Cert.CrossIdeal.Value

end
-- ==== Proof.CrossBwd.lean ====
/-
  The cross-attention's backward call over the extended reals, for any arguments: the gradients in the query rows and in the rows,
  and those in the keys, in the values and in the gains summed over the tokens.
-/
module

public import proofs.«01_k».proof.Proof.CrossFwd

@[expose] public section

set_option maxRecDepth 16384
noncomputable section
open Idealize.ShloMosaic Idealize.ShloMosaic.TcCoe Idealize.SL.Sem
open Idealize.ShloMosaic.Pipeline (Dat)
namespace Cert.CrossIdeal.Value
open Cert.CrossIdeal Cert.CrossIdeal.Gen Cert.Cross Cert.Norm

variable (V : (c : Dev nD) → (b : Ref sig .tc) → Buf (Elt Ideal) ((c : Thread nD τ).loc b))

/-- The gradients in the attended rows, from the four pairs of loads as they arrive. -/
theorem p_dO (E0 E1 E2 E3 : FVec Ideal S512x256 .f32) (W0 W1 W2 W3 : FVec Ideal S1x512x256 .bf16) (e : Fin 512 → ℕ → EReal) (w : ℕ → ℕ → EReal)
    (hE0 : ∀ y n, E0 (ix2 y n) = e y n.val) (hE1 : ∀ y n, E1 (ix2 y n) = e y (256 + n.val))
    (hE2 : ∀ y n, E2 (ix2 y n) = e y (512 + n.val)) (hE3 : ∀ y n, E3 (ix2 y n) = e y (768 + n.val))
    (hW0 : ∀ k n, W0 (ix3 0 k n) = w k.val n.val) (hW1 : ∀ k n, W1 (ix3 0 k n) = w k.val (256 + n.val))
    (hW2 : ∀ k n, W2 (ix3 0 k n) = w k.val (512 + n.val)) (hW3 : ∀ k n, W3 (ix3 0 k n) = w k.val (768 + n.val)) (a n : Fin 512) :
    k3_pay6 (F := Ideal) E0 W0 E1 W1 E2 W2 E3 W3 (ix2 a n) = linT (e a) w n.val := by
  pointwise [k3_pay6]
  simp only [hE0, hE1, hE2, hE3, hW0, hW1, hW2, hW3]
  unfold linT
  rw [Fin.sum_univ_two_halves 768 256 rfl, Fin.sum_univ_two_halves 512 256 rfl, Fin.sum_univ_two_halves 256 256 rfl]

/-- The gradients in the rows of a block. -/
theorem p_dx (E X : FVec Ideal S512x1024 .f32) (D : FVec Ideal S512x512 .bf16) (W : FVec Ideal S1x1024x512 .bf16) (G : FVec Ideal S1x1024 .f32)
    (e : Fin 512 → ℕ → EReal) (x : Fin 512 → Fin 1024 → EReal) (d : Fin 512 → ℕ → EReal) (w : Fin 1024 → ℕ → EReal) (g : Fin 1024 → EReal)
    (hE : ∀ y k, E (ix2 y k) = e y k.val) (hX : ∀ y k, X (ix2 y k) = x y k) (hD : ∀ y n, D (ix2 y n) = d y n.val)
    (hW : ∀ k n, W (ix3 0 k n) = w k n.val) (hG : ∀ k, G (ix2 0 k) = g k) (a : Fin 512) (k : Fin 1024) :
    k3_pay73 (F := Ideal) E D (k3_pay69 W) X G (ix2 a k) = ng c1024 (x a) g (dhn (d a) w) k + e a k.val := by
  pointwise [k3_pay73, k3_pay69, k3_pay70, k3_pay71, k3_pay72]
  simp only [hE, hX, hD, hW, hG]
  rfl

/-- The running column sums of the gain's gradient. -/
theorem p_dg (A : FVec Ideal S1x1024 .f32) (X : FVec Ideal S512x1024 .f32) (D : FVec Ideal S512x512 .bf16) (W : FVec Ideal S1x1024x512 .bf16)
    (x : Fin 512 → Fin 1024 → EReal) (d : Fin 512 → ℕ → EReal) (w : Fin 1024 → ℕ → EReal)
    (hX : ∀ y k, X (ix2 y k) = x y k) (hD : ∀ y n, D (ix2 y n) = d y n.val) (hW : ∀ k n, W (ix3 0 k n) = w k n.val) (k : Fin 1024) :
    k3_pay1 (F := Ideal) (k3_pay74 A) (k3_pay75 D (k3_pay69 W) X) (ix2 0 k) = A (ix2 0 k) + ∑ a, dhn (d a) w k * xh c1024 (x a) k := by
  pointwise [k3_pay1, k3_pay69, k3_pay70, k3_pay71, k3_pay72, k3_pay74, k3_pay75]
  simp only [hX, hD, hW]
  rfl

/-- Reading 128 columns of what was stored. -/
theorem rd_kc {sig : RefSig} {κ : Kind} {sp : Space} (v : View sig κ sp S256x512 .f32) (L : List (View.Piece (Elt Ideal) S256x512 .f32))
    (o : ℕ) (ho : o + 128 ≤ 512) (inb : ∀ a, (![0, o] : Fin 2 → ℕ) a + (![256, 128] : Fin 2 → ℕ) a ≤ S256x512.size a) (p : Fin 256) (q : Fin 128) :
    v.readCov L (Rect.unit (s := S256x512) ![0, o] ![256, 128] inb).toLoadRect (ix2 p q) = View.canon L (ix2 p ⟨o + q.val, by omega⟩) := by
  rw [View.readCov_eq_canon']
  refine congrArg (View.canon L) (funext fun a => Fin.ext ?_)
  fin_cases a
  · show 0 + 1 * p.val = p.val; omega
  · show o + 1 * q.val = o + q.val; omega

/-- A store of other columns does not matter. -/
theorem kc_skip (L : List (View.Piece (Elt Ideal) S256x512 .f32)) (o : ℕ) (inb : ∀ a, (![0, o] : Fin 2 → ℕ) a + (![256, 128] : Fin 2 → ℕ) a ≤ S256x512.size a)
    (w : (Rect.unit (s := S256x512) ![0, o] ![256, 128] inb).shape.Idx → Elt Ideal .f32) (p : Fin 256) (n : Fin 512) (hn : o + 128 ≤ n.val) :
    View.canon ((⟨Rect.unit (s := S256x512) ![0, o] ![256, 128] inb, w⟩ : View.Piece (Elt Ideal) S256x512 .f32) :: L) (ix2 p n)
      = View.canon L (ix2 p n) := by
  refine View.canon_cons_of_not_mem _ _ fun hm => ?_
  obtain ⟨x, hx⟩ := (Rect.unit (s := S256x512) ![0, o] ![256, 128] inb).exists_idx_of_mem hm
  have h := congrArg (fun i : S256x512.Idx => (i 1).val) hx
  have h' : o + 1 * (x 1).val = n.val := h
  have hx1 : (x 1).val < 128 := (x 1).isLt
  omega

/-- The zeros stored first. -/
theorem kc_zeros (inb : ∀ a, (![0, 0] : Fin 2 → ℕ) a + (![256, 512] : Fin 2 → ℕ) a ≤ S256x512.size a)
    (w : S256x512.Idx → Elt Ideal .f32) :
    View.canon [(⟨Rect.unit (s := S256x512) ![0, 0] ![256, 512] inb, w⟩ : View.Piece (Elt Ideal) S256x512 .f32)] = w :=
  View.canon_cons_unit_lit inb w [] (by decide)

/-- Where four stores cover an index, a fifth, earlier one does not matter. -/
theorem canon_drop {S : Shape} {e : EltTy} (p₁ p₂ p₃ p₄ z : View.Piece (Elt Ideal) S e) (y : S.Idx)
    (h : ∃ p ∈ [p₁, p₂, p₃, p₄], y ∈ p.1.set) : View.canon [p₁, p₂, p₃, p₄, z] y = View.canon [p₁, p₂, p₃, p₄] y := by
  by_cases h1 : y ∈ p₁.1.set
  · obtain ⟨x, rfl⟩ := p₁.1.exists_idx_of_mem h1
    exact (View.canon_cons_emb p₁.1 p₁.2 _ x).trans (View.canon_cons_emb p₁.1 p₁.2 _ x).symm
  rw [View.canon_cons_of_not_mem _ _ h1, View.canon_cons_of_not_mem _ _ h1]
  by_cases h2 : y ∈ p₂.1.set
  · obtain ⟨x, rfl⟩ := p₂.1.exists_idx_of_mem h2
    exact (View.canon_cons_emb p₂.1 p₂.2 _ x).trans (View.canon_cons_emb p₂.1 p₂.2 _ x).symm
  rw [View.canon_cons_of_not_mem _ _ h2, View.canon_cons_of_not_mem _ _ h2]
  by_cases h3 : y ∈ p₃.1.set
  · obtain ⟨x, rfl⟩ := p₃.1.exists_idx_of_mem h3
    exact (View.canon_cons_emb p₃.1 p₃.2 _ x).trans (View.canon_cons_emb p₃.1 p₃.2 _ x).symm
  rw [View.canon_cons_of_not_mem _ _ h3, View.canon_cons_of_not_mem _ _ h3]
  have h4 : y ∈ p₄.1.set := by
    obtain ⟨p, hp, hy⟩ := h
    simp only [List.mem_cons, List.not_mem_nil, or_false] at hp
    rcases hp with rfl | rfl | rfl | rfl
    exacts [absurd hy h1, absurd hy h2, absurd hy h3, hy]
  obtain ⟨x, rfl⟩ := p₄.1.exists_idx_of_mem h4
  exact (View.canon_cons_emb p₄.1 p₄.2 _ x).trans (View.canon_cons_emb p₄.1 p₄.2 _ x).symm

theorem dqr_at (g l : Fin 128 → EReal) (kv : Fin 256 → ℕ → EReal) (q o : ℕ → EReal) (h : ℕ) (d : Fin 128) :
    dqr g l kv q o (128 * h + d.val) = ng c128 (hd q (128 * h)) g (dnh g l kv q o h) d := cat_at _ h d
theorem dvr_at (g l : Fin 128 → EReal) (kv : Fin 256 → ℕ → EReal) (q o : ℕ → EReal) (m : Fin 256) (h : ℕ) (d : Fin 128) :
    dvr g l kv q o m (128 * h + d.val) = yh g l kv q h m * hd o (128 * h) d := cat_at _ h d
theorem dkr_at (g l : Fin 128 → EReal) (kv : Fin 256 → ℕ → EReal) (q o : ℕ → EReal) (m : Fin 256) (h : ℕ) (d : Fin 128) :
    dkr g l kv q o m (128 * h + d.val) = dsh g l kv q o h m * qn (hd q (128 * h)) g d := cat_at _ h d

section
variable (c : Dev nD) (t : Fin cfg3.N) (E : FVec Ideal S512x1024 .f32) (WO : FVec Ideal S4x512x256 .bf16) (Q : FVec Ideal S512x512 .f32)
    (KV : FVec Ideal S256x1024 .f32) (G L : FVec Ideal S1x128 .f32) (WQ : FVec Ideal S1x1024x512 .bf16) (X : FVec Ideal S512x1024 .f32)
    (GX : FVec Ideal S1x1024 .f32)
    (e : Fin 512 → ℕ → EReal) (wo : ℕ → ℕ → EReal) (q : Fin 512 → ℕ → EReal) (kv : Fin 256 → ℕ → EReal)
    (g l : Fin 128 → EReal) (wq : Fin 1024 → ℕ → EReal) (x : Fin 512 → Fin 1024 → EReal) (gx : Fin 1024 → EReal)
    (eE : iblk3 V c 0 t = E) (eWO : iblk3 V c 1 t = WO) (eQ : iblk3 V c 2 t = Q) (eKV : iblk3 V c 3 t = KV)
    (eG : iblk3 V c 4 t = G) (eL : iblk3 V c 5 t = L) (eWQ : iblk3 V c 6 t = WQ) (eX : iblk3 V c 7 t = X) (eGX : iblk3 V c 8 t = GX)
    (hE : ∀ y k, E (ix2 y k) = e y k.val) (hWO : ∀ j n d, WO (ix3 j n d) = wo n.val (256 * j.val + d.val))
    (hQ : ∀ y n, Q (ix2 y n) = q y n.val) (hKV : ∀ m n, KV (ix2 m n) = kv m n.val) (hG : ∀ d, G (ix2 0 d) = g d) (hL : ∀ d, L (ix2 0 d) = l d)
    (hWQ : ∀ k n, WQ (ix3 0 k n) = wq k n.val) (hX : ∀ y k, X (ix2 y k) = x y k) (hGX : ∀ k, GX (ix2 0 k) = gx k)

include eE eWO eQ eKV eG eL hE hWO hQ hKV hG hL in
/-- The gradients in the query rows of a block, head by head, at the first point. -/
theorem out3_9A (h0 : t.val % 16 = 0) (a : Fin 512) (n : Fin 512) : (outsAt3 V c t.val t.isLt).1 (ix2 a n) = dqr g l kv (q a) (linT (e a) wo) n.val := by
  rw [outsAt3_A V c t h0]; dsimp only []; frame_out
  simp only [eE, eWO, eQ, eKV, eG, eL]
  clear h0
  generalize hD' : k3_pay6 (F := Ideal) _ _ _ _ _ _ _ _ = D
  have hD : ∀ a n, D (ix2 a n) = linT (e a) wo n.val := by
    rw [← hD']
    refine p_dO _ _ _ _ _ _ _ _ e wo ?_ ?_ ?_ ?_ ?_ ?_ ?_ ?_
    all_goals
      intro p r
      pointwise
      simp only [hE, hWO, g40, g41, g42, g43, Nat.reduceMul, Nat.zero_add]
  clear hD'
  canon_tiles x' h
  · idx_vars x'
    obtain rfl : a = x'0 := Fin.ext h0
    rw [b3_dq]
    rw [show n.val = 128 * 3 + x'1.val by omega, dqr_at]
    refine h_dq G L _ _ _ _ g l (fun a => hd (q a) (128 * 3)) (kk kv 3) (vv kv 3) (fun a => hd (linT (e a) wo) (128 * 3)) hG hL ?_ ?_ ?_ (sl3 D _ hD) a x'1
    all_goals
      intro p r
      pointwise
      simp only [hQ, hKV, kk, vv, hd, Nat.reduceMul, Nat.reduceAdd, Nat.zero_add]
  · idx_vars x'
    obtain rfl : a = x'0 := Fin.ext h0
    rw [b2_dq]
    rw [show n.val = 128 * 2 + x'1.val by omega, dqr_at]
    refine h_dq G L _ _ _ _ g l (fun a => hd (q a) (128 * 2)) (kk kv 2) (vv kv 2) (fun a => hd (linT (e a) wo) (128 * 2)) hG hL ?_ ?_ ?_ (sl2 D _ hD) a x'1
    all_goals
      intro p r
      pointwise
      simp only [hQ, hKV, kk, vv, hd, Nat.reduceMul, Nat.reduceAdd, Nat.zero_add]
  · idx_vars x'
    obtain rfl : a = x'0 := Fin.ext h0
    rw [b1_dq]
    rw [show n.val = 128 * 1 + x'1.val by omega, dqr_at]
    refine h_dq G L _ _ _ _ g l (fun a => hd (q a) (128 * 1)) (kk kv 1) (vv kv 1) (fun a => hd (linT (e a) wo) (128 * 1)) hG hL ?_ ?_ ?_ (sl1 D _ hD) a x'1
    all_goals
      intro p r
      pointwise
      simp only [hQ, hKV, kk, vv, hd, Nat.reduceMul, Nat.reduceAdd, Nat.zero_add]
  · idx_vars x'
    obtain rfl : a = x'0 := Fin.ext h0
    rw [show n.val = 128 * 0 + x'1.val by omega, dqr_at]
    refine h_dq G L _ _ _ _ g l (fun a => hd (q a) (128 * 0)) (kk kv 0) (vv kv 0) (fun a => hd (linT (e a) wo) (128 * 0)) hG hL ?_ ?_ ?_ (sl0 D _ hD) a x'1
    all_goals
      intro p r
      pointwise
      simp only [hQ, hKV, kk, vv, hd, Nat.reduceMul, Nat.reduceAdd, Nat.zero_add]

include eE eWO eQ eKV eG eL hE hWO hQ hKV hG hL in
/-- The gradients in the query rows of a block, head by head, at every other point. -/
theorem out3_9B (h0 : ¬ t.val % 16 = 0) (a : Fin 512) (n : Fin 512) : (outsAt3 V c t.val t.isLt).1 (ix2 a n) = dqr g l kv (q a) (linT (e a) wo) n.val := by
  rw [outsAt3_B V c t h0]; dsimp only []; frame_out
  simp only [eE, eWO, eQ, eKV, eG, eL]
  clear h0
  generalize hD' : k3_pay6 (F := Ideal) _ _ _ _ _ _ _ _ = D
  have hD : ∀ a n, D (ix2 a n) = linT (e a) wo n.val := by
    rw [← hD']
    refine p_dO _ _ _ _ _ _ _ _ e wo ?_ ?_ ?_ ?_ ?_ ?_ ?_ ?_
    all_goals
      intro p r
      pointwise
      simp only [hE, hWO, g40, g41, g42, g43, Nat.reduceMul, Nat.zero_add]
  clear hD'
  canon_tiles x' h
  · idx_vars x'
    obtain rfl : a = x'0 := Fin.ext h0
    rw [b3_dq]
    rw [show n.val = 128 * 3 + x'1.val by omega, dqr_at]
    refine h_dq G L _ _ _ _ g l (fun a => hd (q a) (128 * 3)) (kk kv 3) (vv kv 3) (fun a => hd (linT (e a) wo) (128 * 3)) hG hL ?_ ?_ ?_ (sl3 D _ hD) a x'1
    all_goals
      intro p r
      pointwise
      simp only [hQ, hKV, kk, vv, hd, Nat.reduceMul, Nat.reduceAdd, Nat.zero_add]
  · idx_vars x'
    obtain rfl : a = x'0 := Fin.ext h0
    rw [b2_dq]
    rw [show n.val = 128 * 2 + x'1.val by omega, dqr_at]
    refine h_dq G L _ _ _ _ g l (fun a => hd (q a) (128 * 2)) (kk kv 2) (vv kv 2) (fun a => hd (linT (e a) wo) (128 * 2)) hG hL ?_ ?_ ?_ (sl2 D _ hD) a x'1
    all_goals
      intro p r
      pointwise
      simp only [hQ, hKV, kk, vv, hd, Nat.reduceMul, Nat.reduceAdd, Nat.zero_add]
  · idx_vars x'
    obtain rfl : a = x'0 := Fin.ext h0
    rw [b1_dq]
    rw [show n.val = 128 * 1 + x'1.val by omega, dqr_at]
    refine h_dq G L _ _ _ _ g l (fun a => hd (q a) (128 * 1)) (kk kv 1) (vv kv 1) (fun a => hd (linT (e a) wo) (128 * 1)) hG hL ?_ ?_ ?_ (sl1 D _ hD) a x'1
    all_goals
      intro p r
      pointwise
      simp only [hQ, hKV, kk, vv, hd, Nat.reduceMul, Nat.reduceAdd, Nat.zero_add]
  · idx_vars x'
    obtain rfl : a = x'0 := Fin.ext h0
    rw [show n.val = 128 * 0 + x'1.val by omega, dqr_at]
    refine h_dq G L _ _ _ _ g l (fun a => hd (q a) (128 * 0)) (kk kv 0) (vv kv 0) (fun a => hd (linT (e a) wo) (128 * 0)) hG hL ?_ ?_ ?_ (sl0 D _ hD) a x'1
    all_goals
      intro p r
      pointwise
      simp only [hQ, hKV, kk, vv, hd, Nat.reduceMul, Nat.reduceAdd, Nat.zero_add]

include eE eWO eQ eKV eG eL hE hWO hQ hKV hG hL in
/-- The gradients in the query rows of a block. -/
theorem out3_9 (a : Fin 512) (n : Fin 512) : (outsAt3 V c t.val t.isLt).1 (ix2 a n) = dqr g l kv (q a) (linT (e a) wo) n.val := by
  by_cases h0 : t.val % 16 = 0
  · exact out3_9A V c t E WO Q KV G L e wo q kv g l eE eWO eQ eKV eG eL hE hWO hQ hKV hG hL h0 a n
  · exact out3_9B V c t E WO Q KV G L e wo q kv g l eE eWO eQ eKV eG eL hE hWO hQ hKV hG hL h0 a n

include eE eWO eQ eKV eG eL hE hWO hQ hKV hG hL in
/-- The first point starts the gradient in the normalised keys. -/
theorem out3_10A (h0 : t.val % 16 = 0) (m : Fin 256) (n : Fin 512) :
    (outsAt3 V c t.val t.isLt).2.1 (ix2 m n) = 0 + ∑ a, dkr g l kv (q a) (linT (e a) wo) m n.val := by
  rw [outsAt3_A V c t h0]; dsimp only []; frame_out
  simp only [eE, eWO, eQ, eKV, eG, eL]
  clear h0
  generalize hD' : k3_pay6 (F := Ideal) _ _ _ _ _ _ _ _ = D
  have hD : ∀ a n, D (ix2 a n) = linT (e a) wo n.val := by
    rw [← hD']
    refine p_dO _ _ _ _ _ _ _ _ e wo ?_ ?_ ?_ ?_ ?_ ?_ ?_ ?_
    all_goals
      intro p r
      pointwise
      simp only [hE, hWO, g40, g41, g42, g43, Nat.reduceMul, Nat.zero_add]
  clear hD'
  refine (canon_drop _ _ _ _ _ _ (View.cover_of_tiledBy _ ![256, 128] (by sl_kernel_rfl) _)).trans ?_
  canon_tiles x' h
  · idx_vars x'
    obtain rfl : m = x'0 := Fin.ext h0
    rw [b3_dk]
    have hv : n.val = 128 * 3 + x'1.val := by omega
    refine (h_dk G L _ _ _ _ _ g l (fun a => hd (q a) (128 * 3)) (kk kv 3) (vv kv 3) (fun a => hd (linT (e a) wo) (128 * 3)) hG hL ?_ ?_ ?_ (sl3 D _ hD) m x'1).trans ?_
    rotate_right
    · simp only [hv, dkr_at]
      refine congrArg₂ (· + ·) ?_ rfl
      · rw [rd_kc _ _ _ (by decide)]
        repeat rw [kc_skip _ _ _ _ _ _ (by simp only []; omega)]
        rw [kc_zeros]
        pointwise [k3_pay2]
    all_goals
      intro p r
      pointwise
      simp only [hQ, hKV, kk, vv, hd, Nat.reduceMul, Nat.reduceAdd, Nat.zero_add]
  · idx_vars x'
    obtain rfl : m = x'0 := Fin.ext h0
    rw [b2_dk]
    have hv : n.val = 128 * 2 + x'1.val := by omega
    refine (h_dk G L _ _ _ _ _ g l (fun a => hd (q a) (128 * 2)) (kk kv 2) (vv kv 2) (fun a => hd (linT (e a) wo) (128 * 2)) hG hL ?_ ?_ ?_ (sl2 D _ hD) m x'1).trans ?_
    rotate_right
    · simp only [hv, dkr_at]
      refine congrArg₂ (· + ·) ?_ rfl
      · rw [rd_kc _ _ _ (by decide)]
        repeat rw [kc_skip _ _ _ _ _ _ (by simp only []; omega)]
        rw [kc_zeros]
        pointwise [k3_pay2]
    all_goals
      intro p r
      pointwise
      simp only [hQ, hKV, kk, vv, hd, Nat.reduceMul, Nat.reduceAdd, Nat.zero_add]
  · idx_vars x'
    obtain rfl : m = x'0 := Fin.ext h0
    rw [b1_dk]
    have hv : n.val = 128 * 1 + x'1.val := by omega
    refine (h_dk G L _ _ _ _ _ g l (fun a => hd (q a) (128 * 1)) (kk kv 1) (vv kv 1) (fun a => hd (linT (e a) wo) (128 * 1)) hG hL ?_ ?_ ?_ (sl1 D _ hD) m x'1).trans ?_
    rotate_right
    · simp only [hv, dkr_at]
      refine congrArg₂ (· + ·) ?_ rfl
      · rw [rd_kc _ _ _ (by decide)]
        repeat rw [kc_skip _ _ _ _ _ _ (by simp only []; omega)]
        rw [kc_zeros]
        pointwise [k3_pay2]
    all_goals
      intro p r
      pointwise
      simp only [hQ, hKV, kk, vv, hd, Nat.reduceMul, Nat.reduceAdd, Nat.zero_add]
  · idx_vars x'
    obtain rfl : m = x'0 := Fin.ext h0
    have hv : n.val = 128 * 0 + x'1.val := by omega
    refine (h_dk G L _ _ _ _ _ g l (fun a => hd (q a) (128 * 0)) (kk kv 0) (vv kv 0) (fun a => hd (linT (e a) wo) (128 * 0)) hG hL ?_ ?_ ?_ (sl0 D _ hD) m x'1).trans ?_
    rotate_right
    · simp only [hv, dkr_at]
      refine congrArg₂ (· + ·) ?_ rfl
      · rw [rd_kc _ _ _ (by decide)]
        repeat rw [kc_skip _ _ _ _ _ _ (by simp only []; omega)]
        rw [kc_zeros]
        pointwise [k3_pay2]
    all_goals
      intro p r
      pointwise
      simp only [hQ, hKV, kk, vv, hd, Nat.reduceMul, Nat.reduceAdd, Nat.zero_add]

include eE eWO eQ eKV eG eL hE hWO hQ hKV hG hL in
/-- Every other point adds to the gradient in the normalised keys. -/
theorem out3_10B (h0 : ¬ t.val % 16 = 0) (m : Fin 256) (n : Fin 512) :
    (outsAt3 V c t.val t.isLt).2.1 (ix2 m n) = (outsAt3 V c (t.val - 1) (by omega)).2.1 (ix2 m n) + ∑ a, dkr g l kv (q a) (linT (e a) wo) m n.val := by
  rw [outsAt3_B V c t h0]; dsimp only []; frame_out
  simp only [eE, eWO, eQ, eKV, eG, eL]
  generalize (outsAt3 V c (t.val - 1) _).2.1 = P
  clear h0
  generalize hD' : k3_pay6 (F := Ideal) _ _ _ _ _ _ _ _ = D
  have hD : ∀ a n, D (ix2 a n) = linT (e a) wo n.val := by
    rw [← hD']
    refine p_dO _ _ _ _ _ _ _ _ e wo ?_ ?_ ?_ ?_ ?_ ?_ ?_ ?_
    all_goals
      intro p r
      pointwise
      simp only [hE, hWO, g40, g41, g42, g43, Nat.reduceMul, Nat.zero_add]
  clear hD'
  canon_tiles x' h
  · idx_vars x'
    obtain rfl : m = x'0 := Fin.ext h0
    rw [b3_dk]
    have hv : n.val = 128 * 3 + x'1.val := by omega
    refine (h_dk G L _ _ _ _ _ g l (fun a => hd (q a) (128 * 3)) (kk kv 3) (vv kv 3) (fun a => hd (linT (e a) wo) (128 * 3)) hG hL ?_ ?_ ?_ (sl3 D _ hD) m x'1).trans ?_
    rotate_right
    · simp only [hv, dkr_at]
      refine congrArg₂ (· + ·) ?_ rfl
      · pointwise
        simp only [show n = ⟨128 * 3 + x'1.val, by omega⟩ from Fin.ext hv, Nat.reduceMul, Nat.zero_add]
    all_goals
      intro p r
      pointwise
      simp only [hQ, hKV, kk, vv, hd, Nat.reduceMul, Nat.reduceAdd, Nat.zero_add]
  · idx_vars x'
    obtain rfl : m = x'0 := Fin.ext h0
    rw [b2_dk]
    have hv : n.val = 128 * 2 + x'1.val := by omega
    refine (h_dk G L _ _ _ _ _ g l (fun a => hd (q a) (128 * 2)) (kk kv 2) (vv kv 2) (fun a => hd (linT (e a) wo) (128 * 2)) hG hL ?_ ?_ ?_ (sl2 D _ hD) m x'1).trans ?_
    rotate_right
    · simp only [hv, dkr_at]
      refine congrArg₂ (· + ·) ?_ rfl
      · pointwise
        simp only [show n = ⟨128 * 2 + x'1.val, by omega⟩ from Fin.ext hv, Nat.reduceMul, Nat.zero_add]
    all_goals
      intro p r
      pointwise
      simp only [hQ, hKV, kk, vv, hd, Nat.reduceMul, Nat.reduceAdd, Nat.zero_add]
  · idx_vars x'
    obtain rfl : m = x'0 := Fin.ext h0
    rw [b1_dk]
    have hv : n.val = 128 * 1 + x'1.val := by omega
    refine (h_dk G L _ _ _ _ _ g l (fun a => hd (q a) (128 * 1)) (kk kv 1) (vv kv 1) (fun a => hd (linT (e a) wo) (128 * 1)) hG hL ?_ ?_ ?_ (sl1 D _ hD) m x'1).trans ?_
    rotate_right
    · simp only [hv, dkr_at]
      refine congrArg₂ (· + ·) ?_ rfl
      · pointwise
        simp only [show n = ⟨128 * 1 + x'1.val, by omega⟩ from Fin.ext hv, Nat.reduceMul, Nat.zero_add]
    all_goals
      intro p r
      pointwise
      simp only [hQ, hKV, kk, vv, hd, Nat.reduceMul, Nat.reduceAdd, Nat.zero_add]
  · idx_vars x'
    obtain rfl : m = x'0 := Fin.ext h0
    have hv : n.val = 128 * 0 + x'1.val := by omega
    refine (h_dk G L _ _ _ _ _ g l (fun a => hd (q a) (128 * 0)) (kk kv 0) (vv kv 0) (fun a => hd (linT (e a) wo) (128 * 0)) hG hL ?_ ?_ ?_ (sl0 D _ hD) m x'1).trans ?_
    rotate_right
    · simp only [hv, dkr_at]
      refine congrArg₂ (· + ·) ?_ rfl
      · pointwise
        simp only [show n = ⟨128 * 0 + x'1.val, by omega⟩ from Fin.ext hv, Nat.reduceMul, Nat.zero_add]
    all_goals
      intro p r
      pointwise
      simp only [hQ, hKV, kk, vv, hd, Nat.reduceMul, Nat.reduceAdd, Nat.zero_add]

include eE eWO eQ eKV eG eL hE hWO hQ hKV hG hL in
/-- The first point starts the gradient in the values. -/
theorem out3_11A (h0 : t.val % 16 = 0) (m : Fin 256) (n : Fin 512) :
    (outsAt3 V c t.val t.isLt).2.2.1 (ix2 m n) = 0 + ∑ a, dvr g l kv (q a) (linT (e a) wo) m n.val := by
  rw [outsAt3_A V c t h0]; dsimp only []; frame_out
  simp only [eE, eWO, eQ, eKV, eG, eL]
  clear h0
  generalize hD' : k3_pay6 (F := Ideal) _ _ _ _ _ _ _ _ = D
  have hD : ∀ a n, D (ix2 a n) = linT (e a) wo n.val := by
    rw [← hD']
    refine p_dO _ _ _ _ _ _ _ _ e wo ?_ ?_ ?_ ?_ ?_ ?_ ?_ ?_
    all_goals
      intro p r
      pointwise
      simp only [hE, hWO, g40, g41, g42, g43, Nat.reduceMul, Nat.zero_add]
  clear hD'
  refine (canon_drop _ _ _ _ _ _ (View.cover_of_tiledBy _ ![256, 128] (by sl_kernel_rfl) _)).trans ?_
  canon_tiles x' h
  · idx_vars x'
    obtain rfl : m = x'0 := Fin.ext h0
    rw [b3_dv]
    have hv : n.val = 128 * 3 + x'1.val := by omega
    refine (h_dv G L _ _ _ _ g l (fun a => hd (q a) (128 * 3)) (kk kv 3) (fun a => hd (linT (e a) wo) (128 * 3)) hG hL ?_ ?_ (sl3 D _ hD) m x'1).trans ?_
    rotate_right
    · simp only [hv, dvr_at]
      refine congrArg₂ (· + ·) ?_ rfl
      · rw [rd_kc _ _ _ (by decide)]
        repeat rw [kc_skip _ _ _ _ _ _ (by simp only []; omega)]
        rw [kc_zeros]
        pointwise [k3_pay3]
    all_goals
      intro p r
      pointwise
      simp only [hQ, hKV, kk, vv, hd, Nat.reduceMul, Nat.reduceAdd, Nat.zero_add]
  · idx_vars x'
    obtain rfl : m = x'0 := Fin.ext h0
    rw [b2_dv]
    have hv : n.val = 128 * 2 + x'1.val := by omega
    refine (h_dv G L _ _ _ _ g l (fun a => hd (q a) (128 * 2)) (kk kv 2) (fun a => hd (linT (e a) wo) (128 * 2)) hG hL ?_ ?_ (sl2 D _ hD) m x'1).trans ?_
    rotate_right
    · simp only [hv, dvr_at]
      refine congrArg₂ (· + ·) ?_ rfl
      · rw [rd_kc _ _ _ (by decide)]
        repeat rw [kc_skip _ _ _ _ _ _ (by simp only []; omega)]
        rw [kc_zeros]
        pointwise [k3_pay3]
    all_goals
      intro p r
      pointwise
      simp only [hQ, hKV, kk, vv, hd, Nat.reduceMul, Nat.reduceAdd, Nat.zero_add]
  · idx_vars x'
    obtain rfl : m = x'0 := Fin.ext h0
    rw [b1_dv]
    have hv : n.val = 128 * 1 + x'1.val := by omega
    refine (h_dv G L _ _ _ _ g l (fun a => hd (q a) (128 * 1)) (kk kv 1) (fun a => hd (linT (e a) wo) (128 * 1)) hG hL ?_ ?_ (sl1 D _ hD) m x'1).trans ?_
    rotate_right
    · simp only [hv, dvr_at]
      refine congrArg₂ (· + ·) ?_ rfl
      · rw [rd_kc _ _ _ (by decide)]
        repeat rw [kc_skip _ _ _ _ _ _ (by simp only []; omega)]
        rw [kc_zeros]
        pointwise [k3_pay3]
    all_goals
      intro p r
      pointwise
      simp only [hQ, hKV, kk, vv, hd, Nat.reduceMul, Nat.reduceAdd, Nat.zero_add]
  · idx_vars x'
    obtain rfl : m = x'0 := Fin.ext h0
    have hv : n.val = 128 * 0 + x'1.val := by omega
    refine (h_dv G L _ _ _ _ g l (fun a => hd (q a) (128 * 0)) (kk kv 0) (fun a => hd (linT (e a) wo) (128 * 0)) hG hL ?_ ?_ (sl0 D _ hD) m x'1).trans ?_
    rotate_right
    · simp only [hv, dvr_at]
      refine congrArg₂ (· + ·) ?_ rfl
      · rw [rd_kc _ _ _ (by decide)]
        repeat rw [kc_skip _ _ _ _ _ _ (by simp only []; omega)]
        rw [kc_zeros]
        pointwise [k3_pay3]
    all_goals
      intro p r
      pointwise
      simp only [hQ, hKV, kk, vv, hd, Nat.reduceMul, Nat.reduceAdd, Nat.zero_add]

include eE eWO eQ eKV eG eL hE hWO hQ hKV hG hL in
/-- Every other point adds to the gradient in the values. -/
theorem out3_11B (h0 : ¬ t.val % 16 = 0) (m : Fin 256) (n : Fin 512) :
    (outsAt3 V c t.val t.isLt).2.2.1 (ix2 m n) = (outsAt3 V c (t.val - 1) (by omega)).2.2.1 (ix2 m n) + ∑ a, dvr g l kv (q a) (linT (e a) wo) m n.val := by
  rw [outsAt3_B V c t h0]; dsimp only []; frame_out
  simp only [eE, eWO, eQ, eKV, eG, eL]
  generalize (outsAt3 V c (t.val - 1) _).2.2.1 = P
  clear h0
  generalize hD' : k3_pay6 (F := Ideal) _ _ _ _ _ _ _ _ = D
  have hD : ∀ a n, D (ix2 a n) = linT (e a) wo n.val := by
    rw [← hD']
    refine p_dO _ _ _ _ _ _ _ _ e wo ?_ ?_ ?_ ?_ ?_ ?_ ?_ ?_
    all_goals
      intro p r
      pointwise
      simp only [hE, hWO, g40, g41, g42, g43, Nat.reduceMul, Nat.zero_add]
  clear hD'
  canon_tiles x' h
  · idx_vars x'
    obtain rfl : m = x'0 := Fin.ext h0
    rw [b3_dv]
    have hv : n.val = 128 * 3 + x'1.val := by omega
    refine (h_dv G L _ _ _ _ g l (fun a => hd (q a) (128 * 3)) (kk kv 3) (fun a => hd (linT (e a) wo) (128 * 3)) hG hL ?_ ?_ (sl3 D _ hD) m x'1).trans ?_
    rotate_right
    · simp only [hv, dvr_at]
      refine congrArg₂ (· + ·) ?_ rfl
      · pointwise
        simp only [show n = ⟨128 * 3 + x'1.val, by omega⟩ from Fin.ext hv, Nat.reduceMul, Nat.zero_add]
    all_goals
      intro p r
      pointwise
      simp only [hQ, hKV, kk, vv, hd, Nat.reduceMul, Nat.reduceAdd, Nat.zero_add]
  · idx_vars x'
    obtain rfl : m = x'0 := Fin.ext h0
    rw [b2_dv]
    have hv : n.val = 128 * 2 + x'1.val := by omega
    refine (h_dv G L _ _ _ _ g l (fun a => hd (q a) (128 * 2)) (kk kv 2) (fun a => hd (linT (e a) wo) (128 * 2)) hG hL ?_ ?_ (sl2 D _ hD) m x'1).trans ?_
    rotate_right
    · simp only [hv, dvr_at]
      refine congrArg₂ (· + ·) ?_ rfl
      · pointwise
        simp only [show n = ⟨128 * 2 + x'1.val, by omega⟩ from Fin.ext hv, Nat.reduceMul, Nat.zero_add]
    all_goals
      intro p r
      pointwise
      simp only [hQ, hKV, kk, vv, hd, Nat.reduceMul, Nat.reduceAdd, Nat.zero_add]
  · idx_vars x'
    obtain rfl : m = x'0 := Fin.ext h0
    rw [b1_dv]
    have hv : n.val = 128 * 1 + x'1.val := by omega
    refine (h_dv G L _ _ _ _ g l (fun a => hd (q a) (128 * 1)) (kk kv 1) (fun a => hd (linT (e a) wo) (128 * 1)) hG hL ?_ ?_ (sl1 D _ hD) m x'1).trans ?_
    rotate_right
    · simp only [hv, dvr_at]
      refine congrArg₂ (· + ·) ?_ rfl
      · pointwise
        simp only [show n = ⟨128 * 1 + x'1.val, by omega⟩ from Fin.ext hv, Nat.reduceMul, Nat.zero_add]
    all_goals
      intro p r
      pointwise
      simp only [hQ, hKV, kk, vv, hd, Nat.reduceMul, Nat.reduceAdd, Nat.zero_add]
  · idx_vars x'
    obtain rfl : m = x'0 := Fin.ext h0
    have hv : n.val = 128 * 0 + x'1.val := by omega
    refine (h_dv G L _ _ _ _ g l (fun a => hd (q a) (128 * 0)) (kk kv 0) (fun a => hd (linT (e a) wo) (128 * 0)) hG hL ?_ ?_ (sl0 D _ hD) m x'1).trans ?_
    rotate_right
    · simp only [hv, dvr_at]
      refine congrArg₂ (· + ·) ?_ rfl
      · pointwise
        simp only [show n = ⟨128 * 0 + x'1.val, by omega⟩ from Fin.ext hv, Nat.reduceMul, Nat.zero_add]
    all_goals
      intro p r
      pointwise
      simp only [hQ, hKV, kk, vv, hd, Nat.reduceMul, Nat.reduceAdd, Nat.zero_add]

include eE eWO eQ eKV eG eL hE hWO hQ hKV hG hL in
/-- The first point starts the gradient in the query's gain. -/
theorem out3_12A (h0 : t.val % 16 = 0) (d : Fin 128) :
    (outsAt3 V c t.val t.isLt).2.2.2.1 (ix2 0 d) = 0 + ∑ a, gqr g l kv (q a) (linT (e a) wo) d := by
  rw [outsAt3_A V c t h0]; dsimp only []; frame_out
  simp only [eE, eWO, eQ, eKV, eG, eL]
  generalize hD' : k3_pay6 (F := Ideal) _ _ _ _ _ _ _ _ = D
  have hD : ∀ a n, D (ix2 a n) = linT (e a) wo n.val := by
    rw [← hD']
    refine p_dO _ _ _ _ _ _ _ _ e wo ?_ ?_ ?_ ?_ ?_ ?_ ?_ ?_
    all_goals
      intro p r
      pointwise
      simp only [hE, hWO, g40, g41, g42, g43, Nat.reduceMul, Nat.zero_add]
  clear hD'
  have e1 : ∀ u v : FVec Ideal S1x128 .f32, addf u v (ix2 0 d) = u (ix2 0 d) + v (ix2 0 d) := fun _ _ => rfl
  rw [b3_gq, e1, b2_gq, b1_gq, h_gq G L _ _ _ _ _ g l (fun a => hd (q a) (128 * 3)) (kk kv 3) (vv kv 3) (fun a => hd (linT (e a) wo) (128 * 3)) hG hL ?_ ?_ ?_ (sl3 D _ hD) d, h_gq G L _ _ _ _ _ g l (fun a => hd (q a) (128 * 2)) (kk kv 2) (vv kv 2) (fun a => hd (linT (e a) wo) (128 * 2)) hG hL ?_ ?_ ?_ (sl2 D _ hD) d, h_gq G L _ _ _ _ _ g l (fun a => hd (q a) (128 * 1)) (kk kv 1) (vv kv 1) (fun a => hd (linT (e a) wo) (128 * 1)) hG hL ?_ ?_ ?_ (sl1 D _ hD) d, h_gq G L _ _ _ _ _ g l (fun a => hd (q a) (128 * 0)) (kk kv 0) (vv kv 0) (fun a => hd (linT (e a) wo) (128 * 0)) hG hL ?_ ?_ ?_ (sl0 D _ hD) d]
  · unfold gqr
    simp only [Fin.sum_univ_four, Finset.sum_add_distrib, g40, g41, g42, g43]
    refine congrArg₂ (· + ·) ?_ ?_
    · pointwise [k3_pay4]
    · have hz : k3_pay7 (F := Ideal) (ix2 0 d) = 0 := by pointwise [k3_pay7]
      rw [hz, zero_add]
      rfl
  all_goals
    intro p r
    pointwise
    simp only [hQ, hKV, kk, vv, hd, Nat.reduceMul, Nat.reduceAdd, Nat.zero_add]

include eE eWO eQ eKV eG eL hE hWO hQ hKV hG hL in
/-- Every other point adds to the gradient in the query's gain. -/
theorem out3_12B (h0 : ¬ t.val % 16 = 0) (d : Fin 128) :
    (outsAt3 V c t.val t.isLt).2.2.2.1 (ix2 0 d) = (outsAt3 V c (t.val - 1) (by omega)).2.2.2.1 (ix2 0 d) + ∑ a, gqr g l kv (q a) (linT (e a) wo) d := by
  rw [outsAt3_B V c t h0]; dsimp only []; frame_out
  simp only [eE, eWO, eQ, eKV, eG, eL]
  generalize hD' : k3_pay6 (F := Ideal) _ _ _ _ _ _ _ _ = D
  have hD : ∀ a n, D (ix2 a n) = linT (e a) wo n.val := by
    rw [← hD']
    refine p_dO _ _ _ _ _ _ _ _ e wo ?_ ?_ ?_ ?_ ?_ ?_ ?_ ?_
    all_goals
      intro p r
      pointwise
      simp only [hE, hWO, g40, g41, g42, g43, Nat.reduceMul, Nat.zero_add]
  clear hD'
  have e1 : ∀ u v : FVec Ideal S1x128 .f32, addf u v (ix2 0 d) = u (ix2 0 d) + v (ix2 0 d) := fun _ _ => rfl
  rw [b3_gq, e1, b2_gq, b1_gq, h_gq G L _ _ _ _ _ g l (fun a => hd (q a) (128 * 3)) (kk kv 3) (vv kv 3) (fun a => hd (linT (e a) wo) (128 * 3)) hG hL ?_ ?_ ?_ (sl3 D _ hD) d, h_gq G L _ _ _ _ _ g l (fun a => hd (q a) (128 * 2)) (kk kv 2) (vv kv 2) (fun a => hd (linT (e a) wo) (128 * 2)) hG hL ?_ ?_ ?_ (sl2 D _ hD) d, h_gq G L _ _ _ _ _ g l (fun a => hd (q a) (128 * 1)) (kk kv 1) (vv kv 1) (fun a => hd (linT (e a) wo) (128 * 1)) hG hL ?_ ?_ ?_ (sl1 D _ hD) d, h_gq G L _ _ _ _ _ g l (fun a => hd (q a) (128 * 0)) (kk kv 0) (vv kv 0) (fun a => hd (linT (e a) wo) (128 * 0)) hG hL ?_ ?_ ?_ (sl0 D _ hD) d]
  · unfold gqr
    simp only [Fin.sum_univ_four, Finset.sum_add_distrib, g40, g41, g42, g43]
    refine congrArg₂ (· + ·) ?_ ?_
    · rfl
    · have hz : k3_pay7 (F := Ideal) (ix2 0 d) = 0 := by pointwise [k3_pay7]
      rw [hz, zero_add]
      rfl
  all_goals
    intro p r
    pointwise
    simp only [hQ, hKV, kk, vv, hd, Nat.reduceMul, Nat.reduceAdd, Nat.zero_add]

include eE eWO eQ eKV eG eL eWQ eX eGX hE hWO hQ hKV hG hL hWQ hX hGX in
/-- The gradients in the rows of a block. -/
theorem out3_13 (a : Fin 512) (k : Fin 1024) : (outsAt3 V c t.val t.isLt).2.2.2.2.1 (ix2 a k)
    = ng c1024 (x a) gx (dhn (dqr g l kv (q a) (linT (e a) wo)) wq) k + e a k.val := by
  have h9 : ∀ (a : Fin 512) (n : Fin 512), (outsAt3 V c t.val t.isLt).1 (ix2 a n) = dqr g l kv (q a) (linT (e a) wo) n.val :=
    out3_9 V c t E WO Q KV G L e wo q kv g l eE eWO eQ eKV eG eL hE hWO hQ hKV hG hL
  by_cases h0 : t.val % 16 = 0
  · rw [outsAt3_A V c t h0] at h9 ⊢; dsimp only [] at h9 ⊢; frame_out at h9 ⊢
    simp only [eE, eWO, eQ, eKV, eG, eL, eWQ, eX, eGX] at h9 ⊢
    rw [readCov_whole _ _ _ (by decide)]
    exact p_dx E X _ WQ GX e x _ wq gx hE hX h9 hWQ hGX a k
  · rw [outsAt3_B V c t h0] at h9 ⊢; dsimp only [] at h9 ⊢; frame_out at h9 ⊢
    simp only [eE, eWO, eQ, eKV, eG, eL, eWQ, eX, eGX] at h9 ⊢
    rw [readCov_whole _ _ _ (by decide)]
    exact p_dx E X _ WQ GX e x _ wq gx hE hX h9 hWQ hGX a k

include eE eWO eQ eKV eG eL eWQ eX hE hWO hQ hKV hG hL hWQ hX in
/-- The first point starts the gradient in the rows' gain. -/
theorem out3_14A (h0 : t.val % 16 = 0) (k : Fin 1024) : (outsAt3 V c t.val t.isLt).2.2.2.2.2 (ix2 0 k)
    = 0 + ∑ a, dhn (dqr g l kv (q a) (linT (e a) wo)) wq k * xh c1024 (x a) k := by
  have h9 : ∀ (a : Fin 512) (n : Fin 512), (outsAt3 V c t.val t.isLt).1 (ix2 a n) = dqr g l kv (q a) (linT (e a) wo) n.val :=
    out3_9 V c t E WO Q KV G L e wo q kv g l eE eWO eQ eKV eG eL hE hWO hQ hKV hG hL
  rw [outsAt3_A V c t h0] at h9 ⊢; dsimp only [] at h9 ⊢; frame_out at h9 ⊢
  simp only [eE, eWO, eQ, eKV, eG, eL, eWQ, eX] at h9 ⊢
  rw [readCov_whole _ _ _ (by decide)]
  rw [p_dg _ X _ WQ x _ wq hX h9 hWQ k]
  congr 1
  pointwise [k3_pay5]

include eE eWO eQ eKV eG eL eWQ eX hE hWO hQ hKV hG hL hWQ hX in
/-- Every other point adds to the gradient in the rows' gain. -/
theorem out3_14B (h0 : ¬ t.val % 16 = 0) (k : Fin 1024) : (outsAt3 V c t.val t.isLt).2.2.2.2.2 (ix2 0 k)
    = (outsAt3 V c (t.val - 1) (by omega)).2.2.2.2.2 (ix2 0 k) + ∑ a, dhn (dqr g l kv (q a) (linT (e a) wo)) wq k * xh c1024 (x a) k := by
  have h9 : ∀ (a : Fin 512) (n : Fin 512), (outsAt3 V c t.val t.isLt).1 (ix2 a n) = dqr g l kv (q a) (linT (e a) wo) n.val :=
    out3_9 V c t E WO Q KV G L e wo q kv g l eE eWO eQ eKV eG eL hE hWO hQ hKV hG hL
  rw [outsAt3_B V c t h0] at h9 ⊢; dsimp only [] at h9 ⊢; frame_out at h9 ⊢
  simp only [eE, eWO, eQ, eKV, eG, eL, eWQ, eX] at h9 ⊢
  rw [readCov_whole _ _ _ (by decide)]
  rw [p_dg _ X _ WQ x _ wq hX h9 hWQ k]
end
end Cert.CrossIdeal.Value

end
-- ==== Proof.CrossArr.lean ====
/-
  What the cross-attention's backward call leaves over the extended reals, for any arguments: every token's gradients, and the sums
  over all tokens.
-/
module

public import proofs.«01_k».proof.Proof.CrossBwd

@[expose] public section

set_option maxRecDepth 16384
noncomputable section
open Idealize.ShloMosaic Idealize.ShloMosaic.TcCoe Idealize.SL.Sem
open Idealize.ShloMosaic.Pipeline (Dat)
namespace Cert.CrossIdeal.Value
open Cert.CrossIdeal Cert.CrossIdeal.Gen Cert.Cross Cert.Norm

variable (V : (c : Dev nD) → (b : Ref sig .tc) → Buf (Elt Ideal) ((c : Thread nD τ).loc b))

/-- Where the backward call's blocks lie. -/
theorem idx3 : ∀ t : Fin cfg3.N, win3_0.index t = ![t.val, 0] ∧ win3_1.index t = ![0, 0, 0] ∧ win3_2.index t = ![t.val, 0] ∧ win3_3.index t = ![0, 0] ∧ win3_4.index t = ![0, 0] ∧ win3_5.index t = ![0, 0] ∧ win3_6.index t = ![0, 0, 0] ∧ win3_7.index t = ![t.val, 0] ∧ win3_8.index t = ![0, 0] ∧ win3_9.index t = ![t.val, 0] ∧ win3_10.index t = ![0, 0] ∧ win3_11.index t = ![0, 0] ∧ win3_12.index t = ![0, 0] ∧ win3_13.index t = ![t.val, 0] ∧ win3_14.index t = ![0, 0] :=
  (by decide +kernel : ∀ t : Fin grid3.N, _)

/-- A grid point of the backward call as a number below 16. -/
def pt3 (t : Fin cfg3.N) : Fin 16 := ⟨t.val, lt_of_lt_of_eq t.isLt N_3⟩

section
variable (c : Dev nD) (E : FVec Ideal S8192x1024 .f32) (WO : FVec Ideal S4x512x256 .bf16) (Q : FVec Ideal S8192x512 .f32)
    (KV : FVec Ideal S256x1024 .f32) (G L : FVec Ideal S1x128 .f32) (WQ : FVec Ideal S1x1024x512 .bf16) (X : FVec Ideal S8192x1024 .f32)
    (GX : FVec Ideal S1x1024 .f32)
    (e : Fin 8192 → ℕ → EReal) (wo : ℕ → ℕ → EReal) (q : Fin 8192 → ℕ → EReal) (kv : Fin 256 → ℕ → EReal)
    (g l : Fin 128 → EReal) (wq : Fin 1024 → ℕ → EReal) (x : Fin 8192 → Fin 1024 → EReal) (gx : Fin 1024 → EReal)
    (eE : V c main_arg9 = E) (eWO : V c main_v6 = WO) (eQ : V c main_v8_0 = Q) (eKV : V c main_v7_0 = KV)
    (eG : V c main_arg6 = G) (eL : V c main_arg7 = L) (eWQ : V c main_v1 = WQ) (eX : V c main_arg0 = X) (eGX : V c main_arg2 = GX)
    (hE : ∀ y k, E (ix2 y k) = e y k.val) (hWO : ∀ j n d, WO (ix3 j n d) = wo n.val (256 * j.val + d.val))
    (hQ : ∀ y n, Q (ix2 y n) = q y n.val) (hKV : ∀ m n, KV (ix2 m n) = kv m n.val) (hG : ∀ d, G (ix2 0 d) = g d) (hL : ∀ d, L (ix2 0 d) = l d)
    (hWQ : ∀ k n, WQ (ix3 0 k n) = wq k n.val) (hX : ∀ y k, X (ix2 y k) = x y k) (hGX : ∀ k, GX (ix2 0 k) = gx k)

include eE hE in
theorem hE3 (t : Fin cfg3.N) (y : Fin 512) (k : Fin 1024) : iblk3 V c 0 t (ix2 y k) = e (row (pt3 t) y) k.val := by
  rw [← hE]; subst eE
  obtain ⟨e0, e1, e2, e3, e4, e5, e6, e7, e8, e9, e10, e11, e12, e13, e14⟩ := idx3 t
  blk_ext [iblk3, e0, row, pt3]

include eQ hQ in
theorem hQ3 (t : Fin cfg3.N) (y : Fin 512) (k : Fin 512) : iblk3 V c 2 t (ix2 y k) = q (row (pt3 t) y) k.val := by
  rw [← hQ]; subst eQ
  obtain ⟨e0, e1, e2, e3, e4, e5, e6, e7, e8, e9, e10, e11, e12, e13, e14⟩ := idx3 t
  blk_ext [iblk3, e2, row, pt3]

include eX hX in
theorem hX3 (t : Fin cfg3.N) (y : Fin 512) (k : Fin 1024) : iblk3 V c 7 t (ix2 y k) = x (row (pt3 t) y) k := by
  rw [← hX]; subst eX
  obtain ⟨e0, e1, e2, e3, e4, e5, e6, e7, e8, e9, e10, e11, e12, e13, e14⟩ := idx3 t
  blk_ext [iblk3, e7, row, pt3]

include eWO in
theorem blk3_1 (t : Fin cfg3.N) : iblk3 V c 1 t = WO := by
  subst eWO
  obtain ⟨e0, e1, e2, e3, e4, e5, e6, e7, e8, e9, e10, e11, e12, e13, e14⟩ := idx3 t
  funext y
  blk_ext [iblk3, e1]

include eKV in
theorem blk3_3 (t : Fin cfg3.N) : iblk3 V c 3 t = KV := by
  subst eKV
  obtain ⟨e0, e1, e2, e3, e4, e5, e6, e7, e8, e9, e10, e11, e12, e13, e14⟩ := idx3 t
  funext y
  blk_ext [iblk3, e3]

include eG in
theorem blk3_4 (t : Fin cfg3.N) : iblk3 V c 4 t = G := by
  subst eG
  obtain ⟨e0, e1, e2, e3, e4, e5, e6, e7, e8, e9, e10, e11, e12, e13, e14⟩ := idx3 t
  funext y
  blk_ext [iblk3, e4]

include eL in
theorem blk3_5 (t : Fin cfg3.N) : iblk3 V c 5 t = L := by
  subst eL
  obtain ⟨e0, e1, e2, e3, e4, e5, e6, e7, e8, e9, e10, e11, e12, e13, e14⟩ := idx3 t
  funext y
  blk_ext [iblk3, e5]

include eWQ in
theorem blk3_6 (t : Fin cfg3.N) : iblk3 V c 6 t = WQ := by
  subst eWQ
  obtain ⟨e0, e1, e2, e3, e4, e5, e6, e7, e8, e9, e10, e11, e12, e13, e14⟩ := idx3 t
  funext y
  blk_ext [iblk3, e6]

include eGX in
theorem blk3_8 (t : Fin cfg3.N) : iblk3 V c 8 t = GX := by
  subst eGX
  obtain ⟨e0, e1, e2, e3, e4, e5, e6, e7, e8, e9, e10, e11, e12, e13, e14⟩ := idx3 t
  funext y
  blk_ext [iblk3, e8]

include eE eWO eQ eKV eG eL hE hWO hQ hKV hG hL in
/-- The gradients in every token's query row. -/
theorem arr3_9 : (dat3 V c).arrAt 9 cfg3.N = fun i : S8192x512.Idx => dqr g l kv (q (i 0)) (linT (e (i 0)) wo) (i 1).val := by
  refine (dat3 V c).arrAt_eq_of_covers 9 _ (by decide +kernel) fun t hf y => ?_
  obtain ⟨e0, e1, e2, e3, e4, e5, e6, e7, e8, e9, e10, e11, e12, e13, e14⟩ := idx3 t
  blk_simp
  rw [after3_9]
  idx_vars y
  rw [out3_9 V c t _ WO _ KV G L (fun y => e (row (pt3 t) y)) wo (fun y => q (row (pt3 t) y)) kv g l rfl (blk3_1 V c WO eWO t) rfl (blk3_3 V c KV eKV t) (blk3_4 V c G eG t) (blk3_5 V c L eL t)
    (hE3 V c E e eE hE t) hWO (hQ3 V c Q q eQ hQ t) hKV hG hL]
  have hr : row (pt3 t) y0 = (win3_9.blk t).view.emb (ix2 y0 y1) 0 := by
    apply Fin.ext; blk_simp [e9, row, pt3]
  rw [hr]
  blk_simp [e9]

include eE eWO eQ eKV eG eL eWQ eX eGX hE hWO hQ hKV hG hL hWQ hX hGX in
/-- The gradients in every token's row. -/
theorem arr3_13 : (dat3 V c).arrAt 13 cfg3.N = fun i : S8192x1024.Idx =>
    ng c1024 (x (i 0)) gx (dhn (dqr g l kv (q (i 0)) (linT (e (i 0)) wo)) wq) (i 1) + e (i 0) (i 1).val := by
  refine (dat3 V c).arrAt_eq_of_covers 13 _ (by decide +kernel) fun t hf y => ?_
  obtain ⟨e0, e1, e2, e3, e4, e5, e6, e7, e8, e9, e10, e11, e12, e13, e14⟩ := idx3 t
  blk_simp
  rw [after3_13]
  idx_vars y
  rw [out3_13 V c t _ WO _ KV G L WQ _ GX (fun y => e (row (pt3 t) y)) wo (fun y => q (row (pt3 t) y)) kv g l wq (fun y => x (row (pt3 t) y)) gx
    rfl (blk3_1 V c WO eWO t) rfl (blk3_3 V c KV eKV t) (blk3_4 V c G eG t) (blk3_5 V c L eL t) (blk3_6 V c WQ eWQ t) rfl (blk3_8 V c GX eGX t)
    (hE3 V c E e eE hE t) hWO (hQ3 V c Q q eQ hQ t) hKV hG hL hWQ (hX3 V c X x eX hX t) hGX]
  have hr : row (pt3 t) y0 = (win3_13.blk t).view.emb (ix2 y0 y1) 0 := by
    apply Fin.ext; blk_simp [e13, row, pt3]
  have hk : y1 = (win3_13.blk t).view.emb (ix2 y0 y1) 1 := by
    apply Fin.ext; blk_simp [e13]
  rw [← hr, ← hk]
  blk_simp [e13]

include eE eWO eQ eKV eG eL hE hWO hQ hKV hG hL in
/-- The gradient in the normalised keys, summed over all tokens. -/
theorem arr3_10 : (dat3 V c).arrAt 10 cfg3.N = fun i : S256x512.Idx =>
    ∑ r : Fin 8192, dkr g l kv (q r) (linT (e r) wo) (i 0) (i 1).val := by
  refine (dat3 V c).arrAt_eq_of_covers 10 _ (by decide +kernel) fun t hf y => ?_
  obtain ⟨e0, e1, e2, e3, e4, e5, e6, e7, e8, e9, e10, e11, e12, e13, e14⟩ := idx3 t
  blk_simp
  rw [after3_10]
  idx_vars y
  have h0 : y0 = (win3_10.blk t).view.emb (ix2 y0 y1) 0 := by
    apply Fin.ext; blk_simp [e10]
  rw [← h0]
  have h := Pipeline.eq_sum_fin_of_reset_step_apply_of_flush (N := cfg3.N)
    (fun n h (i : Fin 256 × Fin 512) => (outsAt3 V c n h).2.1 (ix2 i.1 i.2)) 16 (fun _ => 0)
    (fun t i => ∑ a, dkr g l kv (q (row (pt3 t) a)) (linT (e (row (pt3 t) a)) wo) i.1 i.2.val)
    (fun t h0 i => out3_10A V c t _ WO _ KV G L (fun y => e (row (pt3 t) y)) wo (fun y => q (row (pt3 t) y)) kv g l rfl (blk3_1 V c WO eWO t) rfl (blk3_3 V c KV eKV t) (blk3_4 V c G eG t) (blk3_5 V c L eL t)
    (hE3 V c E e eE hE t) hWO (hQ3 V c Q q eQ hQ t) hKV hG hL h0 i.1 i.2)
    (fun t h0 i => out3_10B V c t _ WO _ KV G L (fun y => e (row (pt3 t) y)) wo (fun y => q (row (pt3 t) y)) kv g l rfl (blk3_1 V c WO eWO t) rfl (blk3_3 V c KV eKV t) (blk3_4 V c G eG t) (blk3_5 V c L eL t)
    (hE3 V c E e eE hE t) hWO (hQ3 V c Q q eQ hQ t) hKV hG hL h0 i.1 i.2)
    t ((flush3_10 t).mp hf) (y0, y1)
  refine h.trans ?_
  rw [zero_add]
  blk_simp [e10]
  refine Fin.sum_mul_add_congr (f := fun r : Fin 8192 => dkr g l kv (q r) (linT (e r) wo) y0 y1.val) (fun s k hl => ?_)
  have hN : t.val < 16 := lt_of_lt_of_eq t.isLt N_3
  have hs : ∀ (p : Fin cfg3.N), p.val = s.val → row (pt3 p) k = ⟨s.val * 512 + k.val, hl⟩ := fun p hp => Fin.ext (by simp only [row, pt3, hp])
  try dsimp only
  rw [hs _ (by dsimp only; omega)]

include eE eWO eQ eKV eG eL hE hWO hQ hKV hG hL in
/-- The gradient in the values, summed over all tokens. -/
theorem arr3_11 : (dat3 V c).arrAt 11 cfg3.N = fun i : S256x512.Idx =>
    ∑ r : Fin 8192, dvr g l kv (q r) (linT (e r) wo) (i 0) (i 1).val := by
  refine (dat3 V c).arrAt_eq_of_covers 11 _ (by decide +kernel) fun t hf y => ?_
  obtain ⟨e0, e1, e2, e3, e4, e5, e6, e7, e8, e9, e10, e11, e12, e13, e14⟩ := idx3 t
  blk_simp
  rw [after3_11]
  idx_vars y
  have h0 : y0 = (win3_11.blk t).view.emb (ix2 y0 y1) 0 := by
    apply Fin.ext; blk_simp [e11]
  rw [← h0]
  have h := Pipeline.eq_sum_fin_of_reset_step_apply_of_flush (N := cfg3.N)
    (fun n h (i : Fin 256 × Fin 512) => (outsAt3 V c n h).2.2.1 (ix2 i.1 i.2)) 16 (fun _ => 0)
    (fun t i => ∑ a, dvr g l kv (q (row (pt3 t) a)) (linT (e (row (pt3 t) a)) wo) i.1 i.2.val)
    (fun t h0 i => out3_11A V c t _ WO _ KV G L (fun y => e (row (pt3 t) y)) wo (fun y => q (row (pt3 t) y)) kv g l rfl (blk3_1 V c WO eWO t) rfl (blk3_3 V c KV eKV t) (blk3_4 V c G eG t) (blk3_5 V c L eL t)
    (hE3 V c E e eE hE t) hWO (hQ3 V c Q q eQ hQ t) hKV hG hL h0 i.1 i.2)
    (fun t h0 i => out3_11B V c t _ WO _ KV G L (fun y => e (row (pt3 t) y)) wo (fun y => q (row (pt3 t) y)) kv g l rfl (blk3_1 V c WO eWO t) rfl (blk3_3 V c KV eKV t) (blk3_4 V c G eG t) (blk3_5 V c L eL t)
    (hE3 V c E e eE hE t) hWO (hQ3 V c Q q eQ hQ t) hKV hG hL h0 i.1 i.2)
    t ((flush3_11 t).mp hf) (y0, y1)
  refine h.trans ?_
  rw [zero_add]
  blk_simp [e11]
  refine Fin.sum_mul_add_congr (f := fun r : Fin 8192 => dvr g l kv (q r) (linT (e r) wo) y0 y1.val) (fun s k hl => ?_)
  have hN : t.val < 16 := lt_of_lt_of_eq t.isLt N_3
  have hs : ∀ (p : Fin cfg3.N), p.val = s.val → row (pt3 p) k = ⟨s.val * 512 + k.val, hl⟩ := fun p hp => Fin.ext (by simp only [row, pt3, hp])
  try dsimp only
  rw [hs _ (by dsimp only; omega)]

include eE eWO eQ eKV eG eL hE hWO hQ hKV hG hL in
/-- The gradient in the query's gain, summed over all tokens. -/
theorem arr3_12 : (dat3 V c).arrAt 12 cfg3.N = fun i : S1x128.Idx =>
    ∑ r : Fin 8192, gqr g l kv (q r) (linT (e r) wo) (i 1) := by
  refine (dat3 V c).arrAt_eq_of_covers 12 _ (by decide +kernel) fun t hf y => ?_
  obtain ⟨e0, e1, e2, e3, e4, e5, e6, e7, e8, e9, e10, e11, e12, e13, e14⟩ := idx3 t
  blk_simp
  rw [after3_12]
  idx_vars y
  have hy : y0 = 0 := Subsingleton.elim _ _
  subst hy
  have h1 : y1 = (win3_12.blk t).view.emb (ix2 0 y1) 1 := by
    apply Fin.ext; blk_simp [e12]
  rw [← h1]
  have h := Pipeline.eq_sum_fin_of_reset_step_apply_of_flush (N := cfg3.N)
    (fun n h (i : Fin 128) => (outsAt3 V c n h).2.2.2.1 (ix2 0 i)) 16 (fun _ => 0)
    (fun t i => ∑ a, gqr g l kv (q (row (pt3 t) a)) (linT (e (row (pt3 t) a)) wo) i)
    (fun t h0 i => out3_12A V c t _ WO _ KV G L (fun y => e (row (pt3 t) y)) wo (fun y => q (row (pt3 t) y)) kv g l rfl (blk3_1 V c WO eWO t) rfl (blk3_3 V c KV eKV t) (blk3_4 V c G eG t) (blk3_5 V c L eL t)
    (hE3 V c E e eE hE t) hWO (hQ3 V c Q q eQ hQ t) hKV hG hL h0 i)
    (fun t h0 i => out3_12B V c t _ WO _ KV G L (fun y => e (row (pt3 t) y)) wo (fun y => q (row (pt3 t) y)) kv g l rfl (blk3_1 V c WO eWO t) rfl (blk3_3 V c KV eKV t) (blk3_4 V c G eG t) (blk3_5 V c L eL t)
    (hE3 V c E e eE hE t) hWO (hQ3 V c Q q eQ hQ t) hKV hG hL h0 i)
    t ((flush3_12 t).mp hf) y1
  refine h.trans ?_
  rw [zero_add]
  refine Fin.sum_mul_add_congr (f := fun r : Fin 8192 => gqr g l kv (q r) (linT (e r) wo) y1) (fun s k hl => ?_)
  have hN : t.val < 16 := lt_of_lt_of_eq t.isLt N_3
  have hs : ∀ (p : Fin cfg3.N), p.val = s.val → row (pt3 p) k = ⟨s.val * 512 + k.val, hl⟩ := fun p hp => Fin.ext (by simp only [row, pt3, hp])
  try dsimp only
  rw [hs _ (by dsimp only; omega)]

include eE eWO eQ eKV eG eL eWQ eX hE hWO hQ hKV hG hL hWQ hX in
/-- The gradient in the rows' gain, summed over all tokens. -/
theorem arr3_14 : (dat3 V c).arrAt 14 cfg3.N = fun i : S1x1024.Idx =>
    ∑ r : Fin 8192, dhn (dqr g l kv (q r) (linT (e r) wo)) wq (i 1) * xh c1024 (x r) (i 1) := by
  refine (dat3 V c).arrAt_eq_of_covers 14 _ (by decide +kernel) fun t hf y => ?_
  obtain ⟨e0, e1, e2, e3, e4, e5, e6, e7, e8, e9, e10, e11, e12, e13, e14⟩ := idx3 t
  blk_simp
  rw [after3_14]
  idx_vars y
  have hy : y0 = 0 := Subsingleton.elim _ _
  subst hy
  have h1 : y1 = (win3_14.blk t).view.emb (ix2 0 y1) 1 := by
    apply Fin.ext; blk_simp [e14]
  rw [← h1]
  have h := Pipeline.eq_sum_fin_of_reset_step_apply_of_flush (N := cfg3.N)
    (fun n h (i : Fin 1024) => (outsAt3 V c n h).2.2.2.2.2 (ix2 0 i)) 16 (fun _ => 0)
    (fun t i => ∑ a, dhn (dqr g l kv (q (row (pt3 t) a)) (linT (e (row (pt3 t) a)) wo)) wq i * xh c1024 (x (row (pt3 t) a)) i)
    (fun t h0 i => out3_14A V c t _ WO _ KV G L WQ _ (fun y => e (row (pt3 t) y)) wo (fun y => q (row (pt3 t) y)) kv g l wq (fun y => x (row (pt3 t) y))
    rfl (blk3_1 V c WO eWO t) rfl (blk3_3 V c KV eKV t) (blk3_4 V c G eG t) (blk3_5 V c L eL t) (blk3_6 V c WQ eWQ t) rfl
    (hE3 V c E e eE hE t) hWO (hQ3 V c Q q eQ hQ t) hKV hG hL hWQ (hX3 V c X x eX hX t) h0 i)
    (fun t h0 i => out3_14B V c t _ WO _ KV G L WQ _ (fun y => e (row (pt3 t) y)) wo (fun y => q (row (pt3 t) y)) kv g l wq (fun y => x (row (pt3 t) y))
    rfl (blk3_1 V c WO eWO t) rfl (blk3_3 V c KV eKV t) (blk3_4 V c G eG t) (blk3_5 V c L eL t) (blk3_6 V c WQ eWQ t) rfl
    (hE3 V c E e eE hE t) hWO (hQ3 V c Q q eQ hQ t) hKV hG hL hWQ (hX3 V c X x eX hX t) h0 i)
    t ((flush3_14 t).mp hf) y1
  refine h.trans ?_
  rw [zero_add]
  refine Fin.sum_mul_add_congr (f := fun r : Fin 8192 => dhn (dqr g l kv (q r) (linT (e r) wo)) wq y1 * xh c1024 (x r) y1) (fun s k hl => ?_)
  have hN : t.val < 16 := lt_of_lt_of_eq t.isLt N_3
  have hs : ∀ (p : Fin cfg3.N), p.val = s.val → row (pt3 p) k = ⟨s.val * 512 + k.val, hl⟩ := fun p hp => Fin.ext (by simp only [row, pt3, hp])
  try dsimp only
  rw [hs _ (by dsimp only; omega)]
end
end Cert.CrossIdeal.Value

end
-- ==== Proof.CrossMm.lean ====
/-
  The cross-attention's three weight gradients over the extended reals, for any arguments: sums over all rows.
-/
module

public import proofs.«01_k».proof.Proof.CrossBwd

@[expose] public section

set_option maxRecDepth 16384
noncomputable section
open Idealize.ShloMosaic Idealize.ShloMosaic.TcCoe Idealize.SL.Sem
open Idealize.ShloMosaic.Pipeline (Dat)
namespace Cert.CrossIdeal.Value
open Cert.CrossIdeal Cert.CrossIdeal.Gen Cert.Cross Cert.Norm

variable (V : (c : Dev nD) → (b : Ref sig .tc) → Buf (Elt Ideal) ((c : Thread nD τ).loc b))

/-- Row `y` of the block of 1024 rows number `t`. -/
def row8 (t : Fin 8) (y : Fin 1024) : Fin 8192 := ⟨t.val * 1024 + y.val, by omega⟩

/-- Where the output projection's product's blocks lie. -/
theorem idx2 : ∀ t : Fin cfg2.N, win2_0.index t = ![t.val, 0] ∧ win2_1.index t = ![t.val, 0] ∧ win2_2.index t = ![0, 0, 0] :=
  (by decide +kernel : ∀ t : Fin grid2.N, _)

/-- A grid point of that product as a number below 8. -/
def pt2 (t : Fin cfg2.N) : Fin 8 := ⟨t.val, lt_of_lt_of_eq t.isLt N_2⟩

/-- A load of one slice reads what the stores before it left there. -/
theorem rd_slice {sig : RefSig} {κ : Kind} {sp : Space} (v : View sig κ sp S4x512x256 .f32) (L : List (View.Piece (Elt Ideal) S4x512x256 .f32))
    (o : ℕ) (ho : o < 4) (inb : ∀ a, (![o, 0, 0] : Fin 3 → ℕ) a + (![1, 512, 256] : Fin 3 → ℕ) a ≤ S4x512x256.size a) (p : Fin 512) (q : Fin 256) :
    v.readCov L (Rect.unit (s := S4x512x256) ![o, 0, 0] ![1, 512, 256] inb).toLoadRect (ix3 0 p q) = View.canon L (ix3 ⟨o, ho⟩ p q) := by
  rw [View.readCov_eq_canon']
  refine congrArg (View.canon L) (funext fun a => Fin.ext ?_)
  fin_cases a
  · show o + 1 * 0 = o; omega
  · show 0 + 1 * p.val = p.val; omega
  · show 0 + 1 * q.val = q.val; omega

/-- A store to another slice does not matter. -/
theorem canon_skip (L : List (View.Piece (Elt Ideal) S4x512x256 .f32)) (o : ℕ) (j : Fin 4) (hj : j.val ≠ o)
    (inb : ∀ a, (![o, 0, 0] : Fin 3 → ℕ) a + (![1, 512, 256] : Fin 3 → ℕ) a ≤ S4x512x256.size a)
    (w : (Rect.unit (s := S4x512x256) ![o, 0, 0] ![1, 512, 256] inb).shape.Idx → Elt Ideal .f32) (p : Fin 512) (q : Fin 256) :
    View.canon ((⟨Rect.unit (s := S4x512x256) ![o, 0, 0] ![1, 512, 256] inb, w⟩ : View.Piece (Elt Ideal) S4x512x256 .f32) :: L) (ix3 j p q)
      = View.canon L (ix3 j p q) := by
  refine View.canon_cons_of_not_mem _ _ fun hm => ?_
  obtain ⟨x, hx⟩ := (Rect.unit (s := S4x512x256) ![o, 0, 0] ![1, 512, 256] inb).exists_idx_of_mem hm
  have h := congrArg (fun i : S4x512x256.Idx => (i 0).val) hx
  have h' : o + 1 * (x 0).val = j.val := h
  have hl : (x 0).val < 1 := (x 0).isLt
  omega

/-- The store of zeros over the whole buffer. -/
theorem canon_zeros (inb : ∀ a, (![0, 0, 0] : Fin 3 → ℕ) a + (![4, 512, 256] : Fin 3 → ℕ) a ≤ S4x512x256.size a)
    (w : S4x512x256.Idx → Elt Ideal .f32) :
    View.canon [(⟨Rect.unit (s := S4x512x256) ![0, 0, 0] ![4, 512, 256] inb, w⟩ : View.Piece (Elt Ideal) S4x512x256 .f32)] = w :=
  View.canon_cons_unit_lit inb w [] (by decide)

section
variable (c : Dev nD) (t : Fin cfg2.N) (A : FVec Ideal S1024x512 .bf16) (B : FVec Ideal S1024x1024 .f32)
    (a b : Fin 1024 → ℕ → EReal)
    (eA : iblk2 V c 0 t = A) (eB : iblk2 V c 1 t = B)
    (hA : ∀ r k, A (ix2 r k) = a r k.val) (hB : ∀ r n, B (ix2 r n) = b r n.val)

include eA eB hA hB in
/-- The first point starts the sums. -/
theorem out2_2A (h0 : t.val % 8 = 0) (j : Fin 4) (p : Fin 512) (q : Fin 256) :
    (outsAt2 V c t.val t.isLt) (ix3 j p q) = 0 + ∑ r, a r p.val * b r (256 * j.val + q.val) := by
  rw [outsAt2_A V c t h0]; frame_out
  simp only [eA, eB]
  clear h0
  refine (canon_drop _ _ _ _ _ _ (View.cover_of_tiledBy _ ![1, 512, 256] (by sl_kernel_rfl) _)).trans ?_
  canon_tiles x' h
  all_goals
    open_payloads
    idx_vars x'
    pointwise
    obtain rfl : p = x'1 := Fin.ext h1
    obtain rfl : q = x'2 := Fin.ext h2
    simp only [hA, hB]
  case piece0 =>
    obtain rfl : j = 3 := Fin.ext (by simp only [g43]; omega)
    rw [rd_slice _ _ 3 (by decide), canon_skip _ 2 _ (by decide), canon_skip _ 1 _ (by decide), canon_skip _ 0 _ (by decide), canon_zeros]
    pointwise
  case piece1 =>
    obtain rfl : j = 2 := Fin.ext (by simp only [g42]; omega)
    rw [rd_slice _ _ 2 (by decide), canon_skip _ 1 _ (by decide), canon_skip _ 0 _ (by decide), canon_zeros]
    pointwise
  case piece2 =>
    obtain rfl : j = 1 := Fin.ext (by simp only [g41]; omega)
    rw [rd_slice _ _ 1 (by decide), canon_skip _ 0 _ (by decide), canon_zeros]
    pointwise
  case piece3 =>
    obtain rfl : j = 0 := Fin.ext (by simp only [g40]; omega)
    simp only [g40, Nat.mul_zero, Nat.zero_add]
    rw [rd_slice _ _ 0 (by decide), canon_zeros]
    pointwise

include eA eB hA hB in
/-- Every other point adds its rows. -/
theorem out2_2B (h0 : ¬ t.val % 8 = 0) (j : Fin 4) (p : Fin 512) (q : Fin 256) :
    (outsAt2 V c t.val t.isLt) (ix3 j p q) = (outsAt2 V c (t.val - 1) (by omega)) (ix3 j p q) + ∑ r, a r p.val * b r (256 * j.val + q.val) := by
  rw [outsAt2_B V c t h0]; frame_out
  simp only [eA, eB]
  canon_tiles x' h
  all_goals
    open_payloads
    idx_vars x'
    pointwise
    obtain rfl : p = x'1 := Fin.ext h1
    obtain rfl : q = x'2 := Fin.ext h2
    simp only [hA, hB]
  case piece0 => obtain rfl : j = 3 := Fin.ext (by simp only [g43]; omega); rfl
  case piece1 => obtain rfl : j = 2 := Fin.ext (by simp only [g42]; omega); rfl
  case piece2 => obtain rfl : j = 1 := Fin.ext (by simp only [g41]; omega); rfl
  case piece3 =>
    obtain rfl : j = 0 := Fin.ext (by simp only [g40]; omega)
    simp only [g40, Nat.mul_zero, Nat.zero_add]
end

section
variable (c : Dev nD) (A : FVec Ideal S8192x512 .bf16) (B : FVec Ideal S8192x1024 .f32)
    (a b : Fin 8192 → ℕ → EReal)
    (eA : V c main_v8_2 = A) (eB : V c main_arg9 = B)
    (hA : ∀ r k, A (ix2 r k) = a r k.val) (hB : ∀ r n, B (ix2 r n) = b r n.val)

include eA hA in
theorem blk2_0 (t : Fin cfg2.N) (r : Fin 1024) (p : Fin 512) : iblk2 V c 0 t (ix2 r p) = a (row8 (pt2 t) r) p.val := by
  rw [← hA]; subst eA
  obtain ⟨e0, e1, e2⟩ := idx2 t
  blk_ext [iblk2, e0, row8, pt2]

include eB hB in
theorem blk2_1 (t : Fin cfg2.N) (r : Fin 1024) (n : Fin 1024) : iblk2 V c 1 t (ix2 r n) = b (row8 (pt2 t) r) n.val := by
  rw [← hB]; subst eB
  obtain ⟨e0, e1, e2⟩ := idx2 t
  blk_ext [iblk2, e1, row8, pt2]

include eA eB hA hB in
/-- The weight gradient in its four pieces, over all tokens. -/
theorem arr2_2 : (dat2 V c).arrAt 2 cfg2.N = fun i : S4x512x256.Idx => ∑ r : Fin 8192, a r (i 1).val * b r (256 * (i 0).val + (i 2).val) := by
  refine (dat2 V c).arrAt_eq_of_covers 2 _ (by decide +kernel) fun t hf y => ?_
  have hN : t.val < 8 := lt_of_lt_of_eq t.isLt N_2
  obtain ⟨e0, e1, e2⟩ := idx2 t
  blk_simp
  rw [after2_2]
  idx_vars y
  have h := Pipeline.eq_sum_fin_of_reset_step_apply_of_flush (N := cfg2.N)
    (fun n h (i : Fin 4 × Fin 512 × Fin 256) => outsAt2 V c n h (ix3 i.1 i.2.1 i.2.2)) 8 (fun _ => 0)
    (fun t i => ∑ r, a (row8 (pt2 t) r) i.2.1.val * b (row8 (pt2 t) r) (256 * i.1.val + i.2.2.val))
    (fun t h0 i => out2_2A V c t _ _ _ _ rfl rfl (blk2_0 V c A a eA hA t) (blk2_1 V c B b eB hB t) h0 i.1 i.2.1 i.2.2)
    (fun t h0 i => out2_2B V c t _ _ _ _ rfl rfl (blk2_0 V c A a eA hA t) (blk2_1 V c B b eB hB t) h0 i.1 i.2.1 i.2.2)
    t ((flush2_2 t).mp hf) (y0, y1, y2)
  refine h.trans ?_
  rw [zero_add]
  blk_simp [e2]
  refine Fin.sum_mul_add_congr (f := fun r : Fin 8192 => a r y1.val * b r (256 * y0.val + y2.val)) (fun s k hl => ?_)
  have hs : ∀ (p : Fin cfg2.N), p.val = s.val → row8 (pt2 p) k = ⟨s.val * 1024 + k.val, hl⟩ := fun p hp => Fin.ext (by simp only [row8, pt2, hp])
  dsimp only
  rw [hs _ (by dsimp only; omega)]
end

/-- Where the query projection's product's blocks lie. -/
theorem idx5 : ∀ t : Fin cfg5.N, win5_0.index t = ![t.val, 0] ∧ win5_1.index t = ![t.val, 0] ∧ win5_2.index t = ![0, 0, 0] :=
  (by decide +kernel : ∀ t : Fin grid5.N, _)

/-- A grid point of that product as a number below 8. -/
def pt5 (t : Fin cfg5.N) : Fin 8 := ⟨t.val, lt_of_lt_of_eq t.isLt N_5⟩

section
variable (c : Dev nD) (t : Fin cfg5.N) (A : FVec Ideal S1024x1024 .bf16) (B : FVec Ideal S1024x512 .bf16)
    (a : Fin 1024 → Fin 1024 → EReal) (b : Fin 1024 → ℕ → EReal) (eA : iblk5 V c 0 t = A) (eB : iblk5 V c 1 t = B)
    (hA : ∀ r k, A (ix2 r k) = a r k) (hB : ∀ r n, B (ix2 r n) = b r n.val)

include eA eB hA hB in
/-- The first point starts the sums. -/
theorem out5_2A (h0 : t.val % 8 = 0) (p : Fin 1024) (q : Fin 512) :
    (outsAt5 V c t.val t.isLt) (ix3 0 p q) = 0 + ∑ r, a r p * b r q.val := by
  rw [outsAt5_A V c t h0]; frame_out
  simp only [eA, eB]
  pointwise [k5_pay2, k5_pay1]
  simp only [hA, hB]
  try rfl

include eA eB hA hB in
/-- Every other point adds its rows. -/
theorem out5_2B (h0 : ¬ t.val % 8 = 0) (p : Fin 1024) (q : Fin 512) :
    (outsAt5 V c t.val t.isLt) (ix3 0 p q) = (outsAt5 V c (t.val - 1) (by omega)) (ix3 0 p q) + ∑ r, a r p * b r q.val := by
  rw [outsAt5_B V c t h0]; frame_out
  simp only [eA, eB]
  pointwise [k5_pay2]
  simp only [hA, hB]
  try rfl
end

section
variable (c : Dev nD) (A : FVec Ideal S8192x1024 .bf16) (B : FVec Ideal S8192x512 .bf16)
    (a : Fin 8192 → Fin 1024 → EReal) (b : Fin 8192 → ℕ → EReal) (eA : V c main_v8_1 = A) (eB : V c main_v10_0 = B)
    (hA : ∀ r k, A (ix2 r k) = a r k) (hB : ∀ r n, B (ix2 r n) = b r n.val)

include eA hA in
theorem blk5_0 (t : Fin cfg5.N) (r p : Fin 1024) : iblk5 V c 0 t (ix2 r p) = a (row8 (pt5 t) r) p := by
  rw [← hA]; subst eA
  obtain ⟨e0, e1, e2⟩ := idx5 t
  blk_ext [iblk5, e0, row8, pt5]

include eB hB in
theorem blk5_1 (t : Fin cfg5.N) (r : Fin 1024) (n : Fin 512) : iblk5 V c 1 t (ix2 r n) = b (row8 (pt5 t) r) n.val := by
  rw [← hB]; subst eB
  obtain ⟨e0, e1, e2⟩ := idx5 t
  blk_ext [iblk5, e1, row8, pt5]

include eA eB hA hB in
/-- The query projection's weight gradient, over all tokens. -/
theorem arr5_2 : (dat5 V c).arrAt 2 cfg5.N = fun i : S1x1024x512.Idx => ∑ r : Fin 8192, a r (i 1) * b r (i 2).val := by
  refine (dat5 V c).arrAt_eq_of_covers 2 _ (by decide +kernel) fun t hf y => ?_
  have hN : t.val < 8 := lt_of_lt_of_eq t.isLt N_5
  obtain ⟨e0, e1, e2⟩ := idx5 t
  blk_simp
  rw [after5_2]
  idx_vars y
  have hy : y0 = 0 := Subsingleton.elim _ _
  subst hy
  have hk : y1 = (win5_2.blk t).view.emb (ix3 0 y1 y2) 1 := by
    apply Fin.ext; blk_simp [e2]
  rw [← hk]
  have h := Pipeline.eq_sum_fin_of_reset_step_apply_of_flush (N := cfg5.N)
    (fun n h (i : Fin 1024 × Fin 512) => outsAt5 V c n h (ix3 0 i.1 i.2)) 8 (fun _ => 0)
    (fun t i => ∑ r, a (row8 (pt5 t) r) i.1 * b (row8 (pt5 t) r) i.2.val)
    (fun t h0 i => out5_2A V c t _ _ (fun r => a (row8 (pt5 t) r)) (fun r => b (row8 (pt5 t) r)) rfl rfl (blk5_0 V c A a eA hA t) (blk5_1 V c B b eB hB t) h0 i.1 i.2)
    (fun t h0 i => out5_2B V c t _ _ (fun r => a (row8 (pt5 t) r)) (fun r => b (row8 (pt5 t) r)) rfl rfl (blk5_0 V c A a eA hA t) (blk5_1 V c B b eB hB t) h0 i.1 i.2)
    t ((flush5_2 t).mp hf) (y1, y2)
  refine h.trans ?_
  rw [zero_add]
  blk_simp [e2]
  refine Fin.sum_mul_add_congr (f := fun r : Fin 8192 => a r y1 * b r y2.val) (fun s k hl => ?_)
  have hs : ∀ (p : Fin cfg5.N), p.val = s.val → row8 (pt5 p) k = ⟨s.val * 1024 + k.val, hl⟩ := fun p hp => Fin.ext (by simp only [row8, pt5, hp])
  dsimp only
  rw [hs _ (by dsimp only; omega)]
end

/-- Where the memory projection's product's blocks lie. -/
theorem idx7 : ∀ t : Fin cfg7.N, win7_0.index t = ![0, 0] ∧ win7_1.index t = ![0, 0] ∧ win7_2.index t = ![0, 0, 0] :=
  (by decide +kernel : ∀ t : Fin grid7.N, _)

section
variable (c : Dev nD) (A B : FVec Ideal S256x1024 .bf16)
    (a : Fin 256 → Fin 1024 → EReal) (b : Fin 256 → ℕ → EReal) (eA : V c main_v7_1 = A) (eB : V c main_v11_0 = B)
    (hA : ∀ r k, A (ix2 r k) = a r k) (hB : ∀ r n, B (ix2 r n) = b r n.val)

include eA in
theorem blk7_0 (t : Fin cfg7.N) : iblk7 V c 0 t = A := by
  subst eA
  obtain ⟨e0, e1, e2⟩ := idx7 t
  funext y
  blk_ext [iblk7, e0]

include eB in
theorem blk7_1 (t : Fin cfg7.N) : iblk7 V c 1 t = B := by
  subst eB
  obtain ⟨e0, e1, e2⟩ := idx7 t
  funext y
  blk_ext [iblk7, e1]

include eA eB hA hB in
/-- The one point's sums. -/
theorem out7_2 (t : Fin cfg7.N) (p q : Fin 1024) : (outsAt7 V c t) (ix3 0 p q) = ∑ r, a r p * b r q.val := by
  unfold outsAt7; frame_out
  rw [blk7_0 V c A eA t, blk7_1 V c B eB t]
  pointwise [k7_pay2, k7_pay1]
  simp only [hA, hB, zero_add]
  try rfl

include eA eB hA hB in
/-- The memory projection's weight gradient, over all memory rows. -/
theorem arr7_2 : (dat7 V c).arrAt 2 cfg7.N = fun i : S1x1024x1024.Idx => ∑ r : Fin 256, a r (i 1) * b r (i 2).val := by
  refine (dat7 V c).arrAt_eq_of_covers 2 _ (by decide +kernel) fun t hf y => ?_
  obtain ⟨e0, e1, e2⟩ := idx7 t
  blk_simp
  rw [after7_2]
  idx_vars y
  have hy : y0 = 0 := Subsingleton.elim _ _
  subst hy
  have hk : y1 = (win7_2.blk t).view.emb (ix3 0 y1 y2) 1 := by
    apply Fin.ext; blk_simp [e2]
  rw [← hk, out7_2 V c A B a b eA eB hA hB t y1 y2]
  blk_simp [e2]
end
end Cert.CrossIdeal.Value

end
-- ==== Proof.CrossKv.lean ====
/-
  The cross-attention's three calls on the memory over the extended reals, for any arguments: its normalised rows and their
  projection, the gradient in that projection, and the gradient in the memory's gain.
-/
module

public import proofs.«01_k».proof.Proof.CrossBwd

@[expose] public section

set_option maxRecDepth 16384
noncomputable section
open Idealize.ShloMosaic Idealize.ShloMosaic.TcCoe Idealize.SL.Sem
open Idealize.ShloMosaic.Pipeline (Dat)
namespace Cert.CrossIdeal.Value
open Cert.CrossIdeal Cert.CrossIdeal.Gen Cert.Cross Cert.Norm

section
variable (D K : FVec Ideal S256x128 .f32) (L : FVec Ideal S1x128 .f32) (d k : Fin 256 → Fin 128 → EReal) (l : Fin 128 → EReal)
    (hD : ∀ m j, D (ix2 m j) = d m j) (hK : ∀ m j, K (ix2 m j) = k m j) (hL : ∀ j, L (ix2 0 j) = l j)

include hD hK hL in
/-- The gradients in a head's key rows. -/
theorem m_dk (m : Fin 256) (j : Fin 128) : k4_pay7 (F := Ideal) D K L (ix2 m j) = ng c128 (k m) l (d m) j := by
  pointwise [k4_pay7, k4_pay6, k4_pay5, k4_pay4]
  simp only [hD, hK, hL]
  rfl

include hD hK in
/-- What a head adds to the gradient in the keys' gain. -/
theorem m_gk (m : Fin 256) (j : Fin 128) : k4_pay4 (F := Ideal) D (ix2 m j) * k4_pay6 (F := Ideal) K (ix2 m j) = d m j * xh c128 (k m) j := by
  pointwise [k4_pay6, k4_pay5, k4_pay4]
  simp only [hD, hK]
  rfl
end

section
variable (D K : FVec Ideal S256x128 .f32) (L : FVec Ideal S1x128 .f32)
theorem m1_dk : k4_pay12 (F := Ideal) (k4_pay9 D) K L = k4_pay7 D K L := rfl
theorem m2_dk : k4_pay17 (F := Ideal) (k4_pay14 D) L (k4_pay15 K) (k4_pay16 K) = k4_pay7 D K L := rfl
theorem m3_dk : k4_pay1 (F := Ideal) (k4_pay22 D K L) (k4_pay23 K) = k4_pay7 D K L := rfl
end

variable (V : (c : Dev nD) → (b : Ref sig .tc) → Buf (Elt Ideal) ((c : Thread nD τ).loc b))

/-- Where the memory's forward call's blocks lie. -/
theorem idx0 : ∀ t : Fin cfg0.N, win0_0.index t = ![0, 0] ∧ win0_1.index t = ![0, 0, 0] ∧ win0_2.index t = ![0, 0] ∧ win0_3.index t = ![0, 0] ∧ win0_4.index t = ![0, 0] :=
  (by decide +kernel : ∀ t : Fin grid0.N, _)

section
variable (c : Dev nD) (X : FVec Ideal S256x1024 .f32) (W : FVec Ideal S1x1024x1024 .bf16) (G : FVec Ideal S1x1024 .f32)
    (x : Fin 256 → Fin 1024 → EReal) (w : Fin 1024 → ℕ → EReal) (g : Fin 1024 → EReal)
    (eX : V c main_arg1 = X) (eW : V c main_v3 = W) (eG : V c main_arg3 = G)
    (hX : ∀ y k, X (ix2 y k) = x y k) (hW : ∀ k n, W (ix3 0 k n) = w k n.val) (hG : ∀ k, G (ix2 0 k) = g k)

include eX in
theorem blk0_0 (t : Fin cfg0.N) : iblk0 V c 0 t = X := by
  subst eX
  obtain ⟨e0, e1, e2, e3, e4⟩ := idx0 t
  funext y
  blk_ext [iblk0, e0]

include eW in
theorem blk0_1 (t : Fin cfg0.N) : iblk0 V c 1 t = W := by
  subst eW
  obtain ⟨e0, e1, e2, e3, e4⟩ := idx0 t
  funext y
  blk_ext [iblk0, e1]

include eG in
theorem blk0_2 (t : Fin cfg0.N) : iblk0 V c 2 t = G := by
  subst eG
  obtain ⟨e0, e1, e2, e3, e4⟩ := idx0 t
  funext y
  blk_ext [iblk0, e2]

include hX hG in
/-- The normalised memory rows. -/
theorem m_hn (m : Fin 256) (k : Fin 1024) : k0_pay1 (F := Ideal) X G (ix2 m k) = xn c1024 (x m) g k := by
  pointwise [k0_pay1]
  simp only [hX, hG]
  rfl

include hX hW hG in
/-- The projected memory. -/
theorem o0_3 (m : Fin 256) (n : Fin 1024) : out0_3 (F := Ideal) X W G (ix2 m n) = lin (xn c1024 (x m) g) w n.val := by
  unfold out0_3; frame_out
  pointwise [k0_pay2]
  simp only [m_hn X G x g hX hG, hW]
  rfl

include hX hG in
/-- The normalised memory. -/
theorem o0_4 (m : Fin 256) (k : Fin 1024) : out0_4 (F := Ideal) X W G (ix2 m k) = xn c1024 (x m) g k := by
  unfold out0_4; frame_out
  exact m_hn X G x g hX hG m k

include eX eW eG hX hW hG in
/-- The projected memory as the call leaves it. -/
theorem arr0_3 : (dat0 V c).arrAt 3 cfg0.N = fun i : S256x1024.Idx => lin (xn c1024 (x (i 0)) g) w (i 1).val := by
  refine (dat0 V c).arrAt_eq_of_covers 3 _ (by decide +kernel) fun t hf y => ?_
  obtain ⟨e0, e1, e2, e3, e4⟩ := idx0 t
  blk_simp
  rw [after0_3, blk0_0 V c X eX t, blk0_1 V c W eW t, blk0_2 V c G eG t]
  idx_vars y
  have h0 : y0 = (win0_3.blk t).view.emb (ix2 y0 y1) 0 := by
    apply Fin.ext; blk_simp [e3]
  rw [← h0, o0_3 X W G x w g hX hW hG]
  blk_simp [e3]

include eX eG hX hG in
/-- The normalised memory as the call leaves it. -/
theorem arr0_4 : (dat0 V c).arrAt 4 cfg0.N = fun i : S256x1024.Idx => xn c1024 (x (i 0)) g (i 1) := by
  refine (dat0 V c).arrAt_eq_of_covers 4 _ (by decide +kernel) fun t hf y => ?_
  obtain ⟨e0, e1, e2, e3, e4⟩ := idx0 t
  blk_simp
  rw [after0_4, blk0_0 V c X eX t, blk0_2 V c G eG t]
  idx_vars y
  have h0 : y0 = (win0_4.blk t).view.emb (ix2 y0 y1) 0 := by
    apply Fin.ext; blk_simp [e4]
  have h1 : y1 = (win0_4.blk t).view.emb (ix2 y0 y1) 1 := by
    apply Fin.ext; blk_simp [e4]
  rw [← h0, ← h1, o0_4 X _ G x g hX hG]
end

/-- Where the keys' backward call's blocks lie. -/
theorem idx4 : ∀ t : Fin cfg4.N, win4_0.index t = ![0, 0] ∧ win4_1.index t = ![0, 0] ∧ win4_2.index t = ![0, 0] ∧ win4_3.index t = ![0, 0] ∧ win4_4.index t = ![0, 0] ∧ win4_5.index t = ![0, 0] :=
  (by decide +kernel : ∀ t : Fin grid4.N, _)

section
variable (c : Dev nD) (DK DV : FVec Ideal S256x512 .f32) (KV : FVec Ideal S256x1024 .f32) (L : FVec Ideal S1x128 .f32)
    (dk dv kv : Fin 256 → ℕ → EReal) (l : Fin 128 → EReal)
    (eDK : V c main_v10_1 = DK) (eDV : V c main_v10_2 = DV) (eKV : V c main_v7_0 = KV) (eL : V c main_arg7 = L)
    (hDK : ∀ m n, DK (ix2 m n) = dk m n.val) (hDV : ∀ m n, DV (ix2 m n) = dv m n.val) (hKV : ∀ m n, KV (ix2 m n) = kv m n.val)
    (hL : ∀ j, L (ix2 0 j) = l j)

theorem dkv_key (l : Fin 128 → EReal) (kv dk dv : ℕ → EReal) (h : ℕ) (hh : h < 4) (j : Fin 128) :
    dkv l kv dk dv (128 * h + j.val) = ng c128 (hd kv (128 * h)) l (hd dk (128 * h)) j := by
  unfold dkv
  rw [if_pos (by omega), cat_at]

theorem dkv_val (l : Fin 128 → EReal) (kv dk dv : ℕ → EReal) (n : ℕ) : dkv l kv dk dv (512 + n) = dv n := by
  unfold dkv
  rw [if_neg (by omega), Nat.add_sub_cancel_left]

include eDK in
theorem blk4_0 (t : Fin cfg4.N) : iblk4 V c 0 t = DK := by
  subst eDK
  obtain ⟨e0, e1, e2, e3, e4, e5⟩ := idx4 t
  funext y
  blk_ext [iblk4, e0]

include eDV in
theorem blk4_1 (t : Fin cfg4.N) : iblk4 V c 1 t = DV := by
  subst eDV
  obtain ⟨e0, e1, e2, e3, e4, e5⟩ := idx4 t
  funext y
  blk_ext [iblk4, e1]

include eKV in
theorem blk4_2 (t : Fin cfg4.N) : iblk4 V c 2 t = KV := by
  subst eKV
  obtain ⟨e0, e1, e2, e3, e4, e5⟩ := idx4 t
  funext y
  blk_ext [iblk4, e2]

include eL in
theorem blk4_3 (t : Fin cfg4.N) : iblk4 V c 3 t = L := by
  subst eL
  obtain ⟨e0, e1, e2, e3, e4, e5⟩ := idx4 t
  funext y
  blk_ext [iblk4, e3]

include eDK eDV eKV eL hDK hDV hKV hL in
/-- The gradient in the projected memory. -/
theorem out4_4 (t : Fin cfg4.N) (m : Fin 256) (n : Fin 1024) : (outsAt4 V c t).1 (ix2 m n) = dkv l (kv m) (dk m) (dv m) n.val := by
  unfold outsAt4; dsimp only []; frame_out
  rw [blk4_0 V c DK eDK t, blk4_1 V c DV eDV t, blk4_2 V c KV eKV t, blk4_3 V c L eL t]
  canon_tiles x' h using View.cover_of_tiledBy _ ![256, 128] (by sl_kernel_rfl) _
  · idx_vars x'
    obtain rfl : m = x'0 := Fin.ext h0
    rw [show n.val = 512 + x'1.val by omega, dkv_val]
    pointwise [k4_pay3]
    simp only [hDV, Nat.zero_add]
  · idx_vars x'
    obtain rfl : m = x'0 := Fin.ext h0
    rw [m3_dk]
    rw [show n.val = 128 * 3 + x'1.val by omega, dkv_key l _ _ _ 3 (by omega)]
    refine m_dk _ _ L (fun m => hd (dk m) (128 * 3)) (fun m => hd (kv m) (128 * 3)) l ?_ ?_ hL m x'1
    all_goals
      intro p r
      pointwise
      simp only [hDK, hKV, hd, Nat.reduceMul, Nat.zero_add]
  · idx_vars x'
    obtain rfl : m = x'0 := Fin.ext h0
    rw [m2_dk]
    rw [show n.val = 128 * 2 + x'1.val by omega, dkv_key l _ _ _ 2 (by omega)]
    refine m_dk _ _ L (fun m => hd (dk m) (128 * 2)) (fun m => hd (kv m) (128 * 2)) l ?_ ?_ hL m x'1
    all_goals
      intro p r
      pointwise
      simp only [hDK, hKV, hd, Nat.reduceMul, Nat.zero_add]
  · idx_vars x'
    obtain rfl : m = x'0 := Fin.ext h0
    rw [m1_dk]
    rw [show n.val = 128 * 1 + x'1.val by omega, dkv_key l _ _ _ 1 (by omega)]
    refine m_dk _ _ L (fun m => hd (dk m) (128 * 1)) (fun m => hd (kv m) (128 * 1)) l ?_ ?_ hL m x'1
    all_goals
      intro p r
      pointwise
      simp only [hDK, hKV, hd, Nat.reduceMul, Nat.zero_add]
  · idx_vars x'
    obtain rfl : m = x'0 := Fin.ext h0
    rw [show n.val = 128 * 0 + x'1.val by omega, dkv_key l _ _ _ 0 (by omega)]
    refine m_dk _ _ L (fun m => hd (dk m) (128 * 0)) (fun m => hd (kv m) (128 * 0)) l ?_ ?_ hL m x'1
    all_goals
      intro p r
      pointwise
      simp only [hDK, hKV, hd, Nat.reduceMul, Nat.zero_add]

include eDK eKV hDK hKV in
/-- The gradient in the keys' gain. -/
theorem out4_5 (t : Fin cfg4.N) (j : Fin 128) : (outsAt4 V c t).2 (ix2 0 j)
    = ∑ h : Fin 4, ∑ m, hd (dk m) (128 * h.val) j * xh c128 (hd (kv m) (128 * h.val)) j := by
  unfold outsAt4; dsimp only []; frame_out
  rw [blk4_0 V c DK eDK t, blk4_2 V c KV eKV t]
  rw [Fin.sum_univ_four, g40, g41, g42, g43]
  pointwise [k4_pay2, k4_pay18, k4_pay13, k4_pay8, k4_pay4, k4_pay9, k4_pay14, k4_pay19, k4_pay6, k4_pay5, k4_pay11, k4_pay10, k4_pay16, k4_pay15, k4_pay21, k4_pay20]
  simp only [hDK, hKV, zero_add]
  simp only [hd, xh, rr, ms, Nat.reduceMul, Nat.zero_add]
  try rfl

include eDK eDV eKV eL hDK hDV hKV hL in
/-- The gradient in the projected memory as the call leaves it. -/
theorem arr4_4 : (dat4 V c).arrAt 4 cfg4.N = fun i : S256x1024.Idx => dkv l (kv (i 0)) (dk (i 0)) (dv (i 0)) (i 1).val := by
  refine (dat4 V c).arrAt_eq_of_covers 4 _ (by decide +kernel) fun t hf y => ?_
  obtain ⟨e0, e1, e2, e3, e4, e5⟩ := idx4 t
  blk_simp
  rw [after4_4]
  idx_vars y
  have h0 : y0 = (win4_4.blk t).view.emb (ix2 y0 y1) 0 := by
    apply Fin.ext; blk_simp [e4]
  rw [← h0, out4_4 V c DK DV KV L dk dv kv l eDK eDV eKV eL hDK hDV hKV hL]
  blk_simp [e4]

include eDK eKV hDK hKV in
/-- The gradient in the keys' gain as the call leaves it. -/
theorem arr4_5 : (dat4 V c).arrAt 5 cfg4.N = fun i : S1x128.Idx =>
    ∑ h : Fin 4, ∑ m, hd (dk m) (128 * h.val) (i 1) * xh c128 (hd (kv m) (128 * h.val)) (i 1) := by
  refine (dat4 V c).arrAt_eq_of_covers 5 _ (by decide +kernel) fun t hf y => ?_
  obtain ⟨e0, e1, e2, e3, e4, e5⟩ := idx4 t
  blk_simp
  rw [after4_5]
  idx_vars y
  have hy : y0 = 0 := Subsingleton.elim _ _
  subst hy
  have h1 : y1 = (win4_5.blk t).view.emb (ix2 0 y1) 1 := by
    apply Fin.ext; blk_simp [e5]
  rw [← h1, out4_5 V c DK KV dk kv eDK eKV hDK hKV]
end

/-- Where the memory's backward call's blocks lie. -/
theorem idx6 : ∀ t : Fin cfg6.N, win6_0.index t = ![0, 0] ∧ win6_1.index t = ![0, 0, 0] ∧ win6_2.index t = ![0, 0] ∧ win6_3.index t = ![0, 0] ∧ win6_4.index t = ![0, 0] ∧ win6_5.index t = ![0, 0] :=
  (by decide +kernel : ∀ t : Fin grid6.N, _)

section
variable (c : Dev nD) (D : FVec Ideal S256x1024 .bf16) (W : FVec Ideal S1x1024x1024 .bf16) (X : FVec Ideal S256x1024 .f32)
    (d : Fin 256 → ℕ → EReal) (w : Fin 1024 → ℕ → EReal) (x : Fin 256 → Fin 1024 → EReal)
    (eD : V c main_v11_0 = D) (eW : V c main_v3 = W) (eX : V c main_arg1 = X)
    (hD : ∀ m n, D (ix2 m n) = d m n.val) (hW : ∀ k n, W (ix3 0 k n) = w k n.val) (hX : ∀ y k, X (ix2 y k) = x y k)

include eD in
theorem blk6_0 (t : Fin cfg6.N) : iblk6 V c 0 t = D := by
  subst eD
  obtain ⟨e0, e1, e2, e3, e4, e5⟩ := idx6 t
  funext y
  blk_ext [iblk6, e0]

include eW in
theorem blk6_1 (t : Fin cfg6.N) : iblk6 V c 1 t = W := by
  subst eW
  obtain ⟨e0, e1, e2, e3, e4, e5⟩ := idx6 t
  funext y
  blk_ext [iblk6, e1]

include eX in
theorem blk6_2 (t : Fin cfg6.N) : iblk6 V c 2 t = X := by
  subst eX
  obtain ⟨e0, e1, e2, e3, e4, e5⟩ := idx6 t
  funext y
  blk_ext [iblk6, e2]

include eD eW eX hD hW hX in
/-- The gradient in the memory's gain. -/
theorem out6_5 (t : Fin cfg6.N) (k : Fin 1024) : (outsAt6 V c t).2 (ix2 0 k) = ∑ m, dmn (d m) w k * xh c1024 (x m) k := by
  unfold outsAt6; dsimp only []; frame_out
  rw [blk6_0 V c D eD t, blk6_1 V c W eW t, blk6_2 V c X eX t]
  pointwise [k6_pay1, k6_pay2, k6_pay4, k6_pay3, k6_pay6]
  simp only [hD, hW, hX, zero_add]
  rfl

include eD eW eX hD hW hX in
/-- The gradient in the memory's gain as the call leaves it. -/
theorem arr6_5 : (dat6 V c).arrAt 5 cfg6.N = fun i : S1x1024.Idx => ∑ m, dmn (d m) w (i 1) * xh c1024 (x m) (i 1) := by
  refine (dat6 V c).arrAt_eq_of_covers 5 _ (by decide +kernel) fun t hf y => ?_
  obtain ⟨e0, e1, e2, e3, e4, e5⟩ := idx6 t
  blk_simp
  rw [after6_5]
  idx_vars y
  have hy : y0 = 0 := Subsingleton.elim _ _
  subst hy
  have h1 : y1 = (win6_5.blk t).view.emb (ix2 0 y1) 1 := by
    apply Fin.ext; blk_simp [e5]
  rw [← h1, out6_5 V c D W X d w x eD eW eX hD hW hX]
end

end Cert.CrossIdeal.Value

end
-- ==== Proof.CrossVal.lean ====
/-
  The contents of the cross-attention's buffers from call to call, over the extended reals, down to the nine results.
-/
module

public import proofs.«01_k».proof.Proof.CrossRef
public import proofs.«01_k».proof.Proof.CrossFwd
public import proofs.«01_k».proof.Proof.CrossArr
public import proofs.«01_k».proof.Proof.CrossMm
public import proofs.«01_k».proof.Proof.CrossKv

@[expose] public section

set_option maxRecDepth 16384
noncomputable section
open Idealize.ShloMosaic Idealize.ShloMosaic.TcCoe Idealize.SL.Sem
namespace Cert.CrossIdeal.Value
open Cert.CrossIdeal Cert.CrossIdeal.Gen Cert.Cross Cert.Norm Cert.CrossRefIdeal.Value

variable (m : (ℓ : Loc nD τ sig) → Buf (Elt Ideal) ℓ) (ρ : Dev nD → PrngReg) (c : Dev nD)

/-- The query projection as the calls take it. -/
theorem v1_val (X : FVec Ideal S1024x512 .f32) (e : m ((c : Thread nD τ).loc main_arg4) = X) (w : Fin 1024 → ℕ → EReal)
    (hX : ∀ k n, X (ix2 k n) = w k n.val) :
    ∃ W : FVec Ideal S1x1024x512 .bf16, V1 m ρ c main_v1 = W ∧ ∀ k n, W (ix3 0 k n) = w k n.val := by
  have h : V1 m ρ c main_v1 = shapeCast S1x1024x512 (truncf .bf16 X bitsLt_bf16_f32 : FVec Ideal S1024x512 .bf16)
      shapeCasts_S1024x512_S1x1024x512 := by
    subst e
    show StableHlo.after hostOps0 (W0 m ρ c) (Proc.devRef .tc main_v1) = _
    after_results_simp
    rfl
  refine ⟨_, h, fun k n => ?_⟩
  pointwise
  rw [hX]

/-- The projection of the memory as the calls take it. -/
theorem v3_val (X : FVec Ideal S1024x1024 .f32) (e : m ((c : Thread nD τ).loc main_arg5) = X) (w : Fin 1024 → ℕ → EReal)
    (hX : ∀ k n, X (ix2 k n) = w k n.val) :
    ∃ W : FVec Ideal S1x1024x1024 .bf16, V1 m ρ c main_v3 = W ∧ ∀ k n, W (ix3 0 k n) = w k n.val := by
  have h : V1 m ρ c main_v3 = shapeCast S1x1024x1024 (truncf .bf16 X bitsLt_bf16_f32 : FVec Ideal S1024x1024 .bf16)
      shapeCasts_S1024x1024_S1x1024x1024 := by
    subst e
    show StableHlo.after hostOps0 (W0 m ρ c) (Proc.devRef .tc main_v3) = _
    after_results_simp
    rfl
  refine ⟨_, h, fun k n => ?_⟩
  pointwise
  rw [hX]

/-- The output projection as the calls take it: four blocks of 256 columns. -/
theorem v6_val (X : FVec Ideal S512x1024 .f32) (e : m ((c : Thread nD τ).loc main_arg8) = X) (w : ℕ → ℕ → EReal)
    (hX : ∀ n k, X (ix2 n k) = w n.val k.val) :
    ∃ W : FVec Ideal S4x512x256 .bf16, V1 m ρ c main_v6 = W ∧ ∀ j n d, W (ix3 j n d) = w n.val (256 * j.val + d.val) := by
  have h : V1 m ρ c main_v6 = transpose S4x512x256 [1, 0, 2]
      (shapeCast S512x4x256 (truncf .bf16 X bitsLt_bf16_f32 : FVec Ideal S512x1024 .bf16) shapeCasts_S512x1024_S512x4x256)
      transposes_S512x4x256_S4x512x256_1_0_2 := by
    subst e
    show StableHlo.after hostOps0 (W0 m ρ c) (Proc.devRef .tc main_v6) = _
    after_results_simp
    rfl
  refine ⟨_, h, fun j n d => ?_⟩
  pointwise
  rw [hX, Nat.mul_comm 256]

/-- The query projection's gradient as it is returned. -/
theorem v15_val (v : Fin 1024 → ℕ → EReal)
    (e : W9 m ρ c (Proc.devRef .tc main_v12) = fun i : S1x1024x512.Idx => v (i 1) (i 2).val) :
    W10 m ρ c (Proc.devRef .tc main_v15) = fun i : S1024x512.Idx => v (i 0) (i 1).val := by
  have h : W10 m ρ c (Proc.devRef .tc main_v15) = shapeCast S1024x512
      (fun i : S1x1024x512.Idx => v (i 1) (i 2).val : FVec Ideal S1x1024x512 .f32) shapeCasts_S1x1024x512_S1024x512 := by
    rw [← e]
    show StableHlo.after hostOps8 (W9 m ρ c) (Proc.devRef .tc main_v15) = _
    after_results_simp
    rfl
  rw [h]
  funext i
  idx_vars i
  pointwise

/-- The gradient of the memory's projection as it is returned. -/
theorem v16_val (v : Fin 1024 → ℕ → EReal)
    (e : W9 m ρ c (Proc.devRef .tc main_v14) = fun i : S1x1024x1024.Idx => v (i 1) (i 2).val) :
    W10 m ρ c (Proc.devRef .tc main_v16) = fun i : S1024x1024.Idx => v (i 0) (i 1).val := by
  have h : W10 m ρ c (Proc.devRef .tc main_v16) = shapeCast S1024x1024
      (fun i : S1x1024x1024.Idx => v (i 1) (i 2).val : FVec Ideal S1x1024x1024 .f32) shapeCasts_S1x1024x1024_S1024x1024 := by
    rw [← e]
    show StableHlo.after hostOps8 (W9 m ρ c) (Proc.devRef .tc main_v16) = _
    after_results_simp
    rfl
  rw [h]
  funext i
  idx_vars i
  pointwise

/-- The output projection's gradient as it is returned. -/
theorem v18_val (u : ℕ → ℕ → EReal)
    (e : W9 m ρ c (Proc.devRef .tc main_v9) = fun i : S4x512x256.Idx => u (i 1).val (256 * (i 0).val + (i 2).val)) :
    W10 m ρ c (Proc.devRef .tc main_v18) = fun i : S512x1024.Idx => u (i 0).val (i 1).val := by
  have h : W10 m ρ c (Proc.devRef .tc main_v18) = shapeCast S512x1024 (transpose S512x4x256 [1, 0, 2]
      (fun i : S4x512x256.Idx => u (i 1).val (256 * (i 0).val + (i 2).val) : FVec Ideal S4x512x256 .f32) transposes_S4x512x256_S512x4x256_1_0_2)
      shapeCasts_S512x4x256_S512x1024 := by
    rw [← e]
    show StableHlo.after hostOps8 (W9 m ρ c) (Proc.devRef .tc main_v18) = _
    after_results_simp
    rfl
  rw [h]
  funext i
  idx_vars i
  pointwise
  exact congrArg _ (by omega)

/-- The memory the kernel starts from holds the arguments. -/
structure Args (X : FVec Ideal S8192x1024 .f32) (M : FVec Ideal S256x1024 .f32) (GX GM : FVec Ideal S1x1024 .f32)
    (WQ : FVec Ideal S1024x512 .f32) (WK : FVec Ideal S1024x1024 .f32) (G L : FVec Ideal S1x128 .f32)
    (WO : FVec Ideal S512x1024 .f32) (E : FVec Ideal S8192x1024 .f32) : Prop where
  e0 : m ((c : Thread nD τ).loc main_arg0) = X
  e1 : m ((c : Thread nD τ).loc main_arg1) = M
  e2 : m ((c : Thread nD τ).loc main_arg2) = GX
  e3 : m ((c : Thread nD τ).loc main_arg3) = GM
  e4 : m ((c : Thread nD τ).loc main_arg4) = WQ
  e5 : m ((c : Thread nD τ).loc main_arg5) = WK
  e6 : m ((c : Thread nD τ).loc main_arg6) = G
  e7 : m ((c : Thread nD τ).loc main_arg7) = L
  e8 : m ((c : Thread nD τ).loc main_arg8) = WO
  e9 : m ((c : Thread nD τ).loc main_arg9) = E

variable {I : Inp} {X : FVec Ideal S8192x1024 .f32} {M : FVec Ideal S256x1024 .f32} {GX GM : FVec Ideal S1x1024 .f32}
    {WQ : FVec Ideal S1024x512 .f32} {WK : FVec Ideal S1024x1024 .f32} {G L : FVec Ideal S1x128 .f32}
    {WO : FVec Ideal S512x1024 .f32} {E : FVec Ideal S8192x1024 .f32}
    (A : Args m c X M GX GM WQ WK G L WO E) (H : Of I X M GX GM WQ WK G L WO E)

include A H

/-- The memory's keys and values. -/
theorem kv_at : W2 m ρ c (Proc.devRef .tc main_v7_0) = fun i : S256x1024.Idx => I.kv (i 0) (i 1).val := by
  obtain ⟨WK', eWK', hWK'⟩ := v3_val m ρ c WK A.e5 I.wkv H.hWK
  exact (W2_arr m ρ c 3).trans (arr0_3 (V1 m ρ) c M WK' GM I.mem I.wkv I.gm ((W1_args m ρ c main_arg1 (by decide)).trans A.e1) eWK' ((W1_args m ρ c main_arg3 (by decide)).trans A.e3) H.hM hWK' H.hGM)

/-- The memory's normalised rows. -/
theorem mn_at : W2 m ρ c (Proc.devRef .tc main_v7_1) = fun i : S256x1024.Idx => xn c1024 (I.mem (i 0)) I.gm (i 1) := by
  exact (W2_arr m ρ c 4).trans (arr0_4 (V1 m ρ) c M GM I.mem I.gm ((W1_args m ρ c main_arg1 (by decide)).trans A.e1) ((W1_args m ρ c main_arg3 (by decide)).trans A.e3) H.hM H.hGM)

/-- The tokens' query rows. -/
theorem q_at : W3 m ρ c (Proc.devRef .tc main_v8_0) = fun i : S8192x512.Idx => I.q (i 0) (i 1).val := by
  obtain ⟨WQ', eWQ', hWQ'⟩ := v1_val m ρ c WQ A.e4 I.wq H.hWQ
  exact (W3_arr m ρ c 7).trans (arr1_7 (V2 m ρ) c X GX WQ' I.x I.gx I.wq ((W2_args m ρ c main_arg0 (by decide)).trans A.e0) ((W2_args m ρ c main_arg2 (by decide)).trans A.e2) ((W2_of m ρ c main_v1 (by decide)).trans eWQ') H.hX H.hGX hWQ')

/-- The tokens' normalised rows. -/
theorem hn_at : W3 m ρ c (Proc.devRef .tc main_v8_1) = fun i : S8192x1024.Idx => xn c1024 (I.x (i 0)) I.gx (i 1) := by
  exact (W3_arr m ρ c 8).trans (arr1_8 (V2 m ρ) c X GX I.x I.gx ((W2_args m ρ c main_arg0 (by decide)).trans A.e0) ((W2_args m ρ c main_arg2 (by decide)).trans A.e2) H.hX H.hGX)

/-- The tokens' attended rows. -/
theorem att_at : W3 m ρ c (Proc.devRef .tc main_v8_2) = fun i : S8192x512.Idx => I.xo (i 0) (i 1).val := by
  obtain ⟨WQ', eWQ', hWQ'⟩ := v1_val m ρ c WQ A.e4 I.wq H.hWQ
  exact (W3_arr m ρ c 9).trans (arr1_9 (V2 m ρ) c X GX WQ' _ G L I.x I.gx I.wq I.kv I.g I.l ((W2_args m ρ c main_arg0 (by decide)).trans A.e0) ((W2_args m ρ c main_arg2 (by decide)).trans A.e2) ((W2_of m ρ c main_v1 (by decide)).trans eWQ')
    (kv_at m ρ c A H) ((W2_args m ρ c main_arg6 (by decide)).trans A.e6) ((W2_args m ρ c main_arg7 (by decide)).trans A.e7) H.hX H.hGX hWQ' (fun _ _ => rfl) H.hG H.hL)

/-- The tokens' rows after the cross-attention. -/
theorem h2_at : W3 m ρ c (Proc.devRef .tc main_v8_3) = fun i : S8192x1024.Idx => res (I.x (i 0)) (I.xo (i 0)) I.wo (i 1) := by
  obtain ⟨WQ', eWQ', hWQ'⟩ := v1_val m ρ c WQ A.e4 I.wq H.hWQ
  obtain ⟨WO', eWO', hWO'⟩ := v6_val m ρ c WO A.e8 I.wo H.hWO
  exact (W3_arr m ρ c 10).trans (arr1_10 (V2 m ρ) c X GX WQ' _ G L WO' I.x I.gx I.wq I.kv I.g I.l I.wo ((W2_args m ρ c main_arg0 (by decide)).trans A.e0) ((W2_args m ρ c main_arg2 (by decide)).trans A.e2) ((W2_of m ρ c main_v1 (by decide)).trans eWQ')
    (kv_at m ρ c A H) ((W2_args m ρ c main_arg6 (by decide)).trans A.e6) ((W2_args m ρ c main_arg7 (by decide)).trans A.e7) ((W2_of m ρ c main_v6 (by decide)).trans eWO') H.hX H.hGX hWQ' (fun _ _ => rfl) H.hG H.hL hWO')

/-- The output projection's gradient, four blocks of columns. -/
theorem go_at : W4 m ρ c (Proc.devRef .tc main_v9) = fun i : S4x512x256.Idx => ∑ r, I.xo r (i 1).val * I.e r (256 * (i 0).val + (i 2).val) := by
  exact (W4_arr m ρ c 2).trans (arr2_2 (V3 m ρ) c _ E I.xo I.e (att_at m ρ c A H) ((W3_args m ρ c main_arg9 (by decide)).trans A.e9) (fun _ _ => rfl) H.hE)

/-- The gradient in the query rows. -/
theorem dq_at : W5 m ρ c (Proc.devRef .tc main_v10_0) = fun i : S8192x512.Idx => I.dq (i 0) (i 1).val := by
  obtain ⟨WO', eWO', hWO'⟩ := v6_val m ρ c WO A.e8 I.wo H.hWO
  exact (W5_arr m ρ c 9).trans (arr3_9 (V4 m ρ) c E WO' _ _ G L I.e I.wo I.q I.kv I.g I.l ((W4_args m ρ c main_arg9 (by decide)).trans A.e9) ((((W4_of m ρ c main_v6 (by decide)).trans (W3_of m ρ c main_v6 (by decide))).trans (W2_of m ρ c main_v6 (by decide))).trans eWO') ((W4_of m ρ c main_v8_0 (by decide)).trans (q_at m ρ c A H))
    (((W4_of m ρ c main_v7_0 (by decide)).trans (W3_of m ρ c main_v7_0 (by decide))).trans (kv_at m ρ c A H)) ((W4_args m ρ c main_arg6 (by decide)).trans A.e6) ((W4_args m ρ c main_arg7 (by decide)).trans A.e7) H.hE hWO' (fun _ _ => rfl) (fun _ _ => rfl) H.hG H.hL)

/-- The gradient in the normalised keys. -/
theorem dk_at : W5 m ρ c (Proc.devRef .tc main_v10_1) = fun i : S256x512.Idx => I.dk (i 0) (i 1).val := by
  obtain ⟨WO', eWO', hWO'⟩ := v6_val m ρ c WO A.e8 I.wo H.hWO
  exact (W5_arr m ρ c 10).trans (arr3_10 (V4 m ρ) c E WO' _ _ G L I.e I.wo I.q I.kv I.g I.l ((W4_args m ρ c main_arg9 (by decide)).trans A.e9) ((((W4_of m ρ c main_v6 (by decide)).trans (W3_of m ρ c main_v6 (by decide))).trans (W2_of m ρ c main_v6 (by decide))).trans eWO') ((W4_of m ρ c main_v8_0 (by decide)).trans (q_at m ρ c A H))
    (((W4_of m ρ c main_v7_0 (by decide)).trans (W3_of m ρ c main_v7_0 (by decide))).trans (kv_at m ρ c A H)) ((W4_args m ρ c main_arg6 (by decide)).trans A.e6) ((W4_args m ρ c main_arg7 (by decide)).trans A.e7) H.hE hWO' (fun _ _ => rfl) (fun _ _ => rfl) H.hG H.hL)

/-- The gradient in the values. -/
theorem dv_at : W5 m ρ c (Proc.devRef .tc main_v10_2) = fun i : S256x512.Idx => I.dv (i 0) (i 1).val := by
  obtain ⟨WO', eWO', hWO'⟩ := v6_val m ρ c WO A.e8 I.wo H.hWO
  exact (W5_arr m ρ c 11).trans (arr3_11 (V4 m ρ) c E WO' _ _ G L I.e I.wo I.q I.kv I.g I.l ((W4_args m ρ c main_arg9 (by decide)).trans A.e9) ((((W4_of m ρ c main_v6 (by decide)).trans (W3_of m ρ c main_v6 (by decide))).trans (W2_of m ρ c main_v6 (by decide))).trans eWO') ((W4_of m ρ c main_v8_0 (by decide)).trans (q_at m ρ c A H))
    (((W4_of m ρ c main_v7_0 (by decide)).trans (W3_of m ρ c main_v7_0 (by decide))).trans (kv_at m ρ c A H)) ((W4_args m ρ c main_arg6 (by decide)).trans A.e6) ((W4_args m ρ c main_arg7 (by decide)).trans A.e7) H.hE hWO' (fun _ _ => rfl) (fun _ _ => rfl) H.hG H.hL)

/-- The gradient in the queries' gain. -/
theorem gq_at : W5 m ρ c (Proc.devRef .tc main_v10_3) = fun i : S1x128.Idx => ∑ r, gqr I.g I.l I.kv (I.q r) (I.o r) (i 1) := by
  obtain ⟨WO', eWO', hWO'⟩ := v6_val m ρ c WO A.e8 I.wo H.hWO
  exact (W5_arr m ρ c 12).trans (arr3_12 (V4 m ρ) c E WO' _ _ G L I.e I.wo I.q I.kv I.g I.l ((W4_args m ρ c main_arg9 (by decide)).trans A.e9) ((((W4_of m ρ c main_v6 (by decide)).trans (W3_of m ρ c main_v6 (by decide))).trans (W2_of m ρ c main_v6 (by decide))).trans eWO') ((W4_of m ρ c main_v8_0 (by decide)).trans (q_at m ρ c A H))
    (((W4_of m ρ c main_v7_0 (by decide)).trans (W3_of m ρ c main_v7_0 (by decide))).trans (kv_at m ρ c A H)) ((W4_args m ρ c main_arg6 (by decide)).trans A.e6) ((W4_args m ρ c main_arg7 (by decide)).trans A.e7) H.hE hWO' (fun _ _ => rfl) (fun _ _ => rfl) H.hG H.hL)

/-- The gradient in the tokens' rows. -/
theorem dh_at : W5 m ρ c (Proc.devRef .tc main_v10_4) = fun i : S8192x1024.Idx => ng c1024 (I.x (i 0)) I.gx (dhn (I.dq (i 0)) I.wq) (i 1) + I.e (i 0) (i 1).val := by
  obtain ⟨WO', eWO', hWO'⟩ := v6_val m ρ c WO A.e8 I.wo H.hWO
  obtain ⟨WQ', eWQ', hWQ'⟩ := v1_val m ρ c WQ A.e4 I.wq H.hWQ
  exact (W5_arr m ρ c 13).trans (arr3_13 (V4 m ρ) c E WO' _ _ G L WQ' X GX I.e I.wo I.q I.kv I.g I.l I.wq I.x I.gx ((W4_args m ρ c main_arg9 (by decide)).trans A.e9) ((((W4_of m ρ c main_v6 (by decide)).trans (W3_of m ρ c main_v6 (by decide))).trans (W2_of m ρ c main_v6 (by decide))).trans eWO') ((W4_of m ρ c main_v8_0 (by decide)).trans (q_at m ρ c A H))
    (((W4_of m ρ c main_v7_0 (by decide)).trans (W3_of m ρ c main_v7_0 (by decide))).trans (kv_at m ρ c A H)) ((W4_args m ρ c main_arg6 (by decide)).trans A.e6) ((W4_args m ρ c main_arg7 (by decide)).trans A.e7)
    ((((W4_of m ρ c main_v1 (by decide)).trans (W3_of m ρ c main_v1 (by decide))).trans (W2_of m ρ c main_v1 (by decide))).trans eWQ') ((W4_args m ρ c main_arg0 (by decide)).trans A.e0) ((W4_args m ρ c main_arg2 (by decide)).trans A.e2) H.hE hWO' (fun _ _ => rfl) (fun _ _ => rfl) H.hG H.hL hWQ' H.hX H.hGX)

/-- The gradient in the tokens' gain. -/
theorem gx_at : W5 m ρ c (Proc.devRef .tc main_v10_5) = fun i : S1x1024.Idx => ∑ r, dhn (I.dq r) I.wq (i 1) * xh c1024 (I.x r) (i 1) := by
  obtain ⟨WO', eWO', hWO'⟩ := v6_val m ρ c WO A.e8 I.wo H.hWO
  obtain ⟨WQ', eWQ', hWQ'⟩ := v1_val m ρ c WQ A.e4 I.wq H.hWQ
  exact (W5_arr m ρ c 14).trans (arr3_14 (V4 m ρ) c E WO' _ _ G L WQ' X I.e I.wo I.q I.kv I.g I.l I.wq I.x ((W4_args m ρ c main_arg9 (by decide)).trans A.e9) ((((W4_of m ρ c main_v6 (by decide)).trans (W3_of m ρ c main_v6 (by decide))).trans (W2_of m ρ c main_v6 (by decide))).trans eWO') ((W4_of m ρ c main_v8_0 (by decide)).trans (q_at m ρ c A H))
    (((W4_of m ρ c main_v7_0 (by decide)).trans (W3_of m ρ c main_v7_0 (by decide))).trans (kv_at m ρ c A H)) ((W4_args m ρ c main_arg6 (by decide)).trans A.e6) ((W4_args m ρ c main_arg7 (by decide)).trans A.e7)
    ((((W4_of m ρ c main_v1 (by decide)).trans (W3_of m ρ c main_v1 (by decide))).trans (W2_of m ρ c main_v1 (by decide))).trans eWQ') ((W4_args m ρ c main_arg0 (by decide)).trans A.e0) H.hE hWO' (fun _ _ => rfl) (fun _ _ => rfl) H.hG H.hL hWQ' H.hX)

/-- The gradient in the memory's keys and values. -/
theorem dkv_at : W6 m ρ c (Proc.devRef .tc main_v11_0) = fun i : S256x1024.Idx => I.dkv (i 0) (i 1).val := by
  exact (W6_arr m ρ c 4).trans (arr4_4 (V5 m ρ) c _ _ _ L I.dk I.dv I.kv I.l (dk_at m ρ c A H) (dv_at m ρ c A H)
    ((((W5_of m ρ c main_v7_0 (by decide)).trans (W4_of m ρ c main_v7_0 (by decide))).trans (W3_of m ρ c main_v7_0 (by decide))).trans (kv_at m ρ c A H)) ((W5_args m ρ c main_arg7 (by decide)).trans A.e7) (fun _ _ => rfl) (fun _ _ => rfl) (fun _ _ => rfl) H.hL)

/-- The gradient in the keys' gain. -/
theorem gk_at : W6 m ρ c (Proc.devRef .tc main_v11_1) = fun i : S1x128.Idx => ∑ h : Fin 4, ∑ m, hd (I.dk m) (128 * h.val) (i 1) * xh c128 (hd (I.kv m) (128 * h.val)) (i 1) := by
  exact (W6_arr m ρ c 5).trans (arr4_5 (V5 m ρ) c _ _ I.dk I.kv (dk_at m ρ c A H)
    ((((W5_of m ρ c main_v7_0 (by decide)).trans (W4_of m ρ c main_v7_0 (by decide))).trans (W3_of m ρ c main_v7_0 (by decide))).trans (kv_at m ρ c A H)) (fun _ _ => rfl) (fun _ _ => rfl))

/-- The query projection's gradient. -/
theorem wq_at : W7 m ρ c (Proc.devRef .tc main_v12) = fun i : S1x1024x512.Idx => ∑ r, xn c1024 (I.x r) I.gx (i 1) * I.dq r (i 2).val := by
  exact (W7_arr m ρ c 2).trans (arr5_2 (V6 m ρ) c _ _ (fun r => xn c1024 (I.x r) I.gx) I.dq ((((W6_of m ρ c main_v8_1 (by decide)).trans (W5_of m ρ c main_v8_1 (by decide))).trans (W4_of m ρ c main_v8_1 (by decide))).trans (hn_at m ρ c A H))
    ((W6_of m ρ c main_v10_0 (by decide)).trans (dq_at m ρ c A H)) (fun _ _ => rfl) (fun _ _ => rfl))

/-- The gradient in the memory's gain. -/
theorem gm_at : W8 m ρ c (Proc.devRef .tc main_v13_1) = fun i : S1x1024.Idx => ∑ m, dmn (I.dkv m) I.wkv (i 1) * xh c1024 (I.mem m) (i 1) := by
  obtain ⟨WK', eWK', hWK'⟩ := v3_val m ρ c WK A.e5 I.wkv H.hWK
  exact (W8_arr m ρ c 5).trans (arr6_5 (V7 m ρ) c _ WK' M I.dkv I.wkv I.mem ((W7_of m ρ c main_v11_0 (by decide)).trans (dkv_at m ρ c A H))
    (((((((W7_of m ρ c main_v3 (by decide)).trans (W6_of m ρ c main_v3 (by decide))).trans (W5_of m ρ c main_v3 (by decide))).trans (W4_of m ρ c main_v3 (by decide))).trans (W3_of m ρ c main_v3 (by decide))).trans (W2_of m ρ c main_v3 (by decide))).trans eWK')
    ((W7_args m ρ c main_arg1 (by decide)).trans A.e1) (fun _ _ => rfl) hWK' H.hM)

/-- The gradient of the memory's projection. -/
theorem wkv_at : W9 m ρ c (Proc.devRef .tc main_v14) = fun i : S1x1024x1024.Idx => ∑ m, xn c1024 (I.mem m) I.gm (i 1) * I.dkv m (i 2).val := by
  exact (W9_arr m ρ c 2).trans (arr7_2 (V8 m ρ) c _ _ (fun m => xn c1024 (I.mem m) I.gm) I.dkv
    (((((((W8_of m ρ c main_v7_1 (by decide)).trans (W7_of m ρ c main_v7_1 (by decide))).trans (W6_of m ρ c main_v7_1 (by decide))).trans (W5_of m ρ c main_v7_1 (by decide))).trans (W4_of m ρ c main_v7_1 (by decide))).trans (W3_of m ρ c main_v7_1 (by decide))).trans (mn_at m ρ c A H))
    (((W8_of m ρ c main_v11_0 (by decide)).trans (W7_of m ρ c main_v11_0 (by decide))).trans (dkv_at m ρ c A H)) (fun _ _ => rfl) (fun _ _ => rfl))

/-! The nine results at the end. -/

theorem r0 : W10 m ρ c (Proc.devRef .tc main_v8_3) = fun i : S8192x1024.Idx => res (I.x (i 0)) (I.xo (i 0)) I.wo (i 1) :=
  ((((((((W10_of m ρ c main_v8_3 (by decide)).trans (W9_of m ρ c main_v8_3 (by decide))).trans (W8_of m ρ c main_v8_3 (by decide))).trans (W7_of m ρ c main_v8_3 (by decide))).trans (W6_of m ρ c main_v8_3 (by decide))).trans (W5_of m ρ c main_v8_3 (by decide))).trans (W4_of m ρ c main_v8_3 (by decide))).trans (h2_at m ρ c A H))

theorem r1 : W10 m ρ c (Proc.devRef .tc main_v10_4) = fun i : S8192x1024.Idx => ng c1024 (I.x (i 0)) I.gx (dhn (I.dq (i 0)) I.wq) (i 1) + I.e (i 0) (i 1).val :=
  ((((((W10_of m ρ c main_v10_4 (by decide)).trans (W9_of m ρ c main_v10_4 (by decide))).trans (W8_of m ρ c main_v10_4 (by decide))).trans (W7_of m ρ c main_v10_4 (by decide))).trans (W6_of m ρ c main_v10_4 (by decide))).trans (dh_at m ρ c A H))

theorem r2 : W10 m ρ c (Proc.devRef .tc main_v10_5) = fun i : S1x1024.Idx => ∑ r, dhn (I.dq r) I.wq (i 1) * xh c1024 (I.x r) (i 1) :=
  ((((((W10_of m ρ c main_v10_5 (by decide)).trans (W9_of m ρ c main_v10_5 (by decide))).trans (W8_of m ρ c main_v10_5 (by decide))).trans (W7_of m ρ c main_v10_5 (by decide))).trans (W6_of m ρ c main_v10_5 (by decide))).trans (gx_at m ρ c A H))

theorem r3 : W10 m ρ c (Proc.devRef .tc main_v13_1) = fun i : S1x1024.Idx => ∑ m, dmn (I.dkv m) I.wkv (i 1) * xh c1024 (I.mem m) (i 1) :=
  (((W10_of m ρ c main_v13_1 (by decide)).trans (W9_of m ρ c main_v13_1 (by decide))).trans (gm_at m ρ c A H))

theorem r4 : W10 m ρ c (Proc.devRef .tc main_v15) = fun i : S1024x512.Idx => ∑ r, xn c1024 (I.x r) I.gx (i 0) * I.dq r (i 1).val :=
  v15_val m ρ c (fun k n => ∑ r, xn c1024 (I.x r) I.gx k * I.dq r n) (((W9_of m ρ c main_v12 (by decide)).trans (W8_of m ρ c main_v12 (by decide))).trans (wq_at m ρ c A H))

theorem r5 : W10 m ρ c (Proc.devRef .tc main_v16) = fun i : S1024x1024.Idx => ∑ m, xn c1024 (I.mem m) I.gm (i 0) * I.dkv m (i 1).val :=
  v16_val m ρ c (fun k n => ∑ m, xn c1024 (I.mem m) I.gm k * I.dkv m n) (wkv_at m ρ c A H)

theorem r6 : W10 m ρ c (Proc.devRef .tc main_v10_3) = fun i : S1x128.Idx => ∑ r, gqr I.g I.l I.kv (I.q r) (I.o r) (i 1) :=
  ((((((W10_of m ρ c main_v10_3 (by decide)).trans (W9_of m ρ c main_v10_3 (by decide))).trans (W8_of m ρ c main_v10_3 (by decide))).trans (W7_of m ρ c main_v10_3 (by decide))).trans (W6_of m ρ c main_v10_3 (by decide))).trans (gq_at m ρ c A H))

theorem r7 : W10 m ρ c (Proc.devRef .tc main_v11_1) = fun i : S1x128.Idx => ∑ h : Fin 4, ∑ m, hd (I.dk m) (128 * h.val) (i 1) * xh c128 (hd (I.kv m) (128 * h.val)) (i 1) :=
  (((((W10_of m ρ c main_v11_1 (by decide)).trans (W9_of m ρ c main_v11_1 (by decide))).trans (W8_of m ρ c main_v11_1 (by decide))).trans (W7_of m ρ c main_v11_1 (by decide))).trans (gk_at m ρ c A H))

theorem r8 : W10 m ρ c (Proc.devRef .tc main_v18) = fun i : S512x1024.Idx => ∑ r, I.xo r (i 0).val * I.e r (i 1).val :=
  v18_val m ρ c (fun n k => ∑ r, I.xo r n * I.e r k) ((((((W9_of m ρ c main_v9 (by decide)).trans (W8_of m ρ c main_v9 (by decide))).trans (W7_of m ρ c main_v9 (by decide))).trans (W6_of m ρ c main_v9 (by decide))).trans (W5_of m ρ c main_v9 (by decide))).trans (go_at m ρ c A H))

end Cert.CrossIdeal.Value

end
-- ==== Proof.CrossRefB.lean ====
/-
  The values of the cross-attention's reference over the extended reals, operation by operation: the backward pass.
-/
module

public import proofs.«01_k».proof.Proof.CrossRef

@[expose] public section

set_option maxRecDepth 16384
noncomputable section
open Idealize.ShloMosaic Idealize.ShloMosaic.TcCoe Idealize.SL.Sem

namespace Cert.CrossRefIdeal.Value
open Cert.CrossRefIdeal Cert.CrossRefIdeal.Gen Cert.CrossRefIdeal.Read Cert.Cross Cert.Norm

variable {I : Inp} {X : FVec Ideal S8192x1024 .f32} {M : FVec Ideal S256x1024 .f32} {GX GM : FVec Ideal S1x1024 .f32}
    {WQ : FVec Ideal S1024x512 .f32} {WK : FVec Ideal S1024x1024 .f32} {G L : FVec Ideal S1x128 .f32}
    {WO : FVec Ideal S512x1024 .f32} {E : FVec Ideal S8192x1024 .f32} (H : Of I X M GX GM WQ WK G L WO E)

/-- The gradient in a row, its terms in another order. -/
theorem ng_at {n : ℕ} {κ : EReal} {N : ℝ} (hκ : κ = (N : EReal)) (hN : 0 < N) (x g d : Fin n → EReal) (k : Fin n) :
    d k * g k * rr κ x + x k * nt κ x g d + nt κ x g d * x k = ng κ x g d k := ng_eq hκ hN x g d k

include H

/-- The gradient in the output projection. -/
theorem v111_at (n : Fin 512) (k : Fin 1024) : val_main_v111 (F := Ideal) X M GX GM WQ WK G L E (ix2 n k) = ∑ r, I.xo r n.val * I.e r k.val := by
  pointwise [val_main_v111, val_main_v110, val_main_v109, val_main_v108]
  simp only [v104_at H, H.hE, Fin.sum_univ_one, mul_comm (I.e _ _)]

theorem v113_at (r : Fin 8192) (h : Fin 4) (d : Fin 128) : val_main_v113 (F := Ideal) WO E (ix4 0 r h d) = hd (I.o r) (128 * h.val) d := by
  pointwise [val_main_v113, val_main_v112, val_main_v109, val_main_v108]
  simp only [H.hE, H.hWO, hd, Inp.o, linT, Nat.mul_comm h.val 128]

theorem v114_at (h : Fin 4) (d : Fin 128) (r : Fin 8192) : val_main_v114 (F := Ideal) WO E (ix4 0 h d r) = hd (I.o r) (128 * h.val) d := by
  pointwise [val_main_v114]
  rw [v113_at H]

theorem v115_at (h : Fin 4) (r : Fin 8192) (m : Fin 256) : val_main_v115 (F := Ideal) M GM WK WO E (ix4 0 h r m)
    = dp (vv I.kv h.val) (hd (I.o r) (128 * h.val)) m := by
  pointwise [val_main_v115]
  simp only [v114_at H, v38_at H, dp]

/-- The gradient in the values. -/
theorem v117_at (m : Fin 256) (h : Fin 4) (d : Fin 128) : val_main_v117 (F := Ideal) X M GX GM WQ WK G L WO E (ix4 0 m h d) = I.dv m (128 * h.val + d.val) := by
  pointwise [val_main_v117, val_main_v116]
  simp only [v114_at H, v98_at H, Inp.dv, dvr, cat_at, yh, mul_comm (hd (I.o _) _ _)]

theorem v121_at (h : Fin 4) (r : Fin 8192) : val_main_v121 (F := Ideal) X M GX GM WQ WK G L WO E (ix3 0 h r)
    = ∑ j, dp (vv I.kv h.val) (hd (I.o r) (128 * h.val)) j
      * Ideal.div 1 (sm (hd (I.q r) (128 * h.val)) I.g I.l (kk I.kv h.val) * sm (hd (I.q r) (128 * h.val)) I.g I.l (kk I.kv h.val))
      * pr (hd (I.q r) (128 * h.val)) I.g I.l (kk I.kv h.val) j := by
  pointwise [val_main_v121, val_main_v120, val_main_v119, val_main_v118, val_main_cst_26]
  simp only [v115_at H, v101_at H, v94_at H]

theorem v126_at (h : Fin 4) (r : Fin 8192) : val_main_v126 (F := Ideal) X M GX GM WQ WK G L WO E (ix2 h r)
    = -(∑ j, dp (vv I.kv h.val) (hd (I.o r) (128 * h.val)) j
      * Ideal.div 1 (sm (hd (I.q r) (128 * h.val)) I.g I.l (kk I.kv h.val) * sm (hd (I.q r) (128 * h.val)) I.g I.l (kk I.kv h.val))
      * pr (hd (I.q r) (128 * h.val)) I.g I.l (kk I.kv h.val) j) := by
  unfold val_main_v126
  rw [Red.sum_ends]
  pointwise [val_main_v123, val_main_v122, val_main_cst_27]
  rw [v121_at H]

/-- The gradient in the scores. -/
theorem v130_at (h : Fin 4) (r : Fin 8192) (m : Fin 256) : val_main_v130 (F := Ideal) X M GX GM WQ WK G L WO E (ix4 0 h r m)
    = dsh I.g I.l I.kv (I.q r) (I.o r) h.val m := by
  rw [dsh, ← ds_eq _ _ _ _ H.hg H.hl]
  pointwise [val_main_v130, val_main_v129, val_main_v128, val_main_v127, val_main_v125, val_main_v124]
  rw [v115_at H, v96_at H, v126_at H, v94_at H, ds']

/-- The gradient in the normalised keys. -/
theorem v132_at (m : Fin 256) (h : Fin 4) (d : Fin 128) : val_main_v132 (F := Ideal) X M GX GM WQ WK G L WO E (ix4 0 m h d) = hd (I.dk m) (128 * h.val) d := by
  pointwise [val_main_v132, val_main_v131]
  simp only [v130_at H, v56_at H, hd, Inp.dk, dkr, cat_at]

theorem v158_at (r : Fin 8192) (h : Fin 4) (d : Fin 128) : val_main_v158 (F := Ideal) X M GX GM WQ WK G L WO E (ix4 0 r h d)
    = dnh I.g I.l I.kv (I.q r) (I.o r) h.val d := by
  pointwise [val_main_v158, val_main_v157, val_main_v134, val_main_v133, val_main_cst_33]
  simp only [v130_at H, v72_at H, dnh, dn, dsh]

/-- The gradient in the keys' gain. -/
theorem v141_at (d : Fin 128) : val_main_v141 (F := Ideal) X M GX GM WQ WK G L WO E (ix2 0 d)
    = ∑ h : Fin 4, ∑ m, hd (I.dk m) (128 * h.val) d * xh c128 (hd (I.kv m) (128 * h.val)) d := by
  have e : val_main_v136 (F := Ideal) X M GX GM WQ WK G L WO E (ix2 0 d)
      = ∑ h : Fin 4, ∑ m, hd (I.dk m) (128 * h.val) d * xh c128 (hd (I.kv m) (128 * h.val)) d := by
    unfold val_main_v136
    rw [Red.sum_mid, Finset.sum_comm]
    pointwise [val_main_v135, val_main_cst_28]
    simp only [v69_at H, v132_at H, kk, mul_comm (xh _ _ _)]
  rw [← e]
  have e2 : val_main_v140 (F := Ideal) X M GX GM WQ WK G L WO E (ix1 d) = val_main_v136 (F := Ideal) X M GX GM WQ WK G L WO E (ix2 0 d) := by
    unfold val_main_v140
    rw [Red.sum_ones]
    pointwise [val_main_v137, val_main_cst_29]
  pointwise [val_main_v141]
  exact e2

/-- The gradient in the queries' gain. -/
theorem v165_at (d : Fin 128) : val_main_v165 (F := Ideal) X M GX GM WQ WK G L WO E (ix2 0 d)
    = ∑ r, gqr I.g I.l I.kv (I.q r) (I.o r) d := by
  have e : val_main_v160 (F := Ideal) X M GX GM WQ WK G L WO E (ix2 0 d) = ∑ r, gqr I.g I.l I.kv (I.q r) (I.o r) d := by
    unfold val_main_v160
    rw [Red.sum_mid]
    pointwise [val_main_v159, val_main_cst_34]
    simp only [v51_at H, v158_at H, gqr, mul_comm (xh _ _ _)]
  rw [← e]
  have e2 : val_main_v164 (F := Ideal) X M GX GM WQ WK G L WO E (ix1 d) = val_main_v160 (F := Ideal) X M GX GM WQ WK G L WO E (ix2 0 d) := by
    unfold val_main_v164
    rw [Red.sum_ones]
    pointwise [val_main_v161, val_main_cst_35]
  pointwise [val_main_v165]
  exact e2

theorem v139_at (m : Fin 256) (h : Fin 4) (d : Fin 128) : val_main_v139 (F := Ideal) X M GX GM WQ WK G L WO E (ix4 0 m h d)
    = hd (I.dk m) (128 * h.val) d * I.l d := by
  pointwise [val_main_v139, val_main_v138, val_main_v70]
  rw [v132_at H, H.hL]

theorem v150_at (m : Fin 256) (h : Fin 4) : val_main_v150 (F := Ideal) X M GX GM WQ WK G L WO E (ix2 m h)
    = nt c128 (kk I.kv h.val m) I.l (hd (I.dk m) (128 * h.val)) := by
  unfold val_main_v150
  rw [Red.sum_ends]
  pointwise [val_main_v149, val_main_v148, val_main_v147, val_main_v144, val_main_v143, val_main_v142, val_main_cst_30, val_main_cst_31, val_main_cst_32]
  simp only [v37_at H, v139_at H, v67_at H, nt]

/-- The gradient in the keys. -/
theorem v156_at (m : Fin 256) (h : Fin 4) (d : Fin 128) : val_main_v156 (F := Ideal) X M GX GM WQ WK G L WO E (ix4 0 m h d)
    = ng c128 (kk I.kv h.val m) I.l (hd (I.dk m) (128 * h.val)) d := by
  rw [← ng_at c128_val (by norm_num)]
  pointwise [val_main_v156, val_main_v155, val_main_v154, val_main_v153, val_main_v152, val_main_v151, val_main_v146, val_main_v145]
  rw [v37_at H, v139_at H, v64_at H, v150_at H]

theorem v163_at (r : Fin 8192) (h : Fin 4) (d : Fin 128) : val_main_v163 (F := Ideal) X M GX GM WQ WK G L WO E (ix4 0 r h d)
    = dnh I.g I.l I.kv (I.q r) (I.o r) h.val d * I.g d := by
  pointwise [val_main_v163, val_main_v162, val_main_v52]
  rw [v158_at H, H.hG]

theorem v174_at (r : Fin 8192) (h : Fin 4) : val_main_v174 (F := Ideal) X M GX GM WQ WK G L WO E (ix2 r h)
    = nt c128 (hd (I.q r) (128 * h.val)) I.g (dnh I.g I.l I.kv (I.q r) (I.o r) h.val) := by
  unfold val_main_v174
  rw [Red.sum_ends]
  pointwise [val_main_v173, val_main_v172, val_main_v171, val_main_v168, val_main_v167, val_main_v166, val_main_cst_36, val_main_cst_37, val_main_cst_38]
  simp only [v33_at H, v163_at H, v49_at H, nt]

/-- The gradient in the queries, head by head. -/
theorem v180_at (r : Fin 8192) (h : Fin 4) (d : Fin 128) : val_main_v180 (F := Ideal) X M GX GM WQ WK G L WO E (ix4 0 r h d)
    = ng c128 (hd (I.q r) (128 * h.val)) I.g (dnh I.g I.l I.kv (I.q r) (I.o r) h.val) d := by
  rw [← ng_at c128_val (by norm_num)]
  pointwise [val_main_v180, val_main_v179, val_main_v178, val_main_v177, val_main_v176, val_main_v175, val_main_v170, val_main_v169]
  rw [v33_at H, v163_at H, v46_at H, v174_at H]

/-- The gradient in the queries. -/
theorem v187_at (r : Fin 8192) (n : Fin 512) : val_main_v187 (F := Ideal) X M GX GM WQ WK G L WO E (ix3 0 r n) = I.dq r n.val := by
  pointwise [val_main_v187]
  rw [v180_at H]
  pointwise [Inp.dq, dqr, cat]

/-- The gradient in the keys and values. -/
theorem v183_at (m : Fin 256) (n : Fin 1024) : val_main_v183 (F := Ideal) X M GX GM WQ WK G L WO E (ix3 0 m n) = I.dkv m n.val := by
  unfold Inp.dkv dkv
  split_ifs with hn
  · pointwise [val_main_v183, val_main_v182]
    simp only [hn, if_true, dif_pos, v156_at H]
    pointwise [cat]
    rfl
  · pointwise [val_main_v183, val_main_v181]
    simp only [hn, if_false, v117_at H]
    rw [dif_neg not_false]
    exact congrArg (I.dv m) (by omega)

/-- The gradient in the projection of the memory. -/
theorem v185_at (k n : Fin 1024) : val_main_v185 (F := Ideal) X M GX GM WQ WK G L WO E (ix2 k n)
    = ∑ m, xn c1024 (I.mem m) I.gm k * I.dkv m n.val := by
  pointwise [val_main_v185, val_main_v184]
  simp only [v183_at H, v31_at H, Fin.sum_univ_one, mul_comm (I.dkv _ _)]

theorem v191_at (m : Fin 256) (k : Fin 1024) : val_main_v191 (F := Ideal) X M GX GM WQ WK G L WO E (ix2 m k) = dmn (I.dkv m) I.wkv k := by
  pointwise [val_main_v191, val_main_v186, val_main_cst_39]
  simp only [v183_at H, H.hWK, Fin.sum_univ_one, dmn]

/-- The gradient in the memory's gain. -/
theorem v194_at (k : Fin 1024) : val_main_v194 (F := Ideal) X M GX GM WQ WK G L WO E (ix2 0 k)
    = ∑ m, dmn (I.dkv m) I.wkv k * xh c1024 (I.mem m) k := by
  pointwise [val_main_v194, val_main_v193, val_main_v192, val_main_cst_40]
  simp only [v191_at H, v28_at H, mul_comm (xh _ _ _)]

/-- The gradient in the projection of the tokens. -/
theorem v189_at (k : Fin 1024) (n : Fin 512) : val_main_v189 (F := Ideal) X M GX GM WQ WK G L WO E (ix2 k n)
    = ∑ r, xn c1024 (I.x r) I.gx k * I.dq r n.val := by
  pointwise [val_main_v189, val_main_v188]
  simp only [v187_at H, v15_at H, Fin.sum_univ_one, mul_comm (I.dq _ _)]

theorem v211_at (r : Fin 8192) (k : Fin 1024) : val_main_v211 (F := Ideal) X M GX GM WQ WK G L WO E (ix2 r k) = dhn (I.dq r) I.wq k := by
  pointwise [val_main_v211, val_main_v190, val_main_cst_44]
  simp only [v187_at H, H.hWQ, Fin.sum_univ_one, dhn]

/-- The gradient in the tokens' gain. -/
theorem v214_at (k : Fin 1024) : val_main_v214 (F := Ideal) X M GX GM WQ WK G L WO E (ix2 0 k)
    = ∑ r, dhn (I.dq r) I.wq k * xh c1024 (I.x r) k := by
  pointwise [val_main_v214, val_main_v213, val_main_v212, val_main_cst_45]
  simp only [v211_at H, v12_at H, mul_comm (xh _ _ _)]

theorem v216_at (r : Fin 8192) (k : Fin 1024) : val_main_v216 (F := Ideal) X M GX GM WQ WK G L WO E (ix2 r k) = dhn (I.dq r) I.wq k * I.gx k := by
  pointwise [val_main_v216, val_main_v215]
  rw [v211_at H, H.hGX]

theorem v226_at (r : Fin 8192) : val_main_v226 (F := Ideal) X M GX GM WQ WK G L WO E (ix1 r) = nt c1024 (I.x r) I.gx (dhn (I.dq r) I.wq) := by
  pointwise [val_main_v226, val_main_v225, val_main_v224, val_main_v223, val_main_v219, val_main_v218, val_main_v217, val_main_cst_46, val_main_cst_47, val_main_cst_48]
  simp only [v216_at H, v10_at H, H.hX, Fin.sum_univ_one, nt]

/-- The gradient in the tokens. -/
theorem v231_at (r : Fin 8192) (k : Fin 1024) : val_main_v231 (F := Ideal) X M GX GM WQ WK G L WO E (ix2 r k)
    = ng c1024 (I.x r) I.gx (dhn (I.dq r) I.wq) k + I.e r k.val := by
  rw [← ng_at Ffn.k_val (by norm_num)]
  pointwise [val_main_v231, val_main_v230, val_main_v229, val_main_v228, val_main_v227, val_main_v222, val_main_v221, val_main_v220]
  rw [v216_at H, v7_at H, v226_at H, H.hX, H.hE, add_assoc, add_assoc, add_comm, ← add_assoc]

end Cert.CrossRefIdeal.Value

end
-- ==== Proof.Pre.lean ====
/-
  The precondition read: an array all of whose elements are smaller in magnitude than infinity holds real numbers.
-/
module

public import proofs.«01_k».proof.Pre_finite_inputs
public import Idealize.ShloMosaic.Lib.ReduceAll
public import Idealize.ShloMosaic.Lib.Pointwise
public import Idealize.ShloMosaic.PureOps.Ideal

@[expose] public section

set_option maxRecDepth 16384
noncomputable section
open Idealize.ShloMosaic
namespace Cert.Pre_finite_inputs

/-- The shape relations the precondition's operations take. -/
theorem facts : Facts where
  bcast_S_S8192x1024 := by decide
  reducesTo_S8192x1024_S_d0_1 := by decide
  h_S_ := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide

/-- The word the magnitudes are compared with denotes infinity. -/
theorem inf_val : Ideal.ofBits .f32 0x7F800000#32 = (⊤ : EReal) := by
  simp [Ideal.ofBits, Ideal.ieee]

/-- A number whose magnitude is below infinity is a real number. -/
theorem real_of_abs_lt (v : EReal) (h : max v (-v) < ⊤) : v = ((v.toReal : ℝ) : EReal) := by
  refine (EReal.coe_toReal (fun e => ?_) (fun e => ?_)).symm <;> subst e <;> simp at h

/-- A conjunction over an array of comparisons of its magnitudes with infinity says that each element is a real number. -/
theorem real_of_all {s : Shape} {axes : List (Fin s.rank)} (x : FVec Ideal s .f32)
    (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : x i = (((x i).toReal : ℝ) : EReal) := by
  haveI : Subsingleton S_.Idx := ⟨fun a b => funext fun k => k.elim0⟩
  have h1 := Host.reduce_andi_all _ _ h hu j e i
  have h2 : Ideal.cmp .olt (max (x i) (-(x i))) (Ideal.ofBits .f32 0x7F800000#32) = 1#1 := h1
  rw [inf_val] at h2
  refine real_of_abs_lt _ ?_
  by_contra hn
  simp [Ideal.cmp, hn] at h2

/-- The precondition says that every element of every argument is a real number. -/
theorem real_of_pre [Facts] (x0 : FVec Ideal S8192x1024 .f32) (x1 : FVec Ideal S1x1024 .f32) (x2 : FVec Ideal S1024x5632 .f32)
    (x3 : FVec Ideal S2816x1024 .f32) (x4 : FVec Ideal S8192x1024 .f32) (e : fn (F := Ideal) x0 x1 x2 x3 x4 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal))
      ∧ (∀ i, x4 i = (((x4 i).toReal : ℝ) : EReal)) := by
  have e' := congrFun e (fun k => k.elim0)
  obtain ⟨e1, h4⟩ := IntOp.andi_eq_one.1 e'
  obtain ⟨e2, h3⟩ := IntOp.andi_eq_one.1 e1
  obtain ⟨e3, h2⟩ := IntOp.andi_eq_one.1 e2
  obtain ⟨h0, h1⟩ := IntOp.andi_eq_one.1 e3
  exact ⟨real_of_all x0 _ _ _ _ h0, real_of_all x1 _ _ _ _ h1, real_of_all x2 _ _ _ _ h2, real_of_all x3 _ _ _ _ h3,
    real_of_all x4 _ _ _ _ h4⟩

end Cert.Pre_finite_inputs
-- ==== Proof.PreGains.lean ====
/-
  The precondition of the cross-attention read: the gains of queries and keys are real numbers.
-/
module

public import proofs.«01_k».proof.Pre_finite_gains
public import proofs.«01_k».proof.Proof.Pre

@[expose] public section

set_option maxRecDepth 16384
noncomputable section
open Idealize.ShloMosaic
namespace Cert.Pre_finite_gains

/-- The shape relations the precondition's operations take. -/
theorem facts : Facts where
  bcast_S_S1x128 := by decide
  reducesTo_S1x128_S_d0_1 := by decide
  h_S_ := by decide

/-- The precondition says that every element of the two gains is a real number. -/
theorem real_of_pre [Facts] (x0 : FVec Ideal S8192x1024 .f32) (x1 : FVec Ideal S256x1024 .f32) (x2 x3 : FVec Ideal S1x1024 .f32)
    (x4 : FVec Ideal S1024x512 .f32) (x5 : FVec Ideal S1024x1024 .f32) (x6 x7 : FVec Ideal S1x128 .f32)
    (x8 : FVec Ideal S512x1024 .f32) (x9 : FVec Ideal S8192x1024 .f32)
    (e : fn (F := Ideal) x0 x1 x2 x3 x4 x5 x6 x7 x8 x9 = fun _ => 1#1) :
    (∀ i, ∃ a : ℝ, x6 i = (a : EReal)) ∧ (∀ i, ∃ a : ℝ, x7 i = (a : EReal)) := by
  have e' := congrFun e (fun k => k.elim0)
  obtain ⟨h0, h1⟩ := IntOp.andi_eq_one.1 e'
  exact ⟨fun i => ⟨_, Pre_finite_inputs.real_of_all x6 _ _ _ _ h0 i⟩, fun i => ⟨_, Pre_finite_inputs.real_of_all x7 _ _ _ _ h1 i⟩⟩

end Cert.Pre_finite_gains

end
-- ==== Proof.Run.lean ====
/-
  The kernel program's run, for any float values: it ends with the results at the contents of the last boundary, the
  arguments unchanged and every counter at zero.
-/
module

public import proofs.«01_k».proof.Proof.Gen.KernelIdeal.Frame

@[expose] public section

set_option maxRecDepth 16384
noncomputable section
namespace Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four calls and the host code between them, from any memory with zero counters: it ends, nothing
faulting, with each result at the last boundary's contents, the arguments as launched and every counter at zero. -/
theorem run_main : θ_run defs (onTc (τ := τ) (main (F := F))) ⟨m, fun _ => 0, ρ⟩ (fun r => (∀ c : Dev nD,
      (r.2.mem ((c.tc : Thread nD τ).loc main_v8) = W7 m ρ c (Proc.devRef .tc main_v8)
      ∧ r.2.mem ((c.tc : Thread nD τ).loc main_v10_1) = W7 m ρ c (Proc.devRef .tc main_v10_1)
      ∧ r.2.mem ((c.tc : Thread nD τ).loc main_v10_2) = W7 m ρ c (Proc.devRef .tc main_v10_2)
      ∧ r.2.mem ((c.tc : Thread nD τ).loc main_v13) = W7 m ρ c (Proc.devRef .tc main_v13)
      ∧ r.2.mem ((c.tc : Thread nD τ).loc main_v14) = W7 m ρ c (Proc.devRef .tc main_v14))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨⟨h c _ (mem_uc main_v8 (by decide)), h c _ (mem_uc main_v10_1 (by decide)), h c _ (mem_uc main_v10_2 (by decide)),
        h c _ (mem_uc main_v13 (by decide)), h c _ (mem_uc main_v14 (by decide))⟩,
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩), funext fun g => hz g (.inr (no_unscoped g.2))⟩)

/-- The same run, read at the arguments and the counters alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_main m ρ)

end Cert.KernelIdeal.Value
-- ==== Proof.AttnBody.lean ====
/-
  The gradient of the dilated attention, one grid point: the body runs to its end from its blocks and scratch.
-/
module

public import proofs.«01_k».proof.Proof.Gen.AttnIdeal.Frame
public import proofs.«01_k».proof.Proof.Gen.AttnIdeal.Skeleton

@[expose] public section

set_option maxRecDepth 16384
noncomputable section
namespace Cert.AttnIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

/-- Memref `M`'s buffer on core `c` held whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Memref `M`'s buffer on core `c` held whole, at some contents. -/
abbrev some_pt (c : Dev nD) {sp : Space} {S : Shape} {e : EltTy} (M : Memref sig .tc sp S e) : sProp 𝕄 :=
  iprop(∃ f, pt (F := F) c M f)

/-- The body at a point between the first and the last of its row: both halves run. -/
theorem runA (c : Dev nD) (i : grid0.Coords) (h1 : k0_cond1 i = 1#1) (h2 : k0_cond2 i = 1#1) (h3 : k0_cond3 i = 1#1)
    (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2x2048x128 .f32) (harg12 : arg12.IsWhole) (arg13 : Memref sig .tc .vmem S2x2048x128 .f32) (harg13 : arg13.IsWhole)
    (f2 : Buf (Elt F) (arg2.view.loc (c : Thread nD τ))) (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ))) (f7 : Buf (Elt F) (arg7.view.loc (c : Thread nD τ)))
    (f8 : Buf (Elt F) (arg8.view.loc (c : Thread nD τ)))
    (Q : PUnit → sProp 𝕄) :
    iprop(pt c arg2 f2 ∗ pt c arg3 f3 ∗ pt c arg4 f4 ∗ pt c arg5 f5 ∗ pt c arg6 f6 ∗ pt c arg7 f7 ∗ pt c arg8 f8
      ∗ some_pt c arg9 ∗ some_pt c arg10 ∗ some_pt c arg11 ∗ some_pt c arg12 ∗ some_pt c arg13
      ∗ (iprop(pt c arg2 f2 ∗ pt c arg3 f3 ∗ pt c arg4 f4 ∗ pt c arg5 f5 ∗ pt c arg6 f6 ∗ pt c arg7 f7 ∗ pt c arg8 f8
      ∗ some_pt c arg9 ∗ some_pt c arg10 ∗ some_pt c arg11 ∗ some_pt c arg12 ∗ some_pt c arg13) -∗ Q ⟨⟩))
    ⊢ wp frame (wpE (defs₀ (F := F)) Variants.none c none) Set.univ
        (cc0_attn_bwd0 i arg2 harg2 arg3 harg3 arg4 harg4 arg5 harg5 arg6 harg6 arg7 harg7 arg8 harg8 arg9 harg9 arg10 harg10 arg11 harg11 arg12 harg12 arg13 harg13) Q := by
  iintro ⟨H2, H3, H4, H5, H6, H7, H8, ⟨%f9, H9⟩, ⟨%f10, H10⟩, ⟨%f11, H11⟩, ⟨%f12, H12⟩, ⟨%f13, H13⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The body at the first point of a row: nothing is held from an earlier block, and nothing is written out. -/
theorem runB (c : Dev nD) (i : grid0.Coords) (h1 : k0_cond1 i = 1#1) (h2 : ¬ k0_cond2 i = 1#1) (h3 : ¬ k0_cond3 i = 1#1)
    (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2x2048x128 .f32) (harg12 : arg12.IsWhole) (arg13 : Memref sig .tc .vmem S2x2048x128 .f32) (harg13 : arg13.IsWhole)
    (f2 : Buf (Elt F) (arg2.view.loc (c : Thread nD τ))) (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ))) (f7 : Buf (Elt F) (arg7.view.loc (c : Thread nD τ)))
    (f8 : Buf (Elt F) (arg8.view.loc (c : Thread nD τ)))
    (Q : PUnit → sProp 𝕄) :
    iprop(pt c arg2 f2 ∗ pt c arg3 f3 ∗ pt c arg4 f4 ∗ pt c arg5 f5 ∗ pt c arg6 f6 ∗ pt c arg7 f7 ∗ pt c arg8 f8
      ∗ some_pt c arg9 ∗ some_pt c arg10 ∗ some_pt c arg11 ∗ some_pt c arg12 ∗ some_pt c arg13
      ∗ (iprop(pt c arg2 f2 ∗ pt c arg3 f3 ∗ pt c arg4 f4 ∗ pt c arg5 f5 ∗ pt c arg6 f6 ∗ pt c arg7 f7 ∗ pt c arg8 f8
      ∗ some_pt c arg9 ∗ some_pt c arg10 ∗ some_pt c arg11 ∗ some_pt c arg12 ∗ some_pt c arg13) -∗ Q ⟨⟩))
    ⊢ wp frame (wpE (defs₀ (F := F)) Variants.none c none) Set.univ
        (cc0_attn_bwd0 i arg2 harg2 arg3 harg3 arg4 harg4 arg5 harg5 arg6 harg6 arg7 harg7 arg8 harg8 arg9 harg9 arg10 harg10 arg11 harg11 arg12 harg12 arg13 harg13) Q := by
  iintro ⟨H2, H3, H4, H5, H6, H7, H8, ⟨%f9, H9⟩, ⟨%f10, H10⟩, ⟨%f11, H11⟩, ⟨%f12, H12⟩, ⟨%f13, H13⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The body at the last point of a row: only what is held is written out. -/
theorem runC (c : Dev nD) (i : grid0.Coords) (h1 : ¬ k0_cond1 i = 1#1) (h3 : k0_cond3 i = 1#1)
    (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2x2048x128 .f32) (harg12 : arg12.IsWhole) (arg13 : Memref sig .tc .vmem S2x2048x128 .f32) (harg13 : arg13.IsWhole)
    (f2 : Buf (Elt F) (arg2.view.loc (c : Thread nD τ))) (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ))) (f7 : Buf (Elt F) (arg7.view.loc (c : Thread nD τ)))
    (f8 : Buf (Elt F) (arg8.view.loc (c : Thread nD τ)))
    (Q : PUnit → sProp 𝕄) :
    iprop(pt c arg2 f2 ∗ pt c arg3 f3 ∗ pt c arg4 f4 ∗ pt c arg5 f5 ∗ pt c arg6 f6 ∗ pt c arg7 f7 ∗ pt c arg8 f8
      ∗ some_pt c arg9 ∗ some_pt c arg10 ∗ some_pt c arg11 ∗ some_pt c arg12 ∗ some_pt c arg13
      ∗ (iprop(pt c arg2 f2 ∗ pt c arg3 f3 ∗ pt c arg4 f4 ∗ pt c arg5 f5 ∗ pt c arg6 f6 ∗ pt c arg7 f7 ∗ pt c arg8 f8
      ∗ some_pt c arg9 ∗ some_pt c arg10 ∗ some_pt c arg11 ∗ some_pt c arg12 ∗ some_pt c arg13) -∗ Q ⟨⟩))
    ⊢ wp frame (wpE (defs₀ (F := F)) Variants.none c none) Set.univ
        (cc0_attn_bwd0 i arg2 harg2 arg3 harg3 arg4 harg4 arg5 harg5 arg6 harg6 arg7 harg7 arg8 harg8 arg9 harg9 arg10 harg10 arg11 harg11 arg12 harg12 arg13 harg13) Q := by
  iintro ⟨H2, H3, H4, H5, H6, H7, H8, ⟨%f9, H9⟩, ⟨%f10, H10⟩, ⟨%f11, H11⟩, ⟨%f12, H12⟩, ⟨%f13, H13⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- A row's first point is not its last: where nothing is held, the first half runs. -/
theorem cond1_of_not_cond3 : ∀ i : grid0.Coords, ¬ k0_cond3 i = 1#1 → k0_cond1 i = 1#1 := by
  decide

/-- The body at any point. -/
theorem run_body (c : Dev nD) (i : grid0.Coords)
    (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2x2048x128 .f32) (harg12 : arg12.IsWhole) (arg13 : Memref sig .tc .vmem S2x2048x128 .f32) (harg13 : arg13.IsWhole)
    (f2 : Buf (Elt F) (arg2.view.loc (c : Thread nD τ))) (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ))) (f7 : Buf (Elt F) (arg7.view.loc (c : Thread nD τ)))
    (f8 : Buf (Elt F) (arg8.view.loc (c : Thread nD τ)))
    (Q : PUnit → sProp 𝕄) :
    iprop(pt c arg2 f2 ∗ pt c arg3 f3 ∗ pt c arg4 f4 ∗ pt c arg5 f5 ∗ pt c arg6 f6 ∗ pt c arg7 f7 ∗ pt c arg8 f8
      ∗ some_pt c arg9 ∗ some_pt c arg10 ∗ some_pt c arg11 ∗ some_pt c arg12 ∗ some_pt c arg13
      ∗ (iprop(pt c arg2 f2 ∗ pt c arg3 f3 ∗ pt c arg4 f4 ∗ pt c arg5 f5 ∗ pt c arg6 f6 ∗ pt c arg7 f7 ∗ pt c arg8 f8
      ∗ some_pt c arg9 ∗ some_pt c arg10 ∗ some_pt c arg11 ∗ some_pt c arg12 ∗ some_pt c arg13) -∗ Q ⟨⟩))
    ⊢ wp frame (wpE (defs₀ (F := F)) Variants.none c none) Set.univ
        (cc0_attn_bwd0 i arg2 harg2 arg3 harg3 arg4 harg4 arg5 harg5 arg6 harg6 arg7 harg7 arg8 harg8 arg9 harg9 arg10 harg10 arg11 harg11 arg12 harg12 arg13 harg13) Q := by
  have h23 : k0_cond3 i = k0_cond2 i := rfl
  by_cases h3 : k0_cond3 i = 1#1
  · by_cases h1 : k0_cond1 i = 1#1
    · exact runA c i h1 (h23 ▸ h3) h3 _ _ _ _ _ _ _ _ _ _ _ _ _ _ _ _ _ _ _ _ _ _ _ _ _ _ _ _ _ _ _ _
    · exact runC c i h1 h3 _ _ _ _ _ _ _ _ _ _ _ _ _ _ _ _ _ _ _ _ _ _ _ _ _ _ _ _ _ _ _ _
  · have h1 : k0_cond1 i = 1#1 := cond1_of_not_cond3 i h3
    exact runB c i h1 (fun h => h3 (h23.trans h)) h3 _ _ _ _ _ _ _ _ _ _ _ _ _ _ _ _ _ _ _ _ _ _ _ _ _ _ _ _ _ _ _ _

end Cert.AttnIdeal.Body
-- ==== Proof.AttnRun.lean ====
/-
  The gradient of the dilated attention, the call launched: it terminates and leaves its arguments as they were. Nothing is
  claimed of what it writes (its three output windows are forgotten), so the proof data name the input windows alone.
-/
module

public import proofs.«01_k».proof.Proof.AttnBody
public import Idealize.ShloMosaic.Lib.Claim

@[expose] public section

set_option maxRecDepth 16384
noncomputable section
namespace Cert.AttnIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)
open Cert.AttnIdeal Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows nothing is said of: the three the call writes. -/
def fgt : Fin cfg0.W → Bool
  | ⟨7, _⟩ => true
  | ⟨8, _⟩ => true
  | ⟨9, _⟩ => true
  | _ => false

/-- The proof data of the call: its arrays as launched, each input block left in place, the scratch at some contents
    between points, and of an array read through two windows a share for each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed 7 t
    | ⟨8, _⟩ => Dat.unnamed 8 t
    | ⟨9, _⟩ => Dat.unnamed 9 t
  Φ _ := Pipeline.ΦA spec0 c
  q w := Pipeline.shareOf spec0 w
  owed _ := 0

/-- The proof data's arrays are the arrays as launched. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- A whole buffer held through its memref is the buffer held. -/
theorem owns_pt {c : Dev nD} {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X))

set_option maxHeartbeats 1000000 in
/-- The body at any point: its blocks and its scratch in, the input blocks as they were out. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  have e0 : ∀ X, (owns (c : Thread nD τ) (st0_0 t) fullShare X : sProp 𝕄) = iprop(∃ f, ⌜(st0_0 t).view.read (Elt F) f = X⌝ ∗ pt c (st0_0 t) f) :=
    fun X => owns_pt (F := F) (hstage0_0 ((cfg0.slots t 0).cast nbuf0_0)) X
  have e1 : ∀ X, (owns (c : Thread nD τ) (st0_1 t) fullShare X : sProp 𝕄) = iprop(∃ f, ⌜(st0_1 t).view.read (Elt F) f = X⌝ ∗ pt c (st0_1 t) f) :=
    fun X => owns_pt (F := F) (hstage0_1 ((cfg0.slots t 1).cast nbuf0_1)) X
  have e2 : ∀ X, (owns (c : Thread nD τ) (st0_2 t) fullShare X : sProp 𝕄) = iprop(∃ f, ⌜(st0_2 t).view.read (Elt F) f = X⌝ ∗ pt c (st0_2 t) f) :=
    fun X => owns_pt (F := F) (hstage0_2 ((cfg0.slots t 2).cast nbuf0_2)) X
  have e3 : ∀ X, (owns (c : Thread nD τ) (st0_3 t) fullShare X : sProp 𝕄) = iprop(∃ f, ⌜(st0_3 t).view.read (Elt F) f = X⌝ ∗ pt c (st0_3 t) f) :=
    fun X => owns_pt (F := F) (hstage0_3 ((cfg0.slots t 3).cast nbuf0_3)) X
  have e4 : ∀ X, (owns (c : Thread nD τ) (st0_4 t) fullShare X : sProp 𝕄) = iprop(∃ f, ⌜(st0_4 t).view.read (Elt F) f = X⌝ ∗ pt c (st0_4 t) f) :=
    fun X => owns_pt (F := F) (hstage0_4 ((cfg0.slots t 4).cast nbuf0_4)) X
  have e5 : ∀ X, (owns (c : Thread nD τ) (st0_5 t) fullShare X : sProp 𝕄) = iprop(∃ f, ⌜(st0_5 t).view.read (Elt F) f = X⌝ ∗ pt c (st0_5 t) f) :=
    fun X => owns_pt (F := F) (hstage0_5 ((cfg0.slots t 5).cast nbuf0_5)) X
  have e6 : ∀ X, (owns (c : Thread nD τ) (st0_6 t) fullShare X : sProp 𝕄) = iprop(∃ f, ⌜(st0_6 t).view.read (Elt F) f = X⌝ ∗ pt c (st0_6 t) f) :=
    fun X => owns_pt (F := F) (hstage0_6 ((cfg0.slots t 6).cast nbuf0_6)) X
  have e7 : ∀ X, (owns (c : Thread nD τ) (st0_7 t) fullShare X : sProp 𝕄) = iprop(∃ f, ⌜(st0_7 t).view.read (Elt F) f = X⌝ ∗ pt c (st0_7 t) f) :=
    fun X => owns_pt (F := F) (hstage0_7 ((cfg0.slots t 7).cast nbuf0_7)) X
  have e8 : ∀ X, (owns (c : Thread nD τ) (st0_8 t) fullShare X : sProp 𝕄) = iprop(∃ f, ⌜(st0_8 t).view.read (Elt F) f = X⌝ ∗ pt c (st0_8 t) f) :=
    fun X => owns_pt (F := F) (hstage0_8 ((cfg0.slots t 8).cast nbuf0_8)) X
  have e9 : ∀ X, (owns (c : Thread nD τ) (st0_9 t) fullShare X : sProp 𝕄) = iprop(∃ f, ⌜(st0_9 t).view.read (Elt F) f = X⌝ ∗ pt c (st0_9 t) f) :=
    fun X => owns_pt (F := F) (hstage0_9 ((cfg0.slots t 9).cast nbuf0_9)) X
  simp only [e0, e1, e2, e3, e4, e5, e6, e7, e8, e9]
  iintro ⟨⟨⟨⟨%s0, S0⟩, ⟨%s1, S1⟩⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  iapply (run_body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) f0 f1 f2 f3 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [S0]; · iexists _; iexact S0
  isplitl [S1]; · iexists _; iexact S1
  iintro ⟨H0, H1, H2, H3, H4, H5, H6, ⟨%g7, H7⟩, ⟨%g8, H8⟩, ⟨%g9, H9⟩, ⟨%u0, S0⟩, ⟨%u1, S1⟩⟩
  isplitl [S0 S1 Hr]
  · isplitl [S0 S1]
    · isplitl [S0]
      · iexists _; iexact S0
      iexists _; iexact S1
    iexact Hr
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _, g7; isplitr; · ipureintro; rfl
    iexact H7
  isplitl [H8]
  · iexists _, g8; isplitr; · ipureintro; rfl
    iexact H8
  iexists _, g9; isplitr; · ipureintro; rfl
  iexact H9

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, the three outputs forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: the call terminates with its input arrays as launched and every semaphore counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := body_obligation m) (hq := fun _ _ _ => rfl)
    (howed := fun _ _ => rfl) (V := V m) (hmain := hmain m Variants.none) (hA := A_eq m) (hΦ := fun _ _ => rfl)

/-- The frame: the attention's gradient call terminates, leaves its five arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1.arr_in c 0 rfl).trans (A_eq m c 0), (h.1.arr_in c 2 rfl).trans (A_eq m c 2), (h.1.arr_in c 4 rfl).trans (A_eq m c 4),
      (h.1.arr_in c 5 rfl).trans (A_eq m c 5), (h.1.arr_in c 6 rfl).trans (A_eq m c 6)⟩, h.2⟩) (run_main m ρ)

end Cert.AttnIdeal.Body
-- ==== Proof.AttnSame.lean ====
/-
  The attention's gradient call and its idealization are one text: their body tables are equal, and so a run of the one
  is a run of the other.
-/
module

public import proofs.«01_k».proof.Proof.Gen.Attn
public import proofs.«01_k».proof.Proof.AttnRun

@[expose] public section

set_option maxRecDepth 16384
noncomputable section
namespace Cert.AttnIdeal.Same
open Idealize.ShloMosaic Idealize.ShloMosaic.TcCoe Idealize.SL.Sem

variable {F : FTy → Type} [FloatOps F]

instance : Cert.Attn.Facts := Cert.Attn.Gen.facts
instance : Cert.AttnIdeal.Facts := Cert.AttnIdeal.Gen.facts

/-- The kernels' body tables: one row each, the same body. -/
theorem defs₀_eq : @Cert.Attn.defs₀ F _ _ = @Cert.AttnIdeal.defs₀ F _ _ := by
  unfold Cert.Attn.defs₀ Cert.AttnIdeal.defs₀
  refine congrArg Defs.onTc ?_
  funext l x
  match l, x with
  | 0, (t, s) => exact rfl

/-- The programs' body tables. -/
theorem defs_eq : @Cert.Attn.defs F _ _ = @Cert.AttnIdeal.defs F _ _ :=
  congrArg (Pipeline.defs Cert.AttnIdeal.pcfgs) defs₀_eq

/-- The frame of the call as it is printed for machine floats, from the one run. -/
theorem frame (m : (ℓ : Loc Cert.Attn.nD Cert.Attn.τ Cert.Attn.sig) → Buf (Elt F) ℓ) (ρ : Dev Cert.Attn.nD → PrngReg) :
    θ_run (Cert.Attn.defs (F := F)) (onTc (τ := Cert.Attn.τ) (Cert.Attn.main (F := F))) ⟨m, fun _ => 0, ρ⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0) := by
  rw [defs_eq]
  exact Cert.AttnIdeal.Body.frame (F := F) m ρ

end Cert.AttnIdeal.Same
-- ==== Proof.MixRun.lean ====
/-
  The input projection's run, for any float values: it ends with the results at the contents of the last boundary, the
  arguments unchanged and every counter at zero.
-/
module

public import proofs.«01_k».proof.Proof.Gen.InProjIdeal.Frame

@[expose] public section

set_option maxRecDepth 16384
noncomputable section
namespace Cert.InProjIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three calls and the host code between them, from any memory with zero counters: it ends, nothing
faulting, with each result at the last boundary's contents, the arguments as launched and every counter at zero. -/
theorem run_main : θ_run defs (onTc (τ := τ) (main (F := F))) ⟨m, fun _ => 0, ρ⟩ (fun r => (∀ c : Dev nD,
      (r.2.mem ((c.tc : Thread nD τ).loc main_v3_0) = W5 m ρ c (Proc.devRef .tc main_v3_0)
      ∧ r.2.mem ((c.tc : Thread nD τ).loc main_v4_0) = W5 m ρ c (Proc.devRef .tc main_v4_0)
      ∧ r.2.mem ((c.tc : Thread nD τ).loc main_v4_1) = W5 m ρ c (Proc.devRef .tc main_v4_1)
      ∧ r.2.mem ((c.tc : Thread nD τ).loc main_v7) = W5 m ρ c (Proc.devRef .tc main_v7))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨⟨h c _ (mem_uc main_v3_0 (by decide)), h c _ (mem_uc main_v4_0 (by decide)), h c _ (mem_uc main_v4_1 (by decide)), h c _ (mem_uc main_v7 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩), funext fun g => hz g (.inr (no_unscoped g.2))⟩)

/-- The same run, read at the arguments and the counters alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run_main m ρ)

end Cert.InProjIdeal.Value
-- ==== Proof.Mix.lean ====
/-
  A normalised row and its gradient over the extended reals, for any row: the two spellings of the gradient agree also where
  the row or what arrives is infinite, since the reciprocal root mean square is always a nonnegative real number.
-/
module

public import proofs.«01_k».proof.Proof.Norm

@[expose] public section

set_option maxRecDepth 16384

noncomputable section

open Idealize.ShloMosaic

namespace Cert.Mix

/-- The mean square of a row with the small number added. -/
def ms (x : Fin 1024 → EReal) : EReal :=
  Ideal.div (∑ k, x k * x k) (Ideal.ofBits .f32 0x44800000#32) + Ideal.ofBits .f32 0x358637BD#32
/-- The reciprocal root mean square of a row. -/
def rr (x : Fin 1024 → EReal) : EReal := Ideal.rsqrt (ms x)
/-- A row scaled to root mean square one. -/
def xh (x : Fin 1024 → EReal) (k : Fin 1024) : EReal := x k * rr x
/-- The normalised row. -/
def xn (x g : Fin 1024 → EReal) (k : Fin 1024) : EReal := xh x k * g k
/-- A product of a row with a matrix. -/
def lin {n : ℕ} (x : Fin n → EReal) (w : Fin n → ℕ → EReal) (j : ℕ) : EReal := ∑ k, x k * w k j
/-- A product of a row of 3072 numbers with a matrix transposed. -/
def dhn (d : ℕ → EReal) (w : Fin 1024 → ℕ → EReal) (k : Fin 1024) : EReal := ∑ n : Fin 3072, d n.val * w k n.val
/-- The gradient in a row, from the gradient in its normalised row and what is added to it. -/
def dx (x g d e : Fin 1024 → EReal) (k : Fin 1024) : EReal :=
  rr x * (d k * g k - xh x k * Ideal.div (∑ j, d j * g j * xh x j) (Ideal.ofBits .f32 0x44800000#32)) + e k

/-- The gradient in a row as the chain rule spells it, through the derivative of the reciprocal root. -/
def dx' (x g d e : Fin 1024 → EReal) (k : Fin 1024) : EReal :=
  e k + d k * g k * rr x
    + x k * Ideal.div ((∑ j, x j * (d j * g j)) * (Ideal.ofBits .f32 0xBF000000#32 * Ideal.div (rr x) (ms x))) (Ideal.ofBits .f32 0x44800000#32)
    + Ideal.div ((∑ j, x j * (d j * g j)) * (Ideal.ofBits .f32 0xBF000000#32 * Ideal.div (rr x) (ms x))) (Ideal.ofBits .f32 0x44800000#32) * x k

/-- The two spellings agree. -/
theorem dx_eq (x g d e : Fin 1024 → EReal) (k : Fin 1024) : dx' x g d e k = dx x g d e k := by
  have h := Norm.ng_eq Ffn.k_val (by norm_num) x g d k
  unfold dx' dx
  rw [add_assoc, add_assoc, add_comm]
  refine congrArg (· + e k) ?_
  rw [← add_assoc]
  exact h

end Cert.Mix

end
-- ==== Proof.MixBwd.lean ====
/-
  The input projection's backward call over the extended reals, for any arguments: the gradient in the rows, and the gain's
  gradient summed over all tokens.
-/
module

public import proofs.«01_k».proof.Proof.Gen.InProjIdeal.Frame
public import proofs.«01_k».proof.Proof.Mix
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.InProjIdeal.Value
open Cert.InProjIdeal Cert.InProjIdeal.Gen Cert.Mix

variable (V : (c : Dev nD) → (b : Ref sig .tc) → Buf (Elt Ideal) ((c : Thread nD τ).loc b))

theorem g40 : ((0 : Fin 4) : ℕ) = 0 := rfl
theorem g41 : ((1 : Fin 4) : ℕ) = 1 := rfl
theorem g42 : ((2 : Fin 4) : ℕ) = 2 := rfl
theorem g43 : ((3 : Fin 4) : ℕ) = 3 := rfl

/-- The gradient in the normalised rows, from the four pairs of loads as they arrive. -/
theorem pay6 (D0 D1 D2 D3 : FVec Ideal S512x768 .bf16) (W0 W1 W2 W3 : FVec Ideal S1x1024x768 .bf16)
    (d : Fin 512 → ℕ → EReal) (w : Fin 1024 → ℕ → EReal)
    (hD0 : ∀ y n, D0 (ix2 y n) = d y n.val) (hD1 : ∀ y n, D1 (ix2 y n) = d y (768 + n.val))
    (hD2 : ∀ y n, D2 (ix2 y n) = d y (1536 + n.val)) (hD3 : ∀ y n, D3 (ix2 y n) = d y (2304 + n.val))
    (hW0 : ∀ k n, W0 (ix3 0 k n) = w k n.val) (hW1 : ∀ k n, W1 (ix3 0 k n) = w k (768 + n.val))
    (hW2 : ∀ k n, W2 (ix3 0 k n) = w k (1536 + n.val)) (hW3 : ∀ k n, W3 (ix3 0 k n) = w k (2304 + n.val)) (a : Fin 512) (k : Fin 1024) :
    k1_pay6 (F := Ideal) D0 W0 D1 W1 D2 W2 D3 W3 (ix2 a k) = dhn (d a) w k := by
  pointwise [k1_pay6]
  simp only [hD0, hD1, hD2, hD3, hW0, hW1, hW2, hW3]
  unfold dhn
  rw [Fin.sum_univ_two_halves 2304 768 rfl, Fin.sum_univ_two_halves 1536 768 rfl, Fin.sum_univ_two_halves 768 768 rfl]

/-- The gradient in the rows. -/
theorem pay3 (D H E : FVec Ideal S512x1024 .f32) (G : FVec Ideal S1x1024 .f32) (d x e : Fin 512 → Fin 1024 → EReal) (g : Fin 1024 → EReal)
    (hD : ∀ y k, D (ix2 y k) = d y k) (hH : ∀ y k, H (ix2 y k) = x y k) (hE : ∀ y k, E (ix2 y k) = e y k) (hG : ∀ k, G (ix2 0 k) = g k)
    (a : Fin 512) (k : Fin 1024) :
    k1_pay3 (F := Ideal) D H G (k1_pay7 H) E (ix2 a k) = dx (x a) g (d a) (e a) k := by
  pointwise [k1_pay3, k1_pay2, k1_pay1, k1_pay7]
  simp only [hD, hE, hH, hG]
  rfl

/-- The running column sums of the gain's gradient. -/
theorem pay5 (D H : FVec Ideal S512x1024 .f32) (A : FVec Ideal S1x1024 .f32) (d x : Fin 512 → Fin 1024 → EReal)
    (hD : ∀ y k, D (ix2 y k) = d y k) (hH : ∀ y k, H (ix2 y k) = x y k) (k : Fin 1024) :
    k1_pay5 (F := Ideal) D H (k1_pay7 H) A (ix2 0 k) = A (ix2 0 k) + ∑ y, d y k * xh (x y) k := by
  pointwise [k1_pay5, k1_pay2, k1_pay1, k1_pay7]
  simp only [hD, hH]
  rfl

section
variable (c : Dev nD) (t : Fin cfg1.N) (P : FVec Ideal S512x3072 .bf16) (H E : FVec Ideal S512x1024 .f32) (W : FVec Ideal S4x1024x768 .bf16)
    (G : FVec Ideal S1x1024 .f32) (d : Fin 512 → ℕ → EReal) (x e : Fin 512 → Fin 1024 → EReal) (w : Fin 1024 → ℕ → EReal) (g : Fin 1024 → EReal)
    (eP : iblk1 V c 0 t = P) (eW : iblk1 V c 1 t = W) (eH : iblk1 V c 2 t = H) (eG : iblk1 V c 3 t = G) (eE : iblk1 V c 4 t = E)
    (hP : ∀ y n, P (ix2 y n) = d y n.val) (hW : ∀ j k n, W (ix3 j k n) = w k (768 * j.val + n.val))
    (hH : ∀ y k, H (ix2 y k) = x y k) (hG : ∀ k, G (ix2 0 k) = g k) (hE : ∀ y k, E (ix2 y k) = e y k)

include eP eW eH eG eE hP hW hH hG hE in
/-- The gradients in the rows of a block. -/
theorem out1_5 (a : Fin 512) (b : Fin 1024) : (outsAt1 V c t.val t.isLt).1 (ix2 a b) = dx (x a) g (dhn (d a) w) (e a) b := by
  by_cases h0 : t.val % 16 = 0
  · rw [outsAt1_A V c t h0]; dsimp only []; frame_out
    simp only [eP, eW, eH, eG, eE]
    refine pay3 _ _ _ _ (fun y => dhn (d y) w) x e g (fun y k => pay6 _ _ _ _ _ _ _ _ d w ?_ ?_ ?_ ?_ ?_ ?_ ?_ ?_ y k) hH hE hG a b
    all_goals
      intro p q
      pointwise
      simp only [hP, hW, g40, g41, g42, g43, Nat.reduceMul, Nat.zero_add]
  · rw [outsAt1_B V c t h0]; dsimp only []; frame_out
    simp only [eP, eW, eH, eG, eE]
    refine pay3 _ _ _ _ (fun y => dhn (d y) w) x e g (fun y k => pay6 _ _ _ _ _ _ _ _ d w ?_ ?_ ?_ ?_ ?_ ?_ ?_ ?_ y k) hH hE hG a b
    all_goals
      intro p q
      pointwise
      simp only [hP, hW, g40, g41, g42, g43, Nat.reduceMul, Nat.zero_add]

include eP eW eH hP hW hH in
/-- The first point starts the gain's column sums. -/
theorem out1_6A (h0 : t.val % 16 = 0) (b : Fin 1024) :
    (outsAt1 V c t.val t.isLt).2 (ix2 0 b) = 0 + ∑ a, dhn (d a) w b * xh (x a) b := by
  rw [outsAt1_A V c t h0]; dsimp only []; frame_out
  simp only [eP, eW, eH]
  rw [pay5 _ _ _ (fun y => dhn (d y) w) x (fun y k => pay6 _ _ _ _ _ _ _ _ d w ?_ ?_ ?_ ?_ ?_ ?_ ?_ ?_ y k) hH b]
  · congr 1
    pointwise [k1_pay4]
  all_goals
    intro p q
    pointwise
    simp only [hP, hW, g40, g41, g42, g43, Nat.reduceMul, Nat.zero_add]

include eP eW eH hP hW hH in
/-- Every other point adds its rows to the gain's column sums. -/
theorem out1_6B (h0 : ¬ t.val % 16 = 0) (b : Fin 1024) :
    (outsAt1 V c t.val t.isLt).2 (ix2 0 b) = (outsAt1 V c (t.val - 1) (by omega)).2 (ix2 0 b) + ∑ a, dhn (d a) w b * xh (x a) b := by
  rw [outsAt1_B V c t h0]; dsimp only []; frame_out
  simp only [eP, eW, eH]
  rw [pay5 _ _ _ (fun y => dhn (d y) w) x (fun y k => pay6 _ _ _ _ _ _ _ _ d w ?_ ?_ ?_ ?_ ?_ ?_ ?_ ?_ y k) hH b]
  all_goals
    intro p q
    pointwise
    simp only [hP, hW, g40, g41, g42, g43, Nat.reduceMul, Nat.zero_add]
end

/-- Where the backward call's blocks lie. -/
theorem idx1 : ∀ t : Fin cfg1.N, win1_0.index t = ![t.val, 0] ∧ win1_1.index t = ![0, 0, 0] ∧ win1_2.index t = ![t.val, 0]
    ∧ win1_3.index t = ![0, 0] ∧ win1_4.index t = ![t.val, 0] ∧ win1_5.index t = ![t.val, 0] ∧ win1_6.index t = ![0, 0] :=
  (by decide +kernel : ∀ t : Fin grid1.N, _)

/-- Token `y` of the block of 512 tokens number `t`. -/
def row (t : Fin 16) (y : Fin 512) : Fin 8192 := ⟨t.val * 512 + y.val, by omega⟩

/-- A grid point of the backward call as a number below 16. -/
def pt1 (t : Fin cfg1.N) : Fin 16 := ⟨t.val, lt_of_lt_of_eq t.isLt N_1⟩

section
variable (c : Dev nD) (P : FVec Ideal S8192x3072 .bf16) (X E : FVec Ideal S8192x1024 .f32) (W : FVec Ideal S4x1024x768 .bf16) (G : FVec Ideal S1x1024 .f32)
    (d : Fin 8192 → ℕ → EReal) (x e : Fin 8192 → Fin 1024 → EReal) (w : Fin 1024 → ℕ → EReal) (g : Fin 1024 → EReal)
    (eP : V c main_arg7 = P) (eW : V c main_v2 = W) (eX : V c main_arg0 = X) (eG : V c main_arg1 = G) (eE : V c main_arg8 = E)
    (hP : ∀ y n, P (ix2 y n) = d y n.val) (hW : ∀ j k n, W (ix3 j k n) = w k (768 * j.val + n.val))
    (hX : ∀ y k, X (ix2 y k) = x y k) (hG : ∀ k, G (ix2 0 k) = g k) (hE : ∀ y k, E (ix2 y k) = e y k)

include eP hP in
theorem hP1 (t : Fin cfg1.N) (y : Fin 512) (n : Fin 3072) : iblk1 V c 0 t (ix2 y n) = d (row (pt1 t) y) n.val := by
  rw [← hP]; subst eP
  obtain ⟨e0, e1, e2, e3, e4, e5, e6⟩ := idx1 t
  blk_ext [iblk1, e0, row, pt1]

include eX hX in
theorem hX1 (t : Fin cfg1.N) (y : Fin 512) (k : Fin 1024) : iblk1 V c 2 t (ix2 y k) = x (row (pt1 t) y) k := by
  rw [← hX]; subst eX
  obtain ⟨e0, e1, e2, e3, e4, e5, e6⟩ := idx1 t
  blk_ext [iblk1, e2, row, pt1]

include eE hE in
theorem hE1 (t : Fin cfg1.N) (y : Fin 512) (k : Fin 1024) : iblk1 V c 4 t (ix2 y k) = e (row (pt1 t) y) k := by
  rw [← hE]; subst eE
  obtain ⟨e0, e1, e2, e3, e4, e5, e6⟩ := idx1 t
  blk_ext [iblk1, e4, row, pt1]

include eW in
theorem blk1_1 (t : Fin cfg1.N) : iblk1 V c 1 t = W := by
  subst eW
  obtain ⟨e0, e1, e2, e3, e4, e5, e6⟩ := idx1 t
  funext y
  blk_ext [iblk1, e1]

include eG in
theorem blk1_3 (t : Fin cfg1.N) : iblk1 V c 3 t = G := by
  subst eG
  obtain ⟨e0, e1, e2, e3, e4, e5, e6⟩ := idx1 t
  funext y
  blk_ext [iblk1, e3]

include eP eW eX eG eE hP hW hX hG hE in
/-- The gradients in every token's row. -/
theorem arr1_5 : (dat1 V c).arrAt 5 cfg1.N = fun i : S8192x1024.Idx => dx (x (i 0)) g (dhn (d (i 0)) w) (e (i 0)) (i 1) := by
  refine (dat1 V c).arrAt_eq_of_covers 5 _ (by decide +kernel) fun t hf y => ?_
  obtain ⟨e0, e1, e2, e3, e4, e5, e6⟩ := idx1 t
  blk_simp
  rw [after1_5]
  idx_vars y
  rw [out1_5 V c t _ _ _ W G (fun y => d (row (pt1 t) y)) (fun y => x (row (pt1 t) y)) (fun y => e (row (pt1 t) y)) w g
    rfl (blk1_1 V c W eW t) rfl (blk1_3 V c G eG t) rfl (hP1 V c P d eP hP t) hW (hX1 V c X x eX hX t) hG (hE1 V c E e eE hE t)]
  have hr : row (pt1 t) y0 = (win1_5.blk t).view.emb (ix2 y0 y1) 0 := by
    apply Fin.ext; blk_simp [e5, row, pt1]
  have hk : y1 = (win1_5.blk t).view.emb (ix2 y0 y1) 1 := by
    apply Fin.ext; blk_simp [e5]
  rw [← hr, ← hk]

include eP eW eX hP hW hX in
/-- The gradient in the gain, summed over all tokens. -/
theorem arr1_6 : (dat1 V c).arrAt 6 cfg1.N = fun i : S1x1024.Idx => ∑ r : Fin 8192, dhn (d r) w (i 1) * xh (x r) (i 1) := by
  refine (dat1 V c).arrAt_eq_of_covers 6 _ (by decide +kernel) fun t hf y => ?_
  obtain ⟨e0, e1, e2, e3, e4, e5, e6⟩ := idx1 t
  blk_simp
  rw [after1_6]
  idx_vars y
  have hy : y0 = 0 := Subsingleton.elim _ _
  subst hy
  have hk : y1 = (win1_6.blk t).view.emb (ix2 0 y1) 1 := by
    apply Fin.ext; blk_simp [e6]
  rw [← hk]
  have h := Pipeline.eq_sum_fin_of_reset_step_apply_of_flush (N := cfg1.N)
    (fun n h (i : Fin 1024) => (outsAt1 V c n h).2 (ix2 0 i)) 16 (fun _ => 0)
    (fun t i => ∑ a, dhn (d (row (pt1 t) a)) w i * xh (x (row (pt1 t) a)) i)
    (fun t h0 i => out1_6A V c t _ _ W (fun y => d (row (pt1 t) y)) (fun y => x (row (pt1 t) y)) w
      rfl (blk1_1 V c W eW t) rfl (hP1 V c P d eP hP t) hW (hX1 V c X x eX hX t) h0 i)
    (fun t h0 i => out1_6B V c t _ _ W (fun y => d (row (pt1 t) y)) (fun y => x (row (pt1 t) y)) w
      rfl (blk1_1 V c W eW t) rfl (hP1 V c P d eP hP t) hW (hX1 V c X x eX hX t) h0 i)
    t ((flush1_6 t).mp hf) y1
  refine h.trans ?_
  rw [zero_add]
  refine Fin.sum_mul_add_congr (f := fun r : Fin 8192 => dhn (d r) w y1 * xh (x r) y1) (fun s k hl => ?_)
  have hN : t.val < 16 := lt_of_lt_of_eq t.isLt N_1
  have hs : ∀ (p : Fin cfg1.N), p.val = s.val → row (pt1 p) k = ⟨s.val * 512 + k.val, hl⟩ := fun p hp => Fin.ext (by simp only [row, pt1, hp])
  rw [hs _ (by dsimp only; omega)]

end
end Cert.InProjIdeal.Value
-- ==== Proof.MixFwd.lean ====
/-
  The input projection's forward call over the extended reals, for any arguments: the projected rows and the normalised rows.
-/
module

public import proofs.«01_k».proof.Proof.MixBwd

@[expose] public section

set_option maxRecDepth 16384
noncomputable section
open Idealize.ShloMosaic Idealize.ShloMosaic.TcCoe Idealize.SL.Sem
open Idealize.ShloMosaic.Pipeline (Dat)
namespace Cert.InProjIdeal.Value
open Cert.InProjIdeal Cert.InProjIdeal.Gen Cert.Mix

variable (V : (c : Dev nD) → (b : Ref sig .tc) → Buf (Elt Ideal) ((c : Thread nD τ).loc b))

/-- The normalised rows of one block. -/
theorem pay2 (H : FVec Ideal S512x1024 .f32) (G : FVec Ideal S1x1024 .f32) (x : Fin 512 → Fin 1024 → EReal) (g : Fin 1024 → EReal)
    (hH : ∀ y k, H (ix2 y k) = x y k) (hG : ∀ k, G (ix2 0 k) = g k) (y : Fin 512) (k : Fin 1024) :
    k0_pay2 (F := Ideal) H G (ix2 y k) = xn (x y) g k := by
  pointwise [k0_pay2]
  simp only [hH, hG]
  rfl

/-- Where the forward call's blocks lie. -/
theorem idx0 : ∀ t : Fin cfg0.N, win0_0.index t = ![t.val, 0] ∧ win0_1.index t = ![0, 0, 0] ∧ win0_2.index t = ![0, 0]
    ∧ win0_7.index t = ![t.val, 0] ∧ win0_8.index t = ![t.val, 0] :=
  (by decide +kernel : ∀ t : Fin grid0.N, _)

/-- A grid point of the forward call as a number below 16. -/
def pt0 (t : Fin cfg0.N) : Fin 16 := ⟨t.val, lt_of_lt_of_eq t.isLt N_0⟩

section
variable (c : Dev nD) (t : Fin cfg0.N) (H : FVec Ideal S512x1024 .f32) (W : FVec Ideal S4x1024x768 .bf16) (G : FVec Ideal S1x1024 .f32)
    (x : Fin 512 → Fin 1024 → EReal) (g : Fin 1024 → EReal) (w : Fin 1024 → ℕ → EReal)
    (eH : iblk0 V c 0 t = H) (eW : iblk0 V c 1 t = W) (eG : iblk0 V c 2 t = G)
    (hH : ∀ y k, H (ix2 y k) = x y k) (hG : ∀ k, G (ix2 0 k) = g k)
    (hW : ∀ j k n, W (ix3 j k n) = w k (768 * j.val + n.val))

include eH eG hH hG in
/-- The normalised rows. -/
theorem out0_8 (a : Fin 512) (k : Fin 1024) : (outsAt0 V c t).2.1 (ix2 a k) = xn (x a) g k := by
  unfold outsAt0; dsimp only []; frame_out
  simp only [eH, eG]
  unfold k0_pay3
  pointwise
  exact pay2 H G x g hH hG a k

include eH eW eG hH hG hW in
/-- The projected rows, in four pieces. -/
theorem out0_7 (a : Fin 512) (n : Fin 3072) : (outsAt0 V c t).1 (ix2 a n) = lin (xn (x a) g) w n.val := by
  unfold outsAt0; dsimp only []; frame_out
  simp only [eH, eG, eW]
  canon_tiles x' h
  all_goals
    idx_vars x'
    pointwise [k0_pay4, k0_pay5, k0_pay6, k0_pay7, k0_pay8]
    simp only [pay2 H G x g hH hG]
    obtain rfl : a = x'0 := Fin.ext h0
    simp only [hW, h1, g40, g41, g42, g43, Nat.reduceMul, Nat.mul_zero, Nat.zero_add, lin]
end

section
variable (c : Dev nD) (X : FVec Ideal S8192x1024 .f32) (W : FVec Ideal S4x1024x768 .bf16) (G : FVec Ideal S1x1024 .f32)
    (x : Fin 8192 → Fin 1024 → EReal) (w : Fin 1024 → ℕ → EReal) (g : Fin 1024 → EReal)
    (eX : V c main_arg0 = X) (eW : V c main_v2 = W) (eG : V c main_arg1 = G)
    (hX : ∀ r k, X (ix2 r k) = x r k) (hG : ∀ k, G (ix2 0 k) = g k)
    (hW : ∀ j k n, W (ix3 j k n) = w k (768 * j.val + n.val))

include eX hX in
theorem hX0 (t : Fin cfg0.N) (y : Fin 512) (k : Fin 1024) : iblk0 V c 0 t (ix2 y k) = x (row (pt0 t) y) k := by
  rw [← hX]; subst eX
  obtain ⟨e0, e1, e2, e7, e8⟩ := idx0 t
  blk_ext [iblk0, e0, row, pt0]

include eW in
theorem blk0_1 (t : Fin cfg0.N) : iblk0 V c 1 t = W := by
  subst eW
  obtain ⟨e0, e1, e2, e7, e8⟩ := idx0 t
  funext y
  blk_ext [iblk0, e1]

include eG in
theorem blk0_2 (t : Fin cfg0.N) : iblk0 V c 2 t = G := by
  subst eG
  obtain ⟨e0, e1, e2, e7, e8⟩ := idx0 t
  funext y
  blk_ext [iblk0, e2]

include eX eW eG hX hG hW in
/-- The projection of every token's normalised row. -/
theorem arr0_7 : (dat0 V c).arrAt 7 cfg0.N = fun i : S8192x3072.Idx => lin (xn (x (i 0)) g) w (i 1).val := by
  refine (dat0 V c).arrAt_eq_of_covers 7 _ (by decide +kernel) fun t hf y => ?_
  obtain ⟨e0, e1, e2, e7, e8⟩ := idx0 t
  blk_simp
  rw [after0_7]
  idx_vars y
  rw [out0_7 V c t _ W G (fun y => x (row (pt0 t) y)) g w rfl (blk0_1 V c W eW t) (blk0_2 V c G eG t) (hX0 V c X x eX hX t) hG hW]
  have hr : row (pt0 t) y0 = (win0_7.blk t).view.emb (ix2 y0 y1) 0 := by
    apply Fin.ext; blk_simp [e7, row, pt0]
  rw [hr]
  blk_simp [e7]

include eX eG hX hG in
/-- The normalised rows of every token. -/
theorem arr0_8 : (dat0 V c).arrAt 8 cfg0.N = fun i : S8192x1024.Idx => xn (x (i 0)) g (i 1) := by
  refine (dat0 V c).arrAt_eq_of_covers 8 _ (by decide +kernel) fun t hf y => ?_
  obtain ⟨e0, e1, e2, e7, e8⟩ := idx0 t
  blk_simp
  rw [after0_8]
  idx_vars y
  rw [out0_8 V c t _ G (fun y => x (row (pt0 t) y)) g rfl (blk0_2 V c G eG t) (hX0 V c X x eX hX t) hG]
  have hr : row (pt0 t) y0 = (win0_8.blk t).view.emb (ix2 y0 y1) 0 := by
    apply Fin.ext; blk_simp [e8, row, pt0]
  have hk : y1 = (win0_8.blk t).view.emb (ix2 y0 y1) 1 := by
    apply Fin.ext; blk_simp [e8]
  rw [← hr, ← hk]
end

end Cert.InProjIdeal.Value
-- ==== Proof.MixMm.lean ====
/-
  The input projection's weight gradient over the extended reals, for any arguments: the normalised rows transposed times what
  arrives, in four pieces, summed over all tokens.
-/
module

public import proofs.«01_k».proof.Proof.MixBwd

@[expose] public section

set_option maxRecDepth 16384
noncomputable section
open Idealize.ShloMosaic Idealize.ShloMosaic.TcCoe Idealize.SL.Sem
open Idealize.ShloMosaic.Pipeline (Dat)
namespace Cert.InProjIdeal.Value
open Cert.InProjIdeal Cert.InProjIdeal.Gen Cert.Mix

variable (V : (c : Dev nD) → (b : Ref sig .tc) → Buf (Elt Ideal) ((c : Thread nD τ).loc b))

/-- Where the product's blocks lie: sixteen steps over the tokens. -/
theorem idx2 : ∀ t : Fin cfg2.N, win2_0.index t = ![t.val, 0] ∧ win2_1.index t = ![t.val, 0] ∧ win2_2.index t = ![0, 0, 0] :=
  (by decide +kernel : ∀ t : Fin grid2.N, _)

/-- A grid point of the product as a number below 16. -/
def pt2 (t : Fin cfg2.N) : Fin 16 := ⟨t.val, lt_of_lt_of_eq t.isLt N_2⟩

/-- Where four stores cover an index, a fifth, earlier one does not matter. -/
theorem canon_drop {S : Shape} {e : EltTy} (p₁ p₂ p₃ p₄ z : View.Piece (Elt Ideal) S e) (y : S.Idx)
    (h : ∃ p ∈ [p₁, p₂, p₃, p₄], y ∈ p.1.set) : View.canon [p₁, p₂, p₃, p₄, z] y = View.canon [p₁, p₂, p₃, p₄] y := by
  by_cases h1 : y ∈ p₁.1.set
  · obtain ⟨x, rfl⟩ := p₁.1.exists_idx_of_mem h1
    exact (View.canon_cons_emb p₁.1 p₁.2 _ x).trans (View.canon_cons_emb p₁.1 p₁.2 _ x).symm
  rw [View.canon_cons_of_not_mem _ _ h1, View.canon_cons_of_not_mem _ _ h1]
  by_cases h2 : y ∈ p₂.1.set
  · obtain ⟨x, rfl⟩ := p₂.1.exists_idx_of_mem h2
    exact (View.canon_cons_emb p₂.1 p₂.2 _ x).trans (View.canon_cons_emb p₂.1 p₂.2 _ x).symm
  rw [View.canon_cons_of_not_mem _ _ h2, View.canon_cons_of_not_mem _ _ h2]
  by_cases h3 : y ∈ p₃.1.set
  · obtain ⟨x, rfl⟩ := p₃.1.exists_idx_of_mem h3
    exact (View.canon_cons_emb p₃.1 p₃.2 _ x).trans (View.canon_cons_emb p₃.1 p₃.2 _ x).symm
  rw [View.canon_cons_of_not_mem _ _ h3, View.canon_cons_of_not_mem _ _ h3]
  have h4 : y ∈ p₄.1.set := by
    obtain ⟨p, hp, hy⟩ := h
    simp only [List.mem_cons, List.not_mem_nil, or_false] at hp
    rcases hp with rfl | rfl | rfl | rfl
    exacts [absurd hy h1, absurd hy h2, absurd hy h3, hy]
  obtain ⟨x, rfl⟩ := p₄.1.exists_idx_of_mem h4
  exact (View.canon_cons_emb p₄.1 p₄.2 _ x).trans (View.canon_cons_emb p₄.1 p₄.2 _ x).symm

/-- A load of one slice reads what the stores before it left there. -/
theorem rd_slice {sig : RefSig} {κ : Kind} {sp : Space} (v : View sig κ sp S4x1024x768 .f32) (L : List (View.Piece (Elt Ideal) S4x1024x768 .f32))
    (o : ℕ) (ho : o < 4) (inb : ∀ a, (![o, 0, 0] : Fin 3 → ℕ) a + (![1, 1024, 768] : Fin 3 → ℕ) a ≤ S4x1024x768.size a) (p : Fin 1024) (q : Fin 768) :
    v.readCov L (Rect.unit (s := S4x1024x768) ![o, 0, 0] ![1, 1024, 768] inb).toLoadRect (ix3 0 p q) = View.canon L (ix3 ⟨o, ho⟩ p q) := by
  rw [View.readCov_eq_canon']
  refine congrArg (View.canon L) (funext fun a => Fin.ext ?_)
  fin_cases a
  · show o + 1 * 0 = o; omega
  · show 0 + 1 * p.val = p.val; omega
  · show 0 + 1 * q.val = q.val; omega

/-- A store to another slice does not matter. -/
theorem canon_skip (L : List (View.Piece (Elt Ideal) S4x1024x768 .f32)) (o : ℕ) (j : Fin 4) (hj : j.val ≠ o)
    (inb : ∀ a, (![o, 0, 0] : Fin 3 → ℕ) a + (![1, 1024, 768] : Fin 3 → ℕ) a ≤ S4x1024x768.size a)
    (w : (Rect.unit (s := S4x1024x768) ![o, 0, 0] ![1, 1024, 768] inb).shape.Idx → Elt Ideal .f32) (p : Fin 1024) (q : Fin 768) :
    View.canon ((⟨Rect.unit (s := S4x1024x768) ![o, 0, 0] ![1, 1024, 768] inb, w⟩ : View.Piece (Elt Ideal) S4x1024x768 .f32) :: L) (ix3 j p q)
      = View.canon L (ix3 j p q) := by
  refine View.canon_cons_of_not_mem _ _ fun hm => ?_
  obtain ⟨x, hx⟩ := (Rect.unit (s := S4x1024x768) ![o, 0, 0] ![1, 1024, 768] inb).exists_idx_of_mem hm
  have h := congrArg (fun i : S4x1024x768.Idx => (i 0).val) hx
  have h' : o + 1 * (x 0).val = j.val := h
  have hl : (x 0).val < 1 := (x 0).isLt
  omega

/-- The store of zeros over the whole buffer. -/
theorem canon_zeros (inb : ∀ a, (![0, 0, 0] : Fin 3 → ℕ) a + (![4, 1024, 768] : Fin 3 → ℕ) a ≤ S4x1024x768.size a)
    (w : S4x1024x768.Idx → Elt Ideal .f32) :
    View.canon [(⟨Rect.unit (s := S4x1024x768) ![0, 0, 0] ![4, 1024, 768] inb, w⟩ : View.Piece (Elt Ideal) S4x1024x768 .f32)] = w :=
  View.canon_cons_unit_lit inb w [] (by decide)

section
variable (c : Dev nD) (t : Fin cfg2.N) (A : FVec Ideal S512x1024 .bf16) (B : FVec Ideal S512x3072 .bf16)
    (a : Fin 512 → Fin 1024 → EReal) (b : Fin 512 → ℕ → EReal)
    (eA : iblk2 V c 0 t = A) (eB : iblk2 V c 1 t = B)
    (hA : ∀ r k, A (ix2 r k) = a r k) (hB : ∀ r n, B (ix2 r n) = b r n.val)

include eA eB hA hB in
/-- The first point starts the sums. -/
theorem out2_2A (h0 : t.val % 16 = 0) (j : Fin 4) (p : Fin 1024) (q : Fin 768) :
    (outsAt2 V c t.val t.isLt) (ix3 j p q) = 0 + ∑ r, a r p * b r (768 * j.val + q.val) := by
  rw [outsAt2_A V c t h0]; frame_out
  simp only [eA, eB]
  clear h0
  refine (canon_drop _ _ _ _ _ _ (View.cover_of_tiledBy _ ![1, 1024, 768] (by sl_kernel_rfl) _)).trans ?_
  canon_tiles x' h
  all_goals
    open_payloads
    idx_vars x'
    pointwise
    obtain rfl : p = x'1 := Fin.ext h1
    obtain rfl : q = x'2 := Fin.ext h2
    simp only [hA, hB]
  case piece0 =>
    obtain rfl : j = 3 := Fin.ext (by simp only [g43]; omega)
    rw [rd_slice _ _ 3 (by decide), canon_skip _ 2 _ (by decide), canon_skip _ 1 _ (by decide), canon_skip _ 0 _ (by decide), canon_zeros]
    pointwise
  case piece1 =>
    obtain rfl : j = 2 := Fin.ext (by simp only [g42]; omega)
    rw [rd_slice _ _ 2 (by decide), canon_skip _ 1 _ (by decide), canon_skip _ 0 _ (by decide), canon_zeros]
    pointwise
  case piece2 =>
    obtain rfl : j = 1 := Fin.ext (by simp only [g41]; omega)
    rw [rd_slice _ _ 1 (by decide), canon_skip _ 0 _ (by decide), canon_zeros]
    pointwise
  case piece3 =>
    obtain rfl : j = 0 := Fin.ext (by simp only [g40]; omega)
    simp only [g40, Nat.mul_zero, Nat.zero_add]
    rw [rd_slice _ _ 0 (by decide), canon_zeros]
    pointwise

include eA eB hA hB in
/-- Every other point adds its rows. -/
theorem out2_2B (h0 : ¬ t.val % 16 = 0) (j : Fin 4) (p : Fin 1024) (q : Fin 768) :
    (outsAt2 V c t.val t.isLt) (ix3 j p q) = (outsAt2 V c (t.val - 1) (by omega)) (ix3 j p q) + ∑ r, a r p * b r (768 * j.val + q.val) := by
  rw [outsAt2_B V c t h0]; frame_out
  simp only [eA, eB]
  canon_tiles x' h
  all_goals
    open_payloads
    idx_vars x'
    pointwise
    obtain rfl : p = x'1 := Fin.ext h1
    obtain rfl : q = x'2 := Fin.ext h2
    simp only [hA, hB]
  case piece0 => obtain rfl : j = 3 := Fin.ext (by simp only [g43]; omega); rfl
  case piece1 => obtain rfl : j = 2 := Fin.ext (by simp only [g42]; omega); rfl
  case piece2 => obtain rfl : j = 1 := Fin.ext (by simp only [g41]; omega); rfl
  case piece3 =>
    obtain rfl : j = 0 := Fin.ext (by simp only [g40]; omega)
    simp only [g40, Nat.mul_zero, Nat.zero_add]
end

section
variable (c : Dev nD) (A : FVec Ideal S8192x1024 .bf16) (B : FVec Ideal S8192x3072 .bf16)
    (a : Fin 8192 → Fin 1024 → EReal) (b : Fin 8192 → ℕ → EReal)
    (eA : V c main_v3_1 = A) (eB : V c main_arg7 = B)
    (hA : ∀ r k, A (ix2 r k) = a r k) (hB : ∀ r n, B (ix2 r n) = b r n.val)

include eA hA in
theorem blk2_0 (t : Fin cfg2.N) (r : Fin 512) (p : Fin 1024) : iblk2 V c 0 t (ix2 r p) = a (row (pt2 t) r) p := by
  rw [← hA]; subst eA
  obtain ⟨e0, e1, e2⟩ := idx2 t
  blk_ext [iblk2, e0, row, pt2]

include eB hB in
theorem blk2_1 (t : Fin cfg2.N) (r : Fin 512) (n : Fin 3072) : iblk2 V c 1 t (ix2 r n) = b (row (pt2 t) r) n.val := by
  rw [← hB]; subst eB
  obtain ⟨e0, e1, e2⟩ := idx2 t
  blk_ext [iblk2, e1, row, pt2]

include eA eB hA hB in
/-- The weight gradient in its four pieces, over all tokens. -/
theorem arr2_2 : (dat2 V c).arrAt 2 cfg2.N = fun i : S4x1024x768.Idx => ∑ r : Fin 8192, a r (i 1) * b r (768 * (i 0).val + (i 2).val) := by
  refine (dat2 V c).arrAt_eq_of_covers 2 _ (by decide +kernel) fun t hf y => ?_
  have hN : t.val < 16 := lt_of_lt_of_eq t.isLt N_2
  obtain ⟨e0, e1, e2⟩ := idx2 t
  blk_simp
  rw [after2_2]
  idx_vars y
  have hk : y1 = (win2_2.blk t).view.emb (ix3 y0 y1 y2) 1 := by
    apply Fin.ext; blk_simp [e2]
  rw [← hk]
  have h := Pipeline.eq_sum_fin_of_reset_step_apply_of_flush (N := cfg2.N)
    (fun n h (i : Fin 4 × Fin 1024 × Fin 768) => outsAt2 V c n h (ix3 i.1 i.2.1 i.2.2)) 16 (fun _ => 0)
    (fun t i => ∑ r, a (row (pt2 t) r) i.2.1 * b (row (pt2 t) r) (768 * i.1.val + i.2.2.val))
    (fun t h0 i => out2_2A V c t _ _ _ _ rfl rfl (blk2_0 V c A a eA hA t) (blk2_1 V c B b eB hB t) h0 i.1 i.2.1 i.2.2)
    (fun t h0 i => out2_2B V c t _ _ _ _ rfl rfl (blk2_0 V c A a eA hA t) (blk2_1 V c B b eB hB t) h0 i.1 i.2.1 i.2.2)
    t ((flush2_2 t).mp hf) (y0, y1, y2)
  refine h.trans ?_
  rw [zero_add]
  blk_simp [e2]
  refine Fin.sum_mul_add_congr (f := fun r : Fin 8192 => a r y1 * b r (768 * y0.val + y2.val)) (fun s k hl => ?_)
  have hs : ∀ (p : Fin cfg2.N), p.val = s.val → row (pt2 p) k = ⟨s.val * 512 + k.val, hl⟩ := fun p hp => Fin.ext (by simp only [row, pt2, hp])
  dsimp only
  rw [hs _ (by dsimp only; omega)]
end

end Cert.InProjIdeal.Value
-- ==== Proof.MixVal.lean ====
/-
  The contents of the input projection's buffers from call to call, over the extended reals and for any arguments, down to
  the four results.
-/
module

public import proofs.«01_k».proof.Proof.MixFwd
public import proofs.«01_k».proof.Proof.MixMm

@[expose] public section

set_option maxRecDepth 16384
noncomputable section
open Idealize.ShloMosaic Idealize.ShloMosaic.TcCoe Idealize.SL.Sem
namespace Cert.InProjIdeal.Value
open Cert.InProjIdeal Cert.InProjIdeal.Gen Cert.Mix

variable (m : (ℓ : Loc nD τ sig) → Buf (Elt Ideal) ℓ) (ρ : Dev nD → PrngReg) (c : Dev nD)

/-- The weights as the calls take them: four blocks of 768 columns. -/
theorem v2_val (X : FVec Ideal S1024x3072 .f32) (e : m ((c : Thread nD τ).loc main_arg2) = X) (w : Fin 1024 → ℕ → EReal)
    (hX : ∀ k n, X (ix2 k n) = w k n.val) :
    ∃ W : FVec Ideal S4x1024x768 .bf16, V1 m ρ c main_v2 = W ∧ ∀ j k d, W (ix3 j k d) = w k (768 * j.val + d.val) := by
  have h : V1 m ρ c main_v2 = transpose S4x1024x768 [1, 0, 2]
      (shapeCast S1024x4x768 (truncf .bf16 X bitsLt_bf16_f32 : FVec Ideal S1024x3072 .bf16) shapeCasts_S1024x3072_S1024x4x768)
      transposes_S1024x4x768_S4x1024x768_1_0_2 := by
    subst e
    show StableHlo.after hostOps0 (W0 m ρ c) (Proc.devRef .tc main_v2) = _
    after_results_simp
    rfl
  refine ⟨_, h, fun j k d => ?_⟩
  pointwise
  rw [hX, Nat.mul_comm 768]

/-- The weights' gradient as it is returned. -/
theorem v7_val (v : Fin 4 → Fin 1024 → ℕ → EReal)
    (e : W4 m ρ c (Proc.devRef .tc main_v5) = fun i : S4x1024x768.Idx => v (i 0) (i 1) (i 2).val)
    (u : Fin 1024 → ℕ → EReal) (hu : ∀ (j : Fin 4) k n, n < 768 → v j k n = u k (j.val * 768 + n)) :
    W5 m ρ c (Proc.devRef .tc main_v7) = fun i : S1024x3072.Idx => u (i 0) (i 1).val := by
  have h : W5 m ρ c (Proc.devRef .tc main_v7) = shapeCast S1024x3072 (transpose S1024x4x768 [1, 0, 2]
      (fun i : S4x1024x768.Idx => v (i 0) (i 1) (i 2).val : FVec Ideal S4x1024x768 .f32) transposes_S4x1024x768_S1024x4x768_1_0_2)
      shapeCasts_S1024x4x768_S1024x3072 := by
    rw [← e]
    show StableHlo.after hostOps3 (W4 m ρ c) (Proc.devRef .tc main_v7) = _
    after_results_simp
    rfl
  rw [h]
  funext i
  idx_vars i
  pointwise
  rw [hu _ _ _ (Nat.mod_lt _ (by decide))]
  dsimp only
  rw [Nat.div_add_mod']

variable (x e : Fin 8192 → Fin 1024 → EReal) (g : Fin 1024 → EReal) (w : Fin 1024 → ℕ → EReal) (d : Fin 8192 → ℕ → EReal)
    (X E : FVec Ideal S8192x1024 .f32) (G : FVec Ideal S1x1024 .f32) (W : FVec Ideal S1024x3072 .f32) (P : FVec Ideal S8192x3072 .bf16)
    (eX : m ((c : Thread nD τ).loc main_arg0) = X) (eG : m ((c : Thread nD τ).loc main_arg1) = G)
    (eW : m ((c : Thread nD τ).loc main_arg2) = W) (eP : m ((c : Thread nD τ).loc main_arg7) = P)
    (eE : m ((c : Thread nD τ).loc main_arg8) = E)
    (hX : ∀ y k, X (ix2 y k) = x y k) (hG : ∀ k, G (ix2 0 k) = g k) (hW : ∀ k n, W (ix2 k n) = w k n.val)
    (hP : ∀ y n, P (ix2 y n) = d y n.val) (hE : ∀ y k, E (ix2 y k) = e y k)

include eX eG eW hX hG hW in
/-- The projection. -/
theorem proj_at : W5 m ρ c (Proc.devRef .tc main_v3_0) = fun i : S8192x3072.Idx => lin (xn (x (i 0)) g) w (i 1).val := by
  obtain ⟨W', eW', hW'⟩ := v2_val m ρ c W eW w hW
  rw [W5_of m ρ c main_v3_0 (by decide), W4_of m ρ c main_v3_0 (by decide), W3_of m ρ c main_v3_0 (by decide)]
  exact (W2_arr m ρ c 7).trans (arr0_7 (V1 m ρ) c X W' G x w g ((W1_args m ρ c main_arg0 (by decide)).trans eX) eW'
    ((W1_args m ρ c main_arg1 (by decide)).trans eG) hX hG hW')

include eX eG hX hG in
/-- The normalised rows as the first call leaves them. -/
theorem xn_at : W2 m ρ c (Proc.devRef .tc main_v3_1) = fun i : S8192x1024.Idx => xn (x (i 0)) g (i 1) :=
  (W2_arr m ρ c 8).trans (arr0_8 (V1 m ρ) c X G x g ((W1_args m ρ c main_arg0 (by decide)).trans eX)
    ((W1_args m ρ c main_arg1 (by decide)).trans eG) hX hG)

include eX eG eW eP eE hX hG hW hP hE in
/-- The gradient in the rows. -/
theorem dx_at : W5 m ρ c (Proc.devRef .tc main_v4_0) = fun i : S8192x1024.Idx => dx (x (i 0)) g (dhn (d (i 0)) w) (e (i 0)) (i 1) := by
  obtain ⟨W', eW', hW'⟩ := v2_val m ρ c W eW w hW
  rw [W5_of m ρ c main_v4_0 (by decide), W4_of m ρ c main_v4_0 (by decide)]
  exact (W3_arr m ρ c 5).trans (arr1_5 (V2 m ρ) c P X E W' G d x e w g ((W2_args m ρ c main_arg7 (by decide)).trans eP)
    ((W2_of m ρ c main_v2 (by decide)).trans eW') ((W2_args m ρ c main_arg0 (by decide)).trans eX)
    ((W2_args m ρ c main_arg1 (by decide)).trans eG) ((W2_args m ρ c main_arg8 (by decide)).trans eE) hP hW' hX hG hE)

include eX eW eP hX hW hP in
/-- The gradient in the gain. -/
theorem dg_at : W5 m ρ c (Proc.devRef .tc main_v4_1) = fun i : S1x1024.Idx => ∑ r : Fin 8192, dhn (d r) w (i 1) * xh (x r) (i 1) := by
  obtain ⟨W', eW', hW'⟩ := v2_val m ρ c W eW w hW
  rw [W5_of m ρ c main_v4_1 (by decide), W4_of m ρ c main_v4_1 (by decide)]
  exact (W3_arr m ρ c 6).trans (arr1_6 (V2 m ρ) c P X W' d x w ((W2_args m ρ c main_arg7 (by decide)).trans eP)
    ((W2_of m ρ c main_v2 (by decide)).trans eW') ((W2_args m ρ c main_arg0 (by decide)).trans eX) hP hW' hX)

include eX eG eP hX hG hP in
/-- The gradient in the weights. -/
theorem dw_at : W5 m ρ c (Proc.devRef .tc main_v7) = fun i : S1024x3072.Idx => ∑ r : Fin 8192, xn (x r) g (i 0) * d r (i 1).val := by
  refine v7_val m ρ c (fun j k n => ∑ r : Fin 8192, xn (x r) g k * d r (768 * j.val + n)) ?_
    (fun k n => ∑ r : Fin 8192, xn (x r) g k * d r n) (fun j k n _ => by rw [Nat.mul_comm 768])
  exact (W4_arr m ρ c 2).trans (arr2_2 (V3 m ρ) c _ P (fun r => xn (x r) g) d
    ((W3_of m ρ c main_v3_1 (by decide)).trans (xn_at m ρ c x g X G eX eG hX hG))
    ((W3_args m ρ c main_arg7 (by decide)).trans eP) (fun _ _ => rfl) hP)

end Cert.InProjIdeal.Value
-- ==== Proof.MixRef.lean ====
/-
  The values of the input projection's reference over the extended reals, for any arguments, operation by operation.
-/
module

public import proofs.«01_k».proof.Proof.Gen.InProjRefIdeal.Read
public import proofs.«01_k».proof.Proof.Mix
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.InProjRefIdeal.Value
open Cert.InProjRefIdeal Cert.InProjRefIdeal.Gen Cert.InProjRefIdeal.Read Cert.Mix

variable (X E : FVec Ideal S8192x1024 .f32) (G : FVec Ideal S1x1024 .f32) (W : FVec Ideal S1024x3072 .f32) (P : FVec Ideal S8192x3072 .bf16)
    (x e : Fin 8192 → Fin 1024 → EReal) (g : Fin 1024 → EReal) (w : Fin 1024 → ℕ → EReal) (d : Fin 8192 → ℕ → EReal)
    (hX : ∀ y k, X (ix2 y k) = x y k) (hG : ∀ k, G (ix2 0 k) = g k) (hW : ∀ k n, W (ix2 k n) = w k n.val)
    (hP : ∀ y n, P (ix2 y n) = d y n.val) (hE : ∀ y k, E (ix2 y k) = e y k)

include hX in
/-- The mean square with the small number added. -/
theorem v6_at (r : Fin 8192) : val_main_v6 (F := Ideal) X (ix2 r 0) = ms (x r) := by
  pointwise [val_main_v6, val_main_v5, val_main_v4, val_main_v3, val_main_v2, val_main_v1, val_main_v0, val_main_cst, val_main_cst_0, val_main_cst_1]
  simp only [hX, ms]

include hX in
/-- The reciprocal root mean square. -/
theorem v7_at (r : Fin 8192) : val_main_v7 (F := Ideal) X (ix2 r 0) = rr (x r) := by
  pointwise [val_main_v7]
  rw [v6_at X x hX, rr]

include hX in
/-- Minus half of the reciprocal root mean square over the mean square. -/
theorem v10_at (r : Fin 8192) : val_main_v10 (F := Ideal) X (ix2 r 0) = Ideal.ofBits .f32 0xBF000000#32 * Ideal.div (rr (x r)) (ms (x r)) := by
  pointwise [val_main_v10, val_main_v9, val_main_v8, val_main_cst_2]
  rw [v6_at X x hX, v7_at X x hX]

include hX in
/-- The row scaled to root mean square one. -/
theorem v12_at (r : Fin 8192) (k : Fin 1024) : val_main_v12 (F := Ideal) X (ix2 r k) = xh (x r) k := by
  pointwise [val_main_v12, val_main_v11]
  rw [v7_at X x hX, hX, xh]

include hX hG in
/-- The normalised row. -/
theorem v14_at (r : Fin 8192) (k : Fin 1024) : val_main_v14 (F := Ideal) X G (ix2 r k) = xn (x r) g k := by
  pointwise [val_main_v14, val_main_v13]
  rw [v12_at X x hX, hG, xn]

include hX hG hW in
/-- The projection. -/
theorem v15_at (r : Fin 8192) (n : Fin 3072) : val_main_v15 (F := Ideal) X G W (ix2 r n) = lin (xn (x r) g) w n.val := by
  pointwise [val_main_v15]
  simp only [v14_at X G x g hX hG, hW, lin]

include hX hG hP in
/-- The gradient in the weights. -/
theorem v18_at (k : Fin 1024) (n : Fin 3072) : val_main_v18 (F := Ideal) X G P (ix2 k n) = ∑ r : Fin 8192, xn (x r) g k * d r n.val := by
  pointwise [val_main_v18, val_main_v17, val_main_v16]
  simp only [v14_at X G x g hX hG, hP, mul_comm (d _ _)]

include hW hP in
/-- The gradient in the normalised rows. -/
theorem v19_at (r : Fin 8192) (k : Fin 1024) : val_main_v19 (F := Ideal) W P (ix2 r k) = dhn (d r) w k := by
  pointwise [val_main_v19, val_main_v16]
  simp only [hW, hP, dhn]

include hX hW hP in
/-- The gradient in the gain. -/
theorem v22_at (k : Fin 1024) : val_main_v22 (F := Ideal) X W P (ix2 0 k) = ∑ r : Fin 8192, dhn (d r) w k * xh (x r) k := by
  pointwise [val_main_v22, val_main_v21, val_main_v20, val_main_cst_3]
  simp only [v12_at X x hX, v19_at W P w d hW hP, mul_comm (xh _ _)]

include hG hW hP in
/-- The gradient in the scaled rows. -/
theorem v24_at (r : Fin 8192) (k : Fin 1024) : val_main_v24 (F := Ideal) G W P (ix2 r k) = dhn (d r) w k * g k := by
  pointwise [val_main_v24, val_main_v23]
  rw [hG, v19_at W P w d hW hP]

include hX hG hW hP in
/-- What every entry of a row takes through the reciprocal root. -/
theorem v35_at (r : Fin 8192) (k : Fin 1024) : val_main_v35 (F := Ideal) X G W P (ix2 r k)
    = Ideal.div ((∑ j, x r j * (dhn (d r) w j * g j)) * (Ideal.ofBits .f32 0xBF000000#32 * Ideal.div (rr (x r)) (ms (x r)))) (Ideal.ofBits .f32 0x44800000#32) := by
  pointwise [val_main_v35, val_main_v34, val_main_v33, val_main_v32, val_main_v31, val_main_v27, val_main_v26, val_main_v25, val_main_cst_4,
    val_main_cst_5, val_main_cst_6]
  simp only [Fin.sum_univ_one, v10_at X x hX, v24_at G W P g w d hG hW hP, hX]

include hX hG hW hP hE in
/-- The gradient in the rows. -/
theorem v39_at (r : Fin 8192) (k : Fin 1024) : val_main_v39 (F := Ideal) X G W P E (ix2 r k) = dx (x r) g (dhn (d r) w) (e r) k := by
  rw [← dx_eq]
  pointwise [val_main_v39, val_main_v38, val_main_v37, val_main_v36, val_main_v30, val_main_v29, val_main_v28]
  simp only [v35_at X G W P x g w d hX hG hW hP, v24_at G W P g w d hG hW hP, v7_at X x hX, hX, hE]
  rfl

end Cert.InProjRefIdeal.Value
-- ==== Proof.Fwd.lean ====
/-
  The forward kernel at one grid point, over the extended reals: where its input blocks hold real numbers, each output
  block holds the real model's value of the token row.
-/
module

public import proofs.«01_k».proof.Proof.Gen.KernelIdeal.Frame.Region0
public import proofs.«01_k».proof.Proof.Coe
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ffn

theorem pay2 (H : Vec Ideal S256x1024 .f32) (G : Vec Ideal S1x1024 .f32) (x : Fin 256 → Fin 1024 → ℝ) (g : Fin 1024 → ℝ)
    (hH : ∀ y k, H (ix2 y k) = ((x y k : ℝ) : EReal)) (hG : ∀ k, G (ix2 0 k) = ((g k : ℝ) : EReal)) (y : Fin 256) (k : Fin 1024) :
    k0_pay2 H G (ix2 y k) = ((xn (x y) g k : ℝ) : EReal) := by
  pointwise [k0_pay2]
  simp only [hH, hG, ← EReal.coe_mul, coe_sum, eps_val, k_val, div_coe _ (show (1024:ℝ) ≠ 0 by norm_num), ← EReal.coe_add, rsqrt_coe (ms_pos _)]
  rfl

variable (V : (c : Dev nD) → (b : Ref sig .tc) → Buf (Elt Ideal) ((c : Thread nD τ).loc b))

/-- A load of a whole buffer reads what the stores before it left, whatever their pieces. -/
theorem readCov_whole {sig : RefSig} {κ : Kind} {sp : Space} {S : Shape} {e : EltTy} (v : View sig κ sp S e) (L : List (View.Piece (Elt Ideal) S e))
    {off : Fin S.rank → Nat} (inb : ∀ a, off a + S.size a ≤ S.size a) (h : ∀ a, off a = 0) :
    v.readCov L (Rect.unit off (no_index S.size) inb).toLoadRect = View.canon L := by
  rw [View.readCov_eq_canon']
  exact View.ld_unit_lit inb _ h

theorem f40 : ((0 : Fin 4) : ℕ) = 0 := rfl
theorem f41 : ((1 : Fin 4) : ℕ) = 1 := rfl
theorem f42 : ((2 : Fin 4) : ℕ) = 2 := rfl
theorem f43 : ((3 : Fin 4) : ℕ) = 3 := rfl

set_option maxHeartbeats 2000000 in
/-- The activations: every one of the twelve stores holds the model's activation at its columns. -/
theorem out0_5 (c : Dev nD) (t : Fin cfg0.N) (H : FVec Ideal S256x1024 .f32) (W : FVec Ideal S4x1024x1408 .bf16) (G : FVec Ideal S1x1024 .f32)
    (x : Fin 256 → Fin 1024 → ℝ) (g : Fin 1024 → ℝ) (w : Fin 1024 → ℕ → ℝ)
    (eH : iblk0 V c 0 t = H) (eW : iblk0 V c 1 t = W) (eG : iblk0 V c 2 t = G)
    (hH : ∀ y k, H (ix2 y k) = ((x y k : ℝ) : EReal)) (hG : ∀ k, G (ix2 0 k) = ((g k : ℝ) : EReal))
    (hW : ∀ j k d, W (ix3 j k d) = ((w k (1408 * j.val + d.val) : ℝ) : EReal)) (a : Fin 256) (b : Fin 2816) :
    (outsAt0 V c t.val t.isLt).1 (ix2 a b) = ((act (x a) g w b.val : ℝ) : EReal) := by
  by_cases h0 : t.val % 32 = 0
  · rw [outsAt0_A V c t h0]; dsimp only []; frame_out
    simp only [eH, eG, eW]
    clear h0
    canon_tiles x' h using View.cover_of_tiledBy _ ![256, 128] (by sl_kernel_rfl) _
    all_goals
      open_payloads
      idx_vars x'
      pointwise
      simp only [hH, hG, hW, ← EReal.coe_mul, coe_sum, eps_val, k_val, div_coe _ (show (1024:ℝ) ≠ 0 by norm_num), ← EReal.coe_add,
          rsqrt_coe (ms_pos _), sig_coe, ← EReal.coe_one, ← EReal.coe_sub]
      obtain rfl : a = x'0 := Fin.ext h0
      simp only [h1, f40, f41, f42, f43, Nat.reduceMul, ← Nat.add_assoc, Nat.reduceAdd, Nat.zero_add, act, fac, fac0, silu, lin, xn, xh, rr]
  · rw [outsAt0_B V c t h0]; dsimp only []; frame_out
    simp only [eH, eG, eW]
    clear h0
    canon_tiles x' h using View.cover_of_tiledBy _ ![256, 128] (by sl_kernel_rfl) _
    all_goals
      open_payloads
      idx_vars x'
      pointwise
      simp only [hH, hG, hW, ← EReal.coe_mul, coe_sum, eps_val, k_val, div_coe _ (show (1024:ℝ) ≠ 0 by norm_num), ← EReal.coe_add,
          rsqrt_coe (ms_pos _), sig_coe, ← EReal.coe_one, ← EReal.coe_sub]
      obtain rfl : a = x'0 := Fin.ext h0
      simp only [h1, f40, f41, f42, f43, Nat.reduceMul, ← Nat.add_assoc, Nat.reduceAdd, Nat.zero_add, act, fac, fac0, silu, lin, xn, xh, rr]

set_option maxHeartbeats 2000000 in
/-- The two factors kept for the backward pass, slab by slab. -/
theorem out0_6 (c : Dev nD) (t : Fin cfg0.N) (H : FVec Ideal S256x1024 .f32) (W : FVec Ideal S4x1024x1408 .bf16) (G : FVec Ideal S1x1024 .f32)
    (x : Fin 256 → Fin 1024 → ℝ) (g : Fin 1024 → ℝ) (w : Fin 1024 → ℕ → ℝ)
    (eH : iblk0 V c 0 t = H) (eW : iblk0 V c 1 t = W) (eG : iblk0 V c 2 t = G)
    (hH : ∀ y k, H (ix2 y k) = ((x y k : ℝ) : EReal)) (hG : ∀ k, G (ix2 0 k) = ((g k : ℝ) : EReal))
    (hW : ∀ j k d, W (ix3 j k d) = ((w k (1408 * j.val + d.val) : ℝ) : EReal)) (e : Fin 2) (a : Fin 256) (b : Fin 2816) :
    (outsAt0 V c t.val t.isLt).2.1 (ix3 e a b)
      = (((if e.val = 0 then fac0 (lin (x a) g w b.val) (lin (x a) g w (2816 + b.val)) else silu (lin (x a) g w b.val)) : ℝ) : EReal) := by
  by_cases h0 : t.val % 32 = 0
  · rw [outsAt0_A V c t h0]; dsimp only []; frame_out
    simp only [eH, eG, eW]
    clear h0
    canon_tiles x' h using View.cover_of_tiledBy _ ![1, 256, 128] (by sl_kernel_rfl) _
    all_goals
      open_payloads
      idx_vars x'
      pointwise
      simp only [hH, hG, hW, ← EReal.coe_mul, coe_sum, eps_val, k_val, div_coe _ (show (1024:ℝ) ≠ 0 by norm_num), ← EReal.coe_add,
          rsqrt_coe (ms_pos _), sig_coe, ← EReal.coe_one, ← EReal.coe_sub]
      obtain rfl : a = x'1 := Fin.ext h1
      first | rw [if_pos (by omega)] | rw [if_neg (by omega)]
      simp only [h2, f40, f41, f42, f43, Nat.reduceMul, ← Nat.add_assoc, Nat.reduceAdd, Nat.zero_add, act, fac, fac0, silu, lin, xn, xh, rr]
  · rw [outsAt0_B V c t h0]; dsimp only []; frame_out
    simp only [eH, eG, eW]
    clear h0
    canon_tiles x' h using View.cover_of_tiledBy _ ![1, 256, 128] (by sl_kernel_rfl) _
    all_goals
      open_payloads
      idx_vars x'
      pointwise
      simp only [hH, hG, hW, ← EReal.coe_mul, coe_sum, eps_val, k_val, div_coe _ (show (1024:ℝ) ≠ 0 by norm_num), ← EReal.coe_add,
          rsqrt_coe (ms_pos _), sig_coe, ← EReal.coe_one, ← EReal.coe_sub]
      obtain rfl : a = x'1 := Fin.ext h1
      first | rw [if_pos (by omega)] | rw [if_neg (by omega)]
      simp only [h2, f40, f41, f42, f43, Nat.reduceMul, ← Nat.add_assoc, Nat.reduceAdd, Nat.zero_add, act, fac, fac0, silu, lin, xn, xh, rr]

/-- The normalised rows. -/
theorem out0_7 (c : Dev nD) (t : Fin cfg0.N) (H : FVec Ideal S256x1024 .f32) (G : FVec Ideal S1x1024 .f32)
    (x : Fin 256 → Fin 1024 → ℝ) (g : Fin 1024 → ℝ)
    (eH : iblk0 V c 0 t = H) (eG : iblk0 V c 2 t = G)
    (hH : ∀ y k, H (ix2 y k) = ((x y k : ℝ) : EReal)) (hG : ∀ k, G (ix2 0 k) = ((g k : ℝ) : EReal)) (a : Fin 256) (b : Fin 1024) :
    (outsAt0 V c t.val t.isLt).2.2.1 (ix2 a b) = ((xn (x a) g b : ℝ) : EReal) := by
  have h3 : k0_pay3 (F := Ideal) H G (ix2 a b) = ((xn (x a) g b : ℝ) : EReal) := by
    rw [← pay2 H G x g hH hG]; pointwise [k0_pay3]
  by_cases h0 : t.val % 32 = 0
  · rw [outsAt0_A V c t h0]; dsimp only []; frame_out
    simp only [eH, eG]; exact h3
  · rw [outsAt0_B V c t h0]; dsimp only []; frame_out
    simp only [eH, eG]; exact h3

/-- The layer's error, from the activations. -/
theorem pay96 (H T : Vec Ideal S256x1024 .f32) (A : Vec Ideal S256x2816 .bf16) (Wd : Vec Ideal S1x2816x1024 .bf16)
    (x : Fin 256 → Fin 1024 → ℝ) (g : Fin 1024 → ℝ) (w : Fin 1024 → ℕ → ℝ) (wd : Fin 2816 → Fin 1024 → ℝ) (tg : Fin 256 → Fin 1024 → ℝ)
    (hH : ∀ y k, H (ix2 y k) = ((x y k : ℝ) : EReal)) (hA : ∀ y n, A (ix2 y n) = ((act (x y) g w n.val : ℝ) : EReal))
    (hWd : ∀ n k, Wd (ix3 0 n k) = ((wd n k : ℝ) : EReal)) (hT : ∀ y k, T (ix2 y k) = ((tg y k : ℝ) : EReal)) (a : Fin 256) (k : Fin 1024) :
    k0_pay96 H A Wd T (ix2 a k) = ((err (x a) g w wd (tg a) k : ℝ) : EReal) := by
  pointwise [k0_pay96]
  simp only [hH, hA, hWd, hT, ← EReal.coe_mul, coe_sum, ← EReal.coe_add, ← EReal.coe_sub]
  rfl

set_option maxHeartbeats 2000000 in
/-- The loss's gradient in the layer's output. -/
theorem out0_8 (c : Dev nD) (t : Fin cfg0.N) (H : FVec Ideal S256x1024 .f32) (W : FVec Ideal S4x1024x1408 .bf16) (G : FVec Ideal S1x1024 .f32)
    (x : Fin 256 → Fin 1024 → ℝ) (g : Fin 1024 → ℝ) (w : Fin 1024 → ℕ → ℝ)
    (eH : iblk0 V c 0 t = H) (eW : iblk0 V c 1 t = W) (eG : iblk0 V c 2 t = G)
    (hH : ∀ y k, H (ix2 y k) = ((x y k : ℝ) : EReal)) (hG : ∀ k, G (ix2 0 k) = ((g k : ℝ) : EReal))
    (hW : ∀ j k d, W (ix3 j k d) = ((w k (1408 * j.val + d.val) : ℝ) : EReal))
    (Wd : FVec Ideal S1x2816x1024 .bf16) (T : FVec Ideal S256x1024 .f32) (wd : Fin 2816 → Fin 1024 → ℝ) (tg : Fin 256 → Fin 1024 → ℝ)
    (eWd : iblk0 V c 3 t = Wd) (eT : iblk0 V c 4 t = T)
    (hWd : ∀ n k, Wd (ix3 0 n k) = ((wd n k : ℝ) : EReal)) (hT : ∀ y k, T (ix2 y k) = ((tg y k : ℝ) : EReal)) (a : Fin 256) (b : Fin 1024) :
    (outsAt0 V c t.val t.isLt).2.2.2.1 (ix2 a b) = ((dy (x a) g w wd (tg a) b : ℝ) : EReal) := by
  have hA := out0_5 V c t H W G x g w eH eW eG hH hG hW
  by_cases h0 : t.val % 32 = 0
  · rw [outsAt0_A V c t h0] at hA ⊢; dsimp only [] at hA ⊢; frame_out at hA ⊢
    simp only [eH, eG, eW, eWd, eT] at hA ⊢
    rw [readCov_whole _ _ _ (by decide)]
    pointwise [k0_pay97]
    rw [pay96 H T _ Wd x g w wd tg hH hA hWd hT, ik_val, ← EReal.coe_mul]; rfl
  · rw [outsAt0_B V c t h0] at hA ⊢; dsimp only [] at hA ⊢; frame_out at hA ⊢
    simp only [eH, eG, eW, eWd, eT] at hA ⊢
    rw [readCov_whole _ _ _ (by decide)]
    pointwise [k0_pay97]
    rw [pay96 H T _ Wd x g w wd tg hH hA hWd hT, ik_val, ← EReal.coe_mul]; rfl

/-- The running column sums of the squared errors. -/
theorem pay1 (E : FVec Ideal S256x1024 .f32) (A : Vec Ideal S1x1024 .f32) (e : Fin 256 → Fin 1024 → ℝ)
    (hE : ∀ y k, E (ix2 y k) = ((e y k : ℝ) : EReal)) (k : Fin 1024) :
    k0_pay1 E A (ix2 0 k) = A (ix2 0 k) + ((∑ y, e y k * e y k : ℝ) : EReal) := by
  pointwise [k0_pay1]
  simp only [hE, ← EReal.coe_mul, coe_sum]

set_option maxHeartbeats 2000000 in
/-- The first point starts the column sums. -/
theorem out0_9A (c : Dev nD) (t : Fin cfg0.N) (H : FVec Ideal S256x1024 .f32) (W : FVec Ideal S4x1024x1408 .bf16) (G : FVec Ideal S1x1024 .f32)
    (x : Fin 256 → Fin 1024 → ℝ) (g : Fin 1024 → ℝ) (w : Fin 1024 → ℕ → ℝ)
    (eH : iblk0 V c 0 t = H) (eW : iblk0 V c 1 t = W) (eG : iblk0 V c 2 t = G)
    (hH : ∀ y k, H (ix2 y k) = ((x y k : ℝ) : EReal)) (hG : ∀ k, G (ix2 0 k) = ((g k : ℝ) : EReal))
    (hW : ∀ j k d, W (ix3 j k d) = ((w k (1408 * j.val + d.val) : ℝ) : EReal))
    (Wd : FVec Ideal S1x2816x1024 .bf16) (T : FVec Ideal S256x1024 .f32) (wd : Fin 2816 → Fin 1024 → ℝ) (tg : Fin 256 → Fin 1024 → ℝ)
    (eWd : iblk0 V c 3 t = Wd) (eT : iblk0 V c 4 t = T)
    (hWd : ∀ n k, Wd (ix3 0 n k) = ((wd n k : ℝ) : EReal)) (hT : ∀ y k, T (ix2 y k) = ((tg y k : ℝ) : EReal)) (h0 : t.val % 32 = 0) (b : Fin 1024) :
    (outsAt0 V c t.val t.isLt).2.2.2.2 (ix2 0 b) = 0 + ((∑ a, err (x a) g w wd (tg a) b * err (x a) g w wd (tg a) b : ℝ) : EReal) := by
  have hA := out0_5 V c t H W G x g w eH eW eG hH hG hW
  rw [outsAt0_A V c t h0] at hA ⊢; dsimp only [] at hA ⊢; frame_out at hA ⊢
  simp only [eH, eG, eW, eWd, eT] at hA ⊢
  rw [readCov_whole _ _ _ (by decide)]
  rw [pay1 _ _ (fun y k => err (x y) g w wd (tg y) k) (pay96 H T _ Wd x g w wd tg hH hA hWd hT)]
  congr 1
  pointwise [k0_pay98]

set_option maxHeartbeats 2000000 in
/-- Every other point adds its rows' squared errors to the column sums. -/
theorem out0_9B (c : Dev nD) (t : Fin cfg0.N) (H : FVec Ideal S256x1024 .f32) (W : FVec Ideal S4x1024x1408 .bf16) (G : FVec Ideal S1x1024 .f32)
    (x : Fin 256 → Fin 1024 → ℝ) (g : Fin 1024 → ℝ) (w : Fin 1024 → ℕ → ℝ)
    (eH : iblk0 V c 0 t = H) (eW : iblk0 V c 1 t = W) (eG : iblk0 V c 2 t = G)
    (hH : ∀ y k, H (ix2 y k) = ((x y k : ℝ) : EReal)) (hG : ∀ k, G (ix2 0 k) = ((g k : ℝ) : EReal))
    (hW : ∀ j k d, W (ix3 j k d) = ((w k (1408 * j.val + d.val) : ℝ) : EReal))
    (Wd : FVec Ideal S1x2816x1024 .bf16) (T : FVec Ideal S256x1024 .f32) (wd : Fin 2816 → Fin 1024 → ℝ) (tg : Fin 256 → Fin 1024 → ℝ)
    (eWd : iblk0 V c 3 t = Wd) (eT : iblk0 V c 4 t = T)
    (hWd : ∀ n k, Wd (ix3 0 n k) = ((wd n k : ℝ) : EReal)) (hT : ∀ y k, T (ix2 y k) = ((tg y k : ℝ) : EReal)) (h0 : ¬ t.val % 32 = 0) (b : Fin 1024) :
    (outsAt0 V c t.val t.isLt).2.2.2.2 (ix2 0 b) = (outsAt0 V c (t.val - 1) (by omega)).2.2.2.2 (ix2 0 b)
      + ((∑ a, err (x a) g w wd (tg a) b * err (x a) g w wd (tg a) b : ℝ) : EReal) := by
  have hA := out0_5 V c t H W G x g w eH eW eG hH hG hW
  rw [outsAt0_B V c t h0] at hA ⊢; dsimp only [] at hA ⊢; frame_out at hA ⊢
  simp only [eH, eG, eW, eWd, eT] at hA ⊢
  rw [readCov_whole _ _ _ (by decide)]
  rw [pay1 _ _ (fun y k => err (x y) g w wd (tg y) k) (pay96 H T _ Wd x g w wd tg hH hA hWd hT)]

end Cert.KernelIdeal.Value
-- ==== Proof.Arr0.lean ====
/-
  What the forward kernel's output arrays hold after its grid has run, over the extended reals, where its input arrays hold
  real numbers.
-/
module

public import proofs.«01_k».proof.Proof.Fwd

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ffn

variable (V : (c : Dev nD) → (b : Ref sig .tc) → Buf (Elt Ideal) ((c : Thread nD τ).loc b))

/-- Where the forward kernel's blocks lie. -/
theorem idx0 : ∀ t : Fin cfg0.N, win0_0.index t = ![t.val, 0] ∧ win0_1.index t = ![0, 0, 0] ∧ win0_2.index t = ![0, 0]
    ∧ win0_3.index t = ![0, 0, 0] ∧ win0_4.index t = ![t.val, 0] ∧ win0_5.index t = ![t.val, 0] ∧ win0_6.index t = ![0, t.val, 0]
    ∧ win0_7.index t = ![t.val, 0] ∧ win0_8.index t = ![t.val, 0] ∧ win0_9.index t = ![0, 0] :=
  (by decide +kernel : ∀ t : Fin grid0.N, _)

/-- Token `y` of the block of grid point `t`. -/
def row (t : Fin 32) (y : Fin 256) : Fin 8192 := ⟨t.val * 256 + y.val, by omega⟩

/-- A grid point of the forward kernel as a number below 32. -/
def pt0 (t : Fin cfg0.N) : Fin 32 := ⟨t.val, lt_of_lt_of_eq t.isLt N_0⟩

theorem blk0_0 (c : Dev nD) (t : Fin cfg0.N) (X : FVec Ideal S8192x1024 .f32) (e : V c main_arg0 = X) (y : Fin 256) (k : Fin 1024) :
    iblk0 V c 0 t (ix2 y k) = X (ix2 (row (pt0 t) y) k) := by
  subst e
  obtain ⟨e0, e1, e2, e3, e4, e5, e6, e7, e8, e9⟩ := idx0 t
  blk_ext [iblk0, e0, row, pt0]

theorem blk0_1 (c : Dev nD) (t : Fin cfg0.N) (X : FVec Ideal S4x1024x1408 .bf16) (e : V c main_v2 = X) :
    iblk0 V c 1 t = X := by
  subst e
  obtain ⟨e0, e1, e2, e3, e4, e5, e6, e7, e8, e9⟩ := idx0 t
  funext y
  blk_ext [iblk0, e1]

theorem blk0_2 (c : Dev nD) (t : Fin cfg0.N) (X : FVec Ideal S1x1024 .f32) (e : V c main_arg1 = X) :
    iblk0 V c 2 t = X := by
  subst e
  obtain ⟨e0, e1, e2, e3, e4, e5, e6, e7, e8, e9⟩ := idx0 t
  funext y
  blk_ext [iblk0, e2]

theorem blk0_3 (c : Dev nD) (t : Fin cfg0.N) (X : FVec Ideal S1x2816x1024 .bf16) (e : V c main_v4 = X) :
    iblk0 V c 3 t = X := by
  subst e
  obtain ⟨e0, e1, e2, e3, e4, e5, e6, e7, e8, e9⟩ := idx0 t
  funext y
  blk_ext [iblk0, e3]

theorem blk0_4 (c : Dev nD) (t : Fin cfg0.N) (X : FVec Ideal S8192x1024 .f32) (e : V c main_arg4 = X) (y : Fin 256) (k : Fin 1024) :
    iblk0 V c 4 t (ix2 y k) = X (ix2 (row (pt0 t) y) k) := by
  subst e
  obtain ⟨e0, e1, e2, e3, e4, e5, e6, e7, e8, e9⟩ := idx0 t
  blk_ext [iblk0, e4, row, pt0]

section
variable (c : Dev nD) (X T : FVec Ideal S8192x1024 .f32) (W : FVec Ideal S4x1024x1408 .bf16) (G : FVec Ideal S1x1024 .f32)
    (Wd : FVec Ideal S1x2816x1024 .bf16)
    (x tg : Fin 8192 → Fin 1024 → ℝ) (g : Fin 1024 → ℝ) (w : Fin 1024 → ℕ → ℝ) (wd : Fin 2816 → Fin 1024 → ℝ)
    (eX : V c main_arg0 = X) (eW : V c main_v2 = W) (eG : V c main_arg1 = G) (eWd : V c main_v4 = Wd) (eT : V c main_arg4 = T)
    (hX : ∀ y k, X (ix2 y k) = ((x y k : ℝ) : EReal)) (hG : ∀ k, G (ix2 0 k) = ((g k : ℝ) : EReal))
    (hW : ∀ j k d, W (ix3 j k d) = ((w k (1408 * j.val + d.val) : ℝ) : EReal))
    (hWd : ∀ n k, Wd (ix3 0 n k) = ((wd n k : ℝ) : EReal)) (hT : ∀ y k, T (ix2 y k) = ((tg y k : ℝ) : EReal))

include eX hX in
theorem hX0 (t : Fin cfg0.N) (y : Fin 256) (k : Fin 1024) : iblk0 V c 0 t (ix2 y k) = ((x (row (pt0 t) y) k : ℝ) : EReal) := by
  rw [blk0_0 V c t X eX, hX]

include eT hT in
theorem hT0 (t : Fin cfg0.N) (y : Fin 256) (k : Fin 1024) : iblk0 V c 4 t (ix2 y k) = ((tg (row (pt0 t) y) k : ℝ) : EReal) := by
  rw [blk0_4 V c t T eT, hT]

include eX eW eG hX hG hW in
/-- The activations of every token. -/
theorem arr0_5 : (dat0 V c).arrAt 5 cfg0.N = fun i : S8192x2816.Idx => ((act (x (i 0)) g w (i 1).val : ℝ) : EReal) := by
  refine (dat0 V c).arrAt_eq_of_covers 5 _ (by decide +kernel) fun t hf y => ?_
  obtain ⟨e0, e1, e2, e3, e4, e5, e6, e7, e8, e9⟩ := idx0 t
  blk_simp
  rw [after0_5]
  idx_vars y
  rw [out0_5 V c t _ W G (fun y => x (row (pt0 t) y)) g w rfl (blk0_1 V c t W eW) (blk0_2 V c t G eG) (hX0 V c X x eX hX t) hG hW]
  have hr : row (pt0 t) y0 = (win0_5.blk t).view.emb (ix2 y0 y1) 0 := by
    apply Fin.ext; blk_simp [e5, row, pt0]
  rw [hr]
  blk_simp [e5]

include eX eW eG hX hG hW in
/-- The factors kept of every token. -/
theorem arr0_6 : (dat0 V c).arrAt 6 cfg0.N = fun i : S2x8192x2816.Idx =>
    (((if (i 0).val = 0 then fac0 (lin (x (i 1)) g w (i 2).val) (lin (x (i 1)) g w (2816 + (i 2).val)) else silu (lin (x (i 1)) g w (i 2).val)) : ℝ) : EReal) := by
  refine (dat0 V c).arrAt_eq_of_covers 6 _ (by decide +kernel) fun t hf y => ?_
  obtain ⟨e0, e1, e2, e3, e4, e5, e6, e7, e8, e9⟩ := idx0 t
  blk_simp
  rw [after0_6]
  idx_vars y
  rw [out0_6 V c t _ W G (fun y => x (row (pt0 t) y)) g w rfl (blk0_1 V c t W eW) (blk0_2 V c t G eG) (hX0 V c X x eX hX t) hG hW]
  have hr : row (pt0 t) y1 = (win0_6.blk t).view.emb (ix3 y0 y1 y2) 1 := by
    apply Fin.ext; blk_simp [e6, row, pt0]
  rw [hr]
  blk_simp [e6]

include eX eG hX hG in
/-- The normalised rows of every token. -/
theorem arr0_7 : (dat0 V c).arrAt 7 cfg0.N = fun i : S8192x1024.Idx => ((xn (x (i 0)) g (i 1) : ℝ) : EReal) := by
  refine (dat0 V c).arrAt_eq_of_covers 7 _ (by decide +kernel) fun t hf y => ?_
  obtain ⟨e0, e1, e2, e3, e4, e5, e6, e7, e8, e9⟩ := idx0 t
  blk_simp
  rw [after0_7]
  idx_vars y
  rw [out0_7 V c t _ G (fun y => x (row (pt0 t) y)) g rfl (blk0_2 V c t G eG) (hX0 V c X x eX hX t) hG]
  have hr : row (pt0 t) y0 = (win0_7.blk t).view.emb (ix2 y0 y1) 0 := by
    apply Fin.ext; blk_simp [e7, row, pt0]
  have hk : y1 = (win0_7.blk t).view.emb (ix2 y0 y1) 1 := by
    apply Fin.ext; blk_simp [e7]
  rw [← hr, ← hk]

include eX eW eG eWd eT hX hG hW hWd hT in
/-- The loss's gradient in the layer's output, of every token. -/
theorem arr0_8 : (dat0 V c).arrAt 8 cfg0.N = fun i : S8192x1024.Idx => ((dy (x (i 0)) g w wd (tg (i 0)) (i 1) : ℝ) : EReal) := by
  refine (dat0 V c).arrAt_eq_of_covers 8 _ (by decide +kernel) fun t hf y => ?_
  obtain ⟨e0, e1, e2, e3, e4, e5, e6, e7, e8, e9⟩ := idx0 t
  blk_simp
  rw [after0_8]
  idx_vars y
  rw [out0_8 V c t _ W G (fun y => x (row (pt0 t) y)) g w rfl (blk0_1 V c t W eW) (blk0_2 V c t G eG) (hX0 V c X x eX hX t) hG hW
    Wd _ wd (fun y => tg (row (pt0 t) y)) (blk0_3 V c t Wd eWd) rfl hWd (hT0 V c T tg eT hT t)]
  have hr : row (pt0 t) y0 = (win0_8.blk t).view.emb (ix2 y0 y1) 0 := by
    apply Fin.ext; blk_simp [e8, row, pt0]
  have hk : y1 = (win0_8.blk t).view.emb (ix2 y0 y1) 1 := by
    apply Fin.ext; blk_simp [e8]
  rw [← hr, ← hk]

include eX eW eG eWd eT hX hG hW hWd hT in
/-- The column sums of the squared errors of all tokens. -/
theorem arr0_9 : (dat0 V c).arrAt 9 cfg0.N = fun i : S1x1024.Idx =>
    ((∑ r : Fin 8192, err (x r) g w wd (tg r) (i 1) * err (x r) g w wd (tg r) (i 1) : ℝ) : EReal) := by
  refine (dat0 V c).arrAt_eq_of_covers 9 _ (by decide +kernel) fun t hf y => ?_
  obtain ⟨e0, e1, e2, e3, e4, e5, e6, e7, e8, e9⟩ := idx0 t
  blk_simp
  rw [after0_9]
  idx_vars y
  have hy : y0 = 0 := Subsingleton.elim _ _
  subst hy
  have hk : y1 = (win0_9.blk t).view.emb (ix2 0 y1) 1 := by
    apply Fin.ext; blk_simp [e9]
  rw [← hk]
  have h := Pipeline.eq_sum_fin_of_reset_step_apply_of_flush (N := cfg0.N)
    (fun n h (i : Fin 1024) => (outsAt0 V c n h).2.2.2.2 (ix2 0 i)) 32 (fun _ => 0)
    (fun t i => ((∑ a, err (x (row (pt0 t) a)) g w wd (tg (row (pt0 t) a)) i * err (x (row (pt0 t) a)) g w wd (tg (row (pt0 t) a)) i : ℝ) : EReal))
    (fun t h0 i => out0_9A V c t _ W G (fun y => x (row (pt0 t) y)) g w rfl (blk0_1 V c t W eW) (blk0_2 V c t G eG) (hX0 V c X x eX hX t) hG hW
      Wd _ wd (fun y => tg (row (pt0 t) y)) (blk0_3 V c t Wd eWd) rfl hWd (hT0 V c T tg eT hT t) h0 i)
    (fun t h0 i => out0_9B V c t _ W G (fun y => x (row (pt0 t) y)) g w rfl (blk0_1 V c t W eW) (blk0_2 V c t G eG) (hX0 V c X x eX hX t) hG hW
      Wd _ wd (fun y => tg (row (pt0 t) y)) (blk0_3 V c t Wd eWd) rfl hWd (hT0 V c T tg eT hT t) h0 i)
    t ((flush0_9 t).mp hf) y1
  refine h.trans ?_
  rw [zero_add, coe_sum]
  congr 1
  refine Fin.sum_mul_add_congr (f := fun r : Fin 8192 => err (x r) g w wd (tg r) y1 * err (x r) g w wd (tg r) y1) (fun s k hl => ?_)
  have hN : t.val < 32 := lt_of_lt_of_eq t.isLt N_0
  have hs : ∀ (p : Fin cfg0.N), p.val = s.val → row (pt0 p) k = ⟨s.val * 256 + k.val, hl⟩ := fun p hp => Fin.ext (by simp only [row, pt0, hp])
  rw [hs _ (by dsimp only; omega)]

end
end Cert.KernelIdeal.Value
-- ==== Proof.Bwd.lean ====
/-
  The backward kernel at one grid point, over the extended reals: where its input blocks hold real numbers, each output
  block holds the real model's value.
-/
module

public import proofs.«01_k».proof.Proof.Gen.KernelIdeal.Frame.Region2
public import proofs.«01_k».proof.Proof.Coe
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ffn

variable (V : (c : Dev nD) → (b : Ref sig .tc) → Buf (Elt Ideal) ((c : Thread nD τ).loc b))

theorem f20 : ((0 : Fin 2) : ℕ) = 0 := rfl
theorem f21 : ((1 : Fin 2) : ℕ) = 1 := rfl
theorem g40 : ((0 : Fin 4) : ℕ) = 0 := rfl
theorem g41 : ((1 : Fin 4) : ℕ) = 1 := rfl
theorem g42 : ((2 : Fin 4) : ℕ) = 2 := rfl
theorem g43 : ((3 : Fin 4) : ℕ) = 3 := rfl

set_option maxHeartbeats 2000000 in
/-- The gradients in the gate and the up values. -/
theorem out2_6 (c : Dev nD) (t : Fin cfg2.N) (D H : FVec Ideal S256x1024 .f32) (Wd : FVec Ideal S1x2816x1024 .bf16)
    (Fc : FVec Ideal S2x256x2816 .bf16) (W : FVec Ideal S4x1024x1408 .bf16) (G : FVec Ideal S1x1024 .f32)
    (d x : Fin 256 → Fin 1024 → ℝ) (wd : ℕ → Fin 1024 → ℝ) (f : Fin 256 → ℕ → ℕ → ℝ) (w : Fin 1024 → ℕ → ℝ) (g : Fin 1024 → ℝ)
    (eD : iblk2 V c 0 t = D) (eWd : iblk2 V c 1 t = Wd) (eF : iblk2 V c 2 t = Fc) (eW : iblk2 V c 3 t = W)
    (eH : iblk2 V c 4 t = H) (eG : iblk2 V c 5 t = G)
    (hD : ∀ y k, D (ix2 y k) = ((d y k : ℝ) : EReal)) (hWd : ∀ n k, Wd (ix3 0 n k) = ((wd n.val k : ℝ) : EReal))
    (hF : ∀ e y n, Fc (ix3 e y n) = ((f y e.val n.val : ℝ) : EReal))
    (hW : ∀ j k n, W (ix3 j k n) = ((w k (1408 * j.val + n.val) : ℝ) : EReal))
    (hH : ∀ y k, H (ix2 y k) = ((x y k : ℝ) : EReal)) (hG : ∀ k, G (ix2 0 k) = ((g k : ℝ) : EReal))
    (e : Fin 2) (a : Fin 256) (b : Fin 2816) :
    (outsAt2 V c t.val t.isLt).1 (ix3 e a b) = ((dz (d a) wd (f a) e.val b.val : ℝ) : EReal) := by
  by_cases h0 : t.val % 32 = 0
  · rw [outsAt2_A V c t h0]; dsimp only []; frame_out
    simp only [eD, eWd, eF]
    clear h0
    canon_tiles x' h
    all_goals
      open_payloads
      idx_vars x'
      pointwise
      simp only [hD, hWd, hF, ← EReal.coe_mul, coe_sum]
      obtain rfl : a = x'1 := Fin.ext h1
      first | rw [show e.val = 0 by omega] | rw [show e.val = 1 by omega]
      simp only [h2, f20, f21, dz]
  · rw [outsAt2_B V c t h0]; dsimp only []; frame_out
    simp only [eD, eWd, eF]
    clear h0
    canon_tiles x' h
    all_goals
      open_payloads
      idx_vars x'
      pointwise
      simp only [hD, hWd, hF, ← EReal.coe_mul, coe_sum]
      obtain rfl : a = x'1 := Fin.ext h1
      first | rw [show e.val = 0 by omega] | rw [show e.val = 1 by omega]
      simp only [h2, f20, f21, dz]

/-- The gradient in the normalised rows, from the four loads of each operand as they arrive. -/
theorem pay18 (D : FVec Ideal S256x1024 .f32) (A0 A1 : FVec Ideal S1x1408x1024 .bf16) (F00 F01 F10 F11 : FVec Ideal S1x256x1408 .bf16)
    (W0 W1 W2 W3 : FVec Ideal S1x1024x1408 .bf16)
    (d : Fin 256 → Fin 1024 → ℝ) (wd : ℕ → Fin 1024 → ℝ) (f : Fin 256 → ℕ → ℕ → ℝ) (w : Fin 1024 → ℕ → ℝ)
    (hD : ∀ y k, D (ix2 y k) = ((d y k : ℝ) : EReal))
    (hA0 : ∀ n k, A0 (ix3 0 n k) = ((wd n.val k : ℝ) : EReal)) (hA1 : ∀ n k, A1 (ix3 0 n k) = ((wd (1408 + n.val) k : ℝ) : EReal))
    (h00 : ∀ y n, F00 (ix3 0 y n) = ((f y 0 n.val : ℝ) : EReal)) (h01 : ∀ y n, F01 (ix3 0 y n) = ((f y 0 (1408 + n.val) : ℝ) : EReal))
    (h10 : ∀ y n, F10 (ix3 0 y n) = ((f y 1 n.val : ℝ) : EReal)) (h11 : ∀ y n, F11 (ix3 0 y n) = ((f y 1 (1408 + n.val) : ℝ) : EReal))
    (hW0 : ∀ k n, W0 (ix3 0 k n) = ((w k n.val : ℝ) : EReal)) (hW1 : ∀ k n, W1 (ix3 0 k n) = ((w k (1408 + n.val) : ℝ) : EReal))
    (hW2 : ∀ k n, W2 (ix3 0 k n) = ((w k (2816 + n.val) : ℝ) : EReal)) (hW3 : ∀ k n, W3 (ix3 0 k n) = ((w k (4224 + n.val) : ℝ) : EReal))
    (a : Fin 256) (j : Fin 1024) :
    k2_pay18 (F := Ideal) (k2_pay6 D) (k2_pay12 D A0 F00 F10 W0 W2) A1 F01 F11 W1 W3 (ix2 a j) = ((dhn (d a) wd (f a) w j : ℝ) : EReal) := by
  pointwise [k2_pay18, k2_pay12, k2_pay6, k2_pay8, k2_pay9, k2_pay14, k2_pay15, k2_pay13, k2_pay7]
  simp only [hD, hA0, hA1, h00, h01, h10, h11, hW0, hW1, hW2, hW3, ← EReal.coe_mul, coe_sum, ← EReal.coe_add]
  congr 1
  unfold dhn
  rw [Fin.sum_univ_two_halves 1408 1408 rfl, Finset.sum_add_distrib, Finset.sum_add_distrib]
  simp only [dz, ← Nat.add_assoc, Nat.reduceAdd]

/-- The gradient in the rows. -/
theorem pay3 (D E H : FVec Ideal S256x1024 .f32) (G : FVec Ideal S1x1024 .f32)
    (d v x : Fin 256 → Fin 1024 → ℝ) (g : Fin 1024 → ℝ)
    (hD : ∀ y k, D (ix2 y k) = ((d y k : ℝ) : EReal)) (hE : ∀ y k, E (ix2 y k) = ((v y k : ℝ) : EReal))
    (hH : ∀ y k, H (ix2 y k) = ((x y k : ℝ) : EReal)) (hG : ∀ k, G (ix2 0 k) = ((g k : ℝ) : EReal)) (a : Fin 256) (k : Fin 1024) :
    k2_pay3 (F := Ideal) D E H G (k2_pay19 H) (ix2 a k) = ((dx (x a) g (v a) (d a) k : ℝ) : EReal) := by
  pointwise [k2_pay3, k2_pay2, k2_pay1, k2_pay19]
  simp only [hD, hE, hH, hG, ← EReal.coe_mul, coe_sum, eps_val, k_val, div_coe _ (show (1024:ℝ) ≠ 0 by norm_num), ← EReal.coe_add,
    ← EReal.coe_sub, rsqrt_coe (ms_pos _)]
  rfl

/-- The running column sums of the gain's gradient. -/
theorem pay5 (E H : FVec Ideal S256x1024 .f32) (A : FVec Ideal S1x1024 .f32) (v x : Fin 256 → Fin 1024 → ℝ)
    (hE : ∀ y k, E (ix2 y k) = ((v y k : ℝ) : EReal)) (hH : ∀ y k, H (ix2 y k) = ((x y k : ℝ) : EReal)) (k : Fin 1024) :
    k2_pay5 (F := Ideal) E H (k2_pay19 H) A (ix2 0 k) = A (ix2 0 k) + ((∑ y, v y k * xh (x y) k : ℝ) : EReal) := by
  pointwise [k2_pay5, k2_pay2, k2_pay1, k2_pay19]
  simp only [hE, hH, ← EReal.coe_mul, coe_sum, eps_val, k_val, div_coe _ (show (1024:ℝ) ≠ 0 by norm_num), ← EReal.coe_add,
    rsqrt_coe (ms_pos _)]
  rfl

set_option maxHeartbeats 2000000 in
/-- The gradients in the rows. -/
theorem out2_7 (c : Dev nD) (t : Fin cfg2.N) (D H : FVec Ideal S256x1024 .f32) (Wd : FVec Ideal S1x2816x1024 .bf16)
    (Fc : FVec Ideal S2x256x2816 .bf16) (W : FVec Ideal S4x1024x1408 .bf16) (G : FVec Ideal S1x1024 .f32)
    (d x : Fin 256 → Fin 1024 → ℝ) (wd : ℕ → Fin 1024 → ℝ) (f : Fin 256 → ℕ → ℕ → ℝ) (w : Fin 1024 → ℕ → ℝ) (g : Fin 1024 → ℝ)
    (eD : iblk2 V c 0 t = D) (eWd : iblk2 V c 1 t = Wd) (eF : iblk2 V c 2 t = Fc) (eW : iblk2 V c 3 t = W)
    (eH : iblk2 V c 4 t = H) (eG : iblk2 V c 5 t = G)
    (hD : ∀ y k, D (ix2 y k) = ((d y k : ℝ) : EReal)) (hWd : ∀ n k, Wd (ix3 0 n k) = ((wd n.val k : ℝ) : EReal))
    (hF : ∀ e y n, Fc (ix3 e y n) = ((f y e.val n.val : ℝ) : EReal))
    (hW : ∀ j k n, W (ix3 j k n) = ((w k (1408 * j.val + n.val) : ℝ) : EReal))
    (hH : ∀ y k, H (ix2 y k) = ((x y k : ℝ) : EReal)) (hG : ∀ k, G (ix2 0 k) = ((g k : ℝ) : EReal))
    (a : Fin 256) (b : Fin 1024) :
    (outsAt2 V c t.val t.isLt).2.1 (ix2 a b) = ((dx (x a) g (dhn (d a) wd (f a) w) (d a) b : ℝ) : EReal) := by
  by_cases h0 : t.val % 32 = 0
  · rw [outsAt2_A V c t h0]; dsimp only []; frame_out
    simp only [eD, eWd, eF, eW, eH, eG]
    refine pay3 _ _ _ _ d (fun y => dhn (d y) wd (f y) w) x g hD (fun y k => pay18 _ _ _ _ _ _ _ _ _ _ _ d wd f w hD ?_ ?_ ?_ ?_ ?_ ?_ ?_ ?_ ?_ ?_ y k) hH hG a b
    all_goals
      intro p q
      pointwise
      simp only [hWd, hF, hW, f20, f21, g40, g41, g42, g43, Nat.reduceMul, Nat.zero_add]
  · rw [outsAt2_B V c t h0]; dsimp only []; frame_out
    simp only [eD, eWd, eF, eW, eH, eG]
    refine pay3 _ _ _ _ d (fun y => dhn (d y) wd (f y) w) x g hD (fun y k => pay18 _ _ _ _ _ _ _ _ _ _ _ d wd f w hD ?_ ?_ ?_ ?_ ?_ ?_ ?_ ?_ ?_ ?_ y k) hH hG a b
    all_goals
      intro p q
      pointwise
      simp only [hWd, hF, hW, f20, f21, g40, g41, g42, g43, Nat.reduceMul, Nat.zero_add]

set_option maxHeartbeats 2000000 in
/-- The first point starts the gain's column sums. -/
theorem out2_8A (c : Dev nD) (t : Fin cfg2.N) (D H : FVec Ideal S256x1024 .f32) (Wd : FVec Ideal S1x2816x1024 .bf16)
    (Fc : FVec Ideal S2x256x2816 .bf16) (W : FVec Ideal S4x1024x1408 .bf16) (G : FVec Ideal S1x1024 .f32)
    (d x : Fin 256 → Fin 1024 → ℝ) (wd : ℕ → Fin 1024 → ℝ) (f : Fin 256 → ℕ → ℕ → ℝ) (w : Fin 1024 → ℕ → ℝ) (g : Fin 1024 → ℝ)
    (eD : iblk2 V c 0 t = D) (eWd : iblk2 V c 1 t = Wd) (eF : iblk2 V c 2 t = Fc) (eW : iblk2 V c 3 t = W)
    (eH : iblk2 V c 4 t = H) (eG : iblk2 V c 5 t = G)
    (hD : ∀ y k, D (ix2 y k) = ((d y k : ℝ) : EReal)) (hWd : ∀ n k, Wd (ix3 0 n k) = ((wd n.val k : ℝ) : EReal))
    (hF : ∀ e y n, Fc (ix3 e y n) = ((f y e.val n.val : ℝ) : EReal))
    (hW : ∀ j k n, W (ix3 j k n) = ((w k (1408 * j.val + n.val) : ℝ) : EReal))
    (hH : ∀ y k, H (ix2 y k) = ((x y k : ℝ) : EReal)) (hG : ∀ k, G (ix2 0 k) = ((g k : ℝ) : EReal))
    (h0 : t.val % 32 = 0) (b : Fin 1024) :
    (outsAt2 V c t.val t.isLt).2.2 (ix2 0 b) = 0 + ((∑ a, dhn (d a) wd (f a) w b * xh (x a) b : ℝ) : EReal) := by
  rw [outsAt2_A V c t h0]; dsimp only []; frame_out
  simp only [eD, eWd, eF, eW, eH, eG]
  rw [pay5 _ _ _ (fun y => dhn (d y) wd (f y) w) x (fun y k => pay18 _ _ _ _ _ _ _ _ _ _ _ d wd f w hD ?_ ?_ ?_ ?_ ?_ ?_ ?_ ?_ ?_ ?_ y k) hH b]
  · congr 1
    pointwise [k2_pay4]
  all_goals
    intro p q
    pointwise
    simp only [hWd, hF, hW, f20, f21, g40, g41, g42, g43, Nat.reduceMul, Nat.zero_add]

set_option maxHeartbeats 2000000 in
/-- Every other point adds its rows to the gain's column sums. -/
theorem out2_8B (c : Dev nD) (t : Fin cfg2.N) (D H : FVec Ideal S256x1024 .f32) (Wd : FVec Ideal S1x2816x1024 .bf16)
    (Fc : FVec Ideal S2x256x2816 .bf16) (W : FVec Ideal S4x1024x1408 .bf16) (G : FVec Ideal S1x1024 .f32)
    (d x : Fin 256 → Fin 1024 → ℝ) (wd : ℕ → Fin 1024 → ℝ) (f : Fin 256 → ℕ → ℕ → ℝ) (w : Fin 1024 → ℕ → ℝ) (g : Fin 1024 → ℝ)
    (eD : iblk2 V c 0 t = D) (eWd : iblk2 V c 1 t = Wd) (eF : iblk2 V c 2 t = Fc) (eW : iblk2 V c 3 t = W)
    (eH : iblk2 V c 4 t = H) (eG : iblk2 V c 5 t = G)
    (hD : ∀ y k, D (ix2 y k) = ((d y k : ℝ) : EReal)) (hWd : ∀ n k, Wd (ix3 0 n k) = ((wd n.val k : ℝ) : EReal))
    (hF : ∀ e y n, Fc (ix3 e y n) = ((f y e.val n.val : ℝ) : EReal))
    (hW : ∀ j k n, W (ix3 j k n) = ((w k (1408 * j.val + n.val) : ℝ) : EReal))
    (hH : ∀ y k, H (ix2 y k) = ((x y k : ℝ) : EReal)) (hG : ∀ k, G (ix2 0 k) = ((g k : ℝ) : EReal))
    (h0 : ¬ t.val % 32 = 0) (b : Fin 1024) :
    (outsAt2 V c t.val t.isLt).2.2 (ix2 0 b) = (outsAt2 V c (t.val - 1) (by omega)).2.2 (ix2 0 b)
      + ((∑ a, dhn (d a) wd (f a) w b * xh (x a) b : ℝ) : EReal) := by
  rw [outsAt2_B V c t h0]; dsimp only []; frame_out
  simp only [eD, eWd, eF, eW, eH, eG]
  rw [pay5 _ _ _ (fun y => dhn (d y) wd (f y) w) x (fun y k => pay18 _ _ _ _ _ _ _ _ _ _ _ d wd f w hD ?_ ?_ ?_ ?_ ?_ ?_ ?_ ?_ ?_ ?_ y k) hH b]
  all_goals
    intro p q
    pointwise
    simp only [hWd, hF, hW, f20, f21, g40, g41, g42, g43, Nat.reduceMul, Nat.zero_add]

end Cert.KernelIdeal.Value
-- ==== Proof.Arr2.lean ====
/-
  What the backward kernel's output arrays hold after its grid has run, over the extended reals, where its input arrays hold
  real numbers.
-/
module

public import proofs.«01_k».proof.Proof.Bwd

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ffn

variable (V : (c : Dev nD) → (b : Ref sig .tc) → Buf (Elt Ideal) ((c : Thread nD τ).loc b))

/-- Where the backward kernel's blocks lie. -/
theorem idx2 : ∀ t : Fin cfg2.N, win2_0.index t = ![t.val, 0] ∧ win2_1.index t = ![0, 0, 0] ∧ win2_2.index t = ![0, t.val, 0]
    ∧ win2_3.index t = ![0, 0, 0] ∧ win2_4.index t = ![t.val, 0] ∧ win2_5.index t = ![0, 0] ∧ win2_6.index t = ![0, t.val, 0]
    ∧ win2_7.index t = ![t.val, 0] ∧ win2_8.index t = ![0, 0] :=
  (by decide +kernel : ∀ t : Fin grid2.N, _)

/-- Token `y` of the backward block of grid point `t`. -/
def brow (t : Fin 32) (y : Fin 256) : Fin 8192 := ⟨t.val * 256 + y.val, by omega⟩

/-- A grid point of the backward kernel as a number below 32. -/
def pt2 (t : Fin cfg2.N) : Fin 32 := ⟨t.val, lt_of_lt_of_eq t.isLt N_2⟩

section
variable (c : Dev nD) (D X : FVec Ideal S8192x1024 .f32) (Wd : FVec Ideal S1x2816x1024 .bf16) (Fc : FVec Ideal S2x8192x2816 .bf16)
    (W : FVec Ideal S4x1024x1408 .bf16) (G : FVec Ideal S1x1024 .f32)
    (d x : Fin 8192 → Fin 1024 → ℝ) (wd : ℕ → Fin 1024 → ℝ) (f : Fin 8192 → ℕ → ℕ → ℝ) (w : Fin 1024 → ℕ → ℝ) (g : Fin 1024 → ℝ)
    (eD : V c main_v5_3 = D) (eWd : V c main_v4 = Wd) (eF : V c main_v5_1 = Fc) (eW : V c main_v2 = W)
    (eX : V c main_arg0 = X) (eG : V c main_arg1 = G)
    (hD : ∀ y k, D (ix2 y k) = ((d y k : ℝ) : EReal)) (hWd : ∀ n k, Wd (ix3 0 n k) = ((wd n.val k : ℝ) : EReal))
    (hF : ∀ e y n, Fc (ix3 e y n) = ((f y e.val n.val : ℝ) : EReal))
    (hW : ∀ j k n, W (ix3 j k n) = ((w k (1408 * j.val + n.val) : ℝ) : EReal))
    (hX : ∀ y k, X (ix2 y k) = ((x y k : ℝ) : EReal)) (hG : ∀ k, G (ix2 0 k) = ((g k : ℝ) : EReal))

include eD hD in
theorem hD2 (t : Fin cfg2.N) (y : Fin 256) (k : Fin 1024) : iblk2 V c 0 t (ix2 y k) = ((d (brow (pt2 t) y) k : ℝ) : EReal) := by
  rw [← hD]; subst eD
  obtain ⟨e0, e1, e2, e3, e4, e5, e6, e7, e8⟩ := idx2 t
  blk_ext [iblk2, e0, brow, pt2]

include eX hX in
theorem hX2 (t : Fin cfg2.N) (y : Fin 256) (k : Fin 1024) : iblk2 V c 4 t (ix2 y k) = ((x (brow (pt2 t) y) k : ℝ) : EReal) := by
  rw [← hX]; subst eX
  obtain ⟨e0, e1, e2, e3, e4, e5, e6, e7, e8⟩ := idx2 t
  blk_ext [iblk2, e4, brow, pt2]

include eF hF in
theorem hF2 (t : Fin cfg2.N) (e : Fin 2) (y : Fin 256) (n : Fin 2816) :
    iblk2 V c 2 t (ix3 e y n) = ((f (brow (pt2 t) y) e.val n.val : ℝ) : EReal) := by
  rw [← hF]; subst eF
  obtain ⟨e0, e1, e2, e3, e4, e5, e6, e7, e8⟩ := idx2 t
  blk_ext [iblk2, e2, brow, pt2]

include eWd in
theorem blk2_1 (t : Fin cfg2.N) : iblk2 V c 1 t = Wd := by
  subst eWd
  obtain ⟨e0, e1, e2, e3, e4, e5, e6, e7, e8⟩ := idx2 t
  funext y
  blk_ext [iblk2, e1]

include eW in
theorem blk2_3 (t : Fin cfg2.N) : iblk2 V c 3 t = W := by
  subst eW
  obtain ⟨e0, e1, e2, e3, e4, e5, e6, e7, e8⟩ := idx2 t
  funext y
  blk_ext [iblk2, e3]

include eG in
theorem blk2_5 (t : Fin cfg2.N) : iblk2 V c 5 t = G := by
  subst eG
  obtain ⟨e0, e1, e2, e3, e4, e5, e6, e7, e8⟩ := idx2 t
  funext y
  blk_ext [iblk2, e5]

include eD eWd eF eW eX eG hD hWd hF hW hX hG in
/-- The gradients in every token's gate and up values. -/
theorem arr2_6 : (dat2 V c).arrAt 6 cfg2.N = fun i : S2x8192x2816.Idx => ((dz (d (i 1)) wd (f (i 1)) (i 0).val (i 2).val : ℝ) : EReal) := by
  refine (dat2 V c).arrAt_eq_of_covers 6 _ (by decide +kernel) fun t hf y => ?_
  obtain ⟨e0, e1, e2, e3, e4, e5, e6, e7, e8⟩ := idx2 t
  blk_simp
  rw [after2_6]
  idx_vars y
  rw [out2_6 V c t _ _ Wd _ W G (fun y => d (brow (pt2 t) y)) (fun y => x (brow (pt2 t) y)) wd (fun y => f (brow (pt2 t) y)) w g
    rfl (blk2_1 V c Wd eWd t) rfl (blk2_3 V c W eW t) rfl (blk2_5 V c G eG t) (hD2 V c D d eD hD t) hWd (hF2 V c Fc f eF hF t) hW
    (hX2 V c X x eX hX t) hG]
  have hr : brow (pt2 t) y1 = (win2_6.blk t).view.emb (ix3 y0 y1 y2) 1 := by
    apply Fin.ext; blk_simp [e6, brow, pt2]
  rw [hr]
  blk_simp [e6]

include eD eWd eF eW eX eG hD hWd hF hW hX hG in
/-- The gradients in every token's row. -/
theorem arr2_7 : (dat2 V c).arrAt 7 cfg2.N = fun i : S8192x1024.Idx =>
    ((dx (x (i 0)) g (dhn (d (i 0)) wd (f (i 0)) w) (d (i 0)) (i 1) : ℝ) : EReal) := by
  refine (dat2 V c).arrAt_eq_of_covers 7 _ (by decide +kernel) fun t hf y => ?_
  obtain ⟨e0, e1, e2, e3, e4, e5, e6, e7, e8⟩ := idx2 t
  blk_simp
  rw [after2_7]
  idx_vars y
  rw [out2_7 V c t _ _ Wd _ W G (fun y => d (brow (pt2 t) y)) (fun y => x (brow (pt2 t) y)) wd (fun y => f (brow (pt2 t) y)) w g
    rfl (blk2_1 V c Wd eWd t) rfl (blk2_3 V c W eW t) rfl (blk2_5 V c G eG t) (hD2 V c D d eD hD t) hWd (hF2 V c Fc f eF hF t) hW
    (hX2 V c X x eX hX t) hG]
  have hr : brow (pt2 t) y0 = (win2_7.blk t).view.emb (ix2 y0 y1) 0 := by
    apply Fin.ext; blk_simp [e7, brow, pt2]
  have hk : y1 = (win2_7.blk t).view.emb (ix2 y0 y1) 1 := by
    apply Fin.ext; blk_simp [e7]
  rw [← hr, ← hk]

include eD eWd eF eW eX eG hD hWd hF hW hX hG in
/-- The gradient in the gain, summed over all tokens. -/
theorem arr2_8 : (dat2 V c).arrAt 8 cfg2.N = fun i : S1x1024.Idx =>
    ((∑ r : Fin 8192, dhn (d r) wd (f r) w (i 1) * xh (x r) (i 1) : ℝ) : EReal) := by
  refine (dat2 V c).arrAt_eq_of_covers 8 _ (by decide +kernel) fun t hf y => ?_
  obtain ⟨e0, e1, e2, e3, e4, e5, e6, e7, e8⟩ := idx2 t
  blk_simp
  rw [after2_8]
  idx_vars y
  have hy : y0 = 0 := Subsingleton.elim _ _
  subst hy
  have hk : y1 = (win2_8.blk t).view.emb (ix2 0 y1) 1 := by
    apply Fin.ext; blk_simp [e8]
  rw [← hk]
  have h := Pipeline.eq_sum_fin_of_reset_step_apply_of_flush (N := cfg2.N)
    (fun n h (i : Fin 1024) => (outsAt2 V c n h).2.2 (ix2 0 i)) 32 (fun _ => 0)
    (fun t i => ((∑ a, dhn (d (brow (pt2 t) a)) wd (f (brow (pt2 t) a)) w i * xh (x (brow (pt2 t) a)) i : ℝ) : EReal))
    (fun t h0 i => out2_8A V c t _ _ Wd _ W G (fun y => d (brow (pt2 t) y)) (fun y => x (brow (pt2 t) y)) wd (fun y => f (brow (pt2 t) y)) w g
      rfl (blk2_1 V c Wd eWd t) rfl (blk2_3 V c W eW t) rfl (blk2_5 V c G eG t) (hD2 V c D d eD hD t) hWd (hF2 V c Fc f eF hF t) hW
      (hX2 V c X x eX hX t) hG h0 i)
    (fun t h0 i => out2_8B V c t _ _ Wd _ W G (fun y => d (brow (pt2 t) y)) (fun y => x (brow (pt2 t) y)) wd (fun y => f (brow (pt2 t) y)) w g
      rfl (blk2_1 V c Wd eWd t) rfl (blk2_3 V c W eW t) rfl (blk2_5 V c G eG t) (hD2 V c D d eD hD t) hWd (hF2 V c Fc f eF hF t) hW
      (hX2 V c X x eX hX t) hG h0 i)
    t ((flush2_8 t).mp hf) y1
  refine h.trans ?_
  rw [zero_add, coe_sum]
  congr 1
  refine Fin.sum_mul_add_congr (f := fun r : Fin 8192 => dhn (d r) wd (f r) w y1 * xh (x r) y1) (fun s k hl => ?_)
  have hN : t.val < 32 := lt_of_lt_of_eq t.isLt N_2
  have hs : ∀ (p : Fin cfg2.N), p.val = s.val → brow (pt2 p) k = ⟨s.val * 256 + k.val, hl⟩ := fun p hp => Fin.ext (by simp only [brow, pt2, hp])
  rw [hs _ (by dsimp only; omega)]

end
end Cert.KernelIdeal.Value
-- ==== Proof.Mm.lean ====
/-
  The two weight-gradient products: what their accumulated blocks and their output arrays hold, over the extended reals,
  where their input arrays hold real numbers.
-/
module

public import proofs.«01_k».proof.Proof.Gen.KernelIdeal.Frame.Region1
public import proofs.«01_k».proof.Proof.Gen.KernelIdeal.Frame.Region3
public import proofs.«01_k».proof.Proof.Coe
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ffn

variable (V : (c : Dev nD) → (b : Ref sig .tc) → Buf (Elt Ideal) ((c : Thread nD τ).loc b))

/-- Where the first product's blocks lie: eight steps over the tokens for each half of the activations' columns. -/
theorem idx1 : ∀ t : Fin cfg1.N, win1_0.index t = ![t.val % 8, t.val / 8] ∧ win1_1.index t = ![t.val % 8, 0]
    ∧ win1_2.index t = ![0, t.val / 8, 0] :=
  (by decide +kernel : ∀ t : Fin grid1.N, _)

/-- Where the second product's blocks lie: eight steps over the tokens for each of the four column blocks. -/
theorem idx3 : ∀ t : Fin cfg3.N, win3_0.index t = ![t.val % 8, 0] ∧ win3_1.index t = ![t.val / 16, t.val % 8, t.val / 8 % 2]
    ∧ win3_2.index t = ![t.val / 8, 0, 0] :=
  (by decide +kernel : ∀ t : Fin grid3.N, _)

/-- Token `y` of the product's block `s`. -/
def mrow (s : ℕ) (hs : s < 8) (y : Fin 1024) : Fin 8192 := ⟨s * 1024 + y.val, by omega⟩

theorem pay1_2 (O : FVec Ideal S1x1408x1024 .f32) (A : FVec Ideal S1024x1408 .bf16) (B : FVec Ideal S1024x1024 .f32)
    (a : Fin 1024 → Fin 1408 → ℝ) (b : Fin 1024 → Fin 1024 → ℝ)
    (hA : ∀ r p, A (ix2 r p) = ((a r p : ℝ) : EReal)) (hB : ∀ r q, B (ix2 r q) = ((b r q : ℝ) : EReal)) (p : Fin 1408) (q : Fin 1024) :
    k1_pay2 (F := Ideal) O A B (ix3 0 p q) = O (ix3 0 p q) + ((∑ r, a r p * b r q : ℝ) : EReal) := by
  pointwise [k1_pay2]
  simp only [hA, hB, ← EReal.coe_mul, coe_sum]

theorem pay3_2 (O : FVec Ideal S1x1024x1408 .f32) (A : FVec Ideal S1024x1024 .bf16) (B : FVec Ideal S1x1024x1408 .bf16)
    (a : Fin 1024 → Fin 1024 → ℝ) (b : Fin 1024 → Fin 1408 → ℝ)
    (hA : ∀ r p, A (ix2 r p) = ((a r p : ℝ) : EReal)) (hB : ∀ r q, B (ix3 0 r q) = ((b r q : ℝ) : EReal)) (p : Fin 1024) (q : Fin 1408) :
    k3_pay2 (F := Ideal) O A B (ix3 0 p q) = O (ix3 0 p q) + ((∑ r, a r p * b r q : ℝ) : EReal) := by
  pointwise [k3_pay2]
  simp only [hA, hB, ← EReal.coe_mul, coe_sum]

section
variable (c : Dev nD) (A : FVec Ideal S8192x2816 .bf16) (B : FVec Ideal S8192x1024 .f32)
    (a : Fin 8192 → ℕ → ℝ) (b : Fin 8192 → Fin 1024 → ℝ)
    (eA : V c main_v5_0 = A) (eB : V c main_v5_3 = B)
    (hA : ∀ r n, A (ix2 r n) = ((a r n.val : ℝ) : EReal)) (hB : ∀ r k, B (ix2 r k) = ((b r k : ℝ) : EReal))

include eA hA in
theorem blk1_0 (t : Fin cfg1.N) (r : Fin 1024) (p : Fin 1408) :
    iblk1 V c 0 t (ix2 r p) = ((a (mrow (t.val % 8) (Nat.mod_lt _ (by decide)) r) (t.val / 8 * 1408 + p.val) : ℝ) : EReal) := by
  have hN : t.val < 16 := lt_of_lt_of_eq t.isLt N_1
  rw [show t.val / 8 * 1408 + p.val = (⟨t.val / 8 * 1408 + p.val, by omega⟩ : Fin 2816).val from rfl, ← hA]; subst eA
  obtain ⟨e0, e1, e2⟩ := idx1 t
  blk_ext [iblk1, e0, mrow]

include eB hB in
theorem blk1_1 (t : Fin cfg1.N) (r : Fin 1024) (q : Fin 1024) :
    iblk1 V c 1 t (ix2 r q) = ((b (mrow (t.val % 8) (Nat.mod_lt _ (by decide)) r) q : ℝ) : EReal) := by
  rw [← hB]; subst eB
  obtain ⟨e0, e1, e2⟩ := idx1 t
  blk_ext [iblk1, e1, mrow]

include eA eB hA hB in
/-- The first product: the activations transposed times the gradient, over all tokens. -/
theorem arr1_2 : (dat1 V c).arrAt 2 cfg1.N = fun i : S1x2816x1024.Idx => ((∑ r : Fin 8192, a r (i 1).val * b r (i 2) : ℝ) : EReal) := by
  refine (dat1 V c).arrAt_eq_of_covers 2 _ (by decide +kernel) fun t hf y => ?_
  have hN : t.val < 16 := lt_of_lt_of_eq t.isLt N_1
  obtain ⟨e0, e1, e2⟩ := idx1 t
  blk_simp
  rw [after1_2]
  idx_vars y
  have hy : y0 = 0 := Subsingleton.elim _ _
  subst hy
  have hk : y2 = (win1_2.blk t).view.emb (ix3 0 y1 y2) 2 := by
    apply Fin.ext; blk_simp [e2]
  rw [← hk]
  have h := Pipeline.eq_sum_fin_of_reset_step_apply_of_flush (N := cfg1.N)
    (fun n h (i : Fin 1408 × Fin 1024) => outsAt1 V c n h (ix3 0 i.1 i.2)) 8 (fun _ => 0)
    (fun t i => ((∑ r, a (mrow (t.val % 8) (Nat.mod_lt _ (by decide)) r) (t.val / 8 * 1408 + i.1.val)
      * b (mrow (t.val % 8) (Nat.mod_lt _ (by decide)) r) i.2 : ℝ) : EReal))
    (fun t h0 i => by
      rw [outsAt1_A V c t h0]; frame_out
      rw [pay1_2 _ _ _ _ _ (blk1_0 V c A a eA hA t) (blk1_1 V c B b eB hB t)]
      congr 1
      pointwise [k1_pay1])
    (fun t h0 i => by
      rw [outsAt1_B V c t h0]; frame_out
      rw [pay1_2 _ _ _ _ _ (blk1_0 V c A a eA hA t) (blk1_1 V c B b eB hB t)])
    t ((flush1_2 t).mp hf) (y1, y2)
  refine h.trans ?_
  rw [zero_add, coe_sum]
  congr 1
  blk_simp [e2]
  refine Fin.sum_mul_add_congr (f := fun r : Fin 8192 => a r (t.val / 8 * 1408 + y1.val) * b r y2) (fun s k hl => ?_)
  have hs : ∀ (n : ℕ) (hn : n < 8), n = s.val → mrow n hn k = ⟨s.val * 1024 + k.val, hl⟩ := fun n hn hp => Fin.ext (by simp only [mrow, hp])
  dsimp only
  rw [hs _ _ (by omega), show (8 * (t.val / 8) + s.val) / 8 = t.val / 8 by omega]

end

section
variable (c : Dev nD) (A : FVec Ideal S8192x1024 .bf16) (B : FVec Ideal S2x8192x2816 .bf16)
    (a : Fin 8192 → Fin 1024 → ℝ) (b : Fin 8192 → ℕ → ℕ → ℝ)
    (eA : V c main_v5_2 = A) (eB : V c main_v10_0 = B)
    (hA : ∀ r k, A (ix2 r k) = ((a r k : ℝ) : EReal)) (hB : ∀ e r n, B (ix3 e r n) = ((b r e.val n.val : ℝ) : EReal))

include eA hA in
theorem blk3_0 (t : Fin cfg3.N) (r : Fin 1024) (p : Fin 1024) :
    iblk3 V c 0 t (ix2 r p) = ((a (mrow (t.val % 8) (Nat.mod_lt _ (by decide)) r) p : ℝ) : EReal) := by
  rw [← hA]; subst eA
  obtain ⟨e0, e1, e2⟩ := idx3 t
  blk_ext [iblk3, e0, mrow]

include eB hB in
theorem blk3_1 (t : Fin cfg3.N) (r : Fin 1024) (q : Fin 1408) :
    iblk3 V c 1 t (ix3 0 r q) = ((b (mrow (t.val % 8) (Nat.mod_lt _ (by decide)) r) (t.val / 16) (t.val / 8 % 2 * 1408 + q.val) : ℝ) : EReal) := by
  have hN : t.val < 32 := lt_of_lt_of_eq t.isLt N_3
  rw [show t.val / 16 = (⟨t.val / 16, by omega⟩ : Fin 2).val from rfl,
    show t.val / 8 % 2 * 1408 + q.val = (⟨t.val / 8 % 2 * 1408 + q.val, by omega⟩ : Fin 2816).val from rfl, ← hB]; subst eB
  obtain ⟨e0, e1, e2⟩ := idx3 t
  blk_ext [iblk3, e1, mrow]

include eA eB hA hB in
/-- The second product: the normalised rows transposed times the gradients in the gate and up values, over all tokens. -/
theorem arr3_2 : (dat3 V c).arrAt 2 cfg3.N = fun i : S4x1024x1408.Idx =>
    ((∑ r : Fin 8192, a r (i 1) * b r ((i 0).val / 2) ((i 0).val % 2 * 1408 + (i 2).val) : ℝ) : EReal) := by
  refine (dat3 V c).arrAt_eq_of_covers 2 _ (by decide +kernel) fun t hf y => ?_
  have hN : t.val < 32 := lt_of_lt_of_eq t.isLt N_3
  obtain ⟨e0, e1, e2⟩ := idx3 t
  blk_simp
  rw [after3_2]
  idx_vars y
  have hy : y0 = 0 := Subsingleton.elim _ _
  subst hy
  have hk : y1 = (win3_2.blk t).view.emb (ix3 0 y1 y2) 1 := by
    apply Fin.ext; blk_simp [e2]
  rw [← hk]
  have h := Pipeline.eq_sum_fin_of_reset_step_apply_of_flush (N := cfg3.N)
    (fun n h (i : Fin 1024 × Fin 1408) => outsAt3 V c n h (ix3 0 i.1 i.2)) 8 (fun _ => 0)
    (fun t i => ((∑ r, a (mrow (t.val % 8) (Nat.mod_lt _ (by decide)) r) i.1
      * b (mrow (t.val % 8) (Nat.mod_lt _ (by decide)) r) (t.val / 16) (t.val / 8 % 2 * 1408 + i.2.val) : ℝ) : EReal))
    (fun t h0 i => by
      rw [outsAt3_A V c t h0]; frame_out
      rw [pay3_2 _ _ _ _ _ (blk3_0 V c A a eA hA t) (blk3_1 V c B b eB hB t)]
      congr 1
      pointwise [k3_pay1])
    (fun t h0 i => by
      rw [outsAt3_B V c t h0]; frame_out
      rw [pay3_2 _ _ _ _ _ (blk3_0 V c A a eA hA t) (blk3_1 V c B b eB hB t)])
    t ((flush3_2 t).mp hf) (y1, y2)
  refine h.trans ?_
  rw [zero_add, coe_sum]
  congr 1
  blk_simp [e2]
  refine Fin.sum_mul_add_congr (f := fun r : Fin 8192 => a r y1 * b r (t.val / 8 / 2) (t.val / 8 % 2 * 1408 + y2.val)) (fun s k hl => ?_)
  have hs : ∀ (n : ℕ) (hn : n < 8), n = s.val → mrow n hn k = ⟨s.val * 1024 + k.val, hl⟩ := fun n hn hp => Fin.ext (by simp only [mrow, hp])
  dsimp only
  rw [hs _ _ (by omega), show (8 * (t.val / 8) + s.val) / 8 = t.val / 8 by omega, show (8 * (t.val / 8) + s.val) / 16 = t.val / 8 / 2 by omega]

end
end Cert.KernelIdeal.Value
-- ==== Proof.KHost.lean ====
/-
  The host code around the kernel's calls, over the extended reals: the weights as the calls take them, the loss from its
  column sums, and the weights' gradients as they are returned.
-/
module

public import proofs.«01_k».proof.Proof.Gen.KernelIdeal.Frame
public import proofs.«01_k».proof.Proof.Coe
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.KernelIdeal.Value
open Cert.KernelIdeal Cert.KernelIdeal.Gen Cert.Ffn

variable (m : (ℓ : Loc nD τ sig) → Buf (Elt Ideal) ℓ) (ρ : Dev nD → PrngReg) (c : Dev nD)

/-- The gate and up weights as the calls take them: four blocks of 1408 columns. -/
theorem v2_val (X : FVec Ideal S1024x5632 .f32) (e : m ((c : Thread nD τ).loc main_arg2) = X) (w : Fin 1024 → ℕ → ℝ)
    (hX : ∀ k n, X (ix2 k n) = ((w k n.val : ℝ) : EReal)) :
    ∃ W : FVec Ideal S4x1024x1408 .bf16, V1 m ρ c main_v2 = W ∧ ∀ j k d, W (ix3 j k d) = ((w k (1408 * j.val + d.val) : ℝ) : EReal) := by
  have h : V1 m ρ c main_v2 = transpose S4x1024x1408 [1, 0, 2]
      (shapeCast S1024x4x1408 (truncf .bf16 X bitsLt_bf16_f32 : FVec Ideal S1024x5632 .bf16) shapeCasts_S1024x5632_S1024x4x1408)
      transposes_S1024x4x1408_S4x1024x1408_1_0_2 := by
    subst e
    show StableHlo.after hostOps0 (W0 m ρ c) (Proc.devRef .tc main_v2) = _
    after_results_simp
    rfl
  refine ⟨_, h, fun j k d => ?_⟩
  pointwise
  rw [hX, Nat.mul_comm 1408]

/-- The down weights as the calls take them. -/
theorem v4_val (X : FVec Ideal S2816x1024 .f32) (e : m ((c : Thread nD τ).loc main_arg3) = X) (wd : ℕ → Fin 1024 → ℝ)
    (hX : ∀ n k, X (ix2 n k) = ((wd n.val k : ℝ) : EReal)) :
    ∃ W : FVec Ideal S1x2816x1024 .bf16, V1 m ρ c main_v4 = W ∧ ∀ n k, W (ix3 0 n k) = ((wd n.val k : ℝ) : EReal) := by
  have h : V1 m ρ c main_v4 = shapeCast S1x2816x1024 (truncf .bf16 X bitsLt_bf16_f32 : FVec Ideal S2816x1024 .bf16)
      shapeCasts_S2816x1024_S1x2816x1024 := by
    subst e
    show StableHlo.after hostOps0 (W0 m ρ c) (Proc.devRef .tc main_v4) = _
    after_results_simp
    rfl
  refine ⟨_, h, fun n k => ?_⟩
  pointwise
  rw [hX]

/-- The loss from the column sums of the squared errors. -/
theorem v8_val (s : Fin 1024 → ℝ)
    (e : W2 m ρ c (Proc.devRef .tc main_v5_4) = fun i : S1x1024.Idx => ((s (i 1) : ℝ) : EReal)) :
    W7 m ρ c (Proc.devRef .tc main_v8) = fun _ : S_.Idx => ((1 / 2 * (∑ k, s k) / 1024 : ℝ) : EReal) := by
  rw [W7_of m ρ c main_v8 (by decide), W6_of m ρ c main_v8 (by decide), W5_of m ρ c main_v8 (by decide), W4_of m ρ c main_v8 (by decide)]
  have h : W3 m ρ c (Proc.devRef .tc main_v8) = Host.divf (mulf (constant S_ .f32 0x3F000000#32)
      (Host.reduceAdd (fun i : S1x1024.Idx => ((s (i 1) : ℝ) : EReal)) (constant (F := Ideal) S_ .f32 0x00000000#32) reducesTo_S1x1024_S_d0_1 h_S_))
      (constant (F := Ideal) S_ .f32 0x44800000#32) := by
    rw [← e]
    show StableHlo.after hostOps1 (W2 m ρ c) (Proc.devRef .tc main_v8) = _
    after_results_simp
  rw [h]
  funext i
  pointwise
  rw [half_val, k_val]
  simp only [Fin.sum_univ_one, coe_sum, ← EReal.coe_mul, div_coe _ (show (1024:ℝ) ≠ 0 by norm_num)]

/-- The gradient in the gate and up weights as it is returned. -/
theorem v13_val (v : Fin 4 → Fin 1024 → ℕ → ℝ)
    (e : W6 m ρ c (Proc.devRef .tc main_v11) = fun i : S4x1024x1408.Idx => ((v (i 0) (i 1) (i 2).val : ℝ) : EReal))
    (u : Fin 1024 → ℕ → ℝ) (hu : ∀ (j : Fin 4) k n, n < 1408 → v j k n = u k (j.val * 1408 + n)) :
    W7 m ρ c (Proc.devRef .tc main_v13) = fun i : S1024x5632.Idx => ((u (i 0) (i 1).val : ℝ) : EReal) := by
  have h : W7 m ρ c (Proc.devRef .tc main_v13) = shapeCast S1024x5632 (transpose S1024x4x1408 [1, 0, 2]
      (fun i : S4x1024x1408.Idx => ((v (i 0) (i 1) (i 2).val : ℝ) : EReal)) transposes_S4x1024x1408_S1024x4x1408_1_0_2)
      shapeCasts_S1024x4x1408_S1024x5632 := by
    rw [← e]
    show StableHlo.after hostOps4 (W6 m ρ c) (Proc.devRef .tc main_v13) = _
    after_results_simp
    rfl
  rw [h]
  funext i
  idx_vars i
  pointwise
  rw [hu _ _ _ (Nat.mod_lt _ (by decide))]
  dsimp only
  rw [Nat.div_add_mod']

/-- The gradient in the down weights as it is returned. -/
theorem v14_val (v : ℕ → Fin 1024 → ℝ)
    (e : W6 m ρ c (Proc.devRef .tc main_v9) = fun i : S1x2816x1024.Idx => ((v (i 1).val (i 2) : ℝ) : EReal)) :
    W7 m ρ c (Proc.devRef .tc main_v14) = fun i : S2816x1024.Idx => ((v (i 0).val (i 1) : ℝ) : EReal) := by
  have h : W7 m ρ c (Proc.devRef .tc main_v14) = shapeCast S2816x1024
      (fun i : S1x2816x1024.Idx => ((v (i 1).val (i 2) : ℝ) : EReal)) shapeCasts_S1x2816x1024_S2816x1024 := by
    rw [← e]
    show StableHlo.after hostOps4 (W6 m ρ c) (Proc.devRef .tc main_v14) = _
    after_results_simp
    rfl
  rw [h]
  funext i
  idx_vars i
  pointwise

end Cert.KernelIdeal.Value
-- ==== Proof.KVal.lean ====
/-
  The contents of the kernel program's buffers from call to call, over the extended reals and for finite arguments, down to
  the five results.
-/
module

public import proofs.«01_k».proof.Proof.Arr0
public import proofs.«01_k».proof.Proof.Arr2
public import proofs.«01_k».proof.Proof.Mm
public import proofs.«01_k».proof.Proof.KHost
public import proofs.«01_k».proof.Proof.Rows

@[expose] public section

set_option maxRecDepth 16384
noncomputable section
open Idealize.ShloMosaic Idealize.ShloMosaic.TcCoe Idealize.SL.Sem
namespace Cert.KernelIdeal.Value
open Cert.KernelIdeal Cert.KernelIdeal.Gen Cert.Ffn

variable (m : (ℓ : Loc nD τ sig) → Buf (Elt Ideal) ℓ) (ρ : Dev nD → PrngReg) (c : Dev nD)
    (x tg : Fin 8192 → Fin 1024 → ℝ) (g : Fin 1024 → ℝ) (w : Fin 1024 → ℕ → ℝ) (wd : ℕ → Fin 1024 → ℝ)
    (X T : FVec Ideal S8192x1024 .f32) (G : FVec Ideal S1x1024 .f32) (W : FVec Ideal S1024x5632 .f32) (D : FVec Ideal S2816x1024 .f32)
    (eX : m ((c : Thread nD τ).loc main_arg0) = X) (eG : m ((c : Thread nD τ).loc main_arg1) = G)
    (eW : m ((c : Thread nD τ).loc main_arg2) = W) (eD : m ((c : Thread nD τ).loc main_arg3) = D)
    (eT : m ((c : Thread nD τ).loc main_arg4) = T)
    (hX : ∀ y k, X (ix2 y k) = ((x y k : ℝ) : EReal)) (hG : ∀ k, G (ix2 0 k) = ((g k : ℝ) : EReal))
    (hW : ∀ k n, W (ix2 k n) = ((w k n.val : ℝ) : EReal)) (hD : ∀ n k, D (ix2 n k) = ((wd n.val k : ℝ) : EReal))
    (hT : ∀ y k, T (ix2 y k) = ((tg y k : ℝ) : EReal))

include eX eG eW hX hG hW in
/-- The activations as the first call leaves them. -/
theorem act_at : W2 m ρ c (Proc.devRef .tc main_v5_0) = fun i : S8192x2816.Idx => ((act (x (i 0)) g w (i 1).val : ℝ) : EReal) := by
  obtain ⟨W', eW', hW'⟩ := v2_val m ρ c W eW w hW
  exact (W2_arr m ρ c 5).trans (arr0_5 (V1 m ρ) c X W' G x g w ((W1_args m ρ c main_arg0 (by decide)).trans eX) eW'
    ((W1_args m ρ c main_arg1 (by decide)).trans eG) hX hG hW')

include eX eG eW hX hG hW in
/-- The kept factors as the first call leaves them. -/
theorem fac_at : W2 m ρ c (Proc.devRef .tc main_v5_1) = fun i : S2x8192x2816.Idx =>
    ((fac (i 0).val (lin (x (i 1)) g w (i 2).val) (lin (x (i 1)) g w (2816 + (i 2).val)) : ℝ) : EReal) := by
  obtain ⟨W', eW', hW'⟩ := v2_val m ρ c W eW w hW
  exact (W2_arr m ρ c 6).trans (arr0_6 (V1 m ρ) c X W' G x g w ((W1_args m ρ c main_arg0 (by decide)).trans eX) eW'
    ((W1_args m ρ c main_arg1 (by decide)).trans eG) hX hG hW')

include eX eG hX hG in
/-- The normalised rows as the first call leaves them. -/
theorem xn_at : W2 m ρ c (Proc.devRef .tc main_v5_2) = fun i : S8192x1024.Idx => ((xn (x (i 0)) g (i 1) : ℝ) : EReal) :=
  (W2_arr m ρ c 7).trans (arr0_7 (V1 m ρ) c X G x g ((W1_args m ρ c main_arg0 (by decide)).trans eX)
    ((W1_args m ρ c main_arg1 (by decide)).trans eG) hX hG)

include eX eG eW eD eT hX hG hW hD hT in
/-- The loss's gradient in the layer's output as the first call leaves it. -/
theorem dy_at : W2 m ρ c (Proc.devRef .tc main_v5_3) = fun i : S8192x1024.Idx =>
    ((dy (x (i 0)) g w (fun n => wd n.val) (tg (i 0)) (i 1) : ℝ) : EReal) := by
  obtain ⟨W', eW', hW'⟩ := v2_val m ρ c W eW w hW
  obtain ⟨D', eD', hD'⟩ := v4_val m ρ c D eD wd hD
  exact (W2_arr m ρ c 8).trans (arr0_8 (V1 m ρ) c X T W' G D' x tg g w (fun n => wd n.val)
    ((W1_args m ρ c main_arg0 (by decide)).trans eX) eW' ((W1_args m ρ c main_arg1 (by decide)).trans eG) eD'
    ((W1_args m ρ c main_arg4 (by decide)).trans eT) hX hG hW' hD' hT)

include eX eG eW eD eT hX hG hW hD hT in
/-- The loss. -/
theorem loss_at : W7 m ρ c (Proc.devRef .tc main_v8) = fun _ : S_.Idx => ((1 / 2 * (∑ k, ∑ r : Fin 8192,
    err (x r) g w (fun n => wd n.val) (tg r) k * err (x r) g w (fun n => wd n.val) (tg r) k) / 1024 : ℝ) : EReal) := by
  obtain ⟨W', eW', hW'⟩ := v2_val m ρ c W eW w hW
  obtain ⟨D', eD', hD'⟩ := v4_val m ρ c D eD wd hD
  exact v8_val m ρ c _ ((W2_arr m ρ c 9).trans (arr0_9 (V1 m ρ) c X T W' G D' x tg g w (fun n => wd n.val)
    ((W1_args m ρ c main_arg0 (by decide)).trans eX) eW' ((W1_args m ρ c main_arg1 (by decide)).trans eG) eD'
    ((W1_args m ρ c main_arg4 (by decide)).trans eT) hX hG hW' hD' hT))

include eX eG eW eD eT hX hG hW hD hT in
/-- The gradient in the down weights. -/
theorem dwd_at : W7 m ρ c (Proc.devRef .tc main_v14) = fun i : S2816x1024.Idx => ((∑ r : Fin 8192,
    act (x r) g w (i 0).val * dy (x r) g w (fun n => wd n.val) (tg r) (i 1) : ℝ) : EReal) := by
  refine v14_val m ρ c (fun n k => ∑ r : Fin 8192, act (x r) g w n * dy (x r) g w (fun n => wd n.val) (tg r) k) ?_
  rw [W6_of m ρ c main_v9 (by decide), W5_of m ρ c main_v9 (by decide)]
  exact (W4_arr m ρ c 2).trans (arr1_2 (V3 m ρ) c _ _ (fun r n => act (x r) g w n) (fun r => dy (x r) g w (fun n => wd n.val) (tg r))
    ((W3_of m ρ c main_v5_0 (by decide)).trans (act_at m ρ c x g w X G W eX eG eW hX hG hW))
    ((W3_of m ρ c main_v5_3 (by decide)).trans (dy_at m ρ c x tg g w wd X T G W D eX eG eW eD eT hX hG hW hD hT))
    (fun _ _ => rfl) (fun _ _ => rfl))

section
variable {R : Prop}

include eX eG eW eD eT hX hG hW hD hT in
/-- What the backward call finds, handed to a statement about what it leaves. -/
theorem bwd_at
    (k : ∀ (D' : FVec Ideal S8192x1024 .f32) (Wd : FVec Ideal S1x2816x1024 .bf16) (Fc : FVec Ideal S2x8192x2816 .bf16)
      (W' : FVec Ideal S4x1024x1408 .bf16), V4 m ρ c main_v5_3 = D' → V4 m ρ c main_v4 = Wd → V4 m ρ c main_v5_1 = Fc →
      V4 m ρ c main_v2 = W' → V4 m ρ c main_arg0 = X → V4 m ρ c main_arg1 = G →
      (∀ y k, D' (ix2 y k) = ((dyR x tg g w wd y k : ℝ) : EReal)) → (∀ n k, Wd (ix3 0 n k) = ((wd n.val k : ℝ) : EReal)) →
      (∀ e y n, Fc (ix3 e y n) = ((facR x g w y e.val n.val : ℝ) : EReal)) →
      (∀ j k n, W' (ix3 j k n) = ((w k (1408 * j.val + n.val) : ℝ) : EReal)) → R) : R := by
  obtain ⟨W', eW', hW'⟩ := v2_val m ρ c W eW w hW
  obtain ⟨Wd, eD', hD'⟩ := v4_val m ρ c D eD wd hD
  refine k _ Wd _ W'
    (((W4_of m ρ c main_v5_3 (by decide)).trans (W3_of m ρ c main_v5_3 (by decide))).trans
      (dy_at m ρ c x tg g w wd X T G W D eX eG eW eD eT hX hG hW hD hT))
    ((((W4_of m ρ c main_v4 (by decide)).trans (W3_of m ρ c main_v4 (by decide))).trans (W2_of m ρ c main_v4 (by decide))).trans eD')
    (((W4_of m ρ c main_v5_1 (by decide)).trans (W3_of m ρ c main_v5_1 (by decide))).trans
      (fac_at m ρ c x g w X G W eX eG eW hX hG hW))
    ((((W4_of m ρ c main_v2 (by decide)).trans (W3_of m ρ c main_v2 (by decide))).trans (W2_of m ρ c main_v2 (by decide))).trans eW')
    ((W4_args m ρ c main_arg0 (by decide)).trans eX) ((W4_args m ρ c main_arg1 (by decide)).trans eG)
    (fun _ _ => rfl) hD' (fun _ _ _ => rfl) hW'
end

include eX eG eW eD eT hX hG hW hD hT in
/-- The gradients in the gate and up values as the backward call leaves them. -/
theorem dgu_at : W5 m ρ c (Proc.devRef .tc main_v10_0) = fun i : S2x8192x2816.Idx =>
    ((dz (dyR x tg g w wd (i 1)) wd (facR x g w (i 1)) (i 0).val (i 2).val : ℝ) : EReal) :=
  bwd_at m ρ c x tg g w wd X T G W D eX eG eW eD eT hX hG hW hD hT fun D' Wd Fc W' e1 e2 e3 e4 e5 e6 h1 h2 h3 h4 =>
    (W5_arr m ρ c 6).trans (arr2_6 (V4 m ρ) c D' X Wd Fc W' G (dyR x tg g w wd) x wd (facR x g w) w g e1 e2 e3 e4 e5 e6 h1 h2 h3 h4 hX hG)

include eX eG eW eD eT hX hG hW hD hT in
/-- The gradient in the layer's input. -/
theorem dh_at : W7 m ρ c (Proc.devRef .tc main_v10_1) = fun i : S8192x1024.Idx =>
    ((dx (x (i 0)) g (dhn (dyR x tg g w wd (i 0)) wd (facR x g w (i 0)) w) (dyR x tg g w wd (i 0)) (i 1) : ℝ) : EReal) :=
  bwd_at m ρ c x tg g w wd X T G W D eX eG eW eD eT hX hG hW hD hT fun D' Wd Fc W' e1 e2 e3 e4 e5 e6 h1 h2 h3 h4 =>
    ((W7_of m ρ c main_v10_1 (by decide)).trans (W6_of m ρ c main_v10_1 (by decide))).trans
    ((W5_arr m ρ c 7).trans (arr2_7 (V4 m ρ) c D' X Wd Fc W' G (dyR x tg g w wd) x wd (facR x g w) w g e1 e2 e3 e4 e5 e6 h1 h2 h3 h4 hX hG))

include eX eG eW eD eT hX hG hW hD hT in
/-- The gradient in the gain. -/
theorem dg_at : W7 m ρ c (Proc.devRef .tc main_v10_2) = fun i : S1x1024.Idx =>
    ((∑ r : Fin 8192, dhn (dyR x tg g w wd r) wd (facR x g w r) w (i 1) * xh (x r) (i 1) : ℝ) : EReal) :=
  bwd_at m ρ c x tg g w wd X T G W D eX eG eW eD eT hX hG hW hD hT fun D' Wd Fc W' e1 e2 e3 e4 e5 e6 h1 h2 h3 h4 =>
    ((W7_of m ρ c main_v10_2 (by decide)).trans (W6_of m ρ c main_v10_2 (by decide))).trans
    ((W5_arr m ρ c 8).trans (arr2_8 (V4 m ρ) c D' X Wd Fc W' G (dyR x tg g w wd) x wd (facR x g w) w g e1 e2 e3 e4 e5 e6 h1 h2 h3 h4 hX hG))

include eX eG eW eD eT hX hG hW hD hT in
/-- The gradient in the gate and up weights. -/
theorem dwgu_at : W7 m ρ c (Proc.devRef .tc main_v13) = fun i : S1024x5632.Idx => ((∑ r : Fin 8192,
    xn (x r) g (i 0) * dz (dyR x tg g w wd r) wd (facR x g w r) ((i 1).val / 2816) ((i 1).val % 2816) : ℝ) : EReal) := by
  refine v13_val m ρ c (fun j k n => ∑ r : Fin 8192,
    xn (x r) g k * dz (dyR x tg g w wd r) wd (facR x g w r) (j.val / 2) (j.val % 2 * 1408 + n)) ?_
    (fun k n => ∑ r : Fin 8192, xn (x r) g k * dz (dyR x tg g w wd r) wd (facR x g w r) (n / 2816) (n % 2816)) ?_
  · exact (W6_arr m ρ c 2).trans (arr3_2 (V5 m ρ) c _ _ (fun r => xn (x r) g) (fun r => dz (dyR x tg g w wd r) wd (facR x g w r))
      ((((W5_of m ρ c main_v5_2 (by decide)).trans (W4_of m ρ c main_v5_2 (by decide))).trans (W3_of m ρ c main_v5_2 (by decide))).trans
        (xn_at m ρ c x g X G eX eG hX hG))
      (dgu_at m ρ c x tg g w wd X T G W D eX eG eW eD eT hX hG hW hD hT) (fun _ _ => rfl) (fun _ _ _ => rfl))
  · intro j k n hn
    rw [show (j.val * 1408 + n) / 2816 = j.val / 2 by omega, show (j.val * 1408 + n) % 2816 = j.val % 2 * 1408 + n by omega]

end Cert.KernelIdeal.Value
-- ==== Proof.Ref.lean ====
/-
  The reference's values over the extended reals and for finite arguments, operation by operation: each element is the
  coercion of a real number, the one at which the kernel's value meets it.
-/
module

public import proofs.«01_k».proof.Proof.Gen.ReferenceIdeal.Read
public import proofs.«01_k».proof.Proof.Rows
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.ReferenceIdeal.Value
open Cert.ReferenceIdeal Cert.ReferenceIdeal.Gen Cert.ReferenceIdeal.Read Cert.Ffn

variable (X T : FVec Ideal S8192x1024 .f32) (G : FVec Ideal S1x1024 .f32) (W : FVec Ideal S1024x5632 .f32) (D : FVec Ideal S2816x1024 .f32)
    (x tg : Fin 8192 → Fin 1024 → ℝ) (g : Fin 1024 → ℝ) (w : Fin 1024 → ℕ → ℝ) (wd : ℕ → Fin 1024 → ℝ)
    (hX : ∀ y k, X (ix2 y k) = ((x y k : ℝ) : EReal)) (hG : ∀ k, G (ix2 0 k) = ((g k : ℝ) : EReal))
    (hW : ∀ k n, W (ix2 k n) = ((w k n.val : ℝ) : EReal)) (hD : ∀ n k, D (ix2 n k) = ((wd n.val k : ℝ) : EReal))
    (hT : ∀ y k, T (ix2 y k) = ((tg y k : ℝ) : EReal))

include hX in
/-- The mean square with the small number added. -/
theorem v6_at (r : Fin 8192) : val_main_v6 (F := Ideal) X (ix2 r 0) = (((∑ k, x r k * x r k) / 1024 + eps : ℝ) : EReal) := by
  pointwise [val_main_v6, val_main_v5, val_main_v4, val_main_v3, val_main_v2, val_main_v1, val_main_v0, val_main_cst, val_main_cst_0, val_main_cst_1]
  rw [k_val, eps_val]
  simp only [hX, ← EReal.coe_mul, coe_sum, div_coe _ (show (1024:ℝ) ≠ 0 by norm_num), ← EReal.coe_add]

include hX in
/-- The reciprocal root mean square. -/
theorem v7_at (r : Fin 8192) : val_main_v7 (F := Ideal) X (ix2 r 0) = ((rr (x r) : ℝ) : EReal) := by
  pointwise [val_main_v7]
  rw [v6_at X x hX, rsqrt_coe (ms_pos _)]
  rfl

include hX in
/-- Minus half of the reciprocal root mean square over the mean square. -/
theorem v10_at (r : Fin 8192) : val_main_v10 (F := Ideal) X (ix2 r 0) = ((-(1/2) * (rr (x r) / ((∑ k, x r k * x r k) / 1024 + eps)) : ℝ) : EReal) := by
  pointwise [val_main_v10, val_main_v9, val_main_v8, val_main_cst_2]
  rw [v6_at X x hX, v7_at X x hX, neg_half_val, div_coe _ (ms_pos _).ne', ← EReal.coe_mul]

include hX in
/-- The row scaled to root mean square one. -/
theorem v12_at (r : Fin 8192) (k : Fin 1024) : val_main_v12 (F := Ideal) X (ix2 r k) = ((xh (x r) k : ℝ) : EReal) := by
  pointwise [val_main_v12, val_main_v11]
  rw [v7_at X x hX, hX, ← EReal.coe_mul]
  rfl

include hX hG in
/-- The normalised row. -/
theorem v14_at (r : Fin 8192) (k : Fin 1024) : val_main_v14 (F := Ideal) X G (ix2 r k) = ((xn (x r) g k : ℝ) : EReal) := by
  pointwise [val_main_v14, val_main_v13]
  rw [v12_at X x hX, hG, ← EReal.coe_mul]
  rfl

include hX hG hW in
/-- The product with the gate and up weights. -/
theorem v15_at (r : Fin 8192) (n : Fin 5632) : val_main_v15 (F := Ideal) X G W (ix2 r n) = ((lin (x r) g w n.val : ℝ) : EReal) := by
  pointwise [val_main_v15]
  simp only [v14_at X G x g hX hG, hW, ← EReal.coe_mul, coe_sum]
  rfl

include hX hG hW in
/-- The gate value. -/
theorem v16_at (r : Fin 8192) (n : Fin 2816) : val_main_v16 (F := Ideal) X G W (ix2 r n) = ((lin (x r) g w n.val : ℝ) : EReal) := by
  pointwise [val_main_v16]
  rw [v15_at X G W x g w hX hG hW]

include hX hG hW in
/-- The up value. -/
theorem v17_at (r : Fin 8192) (n : Fin 2816) : val_main_v17 (F := Ideal) X G W (ix2 r n) = ((lin (x r) g w (2816 + n.val) : ℝ) : EReal) := by
  pointwise [val_main_v17]
  rw [v15_at X G W x g w hX hG hW]

include hX hG hW in
/-- The gate value's logistic. -/
theorem v18_2_at (r : Fin 8192) (n : Fin 2816) : val_main_v18_2 (F := Ideal) X G W (ix2 r n) = ((Ffn.sig (lin (x r) g w n.val) : ℝ) : EReal) := by
  pointwise [val_main_v18_2, val_main_call0_v4, val_main_call0_v3, val_main_call0_v2, val_main_call0_v1, val_main_call0_v0, val_main_call0_cst, val_main_call0_cst_0]
  rw [v16_at X G W x g w hX hG hW, ← EReal.coe_one, ← EReal.coe_neg, Ideal.exp_coe, ← EReal.coe_add, div_coe _ (one_add_exp_ne _), Ffn.sig, one_div]

include hX hG hW in
/-- The derivative of the logistic. -/
theorem v18_1_at (r : Fin 8192) (n : Fin 2816) : val_main_v18_1 (F := Ideal) X G W (ix2 r n) = ((Ffn.sig (lin (x r) g w n.val) * (1 - Ffn.sig (lin (x r) g w n.val)) : ℝ) : EReal) := by
  pointwise [val_main_v18_1, val_main_call0_v7, val_main_call0_v6, val_main_call0_cst_1]
  rw [v18_2_at X G W x g w hX hG hW, ← EReal.coe_one, ← EReal.coe_sub, ← EReal.coe_mul]

include hX hG hW in
/-- The gated gate value. -/
theorem v18_0_at (r : Fin 8192) (n : Fin 2816) : val_main_v18_0 (F := Ideal) X G W (ix2 r n) = ((silu (lin (x r) g w n.val) : ℝ) : EReal) := by
  pointwise [val_main_v18_0]
  rw [v18_2_at X G W x g w hX hG hW, v16_at X G W x g w hX hG hW, ← EReal.coe_mul]
  rfl

include hX hG hW in
/-- The activation. -/
theorem v19_at (r : Fin 8192) (n : Fin 2816) : val_main_v19 (F := Ideal) X G W (ix2 r n) = ((act (x r) g w n.val : ℝ) : EReal) := by
  pointwise [val_main_v19]
  rw [v18_0_at X G W x g w hX hG hW, v17_at X G W x g w hX hG hW, ← EReal.coe_mul]
  rfl

include hX hG hW hD hT in
/-- The error. -/
theorem v22_at (r : Fin 8192) (k : Fin 1024) : val_main_v22 (F := Ideal) X G W D T (ix2 r k) = ((err (x r) g w (fun n => wd n.val) (tg r) k : ℝ) : EReal) := by
  pointwise [val_main_v22, val_main_v21, val_main_v20]
  simp only [v19_at X G W x g w hX hG hW, hD, hT, hX, ← EReal.coe_mul, coe_sum, ← EReal.coe_add, ← EReal.coe_sub]
  rw [err, add_comm (x r k)]

include hX hG hW hD hT in
/-- The loss. -/
theorem v30_at (i : S_.Idx) : val_main_v30 (F := Ideal) X G W D T i = ((1 / 2 * (∑ k, ∑ r : Fin 8192, err (x r) g w (fun n => wd n.val) (tg r) k * err (x r) g w (fun n => wd n.val) (tg r) k) / 1024 : ℝ) : EReal) := by
  pointwise [val_main_v30, val_main_v29, val_main_v28, val_main_v27, val_main_v26, val_main_v23, val_main_cst_4, val_main_cst_5, val_main_cst_6, val_main_cst_7]
  rw [half_val, k_val]
  simp only [v22_at X T G W D x tg g w wd hX hG hW hD hT, ← EReal.coe_mul, coe_sum, div_coe _ (show (1024:ℝ) ≠ 0 by norm_num)]
  rw [Finset.sum_comm, ← Finset.sum_div, mul_div_assoc]

include hX hG hW hD hT in
/-- The loss's gradient in the layer's output. -/
theorem v36_at (r : Fin 8192) (k : Fin 1024) : val_main_v36 (F := Ideal) X G W D T (ix2 r k) = ((dyR x tg g w wd r k : ℝ) : EReal) := by
  pointwise [val_main_v36, val_main_v35, val_main_v34, val_main_v33, val_main_v32, val_main_v31, val_main_v25, val_main_v24, val_main_cst_3, val_main_cst_8, val_main_cst_9, val_main_cst_10]
  rw [v22_at X T G W D x tg g w wd hX hG hW hD hT, half_val, k_val, two_val, div_coe _ (show (1024:ℝ) ≠ 0 by norm_num), ← EReal.coe_mul, ← EReal.coe_mul, dyR, dy]
  refine congrArg Real.toEReal ?_
  ring

include hX hG hW hD hT in
/-- The gradient in the down weights. -/
theorem v38_at (n : Fin 2816) (k : Fin 1024) : val_main_v38 (F := Ideal) X G W D T (ix2 n k) = ((∑ r : Fin 8192, act (x r) g w n.val * dyR x tg g w wd r k : ℝ) : EReal) := by
  pointwise [val_main_v38, val_main_v37]
  simp only [v36_at X T G W D x tg g w wd hX hG hW hD hT, v19_at X G W x g w hX hG hW, ← EReal.coe_mul, coe_sum]
  simp only [mul_comm]

include hX hG hW hD hT in
/-- The gradient in the activation. -/
theorem v39_at (r : Fin 8192) (n : Fin 2816) : val_main_v39 (F := Ideal) X G W D T (ix2 r n) = ((∑ k, dyR x tg g w wd r k * wd n.val k : ℝ) : EReal) := by
  pointwise [val_main_v39]
  simp only [v36_at X T G W D x tg g w wd hX hG hW hD hT, hD, ← EReal.coe_mul, coe_sum]

include hX hG hW hD hT in
/-- The gradient in the up value. -/
theorem v40_at (r : Fin 8192) (n : Fin 2816) : val_main_v40 (F := Ideal) X G W D T (ix2 r n) = ((dz (dyR x tg g w wd r) wd (facR x g w r) 1 n.val : ℝ) : EReal) := by
  pointwise [val_main_v40]
  rw [v39_at X T G W D x tg g w wd hX hG hW hD hT, v18_0_at X G W x g w hX hG hW, ← EReal.coe_mul, mul_comm]
  rfl

include hX hG hW hD hT in
/-- The gradient in the gate value. -/
theorem v42_at (r : Fin 8192) (n : Fin 2816) : val_main_v42 (F := Ideal) X G W D T (ix2 r n) = ((dz (dyR x tg g w wd r) wd (facR x g w r) 0 n.val : ℝ) : EReal) := by
  pointwise [val_main_v42, val_main_call1_v2, val_main_call1_v1, val_main_call1_v0, val_main_v41]
  rw [v39_at X T G W D x tg g w wd hX hG hW hD hT, v16_at X G W x g w hX hG hW, v17_at X G W x g w hX hG hW, v18_2_at X G W x g w hX hG hW, v18_1_at X G W x g w hX hG hW]
  simp only [← EReal.coe_mul, ← EReal.coe_add]
  refine congrArg Real.toEReal ?_
  simp only [dz, facR, fac, fac0, silu, if_true]
  ring

include hX hG hW hD hT in
/-- The gradients in the gate and up values, side by side. -/
theorem v43_at (r : Fin 8192) (j : Fin 5632) : val_main_v43 (F := Ideal) X G W D T (ix2 r j) = ((dz (dyR x tg g w wd r) wd (facR x g w r) (j.val / 2816) (j.val % 2816) : ℝ) : EReal) := by
  pointwise [val_main_v43]
  have hj := j.isLt
  split
  · next h => rw [v42_at X T G W D x tg g w wd hX hG hW hD hT, show j.val / 2816 = 0 by omega, show j.val % 2816 = j.val by omega]
  · next h => rw [v40_at X T G W D x tg g w wd hX hG hW hD hT, show j.val / 2816 = 1 by omega, show j.val % 2816 = j.val - 2816 by omega]

include hX hG hW hD hT in
/-- The gradient in the gate and up weights. -/
theorem v45_at (k : Fin 1024) (j : Fin 5632) : val_main_v45 (F := Ideal) X G W D T (ix2 k j) = ((∑ r : Fin 8192, xn (x r) g k * dz (dyR x tg g w wd r) wd (facR x g w r) (j.val / 2816) (j.val % 2816) : ℝ) : EReal) := by
  pointwise [val_main_v45, val_main_v44]
  simp only [v43_at X T G W D x tg g w wd hX hG hW hD hT, v14_at X G x g hX hG, ← EReal.coe_mul, coe_sum]
  simp only [mul_comm]

include hX hG hW hD hT in
/-- The gradient in the normalised row. -/
theorem v46_at (r : Fin 8192) (k : Fin 1024) : val_main_v46 (F := Ideal) X G W D T (ix2 r k) = ((dhn (dyR x tg g w wd r) wd (facR x g w r) w k : ℝ) : EReal) := by
  pointwise [val_main_v46]
  simp only [v43_at X T G W D x tg g w wd hX hG hW hD hT, hW, ← EReal.coe_mul, coe_sum]
  refine congrArg Real.toEReal ?_
  refine (Fin.sum_univ_add (a := 2816) (b := 2816) (fun j : Fin (2816 + 2816) =>
    dz (dyR x tg g w wd r) wd (facR x g w r) (j.val / 2816) (j.val % 2816) * w k j.val)).trans ?_
  rw [← Finset.sum_add_distrib, dhn]
  refine Finset.sum_congr rfl fun n _ => ?_
  have hn := n.isLt
  simp only [Fin.val_castAdd, Fin.val_natAdd]
  rw [show n.val / 2816 = 0 by omega, show n.val % 2816 = n.val by omega, show (2816 + n.val) / 2816 = 1 by omega,
    show (2816 + n.val) % 2816 = n.val by omega]

include hX hG hW hD hT in
/-- The gradient in the gain. -/
theorem v49_at (k : Fin 1024) : val_main_v49 (F := Ideal) X G W D T (ix2 0 k) = ((∑ r : Fin 8192, dhn (dyR x tg g w wd r) wd (facR x g w r) w k * xh (x r) k : ℝ) : EReal) := by
  pointwise [val_main_v49, val_main_v48, val_main_v47, val_main_cst_11]
  simp only [v46_at X T G W D x tg g w wd hX hG hW hD hT, v12_at X x hX, ← EReal.coe_mul, coe_sum]
  simp only [mul_comm]

include hX hG hW hD hT in
/-- The gradient in the scaled row. -/
theorem v51_at (r : Fin 8192) (k : Fin 1024) : val_main_v51 (F := Ideal) X G W D T (ix2 r k) = ((dhn (dyR x tg g w wd r) wd (facR x g w r) w k * g k : ℝ) : EReal) := by
  pointwise [val_main_v51, val_main_v50]
  rw [v46_at X T G W D x tg g w wd hX hG hW hD hT, hG, ← EReal.coe_mul]

include hX hG hW hD hT in
/-- The part of the gradient that goes through the mean square. -/
theorem v62_at (r : Fin 8192) (k : Fin 1024) : val_main_v62 (F := Ideal) X G W D T (ix2 r k) = (((∑ j, x r j * (dhn (dyR x tg g w wd r) wd (facR x g w r) w j * g j)) * (-(1/2) * (rr (x r) / ((∑ k, x r k * x r k) / 1024 + eps))) / 1024 : ℝ) : EReal) := by
  pointwise [val_main_v62, val_main_v61, val_main_v60, val_main_v59, val_main_v58, val_main_v54, val_main_v53, val_main_v52, val_main_cst_12, val_main_cst_13, val_main_cst_14]
  simp only [v10_at X x hX, v51_at X T G W D x tg g w wd hX hG hW hD hT, hX, k_val, ← EReal.coe_mul, coe_sum, div_coe _ (show (1024:ℝ) ≠ 0 by norm_num), Fin.sum_univ_one]

/-- The gradient of a normalisation: the reference's sum of two equal halves over the mean square is the kernel's product of
three reciprocal roots. -/
theorem dx_eq (x g v d : Fin 1024 → ℝ) (k : Fin 1024) :
    d k + v k * g k * rr x + x k * ((∑ j, x j * (v j * g j)) * (-(1/2) * (rr x / ((∑ k, x k * x k) / 1024 + eps))) / 1024)
      + (∑ j, x j * (v j * g j)) * (-(1/2) * (rr x / ((∑ k, x k * x k) / 1024 + eps))) / 1024 * x k = dx x g v d k := by
  have h : rr x * rr x = 1 / ((∑ k, x k * x k) / 1024 + eps) := by
    rw [rr, ← mul_inv, Real.mul_self_sqrt (ms_pos x).le, one_div]
  have hs : ∑ j, v j * g j * xh x j = (∑ j, x j * (v j * g j)) * rr x := by
    rw [Finset.sum_mul]; exact Finset.sum_congr rfl fun j _ => by rw [xh]; ring
  rw [dx, hs, xh, div_eq_mul_one_div (rr x), ← h]
  ring

include hX hG hW hD hT in
/-- The gradient in the layer's input. -/
theorem v66_at (r : Fin 8192) (k : Fin 1024) : val_main_v66 (F := Ideal) X G W D T (ix2 r k) = ((dx (x r) g (dhn (dyR x tg g w wd r) wd (facR x g w r) w) (dyR x tg g w wd r) k : ℝ) : EReal) := by
  pointwise [val_main_v66, val_main_v65, val_main_v64, val_main_v63, val_main_v57, val_main_v56, val_main_v55]
  rw [v36_at X T G W D x tg g w wd hX hG hW hD hT, v51_at X T G W D x tg g w wd hX hG hW hD hT, v7_at X x hX, v62_at X T G W D x tg g w wd hX hG hW hD hT, hX]
  simp only [← EReal.coe_mul, ← EReal.coe_add]
  rw [dx_eq]

end Cert.ReferenceIdeal.Value
-- ==== Proof.lean ====
/-
  The claims of the statement put together: the frames of the programs, the kernel's idealization, and the equality of the
  kernel's five results with the reference's over the extended reals, for finite arguments; the input projection's four results
  likewise, for any arguments; the cross-attention's nine results likewise, for finite gains of queries and keys; and the output
  projection's four gradients likewise, for any arguments.
-/
module

public import proofs.«01_k».proof.Proof.Gen.QkvBwd
public import proofs.«01_k».proof.Proof.Gen.QkvBwdIdeal
public import proofs.«01_k».proof.Proof.Gen.QkvBwdRefIdeal
public import proofs.«01_k».proof.Proof.Gen.QkvBwd.Frame
public import proofs.«01_k».proof.Proof.Gen.QkvBwdIdeal.Frame
public import proofs.«01_k».proof.Proof.Gen.QkvBwdRefIdeal.Read
public import proofs.«01_k».proof.Proof.QkvEnd
public import proofs.«01_k».proof.Proof.Gen.OutProj
public import proofs.«01_k».proof.Proof.Gen.OutProjIdeal
public import proofs.«01_k».proof.Proof.Gen.OutProjRefIdeal
public import proofs.«01_k».proof.Proof.OutRun
public import proofs.«01_k».proof.Proof.OutVal
public import proofs.«01_k».proof.Proof.OutRef
public import proofs.«01_k».proof.Proof.Gen.OutProj.Frame
public import proofs.«01_k».proof.Proof.Gen.OutProjIdeal.Frame
public import proofs.«01_k».proof.Proof.Gen.OutProjRefIdeal.Read
public import proofs.«01_k».proof.Proof.Gen.Cross
public import proofs.«01_k».proof.Proof.Gen.CrossIdeal
public import proofs.«01_k».proof.Proof.Gen.CrossRefIdeal
public import proofs.«01_k».proof.Proof.CrossRun
public import proofs.«01_k».proof.Proof.CrossVal
public import proofs.«01_k».proof.Proof.CrossRefB
public import proofs.«01_k».proof.Proof.PreGains
public import proofs.«01_k».proof.Proof.Gen.CrossIdeal.Frame
public import proofs.«01_k».proof.Proof.Gen.Cross.Frame
public import proofs.«01_k».proof.Proof.Gen.CrossRefIdeal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.AttnSame
public import proofs.«01_k».proof.Proof.Gen.InProj.Frame
public import proofs.«01_k».proof.Proof.MixRun
public import proofs.«01_k».proof.Proof.MixVal
public import proofs.«01_k».proof.Proof.MixRef
public import proofs.«01_k».proof.Proof.Gen.InProj
public import proofs.«01_k».proof.Proof.Gen.InProjIdeal
public import proofs.«01_k».proof.Proof.Gen.InProjRefIdeal
public import proofs.«01_k».proof.Proof.Gen.Attn
public import proofs.«01_k».proof.Proof.Gen.AttnIdeal
public import proofs.«01_k».proof.Proof.Gen.Kernel.Frame
public import proofs.«01_k».proof.Proof.KVal
public import proofs.«01_k».proof.Proof.Ref
public import proofs.«01_k».proof.Proof.Pre
public import Idealize.ShloMosaic.Lib.Quiescent

@[expose] public section

set_option maxRecDepth 16384
noncomputable section
open Idealize.ShloMosaic Idealize.ShloMosaic.TcCoe Idealize.SL.Sem
namespace Cert.Proof

instance : Cert.Kernel.Facts := Cert.Kernel.Gen.facts
instance : Cert.KernelIdeal.Facts := Cert.KernelIdeal.Gen.facts
instance : Cert.ReferenceIdeal.Facts := Cert.ReferenceIdeal.Gen.facts
instance : Cert.Attn.Facts := Cert.Attn.Gen.facts
instance : Cert.AttnIdeal.Facts := Cert.AttnIdeal.Gen.facts
instance : Cert.InProj.Facts := Cert.InProj.Gen.facts
instance : Cert.InProjIdeal.Facts := Cert.InProjIdeal.Gen.facts
instance : Cert.InProjRefIdeal.Facts := Cert.InProjRefIdeal.Gen.facts
instance : Cert.Cross.Facts := Cert.Cross.Gen.facts
instance : Cert.CrossIdeal.Facts := Cert.CrossIdeal.Gen.facts
instance : Cert.CrossRefIdeal.Facts := Cert.CrossRefIdeal.Gen.facts
instance : Cert.OutProj.Facts := Cert.OutProj.Gen.facts
instance : Cert.OutProjIdeal.Facts := Cert.OutProjIdeal.Gen.facts
instance : Cert.OutProjRefIdeal.Facts := Cert.OutProjRefIdeal.Gen.facts
instance : Cert.QkvBwd.Facts := Cert.QkvBwd.Gen.facts
instance : Cert.QkvBwdIdeal.Facts := Cert.QkvBwdIdeal.Gen.facts
instance : Cert.QkvBwdRefIdeal.Facts := Cert.QkvBwdRefIdeal.Gen.facts
instance : Cert.Pre_finite_gains.Facts := Cert.Pre_finite_gains.facts
instance : Cert.Pre_finite_inputs.Facts := Cert.Pre_finite_inputs.facts

/-- The kernel over machine floats runs to its end, nothing faulting, its arguments unchanged and its counters at zero. -/
theorem frame_kernel : Cert.quiescent_Kernel := fun m ρ _ => Cert.Kernel.Gen.frame m ρ

/-- The idealized kernel's frame. -/
theorem frame_ideal : Cert.quiescent_KernelIdeal := fun m ρ _ => Cert.KernelIdeal.Value.run_frame (F := Ideal) m ρ

/-- The reference's frame: no operation writes an argument, and it declares no counter. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The attention's gradient call over machine floats runs to its end, its arguments unchanged and its counters at zero. -/
theorem frame_attn : Cert.quiescent_Attn := fun m ρ _ => Cert.AttnIdeal.Same.frame (F := Bits) m ρ

/-- The same call idealized: its frame. -/
theorem frame_attn_ideal : Cert.quiescent_AttnIdeal := fun m ρ _ => Cert.AttnIdeal.Body.frame (F := Ideal) m ρ

/-- The input projection's three calls over machine floats run to their end, the arguments unchanged and the counters at zero. -/
theorem frame_inproj : Cert.quiescent_InProj := fun m ρ _ => Cert.InProj.Gen.frame m ρ

/-- The same calls idealized: their frame. -/
theorem frame_inproj_ideal : Cert.quiescent_InProjIdeal := fun m ρ _ => Cert.InProjIdeal.Value.run_frame (F := Ideal) m ρ

/-- The projection's reference: its frame. -/
theorem frame_inproj_ref : Cert.quiescent_InProjRefIdeal := fun m ρ _ =>
  (θ_run Cert.InProjRefIdeal.defs _ _).mono (fun r h => ⟨fun c => (h c).2.2.2.2, sem_eq_zero_of_no_sems (by decide) r.2⟩)
    (Cert.InProjRefIdeal.Value.run (F := Ideal) m ρ)

/-- The cross-attention's eight calls over machine floats run to their end, the arguments unchanged and the counters at zero. -/
theorem frame_cross : Cert.quiescent_Cross := fun m ρ _ => Cert.Cross.Gen.frame m ρ

/-- The same calls idealized: their frame. -/
theorem frame_cross_ideal : Cert.quiescent_CrossIdeal := fun m ρ _ => Cert.CrossIdeal.Value.run_frame (F := Ideal) m ρ

/-- The cross-attention's reference: its frame. -/
theorem frame_cross_ref : Cert.quiescent_CrossRefIdeal := fun m ρ _ =>
  (θ_run Cert.CrossRefIdeal.defs _ _).mono (fun r h => ⟨fun c => (h c).2.2.2.2.2.2.2.2.2, sem_eq_zero_of_no_sems (by decide) r.2⟩)
    (Cert.CrossRefIdeal.Value.run (F := Ideal) m ρ)

/-- The output projection's two backward calls over machine floats run to their end, the arguments unchanged and the counters at zero. -/
theorem frame_outproj : Cert.quiescent_OutProj := fun m ρ _ => Cert.OutProj.Gen.frame m ρ

/-- The same calls idealized: their frame. -/
theorem frame_outproj_ideal : Cert.quiescent_OutProjIdeal := fun m ρ _ => Cert.OutProjIdeal.Value.run_frame (F := Ideal) m ρ

/-- The output projection's reference: its frame. -/
theorem frame_outproj_ref : Cert.quiescent_OutProjRefIdeal := fun m ρ _ =>
  (θ_run Cert.OutProjRefIdeal.defs _ _).mono (fun r h => ⟨fun c => (h c).2.2.2.2, sem_eq_zero_of_no_sems (by decide) r.2⟩)
    (Cert.OutProjRefIdeal.Value.run (F := Ideal) m ρ)

/-- The call entering the mixer's input projection over machine floats runs to its end, the arguments unchanged and the counters at zero. -/
theorem frame_qkv : Cert.quiescent_QkvBwd := fun m ρ _ => Cert.QkvBwd.Gen.frame m ρ

/-- The same call idealized: its frame. -/
theorem frame_qkv_ideal : Cert.quiescent_QkvBwdIdeal := fun m ρ _ => Cert.QkvBwdIdeal.Gen.frame m ρ

/-- The reference of that call: its frame. -/
theorem frame_qkv_ref : Cert.quiescent_QkvBwdRefIdeal := fun m ρ _ =>
  (θ_run Cert.QkvBwdRefIdeal.defs _ _).mono (fun r h => ⟨fun c => (h c).2.2.2, sem_eq_zero_of_no_sems (by decide) r.2⟩)
    (Cert.QkvBwdRefIdeal.Value.run (F := Ideal) m ρ)

section
variable (x0 x4 : FVec Ideal Cert.KernelIdeal.S8192x1024 .f32) (x1 : FVec Ideal Cert.KernelIdeal.S1x1024 .f32)
    (x2 : FVec Ideal Cert.KernelIdeal.S1024x5632 .f32) (x3 : FVec Ideal Cert.KernelIdeal.S2816x1024 .f32)

/-- The rows of an array of tokens as real numbers. -/
def rowsOf (v : FVec Ideal Cert.KernelIdeal.S8192x1024 .f32) (r : Fin 8192) (k : Fin 1024) : ℝ := (v (ix2 r k)).toReal
/-- The gain as real numbers. -/
def gainOf (k : Fin 1024) : ℝ := (x1 (ix2 0 k)).toReal
/-- The gate and up weights as real numbers. -/
def guOf (k : Fin 1024) (n : ℕ) : ℝ := if h : n < 5632 then (x2 (ix2 k ⟨n, h⟩)).toReal else 0
/-- The down weights as real numbers. -/
def downOf (n : ℕ) (k : Fin 1024) : ℝ := if h : n < 2816 then (x3 (ix2 ⟨n, h⟩ k)).toReal else 0
end

/-- The five results of the kernel are the five results of the reference, over the extended reals and for finite arguments. -/
theorem results (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (h : Cert.Pre_KernelIdeal_finite_inputs m) (c : Dev Cert.KernelIdeal.nD)
    (x0 x4 : FVec Ideal Cert.KernelIdeal.S8192x1024 .f32) (x1 : FVec Ideal Cert.KernelIdeal.S1x1024 .f32)
    (x2 : FVec Ideal Cert.KernelIdeal.S1024x5632 .f32) (x3 : FVec Ideal Cert.KernelIdeal.S2816x1024 .f32)
    (e0 : m (c.tc.loc Cert.KernelIdeal.main_arg0) = x0) (e1 : m (c.tc.loc Cert.KernelIdeal.main_arg1) = x1)
    (e2 : m (c.tc.loc Cert.KernelIdeal.main_arg2) = x2) (e3 : m (c.tc.loc Cert.KernelIdeal.main_arg3) = x3)
    (e4 : m (c.tc.loc Cert.KernelIdeal.main_arg4) = x4) :
    (Cert.ReferenceIdeal.Read.val_main_v30 (F := Ideal) x0 x1 x2 x3 x4 = Cert.KernelIdeal.Gen.W7 m ρ c (Proc.devRef .tc Cert.KernelIdeal.main_v8))
    ∧ (Cert.ReferenceIdeal.Read.val_main_v66 (F := Ideal) x0 x1 x2 x3 x4 = Cert.KernelIdeal.Gen.W7 m ρ c (Proc.devRef .tc Cert.KernelIdeal.main_v10_1))
    ∧ (Cert.ReferenceIdeal.Read.val_main_v49 (F := Ideal) x0 x1 x2 x3 x4 = Cert.KernelIdeal.Gen.W7 m ρ c (Proc.devRef .tc Cert.KernelIdeal.main_v10_2))
    ∧ (Cert.ReferenceIdeal.Read.val_main_v45 (F := Ideal) x0 x1 x2 x3 x4 = Cert.KernelIdeal.Gen.W7 m ρ c (Proc.devRef .tc Cert.KernelIdeal.main_v13))
    ∧ (Cert.ReferenceIdeal.Read.val_main_v38 (F := Ideal) x0 x1 x2 x3 x4 = Cert.KernelIdeal.Gen.W7 m ρ c (Proc.devRef .tc Cert.KernelIdeal.main_v14)) := by
  have hc := h c
  rw [e0, e1, e2, e3, e4] at hc
  obtain ⟨h0, h1, h2, h3, h4⟩ := Cert.Pre_finite_inputs.real_of_pre x0 x1 x2 x3 x4 hc
  have hX : ∀ y k, x0 (ix2 y k) = ((rowsOf x0 y k : ℝ) : EReal) := fun y k => h0 _
  have hT : ∀ y k, x4 (ix2 y k) = ((rowsOf x4 y k : ℝ) : EReal) := fun y k => h4 _
  have hG : ∀ k, x1 (ix2 0 k) = ((gainOf x1 k : ℝ) : EReal) := fun k => h1 _
  have hW : ∀ (k : Fin 1024) (n : Fin 5632), x2 (ix2 k n) = ((guOf x2 k n.val : ℝ) : EReal) := fun k n => by
    rw [guOf, dif_pos n.isLt]; exact h2 _
  have hD : ∀ (n : Fin 2816) (k : Fin 1024), x3 (ix2 n k) = ((downOf x3 n.val k : ℝ) : EReal) := fun n k => by
    rw [downOf, dif_pos n.isLt]; exact h3 _
  refine ⟨?_, ?_, ?_, ?_, ?_⟩
  · rw [Cert.KernelIdeal.Value.loss_at m ρ c (rowsOf x0) (rowsOf x4) (gainOf x1) (guOf x2) (downOf x3) x0 x4 x1 x2 x3 e0 e1 e2 e3 e4 hX hG hW hD hT]
    funext i
    exact Cert.ReferenceIdeal.Value.v30_at x0 x4 x1 x2 x3 (rowsOf x0) (rowsOf x4) (gainOf x1) (guOf x2) (downOf x3) hX hG hW hD hT i
  · rw [Cert.KernelIdeal.Value.dh_at m ρ c (rowsOf x0) (rowsOf x4) (gainOf x1) (guOf x2) (downOf x3) x0 x4 x1 x2 x3 e0 e1 e2 e3 e4 hX hG hW hD hT]
    funext i
    idx_vars i
    exact Cert.ReferenceIdeal.Value.v66_at x0 x4 x1 x2 x3 (rowsOf x0) (rowsOf x4) (gainOf x1) (guOf x2) (downOf x3) hX hG hW hD hT _ _
  · rw [Cert.KernelIdeal.Value.dg_at m ρ c (rowsOf x0) (rowsOf x4) (gainOf x1) (guOf x2) (downOf x3) x0 x4 x1 x2 x3 e0 e1 e2 e3 e4 hX hG hW hD hT]
    funext i
    idx_vars i
    have hi : i0 = 0 := Subsingleton.elim _ _
    subst hi
    exact Cert.ReferenceIdeal.Value.v49_at x0 x4 x1 x2 x3 (rowsOf x0) (rowsOf x4) (gainOf x1) (guOf x2) (downOf x3) hX hG hW hD hT _
  · rw [Cert.KernelIdeal.Value.dwgu_at m ρ c (rowsOf x0) (rowsOf x4) (gainOf x1) (guOf x2) (downOf x3) x0 x4 x1 x2 x3 e0 e1 e2 e3 e4 hX hG hW hD hT]
    funext i
    idx_vars i
    exact Cert.ReferenceIdeal.Value.v45_at x0 x4 x1 x2 x3 (rowsOf x0) (rowsOf x4) (gainOf x1) (guOf x2) (downOf x3) hX hG hW hD hT _ _
  · rw [Cert.KernelIdeal.Value.dwd_at m ρ c (rowsOf x0) (rowsOf x4) (gainOf x1) (guOf x2) (downOf x3) x0 x4 x1 x2 x3 e0 e1 e2 e3 e4 hX hG hW hD hT]
    funext i
    idx_vars i
    exact Cert.ReferenceIdeal.Value.v38_at x0 x4 x1 x2 x3 (rowsOf x0) (rowsOf x4) (gainOf x1) (guOf x2) (downOf x3) hX hG hW hD hT _ _

/-- The kernel's five results equal the reference's over the extended reals. -/
theorem values : Cert.algebraic_KernelIdeal_ReferenceIdeal_pre_finite_inputs := by
  intro m g m' g' hpre hm
  refine ⟨fun c => Cert.KernelIdeal.Gen.W7 m g c (Proc.devRef .tc Cert.KernelIdeal.main_v8),
    fun c => Cert.KernelIdeal.Gen.W7 m g c (Proc.devRef .tc Cert.KernelIdeal.main_v10_1),
    fun c => Cert.KernelIdeal.Gen.W7 m g c (Proc.devRef .tc Cert.KernelIdeal.main_v10_2),
    fun c => Cert.KernelIdeal.Gen.W7 m g c (Proc.devRef .tc Cert.KernelIdeal.main_v13),
    fun c => Cert.KernelIdeal.Gen.W7 m g c (Proc.devRef .tc Cert.KernelIdeal.main_v14), ?_, ?_⟩
  · exact (θ_run Cert.KernelIdeal.defs _ _).mono (fun _ h c => ⟨(h.1 c).1.1, (h.1 c).1.2.1, (h.1 c).1.2.2.1, (h.1 c).1.2.2.2.1,
      (h.1 c).1.2.2.2.2, (h.1 c).2⟩) (Cert.KernelIdeal.Value.run_main (F := Ideal) m g)
  · refine (θ_run Cert.ReferenceIdeal.defs _ _).mono (fun r h c => ?_) (Cert.ReferenceIdeal.Value.run (F := Ideal) m' g')
    obtain ⟨r0, r1, r2, r3, r4⟩ := results m g m' hpre c _ _ _ _ _ (hm c).1.symm (hm c).2.1.symm (hm c).2.2.1.symm (hm c).2.2.2.1.symm
      (hm c).2.2.2.2.symm
    exact ⟨(h c).1.trans ((Cert.ReferenceIdeal.Read.val_main_v30_eq m' c).trans r0),
      (h c).2.1.trans ((Cert.ReferenceIdeal.Read.val_main_v66_eq m' c).trans r1),
      (h c).2.2.1.trans ((Cert.ReferenceIdeal.Read.val_main_v49_eq m' c).trans r2),
      (h c).2.2.2.1.trans ((Cert.ReferenceIdeal.Read.val_main_v45_eq m' c).trans r3),
      (h c).2.2.2.2.1.trans ((Cert.ReferenceIdeal.Read.val_main_v38_eq m' c).trans r4), (h c).2.2.2.2.2⟩

/-- The weights' columns by number. -/
def colW (v : FVec Ideal Cert.InProjIdeal.S1024x3072 .f32) (k : Fin 1024) (n : ℕ) : EReal := if h : n < 3072 then v (ix2 k ⟨n, h⟩) else 0
/-- The arriving gradient's columns by number. -/
def colP (v : FVec Ideal Cert.InProjIdeal.S8192x3072 .bf16) (r : Fin 8192) (n : ℕ) : EReal := if h : n < 3072 then v (ix2 r ⟨n, h⟩) else 0

/-- The input projection's four results are the reference's over the extended reals, for any arguments. -/
theorem projResults (m : (ℓ : Loc Cert.InProjIdeal.nD Cert.InProjIdeal.τ Cert.InProjIdeal.sig) → Buf (Elt Ideal) ℓ)
    (ρ : Dev Cert.InProjIdeal.nD → PrngReg) (c : Dev Cert.InProjIdeal.nD)
    (X E : FVec Ideal Cert.InProjIdeal.S8192x1024 .f32) (G : FVec Ideal Cert.InProjIdeal.S1x1024 .f32)
    (W : FVec Ideal Cert.InProjIdeal.S1024x3072 .f32) (P : FVec Ideal Cert.InProjIdeal.S8192x3072 .bf16)
    (eX : m (c.tc.loc Cert.InProjIdeal.main_arg0) = X) (eG : m (c.tc.loc Cert.InProjIdeal.main_arg1) = G)
    (eW : m (c.tc.loc Cert.InProjIdeal.main_arg2) = W) (eP : m (c.tc.loc Cert.InProjIdeal.main_arg7) = P)
    (eE : m (c.tc.loc Cert.InProjIdeal.main_arg8) = E) :
    (Cert.InProjRefIdeal.Read.val_main_v15 (F := Ideal) X G W = Cert.InProjIdeal.Gen.W5 m ρ c (Proc.devRef .tc Cert.InProjIdeal.main_v3_0))
    ∧ (Cert.InProjRefIdeal.Read.val_main_v39 (F := Ideal) X G W P E = Cert.InProjIdeal.Gen.W5 m ρ c (Proc.devRef .tc Cert.InProjIdeal.main_v4_0))
    ∧ (Cert.InProjRefIdeal.Read.val_main_v22 (F := Ideal) X W P = Cert.InProjIdeal.Gen.W5 m ρ c (Proc.devRef .tc Cert.InProjIdeal.main_v4_1))
    ∧ (Cert.InProjRefIdeal.Read.val_main_v18 (F := Ideal) X G P = Cert.InProjIdeal.Gen.W5 m ρ c (Proc.devRef .tc Cert.InProjIdeal.main_v7)) := by
  have hW : ∀ (k : Fin 1024) (n : Fin 3072), W (ix2 k n) = colW W k n.val := fun k n => by rw [colW, dif_pos n.isLt]
  have hP : ∀ (r : Fin 8192) (n : Fin 3072), P (ix2 r n) = colP P r n.val := fun r n => by rw [colP, dif_pos n.isLt]
  refine ⟨?_, ?_, ?_, ?_⟩
  · rw [Cert.InProjIdeal.Value.proj_at m ρ c (fun r k => X (ix2 r k)) (fun k => G (ix2 0 k)) (colW W) X G W eX eG eW (fun _ _ => rfl) (fun _ => rfl) hW]
    funext i
    idx_vars i
    exact Cert.InProjRefIdeal.Value.v15_at X G W _ _ _ (fun _ _ => rfl) (fun _ => rfl) hW _ _
  · rw [Cert.InProjIdeal.Value.dx_at m ρ c (fun r k => X (ix2 r k)) (fun r k => E (ix2 r k)) (fun k => G (ix2 0 k)) (colW W) (colP P) X E G W P
      eX eG eW eP eE (fun _ _ => rfl) (fun _ => rfl) hW hP (fun _ _ => rfl)]
    funext i
    idx_vars i
    exact Cert.InProjRefIdeal.Value.v39_at X E G W P _ _ _ _ _ (fun _ _ => rfl) (fun _ => rfl) hW hP (fun _ _ => rfl) _ _
  · rw [Cert.InProjIdeal.Value.dg_at m ρ c (fun r k => X (ix2 r k)) (colW W) (colP P) X W P eX eW eP (fun _ _ => rfl) hW hP]
    funext i
    idx_vars i
    have hi : i0 = 0 := Subsingleton.elim _ _
    subst hi
    exact Cert.InProjRefIdeal.Value.v22_at X W P _ _ _ (fun _ _ => rfl) hW hP _
  · rw [Cert.InProjIdeal.Value.dw_at m ρ c (fun r k => X (ix2 r k)) (fun k => G (ix2 0 k)) (colP P) X G P eX eG eP (fun _ _ => rfl) (fun _ => rfl) hP]
    funext i
    idx_vars i
    exact Cert.InProjRefIdeal.Value.v18_at X G P _ _ _ (fun _ _ => rfl) (fun _ => rfl) hP _ _

/-- The input projection's four results equal the reference's over the extended reals. -/
theorem projValues : Cert.algebraic_InProjIdeal_InProjRefIdeal := by
  intro m g m' g' _ hm
  refine ⟨fun c => Cert.InProjIdeal.Gen.W5 m g c (Proc.devRef .tc Cert.InProjIdeal.main_v3_0),
    fun c => Cert.InProjIdeal.Gen.W5 m g c (Proc.devRef .tc Cert.InProjIdeal.main_v4_0),
    fun c => Cert.InProjIdeal.Gen.W5 m g c (Proc.devRef .tc Cert.InProjIdeal.main_v4_1),
    fun c => Cert.InProjIdeal.Gen.W5 m g c (Proc.devRef .tc Cert.InProjIdeal.main_v7), ?_, ?_⟩
  · exact (θ_run Cert.InProjIdeal.defs _ _).mono (fun _ h c => ⟨(h.1 c).1.1, (h.1 c).1.2.1, (h.1 c).1.2.2.1, (h.1 c).1.2.2.2, (h.1 c).2⟩)
      (Cert.InProjIdeal.Value.run_main (F := Ideal) m g)
  · refine (θ_run Cert.InProjRefIdeal.defs _ _).mono (fun r h c => ?_) (Cert.InProjRefIdeal.Value.run (F := Ideal) m' g')
    obtain ⟨a0, a1, a2, -, -, -, -, a7, a8⟩ := hm c
    obtain ⟨r0, r1, r2, r3⟩ := projResults m g c _ _ _ _ _ a0.symm a1.symm a2.symm a7.symm a8.symm
    exact ⟨(h c).1.trans ((Cert.InProjRefIdeal.Read.val_main_v15_eq _ _ _).trans r0),
      (h c).2.1.trans ((Cert.InProjRefIdeal.Read.val_main_v39_eq m' c).trans r1),
      (h c).2.2.1.trans ((Cert.InProjRefIdeal.Read.val_main_v22_eq _ _ _).trans r2),
      (h c).2.2.2.1.trans ((Cert.InProjRefIdeal.Read.val_main_v18_eq _ _ _).trans r3), (h c).2.2.2.2⟩

/-- What goes into the cross-attention, read from the arrays. -/
def inOf (X : FVec Ideal Cert.CrossIdeal.S8192x1024 .f32) (M : FVec Ideal Cert.CrossIdeal.S256x1024 .f32) (GX GM : FVec Ideal Cert.CrossIdeal.S1x1024 .f32)
    (WQ : FVec Ideal Cert.CrossIdeal.S1024x512 .f32) (WK : FVec Ideal Cert.CrossIdeal.S1024x1024 .f32) (G L : FVec Ideal Cert.CrossIdeal.S1x128 .f32)
    (WO : FVec Ideal Cert.CrossIdeal.S512x1024 .f32) (E : FVec Ideal Cert.CrossIdeal.S8192x1024 .f32) : Cert.Cross.Inp where
  x r k := X (ix2 r k)
  mem m k := M (ix2 m k)
  gx k := GX (ix2 0 k)
  gm k := GM (ix2 0 k)
  wq k n := if h : n < 512 then WQ (ix2 k ⟨n, h⟩) else 0
  wkv k n := if h : n < 1024 then WK (ix2 k ⟨n, h⟩) else 0
  g d := G (ix2 0 d)
  l d := L (ix2 0 d)
  wo n k := if h : n < 512 ∧ k < 1024 then WO (ix2 ⟨n, h.1⟩ ⟨k, h.2⟩) else 0
  e r k := if h : k < 1024 then E (ix2 r ⟨k, h⟩) else 0

/-- The arrays hold what is read from them, and the precondition says that the gains of queries and keys are finite. -/
theorem inOf_of (X : FVec Ideal Cert.CrossIdeal.S8192x1024 .f32) (M : FVec Ideal Cert.CrossIdeal.S256x1024 .f32) (GX GM : FVec Ideal Cert.CrossIdeal.S1x1024 .f32)
    (WQ : FVec Ideal Cert.CrossIdeal.S1024x512 .f32) (WK : FVec Ideal Cert.CrossIdeal.S1024x1024 .f32) (G L : FVec Ideal Cert.CrossIdeal.S1x128 .f32)
    (WO : FVec Ideal Cert.CrossIdeal.S512x1024 .f32) (E : FVec Ideal Cert.CrossIdeal.S8192x1024 .f32)
    (hp : Cert.Pre_finite_gains.fn (F := Ideal) X M GX GM WQ WK G L WO E = fun _ => 1#1) :
    Cert.CrossRefIdeal.Value.Of (inOf X M GX GM WQ WK G L WO E) X M GX GM WQ WK G L WO E where
  hX _ _ := rfl
  hM _ _ := rfl
  hGX _ := rfl
  hGM _ := rfl
  hWQ k n := by
    show _ = dite _ _ _
    rw [dif_pos n.isLt]
  hWK k n := by
    show _ = dite _ _ _
    rw [dif_pos n.isLt]
  hG _ := rfl
  hL _ := rfl
  hWO n k := by
    show _ = dite _ _ _
    rw [dif_pos ⟨n.isLt, k.isLt⟩]
  hE r k := by
    show _ = dite _ _ _
    rw [dif_pos k.isLt]
  hg d := (Cert.Pre_finite_gains.real_of_pre X M GX GM WQ WK G L WO E hp).1 _
  hl d := (Cert.Pre_finite_gains.real_of_pre X M GX GM WQ WK G L WO E hp).2 _

/-- The cross-attention's nine results are the reference's over the extended reals, the gains of queries and keys being finite. -/
theorem crossResults (m : (ℓ : Loc Cert.CrossIdeal.nD Cert.CrossIdeal.τ Cert.CrossIdeal.sig) → Buf (Elt Ideal) ℓ)
    (ρ : Dev Cert.CrossIdeal.nD → PrngReg) (c : Dev Cert.CrossIdeal.nD)
    (X : FVec Ideal Cert.CrossIdeal.S8192x1024 .f32) (M : FVec Ideal Cert.CrossIdeal.S256x1024 .f32) (GX GM : FVec Ideal Cert.CrossIdeal.S1x1024 .f32)
    (WQ : FVec Ideal Cert.CrossIdeal.S1024x512 .f32) (WK : FVec Ideal Cert.CrossIdeal.S1024x1024 .f32) (G L : FVec Ideal Cert.CrossIdeal.S1x128 .f32)
    (WO : FVec Ideal Cert.CrossIdeal.S512x1024 .f32) (E : FVec Ideal Cert.CrossIdeal.S8192x1024 .f32)
    (A : Cert.CrossIdeal.Value.Args m c X M GX GM WQ WK G L WO E)
    (hp : Cert.Pre_finite_gains.fn (F := Ideal) X M GX GM WQ WK G L WO E = fun _ => 1#1) :
    (Cert.CrossRefIdeal.Read.val_main_v107 (F := Ideal) X M GX GM WQ WK G L WO = Cert.CrossIdeal.Gen.W10 m ρ c (Proc.devRef .tc Cert.CrossIdeal.main_v8_3))
    ∧ (Cert.CrossRefIdeal.Read.val_main_v231 (F := Ideal) X M GX GM WQ WK G L WO E = Cert.CrossIdeal.Gen.W10 m ρ c (Proc.devRef .tc Cert.CrossIdeal.main_v10_4))
    ∧ (Cert.CrossRefIdeal.Read.val_main_v214 (F := Ideal) X M GX GM WQ WK G L WO E = Cert.CrossIdeal.Gen.W10 m ρ c (Proc.devRef .tc Cert.CrossIdeal.main_v10_5))
    ∧ (Cert.CrossRefIdeal.Read.val_main_v194 (F := Ideal) X M GX GM WQ WK G L WO E = Cert.CrossIdeal.Gen.W10 m ρ c (Proc.devRef .tc Cert.CrossIdeal.main_v13_1))
    ∧ (Cert.CrossRefIdeal.Read.val_main_v189 (F := Ideal) X M GX GM WQ WK G L WO E = Cert.CrossIdeal.Gen.W10 m ρ c (Proc.devRef .tc Cert.CrossIdeal.main_v15))
    ∧ (Cert.CrossRefIdeal.Read.val_main_v185 (F := Ideal) X M GX GM WQ WK G L WO E = Cert.CrossIdeal.Gen.W10 m ρ c (Proc.devRef .tc Cert.CrossIdeal.main_v16))
    ∧ (Cert.CrossRefIdeal.Read.val_main_v165 (F := Ideal) X M GX GM WQ WK G L WO E = Cert.CrossIdeal.Gen.W10 m ρ c (Proc.devRef .tc Cert.CrossIdeal.main_v10_3))
    ∧ (Cert.CrossRefIdeal.Read.val_main_v141 (F := Ideal) X M GX GM WQ WK G L WO E = Cert.CrossIdeal.Gen.W10 m ρ c (Proc.devRef .tc Cert.CrossIdeal.main_v11_1))
    ∧ (Cert.CrossRefIdeal.Read.val_main_v111 (F := Ideal) X M GX GM WQ WK G L E = Cert.CrossIdeal.Gen.W10 m ρ c (Proc.devRef .tc Cert.CrossIdeal.main_v18)) := by
  have H := inOf_of X M GX GM WQ WK G L WO E hp
  refine ⟨?_, ?_, ?_, ?_, ?_, ?_, ?_, ?_, ?_⟩
  · rw [Cert.CrossIdeal.Value.r0 m ρ c A H]
    funext i
    idx_vars i
    exact Cert.CrossRefIdeal.Value.v107_at H _ _
  · rw [Cert.CrossIdeal.Value.r1 m ρ c A H]
    funext i
    idx_vars i
    exact Cert.CrossRefIdeal.Value.v231_at H _ _
  · rw [Cert.CrossIdeal.Value.r2 m ρ c A H]
    funext i
    idx_vars i
    have hi : i0 = 0 := Subsingleton.elim _ _
    subst hi
    exact Cert.CrossRefIdeal.Value.v214_at H _
  · rw [Cert.CrossIdeal.Value.r3 m ρ c A H]
    funext i
    idx_vars i
    have hi : i0 = 0 := Subsingleton.elim _ _
    subst hi
    exact Cert.CrossRefIdeal.Value.v194_at H _
  · rw [Cert.CrossIdeal.Value.r4 m ρ c A H]
    funext i
    idx_vars i
    exact Cert.CrossRefIdeal.Value.v189_at H _ _
  · rw [Cert.CrossIdeal.Value.r5 m ρ c A H]
    funext i
    idx_vars i
    exact Cert.CrossRefIdeal.Value.v185_at H _ _
  · rw [Cert.CrossIdeal.Value.r6 m ρ c A H]
    funext i
    idx_vars i
    have hi : i0 = 0 := Subsingleton.elim _ _
    subst hi
    exact Cert.CrossRefIdeal.Value.v165_at H _
  · rw [Cert.CrossIdeal.Value.r7 m ρ c A H]
    funext i
    idx_vars i
    have hi : i0 = 0 := Subsingleton.elim _ _
    subst hi
    exact Cert.CrossRefIdeal.Value.v141_at H _
  · rw [Cert.CrossIdeal.Value.r8 m ρ c A H]
    funext i
    idx_vars i
    exact Cert.CrossRefIdeal.Value.v111_at H _ _

set_option maxHeartbeats 1000000 in
/-- The cross-attention's nine results equal the reference's over the extended reals. -/
theorem crossValues : Cert.algebraic_CrossIdeal_CrossRefIdeal_pre_finite_gains := by
  intro m g m' g' hpre hm
  refine ⟨fun c => Cert.CrossIdeal.Gen.W10 m g c (Proc.devRef .tc Cert.CrossIdeal.main_v8_3),
    fun c => Cert.CrossIdeal.Gen.W10 m g c (Proc.devRef .tc Cert.CrossIdeal.main_v10_4),
    fun c => Cert.CrossIdeal.Gen.W10 m g c (Proc.devRef .tc Cert.CrossIdeal.main_v10_5),
    fun c => Cert.CrossIdeal.Gen.W10 m g c (Proc.devRef .tc Cert.CrossIdeal.main_v13_1),
    fun c => Cert.CrossIdeal.Gen.W10 m g c (Proc.devRef .tc Cert.CrossIdeal.main_v15),
    fun c => Cert.CrossIdeal.Gen.W10 m g c (Proc.devRef .tc Cert.CrossIdeal.main_v16),
    fun c => Cert.CrossIdeal.Gen.W10 m g c (Proc.devRef .tc Cert.CrossIdeal.main_v10_3),
    fun c => Cert.CrossIdeal.Gen.W10 m g c (Proc.devRef .tc Cert.CrossIdeal.main_v11_1),
    fun c => Cert.CrossIdeal.Gen.W10 m g c (Proc.devRef .tc Cert.CrossIdeal.main_v18), ?_, ?_⟩
  · exact (θ_run Cert.CrossIdeal.defs _ _).mono (fun _ h c => ⟨(h.1 c).1.1, (h.1 c).1.2.1, (h.1 c).1.2.2.1, (h.1 c).1.2.2.2.1, (h.1 c).1.2.2.2.2.1, (h.1 c).1.2.2.2.2.2.1, (h.1 c).1.2.2.2.2.2.2.1, (h.1 c).1.2.2.2.2.2.2.2.1, (h.1 c).1.2.2.2.2.2.2.2.2, (h.1 c).2⟩)
      (Cert.CrossIdeal.Value.run_main (F := Ideal) m g)
  · refine (θ_run Cert.CrossRefIdeal.defs _ _).mono (fun r h c => ?_) (Cert.CrossRefIdeal.Value.run (F := Ideal) m' g')
    obtain ⟨a0, a1, a2, a3, a4, a5, a6, a7, a8, a9⟩ := hm c
    have hc := hpre c
    rw [← a0, ← a1, ← a2, ← a3, ← a4, ← a5, ← a6, ← a7, ← a8, ← a9] at hc
    obtain ⟨r0, r1, r2, r3, r4, r5, r6, r7, r8⟩ := crossResults m g c _ _ _ _ _ _ _ _ _ _
      ⟨a0.symm, a1.symm, a2.symm, a3.symm, a4.symm, a5.symm, a6.symm, a7.symm, a8.symm, a9.symm⟩ hc
    exact ⟨(h c).1.trans ((Cert.CrossRefIdeal.Read.val_main_v107_eq (StableHlo.launchContents m' c)).trans r0),
      (h c).2.1.trans ((Cert.CrossRefIdeal.Read.val_main_v231_eq (StableHlo.launchContents m' c)).trans r1),
      (h c).2.2.1.trans ((Cert.CrossRefIdeal.Read.val_main_v214_eq (StableHlo.launchContents m' c)).trans r2),
      (h c).2.2.2.1.trans ((Cert.CrossRefIdeal.Read.val_main_v194_eq (StableHlo.launchContents m' c)).trans r3),
      (h c).2.2.2.2.1.trans ((Cert.CrossRefIdeal.Read.val_main_v189_eq (StableHlo.launchContents m' c)).trans r4),
      (h c).2.2.2.2.2.1.trans ((Cert.CrossRefIdeal.Read.val_main_v185_eq (StableHlo.launchContents m' c)).trans r5),
      (h c).2.2.2.2.2.2.1.trans ((Cert.CrossRefIdeal.Read.val_main_v165_eq (StableHlo.launchContents m' c)).trans r6),
      (h c).2.2.2.2.2.2.2.1.trans ((Cert.CrossRefIdeal.Read.val_main_v141_eq (StableHlo.launchContents m' c)).trans r7),
      (h c).2.2.2.2.2.2.2.2.1.trans ((Cert.CrossRefIdeal.Read.val_main_v111_eq (StableHlo.launchContents m' c)).trans r8),
      (h c).2.2.2.2.2.2.2.2.2⟩

/-- The projection's weight rows by number. -/
def rowW (v : FVec Ideal Cert.OutProjIdeal.S1024x1024 .f32) (n : ℕ) (k : Fin 1024) : EReal := if h : n < 1024 then v (ix2 ⟨n, h⟩ k) else 0
/-- The pooled differences' columns by number. -/
def colD (v : FVec Ideal Cert.OutProjIdeal.S8192x512 .bf16) (r : Fin 8192) (n : ℕ) : EReal := if h : n < 512 then v (ix2 r ⟨n, h⟩) else 0
/-- The groups' weights by number. -/
def grpP (v : FVec Ideal Cert.OutProjIdeal.S4x128x128 .f32) (j : ℕ) (k q : Fin 128) : EReal := if h : j < 4 then v (ix3 ⟨j, h⟩ k q) else 0
/-- The scale's entries by number. -/
def colS (v : FVec Ideal Cert.OutProjIdeal.S1x512 .f32) (n : ℕ) : EReal := if h : n < 512 then v (ix2 0 ⟨n, h⟩) else 0

/-- The output projection's four gradients are the reference's over the extended reals, for any arguments. -/
theorem outResults (m : (ℓ : Loc Cert.OutProjIdeal.nD Cert.OutProjIdeal.τ Cert.OutProjIdeal.sig) → Buf (Elt Ideal) ℓ)
    (ρ : Dev Cert.OutProjIdeal.nD → PrngReg) (c : Dev Cert.OutProjIdeal.nD)
    (A D : FVec Ideal Cert.OutProjIdeal.S8192x512 .bf16) (P : FVec Ideal Cert.OutProjIdeal.S4x128x128 .f32)
    (S : FVec Ideal Cert.OutProjIdeal.S1x512 .f32) (W : FVec Ideal Cert.OutProjIdeal.S1024x1024 .f32) (E : FVec Ideal Cert.OutProjIdeal.S8192x1024 .f32)
    (eA : m (c.tc.loc Cert.OutProjIdeal.main_arg0) = A) (eD : m (c.tc.loc Cert.OutProjIdeal.main_arg2) = D)
    (eP : m (c.tc.loc Cert.OutProjIdeal.main_arg3) = P) (eS : m (c.tc.loc Cert.OutProjIdeal.main_arg4) = S)
    (eW : m (c.tc.loc Cert.OutProjIdeal.main_arg5) = W) (eE : m (c.tc.loc Cert.OutProjIdeal.main_arg6) = E) :
    (Cert.OutProjRefIdeal.Read.val_main_v13 (F := Ideal) W E = Cert.OutProjIdeal.Gen.W5 m ρ c (Proc.devRef .tc Cert.OutProjIdeal.main_v13_0))
    ∧ (Cert.OutProjRefIdeal.Read.val_main_v25 (F := Ideal) D S W E = Cert.OutProjIdeal.Gen.W5 m ρ c (Proc.devRef .tc Cert.OutProjIdeal.main_v13_3))
    ∧ (Cert.OutProjRefIdeal.Read.val_main_v17 (F := Ideal) D P W E = Cert.OutProjIdeal.Gen.W5 m ρ c (Proc.devRef .tc Cert.OutProjIdeal.main_v13_4))
    ∧ (Cert.OutProjRefIdeal.Read.val_main_v11 (F := Ideal) A D P S E = Cert.OutProjIdeal.Gen.W5 m ρ c (Proc.devRef .tc Cert.OutProjIdeal.main_v14)) := by
  have hD : ∀ (r : Fin 8192) (n : Fin 512), D (ix2 r n) = colD D r n.val := fun r n => by rw [colD, dif_pos n.isLt]
  have hP : ∀ (j : Fin 4) (k q : Fin 128), P (ix3 j k q) = grpP P j.val k q := fun j k q => by rw [grpP, dif_pos j.isLt]
  have hS : ∀ n : Fin 512, S (ix2 0 n) = colS S n.val := fun n => by rw [colS, dif_pos n.isLt]
  have hW : ∀ n k : Fin 1024, W (ix2 n k) = rowW W n.val k := fun n k => by rw [rowW, dif_pos n.isLt]
  refine ⟨?_, ?_, ?_, ?_⟩
  · rw [Cert.OutProjIdeal.Value.dattn_at m ρ c W E eW eE (rowW W) (fun r k => E (ix2 r k)) hW (fun _ _ => rfl)]
    funext i
    idx_vars i
    exact Cert.OutProjRefIdeal.Value.v13_at W E _ (fun r k => E (ix2 r k)) hW (fun _ _ => rfl) _ _
  · rw [Cert.OutProjIdeal.Value.gpw_at m ρ c D S W E eD eS eW eE (colD D) (colS S) (rowW W) (fun r k => E (ix2 r k)) hD hS hW (fun _ _ => rfl)]
    funext i
    idx_vars i
    exact Cert.OutProjRefIdeal.Value.v25_at D S W E _ _ _ (fun r k => E (ix2 r k)) hD hS hW (fun _ _ => rfl) _ _ _
  · rw [Cert.OutProjIdeal.Value.gps_at m ρ c D P W E eD eP eW eE (colD D) (grpP P) (rowW W) (fun r k => E (ix2 r k)) hD hP hW (fun _ _ => rfl)]
    funext i
    idx_vars i
    have hi : i0 = 0 := Subsingleton.elim _ _
    subst hi
    exact Cert.OutProjRefIdeal.Value.v17_at D P W E _ _ _ (fun r k => E (ix2 r k)) hD hP hW (fun _ _ => rfl) _
  · rw [Cert.OutProjIdeal.Value.gwo_at m ρ c A D P S E eA eD eP eS eE]
    funext i
    idx_vars i
    refine (Cert.OutProjRefIdeal.Value.v11_at A D P S E _ _).trans (Finset.sum_congr rfl fun r _ => ?_)
    rw [← Cert.OutProjIdeal.Value.mixed_at]

/-- The output projection's four gradients equal the reference's over the extended reals. -/
theorem outValues : Cert.algebraic_OutProjIdeal_OutProjRefIdeal := by
  intro m g m' g' _ hm
  refine ⟨fun c => Cert.OutProjIdeal.Gen.W5 m g c (Proc.devRef .tc Cert.OutProjIdeal.main_v13_0),
    fun c => Cert.OutProjIdeal.Gen.W5 m g c (Proc.devRef .tc Cert.OutProjIdeal.main_v13_3),
    fun c => Cert.OutProjIdeal.Gen.W5 m g c (Proc.devRef .tc Cert.OutProjIdeal.main_v13_4),
    fun c => Cert.OutProjIdeal.Gen.W5 m g c (Proc.devRef .tc Cert.OutProjIdeal.main_v14), ?_, ?_⟩
  · exact (θ_run Cert.OutProjIdeal.defs _ _).mono (fun _ h c => ⟨(h.1 c).1.1, (h.1 c).1.2.1, (h.1 c).1.2.2.1, (h.1 c).1.2.2.2, (h.1 c).2⟩)
      (Cert.OutProjIdeal.Value.run_main (F := Ideal) m g)
  · refine (θ_run Cert.OutProjRefIdeal.defs _ _).mono (fun r h c => ?_) (Cert.OutProjRefIdeal.Value.run (F := Ideal) m' g')
    obtain ⟨a0, -, a2, a3, a4, a5, a6⟩ := hm c
    obtain ⟨r0, r1, r2, r3⟩ := outResults m g c _ _ _ _ _ _ a0.symm a2.symm a3.symm a4.symm a5.symm a6.symm
    exact ⟨(h c).1.trans ((Cert.OutProjRefIdeal.Read.val_main_v13_eq _ _).trans r0),
      (h c).2.1.trans ((Cert.OutProjRefIdeal.Read.val_main_v25_eq _ _ _ _).trans r1),
      (h c).2.2.1.trans ((Cert.OutProjRefIdeal.Read.val_main_v17_eq _ _ _ _).trans r2),
      (h c).2.2.2.1.trans ((Cert.OutProjRefIdeal.Read.val_main_v11_eq _ _ _ _ _).trans r3), (h c).2.2.2.2⟩

/-- The gradient entering the mixer's input projection and the two gains' gradients equal the reference's over the extended reals. -/
theorem qkvValues : Cert.algebraic_QkvBwdIdeal_QkvBwdRefIdeal := by
  intro m g m' g' _ hm
  refine ⟨fun c => (Cert.QkvBwdIdeal.Gen.dats m 0 c).arrAt 15 Cert.QkvBwdIdeal.cfg0.N,
    fun c => (Cert.QkvBwdIdeal.Gen.dats m 0 c).arrAt 16 Cert.QkvBwdIdeal.cfg0.N,
    fun c => (Cert.QkvBwdIdeal.Gen.dats m 0 c).arrAt 17 Cert.QkvBwdIdeal.cfg0.N, ?_, ?_⟩
  · exact (θ_run Cert.QkvBwdIdeal.defs _ _).mono (fun _ h c => ⟨(h.2.1 c).1 15, (h.2.1 c).1 16, (h.2.1 c).1 17, h.1.1 c⟩)
      (θ_run_and (Cert.QkvBwdIdeal.Gen.frame (F := Ideal) m g) (Cert.QkvBwdIdeal.Gen.run_main_quiescent (F := Ideal) m g))
  · refine (θ_run Cert.QkvBwdRefIdeal.defs _ _).mono (fun r h c => ?_) (Cert.QkvBwdRefIdeal.Value.run (F := Ideal) m' g')
    obtain ⟨a0, a1, a2, a3, a4, a5, a6, a7, a8, a9, a10, a11, a12, a13⟩ := hm c
    obtain ⟨r0, r1, r2⟩ := Cert.QkvBwdIdeal.Value.results _ _ _ _ _ _ _ _ _ _ _ _ _ _ m c a0.symm a1.symm a2.symm a3.symm a4.symm a5.symm
      a6.symm a7.symm a8.symm a9.symm a10.symm a11.symm a12.symm a13.symm
    exact ⟨(h c).1.trans ((Cert.QkvBwdRefIdeal.Read.val_main_v204_eq _).trans r0),
      (h c).2.1.trans ((Cert.QkvBwdRefIdeal.Read.val_main_v184_eq _).trans r1),
      (h c).2.2.1.trans ((Cert.QkvBwdRefIdeal.Read.val_main_v139_eq _).trans r2), (h c).2.2.2⟩

/-- Everything claimed. -/
theorem claim : Cert.Claim := ⟨Cert.Kernel.Gen.facts, Cert.KernelIdeal.Gen.facts, Cert.ReferenceIdeal.Gen.facts,
  Cert.Attn.Gen.facts, Cert.AttnIdeal.Gen.facts, Cert.InProj.Gen.facts, Cert.InProjIdeal.Gen.facts, Cert.InProjRefIdeal.Gen.facts,
  Cert.Cross.Gen.facts, Cert.CrossIdeal.Gen.facts, Cert.CrossRefIdeal.Gen.facts,
  Cert.OutProj.Gen.facts, Cert.OutProjIdeal.Gen.facts, Cert.OutProjRefIdeal.Gen.facts,
  Cert.QkvBwd.Gen.facts, Cert.QkvBwdIdeal.Gen.facts, Cert.QkvBwdRefIdeal.Gen.facts, Cert.Pre_finite_inputs.facts, Cert.Pre_finite_gains.facts, frame_kernel, frame_ideal,
  fun m g _ => frame_ideal m g trivial, frame_reference, fun m g _ => frame_reference m g trivial,
  frame_attn, frame_attn_ideal, frame_inproj, frame_inproj_ideal, frame_inproj_ref,
  frame_cross, frame_cross_ideal, fun m g _ => frame_cross_ideal m g trivial, frame_cross_ref, fun m g _ => frame_cross_ref m g trivial,
  frame_outproj, frame_outproj_ideal, frame_outproj_ref,
  frame_qkv, frame_qkv_ideal, frame_qkv_ref,
  trivial, values, trivial, trivial, projValues, trivial, crossValues, trivial, outValues, trivial, qkvValues⟩

end Cert.Proof
